-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_fit [hPre_inputs_fit : Cert.Pre_inputs_fit.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_fit [hPre_inputs_fit : Cert.Pre_inputs_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_fit [hKernelIdeal : Cert.KernelIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_fit [hReferenceIdeal : Cert.ReferenceIdeal.Facts] [hPre_inputs_fit : Cert.Pre_inputs_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_inputs_fit [hKernelIdeal : Cert.KernelIdeal.Facts] [hReferenceIdeal : Cert.ReferenceIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_2)) (v1 : (c : Dev Cert.KernelIdeal.nD) → Buf (Elt Ideal) ((c.tc : Thread Cert.KernelIdeal.nD Cert.KernelIdeal.τ).loc Cert.KernelIdeal.main_v2_3)) (v2 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_2) = v0 c
          ∧ r.2.mem ((c.tc : Thread Cert.KernelIdeal.nD Cert.KernelIdeal.τ).loc Cert.KernelIdeal.main_v2_3) = v1 c
          ∧ r.2.mem ((c.tc : Thread Cert.KernelIdeal.nD Cert.KernelIdeal.τ).loc Cert.KernelIdeal.main_v2_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hPre_inputs_fit : Cert.Pre_inputs_fit.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_inputs_fit (hKernelIdeal := hKernelIdeal) (hPre_inputs_fit := hPre_inputs_fit)
    ∧ quiescent_ReferenceIdeal (hReferenceIdeal := hReferenceIdeal)
    ∧ quiescent_ReferenceIdeal_pre_inputs_fit (hReferenceIdeal := hReferenceIdeal) (hPre_inputs_fit := hPre_inputs_fit)
    ∧ preserves_Kernel_KernelIdeal
    ∧ algebraic_KernelIdeal_ReferenceIdeal_pre_inputs_fit (hKernelIdeal := hKernelIdeal) (hReferenceIdeal := hReferenceIdeal) (hPre_inputs_fit := hPre_inputs_fit)
-- ==== Pre_inputs_fit.lean ====
abbrev S2x32x28x128 : Shape := ⟨4, ![2, 32, 28, 128]⟩
abbrev S2x131072x4x128 : Shape := ⟨4, ![2, 131072, 4, 128]⟩
abbrev S2x131072x4 : Shape := ⟨3, ![2, 131072, 4]⟩
abbrev S2 : Shape := ⟨1, ![2]⟩
abbrev S_ : Shape := ⟨0, ![]⟩
abbrev S2x28 : Shape := ⟨2, ![2, 28]⟩
abbrev S2x1 : Shape := ⟨2, ![2, 1]⟩

class Facts : Prop where
  bcast_S_S2 : S_.BroadcastsInDim S2 (![] : Fin 0 → Fin S2.rank)
  bitsLt_bf16_f32 : FTy.bits .bf16 < FTy.bits .f32
  reducesTo_S2x32x28x128_S2x28_d1_3 : S2x32x28x128.ReducesTo [1, 3] S2x28
  h_S_ : 0 < S_.numel
  bcast_S_S2x28 : S_.BroadcastsInDim S2x28 (![] : Fin 0 → Fin S2x28.rank)
  bcast_S2_S2x1_0 : S2.BroadcastsInDim S2x1 (![0] : Fin 1 → Fin S2x1.rank)
  bcast_S2x1_S2x28_0_1 : S2x1.BroadcastsInDim S2x28 (![0, 1] : Fin 2 → Fin S2x28.rank)

variable [Facts]

def fn_part1 {F : FTy → Type} [FloatOps F] (main_v7 : FVec F S2x28 .f32) (main_v14 : IVec S2x28 1) (main_v15 : IVec S2x1 1) (main_v16 : FVec F S2x28 .f32) : IVec S2x28 1 :=
  let main_v17 : IVec S2x28 1 := cmpf .oeq main_v7 main_v16
  let main_v18 : IVec S2x28 1 := ori main_v17 main_v14
  let main_v19 : IVec S2x28 1 := broadcastInDim S2x28 ![0, 1] bcast_S2x1_S2x28_0_1 main_v15
  let main_v20 : IVec S2x28 1 := andi main_v19 main_v18
  main_v20

def fn {F : FTy → Type} [FloatOps F] (main_arg0 : FVec F S2x32x28x128 .bf16) (main_arg1 : FVec F S2x131072x4x128 .fp8e4m3) (main_arg2 : FVec F S2x131072x4 .f32) (main_arg3 : IVec S2 32) : IVec S2x28 1 :=
  let main_c : IVec S_ 32 := constantI S_ 32 1#32
  let main_v0 : IVec S2 32 := broadcastInDim S2 ![] bcast_S_S2 main_c
  let main_v1 : IVec S2 1 := cmpi .sge main_arg3 main_v0
  let main_c_0 : IVec S_ 32 := constantI S_ 32 131072#32
  let main_v2 : IVec S2 32 := broadcastInDim S2 ![] bcast_S_S2 main_c_0
  let main_v3 : IVec S2 1 := cmpi .sle main_arg3 main_v2
  let main_v4 : IVec S2 1 := andi main_v1 main_v3
  let main_v5 : FVec F S2x32x28x128 .f32 := (extf .f32 · bitsLt_bf16_f32) main_arg0
  let main_v6 : FVec F S2x32x28x128 .f32 := Host.absf main_v5
  let main_cst : FVec F S_ .f32 := constant S_ .f32 0xFF800000#32
  let main_v7 : FVec F S2x28 .f32 := (fun x v => Host.reduce FloatOps.maximumf x v reducesTo_S2x32x28x128_S2x28_d1_3 h_S_) main_v6 main_cst
  let main_cst_1 : FVec F S_ .f32 := constant S_ .f32 0x3B124925#32
  let main_v8 : FVec F S2x28 .f32 := broadcastInDim S2x28 ![] bcast_S_S2x28 main_cst_1
  let main_v9 : FVec F S2x28 .f32 := mulf main_v7 main_v8
  let main_cst_2 : FVec F S_ .f32 := constant S_ .f32 0x00800000#32
  let main_v10 : FVec F S2x28 .f32 := broadcastInDim S2x28 ![] bcast_S_S2x28 main_cst_2
  let main_v11 : IVec S2x28 1 := cmpf .oge main_v9 main_v10
  let main_cst_3 : FVec F S_ .f32 := constant S_ .f32 0x7F7F0000#32
  let main_v12 : FVec F S2x28 .f32 := broadcastInDim S2x28 ![] bcast_S_S2x28 main_cst_3
  let main_v13 : IVec S2x28 1 := cmpf .ole main_v7 main_v12
  let main_v14 : IVec S2x28 1 := andi main_v11 main_v13
  let main_v15 : IVec S2x1 1 := broadcastInDim S2x1 ![0] bcast_S2_S2x1_0 main_v4
  let main_cst_4 : FVec F S_ .f32 := constant S_ .f32 0x00000000#32
  let main_v16 : FVec F S2x28 .f32 := broadcastInDim S2x28 ![] bcast_S_S2x28 main_cst_4
  fn_part1 (F := F) main_v7 main_v14 main_v15 main_v16
-- ==== Pre_lengths_fit.lean ====
abbrev S2x32x28x128 : Shape := ⟨4, ![2, 32, 28, 128]⟩
abbrev S2x131072x4x128 : Shape := ⟨4, ![2, 131072, 4, 128]⟩
abbrev S2x131072x4 : Shape := ⟨3, ![2, 131072, 4]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x32x28x128 .bf16) (main_arg1 : FVec F S2x131072x4x128 .fp8e4m3) (main_arg2 : FVec F S2x131072x4 .f32) (main_arg3 : IVec S2 32) : IVec S2 1 :=
  let main_c : IVec S_ 32 := constantI S_ 32 1#32
  let main_v0 : IVec S2 32 := broadcastInDim S2 ![] bcast_S_S2 main_c
  let main_v1 : IVec S2 1 := cmpi .sge main_arg3 main_v0
  let main_c_0 : IVec S_ 32 := constantI S_ 32 131072#32
  let main_v2 : IVec S2 32 := broadcastInDim S2 ![] bcast_S_S2 main_c_0
  let main_v3 : IVec S2 1 := cmpi .sle main_arg3 main_v2
  let main_v4 : IVec S2 1 := andi main_v1 main_v3
  main_v4
-- ==== Kernel.lean ====
abbrev S2x32x28x128 : Shape := ⟨4, ![2, 32, 28, 128]⟩
abbrev S2x131072x4x128 : Shape := ⟨4, ![2, 131072, 4, 128]⟩
abbrev S2x131072x4 : Shape := ⟨3, ![2, 131072, 4]⟩
abbrev S2 : Shape := ⟨1, ![2]⟩
abbrev S2x28x32x128 : Shape := ⟨4, ![2, 28, 32, 128]⟩
abbrev S2x4x131072 : Shape := ⟨3, ![2, 4, 131072]⟩
abbrev S2x4x224x128 : Shape := ⟨4, ![2, 4, 224, 128]⟩
abbrev S2x28x128 : Shape := ⟨3, ![2, 28, 128]⟩
abbrev S1x28x32x128 : Shape := ⟨4, ![1, 28, 32, 128]⟩
abbrev S1x4x131072 : Shape := ⟨3, ![1, 4, 131072]⟩
abbrev S1x4x224x128 : Shape := ⟨4, ![1, 4, 224, 128]⟩
abbrev S1x28x128 : Shape := ⟨3, ![1, 28, 128]⟩
abbrev S2x1024x4x128 : Shape := ⟨4, ![2, 1024, 4, 128]⟩
abbrev S4x1024x128 : Shape := ⟨3, ![4, 1024, 128]⟩
abbrev S4x8x1024 : Shape := ⟨3, ![4, 8, 1024]⟩
abbrev S4x224x128 : Shape := ⟨3, ![4, 224, 128]⟩
abbrev S4x131328 : Shape := ⟨2, ![4, 131328]⟩
abbrev S1 : Shape := ⟨1, ![1]⟩
abbrev S28x32x128 : Shape := ⟨3, ![28, 32, 128]⟩
abbrev S28x128 : Shape := ⟨2, ![28, 128]⟩
abbrev S28x1x128 : Shape := ⟨3, ![28, 1, 128]⟩
abbrev S28x1 : Shape := ⟨2, ![28, 1]⟩
abbrev S28x1x1 : Shape := ⟨3, ![28, 1, 1]⟩
abbrev S_ : Shape := ⟨0, ![]⟩
abbrev S1x1024x4x128 : Shape := ⟨4, ![1, 1024, 4, 128]⟩
abbrev S1024x4x128 : Shape := ⟨3, ![1024, 4, 128]⟩
abbrev S1024x1x128 : Shape := ⟨3, ![1024, 1, 128]⟩
abbrev S1024x128 : Shape := ⟨2, ![1024, 128]⟩
abbrev S1x1024x128 : Shape := ⟨3, ![1, 1024, 128]⟩
abbrev S1x1x1024 : Shape := ⟨3, ![1, 1, 1024]⟩
abbrev S1x1024 : Shape := ⟨2, ![1, 1024]⟩
abbrev S1x1x1 : Shape := ⟨3, ![1, 1, 1]⟩
abbrev S1x1 : Shape := ⟨2, ![1, 1]⟩
abbrev S1x256x128 : Shape := ⟨3, ![1, 256, 128]⟩
abbrev S256x128 : Shape := ⟨2, ![256, 128]⟩
abbrev S1x224x128 : Shape := ⟨3, ![1, 224, 128]⟩
abbrev S224x128 : Shape := ⟨2, ![224, 128]⟩
abbrev S224x256 : Shape := ⟨2, ![224, 256]⟩
abbrev S32x256 : Shape := ⟨2, ![32, 256]⟩
abbrev S1x1x256 : Shape := ⟨3, ![1, 1, 256]⟩
abbrev S1x256 : Shape := ⟨2, ![1, 256]⟩
abbrev S1x32x128 : Shape := ⟨3, ![1, 32, 128]⟩
abbrev S32x128 : Shape := ⟨2, ![32, 128]⟩
abbrev S4x224 : Shape := ⟨2, ![4, 224]⟩
abbrev S4x224x1 : Shape := ⟨3, ![4, 224, 1]⟩
abbrev S1x4x224x1 : Shape := ⟨4, ![1, 4, 224, 1]⟩
abbrev S1x1x1x1 : Shape := ⟨4, ![1, 1, 1, 1]⟩
abbrev S8x256 : Shape := ⟨2, ![8, 256]⟩
abbrev S256 : Shape := ⟨1, ![256]⟩
abbrev S4x128 : Shape := ⟨2, ![4, 128]⟩
abbrev S4x1024 : Shape := ⟨2, ![4, 1024]⟩
abbrev S1x4x1024 : Shape := ⟨3, ![1, 4, 1024]⟩
abbrev S4x1280 : Shape := ⟨2, ![4, 1280]⟩

abbrev nBuf : Space → Nat
  | .hbm => 10
  | .vmem => 21
  | .smem => 1
  | _ => 0

abbrev bufTy : (tb : Table) → Fin (tcTables nBuf tb) → BufTy
  | .hbm, ⟨0, _⟩ => ⟨S2x32x28x128, .bf16⟩
  | .hbm, ⟨1, _⟩ => ⟨S2x131072x4x128, .fp8e4m3⟩
  | .hbm, ⟨2, _⟩ => ⟨S2x131072x4, .f32⟩
  | .hbm, ⟨3, _⟩ => ⟨S2x28x32x128, .bf16⟩
  | .hbm, ⟨4, _⟩ => ⟨S2x4x131072, .f32⟩
  | .hbm, ⟨5, _⟩ => ⟨S2x4x131072, .f32⟩
  | .hbm, ⟨6, _⟩ => ⟨S2x4x131072, .f32⟩
  | .hbm, ⟨7, _⟩ => ⟨S2x4x224x128, .f32⟩
  | .hbm, ⟨8, _⟩ => ⟨S2x28x32x128, .fp8e4m3⟩
  | .hbm, ⟨9, _⟩ => ⟨S2x28x128, .f32⟩
  | .local _ .vmem, ⟨0, _⟩ => ⟨S1x28x32x128, .bf16⟩
  | .local _ .vmem, ⟨1, _⟩ => ⟨S1x28x32x128, .bf16⟩
  | .local _ .vmem, ⟨2, _⟩ => ⟨S1x4x131072, .f32⟩
  | .local _ .vmem, ⟨3, _⟩ => ⟨S1x4x131072, .f32⟩
  | .local _ .vmem, ⟨4, _⟩ => ⟨S1x4x131072, .f32⟩
  | .local _ .vmem, ⟨5, _⟩ => ⟨S1x4x131072, .f32⟩
  | .local _ .vmem, ⟨6, _⟩ => ⟨S1x4x131072, .f32⟩
  | .local _ .vmem, ⟨7, _⟩ => ⟨S1x4x131072, .f32⟩
  | .local _ .vmem, ⟨8, _⟩ => ⟨S1x4x224x128, .f32⟩
  | .local _ .vmem, ⟨9, _⟩ => ⟨S1x4x224x128, .f32⟩
  | .local _ .vmem, ⟨10, _⟩ => ⟨S1x28x32x128, .fp8e4m3⟩
  | .local _ .vmem, ⟨11, _⟩ => ⟨S1x28x32x128, .fp8e4m3⟩
  | .local _ .vmem, ⟨12, _⟩ => ⟨S1x28x128, .f32⟩
  | .local _ .vmem, ⟨13, _⟩ => ⟨S1x28x128, .f32⟩
  | .local _ .vmem, ⟨14, _⟩ => ⟨S2x1024x4x128, .fp8e4m3⟩
  | .local _ .vmem, ⟨15, _⟩ => ⟨S4x1024x128, .fp8e4m3⟩
  | .local _ .vmem, ⟨16, _⟩ => ⟨S4x8x1024, .f32⟩
  | .local _ .vmem, ⟨17, _⟩ => ⟨S4x224x128, .fp8e4m3⟩
  | .local _ .vmem, ⟨18, _⟩ => ⟨S4x224x128, .f32⟩
  | .local _ .vmem, ⟨19, _⟩ => ⟨S4x224x128, .f32⟩
  | .local _ .vmem, ⟨20, _⟩ => ⟨S4x131328, .f32⟩
  | .local _ .smem, ⟨0, _⟩ => ⟨S2, .i32⟩
  | _, _ => ⟨S2x32x28x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 4 → Nat :=
  let arg0 : BitVec 32 := BitVec.ofNat 32 (i 0).val
  let c0_i32_64 : BitVec 32 := 0#32
  let c0_i32_65 : BitVec 32 := 0#32
  let c0_i32_66 : BitVec 32 := 0#32
  ![arg0.toNat, 0, 0, 0]
@[reducible] def k0_t1_loop (v1 : BitVec 32) : Scf.Loop 32 :=
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_70 : BitVec 32 := 1#32
  ⟨c0_i32_67, v173, c1_i32_70⟩

def k0_off3 (v1 : BitVec 32) (k0_t1 : Fin (k0_t1_loop v1).trips) : Fin 1 → Nat :=
  let c1_i32_287 : BitVec 32 := 1#32
  let c0_i32_67 : BitVec 32 := 0#32
  let c1_i32_70 : BitVec 32 := 1#32
  let arg18 : BitVec 32 := Scf.iv c0_i32_67 c1_i32_70 k0_t1
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  ![v544.toNat]
def k0_cond1 (v1 : BitVec 32) (k0_t1 : Fin (k0_t1_loop v1).trips) : BitVec 1 :=
  let c0_i32_67 : BitVec 32 := 0#32
  let c1_i32_70 : BitVec 32 := 1#32
  let arg18 : BitVec 32 := Scf.iv c0_i32_67 c1_i32_70 k0_t1
  let c1_i32_142 : BitVec 32 := 1#32
  let v276 : BitVec 32 := Scalar.addi arg18 c1_i32_142
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v277 : BitVec 1 := Scalar.cmpi .slt v276 v21
  let v278 : BitVec 32 := Scalar.extui v277
  let c0_i32_143 : BitVec 32 := 0#32
  let v279 : BitVec 1 := Scalar.cmpi .ne v278 c0_i32_143
  v279

def k0_off4 (v1 : BitVec 32) (k0_t1 : Fin (k0_t1_loop v1).trips) : Fin 4 → Nat :=
  let c1_i32_287 : BitVec 32 := 1#32
  let c0_i32_67 : BitVec 32 := 0#32
  let c1_i32_70 : BitVec 32 := 1#32
  let arg18 : BitVec 32 := Scf.iv c0_i32_67 c1_i32_70 k0_t1
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  let c0_i32_289 : BitVec 32 := 0#32
  let c0_i32_290 : BitVec 32 := 0#32
  let c0_i32_291 : BitVec 32 := 0#32
  ![v544.toNat, 0, 0, 0]
def k0_off5 (i : grid0.Coords) (v1 : BitVec 32) (k0_t1 : Fin (k0_t1_loop v1).trips) : Fin 4 → Nat :=
  let arg0 : BitVec 32 := BitVec.ofNat 32 (i 0).val
  let c0_i32_67 : BitVec 32 := 0#32
  let c1_i32_70 : BitVec 32 := 1#32
  let arg18 : BitVec 32 := Scf.iv c0_i32_67 c1_i32_70 k0_t1
  let c1_i32_286 : BitVec 32 := 1#32
  let v543 : BitVec 32 := Scalar.addi arg18 c1_i32_286
  let c1024_i32_288 : BitVec 32 := 1024#32
  let v545 : BitVec 32 := Scalar.muli v543 c1024_i32_288
  let c0_i32_292 : BitVec 32 := 0#32
  let c0_i32_293 : BitVec 32 := 0#32
  ![arg0.toNat, v545.toNat, 0, 0]
def k0_off6 (v1 : BitVec 32) (k0_t1 : Fin (k0_t1_loop v1).trips) : Fin 1 → Nat :=
  let c0_i32_67 : BitVec 32 := 0#32
  let c1_i32_70 : BitVec 32 := 1#32
  let arg18 : BitVec 32 := Scf.iv c0_i32_67 c1_i32_70 k0_t1
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  ![v275.toNat]
def k0_off7 (v1 : BitVec 32) (k0_t1 : Fin (k0_t1_loop v1).trips) : Fin 4 → Nat :=
  let c0_i32_67 : BitVec 32 := 0#32
  let c1_i32_70 : BitVec 32 := 1#32
  let arg18 : BitVec 32 := Scf.iv c0_i32_67 c1_i32_70 k0_t1
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let c0_i32_145 : BitVec 32 := 0#32
  let c0_i32_146 : BitVec 32 := 0#32
  let c0_i32_147 : BitVec 32 := 0#32
  ![v275.toNat, 0, 0, 0]
def k0_off8 (i : grid0.Coords) (v1 : BitVec 32) (k0_t1 : Fin (k0_t1_loop v1).trips) : Fin 4 → Nat :=
  let arg0 : BitVec 32 := BitVec.ofNat 32 (i 0).val
  let c0_i32_67 : BitVec 32 := 0#32
  let c1_i32_70 : BitVec 32 := 1#32
  let arg18 : BitVec 32 := Scf.iv c0_i32_67 c1_i32_70 k0_t1
  let c1024_i32_144 : BitVec 32 := 1024#32
  let v280 : BitVec 32 := Scalar.muli arg18 c1024_i32_144
  let c0_i32_148 : BitVec 32 := 0#32
  let c0_i32_149 : BitVec 32 := 0#32
  ![arg0.toNat, v280.toNat, 0, 0]
def k0_off9 (v1 : BitVec 32) (k0_t1 : Fin (k0_t1_loop v1).trips) : Fin 3 → Nat :=
  let c0_184 : Index := 0#32
  let c0_185 : Index := 0#32
  let c0_i32_67 : BitVec 32 := 0#32
  let c1_i32_70 : BitVec 32 := 1#32
  let arg18 : BitVec 32 := Scf.iv c0_i32_67 c1_i32_70 k0_t1
  let c1024_i32_183 : BitVec 32 := 1024#32
  let v315 : BitVec 32 := Scalar.muli arg18 c1024_i32_183
  let v316 : Index := Scalar.indexCast v315
  ![0, 0, v316.toNat]
def k0_off10 (v1 : BitVec 32) (k0_t1 : Fin (k0_t1_loop v1).trips) : Fin 3 → Nat :=
  let c0_206 : Index := 0#32
  let c1_207 : Index := 1#32
  let c0_i32_67 : BitVec 32 := 0#32
  let c1_i32_70 : BitVec 32 := 1#32
  let arg18 : BitVec 32 := Scf.iv c0_i32_67 c1_i32_70 k0_t1
  let c1024_i32_205 : BitVec 32 := 1024#32
  let v370 : BitVec 32 := Scalar.muli arg18 c1024_i32_205
  let v371 : Index := Scalar.indexCast v370
  ![0, 1, v371.toNat]
def k0_off11 (v1 : BitVec 32) (k0_t1 : Fin (k0_t1_loop v1).trips) : Fin 3 → Nat :=
  let c0_231 : Index := 0#32
  let c2_232 : Index := 2#32
  let c0_i32_67 : BitVec 32 := 0#32
  let c1_i32_70 : BitVec 32 := 1#32
  let arg18 : BitVec 32 := Scf.iv c0_i32_67 c1_i32_70 k0_t1
  let c1024_i32_230 : BitVec 32 := 1024#32
  let v425 : BitVec 32 := Scalar.muli arg18 c1024_i32_230
  let v426 : Index := Scalar.indexCast v425
  ![0, 2, v426.toNat]
def k0_off12 (v1 : BitVec 32) (k0_t1 : Fin (k0_t1_loop v1).trips) : Fin 3 → Nat :=
  let c0_256 : Index := 0#32
  let c3_257 : Index := 3#32
  let c0_i32_67 : BitVec 32 := 0#32
  let c1_i32_70 : BitVec 32 := 1#32
  let arg18 : BitVec 32 := Scf.iv c0_i32_67 c1_i32_70 k0_t1
  let c1024_i32_255 : BitVec 32 := 1024#32
  let v480 : BitVec 32 := Scalar.muli arg18 c1024_i32_255
  let v481 : Index := Scalar.indexCast v480
  ![0, 3, v481.toNat]
@[reducible] def k0_t2_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t3_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off13 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v549 : Index := Scalar.indexCast arg20
  let c0_i32_292 : BitVec 32 := 0#32
  let c1_i32_294 : BitVec 32 := 1#32
  let arg22 : BitVec 32 := Scf.iv c0_i32_292 c1_i32_294 k0_t3
  let c256_i32_297 : BitVec 32 := 256#32
  let v548 : BitVec 32 := Scalar.muli arg22 c256_i32_297
  let v550 : Index := Scalar.indexCast v548
  let c0_298 : Index := 0#32
  ![v549.toNat, v550.toNat, 0]
def k0_off14 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v553 : Index := Scalar.indexCast arg20
  let c0_299 : Index := 0#32
  let c0_300 : Index := 0#32
  ![v553.toNat, 0, 0]
def k0_off15 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t3
  let c256_i32 : BitVec 32 := 256#32
  let v547 : BitVec 32 := Scalar.muli arg22 c256_i32
  let v559 : Index := Scalar.indexCast v547
  ![v558.toNat, 0, v559.toNat]
def k0_off16 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v565 : Index := Scalar.indexCast arg20
  let c1_303 : Index := 1#32
  let c0_i32_292 : BitVec 32 := 0#32
  let c1_i32_294 : BitVec 32 := 1#32
  let arg22 : BitVec 32 := Scf.iv c0_i32_292 c1_i32_294 k0_t3
  let c256_i32 : BitVec 32 := 256#32
  let v547 : BitVec 32 := Scalar.muli arg22 c256_i32
  let v566 : Index := Scalar.indexCast v547
  ![v565.toNat, 1, v566.toNat]
def k0_off17 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v572 : Index := Scalar.indexCast arg20
  let c2_304 : Index := 2#32
  let c0_i32_292 : BitVec 32 := 0#32
  let c1_i32_294 : BitVec 32 := 1#32
  let arg22 : BitVec 32 := Scf.iv c0_i32_292 c1_i32_294 k0_t3
  let c256_i32 : BitVec 32 := 256#32
  let v547 : BitVec 32 := Scalar.muli arg22 c256_i32
  let v573 : Index := Scalar.indexCast v547
  ![v572.toNat, 2, v573.toNat]
def k0_off18 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v579 : Index := Scalar.indexCast arg20
  let c3_305 : Index := 3#32
  let c0_i32_292 : BitVec 32 := 0#32
  let c1_i32_294 : BitVec 32 := 1#32
  let arg22 : BitVec 32 := Scf.iv c0_i32_292 c1_i32_294 k0_t3
  let c256_i32 : BitVec 32 := 256#32
  let v547 : BitVec 32 := Scalar.muli arg22 c256_i32
  let v580 : Index := Scalar.indexCast v547
  ![v579.toNat, 3, v580.toNat]
def k0_off19 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v586 : Index := Scalar.indexCast arg20
  let c4_306 : Index := 4#32
  let c0_i32_292 : BitVec 32 := 0#32
  let c1_i32_294 : BitVec 32 := 1#32
  let arg22 : BitVec 32 := Scf.iv c0_i32_292 c1_i32_294 k0_t3
  let c256_i32 : BitVec 32 := 256#32
  let v547 : BitVec 32 := Scalar.muli arg22 c256_i32
  let v587 : Index := Scalar.indexCast v547
  ![v586.toNat, 4, v587.toNat]
def k0_off20 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v593 : Index := Scalar.indexCast arg20
  let c5_307 : Index := 5#32
  let c0_i32_292 : BitVec 32 := 0#32
  let c1_i32_294 : BitVec 32 := 1#32
  let arg22 : BitVec 32 := Scf.iv c0_i32_292 c1_i32_294 k0_t3
  let c256_i32 : BitVec 32 := 256#32
  let v547 : BitVec 32 := Scalar.muli arg22 c256_i32
  let v594 : Index := Scalar.indexCast v547
  ![v593.toNat, 5, v594.toNat]
def k0_off21 (k0_t2 : Fin k0_t2_loop.trips) (k0_t3 : Fin k0_t3_loop.trips) : Fin 3 → Nat :=
  let c0_i32_287 : BitVec 32 := 0#32
  let c1_i32_289 : BitVec 32 := 1#32
  let arg20 : BitVec 32 := Scf.iv c0_i32_287 c1_i32_289 k0_t2
  let v600 : Index := Scalar.indexCast arg20
  let c6_308 : Index := 6#32
  let c0_i32_292 : BitVec 32 := 0#32
  let c1_i32_294 : BitVec 32 := 1#32
  let arg22 : BitVec 32 := Scf.iv c0_i32_292 c1_i32_294 k0_t3
  let c256_i32 : BitVec 32 := 256#32
  let v547 : BitVec 32 := Scalar.muli arg22 c256_i32
  let v601 : Index := Scalar.indexCast v547
  ![v600.toNat, 6, v601.toNat]
def k0_off22 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v606 : Index := Scalar.indexCast arg20
  let c0_309 : Index := 0#32
  let c0_310 : Index := 0#32
  ![v606.toNat, 0, 0]
def k0_off23 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v618 : Index := Scalar.indexCast arg20
  let c32 : Index := 32#32
  let c0_313 : Index := 0#32
  ![v618.toNat, 32, 0]
def k0_off24 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v630 : Index := Scalar.indexCast arg20
  let c64 : Index := 64#32
  let c0_316 : Index := 0#32
  ![v630.toNat, 64, 0]
def k0_off25 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v642 : Index := Scalar.indexCast arg20
  let c96 : Index := 96#32
  let c0_319 : Index := 0#32
  ![v642.toNat, 96, 0]
def k0_off26 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v654 : Index := Scalar.indexCast arg20
  let c128 : Index := 128#32
  let c0_322 : Index := 0#32
  ![v654.toNat, 128, 0]
def k0_off27 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v666 : Index := Scalar.indexCast arg20
  let c160 : Index := 160#32
  let c0_325 : Index := 0#32
  ![v666.toNat, 160, 0]
def k0_off28 (k0_t2 : Fin k0_t2_loop.trips) : Fin 3 → Nat :=
  let c0_i32_287 : BitVec 32 := 0#32
  let c1_i32_289 : BitVec 32 := 1#32
  let arg20 : BitVec 32 := Scf.iv c0_i32_287 c1_i32_289 k0_t2
  let v678 : Index := Scalar.indexCast arg20
  let c192 : Index := 192#32
  let c0_328 : Index := 0#32
  ![v678.toNat, 192, 0]
@[reducible] def k0_t4_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t5_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off29 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v549 : Index := Scalar.indexCast arg20
  let c0_i32_292 : BitVec 32 := 0#32
  let c1_i32_294 : BitVec 32 := 1#32
  let arg22 : BitVec 32 := Scf.iv c0_i32_292 c1_i32_294 k0_t5
  let c256_i32_297 : BitVec 32 := 256#32
  let v548 : BitVec 32 := Scalar.muli arg22 c256_i32_297
  let v550 : Index := Scalar.indexCast v548
  let c0_298 : Index := 0#32
  ![v549.toNat, v550.toNat, 0]
def k0_off30 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v553 : Index := Scalar.indexCast arg20
  let c0_299 : Index := 0#32
  let c0_300 : Index := 0#32
  ![v553.toNat, 0, 0]
def k0_off31 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t5
  let c256_i32 : BitVec 32 := 256#32
  let v547 : BitVec 32 := Scalar.muli arg22 c256_i32
  let v559 : Index := Scalar.indexCast v547
  ![v558.toNat, 0, v559.toNat]
def k0_off32 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v577 : Index := Scalar.indexCast arg20
  let c1_306 : Index := 1#32
  let c0_i32_292 : BitVec 32 := 0#32
  let c1_i32_294 : BitVec 32 := 1#32
  let arg22 : BitVec 32 := Scf.iv c0_i32_292 c1_i32_294 k0_t5
  let c256_i32 : BitVec 32 := 256#32
  let v547 : BitVec 32 := Scalar.muli arg22 c256_i32
  let v578 : Index := Scalar.indexCast v547
  ![v577.toNat, 1, v578.toNat]
def k0_off33 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v596 : Index := Scalar.indexCast arg20
  let c2_310 : Index := 2#32
  let c0_i32_292 : BitVec 32 := 0#32
  let c1_i32_294 : BitVec 32 := 1#32
  let arg22 : BitVec 32 := Scf.iv c0_i32_292 c1_i32_294 k0_t5
  let c256_i32 : BitVec 32 := 256#32
  let v547 : BitVec 32 := Scalar.muli arg22 c256_i32
  let v597 : Index := Scalar.indexCast v547
  ![v596.toNat, 2, v597.toNat]
def k0_off34 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v615 : Index := Scalar.indexCast arg20
  let c3_314 : Index := 3#32
  let c0_i32_292 : BitVec 32 := 0#32
  let c1_i32_294 : BitVec 32 := 1#32
  let arg22 : BitVec 32 := Scf.iv c0_i32_292 c1_i32_294 k0_t5
  let c256_i32 : BitVec 32 := 256#32
  let v547 : BitVec 32 := Scalar.muli arg22 c256_i32
  let v616 : Index := Scalar.indexCast v547
  ![v615.toNat, 3, v616.toNat]
def k0_off35 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v634 : Index := Scalar.indexCast arg20
  let c4_318 : Index := 4#32
  let c0_i32_292 : BitVec 32 := 0#32
  let c1_i32_294 : BitVec 32 := 1#32
  let arg22 : BitVec 32 := Scf.iv c0_i32_292 c1_i32_294 k0_t5
  let c256_i32 : BitVec 32 := 256#32
  let v547 : BitVec 32 := Scalar.muli arg22 c256_i32
  let v635 : Index := Scalar.indexCast v547
  ![v634.toNat, 4, v635.toNat]
def k0_off36 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v653 : Index := Scalar.indexCast arg20
  let c5_322 : Index := 5#32
  let c0_i32_292 : BitVec 32 := 0#32
  let c1_i32_294 : BitVec 32 := 1#32
  let arg22 : BitVec 32 := Scf.iv c0_i32_292 c1_i32_294 k0_t5
  let c256_i32 : BitVec 32 := 256#32
  let v547 : BitVec 32 := Scalar.muli arg22 c256_i32
  let v654 : Index := Scalar.indexCast v547
  ![v653.toNat, 5, v654.toNat]
def k0_off37 (k0_t4 : Fin k0_t4_loop.trips) (k0_t5 : Fin k0_t5_loop.trips) : Fin 3 → Nat :=
  let c0_i32_287 : BitVec 32 := 0#32
  let c1_i32_289 : BitVec 32 := 1#32
  let arg20 : BitVec 32 := Scf.iv c0_i32_287 c1_i32_289 k0_t4
  let v672 : Index := Scalar.indexCast arg20
  let c6_326 : Index := 6#32
  let c0_i32_292 : BitVec 32 := 0#32
  let c1_i32_294 : BitVec 32 := 1#32
  let arg22 : BitVec 32 := Scf.iv c0_i32_292 c1_i32_294 k0_t5
  let c256_i32 : BitVec 32 := 256#32
  let v547 : BitVec 32 := Scalar.muli arg22 c256_i32
  let v673 : Index := Scalar.indexCast v547
  ![v672.toNat, 6, v673.toNat]
def k0_off38 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v690 : Index := Scalar.indexCast arg20
  let c0_330 : Index := 0#32
  let c0_331 : Index := 0#32
  ![v690.toNat, 0, 0]
def k0_off39 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v702 : Index := Scalar.indexCast arg20
  let c32 : Index := 32#32
  let c0_334 : Index := 0#32
  ![v702.toNat, 32, 0]
def k0_off40 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v714 : Index := Scalar.indexCast arg20
  let c64 : Index := 64#32
  let c0_337 : Index := 0#32
  ![v714.toNat, 64, 0]
def k0_off41 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v726 : Index := Scalar.indexCast arg20
  let c96 : Index := 96#32
  let c0_340 : Index := 0#32
  ![v726.toNat, 96, 0]
def k0_off42 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v738 : Index := Scalar.indexCast arg20
  let c128 : Index := 128#32
  let c0_343 : Index := 0#32
  ![v738.toNat, 128, 0]
def k0_off43 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v750 : Index := Scalar.indexCast arg20
  let c160 : Index := 160#32
  let c0_346 : Index := 0#32
  ![v750.toNat, 160, 0]
def k0_off44 (k0_t4 : Fin k0_t4_loop.trips) : Fin 3 → Nat :=
  let c0_i32_287 : BitVec 32 := 0#32
  let c1_i32_289 : BitVec 32 := 1#32
  let arg20 : BitVec 32 := Scf.iv c0_i32_287 c1_i32_289 k0_t4
  let v762 : Index := Scalar.indexCast arg20
  let c192 : Index := 192#32
  let c0_349 : Index := 0#32
  ![v762.toNat, 192, 0]
@[reducible] def k0_t6_loop (v1 : BitVec 32) : Scf.Loop 32 :=
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let v170 : BitVec 32 := Scalar.addi c0_i32_67 v169
  let c1_i32_71 : BitVec 32 := 1#32
  ⟨v173, v170, c1_i32_71⟩
def k0_off45 (v1 : BitVec 32) (k0_t6 : Fin (k0_t6_loop v1).trips) : Fin 1 → Nat :=
  let c1_i32_287 : BitVec 32 := 1#32
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  ![v544.toNat]
def k0_cond4 (v1 : BitVec 32) (k0_t6 : Fin (k0_t6_loop v1).trips) : BitVec 1 :=
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c1_i32_142 : BitVec 32 := 1#32
  let v276 : BitVec 32 := Scalar.addi arg18 c1_i32_142
  let v277 : BitVec 1 := Scalar.cmpi .slt v276 v21
  let v278 : BitVec 32 := Scalar.extui v277
  let c0_i32_143 : BitVec 32 := 0#32
  let v279 : BitVec 1 := Scalar.cmpi .ne v278 c0_i32_143
  v279

def k0_off46 (v1 : BitVec 32) (k0_t6 : Fin (k0_t6_loop v1).trips) : Fin 4 → Nat :=
  let c1_i32_287 : BitVec 32 := 1#32
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  let c0_i32_289 : BitVec 32 := 0#32
  let c0_i32_290 : BitVec 32 := 0#32
  let c0_i32_291 : BitVec 32 := 0#32
  ![v544.toNat, 0, 0, 0]
def k0_off47 (i : grid0.Coords) (v1 : BitVec 32) (k0_t6 : Fin (k0_t6_loop v1).trips) : Fin 4 → Nat :=
  let arg0 : BitVec 32 := BitVec.ofNat 32 (i 0).val
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c1_i32_286 : BitVec 32 := 1#32
  let v543 : BitVec 32 := Scalar.addi arg18 c1_i32_286
  let c1024_i32_288 : BitVec 32 := 1024#32
  let v545 : BitVec 32 := Scalar.muli v543 c1024_i32_288
  let c0_i32_292 : BitVec 32 := 0#32
  let c0_i32_293 : BitVec 32 := 0#32
  ![arg0.toNat, v545.toNat, 0, 0]
def k0_off48 (v1 : BitVec 32) (k0_t6 : Fin (k0_t6_loop v1).trips) : Fin 1 → Nat :=
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  ![v275.toNat]
def k0_off49 (v1 : BitVec 32) (k0_t6 : Fin (k0_t6_loop v1).trips) : Fin 4 → Nat :=
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let c0_i32_145 : BitVec 32 := 0#32
  let c0_i32_146 : BitVec 32 := 0#32
  let c0_i32_147 : BitVec 32 := 0#32
  ![v275.toNat, 0, 0, 0]
def k0_off50 (i : grid0.Coords) (v1 : BitVec 32) (k0_t6 : Fin (k0_t6_loop v1).trips) : Fin 4 → Nat :=
  let arg0 : BitVec 32 := BitVec.ofNat 32 (i 0).val
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c1024_i32_144 : BitVec 32 := 1024#32
  let v280 : BitVec 32 := Scalar.muli arg18 c1024_i32_144
  let c0_i32_148 : BitVec 32 := 0#32
  let c0_i32_149 : BitVec 32 := 0#32
  ![arg0.toNat, v280.toNat, 0, 0]
def k0_off51 (v1 : BitVec 32) (k0_t6 : Fin (k0_t6_loop v1).trips) : Fin 3 → Nat :=
  let c0_184 : Index := 0#32
  let c0_185 : Index := 0#32
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c1024_i32_183 : BitVec 32 := 1024#32
  let v315 : BitVec 32 := Scalar.muli arg18 c1024_i32_183
  let v316 : Index := Scalar.indexCast v315
  ![0, 0, v316.toNat]
def k0_off52 (v1 : BitVec 32) (k0_t6 : Fin (k0_t6_loop v1).trips) : Fin 3 → Nat :=
  let c0_206 : Index := 0#32
  let c1_207 : Index := 1#32
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c1024_i32_205 : BitVec 32 := 1024#32
  let v370 : BitVec 32 := Scalar.muli arg18 c1024_i32_205
  let v371 : Index := Scalar.indexCast v370
  ![0, 1, v371.toNat]
def k0_off53 (v1 : BitVec 32) (k0_t6 : Fin (k0_t6_loop v1).trips) : Fin 3 → Nat :=
  let c0_231 : Index := 0#32
  let c2_232 : Index := 2#32
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c1024_i32_230 : BitVec 32 := 1024#32
  let v425 : BitVec 32 := Scalar.muli arg18 c1024_i32_230
  let v426 : Index := Scalar.indexCast v425
  ![0, 2, v426.toNat]
def k0_off54 (v1 : BitVec 32) (k0_t6 : Fin (k0_t6_loop v1).trips) : Fin 3 → Nat :=
  let c0_256 : Index := 0#32
  let c3_257 : Index := 3#32
  let c0_i32_67 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v169 : BitVec 32 := Scalar.subi v21 c0_i32_67
  let c1_i32_69 : BitVec 32 := 1#32
  let v171 : BitVec 32 := Scalar.divsi v169 c1_i32_69
  let v172 : BitVec 32 := Scalar.muli v171 c1_i32_69
  let v173 : BitVec 32 := Scalar.addi c0_i32_67 v172
  let c1_i32_71 : BitVec 32 := 1#32
  let arg18 : BitVec 32 := Scf.iv v173 c1_i32_71 k0_t6
  let c1024_i32_255 : BitVec 32 := 1024#32
  let v480 : BitVec 32 := Scalar.muli arg18 c1024_i32_255
  let v481 : Index := Scalar.indexCast v480
  ![0, 3, v481.toNat]
@[reducible] def k0_t7_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t8_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off55 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v549 : Index := Scalar.indexCast arg20
  let c0_i32_292 : BitVec 32 := 0#32
  let c1_i32_294 : BitVec 32 := 1#32
  let arg22 : BitVec 32 := Scf.iv c0_i32_292 c1_i32_294 k0_t8
  let c256_i32_297 : BitVec 32 := 256#32
  let v548 : BitVec 32 := Scalar.muli arg22 c256_i32_297
  let v550 : Index := Scalar.indexCast v548
  let c0_298 : Index := 0#32
  ![v549.toNat, v550.toNat, 0]
def k0_off56 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v553 : Index := Scalar.indexCast arg20
  let c0_299 : Index := 0#32
  let c0_300 : Index := 0#32
  ![v553.toNat, 0, 0]
def k0_off57 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t8
  let c256_i32 : BitVec 32 := 256#32
  let v547 : BitVec 32 := Scalar.muli arg22 c256_i32
  let v559 : Index := Scalar.indexCast v547
  ![v558.toNat, 0, v559.toNat]
def k0_off58 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v565 : Index := Scalar.indexCast arg20
  let c1_303 : Index := 1#32
  let c0_i32_292 : BitVec 32 := 0#32
  let c1_i32_294 : BitVec 32 := 1#32
  let arg22 : BitVec 32 := Scf.iv c0_i32_292 c1_i32_294 k0_t8
  let c256_i32 : BitVec 32 := 256#32
  let v547 : BitVec 32 := Scalar.muli arg22 c256_i32
  let v566 : Index := Scalar.indexCast v547
  ![v565.toNat, 1, v566.toNat]
def k0_off59 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v572 : Index := Scalar.indexCast arg20
  let c2_304 : Index := 2#32
  let c0_i32_292 : BitVec 32 := 0#32
  let c1_i32_294 : BitVec 32 := 1#32
  let arg22 : BitVec 32 := Scf.iv c0_i32_292 c1_i32_294 k0_t8
  let c256_i32 : BitVec 32 := 256#32
  let v547 : BitVec 32 := Scalar.muli arg22 c256_i32
  let v573 : Index := Scalar.indexCast v547
  ![v572.toNat, 2, v573.toNat]
def k0_off60 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v579 : Index := Scalar.indexCast arg20
  let c3_305 : Index := 3#32
  let c0_i32_292 : BitVec 32 := 0#32
  let c1_i32_294 : BitVec 32 := 1#32
  let arg22 : BitVec 32 := Scf.iv c0_i32_292 c1_i32_294 k0_t8
  let c256_i32 : BitVec 32 := 256#32
  let v547 : BitVec 32 := Scalar.muli arg22 c256_i32
  let v580 : Index := Scalar.indexCast v547
  ![v579.toNat, 3, v580.toNat]
def k0_off61 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v586 : Index := Scalar.indexCast arg20
  let c4_306 : Index := 4#32
  let c0_i32_292 : BitVec 32 := 0#32
  let c1_i32_294 : BitVec 32 := 1#32
  let arg22 : BitVec 32 := Scf.iv c0_i32_292 c1_i32_294 k0_t8
  let c256_i32 : BitVec 32 := 256#32
  let v547 : BitVec 32 := Scalar.muli arg22 c256_i32
  let v587 : Index := Scalar.indexCast v547
  ![v586.toNat, 4, v587.toNat]
def k0_off62 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v593 : Index := Scalar.indexCast arg20
  let c5_307 : Index := 5#32
  let c0_i32_292 : BitVec 32 := 0#32
  let c1_i32_294 : BitVec 32 := 1#32
  let arg22 : BitVec 32 := Scf.iv c0_i32_292 c1_i32_294 k0_t8
  let c256_i32 : BitVec 32 := 256#32
  let v547 : BitVec 32 := Scalar.muli arg22 c256_i32
  let v594 : Index := Scalar.indexCast v547
  ![v593.toNat, 5, v594.toNat]
def k0_off63 (k0_t7 : Fin k0_t7_loop.trips) (k0_t8 : Fin k0_t8_loop.trips) : Fin 3 → Nat :=
  let c0_i32_287 : BitVec 32 := 0#32
  let c1_i32_289 : BitVec 32 := 1#32
  let arg20 : BitVec 32 := Scf.iv c0_i32_287 c1_i32_289 k0_t7
  let v600 : Index := Scalar.indexCast arg20
  let c6_308 : Index := 6#32
  let c0_i32_292 : BitVec 32 := 0#32
  let c1_i32_294 : BitVec 32 := 1#32
  let arg22 : BitVec 32 := Scf.iv c0_i32_292 c1_i32_294 k0_t8
  let c256_i32 : BitVec 32 := 256#32
  let v547 : BitVec 32 := Scalar.muli arg22 c256_i32
  let v601 : Index := Scalar.indexCast v547
  ![v600.toNat, 6, v601.toNat]
def k0_off64 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v606 : Index := Scalar.indexCast arg20
  let c0_309 : Index := 0#32
  let c0_310 : Index := 0#32
  ![v606.toNat, 0, 0]
def k0_off65 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v618 : Index := Scalar.indexCast arg20
  let c32 : Index := 32#32
  let c0_313 : Index := 0#32
  ![v618.toNat, 32, 0]
def k0_off66 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v630 : Index := Scalar.indexCast arg20
  let c64 : Index := 64#32
  let c0_316 : Index := 0#32
  ![v630.toNat, 64, 0]
def k0_off67 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v642 : Index := Scalar.indexCast arg20
  let c96 : Index := 96#32
  let c0_319 : Index := 0#32
  ![v642.toNat, 96, 0]
def k0_off68 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v654 : Index := Scalar.indexCast arg20
  let c128 : Index := 128#32
  let c0_322 : Index := 0#32
  ![v654.toNat, 128, 0]
def k0_off69 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v666 : Index := Scalar.indexCast arg20
  let c160 : Index := 160#32
  let c0_325 : Index := 0#32
  ![v666.toNat, 160, 0]
def k0_off70 (k0_t7 : Fin k0_t7_loop.trips) : Fin 3 → Nat :=
  let c0_i32_287 : BitVec 32 := 0#32
  let c1_i32_289 : BitVec 32 := 1#32
  let arg20 : BitVec 32 := Scf.iv c0_i32_287 c1_i32_289 k0_t7
  let v678 : Index := Scalar.indexCast arg20
  let c192 : Index := 192#32
  let c0_328 : Index := 0#32
  ![v678.toNat, 192, 0]
@[reducible] def k0_t9_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t10_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off71 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v549 : Index := Scalar.indexCast arg20
  let c0_i32_292 : BitVec 32 := 0#32
  let c1_i32_294 : BitVec 32 := 1#32
  let arg22 : BitVec 32 := Scf.iv c0_i32_292 c1_i32_294 k0_t10
  let c256_i32_297 : BitVec 32 := 256#32
  let v548 : BitVec 32 := Scalar.muli arg22 c256_i32_297
  let v550 : Index := Scalar.indexCast v548
  let c0_298 : Index := 0#32
  ![v549.toNat, v550.toNat, 0]
def k0_off72 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v553 : Index := Scalar.indexCast arg20
  let c0_299 : Index := 0#32
  let c0_300 : Index := 0#32
  ![v553.toNat, 0, 0]
def k0_off73 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t10
  let c256_i32 : BitVec 32 := 256#32
  let v547 : BitVec 32 := Scalar.muli arg22 c256_i32
  let v559 : Index := Scalar.indexCast v547
  ![v558.toNat, 0, v559.toNat]
def k0_off74 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v577 : Index := Scalar.indexCast arg20
  let c1_306 : Index := 1#32
  let c0_i32_292 : BitVec 32 := 0#32
  let c1_i32_294 : BitVec 32 := 1#32
  let arg22 : BitVec 32 := Scf.iv c0_i32_292 c1_i32_294 k0_t10
  let c256_i32 : BitVec 32 := 256#32
  let v547 : BitVec 32 := Scalar.muli arg22 c256_i32
  let v578 : Index := Scalar.indexCast v547
  ![v577.toNat, 1, v578.toNat]
def k0_off75 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v596 : Index := Scalar.indexCast arg20
  let c2_310 : Index := 2#32
  let c0_i32_292 : BitVec 32 := 0#32
  let c1_i32_294 : BitVec 32 := 1#32
  let arg22 : BitVec 32 := Scf.iv c0_i32_292 c1_i32_294 k0_t10
  let c256_i32 : BitVec 32 := 256#32
  let v547 : BitVec 32 := Scalar.muli arg22 c256_i32
  let v597 : Index := Scalar.indexCast v547
  ![v596.toNat, 2, v597.toNat]
def k0_off76 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v615 : Index := Scalar.indexCast arg20
  let c3_314 : Index := 3#32
  let c0_i32_292 : BitVec 32 := 0#32
  let c1_i32_294 : BitVec 32 := 1#32
  let arg22 : BitVec 32 := Scf.iv c0_i32_292 c1_i32_294 k0_t10
  let c256_i32 : BitVec 32 := 256#32
  let v547 : BitVec 32 := Scalar.muli arg22 c256_i32
  let v616 : Index := Scalar.indexCast v547
  ![v615.toNat, 3, v616.toNat]
def k0_off77 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v634 : Index := Scalar.indexCast arg20
  let c4_318 : Index := 4#32
  let c0_i32_292 : BitVec 32 := 0#32
  let c1_i32_294 : BitVec 32 := 1#32
  let arg22 : BitVec 32 := Scf.iv c0_i32_292 c1_i32_294 k0_t10
  let c256_i32 : BitVec 32 := 256#32
  let v547 : BitVec 32 := Scalar.muli arg22 c256_i32
  let v635 : Index := Scalar.indexCast v547
  ![v634.toNat, 4, v635.toNat]
def k0_off78 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v653 : Index := Scalar.indexCast arg20
  let c5_322 : Index := 5#32
  let c0_i32_292 : BitVec 32 := 0#32
  let c1_i32_294 : BitVec 32 := 1#32
  let arg22 : BitVec 32 := Scf.iv c0_i32_292 c1_i32_294 k0_t10
  let c256_i32 : BitVec 32 := 256#32
  let v547 : BitVec 32 := Scalar.muli arg22 c256_i32
  let v654 : Index := Scalar.indexCast v547
  ![v653.toNat, 5, v654.toNat]
def k0_off79 (k0_t9 : Fin k0_t9_loop.trips) (k0_t10 : Fin k0_t10_loop.trips) : Fin 3 → Nat :=
  let c0_i32_287 : BitVec 32 := 0#32
  let c1_i32_289 : BitVec 32 := 1#32
  let arg20 : BitVec 32 := Scf.iv c0_i32_287 c1_i32_289 k0_t9
  let v672 : Index := Scalar.indexCast arg20
  let c6_326 : Index := 6#32
  let c0_i32_292 : BitVec 32 := 0#32
  let c1_i32_294 : BitVec 32 := 1#32
  let arg22 : BitVec 32 := Scf.iv c0_i32_292 c1_i32_294 k0_t10
  let c256_i32 : BitVec 32 := 256#32
  let v547 : BitVec 32 := Scalar.muli arg22 c256_i32
  let v673 : Index := Scalar.indexCast v547
  ![v672.toNat, 6, v673.toNat]
def k0_off80 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v690 : Index := Scalar.indexCast arg20
  let c0_330 : Index := 0#32
  let c0_331 : Index := 0#32
  ![v690.toNat, 0, 0]
def k0_off81 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v702 : Index := Scalar.indexCast arg20
  let c32 : Index := 32#32
  let c0_334 : Index := 0#32
  ![v702.toNat, 32, 0]
def k0_off82 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v714 : Index := Scalar.indexCast arg20
  let c64 : Index := 64#32
  let c0_337 : Index := 0#32
  ![v714.toNat, 64, 0]
def k0_off83 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v726 : Index := Scalar.indexCast arg20
  let c96 : Index := 96#32
  let c0_340 : Index := 0#32
  ![v726.toNat, 96, 0]
def k0_off84 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v738 : Index := Scalar.indexCast arg20
  let c128 : Index := 128#32
  let c0_343 : Index := 0#32
  ![v738.toNat, 128, 0]
def k0_off85 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v750 : Index := Scalar.indexCast arg20
  let c160 : Index := 160#32
  let c0_346 : Index := 0#32
  ![v750.toNat, 160, 0]
def k0_off86 (k0_t9 : Fin k0_t9_loop.trips) : Fin 3 → Nat :=
  let c0_i32_287 : BitVec 32 := 0#32
  let c1_i32_289 : BitVec 32 := 1#32
  let arg20 : BitVec 32 := Scf.iv c0_i32_287 c1_i32_289 k0_t9
  let v762 : Index := Scalar.indexCast arg20
  let c192 : Index := 192#32
  let c0_349 : Index := 0#32
  ![v762.toNat, 192, 0]
def k0_off87 (i : grid0.Coords) : Fin 4 → Nat :=
  let arg0 : BitVec 32 := BitVec.ofNat 32 (i 0).val
  let c0_i32_145 : BitVec 32 := 0#32
  let c0_i32_146 : BitVec 32 := 0#32
  let c0_i32_147 : BitVec 32 := 0#32
  ![arg0.toNat, 0, 0, 0]
@[reducible] def k0_t11_loop (v1 : BitVec 32) : Scf.Loop 32 :=
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_151 : BitVec 32 := 1#32
  ⟨c0_i32_148, v280, c1_i32_151⟩
def k0_cond7 (v191 : BitVec 1) : BitVec 1 :=
  let v_true : BitVec 1 := 1#1
  let v200 : BitVec 1 := Scalar.xori v191 v_true
  let v201 : BitVec 32 := Scalar.extui v200
  let c0_i32_86 : BitVec 32 := 0#32
  let v202 : BitVec 1 := Scalar.cmpi .ne v201 c0_i32_86
  v202

def k0_off88 (v1 : BitVec 32) (k0_t11 : Fin (k0_t11_loop v1).trips) : Fin 1 → Nat :=
  let c1_i32_339 : BitVec 32 := 1#32
  let c0_i32_148 : BitVec 32 := 0#32
  let c1_i32_151 : BitVec 32 := 1#32
  let arg18 : BitVec 32 := Scf.iv c0_i32_148 c1_i32_151 k0_t11
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  ![v598.toNat]
def k0_cond8 (v1 : BitVec 32) (k0_t11 : Fin (k0_t11_loop v1).trips) : BitVec 1 :=
  let c0_i32_148 : BitVec 32 := 0#32
  let c1_i32_151 : BitVec 32 := 1#32
  let arg18 : BitVec 32 := Scf.iv c0_i32_148 c1_i32_151 k0_t11
  let c1_i32_194 : BitVec 32 := 1#32
  let v330 : BitVec 32 := Scalar.addi arg18 c1_i32_194
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v331 : BitVec 1 := Scalar.cmpi .slt v330 v21
  let v332 : BitVec 32 := Scalar.extui v331
  let c0_i32_195 : BitVec 32 := 0#32
  let v333 : BitVec 1 := Scalar.cmpi .ne v332 c0_i32_195
  v333

def k0_off89 (v1 : BitVec 32) (k0_t11 : Fin (k0_t11_loop v1).trips) : Fin 4 → Nat :=
  let c1_i32_339 : BitVec 32 := 1#32
  let c0_i32_148 : BitVec 32 := 0#32
  let c1_i32_151 : BitVec 32 := 1#32
  let arg18 : BitVec 32 := Scf.iv c0_i32_148 c1_i32_151 k0_t11
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  let c0_i32_341 : BitVec 32 := 0#32
  let c0_i32_342 : BitVec 32 := 0#32
  let c0_i32_343 : BitVec 32 := 0#32
  ![v598.toNat, 0, 0, 0]
def k0_off90 (i : grid0.Coords) (v1 : BitVec 32) (k0_t11 : Fin (k0_t11_loop v1).trips) : Fin 4 → Nat :=
  let arg0 : BitVec 32 := BitVec.ofNat 32 (i 0).val
  let c0_i32_148 : BitVec 32 := 0#32
  let c1_i32_151 : BitVec 32 := 1#32
  let arg18 : BitVec 32 := Scf.iv c0_i32_148 c1_i32_151 k0_t11
  let c1_i32_338 : BitVec 32 := 1#32
  let v597 : BitVec 32 := Scalar.addi arg18 c1_i32_338
  let c1024_i32_340 : BitVec 32 := 1024#32
  let v599 : BitVec 32 := Scalar.muli v597 c1024_i32_340
  let c0_i32_344 : BitVec 32 := 0#32
  let c0_i32_345 : BitVec 32 := 0#32
  ![arg0.toNat, v599.toNat, 0, 0]
def k0_off91 (v1 : BitVec 32) (k0_t11 : Fin (k0_t11_loop v1).trips) : Fin 1 → Nat :=
  let c0_i32_148 : BitVec 32 := 0#32
  let c1_i32_151 : BitVec 32 := 1#32
  let arg18 : BitVec 32 := Scf.iv c0_i32_148 c1_i32_151 k0_t11
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  ![v329.toNat]
def k0_off92 (v1 : BitVec 32) (k0_t11 : Fin (k0_t11_loop v1).trips) : Fin 4 → Nat :=
  let c0_i32_148 : BitVec 32 := 0#32
  let c1_i32_151 : BitVec 32 := 1#32
  let arg18 : BitVec 32 := Scf.iv c0_i32_148 c1_i32_151 k0_t11
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let c0_i32_197 : BitVec 32 := 0#32
  let c0_i32_198 : BitVec 32 := 0#32
  let c0_i32_199 : BitVec 32 := 0#32
  ![v329.toNat, 0, 0, 0]
def k0_off93 (i : grid0.Coords) (v1 : BitVec 32) (k0_t11 : Fin (k0_t11_loop v1).trips) : Fin 4 → Nat :=
  let arg0 : BitVec 32 := BitVec.ofNat 32 (i 0).val
  let c0_i32_148 : BitVec 32 := 0#32
  let c1_i32_151 : BitVec 32 := 1#32
  let arg18 : BitVec 32 := Scf.iv c0_i32_148 c1_i32_151 k0_t11
  let c1024_i32_196 : BitVec 32 := 1024#32
  let v334 : BitVec 32 := Scalar.muli arg18 c1024_i32_196
  let c0_i32_200 : BitVec 32 := 0#32
  let c0_i32_201 : BitVec 32 := 0#32
  ![arg0.toNat, v334.toNat, 0, 0]
def k0_off94 (v1 : BitVec 32) (k0_t11 : Fin (k0_t11_loop v1).trips) : Fin 3 → Nat :=
  let c0_236 : Index := 0#32
  let c0_237 : Index := 0#32
  let c0_i32_148 : BitVec 32 := 0#32
  let c1_i32_151 : BitVec 32 := 1#32
  let arg18 : BitVec 32 := Scf.iv c0_i32_148 c1_i32_151 k0_t11
  let c1024_i32_235 : BitVec 32 := 1024#32
  let v369 : BitVec 32 := Scalar.muli arg18 c1024_i32_235
  let v370 : Index := Scalar.indexCast v369
  ![0, 0, v370.toNat]
def k0_off95 (v1 : BitVec 32) (k0_t11 : Fin (k0_t11_loop v1).trips) : Fin 3 → Nat :=
  let c0_258 : Index := 0#32
  let c1_259 : Index := 1#32
  let c0_i32_148 : BitVec 32 := 0#32
  let c1_i32_151 : BitVec 32 := 1#32
  let arg18 : BitVec 32 := Scf.iv c0_i32_148 c1_i32_151 k0_t11
  let c1024_i32_257 : BitVec 32 := 1024#32
  let v424 : BitVec 32 := Scalar.muli arg18 c1024_i32_257
  let v425 : Index := Scalar.indexCast v424
  ![0, 1, v425.toNat]
def k0_off96 (v1 : BitVec 32) (k0_t11 : Fin (k0_t11_loop v1).trips) : Fin 3 → Nat :=
  let c0_283 : Index := 0#32
  let c2_284 : Index := 2#32
  let c0_i32_148 : BitVec 32 := 0#32
  let c1_i32_151 : BitVec 32 := 1#32
  let arg18 : BitVec 32 := Scf.iv c0_i32_148 c1_i32_151 k0_t11
  let c1024_i32_282 : BitVec 32 := 1024#32
  let v479 : BitVec 32 := Scalar.muli arg18 c1024_i32_282
  let v480 : Index := Scalar.indexCast v479
  ![0, 2, v480.toNat]
def k0_off97 (v1 : BitVec 32) (k0_t11 : Fin (k0_t11_loop v1).trips) : Fin 3 → Nat :=
  let c0_308 : Index := 0#32
  let c3_309 : Index := 3#32
  let c0_i32_148 : BitVec 32 := 0#32
  let c1_i32_151 : BitVec 32 := 1#32
  let arg18 : BitVec 32 := Scf.iv c0_i32_148 c1_i32_151 k0_t11
  let c1024_i32_307 : BitVec 32 := 1024#32
  let v534 : BitVec 32 := Scalar.muli arg18 c1024_i32_307
  let v535 : Index := Scalar.indexCast v534
  ![0, 3, v535.toNat]
@[reducible] def k0_t12_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t13_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off98 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v603 : Index := Scalar.indexCast arg20
  let c0_i32_344 : BitVec 32 := 0#32
  let c1_i32_346 : BitVec 32 := 1#32
  let arg22 : BitVec 32 := Scf.iv c0_i32_344 c1_i32_346 k0_t13
  let c256_i32_349 : BitVec 32 := 256#32
  let v602 : BitVec 32 := Scalar.muli arg22 c256_i32_349
  let v604 : Index := Scalar.indexCast v602
  let c0_350 : Index := 0#32
  ![v603.toNat, v604.toNat, 0]
def k0_off99 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v607 : Index := Scalar.indexCast arg20
  let c0_351 : Index := 0#32
  let c0_352 : Index := 0#32
  ![v607.toNat, 0, 0]
def k0_off100 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t13
  let c256_i32 : BitVec 32 := 256#32
  let v601 : BitVec 32 := Scalar.muli arg22 c256_i32
  let v613 : Index := Scalar.indexCast v601
  ![v612.toNat, 0, v613.toNat]
def k0_off101 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v619 : Index := Scalar.indexCast arg20
  let c1_355 : Index := 1#32
  let c0_i32_344 : BitVec 32 := 0#32
  let c1_i32_346 : BitVec 32 := 1#32
  let arg22 : BitVec 32 := Scf.iv c0_i32_344 c1_i32_346 k0_t13
  let c256_i32 : BitVec 32 := 256#32
  let v601 : BitVec 32 := Scalar.muli arg22 c256_i32
  let v620 : Index := Scalar.indexCast v601
  ![v619.toNat, 1, v620.toNat]
def k0_off102 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v626 : Index := Scalar.indexCast arg20
  let c2_356 : Index := 2#32
  let c0_i32_344 : BitVec 32 := 0#32
  let c1_i32_346 : BitVec 32 := 1#32
  let arg22 : BitVec 32 := Scf.iv c0_i32_344 c1_i32_346 k0_t13
  let c256_i32 : BitVec 32 := 256#32
  let v601 : BitVec 32 := Scalar.muli arg22 c256_i32
  let v627 : Index := Scalar.indexCast v601
  ![v626.toNat, 2, v627.toNat]
def k0_off103 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v633 : Index := Scalar.indexCast arg20
  let c3_357 : Index := 3#32
  let c0_i32_344 : BitVec 32 := 0#32
  let c1_i32_346 : BitVec 32 := 1#32
  let arg22 : BitVec 32 := Scf.iv c0_i32_344 c1_i32_346 k0_t13
  let c256_i32 : BitVec 32 := 256#32
  let v601 : BitVec 32 := Scalar.muli arg22 c256_i32
  let v634 : Index := Scalar.indexCast v601
  ![v633.toNat, 3, v634.toNat]
def k0_off104 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v640 : Index := Scalar.indexCast arg20
  let c4_358 : Index := 4#32
  let c0_i32_344 : BitVec 32 := 0#32
  let c1_i32_346 : BitVec 32 := 1#32
  let arg22 : BitVec 32 := Scf.iv c0_i32_344 c1_i32_346 k0_t13
  let c256_i32 : BitVec 32 := 256#32
  let v601 : BitVec 32 := Scalar.muli arg22 c256_i32
  let v641 : Index := Scalar.indexCast v601
  ![v640.toNat, 4, v641.toNat]
def k0_off105 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v647 : Index := Scalar.indexCast arg20
  let c5_359 : Index := 5#32
  let c0_i32_344 : BitVec 32 := 0#32
  let c1_i32_346 : BitVec 32 := 1#32
  let arg22 : BitVec 32 := Scf.iv c0_i32_344 c1_i32_346 k0_t13
  let c256_i32 : BitVec 32 := 256#32
  let v601 : BitVec 32 := Scalar.muli arg22 c256_i32
  let v648 : Index := Scalar.indexCast v601
  ![v647.toNat, 5, v648.toNat]
def k0_off106 (k0_t12 : Fin k0_t12_loop.trips) (k0_t13 : Fin k0_t13_loop.trips) : Fin 3 → Nat :=
  let c0_i32_339 : BitVec 32 := 0#32
  let c1_i32_341 : BitVec 32 := 1#32
  let arg20 : BitVec 32 := Scf.iv c0_i32_339 c1_i32_341 k0_t12
  let v654 : Index := Scalar.indexCast arg20
  let c6_360 : Index := 6#32
  let c0_i32_344 : BitVec 32 := 0#32
  let c1_i32_346 : BitVec 32 := 1#32
  let arg22 : BitVec 32 := Scf.iv c0_i32_344 c1_i32_346 k0_t13
  let c256_i32 : BitVec 32 := 256#32
  let v601 : BitVec 32 := Scalar.muli arg22 c256_i32
  let v655 : Index := Scalar.indexCast v601
  ![v654.toNat, 6, v655.toNat]
def k0_off107 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v660 : Index := Scalar.indexCast arg20
  let c0_361 : Index := 0#32
  let c0_362 : Index := 0#32
  ![v660.toNat, 0, 0]
def k0_off108 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v671 : Index := Scalar.indexCast arg20
  let c32 : Index := 32#32
  let c0_365 : Index := 0#32
  ![v671.toNat, 32, 0]
def k0_off109 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v682 : Index := Scalar.indexCast arg20
  let c64 : Index := 64#32
  let c0_368 : Index := 0#32
  ![v682.toNat, 64, 0]
def k0_off110 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v693 : Index := Scalar.indexCast arg20
  let c96 : Index := 96#32
  let c0_371 : Index := 0#32
  ![v693.toNat, 96, 0]
def k0_off111 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v704 : Index := Scalar.indexCast arg20
  let c128 : Index := 128#32
  let c0_374 : Index := 0#32
  ![v704.toNat, 128, 0]
def k0_off112 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v715 : Index := Scalar.indexCast arg20
  let c160 : Index := 160#32
  let c0_377 : Index := 0#32
  ![v715.toNat, 160, 0]
def k0_off113 (k0_t12 : Fin k0_t12_loop.trips) : Fin 3 → Nat :=
  let c0_i32_339 : BitVec 32 := 0#32
  let c1_i32_341 : BitVec 32 := 1#32
  let arg20 : BitVec 32 := Scf.iv c0_i32_339 c1_i32_341 k0_t12
  let v726 : Index := Scalar.indexCast arg20
  let c192 : Index := 192#32
  let c0_380 : Index := 0#32
  ![v726.toNat, 192, 0]
@[reducible] def k0_t14_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t15_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off114 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v603 : Index := Scalar.indexCast arg20
  let c0_i32_344 : BitVec 32 := 0#32
  let c1_i32_346 : BitVec 32 := 1#32
  let arg22 : BitVec 32 := Scf.iv c0_i32_344 c1_i32_346 k0_t15
  let c256_i32_349 : BitVec 32 := 256#32
  let v602 : BitVec 32 := Scalar.muli arg22 c256_i32_349
  let v604 : Index := Scalar.indexCast v602
  let c0_350 : Index := 0#32
  ![v603.toNat, v604.toNat, 0]
def k0_off115 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v607 : Index := Scalar.indexCast arg20
  let c0_351 : Index := 0#32
  let c0_352 : Index := 0#32
  ![v607.toNat, 0, 0]
def k0_off116 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t15
  let c256_i32 : BitVec 32 := 256#32
  let v601 : BitVec 32 := Scalar.muli arg22 c256_i32
  let v613 : Index := Scalar.indexCast v601
  ![v612.toNat, 0, v613.toNat]
def k0_off117 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v631 : Index := Scalar.indexCast arg20
  let c1_358 : Index := 1#32
  let c0_i32_344 : BitVec 32 := 0#32
  let c1_i32_346 : BitVec 32 := 1#32
  let arg22 : BitVec 32 := Scf.iv c0_i32_344 c1_i32_346 k0_t15
  let c256_i32 : BitVec 32 := 256#32
  let v601 : BitVec 32 := Scalar.muli arg22 c256_i32
  let v632 : Index := Scalar.indexCast v601
  ![v631.toNat, 1, v632.toNat]
def k0_off118 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v650 : Index := Scalar.indexCast arg20
  let c2_362 : Index := 2#32
  let c0_i32_344 : BitVec 32 := 0#32
  let c1_i32_346 : BitVec 32 := 1#32
  let arg22 : BitVec 32 := Scf.iv c0_i32_344 c1_i32_346 k0_t15
  let c256_i32 : BitVec 32 := 256#32
  let v601 : BitVec 32 := Scalar.muli arg22 c256_i32
  let v651 : Index := Scalar.indexCast v601
  ![v650.toNat, 2, v651.toNat]
def k0_off119 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v669 : Index := Scalar.indexCast arg20
  let c3_366 : Index := 3#32
  let c0_i32_344 : BitVec 32 := 0#32
  let c1_i32_346 : BitVec 32 := 1#32
  let arg22 : BitVec 32 := Scf.iv c0_i32_344 c1_i32_346 k0_t15
  let c256_i32 : BitVec 32 := 256#32
  let v601 : BitVec 32 := Scalar.muli arg22 c256_i32
  let v670 : Index := Scalar.indexCast v601
  ![v669.toNat, 3, v670.toNat]
def k0_off120 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v688 : Index := Scalar.indexCast arg20
  let c4_370 : Index := 4#32
  let c0_i32_344 : BitVec 32 := 0#32
  let c1_i32_346 : BitVec 32 := 1#32
  let arg22 : BitVec 32 := Scf.iv c0_i32_344 c1_i32_346 k0_t15
  let c256_i32 : BitVec 32 := 256#32
  let v601 : BitVec 32 := Scalar.muli arg22 c256_i32
  let v689 : Index := Scalar.indexCast v601
  ![v688.toNat, 4, v689.toNat]
def k0_off121 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v707 : Index := Scalar.indexCast arg20
  let c5_374 : Index := 5#32
  let c0_i32_344 : BitVec 32 := 0#32
  let c1_i32_346 : BitVec 32 := 1#32
  let arg22 : BitVec 32 := Scf.iv c0_i32_344 c1_i32_346 k0_t15
  let c256_i32 : BitVec 32 := 256#32
  let v601 : BitVec 32 := Scalar.muli arg22 c256_i32
  let v708 : Index := Scalar.indexCast v601
  ![v707.toNat, 5, v708.toNat]
def k0_off122 (k0_t14 : Fin k0_t14_loop.trips) (k0_t15 : Fin k0_t15_loop.trips) : Fin 3 → Nat :=
  let c0_i32_339 : BitVec 32 := 0#32
  let c1_i32_341 : BitVec 32 := 1#32
  let arg20 : BitVec 32 := Scf.iv c0_i32_339 c1_i32_341 k0_t14
  let v726 : Index := Scalar.indexCast arg20
  let c6_378 : Index := 6#32
  let c0_i32_344 : BitVec 32 := 0#32
  let c1_i32_346 : BitVec 32 := 1#32
  let arg22 : BitVec 32 := Scf.iv c0_i32_344 c1_i32_346 k0_t15
  let c256_i32 : BitVec 32 := 256#32
  let v601 : BitVec 32 := Scalar.muli arg22 c256_i32
  let v727 : Index := Scalar.indexCast v601
  ![v726.toNat, 6, v727.toNat]
def k0_off123 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v744 : Index := Scalar.indexCast arg20
  let c0_382 : Index := 0#32
  let c0_383 : Index := 0#32
  ![v744.toNat, 0, 0]
def k0_off124 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v755 : Index := Scalar.indexCast arg20
  let c32 : Index := 32#32
  let c0_386 : Index := 0#32
  ![v755.toNat, 32, 0]
def k0_off125 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v766 : Index := Scalar.indexCast arg20
  let c64 : Index := 64#32
  let c0_389 : Index := 0#32
  ![v766.toNat, 64, 0]
def k0_off126 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v777 : Index := Scalar.indexCast arg20
  let c96 : Index := 96#32
  let c0_392 : Index := 0#32
  ![v777.toNat, 96, 0]
def k0_off127 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v788 : Index := Scalar.indexCast arg20
  let c128 : Index := 128#32
  let c0_395 : Index := 0#32
  ![v788.toNat, 128, 0]
def k0_off128 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v799 : Index := Scalar.indexCast arg20
  let c160 : Index := 160#32
  let c0_398 : Index := 0#32
  ![v799.toNat, 160, 0]
def k0_off129 (k0_t14 : Fin k0_t14_loop.trips) : Fin 3 → Nat :=
  let c0_i32_339 : BitVec 32 := 0#32
  let c1_i32_341 : BitVec 32 := 1#32
  let arg20 : BitVec 32 := Scf.iv c0_i32_339 c1_i32_341 k0_t14
  let v810 : Index := Scalar.indexCast arg20
  let c192 : Index := 192#32
  let c0_401 : Index := 0#32
  ![v810.toNat, 192, 0]
@[reducible] def k0_t16_loop (v1 : BitVec 32) : Scf.Loop 32 :=
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let v277 : BitVec 32 := Scalar.addi c0_i32_148 v276
  let c1_i32_152 : BitVec 32 := 1#32
  ⟨v280, v277, c1_i32_152⟩
def k0_off130 (v1 : BitVec 32) (k0_t16 : Fin (k0_t16_loop v1).trips) : Fin 1 → Nat :=
  let c1_i32_339 : BitVec 32 := 1#32
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  ![v598.toNat]
def k0_cond11 (v1 : BitVec 32) (k0_t16 : Fin (k0_t16_loop v1).trips) : BitVec 1 :=
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c1_i32_194 : BitVec 32 := 1#32
  let v330 : BitVec 32 := Scalar.addi arg18 c1_i32_194
  let v331 : BitVec 1 := Scalar.cmpi .slt v330 v21
  let v332 : BitVec 32 := Scalar.extui v331
  let c0_i32_195 : BitVec 32 := 0#32
  let v333 : BitVec 1 := Scalar.cmpi .ne v332 c0_i32_195
  v333

def k0_off131 (v1 : BitVec 32) (k0_t16 : Fin (k0_t16_loop v1).trips) : Fin 4 → Nat :=
  let c1_i32_339 : BitVec 32 := 1#32
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  let c0_i32_341 : BitVec 32 := 0#32
  let c0_i32_342 : BitVec 32 := 0#32
  let c0_i32_343 : BitVec 32 := 0#32
  ![v598.toNat, 0, 0, 0]
def k0_off132 (i : grid0.Coords) (v1 : BitVec 32) (k0_t16 : Fin (k0_t16_loop v1).trips) : Fin 4 → Nat :=
  let arg0 : BitVec 32 := BitVec.ofNat 32 (i 0).val
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c1_i32_338 : BitVec 32 := 1#32
  let v597 : BitVec 32 := Scalar.addi arg18 c1_i32_338
  let c1024_i32_340 : BitVec 32 := 1024#32
  let v599 : BitVec 32 := Scalar.muli v597 c1024_i32_340
  let c0_i32_344 : BitVec 32 := 0#32
  let c0_i32_345 : BitVec 32 := 0#32
  ![arg0.toNat, v599.toNat, 0, 0]
def k0_off133 (v1 : BitVec 32) (k0_t16 : Fin (k0_t16_loop v1).trips) : Fin 1 → Nat :=
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  ![v329.toNat]
def k0_off134 (v1 : BitVec 32) (k0_t16 : Fin (k0_t16_loop v1).trips) : Fin 4 → Nat :=
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let c0_i32_197 : BitVec 32 := 0#32
  let c0_i32_198 : BitVec 32 := 0#32
  let c0_i32_199 : BitVec 32 := 0#32
  ![v329.toNat, 0, 0, 0]
def k0_off135 (i : grid0.Coords) (v1 : BitVec 32) (k0_t16 : Fin (k0_t16_loop v1).trips) : Fin 4 → Nat :=
  let arg0 : BitVec 32 := BitVec.ofNat 32 (i 0).val
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c1024_i32_196 : BitVec 32 := 1024#32
  let v334 : BitVec 32 := Scalar.muli arg18 c1024_i32_196
  let c0_i32_200 : BitVec 32 := 0#32
  let c0_i32_201 : BitVec 32 := 0#32
  ![arg0.toNat, v334.toNat, 0, 0]
def k0_off136 (v1 : BitVec 32) (k0_t16 : Fin (k0_t16_loop v1).trips) : Fin 3 → Nat :=
  let c0_236 : Index := 0#32
  let c0_237 : Index := 0#32
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c1024_i32_235 : BitVec 32 := 1024#32
  let v369 : BitVec 32 := Scalar.muli arg18 c1024_i32_235
  let v370 : Index := Scalar.indexCast v369
  ![0, 0, v370.toNat]
def k0_off137 (v1 : BitVec 32) (k0_t16 : Fin (k0_t16_loop v1).trips) : Fin 3 → Nat :=
  let c0_258 : Index := 0#32
  let c1_259 : Index := 1#32
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c1024_i32_257 : BitVec 32 := 1024#32
  let v424 : BitVec 32 := Scalar.muli arg18 c1024_i32_257
  let v425 : Index := Scalar.indexCast v424
  ![0, 1, v425.toNat]
def k0_off138 (v1 : BitVec 32) (k0_t16 : Fin (k0_t16_loop v1).trips) : Fin 3 → Nat :=
  let c0_283 : Index := 0#32
  let c2_284 : Index := 2#32
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c1024_i32_282 : BitVec 32 := 1024#32
  let v479 : BitVec 32 := Scalar.muli arg18 c1024_i32_282
  let v480 : Index := Scalar.indexCast v479
  ![0, 2, v480.toNat]
def k0_off139 (v1 : BitVec 32) (k0_t16 : Fin (k0_t16_loop v1).trips) : Fin 3 → Nat :=
  let c0_308 : Index := 0#32
  let c3_309 : Index := 3#32
  let c0_i32_148 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v276 : BitVec 32 := Scalar.subi v21 c0_i32_148
  let c1_i32_150 : BitVec 32 := 1#32
  let v278 : BitVec 32 := Scalar.divsi v276 c1_i32_150
  let v279 : BitVec 32 := Scalar.muli v278 c1_i32_150
  let v280 : BitVec 32 := Scalar.addi c0_i32_148 v279
  let c1_i32_152 : BitVec 32 := 1#32
  let arg18 : BitVec 32 := Scf.iv v280 c1_i32_152 k0_t16
  let c1024_i32_307 : BitVec 32 := 1024#32
  let v534 : BitVec 32 := Scalar.muli arg18 c1024_i32_307
  let v535 : Index := Scalar.indexCast v534
  ![0, 3, v535.toNat]
@[reducible] def k0_t17_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t18_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off140 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v603 : Index := Scalar.indexCast arg20
  let c0_i32_344 : BitVec 32 := 0#32
  let c1_i32_346 : BitVec 32 := 1#32
  let arg22 : BitVec 32 := Scf.iv c0_i32_344 c1_i32_346 k0_t18
  let c256_i32_349 : BitVec 32 := 256#32
  let v602 : BitVec 32 := Scalar.muli arg22 c256_i32_349
  let v604 : Index := Scalar.indexCast v602
  let c0_350 : Index := 0#32
  ![v603.toNat, v604.toNat, 0]
def k0_off141 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v607 : Index := Scalar.indexCast arg20
  let c0_351 : Index := 0#32
  let c0_352 : Index := 0#32
  ![v607.toNat, 0, 0]
def k0_off142 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t18
  let c256_i32 : BitVec 32 := 256#32
  let v601 : BitVec 32 := Scalar.muli arg22 c256_i32
  let v613 : Index := Scalar.indexCast v601
  ![v612.toNat, 0, v613.toNat]
def k0_off143 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v619 : Index := Scalar.indexCast arg20
  let c1_355 : Index := 1#32
  let c0_i32_344 : BitVec 32 := 0#32
  let c1_i32_346 : BitVec 32 := 1#32
  let arg22 : BitVec 32 := Scf.iv c0_i32_344 c1_i32_346 k0_t18
  let c256_i32 : BitVec 32 := 256#32
  let v601 : BitVec 32 := Scalar.muli arg22 c256_i32
  let v620 : Index := Scalar.indexCast v601
  ![v619.toNat, 1, v620.toNat]
def k0_off144 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v626 : Index := Scalar.indexCast arg20
  let c2_356 : Index := 2#32
  let c0_i32_344 : BitVec 32 := 0#32
  let c1_i32_346 : BitVec 32 := 1#32
  let arg22 : BitVec 32 := Scf.iv c0_i32_344 c1_i32_346 k0_t18
  let c256_i32 : BitVec 32 := 256#32
  let v601 : BitVec 32 := Scalar.muli arg22 c256_i32
  let v627 : Index := Scalar.indexCast v601
  ![v626.toNat, 2, v627.toNat]
def k0_off145 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v633 : Index := Scalar.indexCast arg20
  let c3_357 : Index := 3#32
  let c0_i32_344 : BitVec 32 := 0#32
  let c1_i32_346 : BitVec 32 := 1#32
  let arg22 : BitVec 32 := Scf.iv c0_i32_344 c1_i32_346 k0_t18
  let c256_i32 : BitVec 32 := 256#32
  let v601 : BitVec 32 := Scalar.muli arg22 c256_i32
  let v634 : Index := Scalar.indexCast v601
  ![v633.toNat, 3, v634.toNat]
def k0_off146 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v640 : Index := Scalar.indexCast arg20
  let c4_358 : Index := 4#32
  let c0_i32_344 : BitVec 32 := 0#32
  let c1_i32_346 : BitVec 32 := 1#32
  let arg22 : BitVec 32 := Scf.iv c0_i32_344 c1_i32_346 k0_t18
  let c256_i32 : BitVec 32 := 256#32
  let v601 : BitVec 32 := Scalar.muli arg22 c256_i32
  let v641 : Index := Scalar.indexCast v601
  ![v640.toNat, 4, v641.toNat]
def k0_off147 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v647 : Index := Scalar.indexCast arg20
  let c5_359 : Index := 5#32
  let c0_i32_344 : BitVec 32 := 0#32
  let c1_i32_346 : BitVec 32 := 1#32
  let arg22 : BitVec 32 := Scf.iv c0_i32_344 c1_i32_346 k0_t18
  let c256_i32 : BitVec 32 := 256#32
  let v601 : BitVec 32 := Scalar.muli arg22 c256_i32
  let v648 : Index := Scalar.indexCast v601
  ![v647.toNat, 5, v648.toNat]
def k0_off148 (k0_t17 : Fin k0_t17_loop.trips) (k0_t18 : Fin k0_t18_loop.trips) : Fin 3 → Nat :=
  let c0_i32_339 : BitVec 32 := 0#32
  let c1_i32_341 : BitVec 32 := 1#32
  let arg20 : BitVec 32 := Scf.iv c0_i32_339 c1_i32_341 k0_t17
  let v654 : Index := Scalar.indexCast arg20
  let c6_360 : Index := 6#32
  let c0_i32_344 : BitVec 32 := 0#32
  let c1_i32_346 : BitVec 32 := 1#32
  let arg22 : BitVec 32 := Scf.iv c0_i32_344 c1_i32_346 k0_t18
  let c256_i32 : BitVec 32 := 256#32
  let v601 : BitVec 32 := Scalar.muli arg22 c256_i32
  let v655 : Index := Scalar.indexCast v601
  ![v654.toNat, 6, v655.toNat]
def k0_off149 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v660 : Index := Scalar.indexCast arg20
  let c0_361 : Index := 0#32
  let c0_362 : Index := 0#32
  ![v660.toNat, 0, 0]
def k0_off150 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v671 : Index := Scalar.indexCast arg20
  let c32 : Index := 32#32
  let c0_365 : Index := 0#32
  ![v671.toNat, 32, 0]
def k0_off151 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v682 : Index := Scalar.indexCast arg20
  let c64 : Index := 64#32
  let c0_368 : Index := 0#32
  ![v682.toNat, 64, 0]
def k0_off152 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v693 : Index := Scalar.indexCast arg20
  let c96 : Index := 96#32
  let c0_371 : Index := 0#32
  ![v693.toNat, 96, 0]
def k0_off153 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v704 : Index := Scalar.indexCast arg20
  let c128 : Index := 128#32
  let c0_374 : Index := 0#32
  ![v704.toNat, 128, 0]
def k0_off154 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v715 : Index := Scalar.indexCast arg20
  let c160 : Index := 160#32
  let c0_377 : Index := 0#32
  ![v715.toNat, 160, 0]
def k0_off155 (k0_t17 : Fin k0_t17_loop.trips) : Fin 3 → Nat :=
  let c0_i32_339 : BitVec 32 := 0#32
  let c1_i32_341 : BitVec 32 := 1#32
  let arg20 : BitVec 32 := Scf.iv c0_i32_339 c1_i32_341 k0_t17
  let v726 : Index := Scalar.indexCast arg20
  let c192 : Index := 192#32
  let c0_380 : Index := 0#32
  ![v726.toNat, 192, 0]
@[reducible] def k0_t19_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t20_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off156 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v603 : Index := Scalar.indexCast arg20
  let c0_i32_344 : BitVec 32 := 0#32
  let c1_i32_346 : BitVec 32 := 1#32
  let arg22 : BitVec 32 := Scf.iv c0_i32_344 c1_i32_346 k0_t20
  let c256_i32_349 : BitVec 32 := 256#32
  let v602 : BitVec 32 := Scalar.muli arg22 c256_i32_349
  let v604 : Index := Scalar.indexCast v602
  let c0_350 : Index := 0#32
  ![v603.toNat, v604.toNat, 0]
def k0_off157 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v607 : Index := Scalar.indexCast arg20
  let c0_351 : Index := 0#32
  let c0_352 : Index := 0#32
  ![v607.toNat, 0, 0]
def k0_off158 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t20
  let c256_i32 : BitVec 32 := 256#32
  let v601 : BitVec 32 := Scalar.muli arg22 c256_i32
  let v613 : Index := Scalar.indexCast v601
  ![v612.toNat, 0, v613.toNat]
def k0_off159 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v631 : Index := Scalar.indexCast arg20
  let c1_358 : Index := 1#32
  let c0_i32_344 : BitVec 32 := 0#32
  let c1_i32_346 : BitVec 32 := 1#32
  let arg22 : BitVec 32 := Scf.iv c0_i32_344 c1_i32_346 k0_t20
  let c256_i32 : BitVec 32 := 256#32
  let v601 : BitVec 32 := Scalar.muli arg22 c256_i32
  let v632 : Index := Scalar.indexCast v601
  ![v631.toNat, 1, v632.toNat]
def k0_off160 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v650 : Index := Scalar.indexCast arg20
  let c2_362 : Index := 2#32
  let c0_i32_344 : BitVec 32 := 0#32
  let c1_i32_346 : BitVec 32 := 1#32
  let arg22 : BitVec 32 := Scf.iv c0_i32_344 c1_i32_346 k0_t20
  let c256_i32 : BitVec 32 := 256#32
  let v601 : BitVec 32 := Scalar.muli arg22 c256_i32
  let v651 : Index := Scalar.indexCast v601
  ![v650.toNat, 2, v651.toNat]
def k0_off161 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v669 : Index := Scalar.indexCast arg20
  let c3_366 : Index := 3#32
  let c0_i32_344 : BitVec 32 := 0#32
  let c1_i32_346 : BitVec 32 := 1#32
  let arg22 : BitVec 32 := Scf.iv c0_i32_344 c1_i32_346 k0_t20
  let c256_i32 : BitVec 32 := 256#32
  let v601 : BitVec 32 := Scalar.muli arg22 c256_i32
  let v670 : Index := Scalar.indexCast v601
  ![v669.toNat, 3, v670.toNat]
def k0_off162 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v688 : Index := Scalar.indexCast arg20
  let c4_370 : Index := 4#32
  let c0_i32_344 : BitVec 32 := 0#32
  let c1_i32_346 : BitVec 32 := 1#32
  let arg22 : BitVec 32 := Scf.iv c0_i32_344 c1_i32_346 k0_t20
  let c256_i32 : BitVec 32 := 256#32
  let v601 : BitVec 32 := Scalar.muli arg22 c256_i32
  let v689 : Index := Scalar.indexCast v601
  ![v688.toNat, 4, v689.toNat]
def k0_off163 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v707 : Index := Scalar.indexCast arg20
  let c5_374 : Index := 5#32
  let c0_i32_344 : BitVec 32 := 0#32
  let c1_i32_346 : BitVec 32 := 1#32
  let arg22 : BitVec 32 := Scf.iv c0_i32_344 c1_i32_346 k0_t20
  let c256_i32 : BitVec 32 := 256#32
  let v601 : BitVec 32 := Scalar.muli arg22 c256_i32
  let v708 : Index := Scalar.indexCast v601
  ![v707.toNat, 5, v708.toNat]
def k0_off164 (k0_t19 : Fin k0_t19_loop.trips) (k0_t20 : Fin k0_t20_loop.trips) : Fin 3 → Nat :=
  let c0_i32_339 : BitVec 32 := 0#32
  let c1_i32_341 : BitVec 32 := 1#32
  let arg20 : BitVec 32 := Scf.iv c0_i32_339 c1_i32_341 k0_t19
  let v726 : Index := Scalar.indexCast arg20
  let c6_378 : Index := 6#32
  let c0_i32_344 : BitVec 32 := 0#32
  let c1_i32_346 : BitVec 32 := 1#32
  let arg22 : BitVec 32 := Scf.iv c0_i32_344 c1_i32_346 k0_t20
  let c256_i32 : BitVec 32 := 256#32
  let v601 : BitVec 32 := Scalar.muli arg22 c256_i32
  let v727 : Index := Scalar.indexCast v601
  ![v726.toNat, 6, v727.toNat]
def k0_off165 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v744 : Index := Scalar.indexCast arg20
  let c0_382 : Index := 0#32
  let c0_383 : Index := 0#32
  ![v744.toNat, 0, 0]
def k0_off166 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v755 : Index := Scalar.indexCast arg20
  let c32 : Index := 32#32
  let c0_386 : Index := 0#32
  ![v755.toNat, 32, 0]
def k0_off167 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v766 : Index := Scalar.indexCast arg20
  let c64 : Index := 64#32
  let c0_389 : Index := 0#32
  ![v766.toNat, 64, 0]
def k0_off168 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v777 : Index := Scalar.indexCast arg20
  let c96 : Index := 96#32
  let c0_392 : Index := 0#32
  ![v777.toNat, 96, 0]
def k0_off169 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v788 : Index := Scalar.indexCast arg20
  let c128 : Index := 128#32
  let c0_395 : Index := 0#32
  ![v788.toNat, 128, 0]
def k0_off170 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v799 : Index := Scalar.indexCast arg20
  let c160 : Index := 160#32
  let c0_398 : Index := 0#32
  ![v799.toNat, 160, 0]
def k0_off171 (k0_t19 : Fin k0_t19_loop.trips) : Fin 3 → Nat :=
  let c0_i32_339 : BitVec 32 := 0#32
  let c1_i32_341 : BitVec 32 := 1#32
  let arg20 : BitVec 32 := Scf.iv c0_i32_339 c1_i32_341 k0_t19
  let v810 : Index := Scalar.indexCast arg20
  let c192 : Index := 192#32
  let c0_401 : Index := 0#32
  ![v810.toNat, 192, 0]
@[reducible] def k0_t21_loop (v1 : BitVec 32) : Scf.Loop 32 :=
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_175 : BitVec 32 := 1#32
  ⟨c0_i32_172, v305, c1_i32_175⟩
def k0_off172 (v1 : BitVec 32) (k0_t21 : Fin (k0_t21_loop v1).trips) : Fin 1 → Nat :=
  let c1_i32_339 : BitVec 32 := 1#32
  let c0_i32_172 : BitVec 32 := 0#32
  let c1_i32_175 : BitVec 32 := 1#32
  let arg18 : BitVec 32 := Scf.iv c0_i32_172 c1_i32_175 k0_t21
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  ![v598.toNat]
def k0_cond14 (v1 : BitVec 32) (k0_t21 : Fin (k0_t21_loop v1).trips) : BitVec 1 :=
  let c0_i32_172 : BitVec 32 := 0#32
  let c1_i32_175 : BitVec 32 := 1#32
  let arg18 : BitVec 32 := Scf.iv c0_i32_172 c1_i32_175 k0_t21
  let c1_i32_194 : BitVec 32 := 1#32
  let v330 : BitVec 32 := Scalar.addi arg18 c1_i32_194
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v331 : BitVec 1 := Scalar.cmpi .slt v330 v21
  let v332 : BitVec 32 := Scalar.extui v331
  let c0_i32_195 : BitVec 32 := 0#32
  let v333 : BitVec 1 := Scalar.cmpi .ne v332 c0_i32_195
  v333

def k0_off173 (v1 : BitVec 32) (k0_t21 : Fin (k0_t21_loop v1).trips) : Fin 4 → Nat :=
  let c1_i32_339 : BitVec 32 := 1#32
  let c0_i32_172 : BitVec 32 := 0#32
  let c1_i32_175 : BitVec 32 := 1#32
  let arg18 : BitVec 32 := Scf.iv c0_i32_172 c1_i32_175 k0_t21
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  let c0_i32_341 : BitVec 32 := 0#32
  let c0_i32_342 : BitVec 32 := 0#32
  let c0_i32_343 : BitVec 32 := 0#32
  ![v598.toNat, 0, 0, 0]
def k0_off174 (i : grid0.Coords) (v1 : BitVec 32) (k0_t21 : Fin (k0_t21_loop v1).trips) : Fin 4 → Nat :=
  let arg0 : BitVec 32 := BitVec.ofNat 32 (i 0).val
  let c0_i32_172 : BitVec 32 := 0#32
  let c1_i32_175 : BitVec 32 := 1#32
  let arg18 : BitVec 32 := Scf.iv c0_i32_172 c1_i32_175 k0_t21
  let c1_i32_338 : BitVec 32 := 1#32
  let v597 : BitVec 32 := Scalar.addi arg18 c1_i32_338
  let c1024_i32_340 : BitVec 32 := 1024#32
  let v599 : BitVec 32 := Scalar.muli v597 c1024_i32_340
  let c0_i32_344 : BitVec 32 := 0#32
  let c0_i32_345 : BitVec 32 := 0#32
  ![arg0.toNat, v599.toNat, 0, 0]
def k0_off175 (v1 : BitVec 32) (k0_t21 : Fin (k0_t21_loop v1).trips) : Fin 1 → Nat :=
  let c0_i32_172 : BitVec 32 := 0#32
  let c1_i32_175 : BitVec 32 := 1#32
  let arg18 : BitVec 32 := Scf.iv c0_i32_172 c1_i32_175 k0_t21
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  ![v329.toNat]
def k0_off176 (v1 : BitVec 32) (k0_t21 : Fin (k0_t21_loop v1).trips) : Fin 4 → Nat :=
  let c0_i32_172 : BitVec 32 := 0#32
  let c1_i32_175 : BitVec 32 := 1#32
  let arg18 : BitVec 32 := Scf.iv c0_i32_172 c1_i32_175 k0_t21
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let c0_i32_197 : BitVec 32 := 0#32
  let c0_i32_198 : BitVec 32 := 0#32
  let c0_i32_199 : BitVec 32 := 0#32
  ![v329.toNat, 0, 0, 0]
def k0_off177 (i : grid0.Coords) (v1 : BitVec 32) (k0_t21 : Fin (k0_t21_loop v1).trips) : Fin 4 → Nat :=
  let arg0 : BitVec 32 := BitVec.ofNat 32 (i 0).val
  let c0_i32_172 : BitVec 32 := 0#32
  let c1_i32_175 : BitVec 32 := 1#32
  let arg18 : BitVec 32 := Scf.iv c0_i32_172 c1_i32_175 k0_t21
  let c1024_i32_196 : BitVec 32 := 1024#32
  let v334 : BitVec 32 := Scalar.muli arg18 c1024_i32_196
  let c0_i32_200 : BitVec 32 := 0#32
  let c0_i32_201 : BitVec 32 := 0#32
  ![arg0.toNat, v334.toNat, 0, 0]
def k0_off178 (v1 : BitVec 32) (k0_t21 : Fin (k0_t21_loop v1).trips) : Fin 3 → Nat :=
  let c0_236 : Index := 0#32
  let c0_237 : Index := 0#32
  let c0_i32_172 : BitVec 32 := 0#32
  let c1_i32_175 : BitVec 32 := 1#32
  let arg18 : BitVec 32 := Scf.iv c0_i32_172 c1_i32_175 k0_t21
  let c1024_i32_235 : BitVec 32 := 1024#32
  let v369 : BitVec 32 := Scalar.muli arg18 c1024_i32_235
  let v370 : Index := Scalar.indexCast v369
  ![0, 0, v370.toNat]
def k0_off179 (v1 : BitVec 32) (k0_t21 : Fin (k0_t21_loop v1).trips) : Fin 3 → Nat :=
  let c0_258 : Index := 0#32
  let c1_259 : Index := 1#32
  let c0_i32_172 : BitVec 32 := 0#32
  let c1_i32_175 : BitVec 32 := 1#32
  let arg18 : BitVec 32 := Scf.iv c0_i32_172 c1_i32_175 k0_t21
  let c1024_i32_257 : BitVec 32 := 1024#32
  let v424 : BitVec 32 := Scalar.muli arg18 c1024_i32_257
  let v425 : Index := Scalar.indexCast v424
  ![0, 1, v425.toNat]
def k0_off180 (v1 : BitVec 32) (k0_t21 : Fin (k0_t21_loop v1).trips) : Fin 3 → Nat :=
  let c0_283 : Index := 0#32
  let c2_284 : Index := 2#32
  let c0_i32_172 : BitVec 32 := 0#32
  let c1_i32_175 : BitVec 32 := 1#32
  let arg18 : BitVec 32 := Scf.iv c0_i32_172 c1_i32_175 k0_t21
  let c1024_i32_282 : BitVec 32 := 1024#32
  let v479 : BitVec 32 := Scalar.muli arg18 c1024_i32_282
  let v480 : Index := Scalar.indexCast v479
  ![0, 2, v480.toNat]
def k0_off181 (v1 : BitVec 32) (k0_t21 : Fin (k0_t21_loop v1).trips) : Fin 3 → Nat :=
  let c0_308 : Index := 0#32
  let c3_309 : Index := 3#32
  let c0_i32_172 : BitVec 32 := 0#32
  let c1_i32_175 : BitVec 32 := 1#32
  let arg18 : BitVec 32 := Scf.iv c0_i32_172 c1_i32_175 k0_t21
  let c1024_i32_307 : BitVec 32 := 1024#32
  let v534 : BitVec 32 := Scalar.muli arg18 c1024_i32_307
  let v535 : Index := Scalar.indexCast v534
  ![0, 3, v535.toNat]
@[reducible] def k0_t22_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t23_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off182 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v603 : Index := Scalar.indexCast arg20
  let c0_i32_344 : BitVec 32 := 0#32
  let c1_i32_346 : BitVec 32 := 1#32
  let arg22 : BitVec 32 := Scf.iv c0_i32_344 c1_i32_346 k0_t23
  let c256_i32_349 : BitVec 32 := 256#32
  let v602 : BitVec 32 := Scalar.muli arg22 c256_i32_349
  let v604 : Index := Scalar.indexCast v602
  let c0_350 : Index := 0#32
  ![v603.toNat, v604.toNat, 0]
def k0_off183 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v607 : Index := Scalar.indexCast arg20
  let c0_351 : Index := 0#32
  let c0_352 : Index := 0#32
  ![v607.toNat, 0, 0]
def k0_off184 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t23
  let c256_i32 : BitVec 32 := 256#32
  let v601 : BitVec 32 := Scalar.muli arg22 c256_i32
  let v613 : Index := Scalar.indexCast v601
  ![v612.toNat, 0, v613.toNat]
def k0_off185 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v619 : Index := Scalar.indexCast arg20
  let c1_355 : Index := 1#32
  let c0_i32_344 : BitVec 32 := 0#32
  let c1_i32_346 : BitVec 32 := 1#32
  let arg22 : BitVec 32 := Scf.iv c0_i32_344 c1_i32_346 k0_t23
  let c256_i32 : BitVec 32 := 256#32
  let v601 : BitVec 32 := Scalar.muli arg22 c256_i32
  let v620 : Index := Scalar.indexCast v601
  ![v619.toNat, 1, v620.toNat]
def k0_off186 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v626 : Index := Scalar.indexCast arg20
  let c2_356 : Index := 2#32
  let c0_i32_344 : BitVec 32 := 0#32
  let c1_i32_346 : BitVec 32 := 1#32
  let arg22 : BitVec 32 := Scf.iv c0_i32_344 c1_i32_346 k0_t23
  let c256_i32 : BitVec 32 := 256#32
  let v601 : BitVec 32 := Scalar.muli arg22 c256_i32
  let v627 : Index := Scalar.indexCast v601
  ![v626.toNat, 2, v627.toNat]
def k0_off187 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v633 : Index := Scalar.indexCast arg20
  let c3_357 : Index := 3#32
  let c0_i32_344 : BitVec 32 := 0#32
  let c1_i32_346 : BitVec 32 := 1#32
  let arg22 : BitVec 32 := Scf.iv c0_i32_344 c1_i32_346 k0_t23
  let c256_i32 : BitVec 32 := 256#32
  let v601 : BitVec 32 := Scalar.muli arg22 c256_i32
  let v634 : Index := Scalar.indexCast v601
  ![v633.toNat, 3, v634.toNat]
def k0_off188 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v640 : Index := Scalar.indexCast arg20
  let c4_358 : Index := 4#32
  let c0_i32_344 : BitVec 32 := 0#32
  let c1_i32_346 : BitVec 32 := 1#32
  let arg22 : BitVec 32 := Scf.iv c0_i32_344 c1_i32_346 k0_t23
  let c256_i32 : BitVec 32 := 256#32
  let v601 : BitVec 32 := Scalar.muli arg22 c256_i32
  let v641 : Index := Scalar.indexCast v601
  ![v640.toNat, 4, v641.toNat]
def k0_off189 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v647 : Index := Scalar.indexCast arg20
  let c5_359 : Index := 5#32
  let c0_i32_344 : BitVec 32 := 0#32
  let c1_i32_346 : BitVec 32 := 1#32
  let arg22 : BitVec 32 := Scf.iv c0_i32_344 c1_i32_346 k0_t23
  let c256_i32 : BitVec 32 := 256#32
  let v601 : BitVec 32 := Scalar.muli arg22 c256_i32
  let v648 : Index := Scalar.indexCast v601
  ![v647.toNat, 5, v648.toNat]
def k0_off190 (k0_t22 : Fin k0_t22_loop.trips) (k0_t23 : Fin k0_t23_loop.trips) : Fin 3 → Nat :=
  let c0_i32_339 : BitVec 32 := 0#32
  let c1_i32_341 : BitVec 32 := 1#32
  let arg20 : BitVec 32 := Scf.iv c0_i32_339 c1_i32_341 k0_t22
  let v654 : Index := Scalar.indexCast arg20
  let c6_360 : Index := 6#32
  let c0_i32_344 : BitVec 32 := 0#32
  let c1_i32_346 : BitVec 32 := 1#32
  let arg22 : BitVec 32 := Scf.iv c0_i32_344 c1_i32_346 k0_t23
  let c256_i32 : BitVec 32 := 256#32
  let v601 : BitVec 32 := Scalar.muli arg22 c256_i32
  let v655 : Index := Scalar.indexCast v601
  ![v654.toNat, 6, v655.toNat]
def k0_off191 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v660 : Index := Scalar.indexCast arg20
  let c0_361 : Index := 0#32
  let c0_362 : Index := 0#32
  ![v660.toNat, 0, 0]
def k0_off192 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v677 : Index := Scalar.indexCast arg20
  let c32 : Index := 32#32
  let c0_367 : Index := 0#32
  ![v677.toNat, 32, 0]
def k0_off193 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v694 : Index := Scalar.indexCast arg20
  let c64 : Index := 64#32
  let c0_372 : Index := 0#32
  ![v694.toNat, 64, 0]
def k0_off194 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v711 : Index := Scalar.indexCast arg20
  let c96 : Index := 96#32
  let c0_377 : Index := 0#32
  ![v711.toNat, 96, 0]
def k0_off195 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v728 : Index := Scalar.indexCast arg20
  let c128 : Index := 128#32
  let c0_382 : Index := 0#32
  ![v728.toNat, 128, 0]
def k0_off196 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v745 : Index := Scalar.indexCast arg20
  let c160 : Index := 160#32
  let c0_387 : Index := 0#32
  ![v745.toNat, 160, 0]
def k0_off197 (k0_t22 : Fin k0_t22_loop.trips) : Fin 3 → Nat :=
  let c0_i32_339 : BitVec 32 := 0#32
  let c1_i32_341 : BitVec 32 := 1#32
  let arg20 : BitVec 32 := Scf.iv c0_i32_339 c1_i32_341 k0_t22
  let v762 : Index := Scalar.indexCast arg20
  let c192 : Index := 192#32
  let c0_392 : Index := 0#32
  ![v762.toNat, 192, 0]
@[reducible] def k0_t24_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t25_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off198 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v603 : Index := Scalar.indexCast arg20
  let c0_i32_344 : BitVec 32 := 0#32
  let c1_i32_346 : BitVec 32 := 1#32
  let arg22 : BitVec 32 := Scf.iv c0_i32_344 c1_i32_346 k0_t25
  let c256_i32_349 : BitVec 32 := 256#32
  let v602 : BitVec 32 := Scalar.muli arg22 c256_i32_349
  let v604 : Index := Scalar.indexCast v602
  let c0_350 : Index := 0#32
  ![v603.toNat, v604.toNat, 0]
def k0_off199 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v607 : Index := Scalar.indexCast arg20
  let c0_351 : Index := 0#32
  let c0_352 : Index := 0#32
  ![v607.toNat, 0, 0]
def k0_off200 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t25
  let c256_i32 : BitVec 32 := 256#32
  let v601 : BitVec 32 := Scalar.muli arg22 c256_i32
  let v613 : Index := Scalar.indexCast v601
  ![v612.toNat, 0, v613.toNat]
def k0_off201 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v631 : Index := Scalar.indexCast arg20
  let c1_358 : Index := 1#32
  let c0_i32_344 : BitVec 32 := 0#32
  let c1_i32_346 : BitVec 32 := 1#32
  let arg22 : BitVec 32 := Scf.iv c0_i32_344 c1_i32_346 k0_t25
  let c256_i32 : BitVec 32 := 256#32
  let v601 : BitVec 32 := Scalar.muli arg22 c256_i32
  let v632 : Index := Scalar.indexCast v601
  ![v631.toNat, 1, v632.toNat]
def k0_off202 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v650 : Index := Scalar.indexCast arg20
  let c2_362 : Index := 2#32
  let c0_i32_344 : BitVec 32 := 0#32
  let c1_i32_346 : BitVec 32 := 1#32
  let arg22 : BitVec 32 := Scf.iv c0_i32_344 c1_i32_346 k0_t25
  let c256_i32 : BitVec 32 := 256#32
  let v601 : BitVec 32 := Scalar.muli arg22 c256_i32
  let v651 : Index := Scalar.indexCast v601
  ![v650.toNat, 2, v651.toNat]
def k0_off203 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v669 : Index := Scalar.indexCast arg20
  let c3_366 : Index := 3#32
  let c0_i32_344 : BitVec 32 := 0#32
  let c1_i32_346 : BitVec 32 := 1#32
  let arg22 : BitVec 32 := Scf.iv c0_i32_344 c1_i32_346 k0_t25
  let c256_i32 : BitVec 32 := 256#32
  let v601 : BitVec 32 := Scalar.muli arg22 c256_i32
  let v670 : Index := Scalar.indexCast v601
  ![v669.toNat, 3, v670.toNat]
def k0_off204 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v688 : Index := Scalar.indexCast arg20
  let c4_370 : Index := 4#32
  let c0_i32_344 : BitVec 32 := 0#32
  let c1_i32_346 : BitVec 32 := 1#32
  let arg22 : BitVec 32 := Scf.iv c0_i32_344 c1_i32_346 k0_t25
  let c256_i32 : BitVec 32 := 256#32
  let v601 : BitVec 32 := Scalar.muli arg22 c256_i32
  let v689 : Index := Scalar.indexCast v601
  ![v688.toNat, 4, v689.toNat]
def k0_off205 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v707 : Index := Scalar.indexCast arg20
  let c5_374 : Index := 5#32
  let c0_i32_344 : BitVec 32 := 0#32
  let c1_i32_346 : BitVec 32 := 1#32
  let arg22 : BitVec 32 := Scf.iv c0_i32_344 c1_i32_346 k0_t25
  let c256_i32 : BitVec 32 := 256#32
  let v601 : BitVec 32 := Scalar.muli arg22 c256_i32
  let v708 : Index := Scalar.indexCast v601
  ![v707.toNat, 5, v708.toNat]
def k0_off206 (k0_t24 : Fin k0_t24_loop.trips) (k0_t25 : Fin k0_t25_loop.trips) : Fin 3 → Nat :=
  let c0_i32_339 : BitVec 32 := 0#32
  let c1_i32_341 : BitVec 32 := 1#32
  let arg20 : BitVec 32 := Scf.iv c0_i32_339 c1_i32_341 k0_t24
  let v726 : Index := Scalar.indexCast arg20
  let c6_378 : Index := 6#32
  let c0_i32_344 : BitVec 32 := 0#32
  let c1_i32_346 : BitVec 32 := 1#32
  let arg22 : BitVec 32 := Scf.iv c0_i32_344 c1_i32_346 k0_t25
  let c256_i32 : BitVec 32 := 256#32
  let v601 : BitVec 32 := Scalar.muli arg22 c256_i32
  let v727 : Index := Scalar.indexCast v601
  ![v726.toNat, 6, v727.toNat]
def k0_off207 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v744 : Index := Scalar.indexCast arg20
  let c0_382 : Index := 0#32
  let c0_383 : Index := 0#32
  ![v744.toNat, 0, 0]
def k0_off208 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v761 : Index := Scalar.indexCast arg20
  let c32 : Index := 32#32
  let c0_388 : Index := 0#32
  ![v761.toNat, 32, 0]
def k0_off209 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v778 : Index := Scalar.indexCast arg20
  let c64 : Index := 64#32
  let c0_393 : Index := 0#32
  ![v778.toNat, 64, 0]
def k0_off210 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v795 : Index := Scalar.indexCast arg20
  let c96 : Index := 96#32
  let c0_398 : Index := 0#32
  ![v795.toNat, 96, 0]
def k0_off211 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v812 : Index := Scalar.indexCast arg20
  let c128 : Index := 128#32
  let c0_403 : Index := 0#32
  ![v812.toNat, 128, 0]
def k0_off212 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v829 : Index := Scalar.indexCast arg20
  let c160 : Index := 160#32
  let c0_408 : Index := 0#32
  ![v829.toNat, 160, 0]
def k0_off213 (k0_t24 : Fin k0_t24_loop.trips) : Fin 3 → Nat :=
  let c0_i32_339 : BitVec 32 := 0#32
  let c1_i32_341 : BitVec 32 := 1#32
  let arg20 : BitVec 32 := Scf.iv c0_i32_339 c1_i32_341 k0_t24
  let v846 : Index := Scalar.indexCast arg20
  let c192 : Index := 192#32
  let c0_413 : Index := 0#32
  ![v846.toNat, 192, 0]
@[reducible] def k0_t26_loop (v1 : BitVec 32) : Scf.Loop 32 :=
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let v302 : BitVec 32 := Scalar.addi c0_i32_172 v301
  let c1_i32_176 : BitVec 32 := 1#32
  ⟨v305, v302, c1_i32_176⟩
def k0_off214 (v1 : BitVec 32) (k0_t26 : Fin (k0_t26_loop v1).trips) : Fin 1 → Nat :=
  let c1_i32_339 : BitVec 32 := 1#32
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  ![v598.toNat]
def k0_cond17 (v1 : BitVec 32) (k0_t26 : Fin (k0_t26_loop v1).trips) : BitVec 1 :=
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c1_i32_194 : BitVec 32 := 1#32
  let v330 : BitVec 32 := Scalar.addi arg18 c1_i32_194
  let v331 : BitVec 1 := Scalar.cmpi .slt v330 v21
  let v332 : BitVec 32 := Scalar.extui v331
  let c0_i32_195 : BitVec 32 := 0#32
  let v333 : BitVec 1 := Scalar.cmpi .ne v332 c0_i32_195
  v333

def k0_off215 (v1 : BitVec 32) (k0_t26 : Fin (k0_t26_loop v1).trips) : Fin 4 → Nat :=
  let c1_i32_339 : BitVec 32 := 1#32
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let v598 : BitVec 32 := Scalar.subi c1_i32_339 v329
  let c0_i32_341 : BitVec 32 := 0#32
  let c0_i32_342 : BitVec 32 := 0#32
  let c0_i32_343 : BitVec 32 := 0#32
  ![v598.toNat, 0, 0, 0]
def k0_off216 (i : grid0.Coords) (v1 : BitVec 32) (k0_t26 : Fin (k0_t26_loop v1).trips) : Fin 4 → Nat :=
  let arg0 : BitVec 32 := BitVec.ofNat 32 (i 0).val
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c1_i32_338 : BitVec 32 := 1#32
  let v597 : BitVec 32 := Scalar.addi arg18 c1_i32_338
  let c1024_i32_340 : BitVec 32 := 1024#32
  let v599 : BitVec 32 := Scalar.muli v597 c1024_i32_340
  let c0_i32_344 : BitVec 32 := 0#32
  let c0_i32_345 : BitVec 32 := 0#32
  ![arg0.toNat, v599.toNat, 0, 0]
def k0_off217 (v1 : BitVec 32) (k0_t26 : Fin (k0_t26_loop v1).trips) : Fin 1 → Nat :=
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  ![v329.toNat]
def k0_off218 (v1 : BitVec 32) (k0_t26 : Fin (k0_t26_loop v1).trips) : Fin 4 → Nat :=
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c2_i32_188 : BitVec 32 := 2#32
  let c0_i32_189 : BitVec 32 := 0#32
  let v320 : BitVec 1 := Scalar.cmpi .eq c2_i32_188 c0_i32_189
  let c1_i32_190 : BitVec 32 := 1#32
  let v321 : BitVec 32 := Scalar.select v320 c1_i32_190 c2_i32_188
  let v322 : BitVec 32 := Scalar.remsi arg18 v321
  let c0_i32_192 : BitVec 32 := 0#32
  let v324 : BitVec 1 := Scalar.cmpi .slt v322 c0_i32_192
  let c0_i32_193 : BitVec 32 := 0#32
  let v325 : BitVec 1 := Scalar.cmpi .slt v321 c0_i32_193
  let v326 : BitVec 1 := Scalar.xori v324 v325
  let c0_i32_191 : BitVec 32 := 0#32
  let v323 : BitVec 1 := Scalar.cmpi .ne v322 c0_i32_191
  let v327 : BitVec 1 := Scalar.andi v326 v323
  let v328 : BitVec 32 := Scalar.addi v322 v321
  let v329 : BitVec 32 := Scalar.select v327 v328 v322
  let c0_i32_197 : BitVec 32 := 0#32
  let c0_i32_198 : BitVec 32 := 0#32
  let c0_i32_199 : BitVec 32 := 0#32
  ![v329.toNat, 0, 0, 0]
def k0_off219 (i : grid0.Coords) (v1 : BitVec 32) (k0_t26 : Fin (k0_t26_loop v1).trips) : Fin 4 → Nat :=
  let arg0 : BitVec 32 := BitVec.ofNat 32 (i 0).val
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c1024_i32_196 : BitVec 32 := 1024#32
  let v334 : BitVec 32 := Scalar.muli arg18 c1024_i32_196
  let c0_i32_200 : BitVec 32 := 0#32
  let c0_i32_201 : BitVec 32 := 0#32
  ![arg0.toNat, v334.toNat, 0, 0]
def k0_off220 (v1 : BitVec 32) (k0_t26 : Fin (k0_t26_loop v1).trips) : Fin 3 → Nat :=
  let c0_236 : Index := 0#32
  let c0_237 : Index := 0#32
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c1024_i32_235 : BitVec 32 := 1024#32
  let v369 : BitVec 32 := Scalar.muli arg18 c1024_i32_235
  let v370 : Index := Scalar.indexCast v369
  ![0, 0, v370.toNat]
def k0_off221 (v1 : BitVec 32) (k0_t26 : Fin (k0_t26_loop v1).trips) : Fin 3 → Nat :=
  let c0_258 : Index := 0#32
  let c1_259 : Index := 1#32
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c1024_i32_257 : BitVec 32 := 1024#32
  let v424 : BitVec 32 := Scalar.muli arg18 c1024_i32_257
  let v425 : Index := Scalar.indexCast v424
  ![0, 1, v425.toNat]
def k0_off222 (v1 : BitVec 32) (k0_t26 : Fin (k0_t26_loop v1).trips) : Fin 3 → Nat :=
  let c0_283 : Index := 0#32
  let c2_284 : Index := 2#32
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c1024_i32_282 : BitVec 32 := 1024#32
  let v479 : BitVec 32 := Scalar.muli arg18 c1024_i32_282
  let v480 : Index := Scalar.indexCast v479
  ![0, 2, v480.toNat]
def k0_off223 (v1 : BitVec 32) (k0_t26 : Fin (k0_t26_loop v1).trips) : Fin 3 → Nat :=
  let c0_308 : Index := 0#32
  let c3_309 : Index := 3#32
  let c0_i32_172 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v301 : BitVec 32 := Scalar.subi v21 c0_i32_172
  let c1_i32_174 : BitVec 32 := 1#32
  let v303 : BitVec 32 := Scalar.divsi v301 c1_i32_174
  let v304 : BitVec 32 := Scalar.muli v303 c1_i32_174
  let v305 : BitVec 32 := Scalar.addi c0_i32_172 v304
  let c1_i32_176 : BitVec 32 := 1#32
  let arg18 : BitVec 32 := Scf.iv v305 c1_i32_176 k0_t26
  let c1024_i32_307 : BitVec 32 := 1024#32
  let v534 : BitVec 32 := Scalar.muli arg18 c1024_i32_307
  let v535 : Index := Scalar.indexCast v534
  ![0, 3, v535.toNat]

def k0_chk2_0 (i : grid0.Coords) (v1 : BitVec 32) (v191 : BitVec 1) : Prop :=
  (∀ (k0_h7 : k0_cond7 v191 = 1#1), (k0_t11_loop v1).OK) ∧
  (∀ k0_t11 : Fin (k0_t11_loop v1).trips, ∀ (k0_h7 : k0_cond7 v191 = 1#1), ∀ (k0_h8 : k0_cond8 v1 k0_t11 = 1#1), ∀ a, (k0_off88 v1 k0_t11) a + S1.size a ≤ S2.size a) ∧
  (∀ k0_t11 : Fin (k0_t11_loop v1).trips, ∀ (k0_h7 : k0_cond7 v191 = 1#1), ∀ (k0_h8 : k0_cond8 v1 k0_t11 = 1#1), ∀ a, (k0_off89 v1 k0_t11) a + S1x1024x4x128.size a ≤ S2x1024x4x128.size a) ∧
  (∀ k0_t11 : Fin (k0_t11_loop v1).trips, ∀ (k0_h7 : k0_cond7 v191 = 1#1), ∀ (k0_h8 : k0_cond8 v1 k0_t11 = 1#1), ∀ a, (k0_off90 i v1 k0_t11) a + S1x1024x4x128.size a ≤ S2x131072x4x128.size a) ∧
  (∀ k0_t11 : Fin (k0_t11_loop v1).trips, ∀ (k0_h7 : k0_cond7 v191 = 1#1), ∀ (k0_h8 : k0_cond8 v1 k0_t11 = 1#1), ∀ (hinb : ∀ a, (k0_off90 i v1 k0_t11) a + S1x1024x4x128.size a ≤ S2x131072x4x128.size a), (Rect.unit (s := S2x131072x4x128) (k0_off90 i v1 k0_t11) S1x1024x4x128.size hinb).WholeWords (EltTy.packing .fp8e4m3)) ∧
  (∀ k0_t11 : Fin (k0_t11_loop v1).trips, ∀ (k0_h7 : k0_cond7 v191 = 1#1), ∀ (k0_h8 : k0_cond8 v1 k0_t11 = 1#1), ∀ (hinb : ∀ a, (k0_off89 v1 k0_t11) a + S1x1024x4x128.size a ≤ S2x1024x4x128.size a), (Rect.unit (s := S2x1024x4x128) (k0_off89 v1 k0_t11) S1x1024x4x128.size hinb).WholeWords (EltTy.packing .fp8e4m3)) ∧
  (∀ k0_t11 : Fin (k0_t11_loop v1).trips, ∀ (k0_h7 : k0_cond7 v191 = 1#1), ∀ a, (k0_off91 v1 k0_t11) a + S1.size a ≤ S2.size a) ∧
  (∀ k0_t11 : Fin (k0_t11_loop v1).trips, ∀ (k0_h7 : k0_cond7 v191 = 1#1), ∀ a, (k0_off92 v1 k0_t11) a + S1x1024x4x128.size a ≤ S2x1024x4x128.size a) ∧
  (∀ k0_t11 : Fin (k0_t11_loop v1).trips, ∀ (k0_h7 : k0_cond7 v191 = 1#1), ∀ a, (k0_off93 i v1 k0_t11) a + S1x1024x4x128.size a ≤ S2x131072x4x128.size a) ∧
  (∀ k0_t11 : Fin (k0_t11_loop v1).trips, ∀ (k0_h7 : k0_cond7 v191 = 1#1), ∀ (hinb : ∀ a, (k0_off93 i v1 k0_t11) a + S1x1024x4x128.size a ≤ S2x131072x4x128.size a), (Rect.unit (s := S2x131072x4x128) (k0_off93 i v1 k0_t11) S1x1024x4x128.size hinb).WholeWords (EltTy.packing .fp8e4m3)) ∧
  (∀ k0_t11 : Fin (k0_t11_loop v1).trips, ∀ (k0_h7 : k0_cond7 v191 = 1#1), ∀ (hinb : ∀ a, (k0_off92 v1 k0_t11) a + S1x1024x4x128.size a ≤ S2x1024x4x128.size a), (Rect.unit (s := S2x1024x4x128) (k0_off92 v1 k0_t11) S1x1024x4x128.size hinb).WholeWords (EltTy.packing .fp8e4m3)) ∧
  (∀ k0_t11 : Fin (k0_t11_loop v1).trips, ∀ (k0_h7 : k0_cond7 v191 = 1#1), ∀ a, (k0_off94 v1 k0_t11) a + S1x1x1024.size a ≤ S1x4x131072.size a) ∧
  (∀ k0_t11 : Fin (k0_t11_loop v1).trips, ∀ (k0_h7 : k0_cond7 v191 = 1#1), ∀ a, (k0_off95 v1 k0_t11) a + S1x1x1024.size a ≤ S1x4x131072.size a) ∧
  (∀ k0_t11 : Fin (k0_t11_loop v1).trips, ∀ (k0_h7 : k0_cond7 v191 = 1#1), ∀ a, (k0_off96 v1 k0_t11) a + S1x1x1024.size a ≤ S1x4x131072.size a) ∧
  (∀ k0_t11 : Fin (k0_t11_loop v1).trips, ∀ (k0_h7 : k0_cond7 v191 = 1#1), ∀ a, (k0_off97 v1 k0_t11) a + S1x1x1024.size a ≤ S1x4x131072.size a) ∧
  (∀ (k0_h7 : k0_cond7 v191 = 1#1), (k0_t16_loop v1).OK) ∧
  (∀ k0_t16 : Fin (k0_t16_loop v1).trips, ∀ (k0_h7 : k0_cond7 v191 = 1#1), ∀ (k0_h11 : k0_cond11 v1 k0_t16 = 1#1), ∀ a, (k0_off130 v1 k0_t16) a + S1.size a ≤ S2.size a) ∧
  (∀ k0_t16 : Fin (k0_t16_loop v1).trips, ∀ (k0_h7 : k0_cond7 v191 = 1#1), ∀ (k0_h11 : k0_cond11 v1 k0_t16 = 1#1), ∀ a, (k0_off131 v1 k0_t16) a + S1x1024x4x128.size a ≤ S2x1024x4x128.size a) ∧
  (∀ k0_t16 : Fin (k0_t16_loop v1).trips, ∀ (k0_h7 : k0_cond7 v191 = 1#1), ∀ (k0_h11 : k0_cond11 v1 k0_t16 = 1#1), ∀ a, (k0_off132 i v1 k0_t16) a + S1x1024x4x128.size a ≤ S2x131072x4x128.size a) ∧
  (∀ k0_t16 : Fin (k0_t16_loop v1).trips, ∀ (k0_h7 : k0_cond7 v191 = 1#1), ∀ (k0_h11 : k0_cond11 v1 k0_t16 = 1#1), ∀ (hinb : ∀ a, (k0_off132 i v1 k0_t16) a + S1x1024x4x128.size a ≤ S2x131072x4x128.size a), (Rect.unit (s := S2x131072x4x128) (k0_off132 i v1 k0_t16) S1x1024x4x128.size hinb).WholeWords (EltTy.packing .fp8e4m3)) ∧
  (∀ k0_t16 : Fin (k0_t16_loop v1).trips, ∀ (k0_h7 : k0_cond7 v191 = 1#1), ∀ (k0_h11 : k0_cond11 v1 k0_t16 = 1#1), ∀ (hinb : ∀ a, (k0_off131 v1 k0_t16) a + S1x1024x4x128.size a ≤ S2x1024x4x128.size a), (Rect.unit (s := S2x1024x4x128) (k0_off131 v1 k0_t16) S1x1024x4x128.size hinb).WholeWords (EltTy.packing .fp8e4m3)) ∧
  (∀ k0_t16 : Fin (k0_t16_loop v1).trips, ∀ (k0_h7 : k0_cond7 v191 = 1#1), ∀ a, (k0_off133 v1 k0_t16) a + S1.size a ≤ S2.size a) ∧
  (∀ k0_t16 : Fin (k0_t16_loop v1).trips, ∀ (k0_h7 : k0_cond7 v191 = 1#1), ∀ a, (k0_off134 v1 k0_t16) a + S1x1024x4x128.size a ≤ S2x1024x4x128.size a) ∧
  (∀ k0_t16 : Fin (k0_t16_loop v1).trips, ∀ (k0_h7 : k0_cond7 v191 = 1#1), ∀ a, (k0_off135 i v1 k0_t16) a + S1x1024x4x128.size a ≤ S2x131072x4x128.size a) ∧
  (∀ k0_t16 : Fin (k0_t16_loop v1).trips, ∀ (k0_h7 : k0_cond7 v191 = 1#1), ∀ (hinb : ∀ a, (k0_off135 i v1 k0_t16) a + S1x1024x4x128.size a ≤ S2x131072x4x128.size a), (Rect.unit (s := S2x131072x4x128) (k0_off135 i v1 k0_t16) S1x1024x4x128.size hinb).WholeWords (EltTy.packing .fp8e4m3)) ∧
  (∀ k0_t16 : Fin (k0_t16_loop v1).trips, ∀ (k0_h7 : k0_cond7 v191 = 1#1), ∀ (hinb : ∀ a, (k0_off134 v1 k0_t16) a + S1x1024x4x128.size a ≤ S2x1024x4x128.size a), (Rect.unit (s := S2x1024x4x128) (k0_off134 v1 k0_t16) S1x1024x4x128.size hinb).WholeWords (EltTy.packing .fp8e4m3)) ∧
  (∀ k0_t16 : Fin (k0_t16_loop v1).trips, ∀ (k0_h7 : k0_cond7 v191 = 1#1), ∀ a, (k0_off136 v1 k0_t16) a + S1x1x1024.size a ≤ S1x4x131072.size a) ∧
  (∀ k0_t16 : Fin (k0_t16_loop v1).trips, ∀ (k0_h7 : k0_cond7 v191 = 1#1), ∀ a, (k0_off137 v1 k0_t16) a + S1x1x1024.size a ≤ S1x4x131072.size a) ∧
  (∀ k0_t16 : Fin (k0_t16_loop v1).trips, ∀ (k0_h7 : k0_cond7 v191 = 1#1), ∀ a, (k0_off138 v1 k0_t16) a + S1x1x1024.size a ≤ S1x4x131072.size a) ∧
  (∀ k0_t16 : Fin (k0_t16_loop v1).trips, ∀ (k0_h7 : k0_cond7 v191 = 1#1), ∀ a, (k0_off139 v1 k0_t16) a + S1x1x1024.size a ≤ S1x4x131072.size a) ∧
  (∀ (k0_h7 : k0_cond7 v191 = 1#1), (k0_t21_loop v1).OK) ∧
  (∀ k0_t21 : Fin (k0_t21_loop v1).trips, ∀ (k0_h7 : k0_cond7 v191 = 1#1), ∀ (k0_h14 : k0_cond14 v1 k0_t21 = 1#1), ∀ a, (k0_off172 v1 k0_t21) a + S1.size a ≤ S2.size a)
def k0_chk2_1 (i : grid0.Coords) (v1 : BitVec 32) (v191 : BitVec 1) : Prop :=
  (∀ k0_t21 : Fin (k0_t21_loop v1).trips, ∀ (k0_h7 : k0_cond7 v191 = 1#1), ∀ (k0_h14 : k0_cond14 v1 k0_t21 = 1#1), ∀ a, (k0_off173 v1 k0_t21) a + S1x1024x4x128.size a ≤ S2x1024x4x128.size a) ∧
  (∀ k0_t21 : Fin (k0_t21_loop v1).trips, ∀ (k0_h7 : k0_cond7 v191 = 1#1), ∀ (k0_h14 : k0_cond14 v1 k0_t21 = 1#1), ∀ a, (k0_off174 i v1 k0_t21) a + S1x1024x4x128.size a ≤ S2x131072x4x128.size a) ∧
  (∀ k0_t21 : Fin (k0_t21_loop v1).trips, ∀ (k0_h7 : k0_cond7 v191 = 1#1), ∀ (k0_h14 : k0_cond14 v1 k0_t21 = 1#1), ∀ (hinb : ∀ a, (k0_off174 i v1 k0_t21) a + S1x1024x4x128.size a ≤ S2x131072x4x128.size a), (Rect.unit (s := S2x131072x4x128) (k0_off174 i v1 k0_t21) S1x1024x4x128.size hinb).WholeWords (EltTy.packing .fp8e4m3)) ∧
  (∀ k0_t21 : Fin (k0_t21_loop v1).trips, ∀ (k0_h7 : k0_cond7 v191 = 1#1), ∀ (k0_h14 : k0_cond14 v1 k0_t21 = 1#1), ∀ (hinb : ∀ a, (k0_off173 v1 k0_t21) a + S1x1024x4x128.size a ≤ S2x1024x4x128.size a), (Rect.unit (s := S2x1024x4x128) (k0_off173 v1 k0_t21) S1x1024x4x128.size hinb).WholeWords (EltTy.packing .fp8e4m3)) ∧
  (∀ k0_t21 : Fin (k0_t21_loop v1).trips, ∀ (k0_h7 : k0_cond7 v191 = 1#1), ∀ a, (k0_off175 v1 k0_t21) a + S1.size a ≤ S2.size a) ∧
  (∀ k0_t21 : Fin (k0_t21_loop v1).trips, ∀ (k0_h7 : k0_cond7 v191 = 1#1), ∀ a, (k0_off176 v1 k0_t21) a + S1x1024x4x128.size a ≤ S2x1024x4x128.size a) ∧
  (∀ k0_t21 : Fin (k0_t21_loop v1).trips, ∀ (k0_h7 : k0_cond7 v191 = 1#1), ∀ a, (k0_off177 i v1 k0_t21) a + S1x1024x4x128.size a ≤ S2x131072x4x128.size a) ∧
  (∀ k0_t21 : Fin (k0_t21_loop v1).trips, ∀ (k0_h7 : k0_cond7 v191 = 1#1), ∀ (hinb : ∀ a, (k0_off177 i v1 k0_t21) a + S1x1024x4x128.size a ≤ S2x131072x4x128.size a), (Rect.unit (s := S2x131072x4x128) (k0_off177 i v1 k0_t21) S1x1024x4x128.size hinb).WholeWords (EltTy.packing .fp8e4m3)) ∧
  (∀ k0_t21 : Fin (k0_t21_loop v1).trips, ∀ (k0_h7 : k0_cond7 v191 = 1#1), ∀ (hinb : ∀ a, (k0_off176 v1 k0_t21) a + S1x1024x4x128.size a ≤ S2x1024x4x128.size a), (Rect.unit (s := S2x1024x4x128) (k0_off176 v1 k0_t21) S1x1024x4x128.size hinb).WholeWords (EltTy.packing .fp8e4m3)) ∧
  (∀ k0_t21 : Fin (k0_t21_loop v1).trips, ∀ (k0_h7 : k0_cond7 v191 = 1#1), ∀ a, (k0_off178 v1 k0_t21) a + S1x1x1024.size a ≤ S1x4x131072.size a) ∧
  (∀ k0_t21 : Fin (k0_t21_loop v1).trips, ∀ (k0_h7 : k0_cond7 v191 = 1#1), ∀ a, (k0_off179 v1 k0_t21) a + S1x1x1024.size a ≤ S1x4x131072.size a) ∧
  (∀ k0_t21 : Fin (k0_t21_loop v1).trips, ∀ (k0_h7 : k0_cond7 v191 = 1#1), ∀ a, (k0_off180 v1 k0_t21) a + S1x1x1024.size a ≤ S1x4x131072.size a) ∧
  (∀ k0_t21 : Fin (k0_t21_loop v1).trips, ∀ (k0_h7 : k0_cond7 v191 = 1#1), ∀ a, (k0_off181 v1 k0_t21) a + S1x1x1024.size a ≤ S1x4x131072.size a) ∧
  (∀ (k0_h7 : k0_cond7 v191 = 1#1), (k0_t26_loop v1).OK) ∧
  (∀ k0_t26 : Fin (k0_t26_loop v1).trips, ∀ (k0_h7 : k0_cond7 v191 = 1#1), ∀ (k0_h17 : k0_cond17 v1 k0_t26 = 1#1), ∀ a, (k0_off214 v1 k0_t26) a + S1.size a ≤ S2.size a) ∧
  (∀ k0_t26 : Fin (k0_t26_loop v1).trips, ∀ (k0_h7 : k0_cond7 v191 = 1#1), ∀ (k0_h17 : k0_cond17 v1 k0_t26 = 1#1), ∀ a, (k0_off215 v1 k0_t26) a + S1x1024x4x128.size a ≤ S2x1024x4x128.size a) ∧
  (∀ k0_t26 : Fin (k0_t26_loop v1).trips, ∀ (k0_h7 : k0_cond7 v191 = 1#1), ∀ (k0_h17 : k0_cond17 v1 k0_t26 = 1#1), ∀ a, (k0_off216 i v1 k0_t26) a + S1x1024x4x128.size a ≤ S2x131072x4x128.size a) ∧
  (∀ k0_t26 : Fin (k0_t26_loop v1).trips, ∀ (k0_h7 : k0_cond7 v191 = 1#1), ∀ (k0_h17 : k0_cond17 v1 k0_t26 = 1#1), ∀ (hinb : ∀ a, (k0_off216 i v1 k0_t26) a + S1x1024x4x128.size a ≤ S2x131072x4x128.size a), (Rect.unit (s := S2x131072x4x128) (k0_off216 i v1 k0_t26) S1x1024x4x128.size hinb).WholeWords (EltTy.packing .fp8e4m3)) ∧
  (∀ k0_t26 : Fin (k0_t26_loop v1).trips, ∀ (k0_h7 : k0_cond7 v191 = 1#1), ∀ (k0_h17 : k0_cond17 v1 k0_t26 = 1#1), ∀ (hinb : ∀ a, (k0_off215 v1 k0_t26) a + S1x1024x4x128.size a ≤ S2x1024x4x128.size a), (Rect.unit (s := S2x1024x4x128) (k0_off215 v1 k0_t26) S1x1024x4x128.size hinb).WholeWords (EltTy.packing .fp8e4m3)) ∧
  (∀ k0_t26 : Fin (k0_t26_loop v1).trips, ∀ (k0_h7 : k0_cond7 v191 = 1#1), ∀ a, (k0_off217 v1 k0_t26) a + S1.size a ≤ S2.size a) ∧
  (∀ k0_t26 : Fin (k0_t26_loop v1).trips, ∀ (k0_h7 : k0_cond7 v191 = 1#1), ∀ a, (k0_off218 v1 k0_t26) a + S1x1024x4x128.size a ≤ S2x1024x4x128.size a) ∧
  (∀ k0_t26 : Fin (k0_t26_loop v1).trips, ∀ (k0_h7 : k0_cond7 v191 = 1#1), ∀ a, (k0_off219 i v1 k0_t26) a + S1x1024x4x128.size a ≤ S2x131072x4x128.size a) ∧
  (∀ k0_t26 : Fin (k0_t26_loop v1).trips, ∀ (k0_h7 : k0_cond7 v191 = 1#1), ∀ (hinb : ∀ a, (k0_off219 i v1 k0_t26) a + S1x1024x4x128.size a ≤ S2x131072x4x128.size a), (Rect.unit (s := S2x131072x4x128) (k0_off219 i v1 k0_t26) S1x1024x4x128.size hinb).WholeWords (EltTy.packing .fp8e4m3)) ∧
  (∀ k0_t26 : Fin (k0_t26_loop v1).trips, ∀ (k0_h7 : k0_cond7 v191 = 1#1), ∀ (hinb : ∀ a, (k0_off218 v1 k0_t26) a + S1x1024x4x128.size a ≤ S2x1024x4x128.size a), (Rect.unit (s := S2x1024x4x128) (k0_off218 v1 k0_t26) S1x1024x4x128.size hinb).WholeWords (EltTy.packing .fp8e4m3)) ∧
  (∀ k0_t26 : Fin (k0_t26_loop v1).trips, ∀ (k0_h7 : k0_cond7 v191 = 1#1), ∀ a, (k0_off220 v1 k0_t26) a + S1x1x1024.size a ≤ S1x4x131072.size a) ∧
  (∀ k0_t26 : Fin (k0_t26_loop v1).trips, ∀ (k0_h7 : k0_cond7 v191 = 1#1), ∀ a, (k0_off221 v1 k0_t26) a + S1x1x1024.size a ≤ S1x4x131072.size a) ∧
  (∀ k0_t26 : Fin (k0_t26_loop v1).trips, ∀ (k0_h7 : k0_cond7 v191 = 1#1), ∀ a, (k0_off222 v1 k0_t26) a + S1x1x1024.size a ≤ S1x4x131072.size a) ∧
  (∀ k0_t26 : Fin (k0_t26_loop v1).trips, ∀ (k0_h7 : k0_cond7 v191 = 1#1), ∀ a, (k0_off223 v1 k0_t26) a + S1x1x1024.size a ≤ S1x4x131072.size a)
def k0_chk2 (i : grid0.Coords) (v1 : BitVec 32) (v191 : BitVec 1) : Prop :=
  k0_chk2_0 i v1 v191 ∧
  k0_chk2_1 i v1 v191
theorem k0_t11_ok : ∀ (i : grid0.Coords) (v1 : BitVec 32) (v191 : BitVec 1) (k0_hw2 : k0_chk2 i v1 v191), ∀ (k0_h7 : k0_cond7 v191 = 1#1), (k0_t11_loop v1).OK := fun i v1 v191 k0_hw2 k0_h7 => k0_hw2.1.1 k0_h7
theorem k0_off88_inb : ∀ (i : grid0.Coords) (v1 : BitVec 32) (v191 : BitVec 1) (k0_hw2 : k0_chk2 i v1 v191) (k0_t11 : Fin (k0_t11_loop v1).trips), ∀ (k0_h7 : k0_cond7 v191 = 1#1), ∀ (k0_h8 : k0_cond8 v1 k0_t11 = 1#1), ∀ a, (k0_off88 v1 k0_t11) a + S1.size a ≤ S2.size a := fun i v1 v191 k0_hw2 k0_t11 k0_h7 k0_h8 => k0_hw2.1.2.1 k0_t11 k0_h7 k0_h8
theorem k0_off89_inb : ∀ (i : grid0.Coords) (v1 : BitVec 32) (v191 : BitVec 1) (k0_hw2 : k0_chk2 i v1 v191) (k0_t11 : Fin (k0_t11_loop v1).trips), ∀ (k0_h7 : k0_cond7 v191 = 1#1), ∀ (k0_h8 : k0_cond8 v1 k0_t11 = 1#1), ∀ a, (k0_off89 v1 k0_t11) a + S1x1024x4x128.size a ≤ S2x1024x4x128.size a := fun i v1 v191 k0_hw2 k0_t11 k0_h7 k0_h8 => k0_hw2.1.2.2.1 k0_t11 k0_h7 k0_h8
theorem k0_off90_inb : ∀ (i : grid0.Coords) (v1 : BitVec 32) (v191 : BitVec 1) (k0_hw2 : k0_chk2 i v1 v191) (k0_t11 : Fin (k0_t11_loop v1).trips), ∀ (k0_h7 : k0_cond7 v191 = 1#1), ∀ (k0_h8 : k0_cond8 v1 k0_t11 = 1#1), ∀ a, (k0_off90 i v1 k0_t11) a + S1x1024x4x128.size a ≤ S2x131072x4x128.size a := fun i v1 v191 k0_hw2 k0_t11 k0_h7 k0_h8 => k0_hw2.1.2.2.2.1 k0_t11 k0_h7 k0_h8
theorem k0_off90_wordsfp8e4m3 : ∀ (i : grid0.Coords) (v1 : BitVec 32) (v191 : BitVec 1) (k0_hw2 : k0_chk2 i v1 v191) (k0_t11 : Fin (k0_t11_loop v1).trips), ∀ (k0_h7 : k0_cond7 v191 = 1#1), ∀ (k0_h8 : k0_cond8 v1 k0_t11 = 1#1), (Rect.unit (s := S2x131072x4x128) (k0_off90 i v1 k0_t11) S1x1024x4x128.size (k0_off90_inb i v1 v191 k0_hw2 k0_t11 k0_h7 k0_h8)).WholeWords (EltTy.packing .fp8e4m3) := fun i v1 v191 k0_hw2 k0_t11 k0_h7 k0_h8 => k0_hw2.1.2.2.2.2.1 k0_t11 k0_h7 k0_h8 (k0_off90_inb i v1 v191 k0_hw2 k0_t11 k0_h7 k0_h8)
theorem k0_off89_wordsfp8e4m3 : ∀ (i : grid0.Coords) (v1 : BitVec 32) (v191 : BitVec 1) (k0_hw2 : k0_chk2 i v1 v191) (k0_t11 : Fin (k0_t11_loop v1).trips), ∀ (k0_h7 : k0_cond7 v191 = 1#1), ∀ (k0_h8 : k0_cond8 v1 k0_t11 = 1#1), (Rect.unit (s := S2x1024x4x128) (k0_off89 v1 k0_t11) S1x1024x4x128.size (k0_off89_inb i v1 v191 k0_hw2 k0_t11 k0_h7 k0_h8)).WholeWords (EltTy.packing .fp8e4m3) := fun i v1 v191 k0_hw2 k0_t11 k0_h7 k0_h8 => k0_hw2.1.2.2.2.2.2.1 k0_t11 k0_h7 k0_h8 (k0_off89_inb i v1 v191 k0_hw2 k0_t11 k0_h7 k0_h8)
theorem k0_off91_inb : ∀ (i : grid0.Coords) (v1 : BitVec 32) (v191 : BitVec 1) (k0_hw2 : k0_chk2 i v1 v191) (k0_t11 : Fin (k0_t11_loop v1).trips), ∀ (k0_h7 : k0_cond7 v191 = 1#1), ∀ a, (k0_off91 v1 k0_t11) a + S1.size a ≤ S2.size a := fun i v1 v191 k0_hw2 k0_t11 k0_h7 => k0_hw2.1.2.2.2.2.2.2.1 k0_t11 k0_h7
theorem k0_off92_inb : ∀ (i : grid0.Coords) (v1 : BitVec 32) (v191 : BitVec 1) (k0_hw2 : k0_chk2 i v1 v191) (k0_t11 : Fin (k0_t11_loop v1).trips), ∀ (k0_h7 : k0_cond7 v191 = 1#1), ∀ a, (k0_off92 v1 k0_t11) a + S1x1024x4x128.size a ≤ S2x1024x4x128.size a := fun i v1 v191 k0_hw2 k0_t11 k0_h7 => k0_hw2.1.2.2.2.2.2.2.2.1 k0_t11 k0_h7
theorem k0_off93_inb : ∀ (i : grid0.Coords) (v1 : BitVec 32) (v191 : BitVec 1) (k0_hw2 : k0_chk2 i v1 v191) (k0_t11 : Fin (k0_t11_loop v1).trips), ∀ (k0_h7 : k0_cond7 v191 = 1#1), ∀ a, (k0_off93 i v1 k0_t11) a + S1x1024x4x128.size a ≤ S2x131072x4x128.size a := fun i v1 v191 k0_hw2 k0_t11 k0_h7 => k0_hw2.1.2.2.2.2.2.2.2.2.1 k0_t11 k0_h7
theorem k0_off93_wordsfp8e4m3 : ∀ (i : grid0.Coords) (v1 : BitVec 32) (v191 : BitVec 1) (k0_hw2 : k0_chk2 i v1 v191) (k0_t11 : Fin (k0_t11_loop v1).trips), ∀ (k0_h7 : k0_cond7 v191 = 1#1), (Rect.unit (s := S2x131072x4x128) (k0_off93 i v1 k0_t11) S1x1024x4x128.size (k0_off93_inb i v1 v191 k0_hw2 k0_t11 k0_h7)).WholeWords (EltTy.packing .fp8e4m3) := fun i v1 v191 k0_hw2 k0_t11 k0_h7 => k0_hw2.1.2.2.2.2.2.2.2.2.2.1 k0_t11 k0_h7 (k0_off93_inb i v1 v191 k0_hw2 k0_t11 k0_h7)
theorem k0_off92_wordsfp8e4m3 : ∀ (i : grid0.Coords) (v1 : BitVec 32) (v191 : BitVec 1) (k0_hw2 : k0_chk2 i v1 v191) (k0_t11 : Fin (k0_t11_loop v1).trips), ∀ (k0_h7 : k0_cond7 v191 = 1#1), (Rect.unit (s := S2x1024x4x128) (k0_off92 v1 k0_t11) S1x1024x4x128.size (k0_off92_inb i v1 v191 k0_hw2 k0_t11 k0_h7)).WholeWords (EltTy.packing .fp8e4m3) := fun i v1 v191 k0_hw2 k0_t11 k0_h7 => k0_hw2.1.2.2.2.2.2.2.2.2.2.2.1 k0_t11 k0_h7 (k0_off92_inb i v1 v191 k0_hw2 k0_t11 k0_h7)
theorem k0_off94_inb : ∀ (i : grid0.Coords) (v1 : BitVec 32) (v191 : BitVec 1) (k0_hw2 : k0_chk2 i v1 v191) (k0_t11 : Fin (k0_t11_loop v1).trips), ∀ (k0_h7 : k0_cond7 v191 = 1#1), ∀ a, (k0_off94 v1 k0_t11) a + S1x1x1024.size a ≤ S1x4x131072.size a := fun i v1 v191 k0_hw2 k0_t11 k0_h7 => k0_hw2.1.2.2.2.2.2.2.2.2.2.2.2.1 k0_t11 k0_h7
theorem k0_off95_inb : ∀ (i : grid0.Coords) (v1 : BitVec 32) (v191 : BitVec 1) (k0_hw2 : k0_chk2 i v1 v191) (k0_t11 : Fin (k0_t11_loop v1).trips), ∀ (k0_h7 : k0_cond7 v191 = 1#1), ∀ a, (k0_off95 v1 k0_t11) a + S1x1x1024.size a ≤ S1x4x131072.size a := fun i v1 v191 k0_hw2 k0_t11 k0_h7 => k0_hw2.1.2.2.2.2.2.2.2.2.2.2.2.2.1 k0_t11 k0_h7
theorem k0_off96_inb : ∀ (i : grid0.Coords) (v1 : BitVec 32) (v191 : BitVec 1) (k0_hw2 : k0_chk2 i v1 v191) (k0_t11 : Fin (k0_t11_loop v1).trips), ∀ (k0_h7 : k0_cond7 v191 = 1#1), ∀ a, (k0_off96 v1 k0_t11) a + S1x1x1024.size a ≤ S1x4x131072.size a := fun i v1 v191 k0_hw2 k0_t11 k0_h7 => k0_hw2.1.2.2.2.2.2.2.2.2.2.2.2.2.2.1 k0_t11 k0_h7
theorem k0_off97_inb : ∀ (i : grid0.Coords) (v1 : BitVec 32) (v191 : BitVec 1) (k0_hw2 : k0_chk2 i v1 v191) (k0_t11 : Fin (k0_t11_loop v1).trips), ∀ (k0_h7 : k0_cond7 v191 = 1#1), ∀ a, (k0_off97 v1 k0_t11) a + S1x1x1024.size a ≤ S1x4x131072.size a := fun i v1 v191 k0_hw2 k0_t11 k0_h7 => k0_hw2.1.2.2.2.2.2.2.2.2.2.2.2.2.2.2.1 k0_t11 k0_h7
theorem k0_t16_ok : ∀ (i : grid0.Coords) (v1 : BitVec 32) (v191 : BitVec 1) (k0_hw2 : k0_chk2 i v1 v191), ∀ (k0_h7 : k0_cond7 v191 = 1#1), (k0_t16_loop v1).OK := fun i v1 v191 k0_hw2 k0_h7 => k0_hw2.1.2.2.2.2.2.2.2.2.2.2.2.2.2.2.2.1 k0_h7
theorem k0_off130_inb : ∀ (i : grid0.Coords) (v1 : BitVec 32) (v191 : BitVec 1) (k0_hw2 : k0_chk2 i v1 v191) (k0_t16 : Fin (k0_t16_loop v1).trips), ∀ (k0_h7 : k0_cond7 v191 = 1#1), ∀ (k0_h11 : k0_cond11 v1 k0_t16 = 1#1), ∀ a, (k0_off130 v1 k0_t16) a + S1.size a ≤ S2.size a := fun i v1 v191 k0_hw2 k0_t16 k0_h7 k0_h11 => k0_hw2.1.2.2.2.2.2.2.2.2.2.2.2.2.2.2.2.2.1 k0_t16 k0_h7 k0_h11
theorem k0_off131_inb : ∀ (i : grid0.Coords) (v1 : BitVec 32) (v191 : BitVec 1) (k0_hw2 : k0_chk2 i v1 v191) (k0_t16 : Fin (k0_t16_loop v1).trips), ∀ (k0_h7 : k0_cond7 v191 = 1#1), ∀ (k0_h11 : k0_cond11 v1 k0_t16 = 1#1), ∀ a, (k0_off131 v1 k0_t16) a + S1x1024x4x128.size a ≤ S2x1024x4x128.size a := fun i v1 v191 k0_hw2 k0_t16 k0_h7 k0_h11 => k0_hw2.1.2.2.2.2.2.2.2.2.2.2.2.2.2.2.2.2.2.1 k0_t16 k0_h7 k0_h11
theorem k0_off132_inb : ∀ (i : grid0.Coords) (v1 : BitVec 32) (v191 : BitVec 1) (k0_hw2 : k0_chk2 i v1 v191) (k0_t16 : Fin (k0_t16_loop v1).trips), ∀ (k0_h7 : k0_cond7 v191 = 1#1), ∀ (k0_h11 : k0_cond11 v1 k0_t16 = 1#1), ∀ a, (k0_off132 i v1 k0_t16) a + S1x1024x4x128.size a ≤ S2x131072x4x128.size a := fun i v1 v191 k0_hw2 k0_t16 k0_h7 k0_h11 => k0_hw2.1.2.2.2.2.2.2.2.2.2.2.2.2.2.2.2.2.2.2.1 k0_t16 k0_h7 k0_h11
theorem k0_off132_wordsfp8e4m3 : ∀ (i : grid0.Coords) (v1 : BitVec 32) (v191 : BitVec 1) (k0_hw2 : k0_chk2 i v1 v191) (k0_t16 : Fin (k0_t16_loop v1).trips), ∀ (k0_h7 : k0_cond7 v191 = 1#1), ∀ (k0_h11 : k0_cond11 v1 k0_t16 = 1#1), (Rect.unit (s := S2x131072x4x128) (k0_off132 i v1 k0_t16) S1x1024x4x128.size (k0_off132_inb i v1 v191 k0_hw2 k0_t16 k0_h7 k0_h11)).WholeWords (EltTy.packing .fp8e4m3) := fun i v1 v191 k0_hw2 k0_t16 k0_h7 k0_h11 => k0_hw2.1.2.2.2.2.2.2.2.2.2.2.2.2.2.2.2.2.2.2.2.1 k0_t16 k0_h7 k0_h11 (k0_off132_inb i v1 v191 k0_hw2 k0_t16 k0_h7 k0_h11)
theorem k0_off131_wordsfp8e4m3 : ∀ (i : grid0.Coords) (v1 : BitVec 32) (v191 : BitVec 1) (k0_hw2 : k0_chk2 i v1 v191) (k0_t16 : Fin (k0_t16_loop v1).trips), ∀ (k0_h7 : k0_cond7 v191 = 1#1), ∀ (k0_h11 : k0_cond11 v1 k0_t16 = 1#1), (Rect.unit (s := S2x1024x4x128) (k0_off131 v1 k0_t16) S1x1024x4x128.size (k0_off131_inb i v1 v191 k0_hw2 k0_t16 k0_h7 k0_h11)).WholeWords (EltTy.packing .fp8e4m3) := fun i v1 v191 k0_hw2 k0_t16 k0_h7 k0_h11 => k0_hw2.1.2.2.2.2.2.2.2.2.2.2.2.2.2.2.2.2.2.2.2.2.1 k0_t16 k0_h7 k0_h11 (k0_off131_inb i v1 v191 k0_hw2 k0_t16 k0_h7 k0_h11)
theorem k0_off133_inb : ∀ (i : grid0.Coords) (v1 : BitVec 32) (v191 : BitVec 1) (k0_hw2 : k0_chk2 i v1 v191) (k0_t16 : Fin (k0_t16_loop v1).trips), ∀ (k0_h7 : k0_cond7 v191 = 1#1), ∀ a, (k0_off133 v1 k0_t16) a + S1.size a ≤ S2.size a := fun i v1 v191 k0_hw2 k0_t16 k0_h7 => k0_hw2.1.2.2.2.2.2.2.2.2.2.2.2.2.2.2.2.2.2.2.2.2.2.1 k0_t16 k0_h7
theorem k0_off134_inb : ∀ (i : grid0.Coords) (v1 : BitVec 32) (v191 : BitVec 1) (k0_hw2 : k0_chk2 i v1 v191) (k0_t16 : Fin (k0_t16_loop v1).trips), ∀ (k0_h7 : k0_cond7 v191 = 1#1), ∀ a, (k0_off134 v1 k0_t16) a + S1x1024x4x128.size a ≤ S2x1024x4x128.size a := fun i v1 v191 k0_hw2 k0_t16 k0_h7 => k0_hw2.1.2.2.2.2.2.2.2.2.2.2.2.2.2.2.2.2.2.2.2.2.2.2.1 k0_t16 k0_h7
theorem k0_off135_inb : ∀ (i : grid0.Coords) (v1 : BitVec 32) (v191 : BitVec 1) (k0_hw2 : k0_chk2 i v1 v191) (k0_t16 : Fin (k0_t16_loop v1).trips), ∀ (k0_h7 : k0_cond7 v191 = 1#1), ∀ a, (k0_off135 i v1 k0_t16) a + S1x1024x4x128.size a ≤ S2x131072x4x128.size a := fun i v1 v191 k0_hw2 k0_t16 k0_h7 => k0_hw2.1.2.2.2.2.2.2.2.2.2.2.2.2.2.2.2.2.2.2.2.2.2.2.2.1 k0_t16 k0_h7
theorem k0_off135_wordsfp8e4m3 : ∀ (i : grid0.Coords) (v1 : BitVec 32) (v191 : BitVec 1) (k0_hw2 : k0_chk2 i v1 v191) (k0_t16 : Fin (k0_t16_loop v1).trips), ∀ (k0_h7 : k0_cond7 v191 = 1#1), (Rect.unit (s := S2x131072x4x128) (k0_off135 i v1 k0_t16) S1x1024x4x128.size (k0_off135_inb i v1 v191 k0_hw2 k0_t16 k0_h7)).WholeWords (EltTy.packing .fp8e4m3) := fun i v1 v191 k0_hw2 k0_t16 k0_h7 => k0_hw2.1.2.2.2.2.2.2.2.2.2.2.2.2.2.2.2.2.2.2.2.2.2.2.2.2.1 k0_t16 k0_h7 (k0_off135_inb i v1 v191 k0_hw2 k0_t16 k0_h7)
theorem k0_off134_wordsfp8e4m3 : ∀ (i : grid0.Coords) (v1 : BitVec 32) (v191 : BitVec 1) (k0_hw2 : k0_chk2 i v1 v191) (k0_t16 : Fin (k0_t16_loop v1).trips), ∀ (k0_h7 : k0_cond7 v191 = 1#1), (Rect.unit (s := S2x1024x4x128) (k0_off134 v1 k0_t16) S1x1024x4x128.size (k0_off134_inb i v1 v191 k0_hw2 k0_t16 k0_h7)).WholeWords (EltTy.packing .fp8e4m3) := fun i v1 v191 k0_hw2 k0_t16 k0_h7 => k0_hw2.1.2.2.2.2.2.2.2.2.2.2.2.2.2.2.2.2.2.2.2.2.2.2.2.2.2.1 k0_t16 k0_h7 (k0_off134_inb i v1 v191 k0_hw2 k0_t16 k0_h7)
theorem k0_off136_inb : ∀ (i : grid0.Coords) (v1 : BitVec 32) (v191 : BitVec 1) (k0_hw2 : k0_chk2 i v1 v191) (k0_t16 : Fin (k0_t16_loop v1).trips), ∀ (k0_h7 : k0_cond7 v191 = 1#1), ∀ a, (k0_off136 v1 k0_t16) a + S1x1x1024.size a ≤ S1x4x131072.size a := fun i v1 v191 k0_hw2 k0_t16 k0_h7 => k0_hw2.1.2.2.2.2.2.2.2.2.2.2.2.2.2.2.2.2.2.2.2.2.2.2.2.2.2.2.1 k0_t16 k0_h7
theorem k0_off137_inb : ∀ (i : grid0.Coords) (v1 : BitVec 32) (v191 : BitVec 1) (k0_hw2 : k0_chk2 i v1 v191) (k0_t16 : Fin (k0_t16_loop v1).trips), ∀ (k0_h7 : k0_cond7 v191 = 1#1), ∀ a, (k0_off137 v1 k0_t16) a + S1x1x1024.size a ≤ S1x4x131072.size a := fun i v1 v191 k0_hw2 k0_t16 k0_h7 => k0_hw2.1.2.2.2.2.2.2.2.2.2.2.2.2.2.2.2.2.2.2.2.2.2.2.2.2.2.2.2.1 k0_t16 k0_h7
theorem k0_off138_inb : ∀ (i : grid0.Coords) (v1 : BitVec 32) (v191 : BitVec 1) (k0_hw2 : k0_chk2 i v1 v191) (k0_t16 : Fin (k0_t16_loop v1).trips), ∀ (k0_h7 : k0_cond7 v191 = 1#1), ∀ a, (k0_off138 v1 k0_t16) a + S1x1x1024.size a ≤ S1x4x131072.size a := fun i v1 v191 k0_hw2 k0_t16 k0_h7 => k0_hw2.1.2.2.2.2.2.2.2.2.2.2.2.2.2.2.2.2.2.2.2.2.2.2.2.2.2.2.2.2.1 k0_t16 k0_h7
theorem k0_off139_inb : ∀ (i : grid0.Coords) (v1 : BitVec 32) (v191 : BitVec 1) (k0_hw2 : k0_chk2 i v1 v191) (k0_t16 : Fin (k0_t16_loop v1).trips), ∀ (k0_h7 : k0_cond7 v191 = 1#1), ∀ a, (k0_off139 v1 k0_t16) a + S1x1x1024.size a ≤ S1x4x131072.size a := fun i v1 v191 k0_hw2 k0_t16 k0_h7 => k0_hw2.1.2.2.2.2.2.2.2.2.2.2.2.2.2.2.2.2.2.2.2.2.2.2.2.2.2.2.2.2.2.1 k0_t16 k0_h7
theorem k0_t21_ok : ∀ (i : grid0.Coords) (v1 : BitVec 32) (v191 : BitVec 1) (k0_hw2 : k0_chk2 i v1 v191), ∀ (k0_h7 : k0_cond7 v191 = 1#1), (k0_t21_loop v1).OK := fun i v1 v191 k0_hw2 k0_h7 => k0_hw2.1.2.2.2.2.2.2.2.2.2.2.2.2.2.2.2.2.2.2.2.2.2.2.2.2.2.2.2.2.2.2.1 k0_h7
theorem k0_off172_inb : ∀ (i : grid0.Coords) (v1 : BitVec 32) (v191 : BitVec 1) (k0_hw2 : k0_chk2 i v1 v191) (k0_t21 : Fin (k0_t21_loop v1).trips), ∀ (k0_h7 : k0_cond7 v191 = 1#1), ∀ (k0_h14 : k0_cond14 v1 k0_t21 = 1#1), ∀ a, (k0_off172 v1 k0_t21) a + S1.size a ≤ S2.size a := fun i v1 v191 k0_hw2 k0_t21 k0_h7 k0_h14 => k0_hw2.1.2.2.2.2.2.2.2.2.2.2.2.2.2.2.2.2.2.2.2.2.2.2.2.2.2.2.2.2.2.2.2 k0_t21 k0_h7 k0_h14
theorem k0_off173_inb : ∀ (i : grid0.Coords) (v1 : BitVec 32) (v191 : BitVec 1) (k0_hw2 : k0_chk2 i v1 v191) (k0_t21 : Fin (k0_t21_loop v1).trips), ∀ (k0_h7 : k0_cond7 v191 = 1#1), ∀ (k0_h14 : k0_cond14 v1 k0_t21 = 1#1), ∀ a, (k0_off173 v1 k0_t21) a + S1x1024x4x128.size a ≤ S2x1024x4x128.size a := fun i v1 v191 k0_hw2 k0_t21 k0_h7 k0_h14 => k0_hw2.2.1 k0_t21 k0_h7 k0_h14
theorem k0_off174_inb : ∀ (i : grid0.Coords) (v1 : BitVec 32) (v191 : BitVec 1) (k0_hw2 : k0_chk2 i v1 v191) (k0_t21 : Fin (k0_t21_loop v1).trips), ∀ (k0_h7 : k0_cond7 v191 = 1#1), ∀ (k0_h14 : k0_cond14 v1 k0_t21 = 1#1), ∀ a, (k0_off174 i v1 k0_t21) a + S1x1024x4x128.size a ≤ S2x131072x4x128.size a := fun i v1 v191 k0_hw2 k0_t21 k0_h7 k0_h14 => k0_hw2.2.2.1 k0_t21 k0_h7 k0_h14
theorem k0_off174_wordsfp8e4m3 : ∀ (i : grid0.Coords) (v1 : BitVec 32) (v191 : BitVec 1) (k0_hw2 : k0_chk2 i v1 v191) (k0_t21 : Fin (k0_t21_loop v1).trips), ∀ (k0_h7 : k0_cond7 v191 = 1#1), ∀ (k0_h14 : k0_cond14 v1 k0_t21 = 1#1), (Rect.unit (s := S2x131072x4x128) (k0_off174 i v1 k0_t21) S1x1024x4x128.size (k0_off174_inb i v1 v191 k0_hw2 k0_t21 k0_h7 k0_h14)).WholeWords (EltTy.packing .fp8e4m3) := fun i v1 v191 k0_hw2 k0_t21 k0_h7 k0_h14 => k0_hw2.2.2.2.1 k0_t21 k0_h7 k0_h14 (k0_off174_inb i v1 v191 k0_hw2 k0_t21 k0_h7 k0_h14)
theorem k0_off173_wordsfp8e4m3 : ∀ (i : grid0.Coords) (v1 : BitVec 32) (v191 : BitVec 1) (k0_hw2 : k0_chk2 i v1 v191) (k0_t21 : Fin (k0_t21_loop v1).trips), ∀ (k0_h7 : k0_cond7 v191 = 1#1), ∀ (k0_h14 : k0_cond14 v1 k0_t21 = 1#1), (Rect.unit (s := S2x1024x4x128) (k0_off173 v1 k0_t21) S1x1024x4x128.size (k0_off173_inb i v1 v191 k0_hw2 k0_t21 k0_h7 k0_h14)).WholeWords (EltTy.packing .fp8e4m3) := fun i v1 v191 k0_hw2 k0_t21 k0_h7 k0_h14 => k0_hw2.2.2.2.2.1 k0_t21 k0_h7 k0_h14 (k0_off173_inb i v1 v191 k0_hw2 k0_t21 k0_h7 k0_h14)
theorem k0_off175_inb : ∀ (i : grid0.Coords) (v1 : BitVec 32) (v191 : BitVec 1) (k0_hw2 : k0_chk2 i v1 v191) (k0_t21 : Fin (k0_t21_loop v1).trips), ∀ (k0_h7 : k0_cond7 v191 = 1#1), ∀ a, (k0_off175 v1 k0_t21) a + S1.size a ≤ S2.size a := fun i v1 v191 k0_hw2 k0_t21 k0_h7 => k0_hw2.2.2.2.2.2.1 k0_t21 k0_h7
theorem k0_off176_inb : ∀ (i : grid0.Coords) (v1 : BitVec 32) (v191 : BitVec 1) (k0_hw2 : k0_chk2 i v1 v191) (k0_t21 : Fin (k0_t21_loop v1).trips), ∀ (k0_h7 : k0_cond7 v191 = 1#1), ∀ a, (k0_off176 v1 k0_t21) a + S1x1024x4x128.size a ≤ S2x1024x4x128.size a := fun i v1 v191 k0_hw2 k0_t21 k0_h7 => k0_hw2.2.2.2.2.2.2.1 k0_t21 k0_h7
theorem k0_off177_inb : ∀ (i : grid0.Coords) (v1 : BitVec 32) (v191 : BitVec 1) (k0_hw2 : k0_chk2 i v1 v191) (k0_t21 : Fin (k0_t21_loop v1).trips), ∀ (k0_h7 : k0_cond7 v191 = 1#1), ∀ a, (k0_off177 i v1 k0_t21) a + S1x1024x4x128.size a ≤ S2x131072x4x128.size a := fun i v1 v191 k0_hw2 k0_t21 k0_h7 => k0_hw2.2.2.2.2.2.2.2.1 k0_t21 k0_h7
theorem k0_off177_wordsfp8e4m3 : ∀ (i : grid0.Coords) (v1 : BitVec 32) (v191 : BitVec 1) (k0_hw2 : k0_chk2 i v1 v191) (k0_t21 : Fin (k0_t21_loop v1).trips), ∀ (k0_h7 : k0_cond7 v191 = 1#1), (Rect.unit (s := S2x131072x4x128) (k0_off177 i v1 k0_t21) S1x1024x4x128.size (k0_off177_inb i v1 v191 k0_hw2 k0_t21 k0_h7)).WholeWords (EltTy.packing .fp8e4m3) := fun i v1 v191 k0_hw2 k0_t21 k0_h7 => k0_hw2.2.2.2.2.2.2.2.2.1 k0_t21 k0_h7 (k0_off177_inb i v1 v191 k0_hw2 k0_t21 k0_h7)
theorem k0_off176_wordsfp8e4m3 : ∀ (i : grid0.Coords) (v1 : BitVec 32) (v191 : BitVec 1) (k0_hw2 : k0_chk2 i v1 v191) (k0_t21 : Fin (k0_t21_loop v1).trips), ∀ (k0_h7 : k0_cond7 v191 = 1#1), (Rect.unit (s := S2x1024x4x128) (k0_off176 v1 k0_t21) S1x1024x4x128.size (k0_off176_inb i v1 v191 k0_hw2 k0_t21 k0_h7)).WholeWords (EltTy.packing .fp8e4m3) := fun i v1 v191 k0_hw2 k0_t21 k0_h7 => k0_hw2.2.2.2.2.2.2.2.2.2.1 k0_t21 k0_h7 (k0_off176_inb i v1 v191 k0_hw2 k0_t21 k0_h7)
theorem k0_off178_inb : ∀ (i : grid0.Coords) (v1 : BitVec 32) (v191 : BitVec 1) (k0_hw2 : k0_chk2 i v1 v191) (k0_t21 : Fin (k0_t21_loop v1).trips), ∀ (k0_h7 : k0_cond7 v191 = 1#1), ∀ a, (k0_off178 v1 k0_t21) a + S1x1x1024.size a ≤ S1x4x131072.size a := fun i v1 v191 k0_hw2 k0_t21 k0_h7 => k0_hw2.2.2.2.2.2.2.2.2.2.2.1 k0_t21 k0_h7
theorem k0_off179_inb : ∀ (i : grid0.Coords) (v1 : BitVec 32) (v191 : BitVec 1) (k0_hw2 : k0_chk2 i v1 v191) (k0_t21 : Fin (k0_t21_loop v1).trips), ∀ (k0_h7 : k0_cond7 v191 = 1#1), ∀ a, (k0_off179 v1 k0_t21) a + S1x1x1024.size a ≤ S1x4x131072.size a := fun i v1 v191 k0_hw2 k0_t21 k0_h7 => k0_hw2.2.2.2.2.2.2.2.2.2.2.2.1 k0_t21 k0_h7
theorem k0_off180_inb : ∀ (i : grid0.Coords) (v1 : BitVec 32) (v191 : BitVec 1) (k0_hw2 : k0_chk2 i v1 v191) (k0_t21 : Fin (k0_t21_loop v1).trips), ∀ (k0_h7 : k0_cond7 v191 = 1#1), ∀ a, (k0_off180 v1 k0_t21) a + S1x1x1024.size a ≤ S1x4x131072.size a := fun i v1 v191 k0_hw2 k0_t21 k0_h7 => k0_hw2.2.2.2.2.2.2.2.2.2.2.2.2.1 k0_t21 k0_h7
theorem k0_off181_inb : ∀ (i : grid0.Coords) (v1 : BitVec 32) (v191 : BitVec 1) (k0_hw2 : k0_chk2 i v1 v191) (k0_t21 : Fin (k0_t21_loop v1).trips), ∀ (k0_h7 : k0_cond7 v191 = 1#1), ∀ a, (k0_off181 v1 k0_t21) a + S1x1x1024.size a ≤ S1x4x131072.size a := fun i v1 v191 k0_hw2 k0_t21 k0_h7 => k0_hw2.2.2.2.2.2.2.2.2.2.2.2.2.2.1 k0_t21 k0_h7
theorem k0_t26_ok : ∀ (i : grid0.Coords) (v1 : BitVec 32) (v191 : BitVec 1) (k0_hw2 : k0_chk2 i v1 v191), ∀ (k0_h7 : k0_cond7 v191 = 1#1), (k0_t26_loop v1).OK := fun i v1 v191 k0_hw2 k0_h7 => k0_hw2.2.2.2.2.2.2.2.2.2.2.2.2.2.2.1 k0_h7
theorem k0_off214_inb : ∀ (i : grid0.Coords) (v1 : BitVec 32) (v191 : BitVec 1) (k0_hw2 : k0_chk2 i v1 v191) (k0_t26 : Fin (k0_t26_loop v1).trips), ∀ (k0_h7 : k0_cond7 v191 = 1#1), ∀ (k0_h17 : k0_cond17 v1 k0_t26 = 1#1), ∀ a, (k0_off214 v1 k0_t26) a + S1.size a ≤ S2.size a := fun i v1 v191 k0_hw2 k0_t26 k0_h7 k0_h17 => k0_hw2.2.2.2.2.2.2.2.2.2.2.2.2.2.2.2.1 k0_t26 k0_h7 k0_h17
theorem k0_off215_inb : ∀ (i : grid0.Coords) (v1 : BitVec 32) (v191 : BitVec 1) (k0_hw2 : k0_chk2 i v1 v191) (k0_t26 : Fin (k0_t26_loop v1).trips), ∀ (k0_h7 : k0_cond7 v191 = 1#1), ∀ (k0_h17 : k0_cond17 v1 k0_t26 = 1#1), ∀ a, (k0_off215 v1 k0_t26) a + S1x1024x4x128.size a ≤ S2x1024x4x128.size a := fun i v1 v191 k0_hw2 k0_t26 k0_h7 k0_h17 => k0_hw2.2.2.2.2.2.2.2.2.2.2.2.2.2.2.2.2.1 k0_t26 k0_h7 k0_h17
theorem k0_off216_inb : ∀ (i : grid0.Coords) (v1 : BitVec 32) (v191 : BitVec 1) (k0_hw2 : k0_chk2 i v1 v191) (k0_t26 : Fin (k0_t26_loop v1).trips), ∀ (k0_h7 : k0_cond7 v191 = 1#1), ∀ (k0_h17 : k0_cond17 v1 k0_t26 = 1#1), ∀ a, (k0_off216 i v1 k0_t26) a + S1x1024x4x128.size a ≤ S2x131072x4x128.size a := fun i v1 v191 k0_hw2 k0_t26 k0_h7 k0_h17 => k0_hw2.2.2.2.2.2.2.2.2.2.2.2.2.2.2.2.2.2.1 k0_t26 k0_h7 k0_h17
theorem k0_off216_wordsfp8e4m3 : ∀ (i : grid0.Coords) (v1 : BitVec 32) (v191 : BitVec 1) (k0_hw2 : k0_chk2 i v1 v191) (k0_t26 : Fin (k0_t26_loop v1).trips), ∀ (k0_h7 : k0_cond7 v191 = 1#1), ∀ (k0_h17 : k0_cond17 v1 k0_t26 = 1#1), (Rect.unit (s := S2x131072x4x128) (k0_off216 i v1 k0_t26) S1x1024x4x128.size (k0_off216_inb i v1 v191 k0_hw2 k0_t26 k0_h7 k0_h17)).WholeWords (EltTy.packing .fp8e4m3) := fun i v1 v191 k0_hw2 k0_t26 k0_h7 k0_h17 => k0_hw2.2.2.2.2.2.2.2.2.2.2.2.2.2.2.2.2.2.2.1 k0_t26 k0_h7 k0_h17 (k0_off216_inb i v1 v191 k0_hw2 k0_t26 k0_h7 k0_h17)
theorem k0_off215_wordsfp8e4m3 : ∀ (i : grid0.Coords) (v1 : BitVec 32) (v191 : BitVec 1) (k0_hw2 : k0_chk2 i v1 v191) (k0_t26 : Fin (k0_t26_loop v1).trips), ∀ (k0_h7 : k0_cond7 v191 = 1#1), ∀ (k0_h17 : k0_cond17 v1 k0_t26 = 1#1), (Rect.unit (s := S2x1024x4x128) (k0_off215 v1 k0_t26) S1x1024x4x128.size (k0_off215_inb i v1 v191 k0_hw2 k0_t26 k0_h7 k0_h17)).WholeWords (EltTy.packing .fp8e4m3) := fun i v1 v191 k0_hw2 k0_t26 k0_h7 k0_h17 => k0_hw2.2.2.2.2.2.2.2.2.2.2.2.2.2.2.2.2.2.2.2.1 k0_t26 k0_h7 k0_h17 (k0_off215_inb i v1 v191 k0_hw2 k0_t26 k0_h7 k0_h17)
theorem k0_off217_inb : ∀ (i : grid0.Coords) (v1 : BitVec 32) (v191 : BitVec 1) (k0_hw2 : k0_chk2 i v1 v191) (k0_t26 : Fin (k0_t26_loop v1).trips), ∀ (k0_h7 : k0_cond7 v191 = 1#1), ∀ a, (k0_off217 v1 k0_t26) a + S1.size a ≤ S2.size a := fun i v1 v191 k0_hw2 k0_t26 k0_h7 => k0_hw2.2.2.2.2.2.2.2.2.2.2.2.2.2.2.2.2.2.2.2.2.1 k0_t26 k0_h7
theorem k0_off218_inb : ∀ (i : grid0.Coords) (v1 : BitVec 32) (v191 : BitVec 1) (k0_hw2 : k0_chk2 i v1 v191) (k0_t26 : Fin (k0_t26_loop v1).trips), ∀ (k0_h7 : k0_cond7 v191 = 1#1), ∀ a, (k0_off218 v1 k0_t26) a + S1x1024x4x128.size a ≤ S2x1024x4x128.size a := fun i v1 v191 k0_hw2 k0_t26 k0_h7 => k0_hw2.2.2.2.2.2.2.2.2.2.2.2.2.2.2.2.2.2.2.2.2.2.1 k0_t26 k0_h7
theorem k0_off219_inb : ∀ (i : grid0.Coords) (v1 : BitVec 32) (v191 : BitVec 1) (k0_hw2 : k0_chk2 i v1 v191) (k0_t26 : Fin (k0_t26_loop v1).trips), ∀ (k0_h7 : k0_cond7 v191 = 1#1), ∀ a, (k0_off219 i v1 k0_t26) a + S1x1024x4x128.size a ≤ S2x131072x4x128.size a := fun i v1 v191 k0_hw2 k0_t26 k0_h7 => k0_hw2.2.2.2.2.2.2.2.2.2.2.2.2.2.2.2.2.2.2.2.2.2.2.1 k0_t26 k0_h7
theorem k0_off219_wordsfp8e4m3 : ∀ (i : grid0.Coords) (v1 : BitVec 32) (v191 : BitVec 1) (k0_hw2 : k0_chk2 i v1 v191) (k0_t26 : Fin (k0_t26_loop v1).trips), ∀ (k0_h7 : k0_cond7 v191 = 1#1), (Rect.unit (s := S2x131072x4x128) (k0_off219 i v1 k0_t26) S1x1024x4x128.size (k0_off219_inb i v1 v191 k0_hw2 k0_t26 k0_h7)).WholeWords (EltTy.packing .fp8e4m3) := fun i v1 v191 k0_hw2 k0_t26 k0_h7 => k0_hw2.2.2.2.2.2.2.2.2.2.2.2.2.2.2.2.2.2.2.2.2.2.2.2.1 k0_t26 k0_h7 (k0_off219_inb i v1 v191 k0_hw2 k0_t26 k0_h7)
theorem k0_off218_wordsfp8e4m3 : ∀ (i : grid0.Coords) (v1 : BitVec 32) (v191 : BitVec 1) (k0_hw2 : k0_chk2 i v1 v191) (k0_t26 : Fin (k0_t26_loop v1).trips), ∀ (k0_h7 : k0_cond7 v191 = 1#1), (Rect.unit (s := S2x1024x4x128) (k0_off218 v1 k0_t26) S1x1024x4x128.size (k0_off218_inb i v1 v191 k0_hw2 k0_t26 k0_h7)).WholeWords (EltTy.packing .fp8e4m3) := fun i v1 v191 k0_hw2 k0_t26 k0_h7 => k0_hw2.2.2.2.2.2.2.2.2.2.2.2.2.2.2.2.2.2.2.2.2.2.2.2.2.1 k0_t26 k0_h7 (k0_off218_inb i v1 v191 k0_hw2 k0_t26 k0_h7)
theorem k0_off220_inb : ∀ (i : grid0.Coords) (v1 : BitVec 32) (v191 : BitVec 1) (k0_hw2 : k0_chk2 i v1 v191) (k0_t26 : Fin (k0_t26_loop v1).trips), ∀ (k0_h7 : k0_cond7 v191 = 1#1), ∀ a, (k0_off220 v1 k0_t26) a + S1x1x1024.size a ≤ S1x4x131072.size a := fun i v1 v191 k0_hw2 k0_t26 k0_h7 => k0_hw2.2.2.2.2.2.2.2.2.2.2.2.2.2.2.2.2.2.2.2.2.2.2.2.2.2.1 k0_t26 k0_h7
theorem k0_off221_inb : ∀ (i : grid0.Coords) (v1 : BitVec 32) (v191 : BitVec 1) (k0_hw2 : k0_chk2 i v1 v191) (k0_t26 : Fin (k0_t26_loop v1).trips), ∀ (k0_h7 : k0_cond7 v191 = 1#1), ∀ a, (k0_off221 v1 k0_t26) a + S1x1x1024.size a ≤ S1x4x131072.size a := fun i v1 v191 k0_hw2 k0_t26 k0_h7 => k0_hw2.2.2.2.2.2.2.2.2.2.2.2.2.2.2.2.2.2.2.2.2.2.2.2.2.2.2.1 k0_t26 k0_h7
theorem k0_off222_inb : ∀ (i : grid0.Coords) (v1 : BitVec 32) (v191 : BitVec 1) (k0_hw2 : k0_chk2 i v1 v191) (k0_t26 : Fin (k0_t26_loop v1).trips), ∀ (k0_h7 : k0_cond7 v191 = 1#1), ∀ a, (k0_off222 v1 k0_t26) a + S1x1x1024.size a ≤ S1x4x131072.size a := fun i v1 v191 k0_hw2 k0_t26 k0_h7 => k0_hw2.2.2.2.2.2.2.2.2.2.2.2.2.2.2.2.2.2.2.2.2.2.2.2.2.2.2.2.1 k0_t26 k0_h7
theorem k0_off223_inb : ∀ (i : grid0.Coords) (v1 : BitVec 32) (v191 : BitVec 1) (k0_hw2 : k0_chk2 i v1 v191) (k0_t26 : Fin (k0_t26_loop v1).trips), ∀ (k0_h7 : k0_cond7 v191 = 1#1), ∀ a, (k0_off223 v1 k0_t26) a + S1x1x1024.size a ≤ S1x4x131072.size a := fun i v1 v191 k0_hw2 k0_t26 k0_h7 => k0_hw2.2.2.2.2.2.2.2.2.2.2.2.2.2.2.2.2.2.2.2.2.2.2.2.2.2.2.2.2 k0_t26 k0_h7

@[reducible] def k0_t27_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t28_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off224 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v603 : Index := Scalar.indexCast arg20
  let c0_i32_344 : BitVec 32 := 0#32
  let c1_i32_346 : BitVec 32 := 1#32
  let arg22 : BitVec 32 := Scf.iv c0_i32_344 c1_i32_346 k0_t28
  let c256_i32_349 : BitVec 32 := 256#32
  let v602 : BitVec 32 := Scalar.muli arg22 c256_i32_349
  let v604 : Index := Scalar.indexCast v602
  let c0_350 : Index := 0#32
  ![v603.toNat, v604.toNat, 0]
def k0_off225 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v607 : Index := Scalar.indexCast arg20
  let c0_351 : Index := 0#32
  let c0_352 : Index := 0#32
  ![v607.toNat, 0, 0]
def k0_off226 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t28
  let c256_i32 : BitVec 32 := 256#32
  let v601 : BitVec 32 := Scalar.muli arg22 c256_i32
  let v613 : Index := Scalar.indexCast v601
  ![v612.toNat, 0, v613.toNat]
def k0_off227 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v619 : Index := Scalar.indexCast arg20
  let c1_355 : Index := 1#32
  let c0_i32_344 : BitVec 32 := 0#32
  let c1_i32_346 : BitVec 32 := 1#32
  let arg22 : BitVec 32 := Scf.iv c0_i32_344 c1_i32_346 k0_t28
  let c256_i32 : BitVec 32 := 256#32
  let v601 : BitVec 32 := Scalar.muli arg22 c256_i32
  let v620 : Index := Scalar.indexCast v601
  ![v619.toNat, 1, v620.toNat]
def k0_off228 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v626 : Index := Scalar.indexCast arg20
  let c2_356 : Index := 2#32
  let c0_i32_344 : BitVec 32 := 0#32
  let c1_i32_346 : BitVec 32 := 1#32
  let arg22 : BitVec 32 := Scf.iv c0_i32_344 c1_i32_346 k0_t28
  let c256_i32 : BitVec 32 := 256#32
  let v601 : BitVec 32 := Scalar.muli arg22 c256_i32
  let v627 : Index := Scalar.indexCast v601
  ![v626.toNat, 2, v627.toNat]
def k0_off229 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v633 : Index := Scalar.indexCast arg20
  let c3_357 : Index := 3#32
  let c0_i32_344 : BitVec 32 := 0#32
  let c1_i32_346 : BitVec 32 := 1#32
  let arg22 : BitVec 32 := Scf.iv c0_i32_344 c1_i32_346 k0_t28
  let c256_i32 : BitVec 32 := 256#32
  let v601 : BitVec 32 := Scalar.muli arg22 c256_i32
  let v634 : Index := Scalar.indexCast v601
  ![v633.toNat, 3, v634.toNat]
def k0_off230 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v640 : Index := Scalar.indexCast arg20
  let c4_358 : Index := 4#32
  let c0_i32_344 : BitVec 32 := 0#32
  let c1_i32_346 : BitVec 32 := 1#32
  let arg22 : BitVec 32 := Scf.iv c0_i32_344 c1_i32_346 k0_t28
  let c256_i32 : BitVec 32 := 256#32
  let v601 : BitVec 32 := Scalar.muli arg22 c256_i32
  let v641 : Index := Scalar.indexCast v601
  ![v640.toNat, 4, v641.toNat]
def k0_off231 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v647 : Index := Scalar.indexCast arg20
  let c5_359 : Index := 5#32
  let c0_i32_344 : BitVec 32 := 0#32
  let c1_i32_346 : BitVec 32 := 1#32
  let arg22 : BitVec 32 := Scf.iv c0_i32_344 c1_i32_346 k0_t28
  let c256_i32 : BitVec 32 := 256#32
  let v601 : BitVec 32 := Scalar.muli arg22 c256_i32
  let v648 : Index := Scalar.indexCast v601
  ![v647.toNat, 5, v648.toNat]
def k0_off232 (k0_t27 : Fin k0_t27_loop.trips) (k0_t28 : Fin k0_t28_loop.trips) : Fin 3 → Nat :=
  let c0_i32_339 : BitVec 32 := 0#32
  let c1_i32_341 : BitVec 32 := 1#32
  let arg20 : BitVec 32 := Scf.iv c0_i32_339 c1_i32_341 k0_t27
  let v654 : Index := Scalar.indexCast arg20
  let c6_360 : Index := 6#32
  let c0_i32_344 : BitVec 32 := 0#32
  let c1_i32_346 : BitVec 32 := 1#32
  let arg22 : BitVec 32 := Scf.iv c0_i32_344 c1_i32_346 k0_t28
  let c256_i32 : BitVec 32 := 256#32
  let v601 : BitVec 32 := Scalar.muli arg22 c256_i32
  let v655 : Index := Scalar.indexCast v601
  ![v654.toNat, 6, v655.toNat]
def k0_off233 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v660 : Index := Scalar.indexCast arg20
  let c0_361 : Index := 0#32
  let c0_362 : Index := 0#32
  ![v660.toNat, 0, 0]
def k0_off234 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v677 : Index := Scalar.indexCast arg20
  let c32 : Index := 32#32
  let c0_367 : Index := 0#32
  ![v677.toNat, 32, 0]
def k0_off235 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v694 : Index := Scalar.indexCast arg20
  let c64 : Index := 64#32
  let c0_372 : Index := 0#32
  ![v694.toNat, 64, 0]
def k0_off236 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v711 : Index := Scalar.indexCast arg20
  let c96 : Index := 96#32
  let c0_377 : Index := 0#32
  ![v711.toNat, 96, 0]
def k0_off237 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v728 : Index := Scalar.indexCast arg20
  let c128 : Index := 128#32
  let c0_382 : Index := 0#32
  ![v728.toNat, 128, 0]
def k0_off238 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v745 : Index := Scalar.indexCast arg20
  let c160 : Index := 160#32
  let c0_387 : Index := 0#32
  ![v745.toNat, 160, 0]
def k0_off239 (k0_t27 : Fin k0_t27_loop.trips) : Fin 3 → Nat :=
  let c0_i32_339 : BitVec 32 := 0#32
  let c1_i32_341 : BitVec 32 := 1#32
  let arg20 : BitVec 32 := Scf.iv c0_i32_339 c1_i32_341 k0_t27
  let v762 : Index := Scalar.indexCast arg20
  let c192 : Index := 192#32
  let c0_392 : Index := 0#32
  ![v762.toNat, 192, 0]
@[reducible] def k0_t29_loop : Scf.Loop 32 :=
  let c0_i32_339 : BitVec 32 := 0#32
  let c4_i32_340 : BitVec 32 := 4#32
  let v597 : BitVec 32 := Scalar.addi c0_i32_339 c4_i32_340
  let c1_i32_341 : BitVec 32 := 1#32
  ⟨c0_i32_339, v597, c1_i32_341⟩
@[reducible] def k0_t30_loop : Scf.Loop 32 :=
  let c0_i32_344 : BitVec 32 := 0#32
  let c4_i32_345 : BitVec 32 := 4#32
  let v599 : BitVec 32 := Scalar.addi c0_i32_344 c4_i32_345
  let c1_i32_346 : BitVec 32 := 1#32
  ⟨c0_i32_344, v599, c1_i32_346⟩
def k0_off240 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v603 : Index := Scalar.indexCast arg20
  let c0_i32_344 : BitVec 32 := 0#32
  let c1_i32_346 : BitVec 32 := 1#32
  let arg22 : BitVec 32 := Scf.iv c0_i32_344 c1_i32_346 k0_t30
  let c256_i32_349 : BitVec 32 := 256#32
  let v602 : BitVec 32 := Scalar.muli arg22 c256_i32_349
  let v604 : Index := Scalar.indexCast v602
  let c0_350 : Index := 0#32
  ![v603.toNat, v604.toNat, 0]
def k0_off241 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v607 : Index := Scalar.indexCast arg20
  let c0_351 : Index := 0#32
  let c0_352 : Index := 0#32
  ![v607.toNat, 0, 0]
def k0_off242 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v612 : Index := Scalar.indexCast arg20
  let c0_354 : Index := 0#32
  let c0_i32_344 : BitVec 32 := 0#32
  let c1_i32_346 : BitVec 32 := 1#32
  let arg22 : BitVec 32 := Scf.iv c0_i32_344 c1_i32_346 k0_t30
  let c256_i32 : BitVec 32 := 256#32
  let v601 : BitVec 32 := Scalar.muli arg22 c256_i32
  let v613 : Index := Scalar.indexCast v601
  ![v612.toNat, 0, v613.toNat]
def k0_off243 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v631 : Index := Scalar.indexCast arg20
  let c1_358 : Index := 1#32
  let c0_i32_344 : BitVec 32 := 0#32
  let c1_i32_346 : BitVec 32 := 1#32
  let arg22 : BitVec 32 := Scf.iv c0_i32_344 c1_i32_346 k0_t30
  let c256_i32 : BitVec 32 := 256#32
  let v601 : BitVec 32 := Scalar.muli arg22 c256_i32
  let v632 : Index := Scalar.indexCast v601
  ![v631.toNat, 1, v632.toNat]
def k0_off244 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v650 : Index := Scalar.indexCast arg20
  let c2_362 : Index := 2#32
  let c0_i32_344 : BitVec 32 := 0#32
  let c1_i32_346 : BitVec 32 := 1#32
  let arg22 : BitVec 32 := Scf.iv c0_i32_344 c1_i32_346 k0_t30
  let c256_i32 : BitVec 32 := 256#32
  let v601 : BitVec 32 := Scalar.muli arg22 c256_i32
  let v651 : Index := Scalar.indexCast v601
  ![v650.toNat, 2, v651.toNat]
def k0_off245 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v669 : Index := Scalar.indexCast arg20
  let c3_366 : Index := 3#32
  let c0_i32_344 : BitVec 32 := 0#32
  let c1_i32_346 : BitVec 32 := 1#32
  let arg22 : BitVec 32 := Scf.iv c0_i32_344 c1_i32_346 k0_t30
  let c256_i32 : BitVec 32 := 256#32
  let v601 : BitVec 32 := Scalar.muli arg22 c256_i32
  let v670 : Index := Scalar.indexCast v601
  ![v669.toNat, 3, v670.toNat]
def k0_off246 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v688 : Index := Scalar.indexCast arg20
  let c4_370 : Index := 4#32
  let c0_i32_344 : BitVec 32 := 0#32
  let c1_i32_346 : BitVec 32 := 1#32
  let arg22 : BitVec 32 := Scf.iv c0_i32_344 c1_i32_346 k0_t30
  let c256_i32 : BitVec 32 := 256#32
  let v601 : BitVec 32 := Scalar.muli arg22 c256_i32
  let v689 : Index := Scalar.indexCast v601
  ![v688.toNat, 4, v689.toNat]
def k0_off247 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v707 : Index := Scalar.indexCast arg20
  let c5_374 : Index := 5#32
  let c0_i32_344 : BitVec 32 := 0#32
  let c1_i32_346 : BitVec 32 := 1#32
  let arg22 : BitVec 32 := Scf.iv c0_i32_344 c1_i32_346 k0_t30
  let c256_i32 : BitVec 32 := 256#32
  let v601 : BitVec 32 := Scalar.muli arg22 c256_i32
  let v708 : Index := Scalar.indexCast v601
  ![v707.toNat, 5, v708.toNat]
def k0_off248 (k0_t29 : Fin k0_t29_loop.trips) (k0_t30 : Fin k0_t30_loop.trips) : Fin 3 → Nat :=
  let c0_i32_339 : BitVec 32 := 0#32
  let c1_i32_341 : BitVec 32 := 1#32
  let arg20 : BitVec 32 := Scf.iv c0_i32_339 c1_i32_341 k0_t29
  let v726 : Index := Scalar.indexCast arg20
  let c6_378 : Index := 6#32
  let c0_i32_344 : BitVec 32 := 0#32
  let c1_i32_346 : BitVec 32 := 1#32
  let arg22 : BitVec 32 := Scf.iv c0_i32_344 c1_i32_346 k0_t30
  let c256_i32 : BitVec 32 := 256#32
  let v601 : BitVec 32 := Scalar.muli arg22 c256_i32
  let v727 : Index := Scalar.indexCast v601
  ![v726.toNat, 6, v727.toNat]
def k0_off249 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v744 : Index := Scalar.indexCast arg20
  let c0_382 : Index := 0#32
  let c0_383 : Index := 0#32
  ![v744.toNat, 0, 0]
def k0_off250 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v761 : Index := Scalar.indexCast arg20
  let c32 : Index := 32#32
  let c0_388 : Index := 0#32
  ![v761.toNat, 32, 0]
def k0_off251 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v778 : Index := Scalar.indexCast arg20
  let c64 : Index := 64#32
  let c0_393 : Index := 0#32
  ![v778.toNat, 64, 0]
def k0_off252 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v795 : Index := Scalar.indexCast arg20
  let c96 : Index := 96#32
  let c0_398 : Index := 0#32
  ![v795.toNat, 96, 0]
def k0_off253 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v812 : Index := Scalar.indexCast arg20
  let c128 : Index := 128#32
  let c0_403 : Index := 0#32
  ![v812.toNat, 128, 0]
def k0_off254 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v829 : Index := Scalar.indexCast arg20
  let c160 : Index := 160#32
  let c0_408 : Index := 0#32
  ![v829.toNat, 160, 0]
def k0_off255 (k0_t29 : Fin k0_t29_loop.trips) : Fin 3 → Nat :=
  let c0_i32_339 : BitVec 32 := 0#32
  let c1_i32_341 : BitVec 32 := 1#32
  let arg20 : BitVec 32 := Scf.iv c0_i32_339 c1_i32_341 k0_t29
  let v846 : Index := Scalar.indexCast arg20
  let c192 : Index := 192#32
  let c0_413 : Index := 0#32
  ![v846.toNat, 192, 0]
def k0_off256 (i : grid0.Coords) : Fin 4 → Nat :=
  let arg0 : BitVec 32 := BitVec.ofNat 32 (i 0).val
  let c0_i32_111 : BitVec 32 := 0#32
  let c0_i32_112 : BitVec 32 := 0#32
  let c0_i32_113 : BitVec 32 := 0#32
  ![arg0.toNat, 0, 0, 0]
@[reducible] def k0_t31_loop (v1 : BitVec 32) : Scf.Loop 32 :=
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_117 : BitVec 32 := 1#32
  ⟨c0_i32_114, v246, c1_i32_117⟩
def k0_off257 (v1 : BitVec 32) (k0_t31 : Fin (k0_t31_loop v1).trips) : Fin 1 → Nat :=
  let c1_i32_287 : BitVec 32 := 1#32
  let c0_i32_114 : BitVec 32 := 0#32
  let c1_i32_117 : BitVec 32 := 1#32
  let arg18 : BitVec 32 := Scf.iv c0_i32_114 c1_i32_117 k0_t31
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  ![v544.toNat]
def k0_cond20 (v1 : BitVec 32) (k0_t31 : Fin (k0_t31_loop v1).trips) : BitVec 1 :=
  let c0_i32_114 : BitVec 32 := 0#32
  let c1_i32_117 : BitVec 32 := 1#32
  let arg18 : BitVec 32 := Scf.iv c0_i32_114 c1_i32_117 k0_t31
  let c1_i32_142 : BitVec 32 := 1#32
  let v276 : BitVec 32 := Scalar.addi arg18 c1_i32_142
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v277 : BitVec 1 := Scalar.cmpi .slt v276 v21
  let v278 : BitVec 32 := Scalar.extui v277
  let c0_i32_143 : BitVec 32 := 0#32
  let v279 : BitVec 1 := Scalar.cmpi .ne v278 c0_i32_143
  v279

def k0_off258 (v1 : BitVec 32) (k0_t31 : Fin (k0_t31_loop v1).trips) : Fin 4 → Nat :=
  let c1_i32_287 : BitVec 32 := 1#32
  let c0_i32_114 : BitVec 32 := 0#32
  let c1_i32_117 : BitVec 32 := 1#32
  let arg18 : BitVec 32 := Scf.iv c0_i32_114 c1_i32_117 k0_t31
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  let c0_i32_289 : BitVec 32 := 0#32
  let c0_i32_290 : BitVec 32 := 0#32
  let c0_i32_291 : BitVec 32 := 0#32
  ![v544.toNat, 0, 0, 0]
def k0_off259 (i : grid0.Coords) (v1 : BitVec 32) (k0_t31 : Fin (k0_t31_loop v1).trips) : Fin 4 → Nat :=
  let arg0 : BitVec 32 := BitVec.ofNat 32 (i 0).val
  let c0_i32_114 : BitVec 32 := 0#32
  let c1_i32_117 : BitVec 32 := 1#32
  let arg18 : BitVec 32 := Scf.iv c0_i32_114 c1_i32_117 k0_t31
  let c1_i32_286 : BitVec 32 := 1#32
  let v543 : BitVec 32 := Scalar.addi arg18 c1_i32_286
  let c1024_i32_288 : BitVec 32 := 1024#32
  let v545 : BitVec 32 := Scalar.muli v543 c1024_i32_288
  let c0_i32_292 : BitVec 32 := 0#32
  let c0_i32_293 : BitVec 32 := 0#32
  ![arg0.toNat, v545.toNat, 0, 0]
def k0_off260 (v1 : BitVec 32) (k0_t31 : Fin (k0_t31_loop v1).trips) : Fin 1 → Nat :=
  let c0_i32_114 : BitVec 32 := 0#32
  let c1_i32_117 : BitVec 32 := 1#32
  let arg18 : BitVec 32 := Scf.iv c0_i32_114 c1_i32_117 k0_t31
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  ![v275.toNat]
def k0_off261 (v1 : BitVec 32) (k0_t31 : Fin (k0_t31_loop v1).trips) : Fin 4 → Nat :=
  let c0_i32_114 : BitVec 32 := 0#32
  let c1_i32_117 : BitVec 32 := 1#32
  let arg18 : BitVec 32 := Scf.iv c0_i32_114 c1_i32_117 k0_t31
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let c0_i32_145 : BitVec 32 := 0#32
  let c0_i32_146 : BitVec 32 := 0#32
  let c0_i32_147 : BitVec 32 := 0#32
  ![v275.toNat, 0, 0, 0]
def k0_off262 (i : grid0.Coords) (v1 : BitVec 32) (k0_t31 : Fin (k0_t31_loop v1).trips) : Fin 4 → Nat :=
  let arg0 : BitVec 32 := BitVec.ofNat 32 (i 0).val
  let c0_i32_114 : BitVec 32 := 0#32
  let c1_i32_117 : BitVec 32 := 1#32
  let arg18 : BitVec 32 := Scf.iv c0_i32_114 c1_i32_117 k0_t31
  let c1024_i32_144 : BitVec 32 := 1024#32
  let v280 : BitVec 32 := Scalar.muli arg18 c1024_i32_144
  let c0_i32_148 : BitVec 32 := 0#32
  let c0_i32_149 : BitVec 32 := 0#32
  ![arg0.toNat, v280.toNat, 0, 0]
def k0_off263 (v1 : BitVec 32) (k0_t31 : Fin (k0_t31_loop v1).trips) : Fin 3 → Nat :=
  let c0_184 : Index := 0#32
  let c0_185 : Index := 0#32
  let c0_i32_114 : BitVec 32 := 0#32
  let c1_i32_117 : BitVec 32 := 1#32
  let arg18 : BitVec 32 := Scf.iv c0_i32_114 c1_i32_117 k0_t31
  let c1024_i32_183 : BitVec 32 := 1024#32
  let v315 : BitVec 32 := Scalar.muli arg18 c1024_i32_183
  let v316 : Index := Scalar.indexCast v315
  ![0, 0, v316.toNat]
def k0_off264 (v1 : BitVec 32) (k0_t31 : Fin (k0_t31_loop v1).trips) : Fin 3 → Nat :=
  let c0_206 : Index := 0#32
  let c1_207 : Index := 1#32
  let c0_i32_114 : BitVec 32 := 0#32
  let c1_i32_117 : BitVec 32 := 1#32
  let arg18 : BitVec 32 := Scf.iv c0_i32_114 c1_i32_117 k0_t31
  let c1024_i32_205 : BitVec 32 := 1024#32
  let v370 : BitVec 32 := Scalar.muli arg18 c1024_i32_205
  let v371 : Index := Scalar.indexCast v370
  ![0, 1, v371.toNat]
def k0_off265 (v1 : BitVec 32) (k0_t31 : Fin (k0_t31_loop v1).trips) : Fin 3 → Nat :=
  let c0_231 : Index := 0#32
  let c2_232 : Index := 2#32
  let c0_i32_114 : BitVec 32 := 0#32
  let c1_i32_117 : BitVec 32 := 1#32
  let arg18 : BitVec 32 := Scf.iv c0_i32_114 c1_i32_117 k0_t31
  let c1024_i32_230 : BitVec 32 := 1024#32
  let v425 : BitVec 32 := Scalar.muli arg18 c1024_i32_230
  let v426 : Index := Scalar.indexCast v425
  ![0, 2, v426.toNat]
def k0_off266 (v1 : BitVec 32) (k0_t31 : Fin (k0_t31_loop v1).trips) : Fin 3 → Nat :=
  let c0_256 : Index := 0#32
  let c3_257 : Index := 3#32
  let c0_i32_114 : BitVec 32 := 0#32
  let c1_i32_117 : BitVec 32 := 1#32
  let arg18 : BitVec 32 := Scf.iv c0_i32_114 c1_i32_117 k0_t31
  let c1024_i32_255 : BitVec 32 := 1024#32
  let v480 : BitVec 32 := Scalar.muli arg18 c1024_i32_255
  let v481 : Index := Scalar.indexCast v480
  ![0, 3, v481.toNat]
@[reducible] def k0_t32_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t33_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off267 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v549 : Index := Scalar.indexCast arg20
  let c0_i32_292 : BitVec 32 := 0#32
  let c1_i32_294 : BitVec 32 := 1#32
  let arg22 : BitVec 32 := Scf.iv c0_i32_292 c1_i32_294 k0_t33
  let c256_i32_297 : BitVec 32 := 256#32
  let v548 : BitVec 32 := Scalar.muli arg22 c256_i32_297
  let v550 : Index := Scalar.indexCast v548
  let c0_298 : Index := 0#32
  ![v549.toNat, v550.toNat, 0]
def k0_off268 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v553 : Index := Scalar.indexCast arg20
  let c0_299 : Index := 0#32
  let c0_300 : Index := 0#32
  ![v553.toNat, 0, 0]
def k0_off269 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t33
  let c256_i32 : BitVec 32 := 256#32
  let v547 : BitVec 32 := Scalar.muli arg22 c256_i32
  let v559 : Index := Scalar.indexCast v547
  ![v558.toNat, 0, v559.toNat]
def k0_off270 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v565 : Index := Scalar.indexCast arg20
  let c1_303 : Index := 1#32
  let c0_i32_292 : BitVec 32 := 0#32
  let c1_i32_294 : BitVec 32 := 1#32
  let arg22 : BitVec 32 := Scf.iv c0_i32_292 c1_i32_294 k0_t33
  let c256_i32 : BitVec 32 := 256#32
  let v547 : BitVec 32 := Scalar.muli arg22 c256_i32
  let v566 : Index := Scalar.indexCast v547
  ![v565.toNat, 1, v566.toNat]
def k0_off271 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v572 : Index := Scalar.indexCast arg20
  let c2_304 : Index := 2#32
  let c0_i32_292 : BitVec 32 := 0#32
  let c1_i32_294 : BitVec 32 := 1#32
  let arg22 : BitVec 32 := Scf.iv c0_i32_292 c1_i32_294 k0_t33
  let c256_i32 : BitVec 32 := 256#32
  let v547 : BitVec 32 := Scalar.muli arg22 c256_i32
  let v573 : Index := Scalar.indexCast v547
  ![v572.toNat, 2, v573.toNat]
def k0_off272 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v579 : Index := Scalar.indexCast arg20
  let c3_305 : Index := 3#32
  let c0_i32_292 : BitVec 32 := 0#32
  let c1_i32_294 : BitVec 32 := 1#32
  let arg22 : BitVec 32 := Scf.iv c0_i32_292 c1_i32_294 k0_t33
  let c256_i32 : BitVec 32 := 256#32
  let v547 : BitVec 32 := Scalar.muli arg22 c256_i32
  let v580 : Index := Scalar.indexCast v547
  ![v579.toNat, 3, v580.toNat]
def k0_off273 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v586 : Index := Scalar.indexCast arg20
  let c4_306 : Index := 4#32
  let c0_i32_292 : BitVec 32 := 0#32
  let c1_i32_294 : BitVec 32 := 1#32
  let arg22 : BitVec 32 := Scf.iv c0_i32_292 c1_i32_294 k0_t33
  let c256_i32 : BitVec 32 := 256#32
  let v547 : BitVec 32 := Scalar.muli arg22 c256_i32
  let v587 : Index := Scalar.indexCast v547
  ![v586.toNat, 4, v587.toNat]
def k0_off274 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v593 : Index := Scalar.indexCast arg20
  let c5_307 : Index := 5#32
  let c0_i32_292 : BitVec 32 := 0#32
  let c1_i32_294 : BitVec 32 := 1#32
  let arg22 : BitVec 32 := Scf.iv c0_i32_292 c1_i32_294 k0_t33
  let c256_i32 : BitVec 32 := 256#32
  let v547 : BitVec 32 := Scalar.muli arg22 c256_i32
  let v594 : Index := Scalar.indexCast v547
  ![v593.toNat, 5, v594.toNat]
def k0_off275 (k0_t32 : Fin k0_t32_loop.trips) (k0_t33 : Fin k0_t33_loop.trips) : Fin 3 → Nat :=
  let c0_i32_287 : BitVec 32 := 0#32
  let c1_i32_289 : BitVec 32 := 1#32
  let arg20 : BitVec 32 := Scf.iv c0_i32_287 c1_i32_289 k0_t32
  let v600 : Index := Scalar.indexCast arg20
  let c6_308 : Index := 6#32
  let c0_i32_292 : BitVec 32 := 0#32
  let c1_i32_294 : BitVec 32 := 1#32
  let arg22 : BitVec 32 := Scf.iv c0_i32_292 c1_i32_294 k0_t33
  let c256_i32 : BitVec 32 := 256#32
  let v547 : BitVec 32 := Scalar.muli arg22 c256_i32
  let v601 : Index := Scalar.indexCast v547
  ![v600.toNat, 6, v601.toNat]
def k0_off276 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v606 : Index := Scalar.indexCast arg20
  let c0_309 : Index := 0#32
  let c0_310 : Index := 0#32
  ![v606.toNat, 0, 0]
def k0_off277 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v619 : Index := Scalar.indexCast arg20
  let c32 : Index := 32#32
  let c0_311 : Index := 0#32
  ![v619.toNat, 32, 0]
def k0_off278 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v633 : Index := Scalar.indexCast arg20
  let c64 : Index := 64#32
  let c0_312 : Index := 0#32
  ![v633.toNat, 64, 0]
def k0_off279 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v647 : Index := Scalar.indexCast arg20
  let c96 : Index := 96#32
  let c0_313 : Index := 0#32
  ![v647.toNat, 96, 0]
def k0_off280 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v661 : Index := Scalar.indexCast arg20
  let c128 : Index := 128#32
  let c0_314 : Index := 0#32
  ![v661.toNat, 128, 0]
def k0_off281 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v675 : Index := Scalar.indexCast arg20
  let c160 : Index := 160#32
  let c0_315 : Index := 0#32
  ![v675.toNat, 160, 0]
def k0_off282 (k0_t32 : Fin k0_t32_loop.trips) : Fin 3 → Nat :=
  let c0_i32_287 : BitVec 32 := 0#32
  let c1_i32_289 : BitVec 32 := 1#32
  let arg20 : BitVec 32 := Scf.iv c0_i32_287 c1_i32_289 k0_t32
  let v689 : Index := Scalar.indexCast arg20
  let c192 : Index := 192#32
  let c0_316 : Index := 0#32
  ![v689.toNat, 192, 0]
def k0_off283 (v1 : BitVec 32) (k0_t31 : Fin (k0_t31_loop v1).trips) (k0_t32 : Fin k0_t32_loop.trips) (k0_t33 : Fin k0_t33_loop.trips) : Fin 3 → Nat :=
  let c0_320 : Index := 0#32
  let c0_i32_287 : BitVec 32 := 0#32
  let c1_i32_289 : BitVec 32 := 1#32
  let arg20 : BitVec 32 := Scf.iv c0_i32_287 c1_i32_289 k0_t32
  let v708 : Index := Scalar.indexCast arg20
  let c0_i32_114 : BitVec 32 := 0#32
  let c1_i32_117 : BitVec 32 := 1#32
  let arg18 : BitVec 32 := Scf.iv c0_i32_114 c1_i32_117 k0_t31
  let c1024_i32_318 : BitVec 32 := 1024#32
  let v705 : BitVec 32 := Scalar.muli arg18 c1024_i32_318
  let c0_i32_292 : BitVec 32 := 0#32
  let c1_i32_294 : BitVec 32 := 1#32
  let arg22 : BitVec 32 := Scf.iv c0_i32_292 c1_i32_294 k0_t33
  let c256_i32_319 : BitVec 32 := 256#32
  let v706 : BitVec 32 := Scalar.muli arg22 c256_i32_319
  let v707 : BitVec 32 := Scalar.addi v705 v706
  let v709 : Index := Scalar.indexCast v707
  ![0, v708.toNat, v709.toNat]
def k0_cond21 (v1 : BitVec 32) (k0_t31 : Fin (k0_t31_loop v1).trips) : BitVec 1 :=
  let c0_i32_114 : BitVec 32 := 0#32
  let c1_i32_117 : BitVec 32 := 1#32
  let arg18 : BitVec 32 := Scf.iv c0_i32_114 c1_i32_117 k0_t31
  let c1_i32_280 : BitVec 32 := 1#32
  let v535 : BitVec 32 := Scalar.addi arg18 c1_i32_280
  let c1024_i32_281 : BitVec 32 := 1024#32
  let v536 : BitVec 32 := Scalar.muli v535 c1024_i32_281
  let c32_i32 : BitVec 32 := 32#32
  let v2 : BitVec 32 := Scalar.subi v1 c32_i32
  let v537 : BitVec 1 := Scalar.cmpi .sle v536 v2
  let v538 : BitVec 32 := Scalar.extui v537
  let c0_i32_282 : BitVec 32 := 0#32
  let v539 : BitVec 1 := Scalar.cmpi .ne v538 c0_i32_282
  v539

@[reducible] def k0_t34_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t35_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off284 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v549 : Index := Scalar.indexCast arg20
  let c0_i32_292 : BitVec 32 := 0#32
  let c1_i32_294 : BitVec 32 := 1#32
  let arg22 : BitVec 32 := Scf.iv c0_i32_292 c1_i32_294 k0_t35
  let c256_i32_297 : BitVec 32 := 256#32
  let v548 : BitVec 32 := Scalar.muli arg22 c256_i32_297
  let v550 : Index := Scalar.indexCast v548
  let c0_298 : Index := 0#32
  ![v549.toNat, v550.toNat, 0]
def k0_off285 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v553 : Index := Scalar.indexCast arg20
  let c0_299 : Index := 0#32
  let c0_300 : Index := 0#32
  ![v553.toNat, 0, 0]
def k0_off286 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t35
  let c256_i32 : BitVec 32 := 256#32
  let v547 : BitVec 32 := Scalar.muli arg22 c256_i32
  let v559 : Index := Scalar.indexCast v547
  ![v558.toNat, 0, v559.toNat]
def k0_off287 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v577 : Index := Scalar.indexCast arg20
  let c1_306 : Index := 1#32
  let c0_i32_292 : BitVec 32 := 0#32
  let c1_i32_294 : BitVec 32 := 1#32
  let arg22 : BitVec 32 := Scf.iv c0_i32_292 c1_i32_294 k0_t35
  let c256_i32 : BitVec 32 := 256#32
  let v547 : BitVec 32 := Scalar.muli arg22 c256_i32
  let v578 : Index := Scalar.indexCast v547
  ![v577.toNat, 1, v578.toNat]
def k0_off288 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v596 : Index := Scalar.indexCast arg20
  let c2_310 : Index := 2#32
  let c0_i32_292 : BitVec 32 := 0#32
  let c1_i32_294 : BitVec 32 := 1#32
  let arg22 : BitVec 32 := Scf.iv c0_i32_292 c1_i32_294 k0_t35
  let c256_i32 : BitVec 32 := 256#32
  let v547 : BitVec 32 := Scalar.muli arg22 c256_i32
  let v597 : Index := Scalar.indexCast v547
  ![v596.toNat, 2, v597.toNat]
def k0_off289 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v615 : Index := Scalar.indexCast arg20
  let c3_314 : Index := 3#32
  let c0_i32_292 : BitVec 32 := 0#32
  let c1_i32_294 : BitVec 32 := 1#32
  let arg22 : BitVec 32 := Scf.iv c0_i32_292 c1_i32_294 k0_t35
  let c256_i32 : BitVec 32 := 256#32
  let v547 : BitVec 32 := Scalar.muli arg22 c256_i32
  let v616 : Index := Scalar.indexCast v547
  ![v615.toNat, 3, v616.toNat]
def k0_off290 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v634 : Index := Scalar.indexCast arg20
  let c4_318 : Index := 4#32
  let c0_i32_292 : BitVec 32 := 0#32
  let c1_i32_294 : BitVec 32 := 1#32
  let arg22 : BitVec 32 := Scf.iv c0_i32_292 c1_i32_294 k0_t35
  let c256_i32 : BitVec 32 := 256#32
  let v547 : BitVec 32 := Scalar.muli arg22 c256_i32
  let v635 : Index := Scalar.indexCast v547
  ![v634.toNat, 4, v635.toNat]
def k0_off291 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v653 : Index := Scalar.indexCast arg20
  let c5_322 : Index := 5#32
  let c0_i32_292 : BitVec 32 := 0#32
  let c1_i32_294 : BitVec 32 := 1#32
  let arg22 : BitVec 32 := Scf.iv c0_i32_292 c1_i32_294 k0_t35
  let c256_i32 : BitVec 32 := 256#32
  let v547 : BitVec 32 := Scalar.muli arg22 c256_i32
  let v654 : Index := Scalar.indexCast v547
  ![v653.toNat, 5, v654.toNat]
def k0_off292 (k0_t34 : Fin k0_t34_loop.trips) (k0_t35 : Fin k0_t35_loop.trips) : Fin 3 → Nat :=
  let c0_i32_287 : BitVec 32 := 0#32
  let c1_i32_289 : BitVec 32 := 1#32
  let arg20 : BitVec 32 := Scf.iv c0_i32_287 c1_i32_289 k0_t34
  let v672 : Index := Scalar.indexCast arg20
  let c6_326 : Index := 6#32
  let c0_i32_292 : BitVec 32 := 0#32
  let c1_i32_294 : BitVec 32 := 1#32
  let arg22 : BitVec 32 := Scf.iv c0_i32_292 c1_i32_294 k0_t35
  let c256_i32 : BitVec 32 := 256#32
  let v547 : BitVec 32 := Scalar.muli arg22 c256_i32
  let v673 : Index := Scalar.indexCast v547
  ![v672.toNat, 6, v673.toNat]
def k0_off293 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v690 : Index := Scalar.indexCast arg20
  let c0_330 : Index := 0#32
  let c0_331 : Index := 0#32
  ![v690.toNat, 0, 0]
def k0_off294 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v703 : Index := Scalar.indexCast arg20
  let c32 : Index := 32#32
  let c0_332 : Index := 0#32
  ![v703.toNat, 32, 0]
def k0_off295 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v717 : Index := Scalar.indexCast arg20
  let c64 : Index := 64#32
  let c0_333 : Index := 0#32
  ![v717.toNat, 64, 0]
def k0_off296 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v731 : Index := Scalar.indexCast arg20
  let c96 : Index := 96#32
  let c0_334 : Index := 0#32
  ![v731.toNat, 96, 0]
def k0_off297 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v745 : Index := Scalar.indexCast arg20
  let c128 : Index := 128#32
  let c0_335 : Index := 0#32
  ![v745.toNat, 128, 0]
def k0_off298 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v759 : Index := Scalar.indexCast arg20
  let c160 : Index := 160#32
  let c0_336 : Index := 0#32
  ![v759.toNat, 160, 0]
def k0_off299 (k0_t34 : Fin k0_t34_loop.trips) : Fin 3 → Nat :=
  let c0_i32_287 : BitVec 32 := 0#32
  let c1_i32_289 : BitVec 32 := 1#32
  let arg20 : BitVec 32 := Scf.iv c0_i32_287 c1_i32_289 k0_t34
  let v773 : Index := Scalar.indexCast arg20
  let c192 : Index := 192#32
  let c0_337 : Index := 0#32
  ![v773.toNat, 192, 0]
def k0_off300 (v1 : BitVec 32) (k0_t31 : Fin (k0_t31_loop v1).trips) (k0_t34 : Fin k0_t34_loop.trips) (k0_t35 : Fin k0_t35_loop.trips) : Fin 3 → Nat :=
  let c0_341 : Index := 0#32
  let c0_i32_287 : BitVec 32 := 0#32
  let c1_i32_289 : BitVec 32 := 1#32
  let arg20 : BitVec 32 := Scf.iv c0_i32_287 c1_i32_289 k0_t34
  let v792 : Index := Scalar.indexCast arg20
  let c0_i32_114 : BitVec 32 := 0#32
  let c1_i32_117 : BitVec 32 := 1#32
  let arg18 : BitVec 32 := Scf.iv c0_i32_114 c1_i32_117 k0_t31
  let c1024_i32_339 : BitVec 32 := 1024#32
  let v789 : BitVec 32 := Scalar.muli arg18 c1024_i32_339
  let c0_i32_292 : BitVec 32 := 0#32
  let c1_i32_294 : BitVec 32 := 1#32
  let arg22 : BitVec 32 := Scf.iv c0_i32_292 c1_i32_294 k0_t35
  let c256_i32_340 : BitVec 32 := 256#32
  let v790 : BitVec 32 := Scalar.muli arg22 c256_i32_340
  let v791 : BitVec 32 := Scalar.addi v789 v790
  let v793 : Index := Scalar.indexCast v791
  ![0, v792.toNat, v793.toNat]
def k0_cond22 (v1 : BitVec 32) (k0_t31 : Fin (k0_t31_loop v1).trips) : BitVec 1 :=
  let c0_i32_114 : BitVec 32 := 0#32
  let c1_i32_117 : BitVec 32 := 1#32
  let arg18 : BitVec 32 := Scf.iv c0_i32_114 c1_i32_117 k0_t31
  let c1_i32_280 : BitVec 32 := 1#32
  let v535 : BitVec 32 := Scalar.addi arg18 c1_i32_280
  let c1024_i32_281 : BitVec 32 := 1024#32
  let v536 : BitVec 32 := Scalar.muli v535 c1024_i32_281
  let c32_i32 : BitVec 32 := 32#32
  let v2 : BitVec 32 := Scalar.subi v1 c32_i32
  let v537 : BitVec 1 := Scalar.cmpi .sle v536 v2
  let true_283 : BitVec 1 := 1#1
  let v540 : BitVec 1 := Scalar.xori v537 true_283
  let v541 : BitVec 32 := Scalar.extui v540
  let c0_i32_284 : BitVec 32 := 0#32
  let v542 : BitVec 1 := Scalar.cmpi .ne v541 c0_i32_284
  v542

@[reducible] def k0_t36_loop (v1 : BitVec 32) : Scf.Loop 32 :=
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let v243 : BitVec 32 := Scalar.addi c0_i32_114 v242
  let c1_i32_118 : BitVec 32 := 1#32
  ⟨v246, v243, c1_i32_118⟩
def k0_off301 (v1 : BitVec 32) (k0_t36 : Fin (k0_t36_loop v1).trips) : Fin 1 → Nat :=
  let c1_i32_287 : BitVec 32 := 1#32
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  ![v544.toNat]
def k0_cond23 (v1 : BitVec 32) (k0_t36 : Fin (k0_t36_loop v1).trips) : BitVec 1 :=
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1_i32_142 : BitVec 32 := 1#32
  let v276 : BitVec 32 := Scalar.addi arg18 c1_i32_142
  let v277 : BitVec 1 := Scalar.cmpi .slt v276 v21
  let v278 : BitVec 32 := Scalar.extui v277
  let c0_i32_143 : BitVec 32 := 0#32
  let v279 : BitVec 1 := Scalar.cmpi .ne v278 c0_i32_143
  v279

def k0_off302 (v1 : BitVec 32) (k0_t36 : Fin (k0_t36_loop v1).trips) : Fin 4 → Nat :=
  let c1_i32_287 : BitVec 32 := 1#32
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let v544 : BitVec 32 := Scalar.subi c1_i32_287 v275
  let c0_i32_289 : BitVec 32 := 0#32
  let c0_i32_290 : BitVec 32 := 0#32
  let c0_i32_291 : BitVec 32 := 0#32
  ![v544.toNat, 0, 0, 0]
def k0_off303 (i : grid0.Coords) (v1 : BitVec 32) (k0_t36 : Fin (k0_t36_loop v1).trips) : Fin 4 → Nat :=
  let arg0 : BitVec 32 := BitVec.ofNat 32 (i 0).val
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1_i32_286 : BitVec 32 := 1#32
  let v543 : BitVec 32 := Scalar.addi arg18 c1_i32_286
  let c1024_i32_288 : BitVec 32 := 1024#32
  let v545 : BitVec 32 := Scalar.muli v543 c1024_i32_288
  let c0_i32_292 : BitVec 32 := 0#32
  let c0_i32_293 : BitVec 32 := 0#32
  ![arg0.toNat, v545.toNat, 0, 0]
def k0_off304 (v1 : BitVec 32) (k0_t36 : Fin (k0_t36_loop v1).trips) : Fin 1 → Nat :=
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  ![v275.toNat]
def k0_off305 (v1 : BitVec 32) (k0_t36 : Fin (k0_t36_loop v1).trips) : Fin 4 → Nat :=
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c2_i32_136 : BitVec 32 := 2#32
  let c0_i32_137 : BitVec 32 := 0#32
  let v266 : BitVec 1 := Scalar.cmpi .eq c2_i32_136 c0_i32_137
  let c1_i32_138 : BitVec 32 := 1#32
  let v267 : BitVec 32 := Scalar.select v266 c1_i32_138 c2_i32_136
  let v268 : BitVec 32 := Scalar.remsi arg18 v267
  let c0_i32_140 : BitVec 32 := 0#32
  let v270 : BitVec 1 := Scalar.cmpi .slt v268 c0_i32_140
  let c0_i32_141 : BitVec 32 := 0#32
  let v271 : BitVec 1 := Scalar.cmpi .slt v267 c0_i32_141
  let v272 : BitVec 1 := Scalar.xori v270 v271
  let c0_i32_139 : BitVec 32 := 0#32
  let v269 : BitVec 1 := Scalar.cmpi .ne v268 c0_i32_139
  let v273 : BitVec 1 := Scalar.andi v272 v269
  let v274 : BitVec 32 := Scalar.addi v268 v267
  let v275 : BitVec 32 := Scalar.select v273 v274 v268
  let c0_i32_145 : BitVec 32 := 0#32
  let c0_i32_146 : BitVec 32 := 0#32
  let c0_i32_147 : BitVec 32 := 0#32
  ![v275.toNat, 0, 0, 0]
def k0_off306 (i : grid0.Coords) (v1 : BitVec 32) (k0_t36 : Fin (k0_t36_loop v1).trips) : Fin 4 → Nat :=
  let arg0 : BitVec 32 := BitVec.ofNat 32 (i 0).val
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1024_i32_144 : BitVec 32 := 1024#32
  let v280 : BitVec 32 := Scalar.muli arg18 c1024_i32_144
  let c0_i32_148 : BitVec 32 := 0#32
  let c0_i32_149 : BitVec 32 := 0#32
  ![arg0.toNat, v280.toNat, 0, 0]
def k0_off307 (v1 : BitVec 32) (k0_t36 : Fin (k0_t36_loop v1).trips) : Fin 3 → Nat :=
  let c0_184 : Index := 0#32
  let c0_185 : Index := 0#32
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1024_i32_183 : BitVec 32 := 1024#32
  let v315 : BitVec 32 := Scalar.muli arg18 c1024_i32_183
  let v316 : Index := Scalar.indexCast v315
  ![0, 0, v316.toNat]
def k0_off308 (v1 : BitVec 32) (k0_t36 : Fin (k0_t36_loop v1).trips) : Fin 3 → Nat :=
  let c0_206 : Index := 0#32
  let c1_207 : Index := 1#32
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1024_i32_205 : BitVec 32 := 1024#32
  let v370 : BitVec 32 := Scalar.muli arg18 c1024_i32_205
  let v371 : Index := Scalar.indexCast v370
  ![0, 1, v371.toNat]
def k0_off309 (v1 : BitVec 32) (k0_t36 : Fin (k0_t36_loop v1).trips) : Fin 3 → Nat :=
  let c0_231 : Index := 0#32
  let c2_232 : Index := 2#32
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1024_i32_230 : BitVec 32 := 1024#32
  let v425 : BitVec 32 := Scalar.muli arg18 c1024_i32_230
  let v426 : Index := Scalar.indexCast v425
  ![0, 2, v426.toNat]
def k0_off310 (v1 : BitVec 32) (k0_t36 : Fin (k0_t36_loop v1).trips) : Fin 3 → Nat :=
  let c0_256 : Index := 0#32
  let c3_257 : Index := 3#32
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1024_i32_255 : BitVec 32 := 1024#32
  let v480 : BitVec 32 := Scalar.muli arg18 c1024_i32_255
  let v481 : Index := Scalar.indexCast v480
  ![0, 3, v481.toNat]
@[reducible] def k0_t37_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t38_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off311 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v549 : Index := Scalar.indexCast arg20
  let c0_i32_292 : BitVec 32 := 0#32
  let c1_i32_294 : BitVec 32 := 1#32
  let arg22 : BitVec 32 := Scf.iv c0_i32_292 c1_i32_294 k0_t38
  let c256_i32_297 : BitVec 32 := 256#32
  let v548 : BitVec 32 := Scalar.muli arg22 c256_i32_297
  let v550 : Index := Scalar.indexCast v548
  let c0_298 : Index := 0#32
  ![v549.toNat, v550.toNat, 0]
def k0_off312 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v553 : Index := Scalar.indexCast arg20
  let c0_299 : Index := 0#32
  let c0_300 : Index := 0#32
  ![v553.toNat, 0, 0]
def k0_off313 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t38
  let c256_i32 : BitVec 32 := 256#32
  let v547 : BitVec 32 := Scalar.muli arg22 c256_i32
  let v559 : Index := Scalar.indexCast v547
  ![v558.toNat, 0, v559.toNat]
def k0_off314 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v565 : Index := Scalar.indexCast arg20
  let c1_303 : Index := 1#32
  let c0_i32_292 : BitVec 32 := 0#32
  let c1_i32_294 : BitVec 32 := 1#32
  let arg22 : BitVec 32 := Scf.iv c0_i32_292 c1_i32_294 k0_t38
  let c256_i32 : BitVec 32 := 256#32
  let v547 : BitVec 32 := Scalar.muli arg22 c256_i32
  let v566 : Index := Scalar.indexCast v547
  ![v565.toNat, 1, v566.toNat]
def k0_off315 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v572 : Index := Scalar.indexCast arg20
  let c2_304 : Index := 2#32
  let c0_i32_292 : BitVec 32 := 0#32
  let c1_i32_294 : BitVec 32 := 1#32
  let arg22 : BitVec 32 := Scf.iv c0_i32_292 c1_i32_294 k0_t38
  let c256_i32 : BitVec 32 := 256#32
  let v547 : BitVec 32 := Scalar.muli arg22 c256_i32
  let v573 : Index := Scalar.indexCast v547
  ![v572.toNat, 2, v573.toNat]
def k0_off316 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v579 : Index := Scalar.indexCast arg20
  let c3_305 : Index := 3#32
  let c0_i32_292 : BitVec 32 := 0#32
  let c1_i32_294 : BitVec 32 := 1#32
  let arg22 : BitVec 32 := Scf.iv c0_i32_292 c1_i32_294 k0_t38
  let c256_i32 : BitVec 32 := 256#32
  let v547 : BitVec 32 := Scalar.muli arg22 c256_i32
  let v580 : Index := Scalar.indexCast v547
  ![v579.toNat, 3, v580.toNat]
def k0_off317 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v586 : Index := Scalar.indexCast arg20
  let c4_306 : Index := 4#32
  let c0_i32_292 : BitVec 32 := 0#32
  let c1_i32_294 : BitVec 32 := 1#32
  let arg22 : BitVec 32 := Scf.iv c0_i32_292 c1_i32_294 k0_t38
  let c256_i32 : BitVec 32 := 256#32
  let v547 : BitVec 32 := Scalar.muli arg22 c256_i32
  let v587 : Index := Scalar.indexCast v547
  ![v586.toNat, 4, v587.toNat]
def k0_off318 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v593 : Index := Scalar.indexCast arg20
  let c5_307 : Index := 5#32
  let c0_i32_292 : BitVec 32 := 0#32
  let c1_i32_294 : BitVec 32 := 1#32
  let arg22 : BitVec 32 := Scf.iv c0_i32_292 c1_i32_294 k0_t38
  let c256_i32 : BitVec 32 := 256#32
  let v547 : BitVec 32 := Scalar.muli arg22 c256_i32
  let v594 : Index := Scalar.indexCast v547
  ![v593.toNat, 5, v594.toNat]
def k0_off319 (k0_t37 : Fin k0_t37_loop.trips) (k0_t38 : Fin k0_t38_loop.trips) : Fin 3 → Nat :=
  let c0_i32_287 : BitVec 32 := 0#32
  let c1_i32_289 : BitVec 32 := 1#32
  let arg20 : BitVec 32 := Scf.iv c0_i32_287 c1_i32_289 k0_t37
  let v600 : Index := Scalar.indexCast arg20
  let c6_308 : Index := 6#32
  let c0_i32_292 : BitVec 32 := 0#32
  let c1_i32_294 : BitVec 32 := 1#32
  let arg22 : BitVec 32 := Scf.iv c0_i32_292 c1_i32_294 k0_t38
  let c256_i32 : BitVec 32 := 256#32
  let v547 : BitVec 32 := Scalar.muli arg22 c256_i32
  let v601 : Index := Scalar.indexCast v547
  ![v600.toNat, 6, v601.toNat]
def k0_off320 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v606 : Index := Scalar.indexCast arg20
  let c0_309 : Index := 0#32
  let c0_310 : Index := 0#32
  ![v606.toNat, 0, 0]
def k0_off321 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v619 : Index := Scalar.indexCast arg20
  let c32 : Index := 32#32
  let c0_311 : Index := 0#32
  ![v619.toNat, 32, 0]
def k0_off322 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v633 : Index := Scalar.indexCast arg20
  let c64 : Index := 64#32
  let c0_312 : Index := 0#32
  ![v633.toNat, 64, 0]
def k0_off323 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v647 : Index := Scalar.indexCast arg20
  let c96 : Index := 96#32
  let c0_313 : Index := 0#32
  ![v647.toNat, 96, 0]
def k0_off324 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v661 : Index := Scalar.indexCast arg20
  let c128 : Index := 128#32
  let c0_314 : Index := 0#32
  ![v661.toNat, 128, 0]
def k0_off325 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v675 : Index := Scalar.indexCast arg20
  let c160 : Index := 160#32
  let c0_315 : Index := 0#32
  ![v675.toNat, 160, 0]
def k0_off326 (k0_t37 : Fin k0_t37_loop.trips) : Fin 3 → Nat :=
  let c0_i32_287 : BitVec 32 := 0#32
  let c1_i32_289 : BitVec 32 := 1#32
  let arg20 : BitVec 32 := Scf.iv c0_i32_287 c1_i32_289 k0_t37
  let v689 : Index := Scalar.indexCast arg20
  let c192 : Index := 192#32
  let c0_316 : Index := 0#32
  ![v689.toNat, 192, 0]
def k0_off327 (v1 : BitVec 32) (k0_t36 : Fin (k0_t36_loop v1).trips) (k0_t37 : Fin k0_t37_loop.trips) (k0_t38 : Fin k0_t38_loop.trips) : Fin 3 → Nat :=
  let c0_320 : Index := 0#32
  let c0_i32_287 : BitVec 32 := 0#32
  let c1_i32_289 : BitVec 32 := 1#32
  let arg20 : BitVec 32 := Scf.iv c0_i32_287 c1_i32_289 k0_t37
  let v708 : Index := Scalar.indexCast arg20
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1024_i32_318 : BitVec 32 := 1024#32
  let v705 : BitVec 32 := Scalar.muli arg18 c1024_i32_318
  let c0_i32_292 : BitVec 32 := 0#32
  let c1_i32_294 : BitVec 32 := 1#32
  let arg22 : BitVec 32 := Scf.iv c0_i32_292 c1_i32_294 k0_t38
  let c256_i32_319 : BitVec 32 := 256#32
  let v706 : BitVec 32 := Scalar.muli arg22 c256_i32_319
  let v707 : BitVec 32 := Scalar.addi v705 v706
  let v709 : Index := Scalar.indexCast v707
  ![0, v708.toNat, v709.toNat]
def k0_cond24 (v1 : BitVec 32) (k0_t36 : Fin (k0_t36_loop v1).trips) : BitVec 1 :=
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1_i32_280 : BitVec 32 := 1#32
  let v535 : BitVec 32 := Scalar.addi arg18 c1_i32_280
  let c1024_i32_281 : BitVec 32 := 1024#32
  let v536 : BitVec 32 := Scalar.muli v535 c1024_i32_281
  let c32_i32 : BitVec 32 := 32#32
  let v2 : BitVec 32 := Scalar.subi v1 c32_i32
  let v537 : BitVec 1 := Scalar.cmpi .sle v536 v2
  let v538 : BitVec 32 := Scalar.extui v537
  let c0_i32_282 : BitVec 32 := 0#32
  let v539 : BitVec 1 := Scalar.cmpi .ne v538 c0_i32_282
  v539

@[reducible] def k0_t39_loop : Scf.Loop 32 :=
  let c0_i32_287 : BitVec 32 := 0#32
  let c4_i32_288 : BitVec 32 := 4#32
  let v543 : BitVec 32 := Scalar.addi c0_i32_287 c4_i32_288
  let c1_i32_289 : BitVec 32 := 1#32
  ⟨c0_i32_287, v543, c1_i32_289⟩
@[reducible] def k0_t40_loop : Scf.Loop 32 :=
  let c0_i32_292 : BitVec 32 := 0#32
  let c4_i32_293 : BitVec 32 := 4#32
  let v545 : BitVec 32 := Scalar.addi c0_i32_292 c4_i32_293
  let c1_i32_294 : BitVec 32 := 1#32
  ⟨c0_i32_292, v545, c1_i32_294⟩
def k0_off328 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v549 : Index := Scalar.indexCast arg20
  let c0_i32_292 : BitVec 32 := 0#32
  let c1_i32_294 : BitVec 32 := 1#32
  let arg22 : BitVec 32 := Scf.iv c0_i32_292 c1_i32_294 k0_t40
  let c256_i32_297 : BitVec 32 := 256#32
  let v548 : BitVec 32 := Scalar.muli arg22 c256_i32_297
  let v550 : Index := Scalar.indexCast v548
  let c0_298 : Index := 0#32
  ![v549.toNat, v550.toNat, 0]
def k0_off329 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v553 : Index := Scalar.indexCast arg20
  let c0_299 : Index := 0#32
  let c0_300 : Index := 0#32
  ![v553.toNat, 0, 0]
def k0_off330 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v558 : Index := Scalar.indexCast arg20
  let c0_302 : Index := 0#32
  let c0_i32_292 : BitVec 32 := 0#32
  let c1_i32_294 : BitVec 32 := 1#32
  let arg22 : BitVec 32 := Scf.iv c0_i32_292 c1_i32_294 k0_t40
  let c256_i32 : BitVec 32 := 256#32
  let v547 : BitVec 32 := Scalar.muli arg22 c256_i32
  let v559 : Index := Scalar.indexCast v547
  ![v558.toNat, 0, v559.toNat]
def k0_off331 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v577 : Index := Scalar.indexCast arg20
  let c1_306 : Index := 1#32
  let c0_i32_292 : BitVec 32 := 0#32
  let c1_i32_294 : BitVec 32 := 1#32
  let arg22 : BitVec 32 := Scf.iv c0_i32_292 c1_i32_294 k0_t40
  let c256_i32 : BitVec 32 := 256#32
  let v547 : BitVec 32 := Scalar.muli arg22 c256_i32
  let v578 : Index := Scalar.indexCast v547
  ![v577.toNat, 1, v578.toNat]
def k0_off332 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v596 : Index := Scalar.indexCast arg20
  let c2_310 : Index := 2#32
  let c0_i32_292 : BitVec 32 := 0#32
  let c1_i32_294 : BitVec 32 := 1#32
  let arg22 : BitVec 32 := Scf.iv c0_i32_292 c1_i32_294 k0_t40
  let c256_i32 : BitVec 32 := 256#32
  let v547 : BitVec 32 := Scalar.muli arg22 c256_i32
  let v597 : Index := Scalar.indexCast v547
  ![v596.toNat, 2, v597.toNat]
def k0_off333 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v615 : Index := Scalar.indexCast arg20
  let c3_314 : Index := 3#32
  let c0_i32_292 : BitVec 32 := 0#32
  let c1_i32_294 : BitVec 32 := 1#32
  let arg22 : BitVec 32 := Scf.iv c0_i32_292 c1_i32_294 k0_t40
  let c256_i32 : BitVec 32 := 256#32
  let v547 : BitVec 32 := Scalar.muli arg22 c256_i32
  let v616 : Index := Scalar.indexCast v547
  ![v615.toNat, 3, v616.toNat]
def k0_off334 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v634 : Index := Scalar.indexCast arg20
  let c4_318 : Index := 4#32
  let c0_i32_292 : BitVec 32 := 0#32
  let c1_i32_294 : BitVec 32 := 1#32
  let arg22 : BitVec 32 := Scf.iv c0_i32_292 c1_i32_294 k0_t40
  let c256_i32 : BitVec 32 := 256#32
  let v547 : BitVec 32 := Scalar.muli arg22 c256_i32
  let v635 : Index := Scalar.indexCast v547
  ![v634.toNat, 4, v635.toNat]
def k0_off335 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v653 : Index := Scalar.indexCast arg20
  let c5_322 : Index := 5#32
  let c0_i32_292 : BitVec 32 := 0#32
  let c1_i32_294 : BitVec 32 := 1#32
  let arg22 : BitVec 32 := Scf.iv c0_i32_292 c1_i32_294 k0_t40
  let c256_i32 : BitVec 32 := 256#32
  let v547 : BitVec 32 := Scalar.muli arg22 c256_i32
  let v654 : Index := Scalar.indexCast v547
  ![v653.toNat, 5, v654.toNat]
def k0_off336 (k0_t39 : Fin k0_t39_loop.trips) (k0_t40 : Fin k0_t40_loop.trips) : Fin 3 → Nat :=
  let c0_i32_287 : BitVec 32 := 0#32
  let c1_i32_289 : BitVec 32 := 1#32
  let arg20 : BitVec 32 := Scf.iv c0_i32_287 c1_i32_289 k0_t39
  let v672 : Index := Scalar.indexCast arg20
  let c6_326 : Index := 6#32
  let c0_i32_292 : BitVec 32 := 0#32
  let c1_i32_294 : BitVec 32 := 1#32
  let arg22 : BitVec 32 := Scf.iv c0_i32_292 c1_i32_294 k0_t40
  let c256_i32 : BitVec 32 := 256#32
  let v547 : BitVec 32 := Scalar.muli arg22 c256_i32
  let v673 : Index := Scalar.indexCast v547
  ![v672.toNat, 6, v673.toNat]
def k0_off337 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v690 : Index := Scalar.indexCast arg20
  let c0_330 : Index := 0#32
  let c0_331 : Index := 0#32
  ![v690.toNat, 0, 0]
def k0_off338 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v703 : Index := Scalar.indexCast arg20
  let c32 : Index := 32#32
  let c0_332 : Index := 0#32
  ![v703.toNat, 32, 0]
def k0_off339 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v717 : Index := Scalar.indexCast arg20
  let c64 : Index := 64#32
  let c0_333 : Index := 0#32
  ![v717.toNat, 64, 0]
def k0_off340 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v731 : Index := Scalar.indexCast arg20
  let c96 : Index := 96#32
  let c0_334 : Index := 0#32
  ![v731.toNat, 96, 0]
def k0_off341 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v745 : Index := Scalar.indexCast arg20
  let c128 : Index := 128#32
  let c0_335 : Index := 0#32
  ![v745.toNat, 128, 0]
def k0_off342 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v759 : Index := Scalar.indexCast arg20
  let c160 : Index := 160#32
  let c0_336 : Index := 0#32
  ![v759.toNat, 160, 0]
def k0_off343 (k0_t39 : Fin k0_t39_loop.trips) : Fin 3 → Nat :=
  let c0_i32_287 : BitVec 32 := 0#32
  let c1_i32_289 : BitVec 32 := 1#32
  let arg20 : BitVec 32 := Scf.iv c0_i32_287 c1_i32_289 k0_t39
  let v773 : Index := Scalar.indexCast arg20
  let c192 : Index := 192#32
  let c0_337 : Index := 0#32
  ![v773.toNat, 192, 0]
def k0_off344 (v1 : BitVec 32) (k0_t36 : Fin (k0_t36_loop v1).trips) (k0_t39 : Fin k0_t39_loop.trips) (k0_t40 : Fin k0_t40_loop.trips) : Fin 3 → Nat :=
  let c0_341 : Index := 0#32
  let c0_i32_287 : BitVec 32 := 0#32
  let c1_i32_289 : BitVec 32 := 1#32
  let arg20 : BitVec 32 := Scf.iv c0_i32_287 c1_i32_289 k0_t39
  let v792 : Index := Scalar.indexCast arg20
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1024_i32_339 : BitVec 32 := 1024#32
  let v789 : BitVec 32 := Scalar.muli arg18 c1024_i32_339
  let c0_i32_292 : BitVec 32 := 0#32
  let c1_i32_294 : BitVec 32 := 1#32
  let arg22 : BitVec 32 := Scf.iv c0_i32_292 c1_i32_294 k0_t40
  let c256_i32_340 : BitVec 32 := 256#32
  let v790 : BitVec 32 := Scalar.muli arg22 c256_i32_340
  let v791 : BitVec 32 := Scalar.addi v789 v790
  let v793 : Index := Scalar.indexCast v791
  ![0, v792.toNat, v793.toNat]
def k0_cond25 (v1 : BitVec 32) (k0_t36 : Fin (k0_t36_loop v1).trips) : BitVec 1 :=
  let c0_i32_114 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v242 : BitVec 32 := Scalar.subi v21 c0_i32_114
  let c1_i32_116 : BitVec 32 := 1#32
  let v244 : BitVec 32 := Scalar.divsi v242 c1_i32_116
  let v245 : BitVec 32 := Scalar.muli v244 c1_i32_116
  let v246 : BitVec 32 := Scalar.addi c0_i32_114 v245
  let c1_i32_118 : BitVec 32 := 1#32
  let arg18 : BitVec 32 := Scf.iv v246 c1_i32_118 k0_t36
  let c1_i32_280 : BitVec 32 := 1#32
  let v535 : BitVec 32 := Scalar.addi arg18 c1_i32_280
  let c1024_i32_281 : BitVec 32 := 1024#32
  let v536 : BitVec 32 := Scalar.muli v535 c1024_i32_281
  let c32_i32 : BitVec 32 := 32#32
  let v2 : BitVec 32 := Scalar.subi v1 c32_i32
  let v537 : BitVec 1 := Scalar.cmpi .sle v536 v2
  let true_283 : BitVec 1 := 1#1
  let v540 : BitVec 1 := Scalar.xori v537 true_283
  let v541 : BitVec 32 := Scalar.extui v540
  let c0_i32_284 : BitVec 32 := 0#32
  let v542 : BitVec 1 := Scalar.cmpi .ne v541 c0_i32_284
  v542

@[reducible] def k0_t41_loop : Scf.Loop 32 :=
  let c0_i32_127 : BitVec 32 := 0#32
  let c128_i32_128 : BitVec 32 := 128#32
  let v258 : BitVec 32 := Scalar.addi c0_i32_127 c128_i32_128
  let c1_i32_129 : BitVec 32 := 1#32
  ⟨c0_i32_127, v258, c1_i32_129⟩
def k0_off345 (k0_t41 : Fin k0_t41_loop.trips) : Fin 3 → Nat :=
  let c0_138 : Index := 0#32
  let c0_139 : Index := 0#32
  let c0_i32_127 : BitVec 32 := 0#32
  let c1_i32_129 : BitVec 32 := 1#32
  let arg18 : BitVec 32 := Scf.iv c0_i32_127 c1_i32_129 k0_t41
  let c1024_i32_137 : BitVec 32 := 1024#32
  let v270 : BitVec 32 := Scalar.muli arg18 c1024_i32_137
  let v271 : Index := Scalar.indexCast v270
  ![0, 0, v271.toNat]
def k0_off346 (k0_t41 : Fin k0_t41_loop.trips) : Fin 2 → Nat :=
  let c0_143 : Index := 0#32
  let c128_i32_142 : BitVec 32 := 128#32
  let c0_i32_127 : BitVec 32 := 0#32
  let c1_i32_129 : BitVec 32 := 1#32
  let arg18 : BitVec 32 := Scf.iv c0_i32_127 c1_i32_129 k0_t41
  let c1024_i32_141 : BitVec 32 := 1024#32
  let v278 : BitVec 32 := Scalar.muli arg18 c1024_i32_141
  let v279 : BitVec 32 := Scalar.addi c128_i32_142 v278
  let v280 : Index := Scalar.indexCast v279
  ![0, v280.toNat]
@[reducible] def k0_t42_loop (v1 : BitVec 32) : Scf.Loop 32 :=
  let c0_i32_131 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v259 : BitVec 32 := Scalar.subi v21 c0_i32_131
  let c1_i32_133 : BitVec 32 := 1#32
  let v261 : BitVec 32 := Scalar.divsi v259 c1_i32_133
  let v262 : BitVec 32 := Scalar.muli v261 c1_i32_133
  let v263 : BitVec 32 := Scalar.addi c0_i32_131 v262
  let c1_i32_134 : BitVec 32 := 1#32
  ⟨c0_i32_131, v263, c1_i32_134⟩
def k0_off347 (v1 : BitVec 32) (k0_t42 : Fin (k0_t42_loop v1).trips) : Fin 2 → Nat :=
  let c0_137 : Index := 0#32
  let c0_i32_131 : BitVec 32 := 0#32
  let c1_i32_134 : BitVec 32 := 1#32
  let arg18 : BitVec 32 := Scf.iv c0_i32_131 c1_i32_134 k0_t42
  let c1024_i32_136 : BitVec 32 := 1024#32
  let v266 : BitVec 32 := Scalar.muli arg18 c1024_i32_136
  let v267 : Index := Scalar.indexCast v266
  ![0, v267.toNat]
def k0_off348 (v1 : BitVec 32) (k0_t42 : Fin (k0_t42_loop v1).trips) : Fin 3 → Nat :=
  let c0_143 : Index := 0#32
  let c0_144 : Index := 0#32
  let c0_i32_131 : BitVec 32 := 0#32
  let c1_i32_134 : BitVec 32 := 1#32
  let arg18 : BitVec 32 := Scf.iv c0_i32_131 c1_i32_134 k0_t42
  let c1024_i32_142 : BitVec 32 := 1024#32
  let v285 : BitVec 32 := Scalar.muli arg18 c1024_i32_142
  let v286 : Index := Scalar.indexCast v285
  ![0, 0, v286.toNat]
@[reducible] def k0_t43_loop (v1 : BitVec 32) : Scf.Loop 32 :=
  let c0_i32_131 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v259 : BitVec 32 := Scalar.subi v21 c0_i32_131
  let c1_i32_133 : BitVec 32 := 1#32
  let v261 : BitVec 32 := Scalar.divsi v259 c1_i32_133
  let v262 : BitVec 32 := Scalar.muli v261 c1_i32_133
  let v263 : BitVec 32 := Scalar.addi c0_i32_131 v262
  let v260 : BitVec 32 := Scalar.addi c0_i32_131 v259
  let c1_i32_135 : BitVec 32 := 1#32
  ⟨v263, v260, c1_i32_135⟩
def k0_off349 (v1 : BitVec 32) (k0_t43 : Fin (k0_t43_loop v1).trips) : Fin 2 → Nat :=
  let c0_137 : Index := 0#32
  let c0_i32_131 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v259 : BitVec 32 := Scalar.subi v21 c0_i32_131
  let c1_i32_133 : BitVec 32 := 1#32
  let v261 : BitVec 32 := Scalar.divsi v259 c1_i32_133
  let v262 : BitVec 32 := Scalar.muli v261 c1_i32_133
  let v263 : BitVec 32 := Scalar.addi c0_i32_131 v262
  let c1_i32_135 : BitVec 32 := 1#32
  let arg18 : BitVec 32 := Scf.iv v263 c1_i32_135 k0_t43
  let c1024_i32_136 : BitVec 32 := 1024#32
  let v266 : BitVec 32 := Scalar.muli arg18 c1024_i32_136
  let v267 : Index := Scalar.indexCast v266
  ![0, v267.toNat]
def k0_off350 (v1 : BitVec 32) (k0_t43 : Fin (k0_t43_loop v1).trips) : Fin 3 → Nat :=
  let c0_143 : Index := 0#32
  let c0_144 : Index := 0#32
  let c0_i32_131 : BitVec 32 := 0#32
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  let v259 : BitVec 32 := Scalar.subi v21 c0_i32_131
  let c1_i32_133 : BitVec 32 := 1#32
  let v261 : BitVec 32 := Scalar.divsi v259 c1_i32_133
  let v262 : BitVec 32 := Scalar.muli v261 c1_i32_133
  let v263 : BitVec 32 := Scalar.addi c0_i32_131 v262
  let c1_i32_135 : BitVec 32 := 1#32
  let arg18 : BitVec 32 := Scf.iv v263 c1_i32_135 k0_t43
  let c1024_i32_142 : BitVec 32 := 1024#32
  let v285 : BitVec 32 := Scalar.muli arg18 c1024_i32_142
  let v286 : Index := Scalar.indexCast v285
  ![0, 0, v286.toNat]

def k0_chk1_0 (i : grid0.Coords) (v1 : BitVec 32) : Prop :=
  ((k0_t1_loop v1).OK) ∧
  (∀ k0_t1 : Fin (k0_t1_loop v1).trips, ∀ (k0_h1 : k0_cond1 v1 k0_t1 = 1#1), ∀ a, (k0_off3 v1 k0_t1) a + S1.size a ≤ S2.size a) ∧
  (∀ k0_t1 : Fin (k0_t1_loop v1).trips, ∀ (k0_h1 : k0_cond1 v1 k0_t1 = 1#1), ∀ a, (k0_off4 v1 k0_t1) a + S1x1024x4x128.size a ≤ S2x1024x4x128.size a) ∧
  (∀ k0_t1 : Fin (k0_t1_loop v1).trips, ∀ (k0_h1 : k0_cond1 v1 k0_t1 = 1#1), ∀ a, (k0_off5 i v1 k0_t1) a + S1x1024x4x128.size a ≤ S2x131072x4x128.size a) ∧
  (∀ k0_t1 : Fin (k0_t1_loop v1).trips, ∀ (k0_h1 : k0_cond1 v1 k0_t1 = 1#1), ∀ (hinb : ∀ a, (k0_off5 i v1 k0_t1) a + S1x1024x4x128.size a ≤ S2x131072x4x128.size a), (Rect.unit (s := S2x131072x4x128) (k0_off5 i v1 k0_t1) S1x1024x4x128.size hinb).WholeWords (EltTy.packing .fp8e4m3)) ∧
  (∀ k0_t1 : Fin (k0_t1_loop v1).trips, ∀ (k0_h1 : k0_cond1 v1 k0_t1 = 1#1), ∀ (hinb : ∀ a, (k0_off4 v1 k0_t1) a + S1x1024x4x128.size a ≤ S2x1024x4x128.size a), (Rect.unit (s := S2x1024x4x128) (k0_off4 v1 k0_t1) S1x1024x4x128.size hinb).WholeWords (EltTy.packing .fp8e4m3)) ∧
  (∀ k0_t1 : Fin (k0_t1_loop v1).trips, ∀ a, (k0_off6 v1 k0_t1) a + S1.size a ≤ S2.size a) ∧
  (∀ k0_t1 : Fin (k0_t1_loop v1).trips, ∀ a, (k0_off7 v1 k0_t1) a + S1x1024x4x128.size a ≤ S2x1024x4x128.size a) ∧
  (∀ k0_t1 : Fin (k0_t1_loop v1).trips, ∀ a, (k0_off8 i v1 k0_t1) a + S1x1024x4x128.size a ≤ S2x131072x4x128.size a) ∧
  (∀ k0_t1 : Fin (k0_t1_loop v1).trips, ∀ (hinb : ∀ a, (k0_off8 i v1 k0_t1) a + S1x1024x4x128.size a ≤ S2x131072x4x128.size a), (Rect.unit (s := S2x131072x4x128) (k0_off8 i v1 k0_t1) S1x1024x4x128.size hinb).WholeWords (EltTy.packing .fp8e4m3)) ∧
  (∀ k0_t1 : Fin (k0_t1_loop v1).trips, ∀ (hinb : ∀ a, (k0_off7 v1 k0_t1) a + S1x1024x4x128.size a ≤ S2x1024x4x128.size a), (Rect.unit (s := S2x1024x4x128) (k0_off7 v1 k0_t1) S1x1024x4x128.size hinb).WholeWords (EltTy.packing .fp8e4m3)) ∧
  (∀ k0_t1 : Fin (k0_t1_loop v1).trips, ∀ a, (k0_off9 v1 k0_t1) a + S1x1x1024.size a ≤ S1x4x131072.size a) ∧
  (∀ k0_t1 : Fin (k0_t1_loop v1).trips, ∀ a, (k0_off10 v1 k0_t1) a + S1x1x1024.size a ≤ S1x4x131072.size a) ∧
  (∀ k0_t1 : Fin (k0_t1_loop v1).trips, ∀ a, (k0_off11 v1 k0_t1) a + S1x1x1024.size a ≤ S1x4x131072.size a) ∧
  (∀ k0_t1 : Fin (k0_t1_loop v1).trips, ∀ a, (k0_off12 v1 k0_t1) a + S1x1x1024.size a ≤ S1x4x131072.size a) ∧
  ((k0_t6_loop v1).OK) ∧
  (∀ k0_t6 : Fin (k0_t6_loop v1).trips, ∀ (k0_h4 : k0_cond4 v1 k0_t6 = 1#1), ∀ a, (k0_off45 v1 k0_t6) a + S1.size a ≤ S2.size a) ∧
  (∀ k0_t6 : Fin (k0_t6_loop v1).trips, ∀ (k0_h4 : k0_cond4 v1 k0_t6 = 1#1), ∀ a, (k0_off46 v1 k0_t6) a + S1x1024x4x128.size a ≤ S2x1024x4x128.size a) ∧
  (∀ k0_t6 : Fin (k0_t6_loop v1).trips, ∀ (k0_h4 : k0_cond4 v1 k0_t6 = 1#1), ∀ a, (k0_off47 i v1 k0_t6) a + S1x1024x4x128.size a ≤ S2x131072x4x128.size a) ∧
  (∀ k0_t6 : Fin (k0_t6_loop v1).trips, ∀ (k0_h4 : k0_cond4 v1 k0_t6 = 1#1), ∀ (hinb : ∀ a, (k0_off47 i v1 k0_t6) a + S1x1024x4x128.size a ≤ S2x131072x4x128.size a), (Rect.unit (s := S2x131072x4x128) (k0_off47 i v1 k0_t6) S1x1024x4x128.size hinb).WholeWords (EltTy.packing .fp8e4m3)) ∧
  (∀ k0_t6 : Fin (k0_t6_loop v1).trips, ∀ (k0_h4 : k0_cond4 v1 k0_t6 = 1#1), ∀ (hinb : ∀ a, (k0_off46 v1 k0_t6) a + S1x1024x4x128.size a ≤ S2x1024x4x128.size a), (Rect.unit (s := S2x1024x4x128) (k0_off46 v1 k0_t6) S1x1024x4x128.size hinb).WholeWords (EltTy.packing .fp8e4m3)) ∧
  (∀ k0_t6 : Fin (k0_t6_loop v1).trips, ∀ a, (k0_off48 v1 k0_t6) a + S1.size a ≤ S2.size a) ∧
  (∀ k0_t6 : Fin (k0_t6_loop v1).trips, ∀ a, (k0_off49 v1 k0_t6) a + S1x1024x4x128.size a ≤ S2x1024x4x128.size a) ∧
  (∀ k0_t6 : Fin (k0_t6_loop v1).trips, ∀ a, (k0_off50 i v1 k0_t6) a + S1x1024x4x128.size a ≤ S2x131072x4x128.size a) ∧
  (∀ k0_t6 : Fin (k0_t6_loop v1).trips, ∀ (hinb : ∀ a, (k0_off50 i v1 k0_t6) a + S1x1024x4x128.size a ≤ S2x131072x4x128.size a), (Rect.unit (s := S2x131072x4x128) (k0_off50 i v1 k0_t6) S1x1024x4x128.size hinb).WholeWords (EltTy.packing .fp8e4m3)) ∧
  (∀ k0_t6 : Fin (k0_t6_loop v1).trips, ∀ (hinb : ∀ a, (k0_off49 v1 k0_t6) a + S1x1024x4x128.size a ≤ S2x1024x4x128.size a), (Rect.unit (s := S2x1024x4x128) (k0_off49 v1 k0_t6) S1x1024x4x128.size hinb).WholeWords (EltTy.packing .fp8e4m3)) ∧
  (∀ k0_t6 : Fin (k0_t6_loop v1).trips, ∀ a, (k0_off51 v1 k0_t6) a + S1x1x1024.size a ≤ S1x4x131072.size a) ∧
  (∀ k0_t6 : Fin (k0_t6_loop v1).trips, ∀ a, (k0_off52 v1 k0_t6) a + S1x1x1024.size a ≤ S1x4x131072.size a) ∧
  (∀ k0_t6 : Fin (k0_t6_loop v1).trips, ∀ a, (k0_off53 v1 k0_t6) a + S1x1x1024.size a ≤ S1x4x131072.size a) ∧
  (∀ k0_t6 : Fin (k0_t6_loop v1).trips, ∀ a, (k0_off54 v1 k0_t6) a + S1x1x1024.size a ≤ S1x4x131072.size a) ∧
  ((k0_t31_loop v1).OK) ∧
  (∀ k0_t31 : Fin (k0_t31_loop v1).trips, ∀ (k0_h20 : k0_cond20 v1 k0_t31 = 1#1), ∀ a, (k0_off257 v1 k0_t31) a + S1.size a ≤ S2.size a)
def k0_chk1_1 (i : grid0.Coords) (v1 : BitVec 32) : Prop :=
  (∀ k0_t31 : Fin (k0_t31_loop v1).trips, ∀ (k0_h20 : k0_cond20 v1 k0_t31 = 1#1), ∀ a, (k0_off258 v1 k0_t31) a + S1x1024x4x128.size a ≤ S2x1024x4x128.size a) ∧
  (∀ k0_t31 : Fin (k0_t31_loop v1).trips, ∀ (k0_h20 : k0_cond20 v1 k0_t31 = 1#1), ∀ a, (k0_off259 i v1 k0_t31) a + S1x1024x4x128.size a ≤ S2x131072x4x128.size a) ∧
  (∀ k0_t31 : Fin (k0_t31_loop v1).trips, ∀ (k0_h20 : k0_cond20 v1 k0_t31 = 1#1), ∀ (hinb : ∀ a, (k0_off259 i v1 k0_t31) a + S1x1024x4x128.size a ≤ S2x131072x4x128.size a), (Rect.unit (s := S2x131072x4x128) (k0_off259 i v1 k0_t31) S1x1024x4x128.size hinb).WholeWords (EltTy.packing .fp8e4m3)) ∧
  (∀ k0_t31 : Fin (k0_t31_loop v1).trips, ∀ (k0_h20 : k0_cond20 v1 k0_t31 = 1#1), ∀ (hinb : ∀ a, (k0_off258 v1 k0_t31) a + S1x1024x4x128.size a ≤ S2x1024x4x128.size a), (Rect.unit (s := S2x1024x4x128) (k0_off258 v1 k0_t31) S1x1024x4x128.size hinb).WholeWords (EltTy.packing .fp8e4m3)) ∧
  (∀ k0_t31 : Fin (k0_t31_loop v1).trips, ∀ a, (k0_off260 v1 k0_t31) a + S1.size a ≤ S2.size a) ∧
  (∀ k0_t31 : Fin (k0_t31_loop v1).trips, ∀ a, (k0_off261 v1 k0_t31) a + S1x1024x4x128.size a ≤ S2x1024x4x128.size a) ∧
  (∀ k0_t31 : Fin (k0_t31_loop v1).trips, ∀ a, (k0_off262 i v1 k0_t31) a + S1x1024x4x128.size a ≤ S2x131072x4x128.size a) ∧
  (∀ k0_t31 : Fin (k0_t31_loop v1).trips, ∀ (hinb : ∀ a, (k0_off262 i v1 k0_t31) a + S1x1024x4x128.size a ≤ S2x131072x4x128.size a), (Rect.unit (s := S2x131072x4x128) (k0_off262 i v1 k0_t31) S1x1024x4x128.size hinb).WholeWords (EltTy.packing .fp8e4m3)) ∧
  (∀ k0_t31 : Fin (k0_t31_loop v1).trips, ∀ (hinb : ∀ a, (k0_off261 v1 k0_t31) a + S1x1024x4x128.size a ≤ S2x1024x4x128.size a), (Rect.unit (s := S2x1024x4x128) (k0_off261 v1 k0_t31) S1x1024x4x128.size hinb).WholeWords (EltTy.packing .fp8e4m3)) ∧
  (∀ k0_t31 : Fin (k0_t31_loop v1).trips, ∀ a, (k0_off263 v1 k0_t31) a + S1x1x1024.size a ≤ S1x4x131072.size a) ∧
  (∀ k0_t31 : Fin (k0_t31_loop v1).trips, ∀ a, (k0_off264 v1 k0_t31) a + S1x1x1024.size a ≤ S1x4x131072.size a) ∧
  (∀ k0_t31 : Fin (k0_t31_loop v1).trips, ∀ a, (k0_off265 v1 k0_t31) a + S1x1x1024.size a ≤ S1x4x131072.size a) ∧
  (∀ k0_t31 : Fin (k0_t31_loop v1).trips, ∀ a, (k0_off266 v1 k0_t31) a + S1x1x1024.size a ≤ S1x4x131072.size a) ∧
  (∀ (k0_t31 : Fin (k0_t31_loop v1).trips) (k0_t32 : Fin k0_t32_loop.trips) (k0_t33 : Fin k0_t33_loop.trips), ∀ (k0_h21 : k0_cond21 v1 k0_t31 = 1#1), ∀ a, (k0_off283 v1 k0_t31 k0_t32 k0_t33) a + S1x1x256.size a ≤ S1x4x131072.size a) ∧
  (∀ (k0_t31 : Fin (k0_t31_loop v1).trips) (k0_t34 : Fin k0_t34_loop.trips) (k0_t35 : Fin k0_t35_loop.trips), ∀ (k0_h22 : k0_cond22 v1 k0_t31 = 1#1), ∀ a, (k0_off300 v1 k0_t31 k0_t34 k0_t35) a + S1x1x256.size a ≤ S1x4x131072.size a) ∧
  ((k0_t36_loop v1).OK) ∧
  (∀ k0_t36 : Fin (k0_t36_loop v1).trips, ∀ (k0_h23 : k0_cond23 v1 k0_t36 = 1#1), ∀ a, (k0_off301 v1 k0_t36) a + S1.size a ≤ S2.size a) ∧
  (∀ k0_t36 : Fin (k0_t36_loop v1).trips, ∀ (k0_h23 : k0_cond23 v1 k0_t36 = 1#1), ∀ a, (k0_off302 v1 k0_t36) a + S1x1024x4x128.size a ≤ S2x1024x4x128.size a) ∧
  (∀ k0_t36 : Fin (k0_t36_loop v1).trips, ∀ (k0_h23 : k0_cond23 v1 k0_t36 = 1#1), ∀ a, (k0_off303 i v1 k0_t36) a + S1x1024x4x128.size a ≤ S2x131072x4x128.size a) ∧
  (∀ k0_t36 : Fin (k0_t36_loop v1).trips, ∀ (k0_h23 : k0_cond23 v1 k0_t36 = 1#1), ∀ (hinb : ∀ a, (k0_off303 i v1 k0_t36) a + S1x1024x4x128.size a ≤ S2x131072x4x128.size a), (Rect.unit (s := S2x131072x4x128) (k0_off303 i v1 k0_t36) S1x1024x4x128.size hinb).WholeWords (EltTy.packing .fp8e4m3)) ∧
  (∀ k0_t36 : Fin (k0_t36_loop v1).trips, ∀ (k0_h23 : k0_cond23 v1 k0_t36 = 1#1), ∀ (hinb : ∀ a, (k0_off302 v1 k0_t36) a + S1x1024x4x128.size a ≤ S2x1024x4x128.size a), (Rect.unit (s := S2x1024x4x128) (k0_off302 v1 k0_t36) S1x1024x4x128.size hinb).WholeWords (EltTy.packing .fp8e4m3)) ∧
  (∀ k0_t36 : Fin (k0_t36_loop v1).trips, ∀ a, (k0_off304 v1 k0_t36) a + S1.size a ≤ S2.size a) ∧
  (∀ k0_t36 : Fin (k0_t36_loop v1).trips, ∀ a, (k0_off305 v1 k0_t36) a + S1x1024x4x128.size a ≤ S2x1024x4x128.size a) ∧
  (∀ k0_t36 : Fin (k0_t36_loop v1).trips, ∀ a, (k0_off306 i v1 k0_t36) a + S1x1024x4x128.size a ≤ S2x131072x4x128.size a) ∧
  (∀ k0_t36 : Fin (k0_t36_loop v1).trips, ∀ (hinb : ∀ a, (k0_off306 i v1 k0_t36) a + S1x1024x4x128.size a ≤ S2x131072x4x128.size a), (Rect.unit (s := S2x131072x4x128) (k0_off306 i v1 k0_t36) S1x1024x4x128.size hinb).WholeWords (EltTy.packing .fp8e4m3)) ∧
  (∀ k0_t36 : Fin (k0_t36_loop v1).trips, ∀ (hinb : ∀ a, (k0_off305 v1 k0_t36) a + S1x1024x4x128.size a ≤ S2x1024x4x128.size a), (Rect.unit (s := S2x1024x4x128) (k0_off305 v1 k0_t36) S1x1024x4x128.size hinb).WholeWords (EltTy.packing .fp8e4m3)) ∧
  (∀ k0_t36 : Fin (k0_t36_loop v1).trips, ∀ a, (k0_off307 v1 k0_t36) a + S1x1x1024.size a ≤ S1x4x131072.size a) ∧
  (∀ k0_t36 : Fin (k0_t36_loop v1).trips, ∀ a, (k0_off308 v1 k0_t36) a + S1x1x1024.size a ≤ S1x4x131072.size a) ∧
  (∀ k0_t36 : Fin (k0_t36_loop v1).trips, ∀ a, (k0_off309 v1 k0_t36) a + S1x1x1024.size a ≤ S1x4x131072.size a) ∧
  (∀ k0_t36 : Fin (k0_t36_loop v1).trips, ∀ a, (k0_off310 v1 k0_t36) a + S1x1x1024.size a ≤ S1x4x131072.size a) ∧
  (∀ (k0_t36 : Fin (k0_t36_loop v1).trips) (k0_t37 : Fin k0_t37_loop.trips) (k0_t38 : Fin k0_t38_loop.trips), ∀ (k0_h24 : k0_cond24 v1 k0_t36 = 1#1), ∀ a, (k0_off327 v1 k0_t36 k0_t37 k0_t38) a + S1x1x256.size a ≤ S1x4x131072.size a) ∧
  (∀ (k0_t36 : Fin (k0_t36_loop v1).trips) (k0_t39 : Fin k0_t39_loop.trips) (k0_t40 : Fin k0_t40_loop.trips), ∀ (k0_h25 : k0_cond25 v1 k0_t36 = 1#1), ∀ a, (k0_off344 v1 k0_t36 k0_t39 k0_t40) a + S1x1x256.size a ≤ S1x4x131072.size a)
def k0_chk1_2 (i : grid0.Coords) (v1 : BitVec 32) : Prop :=
  ((k0_t42_loop v1).OK) ∧
  (∀ k0_t42 : Fin (k0_t42_loop v1).trips, ∀ a, (k0_off347 v1 k0_t42) a + S4x1280.size a ≤ S4x131328.size a) ∧
  (∀ k0_t42 : Fin (k0_t42_loop v1).trips, ∀ a, (k0_off348 v1 k0_t42) a + S1x4x1024.size a ≤ S1x4x131072.size a) ∧
  ((k0_t43_loop v1).OK) ∧
  (∀ k0_t43 : Fin (k0_t43_loop v1).trips, ∀ a, (k0_off349 v1 k0_t43) a + S4x1280.size a ≤ S4x131328.size a) ∧
  (∀ k0_t43 : Fin (k0_t43_loop v1).trips, ∀ a, (k0_off350 v1 k0_t43) a + S1x4x1024.size a ≤ S1x4x131072.size a)
def k0_chk1 (i : grid0.Coords) (v1 : BitVec 32) : Prop :=
  k0_chk1_0 i v1 ∧
  k0_chk1_1 i v1 ∧
  k0_chk1_2 i v1
theorem k0_t1_ok : ∀ (i : grid0.Coords) (v1 : BitVec 32) (k0_hw1 : k0_chk1 i v1), (k0_t1_loop v1).OK := fun i v1 k0_hw1 => k0_hw1.1.1
theorem k0_off3_inb : ∀ (i : grid0.Coords) (v1 : BitVec 32) (k0_hw1 : k0_chk1 i v1) (k0_t1 : Fin (k0_t1_loop v1).trips), ∀ (k0_h1 : k0_cond1 v1 k0_t1 = 1#1), ∀ a, (k0_off3 v1 k0_t1) a + S1.size a ≤ S2.size a := fun i v1 k0_hw1 k0_t1 k0_h1 => k0_hw1.1.2.1 k0_t1 k0_h1
theorem k0_off4_inb : ∀ (i : grid0.Coords) (v1 : BitVec 32) (k0_hw1 : k0_chk1 i v1) (k0_t1 : Fin (k0_t1_loop v1).trips), ∀ (k0_h1 : k0_cond1 v1 k0_t1 = 1#1), ∀ a, (k0_off4 v1 k0_t1) a + S1x1024x4x128.size a ≤ S2x1024x4x128.size a := fun i v1 k0_hw1 k0_t1 k0_h1 => k0_hw1.1.2.2.1 k0_t1 k0_h1
theorem k0_off5_inb : ∀ (i : grid0.Coords) (v1 : BitVec 32) (k0_hw1 : k0_chk1 i v1) (k0_t1 : Fin (k0_t1_loop v1).trips), ∀ (k0_h1 : k0_cond1 v1 k0_t1 = 1#1), ∀ a, (k0_off5 i v1 k0_t1) a + S1x1024x4x128.size a ≤ S2x131072x4x128.size a := fun i v1 k0_hw1 k0_t1 k0_h1 => k0_hw1.1.2.2.2.1 k0_t1 k0_h1
theorem k0_off5_wordsfp8e4m3 : ∀ (i : grid0.Coords) (v1 : BitVec 32) (k0_hw1 : k0_chk1 i v1) (k0_t1 : Fin (k0_t1_loop v1).trips), ∀ (k0_h1 : k0_cond1 v1 k0_t1 = 1#1), (Rect.unit (s := S2x131072x4x128) (k0_off5 i v1 k0_t1) S1x1024x4x128.size (k0_off5_inb i v1 k0_hw1 k0_t1 k0_h1)).WholeWords (EltTy.packing .fp8e4m3) := fun i v1 k0_hw1 k0_t1 k0_h1 => k0_hw1.1.2.2.2.2.1 k0_t1 k0_h1 (k0_off5_inb i v1 k0_hw1 k0_t1 k0_h1)
theorem k0_off4_wordsfp8e4m3 : ∀ (i : grid0.Coords) (v1 : BitVec 32) (k0_hw1 : k0_chk1 i v1) (k0_t1 : Fin (k0_t1_loop v1).trips), ∀ (k0_h1 : k0_cond1 v1 k0_t1 = 1#1), (Rect.unit (s := S2x1024x4x128) (k0_off4 v1 k0_t1) S1x1024x4x128.size (k0_off4_inb i v1 k0_hw1 k0_t1 k0_h1)).WholeWords (EltTy.packing .fp8e4m3) := fun i v1 k0_hw1 k0_t1 k0_h1 => k0_hw1.1.2.2.2.2.2.1 k0_t1 k0_h1 (k0_off4_inb i v1 k0_hw1 k0_t1 k0_h1)
theorem k0_off6_inb : ∀ (i : grid0.Coords) (v1 : BitVec 32) (k0_hw1 : k0_chk1 i v1) (k0_t1 : Fin (k0_t1_loop v1).trips), ∀ a, (k0_off6 v1 k0_t1) a + S1.size a ≤ S2.size a := fun i v1 k0_hw1 k0_t1 => k0_hw1.1.2.2.2.2.2.2.1 k0_t1
theorem k0_off7_inb : ∀ (i : grid0.Coords) (v1 : BitVec 32) (k0_hw1 : k0_chk1 i v1) (k0_t1 : Fin (k0_t1_loop v1).trips), ∀ a, (k0_off7 v1 k0_t1) a + S1x1024x4x128.size a ≤ S2x1024x4x128.size a := fun i v1 k0_hw1 k0_t1 => k0_hw1.1.2.2.2.2.2.2.2.1 k0_t1
theorem k0_off8_inb : ∀ (i : grid0.Coords) (v1 : BitVec 32) (k0_hw1 : k0_chk1 i v1) (k0_t1 : Fin (k0_t1_loop v1).trips), ∀ a, (k0_off8 i v1 k0_t1) a + S1x1024x4x128.size a ≤ S2x131072x4x128.size a := fun i v1 k0_hw1 k0_t1 => k0_hw1.1.2.2.2.2.2.2.2.2.1 k0_t1
theorem k0_off8_wordsfp8e4m3 : ∀ (i : grid0.Coords) (v1 : BitVec 32) (k0_hw1 : k0_chk1 i v1) (k0_t1 : Fin (k0_t1_loop v1).trips), (Rect.unit (s := S2x131072x4x128) (k0_off8 i v1 k0_t1) S1x1024x4x128.size (k0_off8_inb i v1 k0_hw1 k0_t1)).WholeWords (EltTy.packing .fp8e4m3) := fun i v1 k0_hw1 k0_t1 => k0_hw1.1.2.2.2.2.2.2.2.2.2.1 k0_t1 (k0_off8_inb i v1 k0_hw1 k0_t1)
theorem k0_off7_wordsfp8e4m3 : ∀ (i : grid0.Coords) (v1 : BitVec 32) (k0_hw1 : k0_chk1 i v1) (k0_t1 : Fin (k0_t1_loop v1).trips), (Rect.unit (s := S2x1024x4x128) (k0_off7 v1 k0_t1) S1x1024x4x128.size (k0_off7_inb i v1 k0_hw1 k0_t1)).WholeWords (EltTy.packing .fp8e4m3) := fun i v1 k0_hw1 k0_t1 => k0_hw1.1.2.2.2.2.2.2.2.2.2.2.1 k0_t1 (k0_off7_inb i v1 k0_hw1 k0_t1)
theorem k0_off9_inb : ∀ (i : grid0.Coords) (v1 : BitVec 32) (k0_hw1 : k0_chk1 i v1) (k0_t1 : Fin (k0_t1_loop v1).trips), ∀ a, (k0_off9 v1 k0_t1) a + S1x1x1024.size a ≤ S1x4x131072.size a := fun i v1 k0_hw1 k0_t1 => k0_hw1.1.2.2.2.2.2.2.2.2.2.2.2.1 k0_t1
theorem k0_off10_inb : ∀ (i : grid0.Coords) (v1 : BitVec 32) (k0_hw1 : k0_chk1 i v1) (k0_t1 : Fin (k0_t1_loop v1).trips), ∀ a, (k0_off10 v1 k0_t1) a + S1x1x1024.size a ≤ S1x4x131072.size a := fun i v1 k0_hw1 k0_t1 => k0_hw1.1.2.2.2.2.2.2.2.2.2.2.2.2.1 k0_t1
theorem k0_off11_inb : ∀ (i : grid0.Coords) (v1 : BitVec 32) (k0_hw1 : k0_chk1 i v1) (k0_t1 : Fin (k0_t1_loop v1).trips), ∀ a, (k0_off11 v1 k0_t1) a + S1x1x1024.size a ≤ S1x4x131072.size a := fun i v1 k0_hw1 k0_t1 => k0_hw1.1.2.2.2.2.2.2.2.2.2.2.2.2.2.1 k0_t1
theorem k0_off12_inb : ∀ (i : grid0.Coords) (v1 : BitVec 32) (k0_hw1 : k0_chk1 i v1) (k0_t1 : Fin (k0_t1_loop v1).trips), ∀ a, (k0_off12 v1 k0_t1) a + S1x1x1024.size a ≤ S1x4x131072.size a := fun i v1 k0_hw1 k0_t1 => k0_hw1.1.2.2.2.2.2.2.2.2.2.2.2.2.2.2.1 k0_t1
theorem k0_t6_ok : ∀ (i : grid0.Coords) (v1 : BitVec 32) (k0_hw1 : k0_chk1 i v1), (k0_t6_loop v1).OK := fun i v1 k0_hw1 => k0_hw1.1.2.2.2.2.2.2.2.2.2.2.2.2.2.2.2.1
theorem k0_off45_inb : ∀ (i : grid0.Coords) (v1 : BitVec 32) (k0_hw1 : k0_chk1 i v1) (k0_t6 : Fin (k0_t6_loop v1).trips), ∀ (k0_h4 : k0_cond4 v1 k0_t6 = 1#1), ∀ a, (k0_off45 v1 k0_t6) a + S1.size a ≤ S2.size a := fun i v1 k0_hw1 k0_t6 k0_h4 => k0_hw1.1.2.2.2.2.2.2.2.2.2.2.2.2.2.2.2.2.1 k0_t6 k0_h4
theorem k0_off46_inb : ∀ (i : grid0.Coords) (v1 : BitVec 32) (k0_hw1 : k0_chk1 i v1) (k0_t6 : Fin (k0_t6_loop v1).trips), ∀ (k0_h4 : k0_cond4 v1 k0_t6 = 1#1), ∀ a, (k0_off46 v1 k0_t6) a + S1x1024x4x128.size a ≤ S2x1024x4x128.size a := fun i v1 k0_hw1 k0_t6 k0_h4 => k0_hw1.1.2.2.2.2.2.2.2.2.2.2.2.2.2.2.2.2.2.1 k0_t6 k0_h4
theorem k0_off47_inb : ∀ (i : grid0.Coords) (v1 : BitVec 32) (k0_hw1 : k0_chk1 i v1) (k0_t6 : Fin (k0_t6_loop v1).trips), ∀ (k0_h4 : k0_cond4 v1 k0_t6 = 1#1), ∀ a, (k0_off47 i v1 k0_t6) a + S1x1024x4x128.size a ≤ S2x131072x4x128.size a := fun i v1 k0_hw1 k0_t6 k0_h4 => k0_hw1.1.2.2.2.2.2.2.2.2.2.2.2.2.2.2.2.2.2.2.1 k0_t6 k0_h4
theorem k0_off47_wordsfp8e4m3 : ∀ (i : grid0.Coords) (v1 : BitVec 32) (k0_hw1 : k0_chk1 i v1) (k0_t6 : Fin (k0_t6_loop v1).trips), ∀ (k0_h4 : k0_cond4 v1 k0_t6 = 1#1), (Rect.unit (s := S2x131072x4x128) (k0_off47 i v1 k0_t6) S1x1024x4x128.size (k0_off47_inb i v1 k0_hw1 k0_t6 k0_h4)).WholeWords (EltTy.packing .fp8e4m3) := fun i v1 k0_hw1 k0_t6 k0_h4 => k0_hw1.1.2.2.2.2.2.2.2.2.2.2.2.2.2.2.2.2.2.2.2.1 k0_t6 k0_h4 (k0_off47_inb i v1 k0_hw1 k0_t6 k0_h4)
theorem k0_off46_wordsfp8e4m3 : ∀ (i : grid0.Coords) (v1 : BitVec 32) (k0_hw1 : k0_chk1 i v1) (k0_t6 : Fin (k0_t6_loop v1).trips), ∀ (k0_h4 : k0_cond4 v1 k0_t6 = 1#1), (Rect.unit (s := S2x1024x4x128) (k0_off46 v1 k0_t6) S1x1024x4x128.size (k0_off46_inb i v1 k0_hw1 k0_t6 k0_h4)).WholeWords (EltTy.packing .fp8e4m3) := fun i v1 k0_hw1 k0_t6 k0_h4 => k0_hw1.1.2.2.2.2.2.2.2.2.2.2.2.2.2.2.2.2.2.2.2.2.1 k0_t6 k0_h4 (k0_off46_inb i v1 k0_hw1 k0_t6 k0_h4)
theorem k0_off48_inb : ∀ (i : grid0.Coords) (v1 : BitVec 32) (k0_hw1 : k0_chk1 i v1) (k0_t6 : Fin (k0_t6_loop v1).trips), ∀ a, (k0_off48 v1 k0_t6) a + S1.size a ≤ S2.size a := fun i v1 k0_hw1 k0_t6 => k0_hw1.1.2.2.2.2.2.2.2.2.2.2.2.2.2.2.2.2.2.2.2.2.2.1 k0_t6
theorem k0_off49_inb : ∀ (i : grid0.Coords) (v1 : BitVec 32) (k0_hw1 : k0_chk1 i v1) (k0_t6 : Fin (k0_t6_loop v1).trips), ∀ a, (k0_off49 v1 k0_t6) a + S1x1024x4x128.size a ≤ S2x1024x4x128.size a := fun i v1 k0_hw1 k0_t6 => k0_hw1.1.2.2.2.2.2.2.2.2.2.2.2.2.2.2.2.2.2.2.2.2.2.2.1 k0_t6
theorem k0_off50_inb : ∀ (i : grid0.Coords) (v1 : BitVec 32) (k0_hw1 : k0_chk1 i v1) (k0_t6 : Fin (k0_t6_loop v1).trips), ∀ a, (k0_off50 i v1 k0_t6) a + S1x1024x4x128.size a ≤ S2x131072x4x128.size a := fun i v1 k0_hw1 k0_t6 => k0_hw1.1.2.2.2.2.2.2.2.2.2.2.2.2.2.2.2.2.2.2.2.2.2.2.2.1 k0_t6
theorem k0_off50_wordsfp8e4m3 : ∀ (i : grid0.Coords) (v1 : BitVec 32) (k0_hw1 : k0_chk1 i v1) (k0_t6 : Fin (k0_t6_loop v1).trips), (Rect.unit (s := S2x131072x4x128) (k0_off50 i v1 k0_t6) S1x1024x4x128.size (k0_off50_inb i v1 k0_hw1 k0_t6)).WholeWords (EltTy.packing .fp8e4m3) := fun i v1 k0_hw1 k0_t6 => k0_hw1.1.2.2.2.2.2.2.2.2.2.2.2.2.2.2.2.2.2.2.2.2.2.2.2.2.1 k0_t6 (k0_off50_inb i v1 k0_hw1 k0_t6)
theorem k0_off49_wordsfp8e4m3 : ∀ (i : grid0.Coords) (v1 : BitVec 32) (k0_hw1 : k0_chk1 i v1) (k0_t6 : Fin (k0_t6_loop v1).trips), (Rect.unit (s := S2x1024x4x128) (k0_off49 v1 k0_t6) S1x1024x4x128.size (k0_off49_inb i v1 k0_hw1 k0_t6)).WholeWords (EltTy.packing .fp8e4m3) := fun i v1 k0_hw1 k0_t6 => k0_hw1.1.2.2.2.2.2.2.2.2.2.2.2.2.2.2.2.2.2.2.2.2.2.2.2.2.2.1 k0_t6 (k0_off49_inb i v1 k0_hw1 k0_t6)
theorem k0_off51_inb : ∀ (i : grid0.Coords) (v1 : BitVec 32) (k0_hw1 : k0_chk1 i v1) (k0_t6 : Fin (k0_t6_loop v1).trips), ∀ a, (k0_off51 v1 k0_t6) a + S1x1x1024.size a ≤ S1x4x131072.size a := fun i v1 k0_hw1 k0_t6 => k0_hw1.1.2.2.2.2.2.2.2.2.2.2.2.2.2.2.2.2.2.2.2.2.2.2.2.2.2.2.1 k0_t6
theorem k0_off52_inb : ∀ (i : grid0.Coords) (v1 : BitVec 32) (k0_hw1 : k0_chk1 i v1) (k0_t6 : Fin (k0_t6_loop v1).trips), ∀ a, (k0_off52 v1 k0_t6) a + S1x1x1024.size a ≤ S1x4x131072.size a := fun i v1 k0_hw1 k0_t6 => k0_hw1.1.2.2.2.2.2.2.2.2.2.2.2.2.2.2.2.2.2.2.2.2.2.2.2.2.2.2.2.1 k0_t6
theorem k0_off53_inb : ∀ (i : grid0.Coords) (v1 : BitVec 32) (k0_hw1 : k0_chk1 i v1) (k0_t6 : Fin (k0_t6_loop v1).trips), ∀ a, (k0_off53 v1 k0_t6) a + S1x1x1024.size a ≤ S1x4x131072.size a := fun i v1 k0_hw1 k0_t6 => k0_hw1.1.2.2.2.2.2.2.2.2.2.2.2.2.2.2.2.2.2.2.2.2.2.2.2.2.2.2.2.2.1 k0_t6
theorem k0_off54_inb : ∀ (i : grid0.Coords) (v1 : BitVec 32) (k0_hw1 : k0_chk1 i v1) (k0_t6 : Fin (k0_t6_loop v1).trips), ∀ a, (k0_off54 v1 k0_t6) a + S1x1x1024.size a ≤ S1x4x131072.size a := fun i v1 k0_hw1 k0_t6 => k0_hw1.1.2.2.2.2.2.2.2.2.2.2.2.2.2.2.2.2.2.2.2.2.2.2.2.2.2.2.2.2.2.1 k0_t6
theorem k0_t31_ok : ∀ (i : grid0.Coords) (v1 : BitVec 32) (k0_hw1 : k0_chk1 i v1), (k0_t31_loop v1).OK := fun i v1 k0_hw1 => k0_hw1.1.2.2.2.2.2.2.2.2.2.2.2.2.2.2.2.2.2.2.2.2.2.2.2.2.2.2.2.2.2.2.1
theorem k0_off257_inb : ∀ (i : grid0.Coords) (v1 : BitVec 32) (k0_hw1 : k0_chk1 i v1) (k0_t31 : Fin (k0_t31_loop v1).trips), ∀ (k0_h20 : k0_cond20 v1 k0_t31 = 1#1), ∀ a, (k0_off257 v1 k0_t31) a + S1.size a ≤ S2.size a := fun i v1 k0_hw1 k0_t31 k0_h20 => k0_hw1.1.2.2.2.2.2.2.2.2.2.2.2.2.2.2.2.2.2.2.2.2.2.2.2.2.2.2.2.2.2.2.2 k0_t31 k0_h20
theorem k0_off258_inb : ∀ (i : grid0.Coords) (v1 : BitVec 32) (k0_hw1 : k0_chk1 i v1) (k0_t31 : Fin (k0_t31_loop v1).trips), ∀ (k0_h20 : k0_cond20 v1 k0_t31 = 1#1), ∀ a, (k0_off258 v1 k0_t31) a + S1x1024x4x128.size a ≤ S2x1024x4x128.size a := fun i v1 k0_hw1 k0_t31 k0_h20 => k0_hw1.2.1.1 k0_t31 k0_h20
theorem k0_off259_inb : ∀ (i : grid0.Coords) (v1 : BitVec 32) (k0_hw1 : k0_chk1 i v1) (k0_t31 : Fin (k0_t31_loop v1).trips), ∀ (k0_h20 : k0_cond20 v1 k0_t31 = 1#1), ∀ a, (k0_off259 i v1 k0_t31) a + S1x1024x4x128.size a ≤ S2x131072x4x128.size a := fun i v1 k0_hw1 k0_t31 k0_h20 => k0_hw1.2.1.2.1 k0_t31 k0_h20
theorem k0_off259_wordsfp8e4m3 : ∀ (i : grid0.Coords) (v1 : BitVec 32) (k0_hw1 : k0_chk1 i v1) (k0_t31 : Fin (k0_t31_loop v1).trips), ∀ (k0_h20 : k0_cond20 v1 k0_t31 = 1#1), (Rect.unit (s := S2x131072x4x128) (k0_off259 i v1 k0_t31) S1x1024x4x128.size (k0_off259_inb i v1 k0_hw1 k0_t31 k0_h20)).WholeWords (EltTy.packing .fp8e4m3) := fun i v1 k0_hw1 k0_t31 k0_h20 => k0_hw1.2.1.2.2.1 k0_t31 k0_h20 (k0_off259_inb i v1 k0_hw1 k0_t31 k0_h20)
theorem k0_off258_wordsfp8e4m3 : ∀ (i : grid0.Coords) (v1 : BitVec 32) (k0_hw1 : k0_chk1 i v1) (k0_t31 : Fin (k0_t31_loop v1).trips), ∀ (k0_h20 : k0_cond20 v1 k0_t31 = 1#1), (Rect.unit (s := S2x1024x4x128) (k0_off258 v1 k0_t31) S1x1024x4x128.size (k0_off258_inb i v1 k0_hw1 k0_t31 k0_h20)).WholeWords (EltTy.packing .fp8e4m3) := fun i v1 k0_hw1 k0_t31 k0_h20 => k0_hw1.2.1.2.2.2.1 k0_t31 k0_h20 (k0_off258_inb i v1 k0_hw1 k0_t31 k0_h20)
theorem k0_off260_inb : ∀ (i : grid0.Coords) (v1 : BitVec 32) (k0_hw1 : k0_chk1 i v1) (k0_t31 : Fin (k0_t31_loop v1).trips), ∀ a, (k0_off260 v1 k0_t31) a + S1.size a ≤ S2.size a := fun i v1 k0_hw1 k0_t31 => k0_hw1.2.1.2.2.2.2.1 k0_t31
theorem k0_off261_inb : ∀ (i : grid0.Coords) (v1 : BitVec 32) (k0_hw1 : k0_chk1 i v1) (k0_t31 : Fin (k0_t31_loop v1).trips), ∀ a, (k0_off261 v1 k0_t31) a + S1x1024x4x128.size a ≤ S2x1024x4x128.size a := fun i v1 k0_hw1 k0_t31 => k0_hw1.2.1.2.2.2.2.2.1 k0_t31
theorem k0_off262_inb : ∀ (i : grid0.Coords) (v1 : BitVec 32) (k0_hw1 : k0_chk1 i v1) (k0_t31 : Fin (k0_t31_loop v1).trips), ∀ a, (k0_off262 i v1 k0_t31) a + S1x1024x4x128.size a ≤ S2x131072x4x128.size a := fun i v1 k0_hw1 k0_t31 => k0_hw1.2.1.2.2.2.2.2.2.1 k0_t31
theorem k0_off262_wordsfp8e4m3 : ∀ (i : grid0.Coords) (v1 : BitVec 32) (k0_hw1 : k0_chk1 i v1) (k0_t31 : Fin (k0_t31_loop v1).trips), (Rect.unit (s := S2x131072x4x128) (k0_off262 i v1 k0_t31) S1x1024x4x128.size (k0_off262_inb i v1 k0_hw1 k0_t31)).WholeWords (EltTy.packing .fp8e4m3) := fun i v1 k0_hw1 k0_t31 => k0_hw1.2.1.2.2.2.2.2.2.2.1 k0_t31 (k0_off262_inb i v1 k0_hw1 k0_t31)
theorem k0_off261_wordsfp8e4m3 : ∀ (i : grid0.Coords) (v1 : BitVec 32) (k0_hw1 : k0_chk1 i v1) (k0_t31 : Fin (k0_t31_loop v1).trips), (Rect.unit (s := S2x1024x4x128) (k0_off261 v1 k0_t31) S1x1024x4x128.size (k0_off261_inb i v1 k0_hw1 k0_t31)).WholeWords (EltTy.packing .fp8e4m3) := fun i v1 k0_hw1 k0_t31 => k0_hw1.2.1.2.2.2.2.2.2.2.2.1 k0_t31 (k0_off261_inb i v1 k0_hw1 k0_t31)
theorem k0_off263_inb : ∀ (i : grid0.Coords) (v1 : BitVec 32) (k0_hw1 : k0_chk1 i v1) (k0_t31 : Fin (k0_t31_loop v1).trips), ∀ a, (k0_off263 v1 k0_t31) a + S1x1x1024.size a ≤ S1x4x131072.size a := fun i v1 k0_hw1 k0_t31 => k0_hw1.2.1.2.2.2.2.2.2.2.2.2.1 k0_t31
theorem k0_off264_inb : ∀ (i : grid0.Coords) (v1 : BitVec 32) (k0_hw1 : k0_chk1 i v1) (k0_t31 : Fin (k0_t31_loop v1).trips), ∀ a, (k0_off264 v1 k0_t31) a + S1x1x1024.size a ≤ S1x4x131072.size a := fun i v1 k0_hw1 k0_t31 => k0_hw1.2.1.2.2.2.2.2.2.2.2.2.2.1 k0_t31
theorem k0_off265_inb : ∀ (i : grid0.Coords) (v1 : BitVec 32) (k0_hw1 : k0_chk1 i v1) (k0_t31 : Fin (k0_t31_loop v1).trips), ∀ a, (k0_off265 v1 k0_t31) a + S1x1x1024.size a ≤ S1x4x131072.size a := fun i v1 k0_hw1 k0_t31 => k0_hw1.2.1.2.2.2.2.2.2.2.2.2.2.2.1 k0_t31
theorem k0_off266_inb : ∀ (i : grid0.Coords) (v1 : BitVec 32) (k0_hw1 : k0_chk1 i v1) (k0_t31 : Fin (k0_t31_loop v1).trips), ∀ a, (k0_off266 v1 k0_t31) a + S1x1x1024.size a ≤ S1x4x131072.size a := fun i v1 k0_hw1 k0_t31 => k0_hw1.2.1.2.2.2.2.2.2.2.2.2.2.2.2.1 k0_t31
theorem k0_off283_inb : ∀ (i : grid0.Coords) (v1 : BitVec 32) (k0_hw1 : k0_chk1 i v1) (k0_t31 : Fin (k0_t31_loop v1).trips) (k0_t32 : Fin k0_t32_loop.trips) (k0_t33 : Fin k0_t33_loop.trips), ∀ (k0_h21 : k0_cond21 v1 k0_t31 = 1#1), ∀ a, (k0_off283 v1 k0_t31 k0_t32 k0_t33) a + S1x1x256.size a ≤ S1x4x131072.size a := fun i v1 k0_hw1 k0_t31 k0_t32 k0_t33 k0_h21 => k0_hw1.2.1.2.2.2.2.2.2.2.2.2.2.2.2.2.1 k0_t31 k0_t32 k0_t33 k0_h21
theorem k0_off300_inb : ∀ (i : grid0.Coords) (v1 : BitVec 32) (k0_hw1 : k0_chk1 i v1) (k0_t31 : Fin (k0_t31_loop v1).trips) (k0_t34 : Fin k0_t34_loop.trips) (k0_t35 : Fin k0_t35_loop.trips), ∀ (k0_h22 : k0_cond22 v1 k0_t31 = 1#1), ∀ a, (k0_off300 v1 k0_t31 k0_t34 k0_t35) a + S1x1x256.size a ≤ S1x4x131072.size a := fun i v1 k0_hw1 k0_t31 k0_t34 k0_t35 k0_h22 => k0_hw1.2.1.2.2.2.2.2.2.2.2.2.2.2.2.2.2.1 k0_t31 k0_t34 k0_t35 k0_h22
theorem k0_t36_ok : ∀ (i : grid0.Coords) (v1 : BitVec 32) (k0_hw1 : k0_chk1 i v1), (k0_t36_loop v1).OK := fun i v1 k0_hw1 => k0_hw1.2.1.2.2.2.2.2.2.2.2.2.2.2.2.2.2.2.1
theorem k0_off301_inb : ∀ (i : grid0.Coords) (v1 : BitVec 32) (k0_hw1 : k0_chk1 i v1) (k0_t36 : Fin (k0_t36_loop v1).trips), ∀ (k0_h23 : k0_cond23 v1 k0_t36 = 1#1), ∀ a, (k0_off301 v1 k0_t36) a + S1.size a ≤ S2.size a := fun i v1 k0_hw1 k0_t36 k0_h23 => k0_hw1.2.1.2.2.2.2.2.2.2.2.2.2.2.2.2.2.2.2.1 k0_t36 k0_h23
theorem k0_off302_inb : ∀ (i : grid0.Coords) (v1 : BitVec 32) (k0_hw1 : k0_chk1 i v1) (k0_t36 : Fin (k0_t36_loop v1).trips), ∀ (k0_h23 : k0_cond23 v1 k0_t36 = 1#1), ∀ a, (k0_off302 v1 k0_t36) a + S1x1024x4x128.size a ≤ S2x1024x4x128.size a := fun i v1 k0_hw1 k0_t36 k0_h23 => k0_hw1.2.1.2.2.2.2.2.2.2.2.2.2.2.2.2.2.2.2.2.1 k0_t36 k0_h23
theorem k0_off303_inb : ∀ (i : grid0.Coords) (v1 : BitVec 32) (k0_hw1 : k0_chk1 i v1) (k0_t36 : Fin (k0_t36_loop v1).trips), ∀ (k0_h23 : k0_cond23 v1 k0_t36 = 1#1), ∀ a, (k0_off303 i v1 k0_t36) a + S1x1024x4x128.size a ≤ S2x131072x4x128.size a := fun i v1 k0_hw1 k0_t36 k0_h23 => k0_hw1.2.1.2.2.2.2.2.2.2.2.2.2.2.2.2.2.2.2.2.2.1 k0_t36 k0_h23
theorem k0_off303_wordsfp8e4m3 : ∀ (i : grid0.Coords) (v1 : BitVec 32) (k0_hw1 : k0_chk1 i v1) (k0_t36 : Fin (k0_t36_loop v1).trips), ∀ (k0_h23 : k0_cond23 v1 k0_t36 = 1#1), (Rect.unit (s := S2x131072x4x128) (k0_off303 i v1 k0_t36) S1x1024x4x128.size (k0_off303_inb i v1 k0_hw1 k0_t36 k0_h23)).WholeWords (EltTy.packing .fp8e4m3) := fun i v1 k0_hw1 k0_t36 k0_h23 => k0_hw1.2.1.2.2.2.2.2.2.2.2.2.2.2.2.2.2.2.2.2.2.2.1 k0_t36 k0_h23 (k0_off303_inb i v1 k0_hw1 k0_t36 k0_h23)
theorem k0_off302_wordsfp8e4m3 : ∀ (i : grid0.Coords) (v1 : BitVec 32) (k0_hw1 : k0_chk1 i v1) (k0_t36 : Fin (k0_t36_loop v1).trips), ∀ (k0_h23 : k0_cond23 v1 k0_t36 = 1#1), (Rect.unit (s := S2x1024x4x128) (k0_off302 v1 k0_t36) S1x1024x4x128.size (k0_off302_inb i v1 k0_hw1 k0_t36 k0_h23)).WholeWords (EltTy.packing .fp8e4m3) := fun i v1 k0_hw1 k0_t36 k0_h23 => k0_hw1.2.1.2.2.2.2.2.2.2.2.2.2.2.2.2.2.2.2.2.2.2.2.1 k0_t36 k0_h23 (k0_off302_inb i v1 k0_hw1 k0_t36 k0_h23)
theorem k0_off304_inb : ∀ (i : grid0.Coords) (v1 : BitVec 32) (k0_hw1 : k0_chk1 i v1) (k0_t36 : Fin (k0_t36_loop v1).trips), ∀ a, (k0_off304 v1 k0_t36) a + S1.size a ≤ S2.size a := fun i v1 k0_hw1 k0_t36 => k0_hw1.2.1.2.2.2.2.2.2.2.2.2.2.2.2.2.2.2.2.2.2.2.2.2.1 k0_t36
theorem k0_off305_inb : ∀ (i : grid0.Coords) (v1 : BitVec 32) (k0_hw1 : k0_chk1 i v1) (k0_t36 : Fin (k0_t36_loop v1).trips), ∀ a, (k0_off305 v1 k0_t36) a + S1x1024x4x128.size a ≤ S2x1024x4x128.size a := fun i v1 k0_hw1 k0_t36 => k0_hw1.2.1.2.2.2.2.2.2.2.2.2.2.2.2.2.2.2.2.2.2.2.2.2.2.1 k0_t36
theorem k0_off306_inb : ∀ (i : grid0.Coords) (v1 : BitVec 32) (k0_hw1 : k0_chk1 i v1) (k0_t36 : Fin (k0_t36_loop v1).trips), ∀ a, (k0_off306 i v1 k0_t36) a + S1x1024x4x128.size a ≤ S2x131072x4x128.size a := fun i v1 k0_hw1 k0_t36 => k0_hw1.2.1.2.2.2.2.2.2.2.2.2.2.2.2.2.2.2.2.2.2.2.2.2.2.2.1 k0_t36
theorem k0_off306_wordsfp8e4m3 : ∀ (i : grid0.Coords) (v1 : BitVec 32) (k0_hw1 : k0_chk1 i v1) (k0_t36 : Fin (k0_t36_loop v1).trips), (Rect.unit (s := S2x131072x4x128) (k0_off306 i v1 k0_t36) S1x1024x4x128.size (k0_off306_inb i v1 k0_hw1 k0_t36)).WholeWords (EltTy.packing .fp8e4m3) := fun i v1 k0_hw1 k0_t36 => k0_hw1.2.1.2.2.2.2.2.2.2.2.2.2.2.2.2.2.2.2.2.2.2.2.2.2.2.2.1 k0_t36 (k0_off306_inb i v1 k0_hw1 k0_t36)
theorem k0_off305_wordsfp8e4m3 : ∀ (i : grid0.Coords) (v1 : BitVec 32) (k0_hw1 : k0_chk1 i v1) (k0_t36 : Fin (k0_t36_loop v1).trips), (Rect.unit (s := S2x1024x4x128) (k0_off305 v1 k0_t36) S1x1024x4x128.size (k0_off305_inb i v1 k0_hw1 k0_t36)).WholeWords (EltTy.packing .fp8e4m3) := fun i v1 k0_hw1 k0_t36 => k0_hw1.2.1.2.2.2.2.2.2.2.2.2.2.2.2.2.2.2.2.2.2.2.2.2.2.2.2.2.1 k0_t36 (k0_off305_inb i v1 k0_hw1 k0_t36)
theorem k0_off307_inb : ∀ (i : grid0.Coords) (v1 : BitVec 32) (k0_hw1 : k0_chk1 i v1) (k0_t36 : Fin (k0_t36_loop v1).trips), ∀ a, (k0_off307 v1 k0_t36) a + S1x1x1024.size a ≤ S1x4x131072.size a := fun i v1 k0_hw1 k0_t36 => k0_hw1.2.1.2.2.2.2.2.2.2.2.2.2.2.2.2.2.2.2.2.2.2.2.2.2.2.2.2.2.1 k0_t36
theorem k0_off308_inb : ∀ (i : grid0.Coords) (v1 : BitVec 32) (k0_hw1 : k0_chk1 i v1) (k0_t36 : Fin (k0_t36_loop v1).trips), ∀ a, (k0_off308 v1 k0_t36) a + S1x1x1024.size a ≤ S1x4x131072.size a := fun i v1 k0_hw1 k0_t36 => k0_hw1.2.1.2.2.2.2.2.2.2.2.2.2.2.2.2.2.2.2.2.2.2.2.2.2.2.2.2.2.2.1 k0_t36
theorem k0_off309_inb : ∀ (i : grid0.Coords) (v1 : BitVec 32) (k0_hw1 : k0_chk1 i v1) (k0_t36 : Fin (k0_t36_loop v1).trips), ∀ a, (k0_off309 v1 k0_t36) a + S1x1x1024.size a ≤ S1x4x131072.size a := fun i v1 k0_hw1 k0_t36 => k0_hw1.2.1.2.2.2.2.2.2.2.2.2.2.2.2.2.2.2.2.2.2.2.2.2.2.2.2.2.2.2.2.1 k0_t36
theorem k0_off310_inb : ∀ (i : grid0.Coords) (v1 : BitVec 32) (k0_hw1 : k0_chk1 i v1) (k0_t36 : Fin (k0_t36_loop v1).trips), ∀ a, (k0_off310 v1 k0_t36) a + S1x1x1024.size a ≤ S1x4x131072.size a := fun i v1 k0_hw1 k0_t36 => k0_hw1.2.1.2.2.2.2.2.2.2.2.2.2.2.2.2.2.2.2.2.2.2.2.2.2.2.2.2.2.2.2.2.1 k0_t36
theorem k0_off327_inb : ∀ (i : grid0.Coords) (v1 : BitVec 32) (k0_hw1 : k0_chk1 i v1) (k0_t36 : Fin (k0_t36_loop v1).trips) (k0_t37 : Fin k0_t37_loop.trips) (k0_t38 : Fin k0_t38_loop.trips), ∀ (k0_h24 : k0_cond24 v1 k0_t36 = 1#1), ∀ a, (k0_off327 v1 k0_t36 k0_t37 k0_t38) a + S1x1x256.size a ≤ S1x4x131072.size a := fun i v1 k0_hw1 k0_t36 k0_t37 k0_t38 k0_h24 => k0_hw1.2.1.2.2.2.2.2.2.2.2.2.2.2.2.2.2.2.2.2.2.2.2.2.2.2.2.2.2.2.2.2.2.1 k0_t36 k0_t37 k0_t38 k0_h24
theorem k0_off344_inb : ∀ (i : grid0.Coords) (v1 : BitVec 32) (k0_hw1 : k0_chk1 i v1) (k0_t36 : Fin (k0_t36_loop v1).trips) (k0_t39 : Fin k0_t39_loop.trips) (k0_t40 : Fin k0_t40_loop.trips), ∀ (k0_h25 : k0_cond25 v1 k0_t36 = 1#1), ∀ a, (k0_off344 v1 k0_t36 k0_t39 k0_t40) a + S1x1x256.size a ≤ S1x4x131072.size a := fun i v1 k0_hw1 k0_t36 k0_t39 k0_t40 k0_h25 => k0_hw1.2.1.2.2.2.2.2.2.2.2.2.2.2.2.2.2.2.2.2.2.2.2.2.2.2.2.2.2.2.2.2.2.2 k0_t36 k0_t39 k0_t40 k0_h25
theorem k0_t42_ok : ∀ (i : grid0.Coords) (v1 : BitVec 32) (k0_hw1 : k0_chk1 i v1), (k0_t42_loop v1).OK := fun i v1 k0_hw1 => k0_hw1.2.2.1
theorem k0_off347_inb : ∀ (i : grid0.Coords) (v1 : BitVec 32) (k0_hw1 : k0_chk1 i v1) (k0_t42 : Fin (k0_t42_loop v1).trips), ∀ a, (k0_off347 v1 k0_t42) a + S4x1280.size a ≤ S4x131328.size a := fun i v1 k0_hw1 k0_t42 => k0_hw1.2.2.2.1 k0_t42
theorem k0_off348_inb : ∀ (i : grid0.Coords) (v1 : BitVec 32) (k0_hw1 : k0_chk1 i v1) (k0_t42 : Fin (k0_t42_loop v1).trips), ∀ a, (k0_off348 v1 k0_t42) a + S1x4x1024.size a ≤ S1x4x131072.size a := fun i v1 k0_hw1 k0_t42 => k0_hw1.2.2.2.2.1 k0_t42
theorem k0_t43_ok : ∀ (i : grid0.Coords) (v1 : BitVec 32) (k0_hw1 : k0_chk1 i v1), (k0_t43_loop v1).OK := fun i v1 k0_hw1 => k0_hw1.2.2.2.2.2.1
theorem k0_off349_inb : ∀ (i : grid0.Coords) (v1 : BitVec 32) (k0_hw1 : k0_chk1 i v1) (k0_t43 : Fin (k0_t43_loop v1).trips), ∀ a, (k0_off349 v1 k0_t43) a + S4x1280.size a ≤ S4x131328.size a := fun i v1 k0_hw1 k0_t43 => k0_hw1.2.2.2.2.2.2.1 k0_t43
theorem k0_off350_inb : ∀ (i : grid0.Coords) (v1 : BitVec 32) (k0_hw1 : k0_chk1 i v1) (k0_t43 : Fin (k0_t43_loop v1).trips), ∀ a, (k0_off350 v1 k0_t43) a + S1x4x1024.size a ≤ S1x4x131072.size a := fun i v1 k0_hw1 k0_t43 => k0_hw1.2.2.2.2.2.2.2 k0_t43

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x28x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x28x32x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x28x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S2x32x28x128 : Shape := ⟨4, ![2, 32, 28, 128]⟩
abbrev S2x131072x4x128 : Shape := ⟨4, ![2, 131072, 4, 128]⟩
abbrev S2x131072x4 : Shape := ⟨3, ![2, 131072, 4]⟩
abbrev S2 : Shape := ⟨1, ![2]⟩
abbrev S2x28x32x128 : Shape := ⟨4, ![2, 28, 32, 128]⟩
abbrev S2x4x131072x128 : Shape := ⟨4, ![2, 4, 131072, 128]⟩
abbrev S2x4x131072 : Shape := ⟨3, ![2, 4, 131072]⟩
abbrev S2x4x224x128 : Shape := ⟨4, ![2, 4, 224, 128]⟩
abbrev S2x28x128 : Shape := ⟨3, ![2, 28, 128]⟩
abbrev S2x28 : Shape := ⟨2, ![2, 28]⟩
abbrev S2x28x1x1 : Shape := ⟨4, ![2, 28, 1, 1]⟩
abbrev S2x28x1 : Shape := ⟨3, ![2, 28, 1]⟩
abbrev S8x224x128 : Shape := ⟨3, ![8, 224, 128]⟩
abbrev S8x131072x128 : Shape := ⟨3, ![8, 131072, 128]⟩
abbrev S8x224x131072 : Shape := ⟨3, ![8, 224, 131072]⟩
abbrev S2x4x7x1x1 : Shape := ⟨5, ![2, 4, 7, 1, 1]⟩
abbrev S2x4x7x32x131072 : Shape := ⟨5, ![2, 4, 7, 32, 131072]⟩
abbrev S2x4x1x1x131072 : Shape := ⟨5, ![2, 4, 1, 1, 131072]⟩
abbrev S2x1x1x1x1 : Shape := ⟨5, ![2, 1, 1, 1, 1]⟩
abbrev S1x1x1x32x1 : Shape := ⟨5, ![1, 1, 1, 32, 1]⟩
abbrev S2x1x1x32x1 : Shape := ⟨5, ![2, 1, 1, 32, 1]⟩
abbrev S2x4x7x32 : Shape := ⟨4, ![2, 4, 7, 32]⟩
abbrev S2x4x7x32x1 : Shape := ⟨5, ![2, 4, 7, 32, 1]⟩
abbrev S2x4x7x32x128 : Shape := ⟨5, ![2, 4, 7, 32, 128]⟩

abbrev nBuf : Space → Nat
  | .hbm => 10
  | .vmem => 7
  | .smem => 0
  | _ => 0

abbrev bufTy : (tb : Table) → Fin (tcTables nBuf tb) → BufTy
  | .hbm, ⟨0, _⟩ => ⟨S2x32x28x128, .bf16⟩
  | .hbm, ⟨1, _⟩ => ⟨S2x131072x4x128, .fp8e4m3⟩
  | .hbm, ⟨2, _⟩ => ⟨S2x131072x4, .f32⟩
  | .hbm, ⟨3, _⟩ => ⟨S2, .i32⟩
  | .hbm, ⟨4, _⟩ => ⟨S2x28x32x128, .bf16⟩
  | .hbm, ⟨5, _⟩ => ⟨S2x4x131072x128, .fp8e4m3⟩
  | .hbm, ⟨6, _⟩ => ⟨S2x4x131072, .f32⟩
  | .hbm, ⟨7, _⟩ => ⟨S2x4x224x128, .f32⟩
  | .hbm, ⟨8, _⟩ => ⟨S2x28x32x128, .fp8e4m3⟩
  | .hbm, ⟨9, _⟩ => ⟨S2x28x128, .f32⟩
  | .local _ .vmem, ⟨0, _⟩ => ⟨S2x28x32x128, .bf16⟩
  | .local _ .vmem, ⟨1, _⟩ => ⟨S2x4x131072x128, .fp8e4m3⟩
  | .local _ .vmem, ⟨2, _⟩ => ⟨S2x4x131072, .f32⟩
  | .local _ .vmem, ⟨3, _⟩ => ⟨S2, .i32⟩
  | .local _ .vmem, ⟨4, _⟩ => ⟨S2x4x224x128, .f32⟩
  | .local _ .vmem, ⟨5, _⟩ => ⟨S2x28x32x128, .fp8e4m3⟩
  | .local _ .vmem, ⟨6, _⟩ => ⟨S2x28x128, .f32⟩
  | _, _ => ⟨S2x32x28x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | "scale" => some (((Real.sqrt 128)⁻¹ : ℝ) : EReal)
  | _ => none

abbrev grid0 : Pipeline.Grid := .none

abbrev stage0_0 : Fin 1 → Memref sig .tc .vmem S2x28x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x131072x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x131072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x224x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x28x32x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x28x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tile.lean ====
/-
  One tile of scores over the reals: what the loads, the product and the scales of a row block come to, with the mask
  and with the shift, and what the seven stores of a trip leave in the accumulator.
-/
module

public import proofs.«01_k».proof.Proof.Gen.KernelIdeal.Loops
public import Idealize.ShloMosaic.Lib.MatmulPlain
public import Idealize.ShloMosaic.Lib.ValueIdx
public import Idealize.ShloMosaic.Lib.ValueLayout
public import Idealize.ShloMosaic.Lib.WritesUnit
public import Idealize.ShloMosaic.Lib.Pipeline.Value

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx

/-- Row `w` of row block `g`. -/
abbrev blkRow (g : Fin 7) (w : Fin 32) : Fin 224 := ⟨32 * g.val + w.val, by omega⟩
/-- Column `x` of tile `j`. -/
abbrev tileCol (j : Fin 4) (x : Fin 256) : Fin 1024 := ⟨256 * j.val + x.val, by omega⟩
/-- Lane `l` of the first and of the second half of a tile. -/
abbrev lane0 (l : Fin 128) : Fin 256 := ⟨l.val, by omega⟩
abbrev lane1 (l : Fin 128) : Fin 256 := ⟨128 + l.val, by omega⟩

/-- A row's score at a column of the chunk: the product of query and key codes times the scale of the row block. -/
def score (Q : S4x224x128.Idx → EReal) (K : S4x1024x128.Idx → EReal) (H : S4x8x1024.Idx → EReal) (κ : Fin 4) (g : Fin 7)
    (w : Fin 32) (u : Fin 1024) : EReal :=
  (∑ d : Fin 128, Q (ix3 κ (blkRow g w) d) * K (ix3 κ u d)) * H (ix3 κ (g.castLE (by decide) : Fin 8) u)

/-- A load of one unit row of a rank-3 array, at an index. -/
theorem ld_unit3 {α : Type} {n0 n1 n2 m1 m2 : ℕ} (X : (⟨3, ![n0, n1, n2]⟩ : Shape).Idx → α) {off : Fin 3 → ℕ} (inb) (κ : Fin n0)
    (o1 o2 : ℕ) (e : off = ![κ.val, o1, o2]) (a : Fin m1) (b : Fin m2) (a' : Fin n1) (b' : Fin n2) (ha : a'.val = o1 + a.val) (hb : b'.val = o2 + b.val) :
    X ((Rect.unit (s := ⟨3, ![n0, n1, n2]⟩) off ![1, m1, m2] inb).idx (ix3 (0 : Fin 1) a b)) = X (ix3 κ a' b') := by
  subst e
  refine congrArg X (funext fun x => Fin.ext ?_)
  match x with
  | ⟨0, _⟩ => show κ.val + 1 * 0 = κ.val; omega
  | ⟨1, _⟩ => show o1 + 1 * a.val = a'.val; omega
  | ⟨2, _⟩ => show o2 + 1 * b.val = b'.val; omega

section Score
variable (Q : S4x224x128.Idx → EReal) (K : S4x1024x128.Idx → EReal) (H : S4x8x1024.Idx → EReal) (κ : Fin 4) (j : Fin 4)

/-- The scores of row block `g` in a tile, as the trip computes them. -/
theorem score_at (g : Fin 7) {offQ offK offH : Fin 3 → ℕ} (iQ iK iH) (eQ : offQ = ![κ.val, 0, 0])
    (eK : offK = ![κ.val, 256 * j.val, 0]) (eH : offH = ![κ.val, g.val, 256 * j.val]) (o : ℕ) (ho : o = 32 * g.val) (h1 h2 h3 h4 h5) (w : Fin 32) (x : Fin 256) :
    mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5) (ix2 w x)
      = score Q K H κ g w (tileCol j x) := by
  subst ho
  rw [mulf_apply, slice2_axis0_apply (32 * g.val) _ h3 w x (blkRow g w) rfl]
  refine congrArg₂ (· * ·) ?_ ?_
  · refine (Ideal.matmul_transposedRhs_apply (M := 224) (K := 128) (N := 256) none _ _ _ (blkRow g w) x).trans ?_
    rw [constant_apply, Ideal.ofBits_zero_f32, zero_add]
    refine Finset.sum_congr rfl fun d _ => congrArg₂ (· * ·) ?_ ?_
    · refine (shapeCast_1ab_ab_apply _ _ _ _).trans ?_
      exact ld_unit3 Q iQ κ 0 0 eQ (blkRow g w) d (blkRow g w) d (by omega) (by omega)
    · refine (shapeCast_1ab_ab_apply _ _ _ _).trans ?_
      exact ld_unit3 K iK κ (256 * j.val) 0 eK x d (tileCol j x) d rfl (by omega)
  · refine (broadcastTo_1b_ab_apply _ _ _ _).trans ((shapeCast_1ab_ab_apply _ _ _ _).trans ?_)
    exact ld_unit3 H iH κ g.val (256 * j.val) eH 0 x _ (tileCol j x) rfl rfl

end Score

/-- A score under the mask: the tile's position against the row's. -/
def maskAt (a v2 : BitVec 32) (w : Fin 32) (x : Fin 256) (s : EReal) : EReal :=
  if (a + BitVec.ofNat 32 x.val).sle (v2 + BitVec.ofNat 32 w.val) then s else ⊥

/-- The mask of a tile at an index: the tile's position against the row's. -/
theorem masked_at (a v2 : BitVec 32) (S : FVec Ideal S32x256 .f32) (h1 h0) (w : Fin 32) (x : Fin 256) :
    select (cmpi .sle (addi (broadcast S32x256 a) (iota .tc S32x256 32 [1] h1)) (addi (broadcast S32x256 v2) (iota .tc S32x256 32 [0] h0)))
        S (broadcast S32x256 (FloatOps.ofBits (F := Ideal) .f32 4286578688#32)) (ix2 w x)
      = maskAt a v2 w x (S (ix2 w x)) := by
  show (if (cmpi .sle _ _ (ix2 w x)) = 1#1 then _ else _) = _
  have e : (cmpi .sle (addi (broadcast S32x256 a) (iota .tc S32x256 32 [1] h1)) (addi (broadcast S32x256 v2) (iota .tc S32x256 32 [0] h0)) (ix2 w x) = 1#1)
      ↔ (a + BitVec.ofNat 32 x.val).sle (v2 + BitVec.ofNat 32 w.val) = true := by
    show Scalar.cmpi .sle (a + iota .tc S32x256 32 [1] h1 (ix2 w x)) (v2 + iota .tc S32x256 32 [0] h0 (ix2 w x)) = 1#1 ↔ _
    rw [iota_single_apply, iota_single_apply]
    show BitVec.ofBool _ = 1#1 ↔ _
    cases h : (a + BitVec.ofNat 32 x.val).sle (v2 + BitVec.ofNat 32 w.val) <;> simp [h]
  have b : (broadcast S32x256 (FloatOps.ofBits (F := Ideal) .f32 4286578688#32)) (ix2 w x) = (⊥ : EReal) := by
    show Ideal.ofBits .f32 4286578688#32 = ⊥
    simp [Ideal.ofBits, Ideal.ieee]
  rw [b]; unfold maskAt
  by_cases h : (a + BitVec.ofNat 32 x.val).sle (v2 + BitVec.ofNat 32 w.val) = true
  · rw [if_pos (e.mpr h), if_pos h]
  · rw [if_neg (fun z => h (e.mp z)), if_neg h]

/-- A row block shifted by its running value, lane by lane in both halves of the tile. -/
theorem shifted_at (S : FVec Ideal S32x256 .f32) (M : FVec Ideal S32x128 .f32) (h) (w : Fin 32) (l : Fin 128) :
    exp2 (subf S (concatenate S32x256 1 [⟨S32x128, M⟩, ⟨S32x128, M⟩] h)) (ix2 w (lane0 l)) = Ideal.exp2 (S (ix2 w (lane0 l)) - M (ix2 w l))
    ∧ exp2 (subf S (concatenate S32x256 1 [⟨S32x128, M⟩, ⟨S32x128, M⟩] h)) (ix2 w (lane1 l)) = Ideal.exp2 (S (ix2 w (lane1 l)) - M (ix2 w l)) := by
  constructor
  · refine congrArg (fun z => Ideal.exp2 (S (ix2 w (lane0 l)) - z)) ?_
    refine concatenate_pair_apply_left (t := S32x256) 1 M M h (ix2 w (lane0 l)) rfl (ix2 w l) fun b => ?_
    match b with
    | ⟨0, _⟩ => rfl
    | ⟨1, _⟩ => rfl
  · refine congrArg (fun z => Ideal.exp2 (S (ix2 w (lane1 l)) - z)) ?_
    refine concatenate_pair_apply_right (t := S32x256) 1 M M h (ix2 w (lane1 l)) rfl rfl (ix2 w l) ?_ ?_
    · intro b hb
      match b, hb with
      | ⟨0, _⟩, _ => rfl
      | ⟨1, _⟩, hb => exact absurd rfl hb
    · show l.val + 128 = 128 + l.val
      omega

/-- An accumulation of the two halves of a tile into a row block. -/
theorem acc_at (A : FVec Ideal S1x32x128 .f32) (E : FVec Ideal S32x256 .f32) (h1 h2 h3 h4) (w : Fin 32) (l : Fin 128) :
    shapeCast S1x32x128 (addf (shapeCast S32x128 A h1 : FVec Ideal S32x128 .f32)
        (addf (extractStridedSlice S32x128 ![0, 0] E h2 : FVec Ideal S32x128 .f32) (extractStridedSlice S32x128 ![0, 128] E h3))) h4 (ix3 (0 : Fin 1) w l)
      = A (ix3 (0 : Fin 1) w l) + (E (ix2 w (lane0 l)) + E (ix2 w (lane1 l))) := by
  refine (shapeCast_ab_1ab_apply _ _ _ _ _).trans ?_
  refine congrArg₂ (· + ·) (shapeCast_1ab_ab_apply _ _ _ _) (congrArg₂ (· + ·) ?_ ?_)
  · exact slice2_axis1_apply 0 E h2 w l (lane0 l) (by show l.val = 0 + l.val; omega)
  · exact slice2_axis1_apply 128 E h3 w l (lane1 l) rfl

/-- A maximum of the two halves of a tile into a row block. -/
theorem max_at (A : FVec Ideal S1x32x128 .f32) (E : FVec Ideal S32x256 .f32) (h1 h2 h3 h4) (w : Fin 32) (l : Fin 128) :
    shapeCast S1x32x128 (maximumf (shapeCast S32x128 A h1 : FVec Ideal S32x128 .f32)
        (maximumf (extractStridedSlice S32x128 ![0, 0] E h2 : FVec Ideal S32x128 .f32) (extractStridedSlice S32x128 ![0, 128] E h3))) h4 (ix3 (0 : Fin 1) w l)
      = max (A (ix3 (0 : Fin 1) w l)) (max (E (ix2 w (lane0 l))) (E (ix2 w (lane1 l)))) := by
  refine (shapeCast_ab_1ab_apply _ _ _ _ _).trans ?_
  refine congrArg₂ max (shapeCast_1ab_ab_apply _ _ _ _) (congrArg₂ max ?_ ?_)
  · exact slice2_axis1_apply 0 E h2 w l (lane0 l) (by show l.val = 0 + l.val; omega)
  · exact slice2_axis1_apply 128 E h3 w l (lane1 l) rfl

/-- The stores of the row blocks `gs` of a head. -/
abbrev blockStores (o : Fin 7 → Fin 3 → ℕ) (i : ∀ g a, o g a + (![1, 32, 128] : Fin 3 → ℕ) a ≤ S4x224x128.size a) (P : Fin 7 → S1x32x128.Idx → EReal)
    (gs : List (Fin 7)) : List (View.Piece (Elt Ideal) S4x224x128 .f32) :=
  gs.map fun g => ⟨Rect.unit (s := S4x224x128) (o g) ![1, 32, 128] (i g), P g⟩

/-- What the stores of row blocks leave: the rows of the head stored, the others as they were. -/
theorem blocks_read {sp : Space} (v : View sig .tc sp S4x224x128 .f32) (f : v.ty.Contents (Elt Ideal)) (κ : Fin 4)
    (o : Fin 7 → Fin 3 → ℕ) (eo : ∀ g : Fin 7, o g = ![κ.val, 32 * g.val, 0]) (i : ∀ g a, o g a + (![1, 32, 128] : Fin 3 → ℕ) a ≤ S4x224x128.size a)
    (P : Fin 7 → S1x32x128.Idx → EReal) (kv : Fin 4) (g : Fin 7) (w : Fin 32) (l : Fin 128) : ∀ gs : List (Fin 7),
    v.read (Elt Ideal) (v.writes (Elt Ideal) f (blockStores o i P gs)) (ix3 kv (blkRow g w) l)
      = if kv = κ ∧ g ∈ gs then P g (ix3 (0 : Fin 1) w l) else v.read (Elt Ideal) f (ix3 kv (blkRow g w) l)
  | [] => by rw [if_neg (fun h => by simp at h)]; rfl
  | g' :: gs => by
    have ih := blocks_read v f κ o eo i P kv g w l gs
    by_cases h : kv = κ ∧ g = g'
    · obtain ⟨rfl, rfl⟩ := h
      rw [if_pos ⟨rfl, List.mem_cons_self⟩]
      refine View.read_writes_cons_unit_of_mem v f (i g) (P g) _ _ (ix3 (0 : Fin 1) w l) (eo g) fun a => ?_
      match a with
      | ⟨0, _⟩ => show kv.val = kv.val + 0; omega
      | ⟨1, _⟩ => rfl
      | ⟨2, _⟩ => show l.val = 0 + l.val; omega
    · have e : (kv = κ ∧ g ∈ g' :: gs) ↔ (kv = κ ∧ g ∈ gs) := by
        rw [List.mem_cons]; tauto
      simp only [e]
      rw [← ih]
      by_cases hk : kv = κ
      · refine View.read_writes_cons_unit_of_not_mem v f (i g') (P g') _ _ (eo g') (1 : Fin 3) ?_
        have hg : g'.val ≠ g.val := fun e => h ⟨hk, (Fin.ext e).symm⟩
        show 32 * g.val + w.val < 32 * g'.val ∨ 32 * g'.val + 32 ≤ 32 * g.val + w.val
        omega
      · refine View.read_writes_cons_unit_of_not_mem v f (i g') (P g') _ _ (eo g') (0 : Fin 3) ?_
        have hg : kv.val ≠ κ.val := fun e => hk (Fin.ext e)
        show kv.val < κ.val ∨ κ.val + 1 ≤ kv.val
        omega

/-- The seven stores of a trip, each at its own payload. -/
theorem seven {sp : Space} (v : View sig .tc sp S4x224x128 .f32) (f : v.ty.Contents (Elt Ideal)) (κ : Fin 4) (V : Fin 7 → Fin 32 → Fin 128 → EReal)
    (o0 o1 o2 o3 o4 o5 o6 : Fin 3 → ℕ) (P0 P1 P2 P3 P4 P5 P6 : S1x32x128.Idx → EReal) (i0 i1 i2 i3 i4 i5 i6)
    (e0 : o0 = ![κ.val, 0, 0]) (e1 : o1 = ![κ.val, 32, 0]) (e2 : o2 = ![κ.val, 64, 0]) (e3 : o3 = ![κ.val, 96, 0])
    (e4 : o4 = ![κ.val, 128, 0]) (e5 : o5 = ![κ.val, 160, 0]) (e6 : o6 = ![κ.val, 192, 0])
    (h0 : ∀ w l, P0 (ix3 (0 : Fin 1) w l) = V 0 w l) (h1 : ∀ w l, P1 (ix3 (0 : Fin 1) w l) = V 1 w l) (h2 : ∀ w l, P2 (ix3 (0 : Fin 1) w l) = V 2 w l)
    (h3 : ∀ w l, P3 (ix3 (0 : Fin 1) w l) = V 3 w l) (h4 : ∀ w l, P4 (ix3 (0 : Fin 1) w l) = V 4 w l) (h5 : ∀ w l, P5 (ix3 (0 : Fin 1) w l) = V 5 w l)
    (h6 : ∀ w l, P6 (ix3 (0 : Fin 1) w l) = V 6 w l) (kv : Fin 4) (g : Fin 7) (w : Fin 32) (l : Fin 128) :
    v.read (Elt Ideal) (v.writes (Elt Ideal) f [⟨Rect.unit (s := S4x224x128) o6 ![1, 32, 128] i6, P6⟩, ⟨Rect.unit (s := S4x224x128) o5 ![1, 32, 128] i5, P5⟩,
        ⟨Rect.unit (s := S4x224x128) o4 ![1, 32, 128] i4, P4⟩, ⟨Rect.unit (s := S4x224x128) o3 ![1, 32, 128] i3, P3⟩,
        ⟨Rect.unit (s := S4x224x128) o2 ![1, 32, 128] i2, P2⟩, ⟨Rect.unit (s := S4x224x128) o1 ![1, 32, 128] i1, P1⟩,
        ⟨Rect.unit (s := S4x224x128) o0 ![1, 32, 128] i0, P0⟩]) (ix3 kv (blkRow g w) l)
      = if kv = κ then V g w l else v.read (Elt Ideal) f (ix3 kv (blkRow g w) l) := by
  have eo : ∀ g : Fin 7, (![o0, o1, o2, o3, o4, o5, o6] : Fin 7 → Fin 3 → ℕ) g = ![κ.val, 32 * g.val, 0] := fun g => by
    match g with
    | ⟨0, _⟩ => exact e0
    | ⟨1, _⟩ => exact e1
    | ⟨2, _⟩ => exact e2
    | ⟨3, _⟩ => exact e3
    | ⟨4, _⟩ => exact e4
    | ⟨5, _⟩ => exact e5
    | ⟨6, _⟩ => exact e6
  have hP : ∀ (g : Fin 7) w l, (![P0, P1, P2, P3, P4, P5, P6] : Fin 7 → S1x32x128.Idx → EReal) g (ix3 (0 : Fin 1) w l) = V g w l := fun g => by
    match g with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
  have hi : ∀ (g : Fin 7) a, (![o0, o1, o2, o3, o4, o5, o6] : Fin 7 → Fin 3 → ℕ) g a + (![1, 32, 128] : Fin 3 → ℕ) a ≤ S4x224x128.size a := fun g a => by
    rw [eo g]
    match a with
    | ⟨0, _⟩ => show κ.val + 1 ≤ 4; omega
    | ⟨1, _⟩ => show 32 * g.val + 32 ≤ 224; omega
    | ⟨2, _⟩ => show 0 + 128 ≤ 128; omega
  refine (blocks_read v f κ _ eo hi ![P0, P1, P2, P3, P4, P5, P6] kv g w l [6, 5, 4, 3, 2, 1, 0]).trans ?_
  have m : g ∈ ([6, 5, 4, 3, 2, 1, 0] : List (Fin 7)) := by revert g; decide
  rw [hP]
  simp only [m, and_true]

/-- Row `w` of row block `g` of head `κ` in a stored accumulator, as a trip loads it. -/
theorem row_at (X : S4x224x128.Idx → EReal) {off : Fin 3 → ℕ} (inb) (κ : Fin 4) (g : Fin 7) (o : ℕ) (ho : o = 32 * g.val) (e : off = ![κ.val, o, 0]) (w : Fin 32) (l : Fin 128) :
    X ((Rect.unit (s := S4x224x128) off ![1, 32, 128] inb).idx (ix3 (0 : Fin 1) w l)) = X (ix3 κ (blkRow g w) l) :=
  ld_unit3 X inb κ o 0 e w l (blkRow g w) l (by rw [ho]) (by omega)

/-- What a trip stores of a row block: the exponentials of its scores summed. -/
theorem piece_sum (Q : S4x224x128.Idx → EReal) (K : S4x1024x128.Idx → EReal) (H : S4x8x1024.Idx → EReal) (A : S4x224x128.Idx → EReal) (κ j : Fin 4) (g : Fin 7)
    {offA offQ offK offH : Fin 3 → ℕ} (iA iQ iK iH) (o : ℕ) (ho : o = 32 * g.val) (h1 h2 h3 h4 h5 q1 q2 q3 q4)
    (eA : offA = ![κ.val, o, 0]) (eQ : offQ = ![κ.val, 0, 0])
    (eK : offK = ![κ.val, 256 * j.val, 0]) (eH : offH = ![κ.val, g.val, 256 * j.val]) (w : Fin 32) (l : Fin 128) :
    shapeCast S1x32x128 (addf (shapeCast S32x128 (fun i => A ((Rect.unit (s := S4x224x128) offA ![1, 32, 128] iA).idx i) : FVec Ideal S1x32x128 .f32) q1 : FVec Ideal S32x128 .f32)
        (addf (extractStridedSlice S32x128 ![0, 0] (exp2 (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5))) q2 : FVec Ideal S32x128 .f32)
          (extractStridedSlice S32x128 ![0, 128] (exp2 (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5))) q3))) q4 (ix3 (0 : Fin 1) w l)
      = A (ix3 κ (blkRow g w) l) + ((Ideal.exp2 (score Q K H κ g w (tileCol j (lane0 l)))) + (Ideal.exp2 (score Q K H κ g w (tileCol j (lane1 l))))) :=
  (acc_at _ _ q1 q2 q3 q4 w l).trans (congrArg₂ (· + ·) (row_at A iA κ g o ho eA w l) (congrArg₂ (· + ·) (congrArg Ideal.exp2 (score_at Q K H κ j g iQ iK iH eQ eK eH o ho h1 h2 h3 h4 h5 w (lane0 l))) (congrArg Ideal.exp2 (score_at Q K H κ j g iQ iK iH eQ eK eH o ho h1 h2 h3 h4 h5 w (lane1 l)))))

/-- What a trip stores of a row block: the exponentials of its scores summed, under the mask. -/
theorem piece_sum_masked (Q : S4x224x128.Idx → EReal) (K : S4x1024x128.Idx → EReal) (H : S4x8x1024.Idx → EReal) (A : S4x224x128.Idx → EReal) (κ j : Fin 4) (g : Fin 7)
    {offA offQ offK offH : Fin 3 → ℕ} (iA iQ iK iH) (o : ℕ) (ho : o = 32 * g.val) (h1 h2 h3 h4 h5 q1 q2 q3 q4) (a v2 : BitVec 32) (m1 m0)
    (eA : offA = ![κ.val, o, 0]) (eQ : offQ = ![κ.val, 0, 0])
    (eK : offK = ![κ.val, 256 * j.val, 0]) (eH : offH = ![κ.val, g.val, 256 * j.val]) (w : Fin 32) (l : Fin 128) :
    shapeCast S1x32x128 (addf (shapeCast S32x128 (fun i => A ((Rect.unit (s := S4x224x128) offA ![1, 32, 128] iA).idx i) : FVec Ideal S1x32x128 .f32) q1 : FVec Ideal S32x128 .f32)
        (addf (extractStridedSlice S32x128 ![0, 0] (exp2 (select (cmpi .sle (addi (broadcast S32x256 a) (iota .tc S32x256 32 [1] m1)) (addi (broadcast S32x256 v2) (iota .tc S32x256 32 [0] m0)))
        (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (broadcast S32x256 (FloatOps.ofBits (F := Ideal) .f32 4286578688#32)))) q2 : FVec Ideal S32x128 .f32)
          (extractStridedSlice S32x128 ![0, 128] (exp2 (select (cmpi .sle (addi (broadcast S32x256 a) (iota .tc S32x256 32 [1] m1)) (addi (broadcast S32x256 v2) (iota .tc S32x256 32 [0] m0)))
        (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (broadcast S32x256 (FloatOps.ofBits (F := Ideal) .f32 4286578688#32)))) q3))) q4 (ix3 (0 : Fin 1) w l)
      = A (ix3 κ (blkRow g w) l) + ((Ideal.exp2 (maskAt a v2 w (lane0 l) (score Q K H κ g w (tileCol j (lane0 l))))) + (Ideal.exp2 (maskAt a v2 w (lane1 l) (score Q K H κ g w (tileCol j (lane1 l)))))) :=
  (acc_at _ _ q1 q2 q3 q4 w l).trans (congrArg₂ (· + ·) (row_at A iA κ g o ho eA w l) (congrArg₂ (· + ·) (congrArg Ideal.exp2 ((masked_at a v2 _ m1 m0 w (lane0 l)).trans (congrArg (maskAt a v2 w (lane0 l)) (score_at Q K H κ j g iQ iK iH eQ eK eH o ho h1 h2 h3 h4 h5 w (lane0 l))))) (congrArg Ideal.exp2 ((masked_at a v2 _ m1 m0 w (lane1 l)).trans (congrArg (maskAt a v2 w (lane1 l)) (score_at Q K H κ j g iQ iK iH eQ eK eH o ho h1 h2 h3 h4 h5 w (lane1 l)))))))

/-- What a trip stores of a row block: the maximum of its scores. -/
theorem piece_max (Q : S4x224x128.Idx → EReal) (K : S4x1024x128.Idx → EReal) (H : S4x8x1024.Idx → EReal) (A : S4x224x128.Idx → EReal) (κ j : Fin 4) (g : Fin 7)
    {offA offQ offK offH : Fin 3 → ℕ} (iA iQ iK iH) (o : ℕ) (ho : o = 32 * g.val) (h1 h2 h3 h4 h5 q1 q2 q3 q4)
    (eA : offA = ![κ.val, o, 0]) (eQ : offQ = ![κ.val, 0, 0])
    (eK : offK = ![κ.val, 256 * j.val, 0]) (eH : offH = ![κ.val, g.val, 256 * j.val]) (w : Fin 32) (l : Fin 128) :
    shapeCast S1x32x128 (maximumf (shapeCast S32x128 (fun i => A ((Rect.unit (s := S4x224x128) offA ![1, 32, 128] iA).idx i) : FVec Ideal S1x32x128 .f32) q1 : FVec Ideal S32x128 .f32)
        (maximumf (extractStridedSlice S32x128 ![0, 0] (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) q2 : FVec Ideal S32x128 .f32)
          (extractStridedSlice S32x128 ![0, 128] (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) q3))) q4 (ix3 (0 : Fin 1) w l)
      = max (A (ix3 κ (blkRow g w) l)) (max (score Q K H κ g w (tileCol j (lane0 l))) (score Q K H κ g w (tileCol j (lane1 l)))) :=
  (max_at _ _ q1 q2 q3 q4 w l).trans (congrArg₂ max (row_at A iA κ g o ho eA w l) (congrArg₂ max (score_at Q K H κ j g iQ iK iH eQ eK eH o ho h1 h2 h3 h4 h5 w (lane0 l)) (score_at Q K H κ j g iQ iK iH eQ eK eH o ho h1 h2 h3 h4 h5 w (lane1 l))))

/-- What a trip stores of a row block: the maximum of its scores, under the mask. -/
theorem piece_max_masked (Q : S4x224x128.Idx → EReal) (K : S4x1024x128.Idx → EReal) (H : S4x8x1024.Idx → EReal) (A : S4x224x128.Idx → EReal) (κ j : Fin 4) (g : Fin 7)
    {offA offQ offK offH : Fin 3 → ℕ} (iA iQ iK iH) (o : ℕ) (ho : o = 32 * g.val) (h1 h2 h3 h4 h5 q1 q2 q3 q4) (a v2 : BitVec 32) (m1 m0)
    (eA : offA = ![κ.val, o, 0]) (eQ : offQ = ![κ.val, 0, 0])
    (eK : offK = ![κ.val, 256 * j.val, 0]) (eH : offH = ![κ.val, g.val, 256 * j.val]) (w : Fin 32) (l : Fin 128) :
    shapeCast S1x32x128 (maximumf (shapeCast S32x128 (fun i => A ((Rect.unit (s := S4x224x128) offA ![1, 32, 128] iA).idx i) : FVec Ideal S1x32x128 .f32) q1 : FVec Ideal S32x128 .f32)
        (maximumf (extractStridedSlice S32x128 ![0, 0] (select (cmpi .sle (addi (broadcast S32x256 a) (iota .tc S32x256 32 [1] m1)) (addi (broadcast S32x256 v2) (iota .tc S32x256 32 [0] m0)))
        (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (broadcast S32x256 (FloatOps.ofBits (F := Ideal) .f32 4286578688#32))) q2 : FVec Ideal S32x128 .f32)
          (extractStridedSlice S32x128 ![0, 128] (select (cmpi .sle (addi (broadcast S32x256 a) (iota .tc S32x256 32 [1] m1)) (addi (broadcast S32x256 v2) (iota .tc S32x256 32 [0] m0)))
        (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (broadcast S32x256 (FloatOps.ofBits (F := Ideal) .f32 4286578688#32))) q3))) q4 (ix3 (0 : Fin 1) w l)
      = max (A (ix3 κ (blkRow g w) l)) (max (maskAt a v2 w (lane0 l) (score Q K H κ g w (tileCol j (lane0 l)))) (maskAt a v2 w (lane1 l) (score Q K H κ g w (tileCol j (lane1 l))))) :=
  (max_at _ _ q1 q2 q3 q4 w l).trans (congrArg₂ max (row_at A iA κ g o ho eA w l) (congrArg₂ max ((masked_at a v2 _ m1 m0 w (lane0 l)).trans (congrArg (maskAt a v2 w (lane0 l)) (score_at Q K H κ j g iQ iK iH eQ eK eH o ho h1 h2 h3 h4 h5 w (lane0 l)))) ((masked_at a v2 _ m1 m0 w (lane1 l)).trans (congrArg (maskAt a v2 w (lane1 l)) (score_at Q K H κ j g iQ iK iH eQ eK eH o ho h1 h2 h3 h4 h5 w (lane1 l))))))

/-- What a trip stores of a row block: the exponentials of its shifted scores summed. -/
theorem piece_shift (Q : S4x224x128.Idx → EReal) (K : S4x1024x128.Idx → EReal) (H : S4x8x1024.Idx → EReal) (A : S4x224x128.Idx → EReal) (κ j : Fin 4) (g : Fin 7)
    {offA offQ offK offH : Fin 3 → ℕ} (iA iQ iK iH) (o : ℕ) (ho : o = 32 * g.val) (h1 h2 h3 h4 h5 q1 q2 q3 q4) (M : S4x224x128.Idx → EReal) {offM : Fin 3 → ℕ} (iM) (p1 p2) (eM : offM = ![κ.val, o, 0])
    (eA : offA = ![κ.val, o, 0]) (eQ : offQ = ![κ.val, 0, 0])
    (eK : offK = ![κ.val, 256 * j.val, 0]) (eH : offH = ![κ.val, g.val, 256 * j.val]) (w : Fin 32) (l : Fin 128) :
    shapeCast S1x32x128 (addf (shapeCast S32x128 (fun i => A ((Rect.unit (s := S4x224x128) offA ![1, 32, 128] iA).idx i) : FVec Ideal S1x32x128 .f32) q1 : FVec Ideal S32x128 .f32)
        (addf (extractStridedSlice S32x128 ![0, 0] (exp2 (subf (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (concatenate S32x256 1 [⟨S32x128, (shapeCast S32x128 (fun i => M ((Rect.unit (s := S4x224x128) offM ![1, 32, 128] iM).idx i) : FVec Ideal S1x32x128 .f32) p1)⟩, ⟨S32x128, (shapeCast S32x128 (fun i => M ((Rect.unit (s := S4x224x128) offM ![1, 32, 128] iM).idx i) : FVec Ideal S1x32x128 .f32) p1)⟩] p2))) q2 : FVec Ideal S32x128 .f32)
          (extractStridedSlice S32x128 ![0, 128] (exp2 (subf (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (concatenate S32x256 1 [⟨S32x128, (shapeCast S32x128 (fun i => M ((Rect.unit (s := S4x224x128) offM ![1, 32, 128] iM).idx i) : FVec Ideal S1x32x128 .f32) p1)⟩, ⟨S32x128, (shapeCast S32x128 (fun i => M ((Rect.unit (s := S4x224x128) offM ![1, 32, 128] iM).idx i) : FVec Ideal S1x32x128 .f32) p1)⟩] p2))) q3))) q4 (ix3 (0 : Fin 1) w l)
      = A (ix3 κ (blkRow g w) l) + ((Ideal.exp2 (score Q K H κ g w (tileCol j (lane0 l)) - M (ix3 κ (blkRow g w) l))) + (Ideal.exp2 (score Q K H κ g w (tileCol j (lane1 l)) - M (ix3 κ (blkRow g w) l)))) :=
  (acc_at _ _ q1 q2 q3 q4 w l).trans (congrArg₂ (· + ·) (row_at A iA κ g o ho eA w l) (congrArg₂ (· + ·) ((shifted_at _ _ p2 w l).1.trans (congrArg₂ (fun y z => Ideal.exp2 (y - z)) (score_at Q K H κ j g iQ iK iH eQ eK eH o ho h1 h2 h3 h4 h5 w (lane0 l)) ((shapeCast_1ab_ab_apply _ _ _ _).trans (row_at M iM κ g o ho eM w l)))) ((shifted_at _ _ p2 w l).2.trans (congrArg₂ (fun y z => Ideal.exp2 (y - z)) (score_at Q K H κ j g iQ iK iH eQ eK eH o ho h1 h2 h3 h4 h5 w (lane1 l)) ((shapeCast_1ab_ab_apply _ _ _ _).trans (row_at M iM κ g o ho eM w l))))))

/-- What a trip stores of a row block: the exponentials of its shifted scores summed, under the mask. -/
theorem piece_shift_masked (Q : S4x224x128.Idx → EReal) (K : S4x1024x128.Idx → EReal) (H : S4x8x1024.Idx → EReal) (A : S4x224x128.Idx → EReal) (κ j : Fin 4) (g : Fin 7)
    {offA offQ offK offH : Fin 3 → ℕ} (iA iQ iK iH) (o : ℕ) (ho : o = 32 * g.val) (h1 h2 h3 h4 h5 q1 q2 q3 q4) (a v2 : BitVec 32) (m1 m0) (M : S4x224x128.Idx → EReal) {offM : Fin 3 → ℕ} (iM) (p1 p2) (eM : offM = ![κ.val, o, 0])
    (eA : offA = ![κ.val, o, 0]) (eQ : offQ = ![κ.val, 0, 0])
    (eK : offK = ![κ.val, 256 * j.val, 0]) (eH : offH = ![κ.val, g.val, 256 * j.val]) (w : Fin 32) (l : Fin 128) :
    shapeCast S1x32x128 (addf (shapeCast S32x128 (fun i => A ((Rect.unit (s := S4x224x128) offA ![1, 32, 128] iA).idx i) : FVec Ideal S1x32x128 .f32) q1 : FVec Ideal S32x128 .f32)
        (addf (extractStridedSlice S32x128 ![0, 0] (exp2 (subf (select (cmpi .sle (addi (broadcast S32x256 a) (iota .tc S32x256 32 [1] m1)) (addi (broadcast S32x256 v2) (iota .tc S32x256 32 [0] m0)))
        (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (broadcast S32x256 (FloatOps.ofBits (F := Ideal) .f32 4286578688#32))) (concatenate S32x256 1 [⟨S32x128, (shapeCast S32x128 (fun i => M ((Rect.unit (s := S4x224x128) offM ![1, 32, 128] iM).idx i) : FVec Ideal S1x32x128 .f32) p1)⟩, ⟨S32x128, (shapeCast S32x128 (fun i => M ((Rect.unit (s := S4x224x128) offM ![1, 32, 128] iM).idx i) : FVec Ideal S1x32x128 .f32) p1)⟩] p2))) q2 : FVec Ideal S32x128 .f32)
          (extractStridedSlice S32x128 ![0, 128] (exp2 (subf (select (cmpi .sle (addi (broadcast S32x256 a) (iota .tc S32x256 32 [1] m1)) (addi (broadcast S32x256 v2) (iota .tc S32x256 32 [0] m0)))
        (mulf (F := Ideal) (φ := .f32) (extractStridedSlice S32x256 ![o, 0]
        (matmul dot_S224x128_S256x128_S224x256_1_1_0_0_n_n none
          (shapeCast S224x128 (fun i => Q ((Rect.unit (s := S4x224x128) offQ ![1, 224, 128] iQ).idx i) : FVec Ideal S1x224x128 .fp8e4m3) h1 : FVec Ideal S224x128 .fp8e4m3)
          (shapeCast S256x128 (fun i => K ((Rect.unit (s := S4x1024x128) offK ![1, 256, 128] iK).idx i) : FVec Ideal S1x256x128 .fp8e4m3) h2 : FVec Ideal S256x128 .fp8e4m3)
          (constant S224x256 .f32 0#32)) h3)
      (broadcastTo S32x256 (shapeCast S1x256 (fun i => H ((Rect.unit (s := S4x8x1024) offH ![1, 1, 256] iH).idx i) : FVec Ideal S1x1x256 .f32) h4) h5)) (broadcast S32x256 (FloatOps.ofBits (F := Ideal) .f32 4286578688#32))) (concatenate S32x256 1 [⟨S32x128, (shapeCast S32x128 (fun i => M ((Rect.unit (s := S4x224x128) offM ![1, 32, 128] iM).idx i) : FVec Ideal S1x32x128 .f32) p1)⟩, ⟨S32x128, (shapeCast S32x128 (fun i => M ((Rect.unit (s := S4x224x128) offM ![1, 32, 128] iM).idx i) : FVec Ideal S1x32x128 .f32) p1)⟩] p2))) q3))) q4 (ix3 (0 : Fin 1) w l)
      = A (ix3 κ (blkRow g w) l) + ((Ideal.exp2 (maskAt a v2 w (lane0 l) (score Q K H κ g w (tileCol j (lane0 l))) - M (ix3 κ (blkRow g w) l))) + (Ideal.exp2 (maskAt a v2 w (lane1 l) (score Q K H κ g w (tileCol j (lane1 l))) - M (ix3 κ (blkRow g w) l)))) :=
  (acc_at _ _ q1 q2 q3 q4 w l).trans (congrArg₂ (· + ·) (row_at A iA κ g o ho eA w l) (congrArg₂ (· + ·) ((shifted_at _ _ p2 w l).1.trans (congrArg₂ (fun y z => Ideal.exp2 (y - z)) ((masked_at a v2 _ m1 m0 w (lane0 l)).trans (congrArg (maskAt a v2 w (lane0 l)) (score_at Q K H κ j g iQ iK iH eQ eK eH o ho h1 h2 h3 h4 h5 w (lane0 l)))) ((shapeCast_1ab_ab_apply _ _ _ _).trans (row_at M iM κ g o ho eM w l)))) ((shifted_at _ _ p2 w l).2.trans (congrArg₂ (fun y z => Ideal.exp2 (y - z)) ((masked_at a v2 _ m1 m0 w (lane1 l)).trans (congrArg (maskAt a v2 w (lane1 l)) (score_at Q K H κ j g iQ iK iH eQ eK eH o ho h1 h2 h3 h4 h5 w (lane1 l)))) ((shapeCast_1ab_ab_apply _ _ _ _).trans (row_at M iM κ g o ho eM w l))))))

end Cert.KernelIdeal.Own
end
-- ==== Proof.Trip.lean ====
/-
  The trips of the tile loops at an index of the accumulator that each of them writes.
-/
module

public import proofs.«01_k».proof.Proof.Tile

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx

set_option maxHeartbeats 4000000 in
/-- A trip of `k0_t3` at an index of the accumulator. -/
theorem read_t3 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (k0_hw1 : k0_chk1 i v1) (v2 : BitVec 32) (v21 : BitVec 32) (v152 : FVec Ideal S28x1x1 .f32) (v159 : FVec Ideal S4x224x128 .f32) (v160 : Vec Ideal S4x224x128 .f32) (k0_t2 : Fin k0_t2_loop.trips) (arg20 : BitVec 32) (X_arg11 : BufTy.Contents (Elt Ideal) arg11.view.ty) (X_arg12 : BufTy.Contents (Elt Ideal) arg12.view.ty) (X_arg13 : BufTy.Contents (Elt Ideal) arg13.view.ty) (k : Fin k0_t3_loop.trips) (acc : BitVec 32) (f : arg14.view.ty.Contents (Elt Ideal)) (κ : Fin 4) (hκ : κ.val = k0_t2.val) (j : Fin 4) (hj : j.val = k.val)
    (kv : Fin 4) (g : Fin 7) (w : Fin 32) (l : Fin 128) :
    arg14.view.read (Elt Ideal) (arg14.view.writes (Elt Ideal) f ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 k0_t2 arg20 X_arg11 X_arg12 X_arg13 k).2.1 acc f)) (ix3 kv (blkRow g w) l)
      = if kv = κ then arg14.view.read (Elt Ideal) f (ix3 κ (blkRow g w) l) + ((Ideal.exp2 (score (arg13.view.read (Elt Ideal) X_arg13) (arg11.view.read (Elt Ideal) X_arg11) (arg12.view.read (Elt Ideal) X_arg12) κ g w (tileCol j (lane0 l)))) + (Ideal.exp2 (score (arg13.view.read (Elt Ideal) X_arg13) (arg11.view.read (Elt Ideal) X_arg11) (arg12.view.read (Elt Ideal) X_arg12) κ g w (tileCol j (lane1 l))))) else arg14.view.read (Elt Ideal) f (ix3 kv (blkRow g w) l) := by
  unfold trip_k0_t3
  dsimp only
  refine seven arg14.view f κ (fun g w l => arg14.view.read (Elt Ideal) f (ix3 κ (blkRow g w) l) + ((Ideal.exp2 (score (arg13.view.read (Elt Ideal) X_arg13) (arg11.view.read (Elt Ideal) X_arg11) (arg12.view.read (Elt Ideal) X_arg12) κ g w (tileCol j (lane0 l)))) + (Ideal.exp2 (score (arg13.view.read (Elt Ideal) X_arg13) (arg11.view.read (Elt Ideal) X_arg11) (arg12.view.read (Elt Ideal) X_arg12) κ g w (tileCol j (lane1 l)))))) _ _ _ _ _ _ _ _ _ _ _ _ _ _ _ _ _ _ _ _ _ ?_ ?_ ?_ ?_ ?_ ?_ ?_ ?_ ?_ ?_ ?_ ?_ ?_ ?_ kv g w l
  iterate 7 (rw [hκ]; clear * -; revert k0_t2; decide +kernel)
  · exact piece_sum (arg13.view.read (Elt Ideal) X_arg13) (arg11.view.read (Elt Ideal) X_arg11) (arg12.view.read (Elt Ideal) X_arg12) (arg14.view.read (Elt Ideal) f) κ j 0 _ _ _ _ _ rfl _ _ _ _ _ _ _ _ _ (by rw [hκ]; clear * -; revert k0_t2; decide +kernel) (by rw [hκ]; clear * -; revert k0_t2; decide +kernel) (by rw [hκ, hj]; clear * -; revert k0_t2 k; decide +kernel) (by rw [hκ, hj]; clear * -; revert k0_t2 k; decide +kernel)
  · exact piece_sum (arg13.view.read (Elt Ideal) X_arg13) (arg11.view.read (Elt Ideal) X_arg11) (arg12.view.read (Elt Ideal) X_arg12) (arg14.view.read (Elt Ideal) f) κ j 1 _ _ _ _ _ rfl _ _ _ _ _ _ _ _ _ (by rw [hκ]; clear * -; revert k0_t2; decide +kernel) (by rw [hκ]; clear * -; revert k0_t2; decide +kernel) (by rw [hκ, hj]; clear * -; revert k0_t2 k; decide +kernel) (by rw [hκ, hj]; clear * -; revert k0_t2 k; decide +kernel)
  · exact piece_sum (arg13.view.read (Elt Ideal) X_arg13) (arg11.view.read (Elt Ideal) X_arg11) (arg12.view.read (Elt Ideal) X_arg12) (arg14.view.read (Elt Ideal) f) κ j 2 _ _ _ _ _ rfl _ _ _ _ _ _ _ _ _ (by rw [hκ]; clear * -; revert k0_t2; decide +kernel) (by rw [hκ]; clear * -; revert k0_t2; decide +kernel) (by rw [hκ, hj]; clear * -; revert k0_t2 k; decide +kernel) (by rw [hκ, hj]; clear * -; revert k0_t2 k; decide +kernel)
  · exact piece_sum (arg13.view.read (Elt Ideal) X_arg13) (arg11.view.read (Elt Ideal) X_arg11) (arg12.view.read (Elt Ideal) X_arg12) (arg14.view.read (Elt Ideal) f) κ j 3 _ _ _ _ _ rfl _ _ _ _ _ _ _ _ _ (by rw [hκ]; clear * -; revert k0_t2; decide +kernel) (by rw [hκ]; clear * -; revert k0_t2; decide +kernel) (by rw [hκ, hj]; clear * -; revert k0_t2 k; decide +kernel) (by rw [hκ, hj]; clear * -; revert k0_t2 k; decide +kernel)
  · exact piece_sum (arg13.view.read (Elt Ideal) X_arg13) (arg11.view.read (Elt Ideal) X_arg11) (arg12.view.read (Elt Ideal) X_arg12) (arg14.view.read (Elt Ideal) f) κ j 4 _ _ _ _ _ rfl _ _ _ _ _ _ _ _ _ (by rw [hκ]; clear * -; revert k0_t2; decide +kernel) (by rw [hκ]; clear * -; revert k0_t2; decide +kernel) (by rw [hκ, hj]; clear * -; revert k0_t2 k; decide +kernel) (by rw [hκ, hj]; clear * -; revert k0_t2 k; decide +kernel)
  · exact piece_sum (arg13.view.read (Elt Ideal) X_arg13) (arg11.view.read (Elt Ideal) X_arg11) (arg12.view.read (Elt Ideal) X_arg12) (arg14.view.read (Elt Ideal) f) κ j 5 _ _ _ _ _ rfl _ _ _ _ _ _ _ _ _ (by rw [hκ]; clear * -; revert k0_t2; decide +kernel) (by rw [hκ]; clear * -; revert k0_t2; decide +kernel) (by rw [hκ, hj]; clear * -; revert k0_t2 k; decide +kernel) (by rw [hκ, hj]; clear * -; revert k0_t2 k; decide +kernel)
  · exact piece_sum (arg13.view.read (Elt Ideal) X_arg13) (arg11.view.read (Elt Ideal) X_arg11) (arg12.view.read (Elt Ideal) X_arg12) (arg14.view.read (Elt Ideal) f) κ j 6 _ _ _ _ _ rfl _ _ _ _ _ _ _ _ _ (by rw [hκ]; clear * -; revert k0_t2; decide +kernel) (by rw [hκ]; clear * -; revert k0_t2; decide +kernel) (by rw [hκ, hj]; clear * -; revert k0_t2 k; decide +kernel) (by rw [hκ, hj]; clear * -; revert k0_t2 k; decide +kernel)

set_option maxHeartbeats 4000000 in
/-- A trip of `k0_t5` at an index of the accumulator. -/
theorem read_t5 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (k0_hw1 : k0_chk1 i v1) (v2 : BitVec 32) (v21 : BitVec 32) (v152 : FVec Ideal S28x1x1 .f32) (v159 : FVec Ideal S4x224x128 .f32) (v160 : Vec Ideal S4x224x128 .f32) (arg18 : BitVec 32) (k0_t4 : Fin k0_t4_loop.trips) (arg20 : BitVec 32) (X_arg11 : BufTy.Contents (Elt Ideal) arg11.view.ty) (X_arg12 : BufTy.Contents (Elt Ideal) arg12.view.ty) (X_arg13 : BufTy.Contents (Elt Ideal) arg13.view.ty) (k : Fin k0_t5_loop.trips) (acc : BitVec 32) (f : arg14.view.ty.Contents (Elt Ideal)) (κ : Fin 4) (hκ : κ.val = k0_t4.val) (j : Fin 4) (hj : j.val = k.val)
    (kv : Fin 4) (g : Fin 7) (w : Fin 32) (l : Fin 128) :
    arg14.view.read (Elt Ideal) (arg14.view.writes (Elt Ideal) f ((trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 k0_t4 arg20 X_arg11 X_arg12 X_arg13 k).2.1 acc f)) (ix3 kv (blkRow g w) l)
      = if kv = κ then arg14.view.read (Elt Ideal) f (ix3 κ (blkRow g w) l) + ((Ideal.exp2 (maskAt (Scalar.addi (Scalar.muli arg18 1024#32) (Scalar.muli (Scf.iv 0#32 1#32 k.val) 256#32)) v2 w (lane0 l) (score (arg13.view.read (Elt Ideal) X_arg13) (arg11.view.read (Elt Ideal) X_arg11) (arg12.view.read (Elt Ideal) X_arg12) κ g w (tileCol j (lane0 l))))) + (Ideal.exp2 (maskAt (Scalar.addi (Scalar.muli arg18 1024#32) (Scalar.muli (Scf.iv 0#32 1#32 k.val) 256#32)) v2 w (lane1 l) (score (arg13.view.read (Elt Ideal) X_arg13) (arg11.view.read (Elt Ideal) X_arg11) (arg12.view.read (Elt Ideal) X_arg12) κ g w (tileCol j (lane1 l)))))) else arg14.view.read (Elt Ideal) f (ix3 kv (blkRow g w) l) := by
  unfold trip_k0_t5
  dsimp only
  refine seven arg14.view f κ (fun g w l => arg14.view.read (Elt Ideal) f (ix3 κ (blkRow g w) l) + ((Ideal.exp2 (maskAt (Scalar.addi (Scalar.muli arg18 1024#32) (Scalar.muli (Scf.iv 0#32 1#32 k.val) 256#32)) v2 w (lane0 l) (score (arg13.view.read (Elt Ideal) X_arg13) (arg11.view.read (Elt Ideal) X_arg11) (arg12.view.read (Elt Ideal) X_arg12) κ g w (tileCol j (lane0 l))))) + (Ideal.exp2 (maskAt (Scalar.addi (Scalar.muli arg18 1024#32) (Scalar.muli (Scf.iv 0#32 1#32 k.val) 256#32)) v2 w (lane1 l) (score (arg13.view.read (Elt Ideal) X_arg13) (arg11.view.read (Elt Ideal) X_arg11) (arg12.view.read (Elt Ideal) X_arg12) κ g w (tileCol j (lane1 l))))))) _ _ _ _ _ _ _ _ _ _ _ _ _ _ _ _ _ _ _ _ _ ?_ ?_ ?_ ?_ ?_ ?_ ?_ ?_ ?_ ?_ ?_ ?_ ?_ ?_ kv g w l
  iterate 7 (rw [hκ]; clear * -; revert k0_t4; decide +kernel)
  · exact piece_sum_masked (arg13.view.read (Elt Ideal) X_arg13) (arg11.view.read (Elt Ideal) X_arg11) (arg12.view.read (Elt Ideal) X_arg12) (arg14.view.read (Elt Ideal) f) κ j 0 _ _ _ _ _ rfl _ _ _ _ _ _ _ _ _ _ _ _ _ (by rw [hκ]; clear * -; revert k0_t4; decide +kernel) (by rw [hκ]; clear * -; revert k0_t4; decide +kernel) (by rw [hκ, hj]; clear * -; revert k0_t4 k; decide +kernel) (by rw [hκ, hj]; clear * -; revert k0_t4 k; decide +kernel)
  · exact piece_sum_masked (arg13.view.read (Elt Ideal) X_arg13) (arg11.view.read (Elt Ideal) X_arg11) (arg12.view.read (Elt Ideal) X_arg12) (arg14.view.read (Elt Ideal) f) κ j 1 _ _ _ _ _ rfl _ _ _ _ _ _ _ _ _ _ _ _ _ (by rw [hκ]; clear * -; revert k0_t4; decide +kernel) (by rw [hκ]; clear * -; revert k0_t4; decide +kernel) (by rw [hκ, hj]; clear * -; revert k0_t4 k; decide +kernel) (by rw [hκ, hj]; clear * -; revert k0_t4 k; decide +kernel)
  · exact piece_sum_masked (arg13.view.read (Elt Ideal) X_arg13) (arg11.view.read (Elt Ideal) X_arg11) (arg12.view.read (Elt Ideal) X_arg12) (arg14.view.read (Elt Ideal) f) κ j 2 _ _ _ _ _ rfl _ _ _ _ _ _ _ _ _ _ _ _ _ (by rw [hκ]; clear * -; revert k0_t4; decide +kernel) (by rw [hκ]; clear * -; revert k0_t4; decide +kernel) (by rw [hκ, hj]; clear * -; revert k0_t4 k; decide +kernel) (by rw [hκ, hj]; clear * -; revert k0_t4 k; decide +kernel)
  · exact piece_sum_masked (arg13.view.read (Elt Ideal) X_arg13) (arg11.view.read (Elt Ideal) X_arg11) (arg12.view.read (Elt Ideal) X_arg12) (arg14.view.read (Elt Ideal) f) κ j 3 _ _ _ _ _ rfl _ _ _ _ _ _ _ _ _ _ _ _ _ (by rw [hκ]; clear * -; revert k0_t4; decide +kernel) (by rw [hκ]; clear * -; revert k0_t4; decide +kernel) (by rw [hκ, hj]; clear * -; revert k0_t4 k; decide +kernel) (by rw [hκ, hj]; clear * -; revert k0_t4 k; decide +kernel)
  · exact piece_sum_masked (arg13.view.read (Elt Ideal) X_arg13) (arg11.view.read (Elt Ideal) X_arg11) (arg12.view.read (Elt Ideal) X_arg12) (arg14.view.read (Elt Ideal) f) κ j 4 _ _ _ _ _ rfl _ _ _ _ _ _ _ _ _ _ _ _ _ (by rw [hκ]; clear * -; revert k0_t4; decide +kernel) (by rw [hκ]; clear * -; revert k0_t4; decide +kernel) (by rw [hκ, hj]; clear * -; revert k0_t4 k; decide +kernel) (by rw [hκ, hj]; clear * -; revert k0_t4 k; decide +kernel)
  · exact piece_sum_masked (arg13.view.read (Elt Ideal) X_arg13) (arg11.view.read (Elt Ideal) X_arg11) (arg12.view.read (Elt Ideal) X_arg12) (arg14.view.read (Elt Ideal) f) κ j 5 _ _ _ _ _ rfl _ _ _ _ _ _ _ _ _ _ _ _ _ (by rw [hκ]; clear * -; revert k0_t4; decide +kernel) (by rw [hκ]; clear * -; revert k0_t4; decide +kernel) (by rw [hκ, hj]; clear * -; revert k0_t4 k; decide +kernel) (by rw [hκ, hj]; clear * -; revert k0_t4 k; decide +kernel)
  · exact piece_sum_masked (arg13.view.read (Elt Ideal) X_arg13) (arg11.view.read (Elt Ideal) X_arg11) (arg12.view.read (Elt Ideal) X_arg12) (arg14.view.read (Elt Ideal) f) κ j 6 _ _ _ _ _ rfl _ _ _ _ _ _ _ _ _ _ _ _ _ (by rw [hκ]; clear * -; revert k0_t4; decide +kernel) (by rw [hκ]; clear * -; revert k0_t4; decide +kernel) (by rw [hκ, hj]; clear * -; revert k0_t4 k; decide +kernel) (by rw [hκ, hj]; clear * -; revert k0_t4 k; decide +kernel)

set_option maxHeartbeats 4000000 in
/-- A trip of `k0_t13` at an index of the accumulator. -/
theorem read_t13 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (k0_h7 : k0_cond7 v191 = 1#1) (k0_t12 : Fin k0_t12_loop.trips) (arg20 : BitVec 32) (X_arg11 : BufTy.Contents (Elt Ideal) arg11.view.ty) (X_arg12 : BufTy.Contents (Elt Ideal) arg12.view.ty) (X_arg13 : BufTy.Contents (Elt Ideal) arg13.view.ty) (k : Fin k0_t13_loop.trips) (acc : BitVec 32) (f : arg15.view.ty.Contents (Elt Ideal)) (κ : Fin 4) (hκ : κ.val = k0_t12.val) (j : Fin 4) (hj : j.val = k.val)
    (kv : Fin 4) (g : Fin 7) (w : Fin 32) (l : Fin 128) :
    arg15.view.read (Elt Ideal) (arg15.view.writes (Elt Ideal) f ((trip_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 k0_t12 arg20 X_arg11 X_arg12 X_arg13 k).2.1 acc f)) (ix3 kv (blkRow g w) l)
      = if kv = κ then max (arg15.view.read (Elt Ideal) f (ix3 κ (blkRow g w) l)) (max (score (arg13.view.read (Elt Ideal) X_arg13) (arg11.view.read (Elt Ideal) X_arg11) (arg12.view.read (Elt Ideal) X_arg12) κ g w (tileCol j (lane0 l))) (score (arg13.view.read (Elt Ideal) X_arg13) (arg11.view.read (Elt Ideal) X_arg11) (arg12.view.read (Elt Ideal) X_arg12) κ g w (tileCol j (lane1 l)))) else arg15.view.read (Elt Ideal) f (ix3 kv (blkRow g w) l) := by
  unfold trip_k0_t13
  dsimp only
  refine seven arg15.view f κ (fun g w l => max (arg15.view.read (Elt Ideal) f (ix3 κ (blkRow g w) l)) (max (score (arg13.view.read (Elt Ideal) X_arg13) (arg11.view.read (Elt Ideal) X_arg11) (arg12.view.read (Elt Ideal) X_arg12) κ g w (tileCol j (lane0 l))) (score (arg13.view.read (Elt Ideal) X_arg13) (arg11.view.read (Elt Ideal) X_arg11) (arg12.view.read (Elt Ideal) X_arg12) κ g w (tileCol j (lane1 l))))) _ _ _ _ _ _ _ _ _ _ _ _ _ _ _ _ _ _ _ _ _ ?_ ?_ ?_ ?_ ?_ ?_ ?_ ?_ ?_ ?_ ?_ ?_ ?_ ?_ kv g w l
  iterate 7 (rw [hκ]; clear * -; revert k0_t12; decide +kernel)
  · exact piece_max (arg13.view.read (Elt Ideal) X_arg13) (arg11.view.read (Elt Ideal) X_arg11) (arg12.view.read (Elt Ideal) X_arg12) (arg15.view.read (Elt Ideal) f) κ j 0 _ _ _ _ _ rfl _ _ _ _ _ _ _ _ _ (by rw [hκ]; clear * -; revert k0_t12; decide +kernel) (by rw [hκ]; clear * -; revert k0_t12; decide +kernel) (by rw [hκ, hj]; clear * -; revert k0_t12 k; decide +kernel) (by rw [hκ, hj]; clear * -; revert k0_t12 k; decide +kernel)
  · exact piece_max (arg13.view.read (Elt Ideal) X_arg13) (arg11.view.read (Elt Ideal) X_arg11) (arg12.view.read (Elt Ideal) X_arg12) (arg15.view.read (Elt Ideal) f) κ j 1 _ _ _ _ _ rfl _ _ _ _ _ _ _ _ _ (by rw [hκ]; clear * -; revert k0_t12; decide +kernel) (by rw [hκ]; clear * -; revert k0_t12; decide +kernel) (by rw [hκ, hj]; clear * -; revert k0_t12 k; decide +kernel) (by rw [hκ, hj]; clear * -; revert k0_t12 k; decide +kernel)
  · exact piece_max (arg13.view.read (Elt Ideal) X_arg13) (arg11.view.read (Elt Ideal) X_arg11) (arg12.view.read (Elt Ideal) X_arg12) (arg15.view.read (Elt Ideal) f) κ j 2 _ _ _ _ _ rfl _ _ _ _ _ _ _ _ _ (by rw [hκ]; clear * -; revert k0_t12; decide +kernel) (by rw [hκ]; clear * -; revert k0_t12; decide +kernel) (by rw [hκ, hj]; clear * -; revert k0_t12 k; decide +kernel) (by rw [hκ, hj]; clear * -; revert k0_t12 k; decide +kernel)
  · exact piece_max (arg13.view.read (Elt Ideal) X_arg13) (arg11.view.read (Elt Ideal) X_arg11) (arg12.view.read (Elt Ideal) X_arg12) (arg15.view.read (Elt Ideal) f) κ j 3 _ _ _ _ _ rfl _ _ _ _ _ _ _ _ _ (by rw [hκ]; clear * -; revert k0_t12; decide +kernel) (by rw [hκ]; clear * -; revert k0_t12; decide +kernel) (by rw [hκ, hj]; clear * -; revert k0_t12 k; decide +kernel) (by rw [hκ, hj]; clear * -; revert k0_t12 k; decide +kernel)
  · exact piece_max (arg13.view.read (Elt Ideal) X_arg13) (arg11.view.read (Elt Ideal) X_arg11) (arg12.view.read (Elt Ideal) X_arg12) (arg15.view.read (Elt Ideal) f) κ j 4 _ _ _ _ _ rfl _ _ _ _ _ _ _ _ _ (by rw [hκ]; clear * -; revert k0_t12; decide +kernel) (by rw [hκ]; clear * -; revert k0_t12; decide +kernel) (by rw [hκ, hj]; clear * -; revert k0_t12 k; decide +kernel) (by rw [hκ, hj]; clear * -; revert k0_t12 k; decide +kernel)
  · exact piece_max (arg13.view.read (Elt Ideal) X_arg13) (arg11.view.read (Elt Ideal) X_arg11) (arg12.view.read (Elt Ideal) X_arg12) (arg15.view.read (Elt Ideal) f) κ j 5 _ _ _ _ _ rfl _ _ _ _ _ _ _ _ _ (by rw [hκ]; clear * -; revert k0_t12; decide +kernel) (by rw [hκ]; clear * -; revert k0_t12; decide +kernel) (by rw [hκ, hj]; clear * -; revert k0_t12 k; decide +kernel) (by rw [hκ, hj]; clear * -; revert k0_t12 k; decide +kernel)
  · exact piece_max (arg13.view.read (Elt Ideal) X_arg13) (arg11.view.read (Elt Ideal) X_arg11) (arg12.view.read (Elt Ideal) X_arg12) (arg15.view.read (Elt Ideal) f) κ j 6 _ _ _ _ _ rfl _ _ _ _ _ _ _ _ _ (by rw [hκ]; clear * -; revert k0_t12; decide +kernel) (by rw [hκ]; clear * -; revert k0_t12; decide +kernel) (by rw [hκ, hj]; clear * -; revert k0_t12 k; decide +kernel) (by rw [hκ, hj]; clear * -; revert k0_t12 k; decide +kernel)

set_option maxHeartbeats 4000000 in
/-- A trip of `k0_t15` at an index of the accumulator. -/
theorem read_t15 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (k0_h7 : k0_cond7 v191 = 1#1) (arg18 : BitVec 32) (k0_t14 : Fin k0_t14_loop.trips) (arg20 : BitVec 32) (X_arg11 : BufTy.Contents (Elt Ideal) arg11.view.ty) (X_arg12 : BufTy.Contents (Elt Ideal) arg12.view.ty) (X_arg13 : BufTy.Contents (Elt Ideal) arg13.view.ty) (k : Fin k0_t15_loop.trips) (acc : BitVec 32) (f : arg15.view.ty.Contents (Elt Ideal)) (κ : Fin 4) (hκ : κ.val = k0_t14.val) (j : Fin 4) (hj : j.val = k.val)
    (kv : Fin 4) (g : Fin 7) (w : Fin 32) (l : Fin 128) :
    arg15.view.read (Elt Ideal) (arg15.view.writes (Elt Ideal) f ((trip_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 k0_t14 arg20 X_arg11 X_arg12 X_arg13 k).2.1 acc f)) (ix3 kv (blkRow g w) l)
      = if kv = κ then max (arg15.view.read (Elt Ideal) f (ix3 κ (blkRow g w) l)) (max (maskAt (Scalar.addi (Scalar.muli arg18 1024#32) (Scalar.muli (Scf.iv 0#32 1#32 k.val) 256#32)) v2 w (lane0 l) (score (arg13.view.read (Elt Ideal) X_arg13) (arg11.view.read (Elt Ideal) X_arg11) (arg12.view.read (Elt Ideal) X_arg12) κ g w (tileCol j (lane0 l)))) (maskAt (Scalar.addi (Scalar.muli arg18 1024#32) (Scalar.muli (Scf.iv 0#32 1#32 k.val) 256#32)) v2 w (lane1 l) (score (arg13.view.read (Elt Ideal) X_arg13) (arg11.view.read (Elt Ideal) X_arg11) (arg12.view.read (Elt Ideal) X_arg12) κ g w (tileCol j (lane1 l))))) else arg15.view.read (Elt Ideal) f (ix3 kv (blkRow g w) l) := by
  unfold trip_k0_t15
  dsimp only
  refine seven arg15.view f κ (fun g w l => max (arg15.view.read (Elt Ideal) f (ix3 κ (blkRow g w) l)) (max (maskAt (Scalar.addi (Scalar.muli arg18 1024#32) (Scalar.muli (Scf.iv 0#32 1#32 k.val) 256#32)) v2 w (lane0 l) (score (arg13.view.read (Elt Ideal) X_arg13) (arg11.view.read (Elt Ideal) X_arg11) (arg12.view.read (Elt Ideal) X_arg12) κ g w (tileCol j (lane0 l)))) (maskAt (Scalar.addi (Scalar.muli arg18 1024#32) (Scalar.muli (Scf.iv 0#32 1#32 k.val) 256#32)) v2 w (lane1 l) (score (arg13.view.read (Elt Ideal) X_arg13) (arg11.view.read (Elt Ideal) X_arg11) (arg12.view.read (Elt Ideal) X_arg12) κ g w (tileCol j (lane1 l)))))) _ _ _ _ _ _ _ _ _ _ _ _ _ _ _ _ _ _ _ _ _ ?_ ?_ ?_ ?_ ?_ ?_ ?_ ?_ ?_ ?_ ?_ ?_ ?_ ?_ kv g w l
  iterate 7 (rw [hκ]; clear * -; revert k0_t14; decide +kernel)
  · exact piece_max_masked (arg13.view.read (Elt Ideal) X_arg13) (arg11.view.read (Elt Ideal) X_arg11) (arg12.view.read (Elt Ideal) X_arg12) (arg15.view.read (Elt Ideal) f) κ j 0 _ _ _ _ _ rfl _ _ _ _ _ _ _ _ _ _ _ _ _ (by rw [hκ]; clear * -; revert k0_t14; decide +kernel) (by rw [hκ]; clear * -; revert k0_t14; decide +kernel) (by rw [hκ, hj]; clear * -; revert k0_t14 k; decide +kernel) (by rw [hκ, hj]; clear * -; revert k0_t14 k; decide +kernel)
  · exact piece_max_masked (arg13.view.read (Elt Ideal) X_arg13) (arg11.view.read (Elt Ideal) X_arg11) (arg12.view.read (Elt Ideal) X_arg12) (arg15.view.read (Elt Ideal) f) κ j 1 _ _ _ _ _ rfl _ _ _ _ _ _ _ _ _ _ _ _ _ (by rw [hκ]; clear * -; revert k0_t14; decide +kernel) (by rw [hκ]; clear * -; revert k0_t14; decide +kernel) (by rw [hκ, hj]; clear * -; revert k0_t14 k; decide +kernel) (by rw [hκ, hj]; clear * -; revert k0_t14 k; decide +kernel)
  · exact piece_max_masked (arg13.view.read (Elt Ideal) X_arg13) (arg11.view.read (Elt Ideal) X_arg11) (arg12.view.read (Elt Ideal) X_arg12) (arg15.view.read (Elt Ideal) f) κ j 2 _ _ _ _ _ rfl _ _ _ _ _ _ _ _ _ _ _ _ _ (by rw [hκ]; clear * -; revert k0_t14; decide +kernel) (by rw [hκ]; clear * -; revert k0_t14; decide +kernel) (by rw [hκ, hj]; clear * -; revert k0_t14 k; decide +kernel) (by rw [hκ, hj]; clear * -; revert k0_t14 k; decide +kernel)
  · exact piece_max_masked (arg13.view.read (Elt Ideal) X_arg13) (arg11.view.read (Elt Ideal) X_arg11) (arg12.view.read (Elt Ideal) X_arg12) (arg15.view.read (Elt Ideal) f) κ j 3 _ _ _ _ _ rfl _ _ _ _ _ _ _ _ _ _ _ _ _ (by rw [hκ]; clear * -; revert k0_t14; decide +kernel) (by rw [hκ]; clear * -; revert k0_t14; decide +kernel) (by rw [hκ, hj]; clear * -; revert k0_t14 k; decide +kernel) (by rw [hκ, hj]; clear * -; revert k0_t14 k; decide +kernel)
  · exact piece_max_masked (arg13.view.read (Elt Ideal) X_arg13) (arg11.view.read (Elt Ideal) X_arg11) (arg12.view.read (Elt Ideal) X_arg12) (arg15.view.read (Elt Ideal) f) κ j 4 _ _ _ _ _ rfl _ _ _ _ _ _ _ _ _ _ _ _ _ (by rw [hκ]; clear * -; revert k0_t14; decide +kernel) (by rw [hκ]; clear * -; revert k0_t14; decide +kernel) (by rw [hκ, hj]; clear * -; revert k0_t14 k; decide +kernel) (by rw [hκ, hj]; clear * -; revert k0_t14 k; decide +kernel)
  · exact piece_max_masked (arg13.view.read (Elt Ideal) X_arg13) (arg11.view.read (Elt Ideal) X_arg11) (arg12.view.read (Elt Ideal) X_arg12) (arg15.view.read (Elt Ideal) f) κ j 5 _ _ _ _ _ rfl _ _ _ _ _ _ _ _ _ _ _ _ _ (by rw [hκ]; clear * -; revert k0_t14; decide +kernel) (by rw [hκ]; clear * -; revert k0_t14; decide +kernel) (by rw [hκ, hj]; clear * -; revert k0_t14 k; decide +kernel) (by rw [hκ, hj]; clear * -; revert k0_t14 k; decide +kernel)
  · exact piece_max_masked (arg13.view.read (Elt Ideal) X_arg13) (arg11.view.read (Elt Ideal) X_arg11) (arg12.view.read (Elt Ideal) X_arg12) (arg15.view.read (Elt Ideal) f) κ j 6 _ _ _ _ _ rfl _ _ _ _ _ _ _ _ _ _ _ _ _ (by rw [hκ]; clear * -; revert k0_t14; decide +kernel) (by rw [hκ]; clear * -; revert k0_t14; decide +kernel) (by rw [hκ, hj]; clear * -; revert k0_t14 k; decide +kernel) (by rw [hκ, hj]; clear * -; revert k0_t14 k; decide +kernel)

set_option maxHeartbeats 4000000 in
/-- A trip of `k0_t23` at an index of the accumulator. -/
theorem read_t23 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (v192 : FVec Ideal S4x224x1 .f32) (v193 : FVec Ideal S4x224x1 .f32) (k0_t22 : Fin k0_t22_loop.trips) (arg20 : BitVec 32) (X_arg11 : BufTy.Contents (Elt Ideal) arg11.view.ty) (X_arg12 : BufTy.Contents (Elt Ideal) arg12.view.ty) (X_arg13 : BufTy.Contents (Elt Ideal) arg13.view.ty) (X_arg15 : BufTy.Contents (Elt Ideal) arg15.view.ty) (k : Fin k0_t23_loop.trips) (acc : BitVec 32) (f : arg14.view.ty.Contents (Elt Ideal)) (κ : Fin 4) (hκ : κ.val = k0_t22.val) (j : Fin 4) (hj : j.val = k.val)
    (kv : Fin 4) (g : Fin 7) (w : Fin 32) (l : Fin 128) :
    arg14.view.read (Elt Ideal) (arg14.view.writes (Elt Ideal) f ((trip_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 k0_t22 arg20 X_arg11 X_arg12 X_arg13 X_arg15 k).2.1 acc f)) (ix3 kv (blkRow g w) l)
      = if kv = κ then arg14.view.read (Elt Ideal) f (ix3 κ (blkRow g w) l) + ((Ideal.exp2 (score (arg13.view.read (Elt Ideal) X_arg13) (arg11.view.read (Elt Ideal) X_arg11) (arg12.view.read (Elt Ideal) X_arg12) κ g w (tileCol j (lane0 l)) - (arg15.view.read (Elt Ideal) X_arg15) (ix3 κ (blkRow g w) l))) + (Ideal.exp2 (score (arg13.view.read (Elt Ideal) X_arg13) (arg11.view.read (Elt Ideal) X_arg11) (arg12.view.read (Elt Ideal) X_arg12) κ g w (tileCol j (lane1 l)) - (arg15.view.read (Elt Ideal) X_arg15) (ix3 κ (blkRow g w) l)))) else arg14.view.read (Elt Ideal) f (ix3 kv (blkRow g w) l) := by
  unfold trip_k0_t23
  dsimp only
  refine seven arg14.view f κ (fun g w l => arg14.view.read (Elt Ideal) f (ix3 κ (blkRow g w) l) + ((Ideal.exp2 (score (arg13.view.read (Elt Ideal) X_arg13) (arg11.view.read (Elt Ideal) X_arg11) (arg12.view.read (Elt Ideal) X_arg12) κ g w (tileCol j (lane0 l)) - (arg15.view.read (Elt Ideal) X_arg15) (ix3 κ (blkRow g w) l))) + (Ideal.exp2 (score (arg13.view.read (Elt Ideal) X_arg13) (arg11.view.read (Elt Ideal) X_arg11) (arg12.view.read (Elt Ideal) X_arg12) κ g w (tileCol j (lane1 l)) - (arg15.view.read (Elt Ideal) X_arg15) (ix3 κ (blkRow g w) l))))) _ _ _ _ _ _ _ _ _ _ _ _ _ _ _ _ _ _ _ _ _ ?_ ?_ ?_ ?_ ?_ ?_ ?_ ?_ ?_ ?_ ?_ ?_ ?_ ?_ kv g w l
  iterate 7 (rw [hκ]; clear * -; revert k0_t22; decide +kernel)
  · exact piece_shift (arg13.view.read (Elt Ideal) X_arg13) (arg11.view.read (Elt Ideal) X_arg11) (arg12.view.read (Elt Ideal) X_arg12) (arg14.view.read (Elt Ideal) f) κ j 0 _ _ _ _ _ rfl _ _ _ _ _ _ _ _ _ (arg15.view.read (Elt Ideal) X_arg15) _ _ _ (by rw [hκ]; clear * -; revert k0_t22; decide +kernel) (by rw [hκ]; clear * -; revert k0_t22; decide +kernel) (by rw [hκ]; clear * -; revert k0_t22; decide +kernel) (by rw [hκ, hj]; clear * -; revert k0_t22 k; decide +kernel) (by rw [hκ, hj]; clear * -; revert k0_t22 k; decide +kernel)
  · exact piece_shift (arg13.view.read (Elt Ideal) X_arg13) (arg11.view.read (Elt Ideal) X_arg11) (arg12.view.read (Elt Ideal) X_arg12) (arg14.view.read (Elt Ideal) f) κ j 1 _ _ _ _ _ rfl _ _ _ _ _ _ _ _ _ (arg15.view.read (Elt Ideal) X_arg15) _ _ _ (by rw [hκ]; clear * -; revert k0_t22; decide +kernel) (by rw [hκ]; clear * -; revert k0_t22; decide +kernel) (by rw [hκ]; clear * -; revert k0_t22; decide +kernel) (by rw [hκ, hj]; clear * -; revert k0_t22 k; decide +kernel) (by rw [hκ, hj]; clear * -; revert k0_t22 k; decide +kernel)
  · exact piece_shift (arg13.view.read (Elt Ideal) X_arg13) (arg11.view.read (Elt Ideal) X_arg11) (arg12.view.read (Elt Ideal) X_arg12) (arg14.view.read (Elt Ideal) f) κ j 2 _ _ _ _ _ rfl _ _ _ _ _ _ _ _ _ (arg15.view.read (Elt Ideal) X_arg15) _ _ _ (by rw [hκ]; clear * -; revert k0_t22; decide +kernel) (by rw [hκ]; clear * -; revert k0_t22; decide +kernel) (by rw [hκ]; clear * -; revert k0_t22; decide +kernel) (by rw [hκ, hj]; clear * -; revert k0_t22 k; decide +kernel) (by rw [hκ, hj]; clear * -; revert k0_t22 k; decide +kernel)
  · exact piece_shift (arg13.view.read (Elt Ideal) X_arg13) (arg11.view.read (Elt Ideal) X_arg11) (arg12.view.read (Elt Ideal) X_arg12) (arg14.view.read (Elt Ideal) f) κ j 3 _ _ _ _ _ rfl _ _ _ _ _ _ _ _ _ (arg15.view.read (Elt Ideal) X_arg15) _ _ _ (by rw [hκ]; clear * -; revert k0_t22; decide +kernel) (by rw [hκ]; clear * -; revert k0_t22; decide +kernel) (by rw [hκ]; clear * -; revert k0_t22; decide +kernel) (by rw [hκ, hj]; clear * -; revert k0_t22 k; decide +kernel) (by rw [hκ, hj]; clear * -; revert k0_t22 k; decide +kernel)
  · exact piece_shift (arg13.view.read (Elt Ideal) X_arg13) (arg11.view.read (Elt Ideal) X_arg11) (arg12.view.read (Elt Ideal) X_arg12) (arg14.view.read (Elt Ideal) f) κ j 4 _ _ _ _ _ rfl _ _ _ _ _ _ _ _ _ (arg15.view.read (Elt Ideal) X_arg15) _ _ _ (by rw [hκ]; clear * -; revert k0_t22; decide +kernel) (by rw [hκ]; clear * -; revert k0_t22; decide +kernel) (by rw [hκ]; clear * -; revert k0_t22; decide +kernel) (by rw [hκ, hj]; clear * -; revert k0_t22 k; decide +kernel) (by rw [hκ, hj]; clear * -; revert k0_t22 k; decide +kernel)
  · exact piece_shift (arg13.view.read (Elt Ideal) X_arg13) (arg11.view.read (Elt Ideal) X_arg11) (arg12.view.read (Elt Ideal) X_arg12) (arg14.view.read (Elt Ideal) f) κ j 5 _ _ _ _ _ rfl _ _ _ _ _ _ _ _ _ (arg15.view.read (Elt Ideal) X_arg15) _ _ _ (by rw [hκ]; clear * -; revert k0_t22; decide +kernel) (by rw [hκ]; clear * -; revert k0_t22; decide +kernel) (by rw [hκ]; clear * -; revert k0_t22; decide +kernel) (by rw [hκ, hj]; clear * -; revert k0_t22 k; decide +kernel) (by rw [hκ, hj]; clear * -; revert k0_t22 k; decide +kernel)
  · exact piece_shift (arg13.view.read (Elt Ideal) X_arg13) (arg11.view.read (Elt Ideal) X_arg11) (arg12.view.read (Elt Ideal) X_arg12) (arg14.view.read (Elt Ideal) f) κ j 6 _ _ _ _ _ rfl _ _ _ _ _ _ _ _ _ (arg15.view.read (Elt Ideal) X_arg15) _ _ _ (by rw [hκ]; clear * -; revert k0_t22; decide +kernel) (by rw [hκ]; clear * -; revert k0_t22; decide +kernel) (by rw [hκ]; clear * -; revert k0_t22; decide +kernel) (by rw [hκ, hj]; clear * -; revert k0_t22 k; decide +kernel) (by rw [hκ, hj]; clear * -; revert k0_t22 k; decide +kernel)

set_option maxHeartbeats 4000000 in
/-- A trip of `k0_t25` at an index of the accumulator. -/
theorem read_t25 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (v192 : FVec Ideal S4x224x1 .f32) (v193 : FVec Ideal S4x224x1 .f32) (arg18 : BitVec 32) (k0_t24 : Fin k0_t24_loop.trips) (arg20 : BitVec 32) (X_arg11 : BufTy.Contents (Elt Ideal) arg11.view.ty) (X_arg12 : BufTy.Contents (Elt Ideal) arg12.view.ty) (X_arg13 : BufTy.Contents (Elt Ideal) arg13.view.ty) (X_arg15 : BufTy.Contents (Elt Ideal) arg15.view.ty) (k : Fin k0_t25_loop.trips) (acc : BitVec 32) (f : arg14.view.ty.Contents (Elt Ideal)) (κ : Fin 4) (hκ : κ.val = k0_t24.val) (j : Fin 4) (hj : j.val = k.val)
    (kv : Fin 4) (g : Fin 7) (w : Fin 32) (l : Fin 128) :
    arg14.view.read (Elt Ideal) (arg14.view.writes (Elt Ideal) f ((trip_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 k0_t24 arg20 X_arg11 X_arg12 X_arg13 X_arg15 k).2.1 acc f)) (ix3 kv (blkRow g w) l)
      = if kv = κ then arg14.view.read (Elt Ideal) f (ix3 κ (blkRow g w) l) + ((Ideal.exp2 (maskAt (Scalar.addi (Scalar.muli arg18 1024#32) (Scalar.muli (Scf.iv 0#32 1#32 k.val) 256#32)) v2 w (lane0 l) (score (arg13.view.read (Elt Ideal) X_arg13) (arg11.view.read (Elt Ideal) X_arg11) (arg12.view.read (Elt Ideal) X_arg12) κ g w (tileCol j (lane0 l))) - (arg15.view.read (Elt Ideal) X_arg15) (ix3 κ (blkRow g w) l))) + (Ideal.exp2 (maskAt (Scalar.addi (Scalar.muli arg18 1024#32) (Scalar.muli (Scf.iv 0#32 1#32 k.val) 256#32)) v2 w (lane1 l) (score (arg13.view.read (Elt Ideal) X_arg13) (arg11.view.read (Elt Ideal) X_arg11) (arg12.view.read (Elt Ideal) X_arg12) κ g w (tileCol j (lane1 l))) - (arg15.view.read (Elt Ideal) X_arg15) (ix3 κ (blkRow g w) l)))) else arg14.view.read (Elt Ideal) f (ix3 kv (blkRow g w) l) := by
  unfold trip_k0_t25
  dsimp only
  refine seven arg14.view f κ (fun g w l => arg14.view.read (Elt Ideal) f (ix3 κ (blkRow g w) l) + ((Ideal.exp2 (maskAt (Scalar.addi (Scalar.muli arg18 1024#32) (Scalar.muli (Scf.iv 0#32 1#32 k.val) 256#32)) v2 w (lane0 l) (score (arg13.view.read (Elt Ideal) X_arg13) (arg11.view.read (Elt Ideal) X_arg11) (arg12.view.read (Elt Ideal) X_arg12) κ g w (tileCol j (lane0 l))) - (arg15.view.read (Elt Ideal) X_arg15) (ix3 κ (blkRow g w) l))) + (Ideal.exp2 (maskAt (Scalar.addi (Scalar.muli arg18 1024#32) (Scalar.muli (Scf.iv 0#32 1#32 k.val) 256#32)) v2 w (lane1 l) (score (arg13.view.read (Elt Ideal) X_arg13) (arg11.view.read (Elt Ideal) X_arg11) (arg12.view.read (Elt Ideal) X_arg12) κ g w (tileCol j (lane1 l))) - (arg15.view.read (Elt Ideal) X_arg15) (ix3 κ (blkRow g w) l))))) _ _ _ _ _ _ _ _ _ _ _ _ _ _ _ _ _ _ _ _ _ ?_ ?_ ?_ ?_ ?_ ?_ ?_ ?_ ?_ ?_ ?_ ?_ ?_ ?_ kv g w l
  iterate 7 (rw [hκ]; clear * -; revert k0_t24; decide +kernel)
  · exact piece_shift_masked (arg13.view.read (Elt Ideal) X_arg13) (arg11.view.read (Elt Ideal) X_arg11) (arg12.view.read (Elt Ideal) X_arg12) (arg14.view.read (Elt Ideal) f) κ j 0 _ _ _ _ _ rfl _ _ _ _ _ _ _ _ _ _ _ _ _ (arg15.view.read (Elt Ideal) X_arg15) _ _ _ (by rw [hκ]; clear * -; revert k0_t24; decide +kernel) (by rw [hκ]; clear * -; revert k0_t24; decide +kernel) (by rw [hκ]; clear * -; revert k0_t24; decide +kernel) (by rw [hκ, hj]; clear * -; revert k0_t24 k; decide +kernel) (by rw [hκ, hj]; clear * -; revert k0_t24 k; decide +kernel)
  · exact piece_shift_masked (arg13.view.read (Elt Ideal) X_arg13) (arg11.view.read (Elt Ideal) X_arg11) (arg12.view.read (Elt Ideal) X_arg12) (arg14.view.read (Elt Ideal) f) κ j 1 _ _ _ _ _ rfl _ _ _ _ _ _ _ _ _ _ _ _ _ (arg15.view.read (Elt Ideal) X_arg15) _ _ _ (by rw [hκ]; clear * -; revert k0_t24; decide +kernel) (by rw [hκ]; clear * -; revert k0_t24; decide +kernel) (by rw [hκ]; clear * -; revert k0_t24; decide +kernel) (by rw [hκ, hj]; clear * -; revert k0_t24 k; decide +kernel) (by rw [hκ, hj]; clear * -; revert k0_t24 k; decide +kernel)
  · exact piece_shift_masked (arg13.view.read (Elt Ideal) X_arg13) (arg11.view.read (Elt Ideal) X_arg11) (arg12.view.read (Elt Ideal) X_arg12) (arg14.view.read (Elt Ideal) f) κ j 2 _ _ _ _ _ rfl _ _ _ _ _ _ _ _ _ _ _ _ _ (arg15.view.read (Elt Ideal) X_arg15) _ _ _ (by rw [hκ]; clear * -; revert k0_t24; decide +kernel) (by rw [hκ]; clear * -; revert k0_t24; decide +kernel) (by rw [hκ]; clear * -; revert k0_t24; decide +kernel) (by rw [hκ, hj]; clear * -; revert k0_t24 k; decide +kernel) (by rw [hκ, hj]; clear * -; revert k0_t24 k; decide +kernel)
  · exact piece_shift_masked (arg13.view.read (Elt Ideal) X_arg13) (arg11.view.read (Elt Ideal) X_arg11) (arg12.view.read (Elt Ideal) X_arg12) (arg14.view.read (Elt Ideal) f) κ j 3 _ _ _ _ _ rfl _ _ _ _ _ _ _ _ _ _ _ _ _ (arg15.view.read (Elt Ideal) X_arg15) _ _ _ (by rw [hκ]; clear * -; revert k0_t24; decide +kernel) (by rw [hκ]; clear * -; revert k0_t24; decide +kernel) (by rw [hκ]; clear * -; revert k0_t24; decide +kernel) (by rw [hκ, hj]; clear * -; revert k0_t24 k; decide +kernel) (by rw [hκ, hj]; clear * -; revert k0_t24 k; decide +kernel)
  · exact piece_shift_masked (arg13.view.read (Elt Ideal) X_arg13) (arg11.view.read (Elt Ideal) X_arg11) (arg12.view.read (Elt Ideal) X_arg12) (arg14.view.read (Elt Ideal) f) κ j 4 _ _ _ _ _ rfl _ _ _ _ _ _ _ _ _ _ _ _ _ (arg15.view.read (Elt Ideal) X_arg15) _ _ _ (by rw [hκ]; clear * -; revert k0_t24; decide +kernel) (by rw [hκ]; clear * -; revert k0_t24; decide +kernel) (by rw [hκ]; clear * -; revert k0_t24; decide +kernel) (by rw [hκ, hj]; clear * -; revert k0_t24 k; decide +kernel) (by rw [hκ, hj]; clear * -; revert k0_t24 k; decide +kernel)
  · exact piece_shift_masked (arg13.view.read (Elt Ideal) X_arg13) (arg11.view.read (Elt Ideal) X_arg11) (arg12.view.read (Elt Ideal) X_arg12) (arg14.view.read (Elt Ideal) f) κ j 5 _ _ _ _ _ rfl _ _ _ _ _ _ _ _ _ _ _ _ _ (arg15.view.read (Elt Ideal) X_arg15) _ _ _ (by rw [hκ]; clear * -; revert k0_t24; decide +kernel) (by rw [hκ]; clear * -; revert k0_t24; decide +kernel) (by rw [hκ]; clear * -; revert k0_t24; decide +kernel) (by rw [hκ, hj]; clear * -; revert k0_t24 k; decide +kernel) (by rw [hκ, hj]; clear * -; revert k0_t24 k; decide +kernel)
  · exact piece_shift_masked (arg13.view.read (Elt Ideal) X_arg13) (arg11.view.read (Elt Ideal) X_arg11) (arg12.view.read (Elt Ideal) X_arg12) (arg14.view.read (Elt Ideal) f) κ j 6 _ _ _ _ _ rfl _ _ _ _ _ _ _ _ _ _ _ _ _ (arg15.view.read (Elt Ideal) X_arg15) _ _ _ (by rw [hκ]; clear * -; revert k0_t24; decide +kernel) (by rw [hκ]; clear * -; revert k0_t24; decide +kernel) (by rw [hκ]; clear * -; revert k0_t24; decide +kernel) (by rw [hκ, hj]; clear * -; revert k0_t24 k; decide +kernel) (by rw [hκ, hj]; clear * -; revert k0_t24 k; decide +kernel)

end Cert.KernelIdeal.Own
end
-- ==== Proof.OuterI.lean ====
/-
  The loop over the kv heads of one chunk, for each of the four streams and for the unmasked and the masked tiles:
  its trip runs the generated loop over the tiles of a head, and its state is the fold of that loop's.
-/
module

public import proofs.«01_k».proof.Proof.Gen.KernelIdeal.Loops
public import Idealize.ShloMosaic.Lib.Tactic

@[expose] public section

set_option maxRecDepth 8192
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The pipeline library's algebra beside the counters the kernel's own transfers ride on. -/
abbrev UU (nD : Nat) (τ : Topo) : Type := UR sig nD τ × Counters
local notation "𝕄" => MT nD τ sig Unit (Elt F) ℕ (UU nD τ) ℕ

section

variable (𝒱 : Variants) (c : Dev nD) (bd : Option 𝒱.V) (i : grid0.Coords)
  (arg1 : Memref sig .tc .smem S2 .i32) (harg1 : arg1.IsWhole)
  (arg2 : Memref sig .tc .vmem S1x28x32x128 .bf16) (harg2 : arg2.IsWhole)
  (arg3 : Memref sig .tc .hbm S2x131072x4x128 .fp8e4m3) (harg3 : arg3.IsWhole)
  (arg4 : Memref sig .tc .vmem S1x4x131072 .f32) (harg4 : arg4.IsWhole)
  (arg5 : Memref sig .tc .vmem S1x4x131072 .f32) (harg5 : arg5.IsWhole)
  (arg6 : Memref sig .tc .vmem S1x4x131072 .f32) (harg6 : arg6.IsWhole)
  (arg7 : Memref sig .tc .vmem S1x4x224x128 .f32) (harg7 : arg7.IsWhole)
  (arg8 : Memref sig .tc .vmem S1x28x32x128 .fp8e4m3) (harg8 : arg8.IsWhole)
  (arg9 : Memref sig .tc .vmem S1x28x128 .f32) (harg9 : arg9.IsWhole)
  (arg10 : Memref sig .tc .vmem S2x1024x4x128 .fp8e4m3) (harg10 : arg10.IsWhole)
  (arg11 : Memref sig .tc .vmem S4x1024x128 .fp8e4m3) (harg11 : arg11.IsWhole)
  (arg12 : Memref sig .tc .vmem S4x8x1024 .f32) (harg12 : arg12.IsWhole)
  (arg13 : Memref sig .tc .vmem S4x224x128 .fp8e4m3) (harg13 : arg13.IsWhole)
  (arg14 : Memref sig .tc .vmem S4x224x128 .f32) (harg14 : arg14.IsWhole)
  (arg15 : Memref sig .tc .vmem S4x224x128 .f32) (harg15 : arg15.IsWhole)
  (arg16 : Memref sig .tc .vmem S4x131328 .f32) (harg16 : arg16.IsWhole)
  (arg17 : DmaSems sig S2) (v1 : Elt F .i32)

include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1

/-- What `arg14` holds before kv head `k` (loop `k0_t2`), from `G` at the loop's entry. -/
def S_t2 (k0_hw1 : k0_chk1 i v1) (v2 : BitVec 32) (v21 : BitVec 32) (v152 : FVec F S28x1x1 .f32) (v159 : FVec F S4x224x128 .f32) (v160 : Vec F S4x224x128 .f32) (X_arg11 : BufTy.Contents (Elt F) arg11.view.ty) (X_arg12 : BufTy.Contents (Elt F) arg12.view.ty) (X_arg13 : BufTy.Contents (Elt F) arg13.view.ty) (G : BufTy.Contents (Elt F) arg14.view.ty) : ℕ → BufTy.Contents (Elt F) arg14.view.ty
  | 0 => G
  | k + 1 => if h : k < k0_t2_loop.trips then
      arg14.view.writes (Elt F) (S_t2 k0_hw1 v2 v21 v152 v159 v160 X_arg11 X_arg12 X_arg13 G k) (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 ⟨k, h⟩ (Scf.iv 0#32 1#32 k) X_arg11 X_arg12 X_arg13 (S_t2 k0_hw1 v2 v21 v152 v159 v160 X_arg11 X_arg12 X_arg13 G k) 0#32 k0_t3_loop.trips).2
    else S_t2 k0_hw1 v2 v21 v152 v159 v160 X_arg11 X_arg12 X_arg13 G k

theorem S_t2_succ (k0_hw1 : k0_chk1 i v1) (v2 : BitVec 32) (v21 : BitVec 32) (v152 : FVec F S28x1x1 .f32) (v159 : FVec F S4x224x128 .f32) (v160 : Vec F S4x224x128 .f32) (X_arg11 : BufTy.Contents (Elt F) arg11.view.ty) (X_arg12 : BufTy.Contents (Elt F) arg12.view.ty) (X_arg13 : BufTy.Contents (Elt F) arg13.view.ty) (G : BufTy.Contents (Elt F) arg14.view.ty) (k : Fin k0_t2_loop.trips) :
    S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G (k.val + 1)
      = arg14.view.writes (Elt F) (S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G k.val) (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 k (Scf.iv 0#32 1#32 k.val) X_arg11 X_arg12 X_arg13 (S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G k.val) 0#32 k0_t3_loop.trips).2 := by
  rw [S_t2.eq_2]; exact dif_pos k.isLt

/-- What `arg14` holds before kv head `k` (loop `k0_t4`), from `G` at the loop's entry. -/
def S_t4 (k0_hw1 : k0_chk1 i v1) (v2 : BitVec 32) (v21 : BitVec 32) (v152 : FVec F S28x1x1 .f32) (v159 : FVec F S4x224x128 .f32) (v160 : Vec F S4x224x128 .f32) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg14.view.ty) : ℕ → BufTy.Contents (Elt F) arg14.view.ty
  | 0 => G
  | k + 1 => if h : k < k0_t4_loop.trips then
      arg14.view.writes (Elt F) (S_t4 k0_hw1 v2 v21 v152 v159 v160 arg18 X_arg11 X_arg12 X_arg13 G k) (st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 ⟨k, h⟩ (Scf.iv 0#32 1#32 k) X_arg11 X_arg12 X_arg13 (S_t4 k0_hw1 v2 v21 v152 v159 v160 arg18 X_arg11 X_arg12 X_arg13 G k) 0#32 k0_t5_loop.trips).2
    else S_t4 k0_hw1 v2 v21 v152 v159 v160 arg18 X_arg11 X_arg12 X_arg13 G k

theorem S_t4_succ (k0_hw1 : k0_chk1 i v1) (v2 : BitVec 32) (v21 : BitVec 32) (v152 : FVec F S28x1x1 .f32) (v159 : FVec F S4x224x128 .f32) (v160 : Vec F S4x224x128 .f32) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg14.view.ty) (k : Fin k0_t4_loop.trips) :
    S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G (k.val + 1)
      = arg14.view.writes (Elt F) (S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G k.val) (st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 k (Scf.iv 0#32 1#32 k.val) X_arg11 X_arg12 X_arg13 (S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G k.val) 0#32 k0_t5_loop.trips).2 := by
  rw [S_t4.eq_2]; exact dif_pos k.isLt

/-- What `arg15` holds before kv head `k` (loop `k0_t12`), from `G` at the loop's entry. -/
def S_t12 (v2 : BitVec 32) (v21 : BitVec 32) (v152 : FVec F S28x1x1 .f32) (v191 : BitVec 1) (k0_hw2 : k0_chk2 i v1 v191) (k0_h7 : k0_cond7 v191 = 1#1) (X_arg11 : BufTy.Contents (Elt F) arg11.view.ty) (X_arg12 : BufTy.Contents (Elt F) arg12.view.ty) (X_arg13 : BufTy.Contents (Elt F) arg13.view.ty) (G : BufTy.Contents (Elt F) arg15.view.ty) : ℕ → BufTy.Contents (Elt F) arg15.view.ty
  | 0 => G
  | k + 1 => if h : k < k0_t12_loop.trips then
      arg15.view.writes (Elt F) (S_t12 v2 v21 v152 v191 k0_hw2 k0_h7 X_arg11 X_arg12 X_arg13 G k) (st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 ⟨k, h⟩ (Scf.iv 0#32 1#32 k) X_arg11 X_arg12 X_arg13 (S_t12 v2 v21 v152 v191 k0_hw2 k0_h7 X_arg11 X_arg12 X_arg13 G k) 0#32 k0_t13_loop.trips).2
    else S_t12 v2 v21 v152 v191 k0_hw2 k0_h7 X_arg11 X_arg12 X_arg13 G k

theorem S_t12_succ (v2 : BitVec 32) (v21 : BitVec 32) (v152 : FVec F S28x1x1 .f32) (v191 : BitVec 1) (k0_hw2 : k0_chk2 i v1 v191) (k0_h7 : k0_cond7 v191 = 1#1) (X_arg11 : BufTy.Contents (Elt F) arg11.view.ty) (X_arg12 : BufTy.Contents (Elt F) arg12.view.ty) (X_arg13 : BufTy.Contents (Elt F) arg13.view.ty) (G : BufTy.Contents (Elt F) arg15.view.ty) (k : Fin k0_t12_loop.trips) :
    S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G (k.val + 1)
      = arg15.view.writes (Elt F) (S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G k.val) (st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 k (Scf.iv 0#32 1#32 k.val) X_arg11 X_arg12 X_arg13 (S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G k.val) 0#32 k0_t13_loop.trips).2 := by
  rw [S_t12.eq_2]; exact dif_pos k.isLt

/-- What `arg15` holds before kv head `k` (loop `k0_t14`), from `G` at the loop's entry. -/
def S_t14 (v2 : BitVec 32) (v21 : BitVec 32) (v152 : FVec F S28x1x1 .f32) (v191 : BitVec 1) (k0_hw2 : k0_chk2 i v1 v191) (k0_h7 : k0_cond7 v191 = 1#1) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg15.view.ty) : ℕ → BufTy.Contents (Elt F) arg15.view.ty
  | 0 => G
  | k + 1 => if h : k < k0_t14_loop.trips then
      arg15.view.writes (Elt F) (S_t14 v2 v21 v152 v191 k0_hw2 k0_h7 arg18 X_arg11 X_arg12 X_arg13 G k) (st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 ⟨k, h⟩ (Scf.iv 0#32 1#32 k) X_arg11 X_arg12 X_arg13 (S_t14 v2 v21 v152 v191 k0_hw2 k0_h7 arg18 X_arg11 X_arg12 X_arg13 G k) 0#32 k0_t15_loop.trips).2
    else S_t14 v2 v21 v152 v191 k0_hw2 k0_h7 arg18 X_arg11 X_arg12 X_arg13 G k

theorem S_t14_succ (v2 : BitVec 32) (v21 : BitVec 32) (v152 : FVec F S28x1x1 .f32) (v191 : BitVec 1) (k0_hw2 : k0_chk2 i v1 v191) (k0_h7 : k0_cond7 v191 = 1#1) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg15.view.ty) (k : Fin k0_t14_loop.trips) :
    S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G (k.val + 1)
      = arg15.view.writes (Elt F) (S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G k.val) (st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 k (Scf.iv 0#32 1#32 k.val) X_arg11 X_arg12 X_arg13 (S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G k.val) 0#32 k0_t15_loop.trips).2 := by
  rw [S_t14.eq_2]; exact dif_pos k.isLt

/-- What `arg14` holds before kv head `k` (loop `k0_t22`), from `G` at the loop's entry. -/
def S_t22 (v2 : BitVec 32) (v21 : BitVec 32) (v152 : FVec F S28x1x1 .f32) (v191 : BitVec 1) (k0_hw2 : k0_chk2 i v1 v191) (v192 : FVec F S4x224x1 .f32) (v193 : FVec F S4x224x1 .f32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) : ℕ → BufTy.Contents (Elt F) arg14.view.ty
  | 0 => G
  | k + 1 => if h : k < k0_t22_loop.trips then
      arg14.view.writes (Elt F) (S_t22 v2 v21 v152 v191 k0_hw2 v192 v193 X_arg11 X_arg12 X_arg13 X_arg15 G k) (st_k0_t23 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 ⟨k, h⟩ (Scf.iv 0#32 1#32 k) X_arg11 X_arg12 X_arg13 X_arg15 (S_t22 v2 v21 v152 v191 k0_hw2 v192 v193 X_arg11 X_arg12 X_arg13 X_arg15 G k) 0#32 k0_t23_loop.trips).2
    else S_t22 v2 v21 v152 v191 k0_hw2 v192 v193 X_arg11 X_arg12 X_arg13 X_arg15 G k

theorem S_t22_succ (v2 : BitVec 32) (v21 : BitVec 32) (v152 : FVec F S28x1x1 .f32) (v191 : BitVec 1) (k0_hw2 : k0_chk2 i v1 v191) (v192 : FVec F S4x224x1 .f32) (v193 : FVec F S4x224x1 .f32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (k : Fin k0_t22_loop.trips) :
    S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G (k.val + 1)
      = arg14.view.writes (Elt F) (S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G k.val) (st_k0_t23 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 k (Scf.iv 0#32 1#32 k.val) X_arg11 X_arg12 X_arg13 X_arg15 (S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G k.val) 0#32 k0_t23_loop.trips).2 := by
  rw [S_t22.eq_2]; exact dif_pos k.isLt

/-- What `arg14` holds before kv head `k` (loop `k0_t24`), from `G` at the loop's entry. -/
def S_t24 (v2 : BitVec 32) (v21 : BitVec 32) (v152 : FVec F S28x1x1 .f32) (v191 : BitVec 1) (k0_hw2 : k0_chk2 i v1 v191) (v192 : FVec F S4x224x1 .f32) (v193 : FVec F S4x224x1 .f32) (arg18 : BitVec 32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) : ℕ → BufTy.Contents (Elt F) arg14.view.ty
  | 0 => G
  | k + 1 => if h : k < k0_t24_loop.trips then
      arg14.view.writes (Elt F) (S_t24 v2 v21 v152 v191 k0_hw2 v192 v193 arg18 X_arg11 X_arg12 X_arg13 X_arg15 G k) (st_k0_t25 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 ⟨k, h⟩ (Scf.iv 0#32 1#32 k) X_arg11 X_arg12 X_arg13 X_arg15 (S_t24 v2 v21 v152 v191 k0_hw2 v192 v193 arg18 X_arg11 X_arg12 X_arg13 X_arg15 G k) 0#32 k0_t25_loop.trips).2
    else S_t24 v2 v21 v152 v191 k0_hw2 v192 v193 arg18 X_arg11 X_arg12 X_arg13 X_arg15 G k

theorem S_t24_succ (v2 : BitVec 32) (v21 : BitVec 32) (v152 : FVec F S28x1x1 .f32) (v191 : BitVec 1) (k0_hw2 : k0_chk2 i v1 v191) (v192 : FVec F S4x224x1 .f32) (v193 : FVec F S4x224x1 .f32) (arg18 : BitVec 32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (k : Fin k0_t24_loop.trips) :
    S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G (k.val + 1)
      = arg14.view.writes (Elt F) (S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G k.val) (st_k0_t25 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 k (Scf.iv 0#32 1#32 k.val) X_arg11 X_arg12 X_arg13 X_arg15 (S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G k.val) 0#32 k0_t25_loop.trips).2 := by
  rw [S_t24.eq_2]; exact dif_pos k.isLt

/-- What `arg6` holds before kv head `k` (loop `k0_t32`), from `G` at the loop's entry. -/
def S_t32 (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (k0_h21 : k0_cond21 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) : ℕ → BufTy.Contents (Elt F) arg6.view.ty
  | 0 => G
  | k + 1 => if h : k < k0_t32_loop.trips then
      arg6.view.writes (Elt F) (S_t32 k0_hw1 v2 v21 v152 v230 v231 k0_t31 k0_h21 X_arg11 X_arg12 X_arg13 X_arg15 G k) (st_k0_t33 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 ⟨k, h⟩ (Scf.iv 0#32 1#32 k) X_arg11 X_arg12 X_arg13 X_arg15 0#32 k0_t33_loop.trips).2
    else S_t32 k0_hw1 v2 v21 v152 v230 v231 k0_t31 k0_h21 X_arg11 X_arg12 X_arg13 X_arg15 G k

theorem S_t32_succ (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (k0_h21 : k0_cond21 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (k : Fin k0_t32_loop.trips) :
    S_t32 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 X_arg11 X_arg12 X_arg13 X_arg15 G (k.val + 1)
      = arg6.view.writes (Elt F) (S_t32 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 X_arg11 X_arg12 X_arg13 X_arg15 G k.val) (st_k0_t33 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 k (Scf.iv 0#32 1#32 k.val) X_arg11 X_arg12 X_arg13 X_arg15 0#32 k0_t33_loop.trips).2 := by
  rw [S_t32.eq_2]; exact dif_pos k.isLt

/-- What `arg6` holds before kv head `k` (loop `k0_t34`), from `G` at the loop's entry. -/
def S_t34 (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (arg18 : BitVec 32) (k0_h22 : k0_cond22 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) : ℕ → BufTy.Contents (Elt F) arg6.view.ty
  | 0 => G
  | k + 1 => if h : k < k0_t34_loop.trips then
      arg6.view.writes (Elt F) (S_t34 k0_hw1 v2 v21 v152 v230 v231 k0_t31 arg18 k0_h22 X_arg11 X_arg12 X_arg13 X_arg15 G k) (st_k0_t35 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 ⟨k, h⟩ (Scf.iv 0#32 1#32 k) X_arg11 X_arg12 X_arg13 X_arg15 0#32 k0_t35_loop.trips).2
    else S_t34 k0_hw1 v2 v21 v152 v230 v231 k0_t31 arg18 k0_h22 X_arg11 X_arg12 X_arg13 X_arg15 G k

theorem S_t34_succ (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (arg18 : BitVec 32) (k0_h22 : k0_cond22 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (k : Fin k0_t34_loop.trips) :
    S_t34 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 X_arg11 X_arg12 X_arg13 X_arg15 G (k.val + 1)
      = arg6.view.writes (Elt F) (S_t34 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 X_arg11 X_arg12 X_arg13 X_arg15 G k.val) (st_k0_t35 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 k (Scf.iv 0#32 1#32 k.val) X_arg11 X_arg12 X_arg13 X_arg15 0#32 k0_t35_loop.trips).2 := by
  rw [S_t34.eq_2]; exact dif_pos k.isLt

end

set_option warn.classDefReducibility false in
/-- The invariant of `k0_t2`: the operands as they were, `arg14` at the fold. -/
@[sl_loop] def loopInv_k0_t2 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v159 : FVec F S4x224x128 .f32) (v160 : Vec F S4x224x128 .f32) (X_arg11 : BufTy.Contents (Elt F) arg11.view.ty) (X_arg12 : BufTy.Contents (Elt F) arg12.view.ty) (X_arg13 : BufTy.Contents (Elt F) arg13.view.ty) (G : BufTy.Contents (Elt F) arg14.view.ty) (init : BitVec 32) :
    LoopInvTy_k0_t2 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg14.view.loc (c : Thread nD τ) ↦[arg14.view.set]{fullShare} f) ∗ ⌜f = S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G k⌝))
  step k acc := by
    iintro ⟨H11, H12, H13, ⟨%f, HW, %hf⟩⟩
    subst hf
    rw [S_t2_succ]
    sl_unfold [k0_t2_body]
    sl_exec
    sl_step
    sl_close

set_option warn.classDefReducibility false in
/-- The invariant of `k0_t4`: the operands as they were, `arg14` at the fold. -/
@[sl_loop] def loopInv_k0_t4 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v159 : FVec F S4x224x128 .f32) (v160 : Vec F S4x224x128 .f32) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg14.view.ty) (init : BitVec 32) :
    LoopInvTy_k0_t4 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg14.view.loc (c : Thread nD τ) ↦[arg14.view.set]{fullShare} f) ∗ ⌜f = S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G k⌝))
  step k acc := by
    iintro ⟨H11, H12, H13, ⟨%f, HW, %hf⟩⟩
    subst hf
    rw [S_t4_succ]
    sl_unfold [k0_t4_body]
    sl_exec
    sl_step
    sl_close

set_option warn.classDefReducibility false in
/-- The invariant of `k0_t12`: the operands as they were, `arg15` at the fold. -/
@[sl_loop] def loopInv_k0_t12 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (k0_h7 : k0_cond7 v191 = 1#1) (X_arg11 : BufTy.Contents (Elt F) arg11.view.ty) (X_arg12 : BufTy.Contents (Elt F) arg12.view.ty) (X_arg13 : BufTy.Contents (Elt F) arg13.view.ty) (G : BufTy.Contents (Elt F) arg15.view.ty) (init : BitVec 32) :
    LoopInvTy_k0_t12 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg15.view.loc (c : Thread nD τ) ↦[arg15.view.set]{fullShare} f) ∗ ⌜f = S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G k⌝))
  step k acc := by
    iintro ⟨H11, H12, H13, ⟨%f, HW, %hf⟩⟩
    subst hf
    rw [S_t12_succ]
    sl_unfold [k0_t12_body]
    sl_exec
    sl_step
    sl_close

set_option warn.classDefReducibility false in
/-- The invariant of `k0_t14`: the operands as they were, `arg15` at the fold. -/
@[sl_loop] def loopInv_k0_t14 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (k0_h7 : k0_cond7 v191 = 1#1) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg15.view.ty) (init : BitVec 32) :
    LoopInvTy_k0_t14 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg15.view.loc (c : Thread nD τ) ↦[arg15.view.set]{fullShare} f) ∗ ⌜f = S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G k⌝))
  step k acc := by
    iintro ⟨H11, H12, H13, ⟨%f, HW, %hf⟩⟩
    subst hf
    rw [S_t14_succ]
    sl_unfold [k0_t14_body]
    sl_exec
    sl_step
    sl_close

set_option warn.classDefReducibility false in
/-- The invariant of `k0_t22`: the operands as they were, `arg14` at the fold. -/
@[sl_loop] def loopInv_k0_t22 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (v192 : FVec F S4x224x1 .f32) (v193 : FVec F S4x224x1 .f32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (init : BitVec 32) :
    LoopInvTy_k0_t22 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg14.view.loc (c : Thread nD τ) ↦[arg14.view.set]{fullShare} f) ∗ ⌜f = S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G k⌝))
  step k acc := by
    iintro ⟨H11, H12, H13, H15, ⟨%f, HW, %hf⟩⟩
    subst hf
    rw [S_t22_succ]
    sl_unfold [k0_t22_body]
    sl_exec
    sl_step
    sl_close

set_option warn.classDefReducibility false in
/-- The invariant of `k0_t24`: the operands as they were, `arg14` at the fold. -/
@[sl_loop] def loopInv_k0_t24 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (v192 : FVec F S4x224x1 .f32) (v193 : FVec F S4x224x1 .f32) (arg18 : BitVec 32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (init : BitVec 32) :
    LoopInvTy_k0_t24 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg14.view.loc (c : Thread nD τ) ↦[arg14.view.set]{fullShare} f) ∗ ⌜f = S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G k⌝))
  step k acc := by
    iintro ⟨H11, H12, H13, H15, ⟨%f, HW, %hf⟩⟩
    subst hf
    rw [S_t24_succ]
    sl_unfold [k0_t24_body]
    sl_exec
    sl_step
    sl_close

set_option warn.classDefReducibility false in
/-- The invariant of `k0_t32`: the operands as they were, `arg6` at the fold. -/
@[sl_loop] def loopInv_k0_t32 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (k0_h21 : k0_cond21 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (init : BitVec 32) :
    LoopInvTy_k0_t32 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg6.view.loc (c : Thread nD τ) ↦[arg6.view.set]{fullShare} f) ∗ ⌜f = S_t32 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 X_arg11 X_arg12 X_arg13 X_arg15 G k⌝))
  step k acc := by
    iintro ⟨H11, H12, H13, H15, ⟨%f, HW, %hf⟩⟩
    subst hf
    rw [S_t32_succ]
    sl_unfold [k0_t32_body]
    sl_exec
    sl_step
    sl_close

set_option warn.classDefReducibility false in
/-- The invariant of `k0_t34`: the operands as they were, `arg6` at the fold. -/
@[sl_loop] def loopInv_k0_t34 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (arg18 : BitVec 32) (k0_h22 : k0_cond22 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (init : BitVec 32) :
    LoopInvTy_k0_t34 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg6.view.loc (c : Thread nD τ) ↦[arg6.view.set]{fullShare} f) ∗ ⌜f = S_t34 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 X_arg11 X_arg12 X_arg13 X_arg15 G k⌝))
  step k acc := by
    iintro ⟨H11, H12, H13, H15, ⟨%f, HW, %hf⟩⟩
    subst hf
    rw [S_t34_succ]
    sl_unfold [k0_t34_body]
    sl_exec
    sl_step
    sl_close

end Cert.KernelIdeal.Own
-- ==== Proof.Chunk.lean ====
/-
  The folds of a chunk at an index of the accumulator: the four tiles of its kv head, one after the other.
-/
module

public import proofs.«01_k».proof.Proof.Trip
public import proofs.«01_k».proof.Proof.OuterI

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx

/-- One tile's step: the accumulator with the two halves of the tile. -/
abbrev tileStep (op : EReal → EReal → EReal) (e : Fin 4 → Fin 256 → EReal) (l : Fin 128) (j : Fin 4) (x : EReal) : EReal :=
  op x (op (e j (lane0 l)) (e j (lane1 l)))

/-- The four tiles of a chunk in turn. -/
def chunkFold (op : EReal → EReal → EReal) (e : Fin 4 → Fin 256 → EReal) (l : Fin 128) (x : EReal) : EReal :=
  tileStep op e l 3 (tileStep op e l 2 (tileStep op e l 1 (tileStep op e l 0 x)))

/-- Four trips over the tiles of head `κ`. -/
theorem inner_read {sp : Space} (v : View sig .tc sp S4x224x128 .f32) (X : ℕ → v.ty.Contents (Elt Ideal)) (κ : Fin 4) (op : EReal → EReal → EReal)
    (E : Fin 7 → Fin 32 → Fin 128 → Fin 4 → Fin 256 → EReal)
    (h : ∀ (j : Fin 4) (kv : Fin 4) (g : Fin 7) (w : Fin 32) (l : Fin 128), v.read (Elt Ideal) (X (j.val + 1)) (ix3 kv (blkRow g w) l)
      = if kv = κ then tileStep op (E g w l) l j (v.read (Elt Ideal) (X j.val) (ix3 κ (blkRow g w) l)) else v.read (Elt Ideal) (X j.val) (ix3 kv (blkRow g w) l))
    (kv : Fin 4) (g : Fin 7) (w : Fin 32) (l : Fin 128) :
    v.read (Elt Ideal) (X 4) (ix3 kv (blkRow g w) l)
      = if kv = κ then chunkFold op (E g w l) l (v.read (Elt Ideal) (X 0) (ix3 κ (blkRow g w) l)) else v.read (Elt Ideal) (X 0) (ix3 kv (blkRow g w) l) := by
  have h0 := fun kv => h 0 kv g w l
  have h1 := fun kv => h 1 kv g w l
  have h2 := fun kv => h 2 kv g w l
  have h3 := fun kv => h 3 kv g w l
  by_cases e : kv = κ
  · subst e
    rw [if_pos rfl]
    refine (h3 kv).trans ?_
    rw [if_pos rfl]
    refine congrArg (tileStep op (E g w l) l 3) ((h2 kv).trans ?_)
    rw [if_pos rfl]
    refine congrArg (tileStep op (E g w l) l 2) ((h1 kv).trans ?_)
    rw [if_pos rfl]
    refine congrArg (tileStep op (E g w l) l 1) ((h0 kv).trans ?_)
    rw [if_pos rfl]
    rfl
  · rw [if_neg e]
    exact (((h3 kv).trans (if_neg e)).trans ((h2 kv).trans (if_neg e))).trans (((h1 kv).trans (if_neg e)).trans ((h0 kv).trans (if_neg e)))

/-- Four trips over the kv heads. -/
theorem outer_read {sp : Space} (v : View sig .tc sp S4x224x128 .f32) (Y : ℕ → v.ty.Contents (Elt Ideal)) (op : EReal → EReal → EReal)
    (E : Fin 4 → Fin 7 → Fin 32 → Fin 128 → Fin 4 → Fin 256 → EReal)
    (h : ∀ (κ : Fin 4) (kv : Fin 4) (g : Fin 7) (w : Fin 32) (l : Fin 128), v.read (Elt Ideal) (Y (κ.val + 1)) (ix3 kv (blkRow g w) l)
      = if kv = κ then chunkFold op (E κ g w l) l (v.read (Elt Ideal) (Y κ.val) (ix3 κ (blkRow g w) l)) else v.read (Elt Ideal) (Y κ.val) (ix3 kv (blkRow g w) l))
    (kv : Fin 4) (g : Fin 7) (w : Fin 32) (l : Fin 128) :
    v.read (Elt Ideal) (Y 4) (ix3 kv (blkRow g w) l) = chunkFold op (E kv g w l) l (v.read (Elt Ideal) (Y 0) (ix3 kv (blkRow g w) l)) := by
  have key : ∀ n : ℕ, n ≤ 4 → v.read (Elt Ideal) (Y n) (ix3 kv (blkRow g w) l)
      = if kv.val < n then chunkFold op (E kv g w l) l (v.read (Elt Ideal) (Y 0) (ix3 kv (blkRow g w) l)) else v.read (Elt Ideal) (Y 0) (ix3 kv (blkRow g w) l) := by
    intro n
    induction n with
    | zero => intro _; rw [if_neg (Nat.not_lt_zero _)]
    | succ n ih =>
      intro hn
      have hs := h ⟨n, hn⟩ kv g w l
      have ih' := ih (by omega)
      by_cases e : kv = ⟨n, hn⟩
      · subst e
        refine hs.trans ?_
        rw [if_pos rfl, if_pos (Nat.lt_succ_self n)]
        refine congrArg (chunkFold op _ l) (ih'.trans (if_neg (Nat.lt_irrefl n)))
      · have hv : kv.val ≠ n := fun z => e (Fin.ext z)
        refine (hs.trans (if_neg e)).trans (ih'.trans ?_)
        by_cases hl : kv.val < n
        · rw [if_pos hl, if_pos (by omega)]
        · rw [if_neg hl, if_neg (by omega)]
  exact (key 4 le_rfl).trans (if_pos kv.isLt)

/-- A chunk's fold of `k0_t2` at an index of the accumulator: the four tiles of its kv head in turn. -/
theorem chunk_t2 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (k0_hw1 : k0_chk1 i v1) (v2 : BitVec 32) (v21 : BitVec 32) (v152 : FVec Ideal S28x1x1 .f32) (v159 : FVec Ideal S4x224x128 .f32) (v160 : Vec Ideal S4x224x128 .f32) (X_arg11 : BufTy.Contents (Elt Ideal) arg11.view.ty) (X_arg12 : BufTy.Contents (Elt Ideal) arg12.view.ty) (X_arg13 : BufTy.Contents (Elt Ideal) arg13.view.ty) (G : BufTy.Contents (Elt Ideal) arg14.view.ty) (kv : Fin 4) (g : Fin 7) (w : Fin 32) (l : Fin 128) :
    arg14.view.read (Elt Ideal) (S_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G k0_t2_loop.trips) (ix3 kv (blkRow g w) l)
      = chunkFold (· + ·) (fun j x => Ideal.exp2 (score (arg13.view.read (Elt Ideal) X_arg13) (arg11.view.read (Elt Ideal) X_arg11) (arg12.view.read (Elt Ideal) X_arg12) kv g w (tileCol j x))) l (arg14.view.read (Elt Ideal) G (ix3 kv (blkRow g w) l)) := by
  have ho : k0_t2_loop.trips = 4 := by decide +kernel
  have hi : k0_t3_loop.trips = 4 := by decide +kernel
  have hk : ∀ κ : Fin 4, κ.val < k0_t2_loop.trips := fun κ => by rw [ho]; exact κ.isLt
  have hj : ∀ j : Fin 4, j.val < k0_t3_loop.trips := fun j => by rw [hi]; exact j.isLt
  refine (congrArg (fun n => arg14.view.read (Elt Ideal) (S_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G n) (ix3 kv (blkRow g w) l)) ho).trans ?_
  refine outer_read arg14.view (fun n => S_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G n) (· + ·) (fun κ g w l => (fun j x => Ideal.exp2 (score (arg13.view.read (Elt Ideal) X_arg13) (arg11.view.read (Elt Ideal) X_arg11) (arg12.view.read (Elt Ideal) X_arg12) κ g w (tileCol j x)))) (fun κ kv g w l => ?_) kv g w l
  show arg14.view.read (Elt Ideal) (S_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G ((⟨κ.val, hk κ⟩ : Fin k0_t2_loop.trips).val + 1)) _ = _
  rw [S_t2_succ]
  generalize S_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G (⟨κ.val, hk κ⟩ : Fin k0_t2_loop.trips).val = G'
  refine (congrArg (fun n => arg14.view.read (Elt Ideal) (arg14.view.writes (Elt Ideal) G' (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 ⟨κ.val, hk κ⟩ (Scf.iv 0#32 1#32 κ.val) X_arg11 X_arg12 X_arg13 G' 0#32 n).2) (ix3 kv (blkRow g w) l)) hi).trans ?_
  refine inner_read arg14.view (fun n => arg14.view.writes (Elt Ideal) G' (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 ⟨κ.val, hk κ⟩ (Scf.iv 0#32 1#32 κ.val) X_arg11 X_arg12 X_arg13 G' 0#32 n).2) κ (· + ·) (fun g w l => (fun j x => Ideal.exp2 (score (arg13.view.read (Elt Ideal) X_arg13) (arg11.view.read (Elt Ideal) X_arg11) (arg12.view.read (Elt Ideal) X_arg12) κ g w (tileCol j x)))) (fun j kv g w l => ?_) kv g w l
  show arg14.view.read (Elt Ideal) (arg14.view.writes (Elt Ideal) G' (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 ⟨κ.val, hk κ⟩ (Scf.iv 0#32 1#32 κ.val) X_arg11 X_arg12 X_arg13 G' 0#32 ((⟨j.val, hj j⟩ : Fin k0_t3_loop.trips).val + 1)).2) _ = _
  rw [st_k0_t3_succ, View.writes_append]
  exact read_t3 (κ := κ) (hκ := rfl) (j := j) (hj := rfl) ..

/-- A chunk's fold of `k0_t4` at an index of the accumulator: the four tiles of its kv head in turn. -/
theorem chunk_t4 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (k0_hw1 : k0_chk1 i v1) (v2 : BitVec 32) (v21 : BitVec 32) (v152 : FVec Ideal S28x1x1 .f32) (v159 : FVec Ideal S4x224x128 .f32) (v160 : Vec Ideal S4x224x128 .f32) (arg18 : BitVec 32) (X_arg11 : BufTy.Contents (Elt Ideal) arg11.view.ty) (X_arg12 : BufTy.Contents (Elt Ideal) arg12.view.ty) (X_arg13 : BufTy.Contents (Elt Ideal) arg13.view.ty) (G : BufTy.Contents (Elt Ideal) arg14.view.ty) (kv : Fin 4) (g : Fin 7) (w : Fin 32) (l : Fin 128) :
    arg14.view.read (Elt Ideal) (S_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G k0_t4_loop.trips) (ix3 kv (blkRow g w) l)
      = chunkFold (· + ·) (fun j x => Ideal.exp2 (maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) kv g w (tileCol j x)))) l (arg14.view.read (Elt Ideal) G (ix3 kv (blkRow g w) l)) := by
  have ho : k0_t4_loop.trips = 4 := by decide +kernel
  have hi : k0_t5_loop.trips = 4 := by decide +kernel
  have hk : ∀ κ : Fin 4, κ.val < k0_t4_loop.trips := fun κ => by rw [ho]; exact κ.isLt
  have hj : ∀ j : Fin 4, j.val < k0_t5_loop.trips := fun j => by rw [hi]; exact j.isLt
  refine (congrArg (fun n => arg14.view.read (Elt Ideal) (S_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G n) (ix3 kv (blkRow g w) l)) ho).trans ?_
  refine outer_read arg14.view (fun n => S_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G n) (· + ·) (fun κ g w l => (fun j x => Ideal.exp2 (maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) κ g w (tileCol j x))))) (fun κ kv g w l => ?_) kv g w l
  show arg14.view.read (Elt Ideal) (S_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G ((⟨κ.val, hk κ⟩ : Fin k0_t4_loop.trips).val + 1)) _ = _
  rw [S_t4_succ]
  generalize S_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G (⟨κ.val, hk κ⟩ : Fin k0_t4_loop.trips).val = G'
  refine (congrArg (fun n => arg14.view.read (Elt Ideal) (arg14.view.writes (Elt Ideal) G' (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 ⟨κ.val, hk κ⟩ (Scf.iv 0#32 1#32 κ.val) X_arg11 X_arg12 X_arg13 G' 0#32 n).2) (ix3 kv (blkRow g w) l)) hi).trans ?_
  refine inner_read arg14.view (fun n => arg14.view.writes (Elt Ideal) G' (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 ⟨κ.val, hk κ⟩ (Scf.iv 0#32 1#32 κ.val) X_arg11 X_arg12 X_arg13 G' 0#32 n).2) κ (· + ·) (fun g w l => (fun j x => Ideal.exp2 (maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) κ g w (tileCol j x))))) (fun j kv g w l => ?_) kv g w l
  show arg14.view.read (Elt Ideal) (arg14.view.writes (Elt Ideal) G' (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 ⟨κ.val, hk κ⟩ (Scf.iv 0#32 1#32 κ.val) X_arg11 X_arg12 X_arg13 G' 0#32 ((⟨j.val, hj j⟩ : Fin k0_t5_loop.trips).val + 1)).2) _ = _
  rw [st_k0_t5_succ, View.writes_append]
  exact read_t5 (κ := κ) (hκ := rfl) (j := j) (hj := rfl) ..

/-- A chunk's fold of `k0_t12` at an index of the accumulator: the four tiles of its kv head in turn. -/
theorem chunk_t12 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (k0_h7 : k0_cond7 v191 = 1#1) (X_arg11 : BufTy.Contents (Elt Ideal) arg11.view.ty) (X_arg12 : BufTy.Contents (Elt Ideal) arg12.view.ty) (X_arg13 : BufTy.Contents (Elt Ideal) arg13.view.ty) (G : BufTy.Contents (Elt Ideal) arg15.view.ty) (kv : Fin 4) (g : Fin 7) (w : Fin 32) (l : Fin 128) :
    arg15.view.read (Elt Ideal) (S_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G k0_t12_loop.trips) (ix3 kv (blkRow g w) l)
      = chunkFold max (fun j x => score (arg13.view.read (Elt Ideal) X_arg13) (arg11.view.read (Elt Ideal) X_arg11) (arg12.view.read (Elt Ideal) X_arg12) kv g w (tileCol j x)) l (arg15.view.read (Elt Ideal) G (ix3 kv (blkRow g w) l)) := by
  have ho : k0_t12_loop.trips = 4 := by decide +kernel
  have hi : k0_t13_loop.trips = 4 := by decide +kernel
  have hk : ∀ κ : Fin 4, κ.val < k0_t12_loop.trips := fun κ => by rw [ho]; exact κ.isLt
  have hj : ∀ j : Fin 4, j.val < k0_t13_loop.trips := fun j => by rw [hi]; exact j.isLt
  refine (congrArg (fun n => arg15.view.read (Elt Ideal) (S_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G n) (ix3 kv (blkRow g w) l)) ho).trans ?_
  refine outer_read arg15.view (fun n => S_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G n) max (fun κ g w l => (fun j x => score (arg13.view.read (Elt Ideal) X_arg13) (arg11.view.read (Elt Ideal) X_arg11) (arg12.view.read (Elt Ideal) X_arg12) κ g w (tileCol j x))) (fun κ kv g w l => ?_) kv g w l
  show arg15.view.read (Elt Ideal) (S_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G ((⟨κ.val, hk κ⟩ : Fin k0_t12_loop.trips).val + 1)) _ = _
  rw [S_t12_succ]
  generalize S_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G (⟨κ.val, hk κ⟩ : Fin k0_t12_loop.trips).val = G'
  refine (congrArg (fun n => arg15.view.read (Elt Ideal) (arg15.view.writes (Elt Ideal) G' (st_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 ⟨κ.val, hk κ⟩ (Scf.iv 0#32 1#32 κ.val) X_arg11 X_arg12 X_arg13 G' 0#32 n).2) (ix3 kv (blkRow g w) l)) hi).trans ?_
  refine inner_read arg15.view (fun n => arg15.view.writes (Elt Ideal) G' (st_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 ⟨κ.val, hk κ⟩ (Scf.iv 0#32 1#32 κ.val) X_arg11 X_arg12 X_arg13 G' 0#32 n).2) κ max (fun g w l => (fun j x => score (arg13.view.read (Elt Ideal) X_arg13) (arg11.view.read (Elt Ideal) X_arg11) (arg12.view.read (Elt Ideal) X_arg12) κ g w (tileCol j x))) (fun j kv g w l => ?_) kv g w l
  show arg15.view.read (Elt Ideal) (arg15.view.writes (Elt Ideal) G' (st_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 ⟨κ.val, hk κ⟩ (Scf.iv 0#32 1#32 κ.val) X_arg11 X_arg12 X_arg13 G' 0#32 ((⟨j.val, hj j⟩ : Fin k0_t13_loop.trips).val + 1)).2) _ = _
  rw [st_k0_t13_succ, View.writes_append]
  exact read_t13 (κ := κ) (hκ := rfl) (j := j) (hj := rfl) ..

/-- A chunk's fold of `k0_t14` at an index of the accumulator: the four tiles of its kv head in turn. -/
theorem chunk_t14 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (k0_h7 : k0_cond7 v191 = 1#1) (arg18 : BitVec 32) (X_arg11 : BufTy.Contents (Elt Ideal) arg11.view.ty) (X_arg12 : BufTy.Contents (Elt Ideal) arg12.view.ty) (X_arg13 : BufTy.Contents (Elt Ideal) arg13.view.ty) (G : BufTy.Contents (Elt Ideal) arg15.view.ty) (kv : Fin 4) (g : Fin 7) (w : Fin 32) (l : Fin 128) :
    arg15.view.read (Elt Ideal) (S_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G k0_t14_loop.trips) (ix3 kv (blkRow g w) l)
      = chunkFold max (fun j x => maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) kv g w (tileCol j x))) l (arg15.view.read (Elt Ideal) G (ix3 kv (blkRow g w) l)) := by
  have ho : k0_t14_loop.trips = 4 := by decide +kernel
  have hi : k0_t15_loop.trips = 4 := by decide +kernel
  have hk : ∀ κ : Fin 4, κ.val < k0_t14_loop.trips := fun κ => by rw [ho]; exact κ.isLt
  have hj : ∀ j : Fin 4, j.val < k0_t15_loop.trips := fun j => by rw [hi]; exact j.isLt
  refine (congrArg (fun n => arg15.view.read (Elt Ideal) (S_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G n) (ix3 kv (blkRow g w) l)) ho).trans ?_
  refine outer_read arg15.view (fun n => S_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G n) max (fun κ g w l => (fun j x => maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) κ g w (tileCol j x)))) (fun κ kv g w l => ?_) kv g w l
  show arg15.view.read (Elt Ideal) (S_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G ((⟨κ.val, hk κ⟩ : Fin k0_t14_loop.trips).val + 1)) _ = _
  rw [S_t14_succ]
  generalize S_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G (⟨κ.val, hk κ⟩ : Fin k0_t14_loop.trips).val = G'
  refine (congrArg (fun n => arg15.view.read (Elt Ideal) (arg15.view.writes (Elt Ideal) G' (st_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 ⟨κ.val, hk κ⟩ (Scf.iv 0#32 1#32 κ.val) X_arg11 X_arg12 X_arg13 G' 0#32 n).2) (ix3 kv (blkRow g w) l)) hi).trans ?_
  refine inner_read arg15.view (fun n => arg15.view.writes (Elt Ideal) G' (st_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 ⟨κ.val, hk κ⟩ (Scf.iv 0#32 1#32 κ.val) X_arg11 X_arg12 X_arg13 G' 0#32 n).2) κ max (fun g w l => (fun j x => maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) κ g w (tileCol j x)))) (fun j kv g w l => ?_) kv g w l
  show arg15.view.read (Elt Ideal) (arg15.view.writes (Elt Ideal) G' (st_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 ⟨κ.val, hk κ⟩ (Scf.iv 0#32 1#32 κ.val) X_arg11 X_arg12 X_arg13 G' 0#32 ((⟨j.val, hj j⟩ : Fin k0_t15_loop.trips).val + 1)).2) _ = _
  rw [st_k0_t15_succ, View.writes_append]
  exact read_t15 (κ := κ) (hκ := rfl) (j := j) (hj := rfl) ..

/-- A chunk's fold of `k0_t22` at an index of the accumulator: the four tiles of its kv head in turn. -/
theorem chunk_t22 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (v192 : FVec Ideal S4x224x1 .f32) (v193 : FVec Ideal S4x224x1 .f32) (X_arg11 : BufTy.Contents (Elt Ideal) arg11.view.ty) (X_arg12 : BufTy.Contents (Elt Ideal) arg12.view.ty) (X_arg13 : BufTy.Contents (Elt Ideal) arg13.view.ty) (X_arg15 : BufTy.Contents (Elt Ideal) arg15.view.ty) (G : BufTy.Contents (Elt Ideal) arg14.view.ty) (kv : Fin 4) (g : Fin 7) (w : Fin 32) (l : Fin 128) :
    arg14.view.read (Elt Ideal) (S_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G k0_t22_loop.trips) (ix3 kv (blkRow g w) l)
      = chunkFold (· + ·) (fun j x => Ideal.exp2 (score (arg13.view.read (Elt Ideal) X_arg13) (arg11.view.read (Elt Ideal) X_arg11) (arg12.view.read (Elt Ideal) X_arg12) kv g w (tileCol j x) - (arg15.view.read (Elt Ideal) X_arg15) (ix3 kv (blkRow g w) l))) l (arg14.view.read (Elt Ideal) G (ix3 kv (blkRow g w) l)) := by
  have ho : k0_t22_loop.trips = 4 := by decide +kernel
  have hi : k0_t23_loop.trips = 4 := by decide +kernel
  have hk : ∀ κ : Fin 4, κ.val < k0_t22_loop.trips := fun κ => by rw [ho]; exact κ.isLt
  have hj : ∀ j : Fin 4, j.val < k0_t23_loop.trips := fun j => by rw [hi]; exact j.isLt
  refine (congrArg (fun n => arg14.view.read (Elt Ideal) (S_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G n) (ix3 kv (blkRow g w) l)) ho).trans ?_
  refine outer_read arg14.view (fun n => S_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G n) (· + ·) (fun κ g w l => (fun j x => Ideal.exp2 (score (arg13.view.read (Elt Ideal) X_arg13) (arg11.view.read (Elt Ideal) X_arg11) (arg12.view.read (Elt Ideal) X_arg12) κ g w (tileCol j x) - (arg15.view.read (Elt Ideal) X_arg15) (ix3 κ (blkRow g w) l)))) (fun κ kv g w l => ?_) kv g w l
  show arg14.view.read (Elt Ideal) (S_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G ((⟨κ.val, hk κ⟩ : Fin k0_t22_loop.trips).val + 1)) _ = _
  rw [S_t22_succ]
  generalize S_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G (⟨κ.val, hk κ⟩ : Fin k0_t22_loop.trips).val = G'
  refine (congrArg (fun n => arg14.view.read (Elt Ideal) (arg14.view.writes (Elt Ideal) G' (st_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 ⟨κ.val, hk κ⟩ (Scf.iv 0#32 1#32 κ.val) X_arg11 X_arg12 X_arg13 X_arg15 G' 0#32 n).2) (ix3 kv (blkRow g w) l)) hi).trans ?_
  refine inner_read arg14.view (fun n => arg14.view.writes (Elt Ideal) G' (st_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 ⟨κ.val, hk κ⟩ (Scf.iv 0#32 1#32 κ.val) X_arg11 X_arg12 X_arg13 X_arg15 G' 0#32 n).2) κ (· + ·) (fun g w l => (fun j x => Ideal.exp2 (score (arg13.view.read (Elt Ideal) X_arg13) (arg11.view.read (Elt Ideal) X_arg11) (arg12.view.read (Elt Ideal) X_arg12) κ g w (tileCol j x) - (arg15.view.read (Elt Ideal) X_arg15) (ix3 κ (blkRow g w) l)))) (fun j kv g w l => ?_) kv g w l
  show arg14.view.read (Elt Ideal) (arg14.view.writes (Elt Ideal) G' (st_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 ⟨κ.val, hk κ⟩ (Scf.iv 0#32 1#32 κ.val) X_arg11 X_arg12 X_arg13 X_arg15 G' 0#32 ((⟨j.val, hj j⟩ : Fin k0_t23_loop.trips).val + 1)).2) _ = _
  rw [st_k0_t23_succ, View.writes_append]
  exact read_t23 (κ := κ) (hκ := rfl) (j := j) (hj := rfl) ..

/-- A chunk's fold of `k0_t24` at an index of the accumulator: the four tiles of its kv head in turn. -/
theorem chunk_t24 (𝒱 : Variants) (c : Dev nD) (bd : Option 𝒱.V) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt Ideal .i32) (v2 : BitVec 32) (v21 : BitVec 32) (v152 : FVec Ideal S28x1x1 .f32) (v191 : BitVec 1) (k0_hw2 : k0_chk2 i v1 v191) (v192 : FVec Ideal S4x224x1 .f32) (v193 : FVec Ideal S4x224x1 .f32) (arg18 : BitVec 32) (X_arg11 : BufTy.Contents (Elt Ideal) arg11.view.ty) (X_arg12 : BufTy.Contents (Elt Ideal) arg12.view.ty) (X_arg13 : BufTy.Contents (Elt Ideal) arg13.view.ty) (X_arg15 : BufTy.Contents (Elt Ideal) arg15.view.ty) (G : BufTy.Contents (Elt Ideal) arg14.view.ty) (kv : Fin 4) (g : Fin 7) (w : Fin 32) (l : Fin 128) :
    arg14.view.read (Elt Ideal) (S_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G k0_t24_loop.trips) (ix3 kv (blkRow g w) l)
      = chunkFold (· + ·) (fun j x => Ideal.exp2 (maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) kv g w (tileCol j x)) - (arg15.view.read (Elt Ideal) X_arg15) (ix3 kv (blkRow g w) l))) l (arg14.view.read (Elt Ideal) G (ix3 kv (blkRow g w) l)) := by
  have ho : k0_t24_loop.trips = 4 := by decide +kernel
  have hi : k0_t25_loop.trips = 4 := by decide +kernel
  have hk : ∀ κ : Fin 4, κ.val < k0_t24_loop.trips := fun κ => by rw [ho]; exact κ.isLt
  have hj : ∀ j : Fin 4, j.val < k0_t25_loop.trips := fun j => by rw [hi]; exact j.isLt
  refine (congrArg (fun n => arg14.view.read (Elt Ideal) (S_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G n) (ix3 kv (blkRow g w) l)) ho).trans ?_
  refine outer_read arg14.view (fun n => S_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G n) (· + ·) (fun κ g w l => (fun j x => Ideal.exp2 (maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) κ g w (tileCol j x)) - (arg15.view.read (Elt Ideal) X_arg15) (ix3 κ (blkRow g w) l)))) (fun κ kv g w l => ?_) kv g w l
  show arg14.view.read (Elt Ideal) (S_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G ((⟨κ.val, hk κ⟩ : Fin k0_t24_loop.trips).val + 1)) _ = _
  rw [S_t24_succ]
  generalize S_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G (⟨κ.val, hk κ⟩ : Fin k0_t24_loop.trips).val = G'
  refine (congrArg (fun n => arg14.view.read (Elt Ideal) (arg14.view.writes (Elt Ideal) G' (st_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 ⟨κ.val, hk κ⟩ (Scf.iv 0#32 1#32 κ.val) X_arg11 X_arg12 X_arg13 X_arg15 G' 0#32 n).2) (ix3 kv (blkRow g w) l)) hi).trans ?_
  refine inner_read arg14.view (fun n => arg14.view.writes (Elt Ideal) G' (st_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 ⟨κ.val, hk κ⟩ (Scf.iv 0#32 1#32 κ.val) X_arg11 X_arg12 X_arg13 X_arg15 G' 0#32 n).2) κ (· + ·) (fun g w l => (fun j x => Ideal.exp2 (maskAt (Scalar.addi (Scalar.muli arg18 1024#32) (Scalar.muli (Scf.iv 0#32 1#32 j.val) 256#32)) v2 w x (score (arg13.view.read (Elt Ideal) X_arg13) (arg11.view.read (Elt Ideal) X_arg11) (arg12.view.read (Elt Ideal) X_arg12) κ g w (tileCol j x)) - (arg15.view.read (Elt Ideal) X_arg15) (ix3 κ (blkRow g w) l)))) (fun j kv g w l => ?_) kv g w l
  show arg14.view.read (Elt Ideal) (arg14.view.writes (Elt Ideal) G' (st_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 ⟨κ.val, hk κ⟩ (Scf.iv 0#32 1#32 κ.val) X_arg11 X_arg12 X_arg13 X_arg15 G' 0#32 ((⟨j.val, hj j⟩ : Fin k0_t25_loop.trips).val + 1)).2) _ = _
  rw [st_k0_t25_succ, View.writes_append]
  exact read_t25 (κ := κ) (hκ := rfl) (j := j) (hj := rfl) ..

end Cert.KernelIdeal.Own
end
-- ==== Proof.Stage.lean ====
/-
  A chunk staged: its keys split by kv head, and their scales, each times the constant and the query scale of a row block.
-/
module

public import proofs.«01_k».proof.Proof.Chunk
public import Idealize.ShloMosaic.Lib.Pipeline.ReadBack

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx

/-- What keyed stores leave at an index that exactly one of them covers. -/
theorem keyed_read {sp : Space} {s : Shape} {e : EltTy} {T : Type} [DecidableEq T] (v : View sig .tc sp s e) (f : v.ty.Contents (Elt Ideal)) (sz : Fin s.rank → ℕ)
    (o : T → Fin s.rank → ℕ) (i : ∀ k a, o k a + sz a ≤ s.size a) (P : ∀ k, (Rect.unit (s := s) (o k) sz (i k)).shape.Idx → Elt Ideal e)
    (k : T) (y : s.Idx) (x : (Rect.unit (s := s) (o k) sz (i k)).shape.Idx) (hx : ∀ a, (y a).val = o k a + (x a).val)
    (hm : ∀ k', k' ≠ k → ∃ a, (y a).val < o k' a ∨ o k' a + sz a ≤ (y a).val) :
    ∀ ks : List T, k ∈ ks → v.read (Elt Ideal) (v.writes (Elt Ideal) f (ks.map fun k => ⟨Rect.unit (s := s) (o k) sz (i k), P k⟩)) y = P k x
  | [], h => by simp at h
  | k' :: ks, h => by
    by_cases e : k' = k
    · subst e
      exact View.read_writes_cons_unit_of_mem v f (i k') (P k') _ y x rfl hx
    · obtain ⟨a, ha⟩ := hm k' e
      refine (View.read_writes_cons_unit_of_not_mem v f (i k') (P k') _ y rfl a ha).trans ?_
      exact keyed_read v f sz o i P k y x hx hm ks ((List.mem_cons.mp h).resolve_left (Ne.symm e))

/-- The row blocks of the scales in the order in which they are stored, last first. -/
abbrev scaleIx : List (Fin 4 × Fin 7) :=
  [(3, 6), (3, 5), (3, 4), (3, 3), (3, 2), (3, 1), (3, 0), (2, 6), (2, 5), (2, 4), (2, 3), (2, 2), (2, 1), (2, 0),
   (1, 6), (1, 5), (1, 4), (1, 3), (1, 2), (1, 1), (1, 0), (0, 6), (0, 5), (0, 4), (0, 3), (0, 2), (0, 1), (0, 0)]

theorem scale_inb (p : Fin 4 × Fin 7) (a : Fin 3) : (![p.1.val, p.2.val, 0] : Fin 3 → ℕ) a + (![1, 1, 1024] : Fin 3 → ℕ) a ≤ S4x8x1024.size a := by
  match a with
  | ⟨0, _⟩ => show p.1.val + 1 ≤ 4; omega
  | ⟨1, _⟩ => show p.2.val + 1 ≤ 8; omega
  | ⟨2, _⟩ => show 0 + 1024 ≤ 1024; omega

theorem key_inb (p : Fin 4) (a : Fin 3) : (![p.val, 0, 0] : Fin 3 → ℕ) a + (![1, 1024, 128] : Fin 3 → ℕ) a ≤ S4x1024x128.size a := by
  match a with
  | ⟨0, _⟩ => show p.val + 1 ≤ 4; omega
  | ⟨1, _⟩ => show 0 + 1024 ≤ 1024; omega
  | ⟨2, _⟩ => show 0 + 128 ≤ 128; omega

theorem cut_slices : ∀ p : Fin 4 × Fin 7, (S28x1x1).Slices ![7 * p.1.val + p.2.val, 0, 0] S1x1x1 := by decide +kernel

/-- The constant that scores are scaled by. -/
abbrev scaleLog2e : EReal := Named.named (F := Ideal) (φ := .f32) κ "scale_log2e" 1040356334#32

/-- What is stored of the scales of a row block. -/
abbrev scalePay (X : S1x4x131072.Idx → EReal) (off : Fin 4 → Fin 3 → ℕ) (inb : ∀ p a, off p a + (![1, 1, 1024] : Fin 3 → ℕ) a ≤ S1x4x131072.size a)
    (qs : FVec Ideal S28x1x1 .f32) (p : Fin 4 × Fin 7) : FVec Ideal S1x1x1024 .f32 :=
  shapeCast S1x1x1024 (mulf (mulf (shapeCast S1x1024 (fun i => X ((Rect.unit (s := S1x4x131072) (off p.1) ![1, 1, 1024] (inb p.1)).idx i) : FVec Ideal S1x1x1024 .f32) shapeCasts_S1x1x1024_S1x1024 : FVec Ideal S1x1024 .f32)
      (broadcast S1x1024 scaleLog2e))
    (broadcastTo S1x1024 (shapeCast S1x1 (extractStridedSlice S1x1x1 ![7 * p.1.val + p.2.val, 0, 0] qs (cut_slices p)) shapeCasts_S1x1x1_S1x1) broadcasts_S1x1_S1x1024)) shapeCasts_S1x1024_S1x1x1024

/-- The stores of the scales. -/
abbrev scaleStores (X : S1x4x131072.Idx → EReal) (off : Fin 4 → Fin 3 → ℕ) (inb : ∀ p a, off p a + (![1, 1, 1024] : Fin 3 → ℕ) a ≤ S1x4x131072.size a)
    (qs : FVec Ideal S28x1x1 .f32) : List (View.Piece (Elt Ideal) S4x8x1024 .f32) :=
  scaleIx.map fun p => ⟨Rect.unit (s := S4x8x1024) ![p.1.val, p.2.val, 0] ![1, 1, 1024] (scale_inb p), scalePay X off inb qs p⟩

theorem scalePay_at (X : S1x4x131072.Idx → EReal) (off : Fin 4 → Fin 3 → ℕ) (inb) (qs : FVec Ideal S28x1x1 .f32) (c : Fin 128)
    (eo : ∀ p : Fin 4, off p = ![0, p.val, 1024 * c.val]) (p : Fin 4 × Fin 7) (u : Fin 1024) :
    scalePay X off inb qs p (ix3 (0 : Fin 1) (0 : Fin 1) u)
      = X (ix3 (0 : Fin 1) p.1 (⟨1024 * c.val + u.val, by omega⟩ : Fin 131072)) * scaleLog2e * qs (ix3 (⟨7 * p.1.val + p.2.val, by omega⟩ : Fin 28) (0 : Fin 1) (0 : Fin 1)) := by
  refine (shapeCast_ab_1ab_apply _ _ _ _ _).trans ?_
  refine congrArg₂ (· * ·) (congrArg (· * scaleLog2e) ((shapeCast_1ab_ab_apply _ _ _ _).trans ?_)) ?_
  · exact ld_unit3 X (inb p.1) 0 p.1.val (1024 * c.val) (eo p.1) (0 : Fin 1) u p.1 _ (by show p.1.val = p.1.val + 0; omega) rfl
  · refine (broadcastTo_apply _ _ _ (ix2 (0 : Fin 1) (0 : Fin 1)) (fun a => ?_)).trans ((shapeCast_1ab_ab_apply _ _ _ _).trans ?_)
    · match a with
      | ⟨0, _⟩ => rfl
      | ⟨1, _⟩ => rfl
    · refine extractStridedSlice_apply _ _ _ _ _ fun ax => ?_
      match ax with
      | ⟨0, _⟩ => rfl
      | ⟨1, _⟩ => rfl
      | ⟨2, _⟩ => rfl

/-- The staged scales at an index. -/
theorem scale_read {sp : Space} (v : View sig .tc sp S4x8x1024 .f32) (f : v.ty.Contents (Elt Ideal)) (X : S1x4x131072.Idx → EReal) (off : Fin 4 → Fin 3 → ℕ) (inb)
    (qs : FVec Ideal S28x1x1 .f32) (c : Fin 128) (eo : ∀ p : Fin 4, off p = ![0, p.val, 1024 * c.val]) (κ : Fin 4) (g : Fin 7) (u : Fin 1024) :
    v.read (Elt Ideal) (v.writes (Elt Ideal) f (scaleStores X off inb qs)) (ix3 κ (g.castLE (by decide) : Fin 8) u)
      = X (ix3 (0 : Fin 1) κ (⟨1024 * c.val + u.val, by omega⟩ : Fin 131072)) * scaleLog2e * qs (ix3 (⟨7 * κ.val + g.val, by omega⟩ : Fin 28) (0 : Fin 1) (0 : Fin 1)) := by
  refine (keyed_read v f ![1, 1, 1024] (fun p : Fin 4 × Fin 7 => ![p.1.val, p.2.val, 0]) scale_inb (scalePay X off inb qs) (κ, g) _ (ix3 (0 : Fin 1) (0 : Fin 1) u) (fun a => ?_) (fun k' hk' => ?_) scaleIx ?_).trans
    (scalePay_at X off inb qs c eo (κ, g) u)
  · match a with
    | ⟨0, _⟩ => rfl
    | ⟨1, _⟩ => rfl
    | ⟨2, _⟩ => show u.val = 0 + u.val; omega
  · by_cases h0 : k'.1 = κ
    · have h1 : k'.2.val ≠ g.val := fun e => hk' (Prod.ext h0 (Fin.ext e))
      refine ⟨(1 : Fin 3), ?_⟩
      show g.val < k'.2.val ∨ k'.2.val + 1 ≤ g.val
      omega
    · have h1 : k'.1.val ≠ κ.val := fun e => h0 (Fin.ext e)
      refine ⟨(0 : Fin 3), ?_⟩
      show κ.val < k'.1.val ∨ k'.1.val + 1 ≤ κ.val
      omega
  · revert κ g; decide +kernel

theorem head_inb (p : Fin 4) (a : Fin 3) : (![0, p.val, 0] : Fin 3 → ℕ) a + (![1024, 1, 128] : Fin 3 → ℕ) a ≤ S1024x4x128.size a := by
  match a with
  | ⟨0, _⟩ => show 0 + 1024 ≤ 1024; omega
  | ⟨1, _⟩ => show p.val + 1 ≤ 4; omega
  | ⟨2, _⟩ => show 0 + 128 ≤ 128; omega

/-- What is stored of a kv head's keys. -/
abbrev keyPay {sp : Space} (v : View sig .tc sp S1024x4x128 .fp8e4m3) (X : S1024x4x128.Idx → EReal) (p : Fin 4) : FVec Ideal S1x1024x128 .fp8e4m3 :=
  shapeCast S1x1024x128 (shapeCast S1024x128 (v.readCov (Val := Elt Ideal) [⟨Rect.whole S1024x4x128, X⟩]
    (Rect.unit (s := S1024x4x128) ![0, p.val, 0] ![1024, 1, 128] (head_inb p)).toLoadRect : FVec Ideal S1024x1x128 .fp8e4m3) shapeCasts_S1024x1x128_S1024x128 : FVec Ideal S1024x128 .fp8e4m3) shapeCasts_S1024x128_S1x1024x128

/-- The stores of the keys. -/
abbrev keyStores {sp : Space} (v : View sig .tc sp S1024x4x128 .fp8e4m3) (X : S1024x4x128.Idx → EReal) : List (View.Piece (Elt Ideal) S4x1024x128 .fp8e4m3) :=
  ([3, 2, 1, 0] : List (Fin 4)).map fun p => ⟨Rect.unit (s := S4x1024x128) ![p.val, 0, 0] ![1, 1024, 128] (key_inb p), keyPay v X p⟩

theorem keyPay_at {sp : Space} (v : View sig .tc sp S1024x4x128 .fp8e4m3) (X : S1024x4x128.Idx → EReal) (p : Fin 4) (u : Fin 1024) (d : Fin 128) :
    keyPay v X p (ix3 (0 : Fin 1) u d) = X (ix3 u p d) := by
  refine (shapeCast_ab_1ab_apply _ _ _ _ _).trans ?_
  refine (shapeCast_apply _ _ _ (ix3 u (0 : Fin 1) d) ?_).trans ?_
  · rw [Shape.rowMajor_val_three, Shape.rowMajor_val_two]
    show (u.val * 1 + 0) * 128 + d.val = u.val * 128 + d.val
    omega
  · show v.read (Elt Ideal) (v.writes (Elt Ideal) v.junk [⟨Rect.whole S1024x4x128, X⟩])
      ((Rect.unit (s := S1024x4x128) ![0, p.val, 0] ![1024, 1, 128] (head_inb p)).idx (ix3 u (0 : Fin 1) d)) = _
    rw [View.read_writes_whole (Val := Elt Ideal) v v.junk X]
    refine congrArg X (funext fun a => Fin.ext ?_)
    match a with
    | ⟨0, _⟩ => show 0 + 1 * u.val = u.val; omega
    | ⟨1, _⟩ => show p.val + 1 * 0 = p.val; omega
    | ⟨2, _⟩ => show 0 + 1 * d.val = d.val; omega

/-- The staged keys at an index. -/
theorem key_read {sp sp' : Space} (w : View sig .tc sp' S4x1024x128 .fp8e4m3) (f : w.ty.Contents (Elt Ideal)) (v : View sig .tc sp S1024x4x128 .fp8e4m3) (X : S1024x4x128.Idx → EReal)
    (κ : Fin 4) (u : Fin 1024) (d : Fin 128) :
    w.read (Elt Ideal) (w.writes (Elt Ideal) f (keyStores v X)) (ix3 κ u d) = X (ix3 u κ d) := by
  refine (keyed_read w f ![1, 1024, 128] (fun p : Fin 4 => ![p.val, 0, 0]) key_inb (keyPay v X) κ _ (ix3 (0 : Fin 1) u d) (fun a => ?_) (fun k' hk' => ?_) [3, 2, 1, 0] ?_).trans
    (keyPay_at v X κ u d)
  · match a with
    | ⟨0, _⟩ => rfl
    | ⟨1, _⟩ => show u.val = 0 + u.val; omega
    | ⟨2, _⟩ => show d.val = 0 + d.val; omega
  · have h1 : k'.val ≠ κ.val := fun e => hk' (Fin.ext e)
    refine ⟨(0 : Fin 3), ?_⟩
    show κ.val < k'.val ∨ k'.val + 1 ≤ κ.val
    omega
  · revert κ; decide +kernel

end Cert.KernelIdeal.Own
end
-- ==== Proof.ArithI.lean ====
/- The integer side of the kernel: the length word lies between 1 and 131072, the count of key chunks is the length over
   1024 rounded up, and every slot, offset and condition of the four streams has a closed form in the chunk's number. -/
module

public import proofs.«01_k».proof.KernelIdeal
public import Idealize.ShloMosaic.Lib.Affine
public import Idealize.ShloMosaic.Lib.LoopRemainder

@[expose] public section

set_option maxRecDepth 8192

namespace Cert.KernelIdeal.Own

open Cert.KernelIdeal
open Idealize.ShloMosaic
open Idealize.ShloMosaic.Affine

/-- The length word is at least 1 and at most the size of the cache. -/
def Fits (v : BitVec 32) : Prop := 1 ≤ v.toNat ∧ v.toNat ≤ 131072

/-- The number of chunks of 1024 keys that a length needs. -/
def nC (v : BitVec 32) : Nat := (v.toNat + 1023) / 1024

theorem nC_pos {v : BitVec 32} (h : Fits v) : 0 < nC v := by unfold nC; have := h.1; omega
theorem nC_le {v : BitVec 32} (h : Fits v) : nC v ≤ 128 := by unfold nC; have := h.2; omega

theorem word_of_fits {v : BitVec 32} (h : Fits v) : IsInt v (v.toNat : Int) := by
  have h2 := h.2
  have : v = BitVec.ofNat 32 v.toNat := by simp
  rw [this]
  exact Affine.ofNat _ ⟨by simp, by simpa using by omega⟩

/-- The word the kernel computes for the count of chunks. -/
@[reducible] def nWord (v1 : BitVec 32) : BitVec 32 :=
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  v21

theorem nWord_eq {v : BitVec 32} (h : Fits v) : nWord v = BitVec.ofNat 32 (nC v) := by
  have hv := word_of_fits h
  have h1 := h.1
  have h2 := h.2
  have c1024 : IsInt 1024#32 1024 := Affine.ofNat 1024 (by omega)
  have c1 : IsInt 1#32 1 := Affine.ofNat 1 (by omega)
  have c0 : IsInt 0#32 0 := Affine.ofNat 0 (by omega)
  have h3 : IsInt (Scalar.addi v 1024#32) ((v.toNat : Int) + 1024) := Affine.addi hv c1024 (by omega)
  have h4 : IsInt (Scalar.subi (Scalar.addi v 1024#32) 1#32) ((v.toNat : Int) + 1023) := Affine.subi h3 c1 (by omega)
  have h5 := Affine.divsi (e := ((v.toNat : Int) + 1023) / 1024) h4 c1024 (by omega)
  have h10 := Affine.subi (e := 1) (Affine.extui_holds (e := 1) (sgt_holds h4 c0 (by omega)) rfl)
    (Affine.extui_fails (e := 0) (slt_fails h4 c0 (by omega)) rfl) (by omega)
  have h15 := Affine.subi (e := 1) (Affine.extui_holds (e := 1) (sgt_holds c1024 c0 (by omega)) rfl)
    (Affine.extui_fails (e := 0) (slt_fails c1024 c0 (by omega)) rfl) (by omega)
  have h16 := ne_fails h10 h15 rfl
  have h21 := Affine.select_fails (e := ((v.toNat : Int) + 1023) / 1024)
    (andi_fails_left (d := Scalar.cmpi .ne (Scalar.remsi (Scalar.subi (Scalar.addi v 1024#32) 1#32) 1024#32) 0#32) h16 trivial)
    (Affine.subi (e := ((v.toNat : Int) + 1023) / 1024 - 1) h5 c1 (by omega)) h5 rfl
  have h21' : IsInt (nWord v) (((v.toNat : Int) + 1023) / 1024) := h21
  have hn : IsInt (BitVec.ofNat 32 (nC v)) (((v.toNat : Int) + 1023) / 1024) :=
    Affine.ofNat _ (by unfold nC; omega)
  unfold IsInt at h21' hn
  exact BitVec.toInt_inj.mp (h21'.trans hn.symm)

/-- The bounds of a stream's loop, in the count's word. -/
theorem t1_loop_eq (v : BitVec 32) : k0_t1_loop v = ⟨0#32, Scalar.addi 0#32 (Scalar.muli (Scalar.divsi (Scalar.subi (nWord v) 0#32) 1#32) 1#32), 1#32⟩ := rfl

theorem trips_t1 {v : BitVec 32} (h : Fits v) : (k0_t1_loop v).trips = nC v := by
  rw [t1_loop_eq, nWord_eq h]
  have := nC_le h
  generalize nC v = n at this
  revert n; decide +kernel

theorem ok_t1 {v : BitVec 32} (h : Fits v) : (k0_t1_loop v).OK := by
  rw [t1_loop_eq, nWord_eq h]
  have := nC_le h
  generalize nC v = n at this
  revert n; decide +kernel

theorem lt128 {v : BitVec 32} (h : Fits v) (k : Fin (k0_t1_loop v).trips) : k.val < 128 := by
  have := lt_of_lt_of_eq k.isLt (trips_t1 h); have := nC_le h; omega

theorem off3_eq {v : BitVec 32} (h : Fits v) (k : Fin (k0_t1_loop v).trips) : k0_off3 v k = ![(k.val + 1) % 2] := by
  have hk := lt128 h k
  unfold k0_off3
  generalize k.val = m at hk ⊢
  revert m; decide +kernel

theorem off4_eq {v : BitVec 32} (h : Fits v) (k : Fin (k0_t1_loop v).trips) : k0_off4 v k = ![(k.val + 1) % 2, 0, 0, 0] := by
  have hk := lt128 h k
  unfold k0_off4
  generalize k.val = m at hk ⊢
  revert m; decide +kernel

theorem off6_eq {v : BitVec 32} (h : Fits v) (k : Fin (k0_t1_loop v).trips) : k0_off6 v k = ![k.val % 2] := by
  have hk := lt128 h k
  unfold k0_off6
  generalize k.val = m at hk ⊢
  revert m; decide +kernel

theorem off7_eq {v : BitVec 32} (h : Fits v) (k : Fin (k0_t1_loop v).trips) : k0_off7 v k = ![k.val % 2, 0, 0, 0] := by
  have hk := lt128 h k
  unfold k0_off7
  generalize k.val = m at hk ⊢
  revert m; decide +kernel

theorem off9_eq {v : BitVec 32} (h : Fits v) (k : Fin (k0_t1_loop v).trips) : k0_off9 v k = ![0, 0, k.val * 1024] := by
  have hk := lt128 h k
  unfold k0_off9
  generalize k.val = m at hk ⊢
  revert m; decide +kernel

theorem off10_eq {v : BitVec 32} (h : Fits v) (k : Fin (k0_t1_loop v).trips) : k0_off10 v k = ![0, 1, k.val * 1024] := by
  have hk := lt128 h k
  unfold k0_off10
  generalize k.val = m at hk ⊢
  revert m; decide +kernel

theorem off11_eq {v : BitVec 32} (h : Fits v) (k : Fin (k0_t1_loop v).trips) : k0_off11 v k = ![0, 2, k.val * 1024] := by
  have hk := lt128 h k
  unfold k0_off11
  generalize k.val = m at hk ⊢
  revert m; decide +kernel

theorem off12_eq {v : BitVec 32} (h : Fits v) (k : Fin (k0_t1_loop v).trips) : k0_off12 v k = ![0, 3, k.val * 1024] := by
  have hk := lt128 h k
  unfold k0_off12
  generalize k.val = m at hk ⊢
  revert m; decide +kernel

theorem off5_eq {v : BitVec 32} (h : Fits v) (i : grid0.Coords) (k : Fin (k0_t1_loop v).trips) : k0_off5 i v k = ![(i 0).val, (k.val + 1) * 1024, 0, 0] := by
  have hk := lt128 h k
  unfold k0_off5
  generalize k.val = m at hk ⊢
  have hi : (i 0).val < 2 := (i 0).isLt
  generalize (i 0).val = b at hi ⊢
  revert b m; decide +kernel

theorem off8_eq {v : BitVec 32} (h : Fits v) (i : grid0.Coords) (k : Fin (k0_t1_loop v).trips) : k0_off8 i v k = ![(i 0).val, k.val * 1024, 0, 0] := by
  have hk := lt128 h k
  unfold k0_off8
  generalize k.val = m at hk ⊢
  have hi : (i 0).val < 2 := (i 0).isLt
  generalize (i 0).val = b at hi ⊢
  revert b m; decide +kernel

theorem cond1_eq {v : BitVec 32} (h : Fits v) (k : Fin (k0_t1_loop v).trips) : k0_cond1 v k = Scalar.cmpi .ne (Scalar.extui (Scalar.cmpi .slt (Scalar.addi (Scf.iv 0#32 1#32 k.val) 1#32) (BitVec.ofNat 32 (nC v)))) 0#32 := by
  rw [← nWord_eq h]; rfl

theorem cond1_iff {v : BitVec 32} (h : Fits v) (k : Fin (k0_t1_loop v).trips) : k0_cond1 v k = 1#1 ↔ k.val + 1 < nC v := by
  have hk := lt128 h k
  have hn := nC_le h
  rw [cond1_eq h]
  have c1 : IsInt 1#32 1 := Affine.ofNat 1 (by omega)
  have c0 : IsInt 0#32 0 := Affine.ofNat 0 (by omega)
  have hiv : IsInt (Scf.iv 0#32 1#32 k.val) (k.val : Int) := Affine.iv c0 c1 k.val (by omega)
  have ha := Affine.addi (e := (k.val : Int) + 1) hiv c1 (by omega)
  have hN : IsInt (BitVec.ofNat 32 (nC v)) (nC v : Int) := Affine.ofNat _ (by omega)
  constructor
  · intro hh
    by_contra hc
    exact ne_fails (Affine.extui_fails (e := 0) (slt_fails ha hN (by omega)) rfl) c0 rfl hh
  · intro hc
    exact ne_holds (Affine.extui_holds (e := 1) (slt_holds ha hN (by omega)) rfl) c0 (by omega)

/-- A rectangle of whole rows of an array of keys is whole words. -/
theorem words_hbm (off : Fin 4 → Nat) (h2 : off 2 = 0) (hinb : ∀ a, off a + S1x1024x4x128.size a ≤ S2x131072x4x128.size a) :
    (Rect.unit (s := S2x131072x4x128) off S1x1024x4x128.size hinb).WholeWords (EltTy.packing .fp8e4m3) :=
  .inr ⟨by decide, rfl, h2, rfl⟩

theorem words_raw (off : Fin 4 → Nat) (h2 : off 2 = 0) (hinb : ∀ a, off a + S1x1024x4x128.size a ≤ S2x1024x4x128.size a) :
    (Rect.unit (s := S2x1024x4x128) off S1x1024x4x128.size hinb).WholeWords (EltTy.packing .fp8e4m3) :=
  .inr ⟨by decide, rfl, h2, rfl⟩

section InRange
variable {v : BitVec 32} (h : Fits v) (i : grid0.Coords) (k : Fin (k0_t1_loop v).trips)
include h

theorem inb3 (a) : k0_off3 v k a + S1.size a ≤ S2.size a := by
  rw [off3_eq h]; revert a; have := lt128 h k; generalize k.val = m at this ⊢; revert m; decide +kernel
theorem inb4 (a) : k0_off4 v k a + S1x1024x4x128.size a ≤ S2x1024x4x128.size a := by
  rw [off4_eq h]; revert a; have := lt128 h k; generalize k.val = m at this ⊢; revert m; decide +kernel
theorem inb6 (a) : k0_off6 v k a + S1.size a ≤ S2.size a := by
  rw [off6_eq h]; revert a; have := lt128 h k; generalize k.val = m at this ⊢; revert m; decide +kernel
theorem inb7 (a) : k0_off7 v k a + S1x1024x4x128.size a ≤ S2x1024x4x128.size a := by
  rw [off7_eq h]; revert a; have := lt128 h k; generalize k.val = m at this ⊢; revert m; decide +kernel
theorem inb5 (hc : k0_cond1 v k = 1#1) (a) : k0_off5 i v k a + S1x1024x4x128.size a ≤ S2x131072x4x128.size a := by
  have hk : k.val < 127 := by have := (cond1_iff h k).mp hc; have := nC_le h; omega
  rw [off5_eq h]
  have hi : (i 0).val < 2 := (i 0).isLt
  generalize k.val = m at hk ⊢
  generalize (i 0).val = b at hi ⊢
  revert a b m; decide +kernel
theorem inb8 (a) : k0_off8 i v k a + S1x1024x4x128.size a ≤ S2x131072x4x128.size a := by
  have hk := lt128 h k
  rw [off8_eq h]
  have hi : (i 0).val < 2 := (i 0).isLt
  generalize k.val = m at hk ⊢
  generalize (i 0).val = b at hi ⊢
  revert a b m; decide +kernel
theorem words5 (hinb) : (Rect.unit (s := S2x131072x4x128) (k0_off5 i v k) S1x1024x4x128.size hinb).WholeWords (EltTy.packing .fp8e4m3) :=
  words_hbm _ (by rw [off5_eq h]; rfl) _
theorem words8 (hinb) : (Rect.unit (s := S2x131072x4x128) (k0_off8 i v k) S1x1024x4x128.size hinb).WholeWords (EltTy.packing .fp8e4m3) :=
  words_hbm _ (by rw [off8_eq h]; rfl) _
theorem words4 (hinb) : (Rect.unit (s := S2x1024x4x128) (k0_off4 v k) S1x1024x4x128.size hinb).WholeWords (EltTy.packing .fp8e4m3) :=
  words_raw _ (by rw [off4_eq h]; rfl) _
theorem words7 (hinb) : (Rect.unit (s := S2x1024x4x128) (k0_off7 v k) S1x1024x4x128.size hinb).WholeWords (EltTy.packing .fp8e4m3) :=
  words_raw _ (by rw [off7_eq h]; rfl) _
theorem inb9 (a) : k0_off9 v k a + S1x1x1024.size a ≤ S1x4x131072.size a := by
  rw [off9_eq h]; revert a; have := lt128 h k; generalize k.val = m at this ⊢; revert m; decide +kernel
theorem inb10 (a) : k0_off10 v k a + S1x1x1024.size a ≤ S1x4x131072.size a := by
  rw [off10_eq h]; revert a; have := lt128 h k; generalize k.val = m at this ⊢; revert m; decide +kernel
theorem inb11 (a) : k0_off11 v k a + S1x1x1024.size a ≤ S1x4x131072.size a := by
  rw [off11_eq h]; revert a; have := lt128 h k; generalize k.val = m at this ⊢; revert m; decide +kernel
theorem inb12 (a) : k0_off12 v k a + S1x1x1024.size a ≤ S1x4x131072.size a := by
  rw [off12_eq h]; revert a; have := lt128 h k; generalize k.val = m at this ⊢; revert m; decide +kernel
theorem off283_eq (kv : Fin k0_t32_loop.trips) (j : Fin k0_t33_loop.trips) : k0_off283 v k kv j = ![0, kv.val, k.val * 1024 + j.val * 256] := by
  have hk := lt128 h k
  have hkv : kv.val < 4 := kv.isLt
  have hj : j.val < 4 := j.isLt
  unfold k0_off283
  generalize k.val = m at hk ⊢
  generalize kv.val = a at hkv ⊢
  generalize j.val = b at hj ⊢
  revert a b m; decide +kernel
theorem inb283 (kv : Fin k0_t32_loop.trips) (j : Fin k0_t33_loop.trips) (a) : k0_off283 v k kv j a + S1x1x256.size a ≤ S1x4x131072.size a := by
  rw [off283_eq h]
  have hk := lt128 h k
  have hkv : kv.val < 4 := kv.isLt
  have hj : j.val < 4 := j.isLt
  generalize k.val = m at hk ⊢
  generalize kv.val = d at hkv ⊢
  generalize j.val = b at hj ⊢
  revert a
  intro a; fin_cases a
  · show 0 + 1 ≤ 1; omega
  · show d + 1 ≤ 4; omega
  · show m * 1024 + b * 256 + 256 ≤ 131072; omega
theorem off300_eq (kv : Fin k0_t34_loop.trips) (j : Fin k0_t35_loop.trips) : k0_off300 v k kv j = ![0, kv.val, k.val * 1024 + j.val * 256] := by
  have hk := lt128 h k
  have hkv : kv.val < 4 := kv.isLt
  have hj : j.val < 4 := j.isLt
  unfold k0_off300
  generalize k.val = m at hk ⊢
  generalize kv.val = a at hkv ⊢
  generalize j.val = b at hj ⊢
  revert a b m; decide +kernel
theorem inb300 (kv : Fin k0_t34_loop.trips) (j : Fin k0_t35_loop.trips) (a) : k0_off300 v k kv j a + S1x1x256.size a ≤ S1x4x131072.size a := by
  rw [off300_eq h]
  have hk := lt128 h k
  have hkv : kv.val < 4 := kv.isLt
  have hj : j.val < 4 := j.isLt
  generalize k.val = m at hk ⊢
  generalize kv.val = d at hkv ⊢
  generalize j.val = b at hj ⊢
  revert a
  intro a; fin_cases a
  · show 0 + 1 ≤ 1; omega
  · show d + 1 ≤ 4; omega
  · show m * 1024 + b * 256 + 256 ≤ 131072; omega
theorem off347_eq (k : Fin (k0_t42_loop v).trips) : k0_off347 v k = ![0, k.val * 1024] := by
  have hk := lt128 h k
  unfold k0_off347
  generalize k.val = m at hk ⊢
  revert m; decide +kernel
theorem off348_eq (k : Fin (k0_t42_loop v).trips) : k0_off348 v k = ![0, 0, k.val * 1024] := by
  have hk := lt128 h k
  unfold k0_off348
  generalize k.val = m at hk ⊢
  revert m; decide +kernel
theorem inb347 (k : Fin (k0_t42_loop v).trips) (a) : k0_off347 v k a + S4x1280.size a ≤ S4x131328.size a := by
  rw [off347_eq h]; revert a; have := lt128 h k; generalize k.val = m at this ⊢; revert m; decide +kernel
theorem inb348 (k : Fin (k0_t42_loop v).trips) (a) : k0_off348 v k a + S1x4x1024.size a ≤ S1x4x131072.size a := by
  rw [off348_eq h]; revert a; have := lt128 h k; generalize k.val = m at this ⊢; revert m; decide +kernel
end InRange

theorem chk1_0_of {v : BitVec 32} (h : Fits v) (i : grid0.Coords) : k0_chk1_0 i v :=
  ⟨ok_t1 h,
   fun k h1 a => inb3 h k a,
   fun k h1 a => inb4 h k a,
   fun k h1 a => inb5 h i k h1 a,
   fun k h1 hi => words5 h i k hi,
   fun k h1 hi => words4 h k hi,
   fun k  a => inb6 h k a,
   fun k  a => inb7 h k a,
   fun k  a => inb8 h i k a,
   fun k  hi => words8 h i k hi,
   fun k  hi => words7 h k hi,
   fun k  a => inb9 h k a,
   fun k  a => inb10 h k a,
   fun k  a => inb11 h k a,
   fun k  a => inb12 h k a,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   ok_t1 h,
   fun k h20 a => inb3 h k a⟩

theorem chk1_1_of {v : BitVec 32} (h : Fits v) (i : grid0.Coords) : k0_chk1_1 i v :=
  ⟨fun k h20 a => inb4 h k a,
   fun k h20 a => inb5 h i k h20 a,
   fun k h20 hi => words5 h i k hi,
   fun k h20 hi => words4 h k hi,
   fun k  a => inb6 h k a,
   fun k  a => inb7 h k a,
   fun k  a => inb8 h i k a,
   fun k  hi => words8 h i k hi,
   fun k  hi => words7 h k hi,
   fun k  a => inb9 h k a,
   fun k  a => inb10 h k a,
   fun k  a => inb11 h k a,
   fun k  a => inb12 h k a,
   fun k kv j h21 a => inb283 h k kv j a,
   fun k kv j h22 a => inb300 h k kv j a,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

theorem chk1_2_of {v : BitVec 32} (h : Fits v) (i : grid0.Coords) : k0_chk1_2 i v :=
  ⟨ok_t1 h,
   fun k  a => inb347 h k a,
   fun k  a => inb348 h k a,
   Scf.rem_ok _ _,
   fun k => (Scf.rem_no_trip _ _ k).elim,
   fun k => (Scf.rem_no_trip _ _ k).elim⟩

theorem chk2_0_of {v : BitVec 32} (h : Fits v) (i : grid0.Coords) (w : BitVec 1) : k0_chk2_0 i v w :=
  ⟨fun _ => ok_t1 h,
   fun k h7 h8 a => inb3 h k a,
   fun k h7 h8 a => inb4 h k a,
   fun k h7 h8 a => inb5 h i k h8 a,
   fun k h7 h8 hi => words5 h i k hi,
   fun k h7 h8 hi => words4 h k hi,
   fun k h7 a => inb6 h k a,
   fun k h7 a => inb7 h k a,
   fun k h7 a => inb8 h i k a,
   fun k h7 hi => words8 h i k hi,
   fun k h7 hi => words7 h k hi,
   fun k h7 a => inb9 h k a,
   fun k h7 a => inb10 h k a,
   fun k h7 a => inb11 h k a,
   fun k h7 a => inb12 h k a,
   fun _ => Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun _ => ok_t1 h,
   fun k h7 h14 a => inb3 h k a⟩

theorem chk2_1_of {v : BitVec 32} (h : Fits v) (i : grid0.Coords) (w : BitVec 1) : k0_chk2_1 i v w :=
  ⟨fun k h7 h14 a => inb4 h k a,
   fun k h7 h14 a => inb5 h i k h14 a,
   fun k h7 h14 hi => words5 h i k hi,
   fun k h7 h14 hi => words4 h k hi,
   fun k h7 a => inb6 h k a,
   fun k h7 a => inb7 h k a,
   fun k h7 a => inb8 h i k a,
   fun k h7 hi => words8 h i k hi,
   fun k h7 hi => words7 h k hi,
   fun k h7 a => inb9 h k a,
   fun k h7 a => inb10 h k a,
   fun k h7 a => inb11 h k a,
   fun k h7 a => inb12 h k a,
   fun _ => Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

/-- Every stated fact of the first group holds of a length that fits. -/
theorem chk1_of {v : BitVec 32} (h : Fits v) (i : grid0.Coords) : k0_chk1 i v := ⟨chk1_0_of h i, chk1_1_of h i, chk1_2_of h i⟩

/-- Every stated fact of the second group holds of a length that fits. -/
theorem chk2_of {v : BitVec 32} (h : Fits v) (i : grid0.Coords) (w : BitVec 1) : k0_chk2 i v w := ⟨chk2_0_of h i w, chk2_1_of h i w⟩

end Cert.KernelIdeal.Own
-- ==== Proof.RingI.lean ====
/-
  The stream's two-slot ring: the canonical names of its slots, cells and chunks, and what is held of it before
  each chunk — the chunk in flight, the other slot free, the array's read tokens — or, after the last, all at home.
-/
module

public import proofs.«01_k».proof.Proof.OuterI
public import proofs.«01_k».proof.Proof.ArithI
public import Idealize.ShloMosaic.Lib.Ring

@[expose] public section

set_option maxRecDepth 8192

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The keys' codes, the chunk buffer. -/
abbrev aM : Memref sig .tc .hbm S2x131072x4x128 .fp8e4m3 := Memref.whole main_arg1
abbrev bufM : Memref sig .tc .vmem S2x1024x4x128 .fp8e4m3 := Memref.whole cc0_scratch0

abbrev chOff (i : grid0.Coords) (b : Fin 128) : Fin 4 → Nat := ![(i 0).val, b.val * 1024, 0, 0]
theorem chOff_inb (i : grid0.Coords) (b : Fin 128) : ∀ a, chOff i b a + S1x1024x4x128.size a ≤ S2x131072x4x128.size a := by
  have h0 : (i 0).val < 2 := (i 0).isLt
  have := b.isLt; intro a; fin_cases a
  · show (i 0).val + 1 ≤ 2; omega
  · show b.val * 1024 + 1024 ≤ 131072; omega
  · show 0 + 4 ≤ 4; omega
  · show 0 + 128 ≤ 128; omega
abbrev slotOff (s : Fin 2) : Fin 4 → Nat := ![s.val, 0, 0, 0]
theorem slotOff_inb (s : Fin 2) : ∀ a, slotOff s a + S1x1024x4x128.size a ≤ S2x1024x4x128.size a := by
  have := s.isLt; intro a; fin_cases a
  · show s.val + 1 ≤ 2; omega
  · show 0 + 1024 ≤ 1024; omega
  · show 0 + 4 ≤ 4; omega
  · show 0 + 128 ≤ 128; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Chunk `b` of sequence `i`. -/
def chunk (i : grid0.Coords) (b : Fin 128) : Memref sig .tc .hbm S1024x4x128 .fp8e4m3 :=
  (aM.slice (Rect.unit (s := S2x131072x4x128) (chOff i b) S1x1024x4x128.size (chOff_inb i b)) (fun _ => rfl)).squeeze S1024x4x128 squeezes_S1x1024x4x128_S1024x4x128
/-- Slot `s` of the chunk buffer. -/
def rslot (s : Fin 2) : Memref sig .tc .vmem S1024x4x128 .fp8e4m3 :=
  (bufM.slice (Rect.unit (s := S2x1024x4x128) (slotOff s) S1x1024x4x128.size (slotOff_inb s)) (fun _ => rfl)).squeeze S1024x4x128 squeezes_S1x1024x4x128_S1024x4x128
/-- Slot `s`'s semaphore. -/
def csm (s : Fin 2) : DmaSems sig S_ := (cc0_scratch7.slice (Rect.unit (s := S2) (semOff s) S1.size (semOff_inb s))).squeeze S_ squeezes_S1_S_

instance (s : Fin 2) : ClosedOff (slotOff s) := ⟨slotOff s, rfl⟩
instance (i : grid0.Coords) (b : Fin 128) : ClosedOff (chOff i b) := ⟨chOff i b, rfl⟩

theorem csm_congr {off : Fin 1 → Nat} {s : Fin 2} (e : off = semOff s) (hh) :
    (cc0_scratch7.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 4 → Nat} {s : Fin 2} (e : off = slotOff s) (hh hs) :
    (bufM.slice (Rect.unit (s := S2x1024x4x128) off S1x1024x4x128.size hh) hs).squeeze S1024x4x128 squeezes_S1x1024x4x128_S1024x4x128 = rslot s :=
  congrArg (fun M : Memref sig .tc .vmem S1x1024x4x128 .fp8e4m3 => M.squeeze S1024x4x128 squeezes_S1x1024x4x128_S1024x4x128) (Memref.slice_unit_congr _ e _ _ _ _)
theorem chunk_congr {i : grid0.Coords} {off : Fin 4 → Nat} {b : Fin 128} (e : off = chOff i b) (hh hs) :
    (aM.slice (Rect.unit (s := S2x131072x4x128) off S1x1024x4x128.size hh) hs).squeeze S1024x4x128 squeezes_S1x1024x4x128_S1024x4x128 = chunk i b :=
  congrArg (fun M : Memref sig .tc .hbm S1x1024x4x128 .fp8e4m3 => M.squeeze S1024x4x128 squeezes_S1x1024x4x128_S1024x4x128) (Memref.slice_unit_congr _ e _ _ _ _)

theorem sl_val (k : ℕ) : (Ring.sl 2 k).val = k % 2 := by simp [Ring.sl, Fin.ofNat]
theorem bk_val {k : ℕ} (h : k < 128) : (Ring.bk 128 k).val = k := Ring.bk_val h
theorem sl2_add2 (k : ℕ) : Ring.sl 2 (k + 1 + 1) = Ring.sl 2 k := by rw [show k + 1 + 1 = k + 2 from rfl, Ring.sl_add]
theorem sl2_0 : Ring.sl 2 0 = 0 := Fin.ext (by rfl)
theorem sl2_1 : Ring.sl 2 (0 + 1) = 1 := Fin.ext (by rfl)
theorem bk128_0 : Ring.bk 128 0 = 0 := Fin.ext (by rfl)

@[sl_canon] theorem semL0 (hh) : (cc0_scratch7.slice (Rect.unit (s := S2) ![0] S1.size hh)).squeeze S_ squeezes_S1_S_ = csm 0 := csm_congr (by decide) _
@[sl_canon] theorem slotL0 (hh hs) : (bufM.slice (Rect.unit (s := S2x1024x4x128) ![0, 0, 0, 0] S1x1024x4x128.size hh) hs).squeeze S1024x4x128 squeezes_S1x1024x4x128_S1024x4x128 = rslot 0 := rslot_congr (by decide) _ _

theorem off2_eq (i : grid0.Coords) : k0_off2 i = chOff i 0 := by
  have h0 : (i 0).val < 2 := (i 0).isLt
  unfold k0_off2 chOff
  generalize (i 0).val = m at h0 ⊢
  revert m; decide +kernel
@[sl_canon] theorem chunkL2 (i : grid0.Coords) (hh hs) : (aM.slice (Rect.unit (s := S2x131072x4x128) (k0_off2 i) S1x1024x4x128.size hh) hs).squeeze S1024x4x128 squeezes_S1x1024x4x128_S1024x4x128 = chunk i 0 :=
  chunk_congr (off2_eq i) _ _

theorem off87_eq (i : grid0.Coords) : k0_off87 i = chOff i 0 := by
  have h0 : (i 0).val < 2 := (i 0).isLt
  unfold k0_off87 chOff
  generalize (i 0).val = m at h0 ⊢
  revert m; decide +kernel
@[sl_canon] theorem chunkL87 (i : grid0.Coords) (hh hs) : (aM.slice (Rect.unit (s := S2x131072x4x128) (k0_off87 i) S1x1024x4x128.size hh) hs).squeeze S1024x4x128 squeezes_S1x1024x4x128_S1024x4x128 = chunk i 0 :=
  chunk_congr (off87_eq i) _ _

theorem off256_eq (i : grid0.Coords) : k0_off256 i = chOff i 0 := by
  have h0 : (i 0).val < 2 := (i 0).isLt
  unfold k0_off256 chOff
  generalize (i 0).val = m at h0 ⊢
  revert m; decide +kernel
@[sl_canon] theorem chunkL256 (i : grid0.Coords) (hh hs) : (aM.slice (Rect.unit (s := S2x131072x4x128) (k0_off256 i) S1x1024x4x128.size hh) hs).squeeze S1024x4x128 squeezes_S1x1024x4x128_S1024x4x128 = chunk i 0 :=
  chunk_congr (off256_eq i) _ _

/-! ### The slices of the trips of `k0_t1` -/

theorem s1_semN {v : BitVec 32} (h : Fits v) (k : Fin (k0_t1_loop v).trips) : k0_off3 v k = semOff (Ring.sl 2 (k.val + 1)) := by
  rw [show k0_off3 v k = _ from off3_eq h k, semOff, sl_val]
theorem s1_slotN {v : BitVec 32} (h : Fits v) (k : Fin (k0_t1_loop v).trips) : k0_off4 v k = slotOff (Ring.sl 2 (k.val + 1)) := by
  rw [show k0_off4 v k = _ from off4_eq h k, slotOff, sl_val]
theorem s1_chN {v : BitVec 32} (h : Fits v) (k : Fin (k0_t1_loop v).trips) (i : grid0.Coords) (hk : k.val + 1 < 128) : k0_off5 i v k = chOff i (Ring.bk 128 (k.val + 1)) := by
  rw [show k0_off5 i v k = _ from off5_eq h i k, chOff, bk_val hk]
theorem s1_sem {v : BitVec 32} (h : Fits v) (k : Fin (k0_t1_loop v).trips) : k0_off6 v k = semOff (Ring.sl 2 k.val) := by
  rw [show k0_off6 v k = _ from off6_eq h k, semOff, sl_val]
theorem s1_slot {v : BitVec 32} (h : Fits v) (k : Fin (k0_t1_loop v).trips) : k0_off7 v k = slotOff (Ring.sl 2 k.val) := by
  rw [show k0_off7 v k = _ from off7_eq h k, slotOff, sl_val]
theorem s1_ch {v : BitVec 32} (h : Fits v) (k : Fin (k0_t1_loop v).trips) (i : grid0.Coords) : k0_off8 i v k = chOff i (Ring.bk 128 k.val) := by
  rw [show k0_off8 i v k = _ from off8_eq h i k, chOff, bk_val (lt128 h k)]

@[sl_canon] theorem c1_semN {v : BitVec 32} (h : Fits v) (k : Fin (k0_t1_loop v).trips) (hh) : (cc0_scratch7.slice (Rect.unit (s := S2) (k0_off3 v k) S1.size hh)).squeeze S_ squeezes_S1_S_ = csm (Ring.sl 2 (k.val + 1)) := csm_congr (s1_semN h k) _
@[sl_canon] theorem c1_slotN {v : BitVec 32} (h : Fits v) (k : Fin (k0_t1_loop v).trips) (hh hs) : (bufM.slice (Rect.unit (s := S2x1024x4x128) (k0_off4 v k) S1x1024x4x128.size hh) hs).squeeze S1024x4x128 squeezes_S1x1024x4x128_S1024x4x128 = rslot (Ring.sl 2 (k.val + 1)) := rslot_congr (s1_slotN h k) _ _
@[sl_canon] theorem c1_chN {v : BitVec 32} (h : Fits v) (k : Fin (k0_t1_loop v).trips) (i : grid0.Coords) (hk : k.val + 1 < 128) (hh hs) : (aM.slice (Rect.unit (s := S2x131072x4x128) (k0_off5 i v k) S1x1024x4x128.size hh) hs).squeeze S1024x4x128 squeezes_S1x1024x4x128_S1024x4x128 = chunk i (Ring.bk 128 (k.val + 1)) := chunk_congr (s1_chN h k i hk) _ _
@[sl_canon] theorem c1_sem {v : BitVec 32} (h : Fits v) (k : Fin (k0_t1_loop v).trips) (hh) : (cc0_scratch7.slice (Rect.unit (s := S2) (k0_off6 v k) S1.size hh)).squeeze S_ squeezes_S1_S_ = csm (Ring.sl 2 k.val) := csm_congr (s1_sem h k) _
@[sl_canon] theorem c1_slot {v : BitVec 32} (h : Fits v) (k : Fin (k0_t1_loop v).trips) (hh hs) : (bufM.slice (Rect.unit (s := S2x1024x4x128) (k0_off7 v k) S1x1024x4x128.size hh) hs).squeeze S1024x4x128 squeezes_S1x1024x4x128_S1024x4x128 = rslot (Ring.sl 2 k.val) := rslot_congr (s1_slot h k) _ _
@[sl_canon] theorem c1_ch {v : BitVec 32} (h : Fits v) (k : Fin (k0_t1_loop v).trips) (i : grid0.Coords) (hh hs) : (aM.slice (Rect.unit (s := S2x131072x4x128) (k0_off8 i v k) S1x1024x4x128.size hh) hs).squeeze S1024x4x128 squeezes_S1x1024x4x128_S1024x4x128 = chunk i (Ring.bk 128 k.val) := chunk_congr (s1_ch h k i) _ _

/-! ### The slices of the trips of `k0_t11` -/

theorem s11_semN {v : BitVec 32} (h : Fits v) (k : Fin (k0_t11_loop v).trips) : k0_off88 v k = semOff (Ring.sl 2 (k.val + 1)) := by
  rw [show k0_off88 v k = _ from off3_eq h k, semOff, sl_val]
theorem s11_slotN {v : BitVec 32} (h : Fits v) (k : Fin (k0_t11_loop v).trips) : k0_off89 v k = slotOff (Ring.sl 2 (k.val + 1)) := by
  rw [show k0_off89 v k = _ from off4_eq h k, slotOff, sl_val]
theorem s11_chN {v : BitVec 32} (h : Fits v) (k : Fin (k0_t11_loop v).trips) (i : grid0.Coords) (hk : k.val + 1 < 128) : k0_off90 i v k = chOff i (Ring.bk 128 (k.val + 1)) := by
  rw [show k0_off90 i v k = _ from off5_eq h i k, chOff, bk_val hk]
theorem s11_sem {v : BitVec 32} (h : Fits v) (k : Fin (k0_t11_loop v).trips) : k0_off91 v k = semOff (Ring.sl 2 k.val) := by
  rw [show k0_off91 v k = _ from off6_eq h k, semOff, sl_val]
theorem s11_slot {v : BitVec 32} (h : Fits v) (k : Fin (k0_t11_loop v).trips) : k0_off92 v k = slotOff (Ring.sl 2 k.val) := by
  rw [show k0_off92 v k = _ from off7_eq h k, slotOff, sl_val]
theorem s11_ch {v : BitVec 32} (h : Fits v) (k : Fin (k0_t11_loop v).trips) (i : grid0.Coords) : k0_off93 i v k = chOff i (Ring.bk 128 k.val) := by
  rw [show k0_off93 i v k = _ from off8_eq h i k, chOff, bk_val (lt128 h k)]

@[sl_canon] theorem c11_semN {v : BitVec 32} (h : Fits v) (k : Fin (k0_t11_loop v).trips) (hh) : (cc0_scratch7.slice (Rect.unit (s := S2) (k0_off88 v k) S1.size hh)).squeeze S_ squeezes_S1_S_ = csm (Ring.sl 2 (k.val + 1)) := csm_congr (s11_semN h k) _
@[sl_canon] theorem c11_slotN {v : BitVec 32} (h : Fits v) (k : Fin (k0_t11_loop v).trips) (hh hs) : (bufM.slice (Rect.unit (s := S2x1024x4x128) (k0_off89 v k) S1x1024x4x128.size hh) hs).squeeze S1024x4x128 squeezes_S1x1024x4x128_S1024x4x128 = rslot (Ring.sl 2 (k.val + 1)) := rslot_congr (s11_slotN h k) _ _
@[sl_canon] theorem c11_chN {v : BitVec 32} (h : Fits v) (k : Fin (k0_t11_loop v).trips) (i : grid0.Coords) (hk : k.val + 1 < 128) (hh hs) : (aM.slice (Rect.unit (s := S2x131072x4x128) (k0_off90 i v k) S1x1024x4x128.size hh) hs).squeeze S1024x4x128 squeezes_S1x1024x4x128_S1024x4x128 = chunk i (Ring.bk 128 (k.val + 1)) := chunk_congr (s11_chN h k i hk) _ _
@[sl_canon] theorem c11_sem {v : BitVec 32} (h : Fits v) (k : Fin (k0_t11_loop v).trips) (hh) : (cc0_scratch7.slice (Rect.unit (s := S2) (k0_off91 v k) S1.size hh)).squeeze S_ squeezes_S1_S_ = csm (Ring.sl 2 k.val) := csm_congr (s11_sem h k) _
@[sl_canon] theorem c11_slot {v : BitVec 32} (h : Fits v) (k : Fin (k0_t11_loop v).trips) (hh hs) : (bufM.slice (Rect.unit (s := S2x1024x4x128) (k0_off92 v k) S1x1024x4x128.size hh) hs).squeeze S1024x4x128 squeezes_S1x1024x4x128_S1024x4x128 = rslot (Ring.sl 2 k.val) := rslot_congr (s11_slot h k) _ _
@[sl_canon] theorem c11_ch {v : BitVec 32} (h : Fits v) (k : Fin (k0_t11_loop v).trips) (i : grid0.Coords) (hh hs) : (aM.slice (Rect.unit (s := S2x131072x4x128) (k0_off93 i v k) S1x1024x4x128.size hh) hs).squeeze S1024x4x128 squeezes_S1x1024x4x128_S1024x4x128 = chunk i (Ring.bk 128 k.val) := chunk_congr (s11_ch h k i) _ _

/-! ### The slices of the trips of `k0_t21` -/

theorem s21_semN {v : BitVec 32} (h : Fits v) (k : Fin (k0_t21_loop v).trips) : k0_off172 v k = semOff (Ring.sl 2 (k.val + 1)) := by
  rw [show k0_off172 v k = _ from off3_eq h k, semOff, sl_val]
theorem s21_slotN {v : BitVec 32} (h : Fits v) (k : Fin (k0_t21_loop v).trips) : k0_off173 v k = slotOff (Ring.sl 2 (k.val + 1)) := by
  rw [show k0_off173 v k = _ from off4_eq h k, slotOff, sl_val]
theorem s21_chN {v : BitVec 32} (h : Fits v) (k : Fin (k0_t21_loop v).trips) (i : grid0.Coords) (hk : k.val + 1 < 128) : k0_off174 i v k = chOff i (Ring.bk 128 (k.val + 1)) := by
  rw [show k0_off174 i v k = _ from off5_eq h i k, chOff, bk_val hk]
theorem s21_sem {v : BitVec 32} (h : Fits v) (k : Fin (k0_t21_loop v).trips) : k0_off175 v k = semOff (Ring.sl 2 k.val) := by
  rw [show k0_off175 v k = _ from off6_eq h k, semOff, sl_val]
theorem s21_slot {v : BitVec 32} (h : Fits v) (k : Fin (k0_t21_loop v).trips) : k0_off176 v k = slotOff (Ring.sl 2 k.val) := by
  rw [show k0_off176 v k = _ from off7_eq h k, slotOff, sl_val]
theorem s21_ch {v : BitVec 32} (h : Fits v) (k : Fin (k0_t21_loop v).trips) (i : grid0.Coords) : k0_off177 i v k = chOff i (Ring.bk 128 k.val) := by
  rw [show k0_off177 i v k = _ from off8_eq h i k, chOff, bk_val (lt128 h k)]

@[sl_canon] theorem c21_semN {v : BitVec 32} (h : Fits v) (k : Fin (k0_t21_loop v).trips) (hh) : (cc0_scratch7.slice (Rect.unit (s := S2) (k0_off172 v k) S1.size hh)).squeeze S_ squeezes_S1_S_ = csm (Ring.sl 2 (k.val + 1)) := csm_congr (s21_semN h k) _
@[sl_canon] theorem c21_slotN {v : BitVec 32} (h : Fits v) (k : Fin (k0_t21_loop v).trips) (hh hs) : (bufM.slice (Rect.unit (s := S2x1024x4x128) (k0_off173 v k) S1x1024x4x128.size hh) hs).squeeze S1024x4x128 squeezes_S1x1024x4x128_S1024x4x128 = rslot (Ring.sl 2 (k.val + 1)) := rslot_congr (s21_slotN h k) _ _
@[sl_canon] theorem c21_chN {v : BitVec 32} (h : Fits v) (k : Fin (k0_t21_loop v).trips) (i : grid0.Coords) (hk : k.val + 1 < 128) (hh hs) : (aM.slice (Rect.unit (s := S2x131072x4x128) (k0_off174 i v k) S1x1024x4x128.size hh) hs).squeeze S1024x4x128 squeezes_S1x1024x4x128_S1024x4x128 = chunk i (Ring.bk 128 (k.val + 1)) := chunk_congr (s21_chN h k i hk) _ _
@[sl_canon] theorem c21_sem {v : BitVec 32} (h : Fits v) (k : Fin (k0_t21_loop v).trips) (hh) : (cc0_scratch7.slice (Rect.unit (s := S2) (k0_off175 v k) S1.size hh)).squeeze S_ squeezes_S1_S_ = csm (Ring.sl 2 k.val) := csm_congr (s21_sem h k) _
@[sl_canon] theorem c21_slot {v : BitVec 32} (h : Fits v) (k : Fin (k0_t21_loop v).trips) (hh hs) : (bufM.slice (Rect.unit (s := S2x1024x4x128) (k0_off176 v k) S1x1024x4x128.size hh) hs).squeeze S1024x4x128 squeezes_S1x1024x4x128_S1024x4x128 = rslot (Ring.sl 2 k.val) := rslot_congr (s21_slot h k) _ _
@[sl_canon] theorem c21_ch {v : BitVec 32} (h : Fits v) (k : Fin (k0_t21_loop v).trips) (i : grid0.Coords) (hh hs) : (aM.slice (Rect.unit (s := S2x131072x4x128) (k0_off177 i v k) S1x1024x4x128.size hh) hs).squeeze S1024x4x128 squeezes_S1x1024x4x128_S1024x4x128 = chunk i (Ring.bk 128 k.val) := chunk_congr (s21_ch h k i) _ _

/-! ### The slices of the trips of `k0_t31` -/

theorem s31_semN {v : BitVec 32} (h : Fits v) (k : Fin (k0_t31_loop v).trips) : k0_off257 v k = semOff (Ring.sl 2 (k.val + 1)) := by
  rw [show k0_off257 v k = _ from off3_eq h k, semOff, sl_val]
theorem s31_slotN {v : BitVec 32} (h : Fits v) (k : Fin (k0_t31_loop v).trips) : k0_off258 v k = slotOff (Ring.sl 2 (k.val + 1)) := by
  rw [show k0_off258 v k = _ from off4_eq h k, slotOff, sl_val]
theorem s31_chN {v : BitVec 32} (h : Fits v) (k : Fin (k0_t31_loop v).trips) (i : grid0.Coords) (hk : k.val + 1 < 128) : k0_off259 i v k = chOff i (Ring.bk 128 (k.val + 1)) := by
  rw [show k0_off259 i v k = _ from off5_eq h i k, chOff, bk_val hk]
theorem s31_sem {v : BitVec 32} (h : Fits v) (k : Fin (k0_t31_loop v).trips) : k0_off260 v k = semOff (Ring.sl 2 k.val) := by
  rw [show k0_off260 v k = _ from off6_eq h k, semOff, sl_val]
theorem s31_slot {v : BitVec 32} (h : Fits v) (k : Fin (k0_t31_loop v).trips) : k0_off261 v k = slotOff (Ring.sl 2 k.val) := by
  rw [show k0_off261 v k = _ from off7_eq h k, slotOff, sl_val]
theorem s31_ch {v : BitVec 32} (h : Fits v) (k : Fin (k0_t31_loop v).trips) (i : grid0.Coords) : k0_off262 i v k = chOff i (Ring.bk 128 k.val) := by
  rw [show k0_off262 i v k = _ from off8_eq h i k, chOff, bk_val (lt128 h k)]

@[sl_canon] theorem c31_semN {v : BitVec 32} (h : Fits v) (k : Fin (k0_t31_loop v).trips) (hh) : (cc0_scratch7.slice (Rect.unit (s := S2) (k0_off257 v k) S1.size hh)).squeeze S_ squeezes_S1_S_ = csm (Ring.sl 2 (k.val + 1)) := csm_congr (s31_semN h k) _
@[sl_canon] theorem c31_slotN {v : BitVec 32} (h : Fits v) (k : Fin (k0_t31_loop v).trips) (hh hs) : (bufM.slice (Rect.unit (s := S2x1024x4x128) (k0_off258 v k) S1x1024x4x128.size hh) hs).squeeze S1024x4x128 squeezes_S1x1024x4x128_S1024x4x128 = rslot (Ring.sl 2 (k.val + 1)) := rslot_congr (s31_slotN h k) _ _
@[sl_canon] theorem c31_chN {v : BitVec 32} (h : Fits v) (k : Fin (k0_t31_loop v).trips) (i : grid0.Coords) (hk : k.val + 1 < 128) (hh hs) : (aM.slice (Rect.unit (s := S2x131072x4x128) (k0_off259 i v k) S1x1024x4x128.size hh) hs).squeeze S1024x4x128 squeezes_S1x1024x4x128_S1024x4x128 = chunk i (Ring.bk 128 (k.val + 1)) := chunk_congr (s31_chN h k i hk) _ _
@[sl_canon] theorem c31_sem {v : BitVec 32} (h : Fits v) (k : Fin (k0_t31_loop v).trips) (hh) : (cc0_scratch7.slice (Rect.unit (s := S2) (k0_off260 v k) S1.size hh)).squeeze S_ squeezes_S1_S_ = csm (Ring.sl 2 k.val) := csm_congr (s31_sem h k) _
@[sl_canon] theorem c31_slot {v : BitVec 32} (h : Fits v) (k : Fin (k0_t31_loop v).trips) (hh hs) : (bufM.slice (Rect.unit (s := S2x1024x4x128) (k0_off261 v k) S1x1024x4x128.size hh) hs).squeeze S1024x4x128 squeezes_S1x1024x4x128_S1024x4x128 = rslot (Ring.sl 2 k.val) := rslot_congr (s31_slot h k) _ _
@[sl_canon] theorem c31_ch {v : BitVec 32} (h : Fits v) (k : Fin (k0_t31_loop v).trips) (i : grid0.Coords) (hh hs) : (aM.slice (Rect.unit (s := S2x131072x4x128) (k0_off262 i v k) S1x1024x4x128.size hh) hs).squeeze S1024x4x128 squeezes_S1x1024x4x128_S1024x4x128 = chunk i (Ring.bk 128 k.val) := chunk_congr (s31_ch h k i) _ _

/-! ## What is held of the ring -/

section Pieces
variable (c : Dev nD) (i : grid0.Coords) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- The read token of the codes for slot `s`, on a set of elements. -/
abbrev tokP (s : Fin 2) (S : Finset (Idx (aM.view.loc (c : Thread nD τ)))) : sProp 𝕄 :=
  aM.view.loc (c : Thread nD τ) ↦[S]{Transfers.shareTok fullShare 2 s} XA
/-- The words of chunk `b`, as they land. -/
abbrev payload (b : Fin 128) : S1024x4x128.Idx → Elt F .fp8e4m3 := ReadAs.same.apply ((chunk i b).view.read (Elt F) XA)
/-- Slot `s` in flight with chunk `b`, issued over `f`. -/
abbrev flightP (s : Fin 2) (b : Fin 128) (f : Buf (Elt F) ((rslot s).view.loc (c : Thread nD τ))) : sProp 𝕄 :=
  Transfers.Flight countersEmb (c : Thread nD τ) (SemLoc.dma (csm s).sem) () (rslot s).view.dmaCredit
    iprop(slotP c s ((rslot s).view.writes (Elt F) f [⟨Rect.whole S1024x4x128, payload c i XA b⟩]) ∗ tokP c XA s (chunk i b).view.set)
/-- Slot `s` at home: its cell at zero, the slot at anything, its token whole. -/
abbrev homeP (s : Fin 2) : sProp 𝕄 := iprop(cellP c s ∗ (∃ f, slotP c s f) ∗ tokP c XA s Finset.univ)

/-- The ring before chunk `k` of `n`: chunk `k` in flight, the other slot at home; after the last, both at home. -/
@[irreducible] def ringP (n k : ℕ) : sProp 𝕄 :=
  if k < n then iprop((∃ f, flightP c i XA (Ring.sl 2 k) (Ring.bk 128 k) f) ∗ tokP c XA (Ring.sl 2 k) (Finset.univ \ (chunk i (Ring.bk 128 k)).view.set)
    ∗ homeP c XA (Ring.sl 2 (k + 1)))
  else iprop(homeP c XA 0 ∗ homeP c XA 1)

theorem ringP_lt {n k : ℕ} (h : k < n) : ringP c i XA n k = iprop((∃ f, flightP c i XA (Ring.sl 2 k) (Ring.bk 128 k) f) ∗ tokP c XA (Ring.sl 2 k) (Finset.univ \ (chunk i (Ring.bk 128 k)).view.set)
    ∗ homeP c XA (Ring.sl 2 (k + 1))) := by unfold ringP; exact if_pos h
theorem ringP_ge {n k : ℕ} (h : ¬ k < n) : ringP c i XA n k = iprop(homeP c XA 0 ∗ homeP c XA 1) := by unfold ringP; exact if_neg h

/-- Slots `k % 2` and `(k + 1) % 2` are slots 0 and 1. -/
theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · have e0 : Ring.sl 2 T = 0 := Fin.ext (by simp [Ring.sl, Fin.ofNat, h])
    have e1 : Ring.sl 2 (T + 1) = 1 := Fin.ext (by simp [Ring.sl, Fin.ofNat]; omega)
    rw [e0, e1]
  · have e0 : Ring.sl 2 T = 1 := Fin.ext (by simp [Ring.sl, Fin.ofNat, h])
    have e1 : Ring.sl 2 (T + 1) = 0 := Fin.ext (by simp [Ring.sl, Fin.ofNat]; omega)
    rw [e0, e1]; iintro ⟨H1, H0⟩; isplitl [H0] <;> iassumption

theorem entails_of_eq {P Q : sProp 𝕄} (e : P = Q) : P ⊢ Q := e ▸ .rfl

/-- The ring's entry: chunk 0 in flight. -/
theorem ring_enter {n : ℕ} (h : 0 < n) (f) :
    iprop(flightP c i XA 0 0 f ∗ tokP c XA 0 (Finset.univ \ (chunk i 0).view.set) ∗ homeP c XA 1) ⊢ ringP c i XA n 0 := by
  rw [ringP_lt c i XA h, sl2_0, sl2_1, bk128_0]
  iintro ⟨HF, HT, HH⟩
  isplitl [HF]; · iexists f; iexact HF
  isplitl [HT]; · iexact HT
  iexact HH

end Pieces

end Cert.KernelIdeal.Own
-- ==== Proof.Score.lean ====
/-
  The score of a query row at a key position, with the causal mask, and the folds of a stream's lanes over its chunks.
-/
module

public import proofs.«01_k».proof.Proof.Stage
public import proofs.«01_k».proof.Proof.RingI

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx

/-- A position of the cache, of a natural number below its size. -/
abbrev posOf (p : ℕ) : Fin 131072 := ⟨p % 131072, Nat.mod_lt _ (by decide)⟩

/-- The score of a query row at a position. -/
def scoreAt (Q : S4x224x128.Idx → EReal) (K : Fin 131072 → Fin 4 → Fin 128 → EReal) (X : S1x4x131072.Idx → EReal) (qs : FVec Ideal S28x1x1 .f32)
    (κ : Fin 4) (g : Fin 7) (w : Fin 32) (p : Fin 131072) : EReal :=
  (∑ d : Fin 128, Q (ix3 κ (blkRow g w) d) * K p κ d)
    * (X (ix3 (0 : Fin 1) κ p) * scaleLog2e * qs (ix3 (⟨7 * κ.val + g.val, by omega⟩ : Fin 28) (0 : Fin 1) (0 : Fin 1)))

/-- The score under the causal mask: row `w` sees the positions up to its own. -/
def maskedScore (Q : S4x224x128.Idx → EReal) (K : Fin 131072 → Fin 4 → Fin 128 → EReal) (X : S1x4x131072.Idx → EReal) (qs : FVec Ideal S28x1x1 .f32) (len : ℕ)
    (κ : Fin 4) (g : Fin 7) (w : Fin 32) (p : ℕ) : EReal :=
  if p + 32 ≤ len + w.val then scoreAt Q K X qs κ g w (posOf p) else ⊥

/-- A stream's lane before chunk `c`. -/
def laneFold (op : EReal → EReal → EReal) (F : ℕ → EReal) (l : Fin 128) (x : EReal) : ℕ → EReal
  | 0 => x
  | c + 1 => chunkFold op (fun j u => F (1024 * c + 256 * j.val + u.val)) l (laneFold op F l x c)

/-- The score of the staged arrays of chunk `c`. -/
theorem score_staged {sp sp' sp'' : Space} (v11 : View sig .tc sp S4x1024x128 .fp8e4m3) (f11 : v11.ty.Contents (Elt Ideal)) (v : View sig .tc sp' S1024x4x128 .fp8e4m3)
    (pay : S1024x4x128.Idx → EReal) (v12 : View sig .tc sp'' S4x8x1024 .f32) (f12 : v12.ty.Contents (Elt Ideal)) (X : S1x4x131072.Idx → EReal) (off : Fin 4 → Fin 3 → ℕ) (inb)
    (qs : FVec Ideal S28x1x1 .f32) (c : Fin 128) (eo : ∀ p : Fin 4, off p = ![0, p.val, 1024 * c.val]) (Q : S4x224x128.Idx → EReal)
    (K : Fin 131072 → Fin 4 → Fin 128 → EReal) (hK : ∀ (u : Fin 1024) κ d, pay (ix3 u κ d) = K ⟨1024 * c.val + u.val, by omega⟩ κ d)
    (κ : Fin 4) (g : Fin 7) (w : Fin 32) (j : Fin 4) (x : Fin 256) :
    score Q (v11.read (Elt Ideal) (v11.writes (Elt Ideal) f11 (keyStores v pay))) (v12.read (Elt Ideal) (v12.writes (Elt Ideal) f12 (scaleStores X off inb qs))) κ g w (tileCol j x)
      = scoreAt Q K X qs κ g w (posOf (1024 * c.val + 256 * j.val + x.val)) := by
  have ep : (⟨1024 * c.val + (tileCol j x).val, by omega⟩ : Fin 131072) = posOf (1024 * c.val + 256 * j.val + x.val) :=
    Fin.ext (by show 1024 * c.val + (256 * j.val + x.val) = (1024 * c.val + 256 * j.val + x.val) % 131072; omega)
  unfold score scoreAt
  rw [scale_read v12 f12 X off inb qs c eo κ g (tileCol j x), ep]
  refine congrArg (· * _) (Finset.sum_congr rfl fun d _ => congrArg (_ * ·) ?_)
  refine (key_read v11 f11 v pay κ (tileCol j x) d).trans ?_
  rw [hK, ep]

theorem iv_eq (k : ℕ) : Scf.iv 0#32 1#32 k = BitVec.ofNat 32 k := by simp [Scf.iv]

/-- The tile's mask, of words. -/
theorem mask_words {v1 v2 : BitVec 32} (h : Fits v1) (hv : v2 = Scalar.subi v1 32#32) {k : ℕ} (hk : k < 128) (j : Fin 4) (x : Fin 256) (w : Fin 32) (s : EReal) :
    maskAt (Scalar.addi (Scalar.muli (Scf.iv 0#32 1#32 k) 1024#32) (Scalar.muli (Scf.iv 0#32 1#32 j.val) 256#32)) v2 w x s
      = if 1024 * k + 256 * j.val + x.val + 32 ≤ v1.toNat + w.val then s else ⊥ := by
  subst hv
  rw [iv_eq, iv_eq]
  have hl := h.2
  have hl1 := h.1
  unfold maskAt
  have e : ((Scalar.addi (Scalar.muli (BitVec.ofNat 32 k) 1024#32) (Scalar.muli (BitVec.ofNat 32 j.val) 256#32) + BitVec.ofNat 32 x.val).sle (Scalar.subi v1 32#32 + BitVec.ofNat 32 w.val) = true)
      ↔ 1024 * k + 256 * j.val + x.val + 32 ≤ v1.toNat + w.val := by
    have hj := j.isLt
    have hx := x.isLt
    have hw := w.isLt
    generalize j.val = j at *
    generalize x.val = x at *
    generalize w.val = w at *
    show ((BitVec.ofNat 32 k * 1024#32 + BitVec.ofNat 32 j * 256#32 + BitVec.ofNat 32 x).sle (v1 - 32#32 + BitVec.ofNat 32 w) = true) ↔ _
    rw [BitVec.sle_iff_toInt_le, BitVec.toInt_eq_toNat_cond, BitVec.toInt_eq_toNat_cond]
    simp only [BitVec.toNat_add, BitVec.toNat_mul, BitVec.toNat_sub, BitVec.toNat_ofNat]
    omega
  simp only [e]

/-- A chunk inside the prefix is seen by every row. -/
theorem inside_words {v1 v2 : BitVec 32} (h : Fits v1) (hv : v2 = Scalar.subi v1 32#32) {k : ℕ} (hk : k < 128)
    (hin : Scalar.cmpi .ne (Scalar.extui (Scalar.cmpi .sle (Scalar.muli (Scalar.addi (Scf.iv 0#32 1#32 k) 1#32) 1024#32) v2)) 0#32 = 1#1) :
    1024 * (k + 1) + 32 ≤ v1.toNat := by
  subst hv
  rw [iv_eq] at hin
  have hl := h.2
  have hl1 := h.1
  have e : ((BitVec.ofNat 32 k + 1#32) * 1024#32).sle (v1 - 32#32) = true := by
    by_contra hb
    rw [Bool.not_eq_true] at hb
    have : Scalar.cmpi .sle (Scalar.muli (Scalar.addi (BitVec.ofNat 32 k) 1#32) 1024#32) (Scalar.subi v1 32#32) = 0#1 := by
      show BitVec.ofBool _ = 0#1
      exact congrArg BitVec.ofBool hb
    rw [this] at hin
    revert hin; decide
  rw [BitVec.sle_iff_toInt_le, BitVec.toInt_eq_toNat_cond, BitVec.toInt_eq_toNat_cond] at e
  simp only [BitVec.toNat_add, BitVec.toNat_mul, BitVec.toNat_sub, BitVec.toNat_ofNat] at e
  omega

/-- One chunk of a lane. -/
theorem lane_step (op : EReal → EReal → EReal) (e : Fin 4 → Fin 256 → EReal) (F : ℕ → EReal) (l : Fin 128) (x y : EReal) (c : ℕ)
    (he : ∀ j u, e j u = F (1024 * c + 256 * j.val + u.val)) (hx : x = laneFold op F l y c) : chunkFold op e l x = laneFold op F l y (c + 1) := by
  have : e = fun j u => F (1024 * c + 256 * j.val + u.val) := funext fun j => funext fun u => he j u
  rw [this, hx]; rfl

/-- The key at a position. -/
abbrev keyAt (c : Dev nD) (i : grid0.Coords) (XA : Buf (Elt Ideal) (aM.view.loc (c : Thread nD τ))) (p : Fin 131072) (κ : Fin 4) (d : Fin 128) : EReal :=
  aM.view.read (Elt Ideal) XA (ix4 (i 0) p κ d)

theorem payload_at (c : Dev nD) (i : grid0.Coords) (XA : Buf (Elt Ideal) (aM.view.loc (c : Thread nD τ))) (b : Fin 128) (u : Fin 1024) (κ : Fin 4) (d : Fin 128) :
    payload (F := Ideal) c i XA b (ix3 u κ d) = keyAt c i XA ⟨1024 * b.val + u.val, by omega⟩ κ d := by
  refine (shapeCast_1abc_abc_apply (fun y : S1x1024x4x128.Idx => aM.view.read (Elt Ideal) XA
    ((Rect.unit (s := S2x131072x4x128) (chOff i b) S1x1024x4x128.size (chOff_inb i b)).emb y)) (by decide +kernel) u κ d).trans ?_
  refine congrArg (aM.view.read (Elt Ideal) XA) (funext fun a => Fin.ext ?_)
  match a with
  | ⟨0, _⟩ => show (i 0).val + 1 * 0 = (i 0).val; omega
  | ⟨1, _⟩ => show b.val * 1024 + 1 * u.val = 1024 * b.val + u.val; omega
  | ⟨2, _⟩ => show 0 + 1 * κ.val = κ.val; omega
  | ⟨3, _⟩ => show 0 + 1 * d.val = d.val; omega

/-- The score of the staged arrays of chunk `k` of the stream. -/
theorem score_chunk {sp sp' sp'' : Space} (v11 : View sig .tc sp S4x1024x128 .fp8e4m3) (f11 : v11.ty.Contents (Elt Ideal)) (v : View sig .tc sp' S1024x4x128 .fp8e4m3)
    (c : Dev nD) (i : grid0.Coords) (XA : Buf (Elt Ideal) (aM.view.loc (c : Thread nD τ)))
    (v12 : View sig .tc sp'' S4x8x1024 .f32) (f12 : v12.ty.Contents (Elt Ideal)) (X : S1x4x131072.Idx → EReal) (off : Fin 4 → Fin 3 → ℕ) (inb)
    (qs : FVec Ideal S28x1x1 .f32) {k : ℕ} (hk : k < 128) (eo : ∀ p : Fin 4, off p = ![0, p.val, 1024 * k]) (Q : S4x224x128.Idx → EReal)
    (κ : Fin 4) (g : Fin 7) (w : Fin 32) (j : Fin 4) (x : Fin 256) :
    score Q (v11.read (Elt Ideal) (v11.writes (Elt Ideal) f11 (keyStores v (payload (F := Ideal) c i XA (Ring.bk 128 k))))) (v12.read (Elt Ideal) (v12.writes (Elt Ideal) f12 (scaleStores X off inb qs))) κ g w (tileCol j x)
      = scoreAt Q (keyAt c i XA) X qs κ g w (posOf (1024 * k + 256 * j.val + x.val)) :=
  score_staged v11 f11 v _ v12 f12 X off inb qs ⟨k, hk⟩ eo Q (keyAt c i XA) (fun u κ d => (payload_at c i XA _ u κ d).trans
    (congrArg (fun p => keyAt c i XA p κ d) (Fin.ext (by show 1024 * (Ring.bk 128 k).val + u.val = 1024 * k + u.val; rw [bk_val hk])))) κ g w j x

theorem off_inb {off : Fin 4 → Fin 3 → ℕ} {k : ℕ} (hk : k < 128) (eo : ∀ p : Fin 4, off p = ![0, p.val, 1024 * k]) (p : Fin 4) (a : Fin 3) :
    off p a + (![1, 1, 1024] : Fin 3 → ℕ) a ≤ S1x4x131072.size a := by
  rw [eo p]
  match a with
  | ⟨0, _⟩ => show 0 + 1 ≤ 1; omega
  | ⟨1, _⟩ => show p.val + 1 ≤ 4; omega
  | ⟨2, _⟩ => show 1024 * k + 1024 ≤ 131072; omega

end Cert.KernelIdeal.Own
end
-- ==== Proof.StreamI.lean ====
/-
  One chunk of each of the four streams, and the streams' loop invariants: the ring at the chunk, the staged keys and
  their scales at anything, the stream's accumulator at the fold of the chunks before.
-/
module

public import proofs.«01_k».proof.Proof.Score

@[expose] public section

set_option maxRecDepth 8192
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

local notation "𝕄" => MT nD τ sig Unit (Elt Ideal) ℕ (UU nD τ) ℕ

/-- A tile is inside the prefix or it is not: the two conditions the trip tests. -/
theorem inside_or : ∀ b : BitVec 1, (Scalar.cmpi .ne (Scalar.extui b) 0#32 = 1#1 ∧ ¬ Scalar.cmpi .ne (Scalar.extui (Scalar.xori b 1#1)) 0#32 = 1#1)
      ∨ (¬ Scalar.cmpi .ne (Scalar.extui b) 0#32 = 1#1 ∧ Scalar.cmpi .ne (Scalar.extui (Scalar.xori b 1#1)) 0#32 = 1#1) := by
  decide

/-- The word of a chunk's offset. -/
theorem off_word : ∀ m : ℕ, m < 128 → BitVec.toNat (Scalar.indexCast (Scalar.muli (Scf.iv (0#32) (1#32) m) 1024#32)) = 1024 * m := by decide +kernel

/-- An accumulator at the fold of the chunks before `k`, lane by lane. -/
def laneP {sp : Space} (v : View sig .tc sp S4x224x128 .f32) (op : EReal → EReal → EReal) (F : Fin 4 → Fin 7 → Fin 32 → Fin 128 → ℕ → EReal) (x : EReal) (k : ℕ)
    (f : v.ty.Contents (Elt Ideal)) : Prop :=
  ∀ κ g w l, v.read (Elt Ideal) f (ix3 κ (blkRow g w) l) = laneFold op (F κ g w l) l x k

/-- The accumulator's buffer at that fold; and the word of the prefix, the length less the window. -/
@[irreducible] def laneHeld (c : Dev nD) {sp : Space} (arg : Memref sig .tc sp S4x224x128 .f32) (v1 v2 : BitVec 32) (op : EReal → EReal → EReal)
    (F : Fin 4 → Fin 7 → Fin 32 → Fin 128 → ℕ → EReal) (x : EReal) (k : ℕ) : sProp 𝕄 :=
  iprop(∃ f, ⌜v2 = Scalar.subi v1 32#32 ∧ laneP arg.view op F x k f⌝ ∗ (arg.view.loc (c : Thread nD τ) ↦[arg.view.set]{fullShare} f))

/-! ## Stream `k0_t1` -/

section
variable (𝒱 : Variants) (c : Dev nD) (bd : Option 𝒱.V) (XA : Buf (Elt Ideal) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt Ideal .i32) (k0_hw1 : k0_chk1 i v1) (v2 : BitVec 32) (v21 : BitVec 32) (v152 : FVec Ideal S28x1x1 .f32) (v159 : FVec Ideal S4x224x128 .f32) (v160 : Vec Ideal S4x224x128 .f32) (X_arg4 : BufTy.Contents (Elt Ideal) arg4.view.ty) (X_arg13 : BufTy.Contents (Elt Ideal) arg13.view.ty)

/-- What stream `k0_t1` holds before chunk `k`. -/
def res_t1 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (∃ f, arg11.view.loc (c : Thread nD τ) ↦[arg11.view.set]{fullShare} f) ∗ (∃ f, arg12.view.loc (c : Thread nD τ) ↦[arg12.view.set]{fullShare} f) ∗ laneHeld c arg14 v1 v2 (· + ·) (fun κ g w l p => Ideal.exp2 (maskedScore (arg13.view.read (Elt Ideal) X_arg13) (keyAt c i XA) (arg4.view.read (Elt Ideal) X_arg4) v152 v1.toNat κ g w p)) 0 k)

theorem trip_t1 (k : Fin (k0_t1_loop v1).trips) (acc : BitVec 32) :
    res_t1 c XA i arg4 arg11 arg12 arg13 arg14 v1 v2 v152 X_arg4 X_arg13 k.val
      ⊢ wp frame (wpE (defs₀ (F := Ideal)) 𝒱 (c : Thread nD τ) bd) Set.univ (k0_t1_body (F := Ideal) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v159 v160 k acc)
        (fun _ => res_t1 c XA i arg4 arg11 arg12 arg13 arg14 v1 v2 v152 X_arg4 X_arg13 (k.val + 1)) := by
  have hoff : ∀ (hF : Fits v1) (p : Fin 4), (![k0_off9 v1 k, k0_off10 v1 k, k0_off11 v1 k, k0_off12 v1 k] : Fin 4 → Fin 3 → ℕ) p = ![0, p.val, 1024 * k.val] := fun hF p => by
    have hk := lt_of_lt_of_le (lt_of_lt_of_eq k.isLt (trips_t1 hF)) (nC_le hF)
    match p with
    | ⟨0, _⟩ => show k0_off9 v1 k = _; exact congrArg (fun n : ℕ => (![0, 0, n] : Fin 3 → ℕ)) (off_word _ hk)
    | ⟨1, _⟩ => show k0_off10 v1 k = _; exact congrArg (fun n : ℕ => (![0, 1, n] : Fin 3 → ℕ)) (off_word _ hk)
    | ⟨2, _⟩ => show k0_off11 v1 k = _; exact congrArg (fun n : ℕ => (![0, 2, n] : Fin 3 → ℕ)) (off_word _ hk)
    | ⟨3, _⟩ => show k0_off12 v1 k = _; exact congrArg (fun n : ℕ => (![0, 3, n] : Fin 3 → ℕ)) (off_word _ hk)
  unfold res_t1 laneHeld
  iintro ⟨%h, HR, ⟨%W, HW⟩, H4, H13, ⟨%f11, H11⟩, ⟨%f12, H12⟩, ⟨%fw, ⟨%hw, Hw⟩⟩⟩
  have hkn : k.val < nC v1 := lt_of_lt_of_eq k.isLt (trips_t1 h)
  obtain ⟨hv, hl⟩ := hw
  have hk8 : k.val < 128 := lt_of_lt_of_le hkn (nC_le h)
  have hc : k0_cond1 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases inside_or (Scalar.cmpi .sle (Scalar.muli (Scalar.addi (Scf.iv 0#32 1#32 k.val) 1#32) 1024#32) v2) with ⟨hin, hout⟩ | ⟨hin, hout⟩
    · sl_unfold [k0_t1_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t2 (kv := κ) (g := g) (w := w) (l := l) ..) ?_⟩
      refine lane_step _ _ _ l _ _ k.val (fun j u => ?_) (hl κ g w l)
      exact (congrArg Ideal.exp2 ((score_chunk _ _ _ c i XA _ _ (arg4.view.read (Elt Ideal) X_arg4) _ (off_inb hk8 (hoff h)) v152 hk8 (hoff h) _ κ g w j u).trans (if_pos (by have := inside_words h hv hk8 hin; omega)).symm))
    · sl_unfold [k0_t1_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t4 (kv := κ) (g := g) (w := w) (l := l) ..) ?_⟩
      refine lane_step _ _ _ l _ _ k.val (fun j u => ?_) (hl κ g w l)
      exact (congrArg Ideal.exp2 ((mask_words h hv hk8 j u w _).trans (if_congr Iff.rfl (score_chunk _ _ _ c i XA _ _ (arg4.view.read (Elt Ideal) X_arg4) _ (off_inb hk8 (hoff h)) v152 hk8 (hoff h) _ κ g w j u) rfl)))
  · have hc1 : ¬ k0_cond1 v1 k = 1#1 := fun e => hn (hc.mp e)
    irw [ringP_ge c i XA hn]
    rcases inside_or (Scalar.cmpi .sle (Scalar.muli (Scalar.addi (Scf.iv 0#32 1#32 k.val) 1#32) 1024#32) v2) with ⟨hin, hout⟩ | ⟨hin, hout⟩
    · sl_unfold [k0_t1_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t2 (kv := κ) (g := g) (w := w) (l := l) ..) ?_⟩
      refine lane_step _ _ _ l _ _ k.val (fun j u => ?_) (hl κ g w l)
      exact (congrArg Ideal.exp2 ((score_chunk _ _ _ c i XA _ _ (arg4.view.read (Elt Ideal) X_arg4) _ (off_inb hk8 (hoff h)) v152 hk8 (hoff h) _ κ g w j u).trans (if_pos (by have := inside_words h hv hk8 hin; omega)).symm))
    · sl_unfold [k0_t1_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t4 (kv := κ) (g := g) (w := w) (l := l) ..) ?_⟩
      refine lane_step _ _ _ l _ _ k.val (fun j u => ?_) (hl κ g w l)
      exact (congrArg Ideal.exp2 ((mask_words h hv hk8 j u w _).trans (if_congr Iff.rfl (score_chunk _ _ _ c i XA _ _ (arg4.view.read (Elt Ideal) X_arg4) _ (off_inb hk8 (hoff h)) v152 hk8 (hoff h) _ κ g w j u) rfl)))

set_option warn.classDefReducibility false in
/-- The stream's invariant, instanced. -/
@[sl_loop] def loopInv_k0_t1 (init : BitVec 32) : LoopInvTy_k0_t1 (F := Ideal) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v159 v160 init where
  inv k _ := res_t1 c XA i arg4 arg11 arg12 arg13 arg14 v1 v2 v152 X_arg4 X_arg13 k
  step k acc := trip_t1 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 k0_hw1 v2 v21 v152 v159 v160 X_arg4 X_arg13 k acc

end

/-! ## Stream `k0_t11` -/

section
variable (𝒱 : Variants) (c : Dev nD) (bd : Option 𝒱.V) (XA : Buf (Elt Ideal) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt Ideal .i32) (v2 : BitVec 32) (v21 : BitVec 32) (v152 : FVec Ideal S28x1x1 .f32) (v191 : BitVec 1) (k0_hw2 : k0_chk2 i v1 v191) (k0_h7 : k0_cond7 v191 = 1#1) (X_arg4 : BufTy.Contents (Elt Ideal) arg4.view.ty) (X_arg13 : BufTy.Contents (Elt Ideal) arg13.view.ty)

/-- What stream `k0_t11` holds before chunk `k`. -/
def res_t11 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (∃ f, arg11.view.loc (c : Thread nD τ) ↦[arg11.view.set]{fullShare} f) ∗ (∃ f, arg12.view.loc (c : Thread nD τ) ↦[arg12.view.set]{fullShare} f) ∗ laneHeld c arg15 v1 v2 max (fun κ g w l p => maskedScore (arg13.view.read (Elt Ideal) X_arg13) (keyAt c i XA) (arg4.view.read (Elt Ideal) X_arg4) v152 v1.toNat κ g w p) ⊥ k)

theorem trip_t11 (k : Fin (k0_t11_loop v1).trips) (acc : BitVec 32) :
    res_t11 c XA i arg4 arg11 arg12 arg13 arg15 v1 v2 v152 X_arg4 X_arg13 k.val
      ⊢ wp frame (wpE (defs₀ (F := Ideal)) 𝒱 (c : Thread nD τ) bd) Set.univ (k0_t11_body (F := Ideal) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 k0_h7 k acc)
        (fun _ => res_t11 c XA i arg4 arg11 arg12 arg13 arg15 v1 v2 v152 X_arg4 X_arg13 (k.val + 1)) := by
  have hoff : ∀ (hF : Fits v1) (p : Fin 4), (![k0_off94 v1 k, k0_off95 v1 k, k0_off96 v1 k, k0_off97 v1 k] : Fin 4 → Fin 3 → ℕ) p = ![0, p.val, 1024 * k.val] := fun hF p => by
    have hk := lt_of_lt_of_le (lt_of_lt_of_eq k.isLt (trips_t1 hF)) (nC_le hF)
    match p with
    | ⟨0, _⟩ => show k0_off94 v1 k = _; exact congrArg (fun n : ℕ => (![0, 0, n] : Fin 3 → ℕ)) (off_word _ hk)
    | ⟨1, _⟩ => show k0_off95 v1 k = _; exact congrArg (fun n : ℕ => (![0, 1, n] : Fin 3 → ℕ)) (off_word _ hk)
    | ⟨2, _⟩ => show k0_off96 v1 k = _; exact congrArg (fun n : ℕ => (![0, 2, n] : Fin 3 → ℕ)) (off_word _ hk)
    | ⟨3, _⟩ => show k0_off97 v1 k = _; exact congrArg (fun n : ℕ => (![0, 3, n] : Fin 3 → ℕ)) (off_word _ hk)
  unfold res_t11 laneHeld
  iintro ⟨%h, HR, ⟨%W, HW⟩, H4, H13, ⟨%f11, H11⟩, ⟨%f12, H12⟩, ⟨%fw, ⟨%hw, Hw⟩⟩⟩
  have hkn : k.val < nC v1 := lt_of_lt_of_eq k.isLt (trips_t1 h)
  obtain ⟨hv, hl⟩ := hw
  have hk8 : k.val < 128 := lt_of_lt_of_le hkn (nC_le h)
  have hc : k0_cond8 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases inside_or (Scalar.cmpi .sle (Scalar.muli (Scalar.addi (Scf.iv 0#32 1#32 k.val) 1#32) 1024#32) v2) with ⟨hin, hout⟩ | ⟨hin, hout⟩
    · sl_unfold [k0_t11_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t12 (kv := κ) (g := g) (w := w) (l := l) ..) ?_⟩
      refine lane_step _ _ _ l _ _ k.val (fun j u => ?_) (hl κ g w l)
      exact (score_chunk _ _ _ c i XA _ _ (arg4.view.read (Elt Ideal) X_arg4) _ (off_inb hk8 (hoff h)) v152 hk8 (hoff h) _ κ g w j u).trans (if_pos (by have := inside_words h hv hk8 hin; omega)).symm
    · sl_unfold [k0_t11_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t14 (kv := κ) (g := g) (w := w) (l := l) ..) ?_⟩
      refine lane_step _ _ _ l _ _ k.val (fun j u => ?_) (hl κ g w l)
      exact (mask_words h hv hk8 j u w _).trans (if_congr Iff.rfl (score_chunk _ _ _ c i XA _ _ (arg4.view.read (Elt Ideal) X_arg4) _ (off_inb hk8 (hoff h)) v152 hk8 (hoff h) _ κ g w j u) rfl)
  · have hc1 : ¬ k0_cond8 v1 k = 1#1 := fun e => hn (hc.mp e)
    irw [ringP_ge c i XA hn]
    rcases inside_or (Scalar.cmpi .sle (Scalar.muli (Scalar.addi (Scf.iv 0#32 1#32 k.val) 1#32) 1024#32) v2) with ⟨hin, hout⟩ | ⟨hin, hout⟩
    · sl_unfold [k0_t11_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t12 (kv := κ) (g := g) (w := w) (l := l) ..) ?_⟩
      refine lane_step _ _ _ l _ _ k.val (fun j u => ?_) (hl κ g w l)
      exact (score_chunk _ _ _ c i XA _ _ (arg4.view.read (Elt Ideal) X_arg4) _ (off_inb hk8 (hoff h)) v152 hk8 (hoff h) _ κ g w j u).trans (if_pos (by have := inside_words h hv hk8 hin; omega)).symm
    · sl_unfold [k0_t11_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; isplitr; swap; (iexact Hw); ipureintro
      refine ⟨hv, fun κ g w l => Eq.trans (chunk_t14 (kv := κ) (g := g) (w := w) (l := l) ..) ?_⟩
      refine lane_step _ _ _ l _ _ k.val (fun j u => ?_) (hl κ g w l)
      exact (mask_words h hv hk8 j u w _).trans (if_congr Iff.rfl (score_chunk _ _ _ c i XA _ _ (arg4.view.read (Elt Ideal) X_arg4) _ (off_inb hk8 (hoff h)) v152 hk8 (hoff h) _ κ g w j u) rfl)

set_option warn.classDefReducibility false in
/-- The stream's invariant, instanced. -/
@[sl_loop] def loopInv_k0_t11 (init : BitVec 32) : LoopInvTy_k0_t11 (F := Ideal) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 k0_h7 init where
  inv k _ := res_t11 c XA i arg4 arg11 arg12 arg13 arg15 v1 v2 v152 X_arg4 X_arg13 k
  step k acc := trip_t11 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 v2 v21 v152 v191 k0_hw2 k0_h7 X_arg4 X_arg13 k acc

end

/-! ## Stream `k0_t21` -/

section
variable (𝒱 : Variants) (c : Dev nD) (bd : Option 𝒱.V) (XA : Buf (Elt Ideal) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt Ideal .i32) (v2 : BitVec 32) (v21 : BitVec 32) (v152 : FVec Ideal S28x1x1 .f32) (v191 : BitVec 1) (k0_hw2 : k0_chk2 i v1 v191) (v192 : FVec Ideal S4x224x1 .f32) (v193 : FVec Ideal S4x224x1 .f32) (k0_h7 : k0_cond7 v191 = 1#1) (X_arg4 : BufTy.Contents (Elt Ideal) arg4.view.ty) (X_arg13 : BufTy.Contents (Elt Ideal) arg13.view.ty) (X_arg15 : BufTy.Contents (Elt Ideal) arg15.view.ty)

/-- What stream `k0_t21` holds before chunk `k`. -/
def res_t21 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (arg15.view.loc (c : Thread nD τ) ↦[arg15.view.set]{fullShare} X_arg15) ∗ (∃ f, arg11.view.loc (c : Thread nD τ) ↦[arg11.view.set]{fullShare} f) ∗ (∃ f, arg12.view.loc (c : Thread nD τ) ↦[arg12.view.set]{fullShare} f) ∗ laneHeld c arg14 v1 v2 (· + ·) (fun κ g w l p => Ideal.exp2 (maskedScore (arg13.view.read (Elt Ideal) X_arg13) (keyAt c i XA) (arg4.view.read (Elt Ideal) X_arg4) v152 v1.toNat κ g w p - arg15.view.read (Elt Ideal) X_arg15 (ix3 κ (blkRow g w) l))) 0 k)

theorem trip_t21 (k : Fin (k0_t21_loop v1).trips) (acc : BitVec 32) :
    res_t21 c XA i arg4 arg11 arg12 arg13 arg14 arg15 v1 v2 v152 X_arg4 X_arg13 X_arg15 k.val
      ⊢ wp frame (wpE (defs₀ (F := Ideal)) 𝒱 (c : Thread nD τ) bd) Set.univ (k0_t21_body (F := Ideal) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 v192 v193 k0_h7 k acc)
        (fun _ => res_t21 c XA i arg4 arg11 arg12 arg13 arg14 arg15 v1 v2 v152 X_arg4 X_arg13 X_arg15 (k.val + 1)) := by
  have hoff : ∀ (hF : Fits v1) (p : Fin 4), (![k0_off178 v1 k, k0_off179 v1 k, k0_off180 v1 k, k0_off181 v1 k] : Fin 4 → Fin 3 → ℕ) p = ![0, p.val, 1024 * k.val] := fun hF p => by
    have hk := lt_of_lt_of_le (lt_of_lt_of_eq k.isLt (trips_t1 hF)) (nC_le hF)
    match p with
    | ⟨0, _⟩ => show k0_off178 v1 k = _; exact congrArg (fun n : ℕ => (![0, 0, n] : Fin 3 → ℕ)) (off_word _ hk)
    | ⟨1, _⟩ => show k0_off179 v1 k = _; exact congrArg (fun n : ℕ => (![0, 1, n] : Fin 3 → ℕ)) (off_word _ hk)
    | ⟨2, _⟩ => show k0_off180 v1 k = _; exact congrArg (fun n : ℕ => (![0, 2, n] : Fin 3 → ℕ)) (off_word _ hk)
    | ⟨3, _⟩ => show k0_off181 v1 k = _; exact congrArg (fun n : ℕ => (![0, 3, n] : Fin 3 → ℕ)) (off_word _ hk)
  unfold res_t21 laneHeld
  iintro ⟨%h, HR, ⟨%W, HW⟩, H4, H13, H15, ⟨%f11, H11⟩, ⟨%f12, H12⟩, ⟨%fw, ⟨%hw, Hw⟩⟩⟩
  have hkn : k.val < nC v1 := lt_of_lt_of_eq k.isLt (trips_t1 h)
  obtain ⟨hv, hl⟩ := hw
  have hk8 : k.val < 128 := lt_of_lt_of_le hkn (nC_le h)
  have hc : k0_cond14 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases inside_or (Scalar.cmpi .sle (Scalar.muli (Scalar.addi (Scf.iv 0#32 1#32 k.val) 1#32) 1024#32) v2) with ⟨hin, hout⟩ | ⟨hin, hout⟩
    · sl_unfold [k0_t21_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; isplitr; swap; (iexact Hw); ipureintro
      refine ⟨hv, fun κ g w l => Eq.trans (chunk_t22 (kv := κ) (g := g) (w := w) (l := l) ..) ?_⟩
      refine lane_step _ _ _ l _ _ k.val (fun j u => ?_) (hl κ g w l)
      exact (congrArg (fun z => Ideal.exp2 (z - arg15.view.read (Elt Ideal) X_arg15 (ix3 κ (blkRow g w) l))) ((score_chunk _ _ _ c i XA _ _ (arg4.view.read (Elt Ideal) X_arg4) _ (off_inb hk8 (hoff h)) v152 hk8 (hoff h) _ κ g w j u).trans (if_pos (by have := inside_words h hv hk8 hin; omega)).symm))
    · sl_unfold [k0_t21_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; isplitr; swap; (iexact Hw); ipureintro
      refine ⟨hv, fun κ g w l => Eq.trans (chunk_t24 (kv := κ) (g := g) (w := w) (l := l) ..) ?_⟩
      refine lane_step _ _ _ l _ _ k.val (fun j u => ?_) (hl κ g w l)
      exact (congrArg (fun z => Ideal.exp2 (z - arg15.view.read (Elt Ideal) X_arg15 (ix3 κ (blkRow g w) l))) ((mask_words h hv hk8 j u w _).trans (if_congr Iff.rfl (score_chunk _ _ _ c i XA _ _ (arg4.view.read (Elt Ideal) X_arg4) _ (off_inb hk8 (hoff h)) v152 hk8 (hoff h) _ κ g w j u) rfl)))
  · have hc1 : ¬ k0_cond14 v1 k = 1#1 := fun e => hn (hc.mp e)
    irw [ringP_ge c i XA hn]
    rcases inside_or (Scalar.cmpi .sle (Scalar.muli (Scalar.addi (Scf.iv 0#32 1#32 k.val) 1#32) 1024#32) v2) with ⟨hin, hout⟩ | ⟨hin, hout⟩
    · sl_unfold [k0_t21_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; isplitr; swap; (iexact Hw); ipureintro
      refine ⟨hv, fun κ g w l => Eq.trans (chunk_t22 (kv := κ) (g := g) (w := w) (l := l) ..) ?_⟩
      refine lane_step _ _ _ l _ _ k.val (fun j u => ?_) (hl κ g w l)
      exact (congrArg (fun z => Ideal.exp2 (z - arg15.view.read (Elt Ideal) X_arg15 (ix3 κ (blkRow g w) l))) ((score_chunk _ _ _ c i XA _ _ (arg4.view.read (Elt Ideal) X_arg4) _ (off_inb hk8 (hoff h)) v152 hk8 (hoff h) _ κ g w j u).trans (if_pos (by have := inside_words h hv hk8 hin; omega)).symm))
    · sl_unfold [k0_t21_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; isplitr; swap; (iexact Hw); ipureintro
      refine ⟨hv, fun κ g w l => Eq.trans (chunk_t24 (kv := κ) (g := g) (w := w) (l := l) ..) ?_⟩
      refine lane_step _ _ _ l _ _ k.val (fun j u => ?_) (hl κ g w l)
      exact (congrArg (fun z => Ideal.exp2 (z - arg15.view.read (Elt Ideal) X_arg15 (ix3 κ (blkRow g w) l))) ((mask_words h hv hk8 j u w _).trans (if_congr Iff.rfl (score_chunk _ _ _ c i XA _ _ (arg4.view.read (Elt Ideal) X_arg4) _ (off_inb hk8 (hoff h)) v152 hk8 (hoff h) _ κ g w j u) rfl)))

set_option warn.classDefReducibility false in
/-- The stream's invariant, instanced. -/
@[sl_loop] def loopInv_k0_t21 (init : BitVec 32) : LoopInvTy_k0_t21 (F := Ideal) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 v192 v193 k0_h7 init where
  inv k _ := res_t21 c XA i arg4 arg11 arg12 arg13 arg14 arg15 v1 v2 v152 X_arg4 X_arg13 X_arg15 k
  step k acc := trip_t21 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 v2 v21 v152 v191 k0_hw2 v192 v193 k0_h7 X_arg4 X_arg13 X_arg15 k acc

end

/-! ## Stream `k0_t31` -/

section
variable (𝒱 : Variants) (c : Dev nD) (bd : Option 𝒱.V) (XA : Buf (Elt Ideal) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt Ideal .i32) (k0_hw1 : k0_chk1 i v1) (v2 : BitVec 32) (v21 : BitVec 32) (v152 : FVec Ideal S28x1x1 .f32) (v230 : FVec Ideal S4x224x128 .f32) (v231 : Vec Ideal S1x4x224x128 .f32) (X_arg4 : BufTy.Contents (Elt Ideal) arg4.view.ty) (X_arg13 : BufTy.Contents (Elt Ideal) arg13.view.ty) (X_arg15 : BufTy.Contents (Elt Ideal) arg15.view.ty)

/-- What stream `k0_t31` holds before chunk `k`. -/
def res_t31 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (arg15.view.loc (c : Thread nD τ) ↦[arg15.view.set]{fullShare} X_arg15) ∗ (∃ f, arg11.view.loc (c : Thread nD τ) ↦[arg11.view.set]{fullShare} f) ∗ (∃ f, arg12.view.loc (c : Thread nD τ) ↦[arg12.view.set]{fullShare} f) ∗ (∃ f, arg6.view.loc (c : Thread nD τ) ↦[arg6.view.set]{fullShare} f))

theorem trip_t31 (k : Fin (k0_t31_loop v1).trips) (acc : BitVec 32) :
    res_t31 c XA i arg4 arg6 arg11 arg12 arg13 arg15 v1 X_arg4 X_arg13 X_arg15 k.val
      ⊢ wp frame (wpE (defs₀ (F := Ideal)) 𝒱 (c : Thread nD τ) bd) Set.univ (k0_t31_body (F := Ideal) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v230 v231 k acc)
        (fun _ => res_t31 c XA i arg4 arg6 arg11 arg12 arg13 arg15 v1 X_arg4 X_arg13 X_arg15 (k.val + 1)) := by
  unfold res_t31
  iintro ⟨%h, HR, ⟨%W, HW⟩, H4, H13, H15, ⟨%f11, H11⟩, ⟨%f12, H12⟩, ⟨%fw, Hw⟩⟩
  have hkn : k.val < nC v1 := lt_of_lt_of_eq k.isLt (trips_t1 h)
  have hc : k0_cond20 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases (show (k0_cond21 v1 k = 1#1 ∧ ¬ k0_cond22 v1 k = 1#1) ∨ (¬ k0_cond21 v1 k = 1#1 ∧ k0_cond22 v1 k = 1#1) from inside_or _) with ⟨hin, hout⟩ | ⟨hin, hout⟩
    · sl_unfold [k0_t31_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
    · sl_unfold [k0_t31_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
  · have hc1 : ¬ k0_cond20 v1 k = 1#1 := fun e => hn (hc.mp e)
    irw [ringP_ge c i XA hn]
    rcases (show (k0_cond21 v1 k = 1#1 ∧ ¬ k0_cond22 v1 k = 1#1) ∨ (¬ k0_cond21 v1 k = 1#1 ∧ k0_cond22 v1 k = 1#1) from inside_or _) with ⟨hin, hout⟩ | ⟨hin, hout⟩
    · sl_unfold [k0_t31_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
    · sl_unfold [k0_t31_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw

set_option warn.classDefReducibility false in
/-- The stream's invariant, instanced. -/
@[sl_loop] def loopInv_k0_t31 (init : BitVec 32) : LoopInvTy_k0_t31 (F := Ideal) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v230 v231 init where
  inv k _ := res_t31 c XA i arg4 arg6 arg11 arg12 arg13 arg15 v1 X_arg4 X_arg13 X_arg15 k
  step k acc := trip_t31 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 k0_hw1 v2 v21 v152 v230 v231 X_arg4 X_arg13 X_arg15 k acc

end

end Cert.KernelIdeal.Own
-- ==== Proof.LogSum.lean ====
/- The sum of exponentials and the largest score that the lanes of a stream hold, and their logarithm: over the reals
   both of the kernel's ways to it are the plain one. -/
module

public import proofs.«01_k».proof.Proof.Score

@[expose] public section

set_option maxRecDepth 8192

noncomputable section

namespace Cert.KernelIdeal.Own

open Idealize.ShloMosaic Idealize.ShloMosaic.ValueIdx

/-! ## Sums and maxima over the lanes -/

theorem sum_block (h : ℕ → EReal) : ∑ p ∈ Finset.range 1024, h p
    = ∑ l : Fin 128, (((h l.val + h (128 + l.val)) + (h (256 + l.val) + h (256 + (128 + l.val)))) + ((h (512 + l.val) + h (512 + (128 + l.val))) + (h (768 + l.val) + h (768 + (128 + l.val))))) := by
  have half : ∀ g : ℕ → EReal, ∑ p ∈ Finset.range 256, g p = ∑ l : Fin 128, (g l.val + g (128 + l.val)) := fun g => by
    rw [show 256 = 128 + 128 from rfl, Finset.sum_range_add, Finset.sum_range, Finset.sum_range, ← Finset.sum_add_distrib]
  rw [show 1024 = 256 + 256 + (256 + 256) from rfl, Finset.sum_range_add, Finset.sum_range_add, Finset.sum_range_add]
  rw [half, half, half, half, ← Finset.sum_add_distrib, ← Finset.sum_add_distrib, ← Finset.sum_add_distrib]
  refine Finset.sum_congr rfl fun l _ => ?_
  rw [show 256 + 256 + (256 + l.val) = 768 + l.val by omega, show 256 + 256 + (256 + (128 + l.val)) = 768 + (128 + l.val) by omega]

theorem lane_sum (F : ℕ → EReal) (n : ℕ) : ∑ l : Fin 128, laneFold (· + ·) F l 0 n = ∑ p ∈ Finset.range (1024 * n), F p := by
  induction n with
  | zero => exact Finset.sum_const_zero
  | succ n ih =>
    rw [Nat.mul_succ, Finset.sum_range_add, ← ih, sum_block, ← Finset.sum_add_distrib]
    refine Finset.sum_congr rfl fun l _ => ?_
    show laneFold (· + ·) F l 0 n + (F (1024 * n + 256 * 0 + l.val) + F (1024 * n + 256 * 0 + (128 + l.val)))
        + (F (1024 * n + 256 * 1 + l.val) + F (1024 * n + 256 * 1 + (128 + l.val)))
        + (F (1024 * n + 256 * 2 + l.val) + F (1024 * n + 256 * 2 + (128 + l.val)))
        + (F (1024 * n + 256 * 3 + l.val) + F (1024 * n + 256 * 3 + (128 + l.val))) = _
    simp only [Nat.add_assoc, Nat.mul_zero, Nat.zero_add, Nat.mul_one, Nat.reduceMul, add_assoc]

theorem lane_max (F : ℕ → EReal) (b : EReal) (n : ℕ) : (∀ l : Fin 128, laneFold max F l ⊥ n ≤ b) ↔ ∀ p < 1024 * n, F p ≤ b := by
  induction n with
  | zero => exact ⟨fun _ p hp => absurd hp (by omega), fun _ l => bot_le⟩
  | succ n ih =>
    have step : ∀ l : Fin 128, laneFold max F l ⊥ (n + 1) ≤ b ↔ laneFold max F l ⊥ n ≤ b
        ∧ ∀ j : Fin 4, F (1024 * n + 256 * j.val + l.val) ≤ b ∧ F (1024 * n + 256 * j.val + (128 + l.val)) ≤ b := fun l => by
      show max (max (max (max (laneFold max F l ⊥ n) (max (F (1024 * n + 256 * 0 + l.val)) (F (1024 * n + 256 * 0 + (128 + l.val)))))
        (max (F (1024 * n + 256 * 1 + l.val)) (F (1024 * n + 256 * 1 + (128 + l.val)))))
        (max (F (1024 * n + 256 * 2 + l.val)) (F (1024 * n + 256 * 2 + (128 + l.val)))))
        (max (F (1024 * n + 256 * 3 + l.val)) (F (1024 * n + 256 * 3 + (128 + l.val)))) ≤ b ↔ _
      rw [Fin.forall_fin_succ, Fin.forall_fin_succ, Fin.forall_fin_succ, Fin.forall_fin_one]
      simp only [max_le_iff, and_assoc]
      rfl
    constructor
    · intro h p hp
      by_cases hlt : p < 1024 * n
      · exact ih.mp (fun l => ((step l).mp (h l)).1) p hlt
      · have hj := ((step ⟨(p - 1024 * n) % 128, by omega⟩).mp (h _)).2 ⟨(p - 1024 * n) / 256, by omega⟩
        by_cases hh : (p - 1024 * n) % 256 < 128
        · exact (congrArg F (show p = 1024 * n + 256 * ((p - 1024 * n) / 256) + (p - 1024 * n) % 128 by omega)).trans_le hj.1
        · exact (congrArg F (show p = 1024 * n + 256 * ((p - 1024 * n) / 256) + (128 + (p - 1024 * n) % 128) by omega)).trans_le hj.2
    · intro h l
      have hl := l.isLt
      refine (step l).mpr ⟨ih.mpr (fun p hp => h p (by omega)) l, fun j => ?_⟩
      have hj := j.isLt
      exact ⟨h _ (by omega), h _ (by omega)⟩

/-! ## The logarithm to base two -/

/-- The reciprocal of the logarithm of two. -/
def rln2 : ℝ := (Real.log 2)⁻¹
theorem log_two_pos : 0 < Real.log 2 := Real.log_pos (by norm_num)
theorem rln2_pos : 0 < rln2 := inv_pos.mpr log_two_pos

theorem exp2_mul (x : EReal) : Ideal.exp2 (x * (rln2 : EReal)) = Ideal.exp x := by
  induction x with
  | bot => rw [EReal.bot_mul_coe_of_pos rln2_pos]; rfl
  | top => rw [EReal.top_mul_coe_of_pos rln2_pos]; rfl
  | coe r =>
    rw [← EReal.coe_mul]
    show ((Real.rpow 2 (r * rln2) : ℝ) : EReal) = (Real.exp r : EReal)
    refine congrArg _ ?_
    show (2 : ℝ) ^ (r * rln2) = _
    rw [Real.rpow_def_of_pos (by norm_num), rln2]
    congr 1
    have := log_two_pos.ne'
    field_simp

theorem mul_back (x : EReal) : x * (rln2 : EReal) * ((Real.log 2 : ℝ) : EReal) = x := by
  rw [mul_assoc, ← EReal.coe_mul, rln2, inv_mul_cancel₀ log_two_pos.ne', EReal.coe_one, mul_one]

theorem add_mul_pos (a b : EReal) {c : ℝ} (hc : 0 < c) : (a + b) * (c : EReal) = a * c + b * c := by
  induction a with
  | bot => rw [EReal.bot_add, EReal.bot_mul_coe_of_pos hc, EReal.bot_add]
  | top =>
    induction b with
    | bot => rw [EReal.add_bot, EReal.bot_mul_coe_of_pos hc, EReal.add_bot]
    | top => rw [EReal.top_mul_coe_of_pos hc, EReal.top_add_top, EReal.top_mul_coe_of_pos hc]
    | coe r => rw [EReal.top_add_coe, EReal.top_mul_coe_of_pos hc, ← EReal.coe_mul, EReal.top_add_coe]
  | coe q =>
    induction b with
    | bot => rw [EReal.add_bot, EReal.bot_mul_coe_of_pos hc, EReal.add_bot]
    | top => rw [EReal.coe_add_top, EReal.top_mul_coe_of_pos hc, ← EReal.coe_mul, EReal.coe_add_top]
    | coe r => rw [← EReal.coe_add, ← EReal.coe_mul, ← EReal.coe_mul, ← EReal.coe_mul, ← EReal.coe_add, add_mul]

theorem sub_mul_pos (a b : EReal) {c : ℝ} (hc : 0 < c) : (a - b) * (c : EReal) = a * c - b * c := by
  rw [sub_eq_add_neg, sub_eq_add_neg, add_mul_pos _ _ hc, EReal.neg_mul]

theorem le_mul_iff (a b : EReal) : a * (rln2 : EReal) ≤ b ↔ a ≤ b * ((Real.log 2 : ℝ) : EReal) := by
  constructor
  · intro h
    have := mul_le_mul_of_nonneg_right h (show (0 : EReal) ≤ ((Real.log 2 : ℝ) : EReal) from EReal.coe_nonneg.mpr log_two_pos.le)
    rwa [mul_back] at this
  · intro h
    have := mul_le_mul_of_nonneg_right h (show (0 : EReal) ≤ ((rln2 : ℝ) : EReal) from EReal.coe_nonneg.mpr rln2_pos.le)
    rwa [mul_assoc, ← EReal.coe_mul, rln2, mul_inv_cancel₀ log_two_pos.ne', EReal.coe_one, mul_one] at this

/-! ## The plain log-sum-exp -/

/-- The largest of the scores. -/
def topOf (s : ℕ → EReal) : EReal := (Finset.range 131072).sup s

theorem topOf_le (s : ℕ → EReal) (b : EReal) : topOf s ≤ b ↔ ∀ p < 131072, s p ≤ b := by
  unfold topOf
  rw [Finset.sup_le_iff]
  exact ⟨fun h p hp => h p (Finset.mem_range.mpr hp), fun h p hp => h p (Finset.mem_range.mp hp)⟩

/-- The logarithm of the sum of the exponentials, with the largest score taken out. -/
def lseOf (s : ℕ → EReal) : EReal := topOf s + Ideal.log (∑ p ∈ Finset.range 131072, Ideal.exp (s p - topOf s))

variable {s sk : ℕ → EReal} {n : ℕ} (hn : 1024 * n ≤ 131072) (hs : ∀ p, 1024 * n ≤ p → s p = ⊥) (hk : ∀ p, sk p = s p * (rln2 : EReal))
include hn hs hk

/-- The kernel's largest score, in units of the logarithm of two. -/
theorem top_eq (mx : EReal) (hmx : ∀ b, mx ≤ b ↔ ∀ l : Fin 128, laneFold max sk l ⊥ n ≤ b) : mx = topOf s * (rln2 : EReal) := by
  refine eq_of_forall_ge_iff fun b => ?_
  rw [hmx, lane_max, le_mul_iff, topOf_le]
  constructor
  · intro h p _
    by_cases hp : p < 1024 * n
    · have := h p hp
      rwa [hk, le_mul_iff] at this
    · rw [hs p (by omega)]; exact bot_le
  · intro h p hp
    rw [hk, le_mul_iff]
    exact h p (by omega)

/-- The sum over all positions is the sum over the chunks read. -/
theorem sum_all (f : EReal → EReal) (h0 : f ⊥ = 0) : ∑ p ∈ Finset.range (1024 * n), f (s p) = ∑ p ∈ Finset.range 131072, f (s p) := by
  refine Finset.sum_subset (Finset.range_mono hn) fun p _ hp => ?_
  rw [hs p (by rw [Finset.mem_range] at hp; omega), h0]

theorem slow_eq (mx : EReal) (hmx : ∀ b, mx ≤ b ↔ ∀ l : Fin 128, laneFold max sk l ⊥ n ≤ b) :
    (mx + Ideal.log (∑ l : Fin 128, laneFold (· + ·) (fun p => Ideal.exp2 (sk p - mx)) l 0 n) * (rln2 : EReal)) * ((Real.log 2 : ℝ) : EReal) = lseOf s := by
  have e := top_eq hn hs hk mx hmx
  rw [lane_sum, add_mul_pos _ _ log_two_pos, mul_back, e, mul_back]
  have t : ∀ p, Ideal.exp2 (sk p - topOf s * (rln2 : EReal)) = Ideal.exp (s p - topOf s) := fun p => by
    rw [hk, ← sub_mul_pos _ _ rln2_pos, exp2_mul]
  rw [Finset.sum_congr rfl (fun p _ => t p), sum_all hn hs hk (fun x => Ideal.exp (x - topOf s)) (by rw [EReal.bot_sub]; rfl)]
  rfl

theorem good_eq {lo hi : ℝ} (hlo : 0 ≤ lo) (h1 : (lo : EReal) < ∑ l : Fin 128, laneFold (· + ·) (fun p => Ideal.exp2 (sk p)) l 0 n)
    (h2 : ∑ l : Fin 128, laneFold (· + ·) (fun p => Ideal.exp2 (sk p)) l 0 n < (hi : EReal)) :
    (Ideal.log (∑ l : Fin 128, laneFold (· + ·) (fun p => Ideal.exp2 (sk p)) l 0 n) * (rln2 : EReal)) * ((Real.log 2 : ℝ) : EReal) = lseOf s := by
  rw [mul_back]
  rw [lane_sum, Finset.sum_congr rfl (fun p _ => (congrArg Ideal.exp2 (hk p)).trans (exp2_mul _)), sum_all hn hs hk Ideal.exp rfl] at h1 h2 ⊢
  have pos : ∀ x : EReal, 0 ≤ Ideal.exp x := fun x => by
    induction x with
    | bot => exact le_rfl
    | top => exact le_top
    | coe r => exact EReal.coe_nonneg.mpr (Real.exp_pos r).le
  have lt_top : ∀ p < 131072, s p < ⊤ := fun p hp => lt_top_iff_ne_top.mpr fun e => by
    have : Ideal.exp (s p) ≤ ∑ p ∈ Finset.range 131072, Ideal.exp (s p) := Finset.single_le_sum (fun q _ => pos (s q)) (Finset.mem_range.mpr hp)
    rw [e] at this
    exact absurd (this.trans_lt h2) (not_lt.mpr le_top)
  have htop : topOf s < ⊤ := (Finset.sup_lt_iff (by exact bot_lt_top)).mpr fun p hp => lt_top p (Finset.mem_range.mp hp)
  have hbot : topOf s ≠ ⊥ := fun e => by
    have : ∑ p ∈ Finset.range 131072, Ideal.exp (s p) = 0 := Finset.sum_eq_zero fun p hp => by
      rw [show s p = ⊥ from le_bot_iff.mp (((topOf_le s ⊥).mp e.le) p (Finset.mem_range.mp hp))]; rfl
    rw [this] at h1
    exact absurd h1 (not_lt.mpr (EReal.coe_nonneg.mpr hlo))
  obtain ⟨M, hM⟩ : ∃ M : ℝ, topOf s = (M : EReal) := ⟨(topOf s).toReal, (EReal.coe_toReal htop.ne hbot).symm⟩
  have shift : ∀ p ∈ Finset.range 131072, Ideal.exp (s p) = ((Real.exp M : ℝ) : EReal) * Ideal.exp (s p - topOf s) := fun p hp => by
    have hl := lt_top p (Finset.mem_range.mp hp)
    rw [hM]
    generalize s p = x at hl ⊢
    induction x with
    | bot => rw [EReal.bot_sub]; show (0 : EReal) = _ * 0; rw [mul_zero]
    | top => exact absurd hl (lt_irrefl _)
    | coe r =>
      rw [← EReal.coe_sub]
      show ((Real.exp r : ℝ) : EReal) = (Real.exp M : EReal) * (Real.exp (r - M) : EReal)
      rw [← EReal.coe_mul, ← Real.exp_add]
      exact congrArg (fun z : ℝ => ((Real.exp z : ℝ) : EReal)) (by ring : r = M + (r - M))
  have pull : ∀ t : Finset ℕ, ∑ p ∈ t, ((Real.exp M : ℝ) : EReal) * Ideal.exp (s p - topOf s) = ((Real.exp M : ℝ) : EReal) * ∑ p ∈ t, Ideal.exp (s p - topOf s) := fun t => by
    induction t using Finset.induction_on with
    | empty => rw [Finset.sum_empty, Finset.sum_empty, mul_zero]
    | insert a t ha ih => rw [Finset.sum_insert ha, Finset.sum_insert ha, ih, mul_comm _ (_ + _), add_mul_pos _ _ (Real.exp_pos M), mul_comm (Ideal.exp _), mul_comm (∑ p ∈ t, _)]
  unfold lseOf
  rw [Finset.sum_congr rfl shift, pull] at h1 h2 ⊢
  have Zpos : 0 ≤ ∑ p ∈ Finset.range 131072, Ideal.exp (s p - topOf s) := Finset.sum_nonneg fun p _ => pos _
  generalize ∑ p ∈ Finset.range 131072, Ideal.exp (s p - topOf s) = Z at h1 h2 Zpos ⊢
  rw [hM]
  induction Z with
  | bot => exact absurd Zpos (by decide)
  | top => rw [EReal.coe_mul_top_of_pos (Real.exp_pos M)] at h2; exact absurd h2 (not_lt.mpr le_top)
  | coe z =>
    rw [← EReal.coe_mul] at h1 ⊢
    have hz : 0 < z := by
      have a := hlo.trans_lt (EReal.coe_lt_coe_iff.mp h1)
      exact (pos_iff_pos_of_mul_pos a).mp (Real.exp_pos M)
    have hz' : 0 < Real.exp M * z := mul_pos (Real.exp_pos M) hz
    rw [Ideal.log_coe, Ideal.log_coe, if_neg (not_le.mpr hz), if_neg (not_le.mpr hz'), ← EReal.coe_add, Real.log_mul (Real.exp_pos M).ne' hz.ne', Real.log_exp]

end Cert.KernelIdeal.Own

end
-- ==== Proof.Row.lean ====
/- The row reductions of the kernel and the rest of its logarithm, element by element. -/
module

public import proofs.«01_k».proof.Proof.LogSum
public import Idealize.ShloMosaic.PureOps.Ideal.Laws

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx

/-- The word of minus infinity. -/
theorem ofBits_bot : Ideal.ofBits .f32 0xFF800000#32 = ⊥ := by simp [Ideal.ofBits, Ideal.ieee]

/-- A largest value is at most `b` exactly when each value is. -/
theorem multiMax_le {s t : Shape} {axes : List (Fin s.rank)} (src : FVec Ideal s .f32) (h : s.Reduces axes t)
    (hφ : FKind.Formats .f32) (hacc : 0xFF800000#32 = FKind.maximumf.neutral .f32 hφ) (j : t.Idx) (b : EReal) :
    multiReduction .maximumf axes t src 0xFF800000#32 h hφ hacc j ≤ b ↔ ∀ i, h.drop i = j → src i ≤ b := by
  rw [multiReduction_maximumf_eq_fold]
  show Finset.fold max (Ideal.ofBits .f32 0xFF800000#32) src _ ≤ b ↔ _
  rw [Finset.fold_max_le, ofBits_bot]
  simp

theorem drop_row (κ : Fin 4) (r : Fin 224) (l : Fin 128) : (reduces_S4x224x128_S4x224).drop (ix3 κ r l) = ix2 κ r := by
  refine funext fun a => Fin.ext ?_
  match a with
  | ⟨0, _⟩ => exact Shape.Reduces.drop_apply_val_of_eq reduces_S4x224x128_S4x224 _ ⟨0, by decide⟩ (0 : Fin 3)
  | ⟨1, _⟩ => exact Shape.Reduces.drop_apply_val_of_eq reduces_S4x224x128_S4x224 _ ⟨1, by decide⟩ (1 : Fin 3)

theorem lift_row (κ : Fin 4) (r : Fin 224) (l : Fin 128) : (reduces_S4x224x128_S4x224).lift (ix2 κ r) l = ix3 κ r l := by
  rw [← drop_row κ r l]
  exact Shape.Reduces.lift_drop reduces_S4x224x128_S4x224 (ix3 κ r l)

theorem col_at (v : FVec Ideal S4x224 .f32) (κ : Fin 4) (r : Fin 224) : shapeCast S4x224x1 v shapeCasts_S4x224_S4x224x1 (ix3 κ r (0 : Fin 1)) = v (ix2 κ r) :=
  shapeCast_apply _ _ _ _ (by
    rw [Shape.rowMajor_val_two, Shape.rowMajor_val_three]
    show κ.val * 224 + r.val = (κ.val * 224 + r.val) * 1 + 0
    omega)

theorem sum_at (v : Vec Ideal S4x224x128 .f32) (κ : Fin 4) (r : Fin 224) :
    shapeCast S4x224x1 (multiReduction (F := Ideal) .add [2] S4x224 v 0x00000000#32 reduces_S4x224x128_S4x224 (.inl rfl) rfl) shapeCasts_S4x224_S4x224x1 (ix3 κ r (0 : Fin 1))
      = ∑ l : Fin 128, v (ix3 κ r l) := by
  rw [col_at]
  refine (Ideal.multiReduction_add_single v _ reduces_S4x224x128_S4x224 _ _ (ix2 κ r)).trans ?_
  exact Finset.sum_congr rfl fun l _ => congrArg v (lift_row κ r l)

theorem bc_at (v : FVec Ideal S4x224x1 .f32) (κ : Fin 4) (r : Fin 224) (l : Fin 128) :
    broadcastTo S4x224x128 v broadcasts_S4x224x1_S4x224x128 (ix3 κ r l) = v (ix3 κ r (0 : Fin 1)) := by
  refine broadcastTo_apply v _ (ix3 κ r l) (ix3 κ r (0 : Fin 1)) fun a => ?_
  match a with
  | ⟨0, _⟩ => rfl
  | ⟨1, _⟩ => rfl
  | ⟨2, _⟩ => rfl

theorem max_row_le (v : Vec Ideal S4x224x128 .f32) (κ : Fin 4) (r : Fin 224) (l : Fin 128) (b : EReal) :
    k0_pay449 v (ix3 κ r l) ≤ b ↔ ∀ u : Fin 128, v (ix3 κ r u) ≤ b := by
  have e : k0_pay449 v (ix3 κ r l) = multiReduction .maximumf [2] S4x224 v 0xFF800000#32 reduces_S4x224x128_S4x224 (.inl rfl) rfl (ix2 κ r) := by
    unfold k0_pay449
    rw [shapeCast_self, shapeCast_self, bc_at, col_at]
  rw [e]
  refine (multiMax_le _ reduces_S4x224x128_S4x224 _ _ _ _).trans ?_
  constructor
  · exact fun h u => h _ (drop_row κ r u)
  · intro h i hi
    obtain ⟨a, c, d, rfl⟩ : ∃ (a : Fin 4) (c : Fin 224) (d : Fin 128), i = ix3 a c d := ⟨i 0, i 1, i 2, eq_ix3 i⟩
    rw [drop_row] at hi
    have ha : a = κ := congrFun hi 0
    have hc : c = r := congrFun hi 1
    subst ha hc
    exact h d

theorem named_log2e : Named.named (F := Ideal) κ "log2e" (φ := .f32) 0x3FB8AA3B#32 = (rln2 : EReal) :=
  IdealRules.named_const.ideal_named_scalar _ _ _ _ rfl
theorem named_ln2 : Named.named (F := Ideal) κ "ln2" (φ := .f32) 0x3F317218#32 = ((Real.log 2 : ℝ) : EReal) :=
  IdealRules.named_const.ideal_named_scalar _ _ _ _ rfl
theorem named_scale : scaleLog2e = (((Real.sqrt 128)⁻¹ * rln2 : ℝ) : EReal) :=
  IdealRules.named_const.ideal_named_scalar _ _ _ _ rfl

theorem first_log_at (v : Vec Ideal S4x224x128 .f32) (κ : Fin 4) (r : Fin 224) (l : Fin 128) :
    k0_pay614 (k0_pay612 v) k0_pay613 (ix3 κ r l) = Ideal.log (∑ u : Fin 128, v (ix3 κ r u)) * (rln2 : EReal) := by
  unfold k0_pay614
  rw [shapeCast_self, shapeCast_self, bc_at]
  exact congrArg₂ (fun a b : EReal => Ideal.log a * b) (sum_at v κ r) named_log2e

theorem second_log_at (v z : Vec Ideal S4x224x128 .f32) (κ : Fin 4) (r : Fin 224) (l : Fin 128) :
    k0_pay625 v z (ix3 κ r l) = v (ix3 κ r l) + Ideal.log (∑ u : Fin 128, z (ix3 κ r u)) * (rln2 : EReal) := by
  unfold k0_pay625
  rw [shapeCast_self]
  refine congrArg (v (ix3 κ r l) + ·) ((bc_at _ κ r l).trans ?_)
  exact congrArg₂ (fun a b : EReal => Ideal.log a * b) (sum_at z κ r) named_log2e

/-- The logarithm of the number of positions row `w` sees, as the programs take it from the prefix's word. -/
def logCount (v2 : BitVec 32) (w : Fin 32) : EReal := Ideal.log (FloatOps.sitofp (F := Ideal) .f32 (Scalar.addi (Scalar.addi v2 (BitVec.ofNat 32 w.val)) 1#32))

/-- The row of a group's row, as the kernel takes the remainder. -/
theorem rem_word : ∀ r : Fin 224, (let v207 := Scalar.remsi (BitVec.ofNat 32 (0 * 224 + r.val)) (Scalar.select (Scalar.cmpi .eq 32#32 0#32) 1#32 32#32)
    Scalar.select (Scalar.andi (Scalar.xori (Scalar.cmpi .slt v207 0#32) (Scalar.cmpi .slt (Scalar.select (Scalar.cmpi .eq 32#32 0#32) 1#32 32#32) 0#32)) (Scalar.cmpi .ne v207 0#32))
      (Scalar.addi v207 (Scalar.select (Scalar.cmpi .eq 32#32 0#32) 1#32 32#32)) v207) = BitVec.ofNat 32 (r.val % 32) := by decide +kernel

theorem last_at (v2 : BitVec 32) (v : Vec Ideal S4x224x128 .f32) (κ : Fin 4) (g : Fin 7) (w : Fin 32) (l : Fin 128) :
    k0_pay627 (k0_pay626 v2 v) (ix4 (0 : Fin 1) κ (blkRow g w) l) = v (ix3 κ (blkRow g w) l) * ((Real.log 2 : ℝ) : EReal) - logCount v2 w := by
  unfold k0_pay627
  rw [shapeCast_apply _ _ (ix4 (0 : Fin 1) κ (blkRow g w) l) (ix3 κ (blkRow g w) l) (by
    rw [Shape.rowMajor_val_three, Shape.rowMajor_val_four]
    show (κ.val * 224 + (blkRow g w).val) * 128 + l.val = ((0 * 4 + κ.val) * 224 + (blkRow g w).val) * 128 + l.val
    omega)]
  unfold k0_pay626
  refine congrArg₂ (fun a b : EReal => v (ix3 κ (blkRow g w) l) * a - b) named_ln2 ?_
  refine (broadcastTo_apply _ _ (ix3 κ (blkRow g w) l) (ix3 (0 : Fin 1) (blkRow g w) l) fun a => ?_).trans ?_
  · match a with
    | ⟨0, _⟩ => rfl
    | ⟨1, _⟩ => rfl
    | ⟨2, _⟩ => rfl
  · refine congrArg (fun z => Ideal.log (FloatOps.sitofp (F := Ideal) .f32 (Scalar.addi (Scalar.addi v2 z) 1#32))) ((rem_word (blkRow g w)).trans (congrArg (BitVec.ofNat 32) ?_))
    show (32 * g.val + w.val) % 32 = w.val
    omega

theorem cmp_gt (x y : EReal) : Ideal.cmp .ogt x y = 1#1 ↔ y < x := by
  by_cases h : y < x <;> simp [Ideal.cmp, h]

theorem cmp_lt (x y : EReal) : Ideal.cmp .olt x y = 1#1 ↔ x < y := by
  by_cases h : x < y <;> simp [Ideal.cmp, h]

theorem and_one : ∀ a b : BitVec 1, a &&& b = 1#1 ↔ a = 1#1 ∧ b = 1#1 := by decide

theorem half_pos : Ideal.ofBits .f32 0x00000000#32 ≤ Ideal.ofBits .f32 1056964608#32 := by
  simp [Ideal.ofBits, Ideal.ieee]
  rw [← EReal.coe_mul]
  exact EReal.coe_nonneg.mpr (by positivity)

/-- A least value above `b` leaves each value above `b`. -/
theorem multiMin_lt {s t : Shape} {axes : List (Fin s.rank)} (src : FVec Ideal s .f32) (h : s.Reduces axes t)
    (hφ : FKind.Formats .f32) (hacc : 0x7F800000#32 = FKind.minimumf.neutral .f32 hφ) (j : t.Idx) (b : EReal)
    (hb : b < multiReduction .minimumf axes t src 0x7F800000#32 h hφ hacc j) : ∀ i, h.drop i = j → b < src i := by
  rw [multiReduction_minimumf_eq_fold] at hb
  replace hb : b < Finset.fold min (Ideal.ofBits .f32 0x7F800000#32) src _ := hb
  rw [Finset.lt_fold_min] at hb
  exact fun i hi => hb.2 i (by simpa using hi)

theorem sel_lt (c : BitVec 1) (h : Ideal.ofBits .f32 1056964608#32 < (Scalar.select c (Ideal.ofBits .f32 0x3F800000#32) (Ideal.ofBits .f32 0x00000000#32) : EReal)) : c = 1#1 := by
  by_contra hc
  have := (show ∀ c : BitVec 1, ¬ c = 1#1 → c = 0#1 by decide) c hc
  subst this
  exact absurd h (not_lt.mpr half_pos)

theorem good_bit : ∀ b : BitVec 1, ¬ k0_cond7 b = 1#1 → b = 1#1 := by decide

theorem least_at (v : Vec Ideal S4x224x128 .f32) (h : Ideal.ofBits .f32 1056964608#32 < k0_pay611 v) (κ : Fin 4) (r : Fin 224) :
    Ideal.cmp .ogt (k0_pay610 v (ix3 κ r (0 : Fin 1))) (Ideal.ofBits .f32 0x21800000#32) &&& Ideal.cmp .olt (k0_pay610 v (ix3 κ r (0 : Fin 1))) (Ideal.ofBits .f32 0x7B800000#32) = 1#1 := by
  unfold k0_pay611 at h
  have h' := multiMin_lt _ reduces_S1x4x224x1_S1 (.inl rfl) rfl _ _ h (ix4 (0 : Fin 1) κ r (0 : Fin 1)) (funext fun a => Fin.ext (by
    match a with
    | ⟨0, _⟩ => exact (Nat.lt_one_iff.mp (Fin.isLt _)).trans (Nat.lt_one_iff.mp (Fin.isLt _)).symm))
  rw [shapeCast_apply _ _ (ix4 (0 : Fin 1) κ r (0 : Fin 1)) (ix3 κ r (0 : Fin 1)) (by
    rw [Shape.rowMajor_val_three, Shape.rowMajor_val_four]
    show (κ.val * 224 + r.val) * 1 + 0 = ((0 * 4 + κ.val) * 224 + r.val) * 1 + 0
    omega)] at h'
  exact sel_lt _ h'

theorem half_lt (x : Ideal .f32) (h : ¬ k0_cond7 (Scalar.cmpf CmpFPredicate.ogt x (FloatOps.ofBits (F := Ideal) FTy.f32 1056964608#32)) = 1#1) :
    Ideal.ofBits .f32 1056964608#32 < x := by
  have h1 := good_bit _ h
  rw [Ideal.scalar_cmpf_def] at h1
  exact (cmp_gt _ _).mp h1

theorem all_good (v : Vec Ideal S4x224x128 .f32) (h : ¬ k0_cond7 (Scalar.cmpf CmpFPredicate.ogt (k0_pay611 v) (FloatOps.ofBits (F := Ideal) FTy.f32 1056964608#32)) = 1#1) (κ : Fin 4) (r : Fin 224) :
    Ideal.ofBits .f32 0x21800000#32 < ∑ u : Fin 128, v (ix3 κ r u) ∧ ∑ u : Fin 128, v (ix3 κ r u) < Ideal.ofBits .f32 0x7B800000#32 := by
  have h2 := (and_one _ _).mp (least_at v (half_lt _ h) κ r)
  have e : k0_pay610 v (ix3 κ r (0 : Fin 1)) = ∑ u : Fin 128, v (ix3 κ r u) := sum_at v κ r
  rw [e, cmp_gt, cmp_lt] at h2
  exact h2

theorem low_real : ∃ r : ℝ, 0 ≤ r ∧ Ideal.ofBits .f32 0x21800000#32 = (r : EReal) :=
  ⟨8388608 * (2 ^ 83)⁻¹, by positivity, by rw [EReal.coe_mul]; simp [Ideal.ofBits, Ideal.ieee]⟩
theorem high_real : ∃ r : ℝ, Ideal.ofBits .f32 0x7B800000#32 = (r : EReal) :=
  ⟨2 ^ (23 : ℕ) * 2 ^ (97 : ℕ), by
    rw [EReal.coe_mul]
    simp [Ideal.ofBits, Ideal.ieee, -Nat.reducePow]
    exact fun h => absurd h (by decide)⟩

section
variable {s sk : ℕ → EReal} {n : ℕ} (hn : 1024 * n ≤ 131072) (hs : ∀ p, 1024 * n ≤ p → s p = ⊥) (hk : ∀ p, sk p = s p * (rln2 : EReal))
  (v2 : BitVec 32) (κ : Fin 4) (g : Fin 7) (w : Fin 32) (l : Fin 128)
include hn hs hk

/-- A row of the stored result, where every plain sum is in range. -/
theorem row_good (Z : Vec Ideal S4x224x128 .f32) (hz : ∀ u : Fin 128, Z (ix3 κ (blkRow g w) u) = laneFold (· + ·) (fun p => Ideal.exp2 (sk p)) u 0 n)
    (hg : ¬ k0_cond7 (Scalar.cmpf CmpFPredicate.ogt (k0_pay611 Z) (FloatOps.ofBits (F := Ideal) FTy.f32 1056964608#32)) = 1#1) :
    k0_pay627 (k0_pay626 v2 (k0_pay614 (k0_pay612 Z) k0_pay613)) (ix4 (0 : Fin 1) κ (blkRow g w) l) = lseOf s - logCount v2 w := by
  obtain ⟨lo, hlo, el⟩ := low_real
  obtain ⟨hi, eh⟩ := high_real
  have hb := all_good Z hg κ (blkRow g w)
  rw [el, eh, Finset.sum_congr rfl fun u _ => hz u] at hb
  rw [last_at, first_log_at, Finset.sum_congr rfl fun u _ => hz u]
  exact congrArg (· - logCount v2 w) (good_eq hn hs hk hlo hb.1 hb.2)

/-- And where the largest score is taken out first. -/
theorem row_slow (M Z : Vec Ideal S4x224x128 .f32) (hm : ∀ u : Fin 128, M (ix3 κ (blkRow g w) u) = laneFold max sk u ⊥ n)
    (hz : ∀ u : Fin 128, Z (ix3 κ (blkRow g w) u) = laneFold (· + ·) (fun p => Ideal.exp2 (sk p - k0_pay449 M (ix3 κ (blkRow g w) u))) u 0 n) :
    k0_pay627 (k0_pay626 v2 (k0_pay625 (k0_pay449 M) Z)) (ix4 (0 : Fin 1) κ (blkRow g w) l) = lseOf s - logCount v2 w := by
  have same : ∀ u : Fin 128, k0_pay449 M (ix3 κ (blkRow g w) u) = k0_pay449 M (ix3 κ (blkRow g w) l) := fun u =>
    eq_of_forall_ge_iff fun b => (max_row_le M κ _ u b).trans (max_row_le M κ _ l b).symm
  have hz' : ∀ u : Fin 128, Z (ix3 κ (blkRow g w) u) = laneFold (· + ·) (fun p => Ideal.exp2 (sk p - k0_pay449 M (ix3 κ (blkRow g w) l))) u 0 n := fun u => by
    rw [hz u, same u]
  rw [last_at, second_log_at, Finset.sum_congr rfl fun u _ => hz' u]
  exact congrArg (· - logCount v2 w) (slow_eq hn hs hk _ fun b => (max_row_le M κ _ l b).trans (forall_congr' fun u => by rw [hm u]))
end

/-- The score of a position in natural units: the quantised query row against the position's key, at the two scales and
    the root of the head's width, under the causal mask. -/
def natScore (Q : S1x28x32x128.Idx → EReal) (K : Fin 131072 → Fin 4 → Fin 128 → EReal) (X : S1x4x131072.Idx → EReal) (qs : S1x28x128.Idx → EReal) (len : ℕ)
    (κ : Fin 4) (g : Fin 7) (w : Fin 32) (p : ℕ) : EReal :=
  if p + 32 ≤ len + w.val then
    (∑ d : Fin 128, Q (ix4 (0 : Fin 1) (⟨7 * κ.val + g.val, by omega⟩ : Fin 28) w d) * K (posOf p) κ d)
      * (qs (ix3 (0 : Fin 1) (⟨7 * κ.val + g.val, by omega⟩ : Fin 28) (0 : Fin 128)) * (((Real.sqrt 128)⁻¹ : ℝ) : EReal)) * X (ix3 (0 : Fin 1) κ (posOf p))
  else ⊥

/-- The log-sum-exp of a row less the logarithm of its count. -/
def lseRow (Q : S1x28x32x128.Idx → EReal) (K : Fin 131072 → Fin 4 → Fin 128 → EReal) (X : S1x4x131072.Idx → EReal) (qs : S1x28x128.Idx → EReal) (v1 : BitVec 32)
    (κ : Fin 4) (g : Fin 7) (w : Fin 32) : EReal :=
  lseOf (natScore Q K X qs v1.toNat κ g w) - logCount (Scalar.subi v1 32#32) w

theorem masked_eq (Q' : S4x224x128.Idx → EReal) (qs' : FVec Ideal S28x1x1 .f32) (Q : S1x28x32x128.Idx → EReal) (K : Fin 131072 → Fin 4 → Fin 128 → EReal)
    (X : S1x4x131072.Idx → EReal) (qs : S1x28x128.Idx → EReal) (len : ℕ) (κ : Fin 4) (g : Fin 7) (w : Fin 32)
    (hQ : ∀ d : Fin 128, Q' (ix3 κ (blkRow g w) d) = Q (ix4 (0 : Fin 1) (⟨7 * κ.val + g.val, by omega⟩ : Fin 28) w d))
    (hq : qs' (ix3 (⟨7 * κ.val + g.val, by omega⟩ : Fin 28) (0 : Fin 1) (0 : Fin 1)) = qs (ix3 (0 : Fin 1) (⟨7 * κ.val + g.val, by omega⟩ : Fin 28) (0 : Fin 128))) (p : ℕ) :
    maskedScore Q' K X qs' len κ g w p = natScore Q K X qs len κ g w p * (rln2 : EReal) := by
  unfold maskedScore natScore
  by_cases h : p + 32 ≤ len + w.val
  · rw [if_pos h, if_pos h]
    unfold scoreAt
    rw [hq, named_scale, EReal.coe_mul, Finset.sum_congr rfl fun d _ => by rw [hQ d]]
    simp only [mul_assoc]
    refine congrArg _ ?_
    generalize (((Real.sqrt 128)⁻¹ : ℝ) : EReal) = a
    generalize (rln2 : EReal) = b
    generalize qs _ = y
    generalize X _ = x
    rw [mul_left_comm x, mul_comm b y, ← mul_assoc x y b, mul_comm x y, mul_assoc y x b, mul_left_comm y a]
  · rw [if_neg h, if_neg h, EReal.bot_mul_coe_of_pos rln2_pos]

theorem nat_bot (Q : S1x28x32x128.Idx → EReal) (K : Fin 131072 → Fin 4 → Fin 128 → EReal) (X : S1x4x131072.Idx → EReal) (qs : S1x28x128.Idx → EReal) (v : BitVec 32)
    (κ : Fin 4) (g : Fin 7) (w : Fin 32) (p : ℕ) (hp : 1024 * nC v ≤ p) : natScore Q K X qs v.toNat κ g w p = ⊥ := by
  unfold natScore
  rw [if_neg]
  have := w.isLt
  unfold nC at hp
  omega

end Cert.KernelIdeal.Own

end
-- ==== Proof.BodyI.lean ====
/-
  The kernel's body at one grid point, on any staging buffers: given a length that fits, it runs to its end with every
  buffer still held and the chunk ring at home.
-/
module

public import proofs.«01_k».proof.Proof.StreamI
public import proofs.«01_k».proof.Proof.Row
public import Idealize.ShloMosaic.Lib.LoopRemainder
public import Idealize.ShloMosaic.Lib.VecWindow
public import Idealize.ShloMosaic.Lib.Pipeline.ValueKit.Basic

@[expose] public section

set_option maxRecDepth 8192
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

local notation "𝕄" => MT nD τ sig Unit (Elt Ideal) ℕ (UU nD τ) ℕ

/-- After the last chunk the ring is at home. -/
theorem ring_leave (c : Dev nD) (i : grid0.Coords) (XA : Buf (Elt Ideal) (aM.view.loc (c : Thread nD τ))) {v : BitVec 32} (h : Fits v) :
    ringP c i XA (nC v) (k0_t1_loop v).trips = iprop(homeP c XA 0 ∗ homeP c XA 1) := by
  rw [trips_t1 h]; exact ringP_ge c i XA (lt_irrefl _)

/-- The quantised block the kernel stores, of the query block it loads. -/
def qcodesOf (x : Vec Ideal S1x28x32x128 .bf16) : FVec Ideal S1x28x32x128 .fp8e4m3 :=
  k0_pay596 (k0_pay585 x) (k0_pay587 x) (k0_pay593 (k0_pay588 x) (k0_pay591 (k0_pay588 x) k0_pay589 k0_pay590 127#32) (k0_pay592 (k0_pay588 x) k0_pay589 k0_pay590 127#32) 127#32) 0#32

/-- The scales the kernel stores, of the query block it loads. -/
def qscaleOf (x : Vec Ideal S1x28x32x128 .bf16) : FVec Ideal S1x28x128 .f32 :=
  k0_pay599 (k0_pay587 x) (k0_pay593 (k0_pay588 x) (k0_pay591 (k0_pay588 x) k0_pay589 k0_pay590 127#32) (k0_pay592 (k0_pay588 x) k0_pay589 k0_pay590 127#32) 127#32) 0#32

/-- An accumulator stored whole at `x` is the fold of no chunks. -/
theorem lane_enter (c : Dev nD) {sp : Space} (arg : Memref sig .tc sp S4x224x128 .f32) (v1 v2 : BitVec 32) (op : EReal → EReal → EReal)
    (F : Fin 4 → Fin 7 → Fin 32 → Fin 128 → ℕ → EReal) (x : EReal) (f : arg.view.ty.Contents (Elt Ideal)) (h : v2 = Scalar.subi v1 32#32 ∧ laneP arg.view op F x 0 f) :
    iprop(arg.view.loc (c : Thread nD τ) ↦[arg.view.set]{fullShare} f : sProp 𝕄) ⊢ laneHeld c arg v1 v2 op F x 0 := by
  unfold laneHeld
  iintro H
  iexists _; isplitr; swap; (iexact H); ipureintro; exact h

/-- And opened again. -/
theorem lane_open (c : Dev nD) {sp : Space} (arg : Memref sig .tc sp S4x224x128 .f32) (v1 v2 : BitVec 32) (op : EReal → EReal → EReal)
    (F : Fin 4 → Fin 7 → Fin 32 → Fin 128 → ℕ → EReal) (x : EReal) (k : ℕ) :
    laneHeld c arg v1 v2 op F x k ⊢ iprop(∃ f, ⌜v2 = Scalar.subi v1 32#32 ∧ laneP arg.view op F x k f⌝ ∗ (arg.view.loc (c : Thread nD τ) ↦[arg.view.set]{fullShare} f)) := by
  unfold laneHeld
  exact BIBase.Entails.rfl

/-- The quantised rows the kernel multiplies with the keys: the codes, grouped by key head. -/
def qrowsOf (x : Vec Ideal S1x28x32x128 .bf16) : FVec Ideal S4x224x128 .fp8e4m3 :=
  k0_pay597 (k0_pay585 x) (k0_pay587 x) (k0_pay593 (k0_pay588 x) (k0_pay591 (k0_pay588 x) k0_pay589 k0_pay590 127#32) (k0_pay592 (k0_pay588 x) k0_pay589 k0_pay590 127#32) 127#32) 0#32

/-- And their scales, one to a head. -/
def qmulOf (x : Vec Ideal S1x28x32x128 .bf16) : FVec Ideal S28x1x1 .f32 :=
  k0_pay598 (k0_pay587 x) (k0_pay593 (k0_pay588 x) (k0_pay591 (k0_pay588 x) k0_pay589 k0_pay590 127#32) (k0_pay592 (k0_pay588 x) k0_pay589 k0_pay590 127#32) 127#32) 0#32

theorem qrows_at (x : Vec Ideal S1x28x32x128 .bf16) (κ : Fin 4) (g : Fin 7) (w : Fin 32) (d : Fin 128) :
    qrowsOf x (ix3 κ (blkRow g w) d) = qcodesOf x (ix4 (0 : Fin 1) (⟨7 * κ.val + g.val, by omega⟩ : Fin 28) w d) := by
  unfold qrowsOf qcodesOf k0_pay597 k0_pay596
  rw [shapeCast_self, shapeCast_apply _ _ (ix3 κ (blkRow g w) d) (ix3 (⟨7 * κ.val + g.val, by omega⟩ : Fin 28) w d) (by
    rw [Shape.rowMajor_val_three, Shape.rowMajor_val_three]
    show ((7 * κ.val + g.val) * 32 + w.val) * 128 + d.val = (κ.val * 224 + (32 * g.val + w.val)) * 128 + d.val
    omega), shapeCast_apply _ _ (ix4 (0 : Fin 1) (⟨7 * κ.val + g.val, by omega⟩ : Fin 28) w d) (ix3 (⟨7 * κ.val + g.val, by omega⟩ : Fin 28) w d) (by
    rw [Shape.rowMajor_val_three, Shape.rowMajor_val_four]
    show ((7 * κ.val + g.val) * 32 + w.val) * 128 + d.val = ((0 * 28 + (7 * κ.val + g.val)) * 32 + w.val) * 128 + d.val
    omega)]

theorem qmul_at (x : Vec Ideal S1x28x32x128 .bf16) (a : Fin 28) (l : Fin 128) : qmulOf x (ix3 a (0 : Fin 1) (0 : Fin 1)) = qscaleOf x (ix3 (0 : Fin 1) a l) := by
  unfold qmulOf qscaleOf k0_pay599
  rw [shapeCast_apply _ _ (ix3 (0 : Fin 1) a l) (ix2 a l) (by
    rw [Shape.rowMajor_val_two, Shape.rowMajor_val_three]
    show a.val * 128 + l.val = (0 * 28 + a.val) * 128 + l.val
    omega), broadcastTo_apply _ _ (ix2 a l) (ix2 a (0 : Fin 1)) (fun b => by
    match b with
    | ⟨0, _⟩ => rfl
    | ⟨1, _⟩ => rfl), shapeCast_self, shapeCast_apply _ _ (ix2 a (0 : Fin 1)) (ix3 a (0 : Fin 1) (0 : Fin 1)) (by
    rw [Shape.rowMajor_val_two, Shape.rowMajor_val_three]
    show (a.val * 1 + 0) * 1 + 0 = a.val * 1 + 0
    omega)]

/-- A whole load of a block of the accumulators' shape. -/
theorem load_whole {sp : Space} (a : Memref sig .tc sp S4x224x128 .f32) (f : a.view.ty.Contents (Elt Ideal)) :
    a.view.readAt (Elt Ideal) (Rect.unit (s := S4x224x128) ![0, 0, 0] S4x224x128.size inb_S4x224x128_S4x224x128_0_0_0).toLoadRect f = a.view.read (Elt Ideal) f := by
  rw [View.readAt_eq_ld]
  exact View.ld_unit_lit _ _ (by decide)

/-- And of the query block. -/
theorem load_query {sp : Space} (a : Memref sig .tc sp S1x28x32x128 .bf16) (f : a.view.ty.Contents (Elt Ideal)) :
    a.view.readAt (Elt Ideal) (Rect.unit (s := S1x28x32x128) ![0, 0, 0, 0] S1x28x32x128.size inb_S1x28x32x128_S1x28x32x128_0_0_0_0).toLoadRect f = a.view.read (Elt Ideal) f := by
  rw [View.readAt_eq_ld]
  exact View.ld_unit_lit _ _ (by decide)

/-- What the store of the quantised rows leaves in their buffer. -/
theorem stored13 (c : Dev nD) {sp sp' : Space} (arg2 : Memref sig .tc sp' S1x28x32x128 .bf16) (arg13 : Memref sig .tc sp S4x224x128 .fp8e4m3) (f : arg13.view.ty.Contents (Elt Ideal)) (g2 : arg2.view.ty.Contents (Elt Ideal)) (κ : Fin 4) (g : Fin 7) (w : Fin 32) (d : Fin 128) :
    arg13.view.read (Elt Ideal) (arg13.view.writes (Elt Ideal) f [⟨Rect.unit (s := S4x224x128) ![0, 0, 0] S4x224x128.size inb_S4x224x128_S4x224x128_0_0_0, qrowsOf (arg2.view.readAt (Elt Ideal) (Rect.unit (s := S1x28x32x128) ![0, 0, 0, 0] S1x28x32x128.size inb_S1x28x32x128_S1x28x32x128_0_0_0_0).toLoadRect g2)⟩]) (ix3 κ (blkRow g w) d)
      = qcodesOf (arg2.view.read (Elt Ideal) g2) (ix4 (0 : Fin 1) (⟨7 * κ.val + g.val, by omega⟩ : Fin 28) w d) := by
  rw [load_query]
  exact (congrFun (View.read_writes_full _ _ _ _ []) _).trans (qrows_at _ κ g w d)

section
variable (𝒱 : Variants) (c : Dev nD) (bd : Option 𝒱.V) (XA : Buf (Elt Ideal) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole)

/-- What the body is handed, and hands back: the table and the two read blocks, every other buffer at anything, the
    ring at home. -/
def held (qT : PosShare TreeShare) (g1 : Buf (Elt Ideal) (arg1.view.loc (c : Thread nD τ))) (g2 : Buf (Elt Ideal) (arg2.view.loc (c : Thread nD τ))) (g4 : Buf (Elt Ideal) (arg4.view.loc (c : Thread nD τ))) : sProp 𝕄 :=
  iprop((arg1.view.loc (c : Thread nD τ) ↦[arg1.view.set]{qT} g1) ∗ (arg2.view.loc (c : Thread nD τ) ↦[arg2.view.set]{fullShare} g2)
    ∗ (arg4.view.loc (c : Thread nD τ) ↦[arg4.view.set]{fullShare} g4)
    ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)
    ∗ homeP c XA 0 ∗ homeP c XA 1 ∗ ∃ W, owes (c : Thread nD τ) 0 W)

/-- The length word the body reads: the table's word of this sequence. -/
abbrev lenAt (g1 : Buf (Elt Ideal) (arg1.view.loc (c : Thread nD τ))) : BitVec 32 :=
  arg1.view.readAt (Elt Ideal) (Rect.unit (s := S2) (k0_off1 i) S1.size (k0_off1_inb i)).toLoadRect g1 (Shape.Idx.first (show 0 < S1.numel from by decide))

/-- What the body hands back: as handed, with the log-sum-exps of the rows and the codes and the scales of the query block in
    their three buffers. -/
def left (qT : PosShare TreeShare) (g1 : Buf (Elt Ideal) (arg1.view.loc (c : Thread nD τ))) (g2 : Buf (Elt Ideal) (arg2.view.loc (c : Thread nD τ))) (g4 : Buf (Elt Ideal) (arg4.view.loc (c : Thread nD τ))) : sProp 𝕄 :=
  iprop((arg1.view.loc (c : Thread nD τ) ↦[arg1.view.set]{qT} g1) ∗ (arg2.view.loc (c : Thread nD τ) ↦[arg2.view.set]{fullShare} g2)
    ∗ (arg4.view.loc (c : Thread nD τ) ↦[arg4.view.set]{fullShare} g4)
    ∗ (∃ f, arg5.view.loc (c : Thread nD τ) ↦[arg5.view.set]{fullShare} f) ∗ (∃ f, arg6.view.loc (c : Thread nD τ) ↦[arg6.view.set]{fullShare} f) ∗ (∃ f, ⌜∀ (κ : Fin 4) (g : Fin 7) (w : Fin 32) (l : Fin 128), arg7.view.read (Elt Ideal) f (ix4 (0 : Fin 1) κ (blkRow g w) l) = lseRow (qcodesOf (arg2.view.read (Elt Ideal) g2)) (keyAt c i XA) (arg4.view.read (Elt Ideal) g4) (qscaleOf (arg2.view.read (Elt Ideal) g2)) (lenAt c i arg1 g1) κ g w⌝ ∗ arg7.view.loc (c : Thread nD τ) ↦[arg7.view.set]{fullShare} f) ∗ (∃ f, ⌜arg8.view.read (Elt Ideal) f = qcodesOf (arg2.view.read (Elt Ideal) g2)⌝ ∗ arg8.view.loc (c : Thread nD τ) ↦[arg8.view.set]{fullShare} f) ∗ (∃ f, ⌜arg9.view.read (Elt Ideal) f = qscaleOf (arg2.view.read (Elt Ideal) g2)⌝ ∗ arg9.view.loc (c : Thread nD τ) ↦[arg9.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)
    ∗ homeP c XA 0 ∗ homeP c XA 1 ∗ ∃ W, owes (c : Thread nD τ) 0 W)

/-- What the store of the codes leaves in their buffer. -/
theorem stored8 (f : Buf (Elt Ideal) (arg8.view.loc (c : Thread nD τ))) (g2 : Buf (Elt Ideal) (arg2.view.loc (c : Thread nD τ))) :
    arg8.view.read (Elt Ideal) (arg8.view.writes (Elt Ideal) f [⟨Rect.unit (s := S1x28x32x128) ![0, 0, 0, 0] S1x28x32x128.size inb_S1x28x32x128_S1x28x32x128_0_0_0_0, qcodesOf (arg2.view.readAt (Elt Ideal) (Rect.unit (s := S1x28x32x128) ![0, 0, 0, 0] S1x28x32x128.size inb_S1x28x32x128_S1x28x32x128_0_0_0_0).toLoadRect g2)⟩])
      = qcodesOf (arg2.view.read (Elt Ideal) g2) := by
  refine (View.read_writes_full _ _ _ _ []).trans ?_
  rw [View.readAt_eq_ld]
  exact congrArg qcodesOf (View.ld_unit_lit _ _ (by decide))

/-- What the store of the scales leaves in their buffer. -/
theorem stored9 (f : Buf (Elt Ideal) (arg9.view.loc (c : Thread nD τ))) (g2 : Buf (Elt Ideal) (arg2.view.loc (c : Thread nD τ))) :
    arg9.view.read (Elt Ideal) (arg9.view.writes (Elt Ideal) f [⟨Rect.unit (s := S1x28x128) ![0, 0, 0] S1x28x128.size inb_S1x28x128_S1x28x128_0_0_0, qscaleOf (arg2.view.readAt (Elt Ideal) (Rect.unit (s := S1x28x32x128) ![0, 0, 0, 0] S1x28x32x128.size inb_S1x28x32x128_S1x28x32x128_0_0_0_0).toLoadRect g2)⟩])
      = qscaleOf (arg2.view.read (Elt Ideal) g2) := by
  refine (View.read_writes_full _ _ _ _ []).trans ?_
  rw [View.readAt_eq_ld]
  exact congrArg qscaleOf (View.ld_unit_lit _ _ (by decide))

theorem bodyRun (qT : PosShare TreeShare) (g1 : Buf (Elt Ideal) (arg1.view.loc (c : Thread nD τ))) (g2 : Buf (Elt Ideal) (arg2.view.loc (c : Thread nD τ))) (g4 : Buf (Elt Ideal) (arg4.view.loc (c : Thread nD τ)))
    (hfit : Fits (lenAt c i arg1 g1)) (Q : PUnit → sProp 𝕄) :
    iprop(held c XA arg1 arg2 arg4 arg5 arg6 arg7 arg8 arg9 arg11 arg12 arg13 arg14 arg15 arg16 qT g1 g2 g4 ∗ (left c XA i arg1 arg2 arg4 arg5 arg6 arg7 arg8 arg9 arg11 arg12 arg13 arg14 arg15 arg16 qT g1 g2 g4 -∗ Q ⟨⟩))
      ⊢ wp frame (wpE (defs₀ (F := Ideal)) 𝒱 (c : Thread nD τ) bd) Set.univ (cc0_snapkv (F := Ideal) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7) Q := by
  unfold held left
  iintro ⟨⟨H1, H2, H4, ⟨%f5, H5⟩, ⟨%f6, H6⟩, ⟨%f7, H7⟩, ⟨%f8, H8⟩, ⟨%f9, H9⟩, ⟨%f11, H11⟩, ⟨%f12, H12⟩, ⟨%f13, H13⟩, ⟨%f14, H14⟩, ⟨%f15, H15⟩, ⟨%f16, H16⟩, ⟨HC0, ⟨%s0, HS0⟩, HT0⟩, ⟨HC1, ⟨%s1, HS1⟩, HT1⟩, ⟨%W, HW⟩⟩, Hk⟩
  sl_exec
  have h : Fits (bodyRun.sl.r c i arg1 g1) := hfit
  have hchk : k0_chk1 i (bodyRun.sl.r c i arg1 g1) := chk1_of h i
  sl_exec
  ihave HR := (ring_enter c i XA (nC_pos h) _) $$ [HC0 HT0 HC1 HS1 HT1]
  · isplitl [HC0]; · iexact HC0
    isplitl [HT0]; · iexact HT0
    isplitl [HC1]; · iexact HC1
    isplitl [HS1]; · iexists _; iexact HS1
    iexact HT1
  ihave HL := (lane_enter c arg14 (bodyRun.sl.r c i arg1 g1) (bodyRun.sl.v2 c i arg1 g1) (· + ·) (fun κ g w l p => Ideal.exp2 (maskedScore (arg13.view.read (Elt Ideal) (arg13.view.writes (Elt Ideal) arg13.view.junk (bodyRun.sl.H13_1 c arg2 g2))) (keyAt c i XA) (arg4.view.read (Elt Ideal) g4) (bodyRun.sl.v152 c arg2 g2) (bodyRun.sl.r c i arg1 g1).toNat κ g w p)) 0 _ ⟨rfl, fun κ g w l => by
    rw [show bodyRun.sl.H14_1 = _ from rfl]
    exact (congrFun (View.read_writes_full _ _ _ _ []) _).trans Ideal.ofBits_zero_f32⟩) $$ H14
  sl_exec
  ihave HL' := (lane_open _ _ _ _ _ _ _ _) $$ HL
  icases HL' with ⟨%fz, ⟨%hz, H14⟩⟩
  sl_exec
  have hchk2 : k0_chk2 i (bodyRun.sl.r c i arg1 g1) (bodyRun.sl.v191 arg14 fz) := chk2_of h i _
  ihave HR' := (entails_of_eq (ring_leave c i XA h)) $$ HR
  icases HR' with ⟨⟨HC0, ⟨%s0', HS0⟩, HT0⟩, ⟨HC1, ⟨%s1', HS1⟩, HT1⟩⟩
  by_cases hslow : k0_cond7 (bodyRun.sl.v191 arg14 fz) = 1#1
  · sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    ihave HL := (lane_enter c arg15 (bodyRun.sl.r c i arg1 g1) (bodyRun.sl.v2 c i arg1 g1) max (fun κ g w l p => maskedScore (arg13.view.read (Elt Ideal) (arg13.view.writes (Elt Ideal) arg13.view.junk (bodyRun.sl.H13_1 c arg2 g2))) (keyAt c i XA) (arg4.view.read (Elt Ideal) g4) (bodyRun.sl.v152 c arg2 g2) (bodyRun.sl.r c i arg1 g1).toNat κ g w p) ⊥ _ ⟨rfl, fun κ g w l => by
      rw [show bodyRun.sl.H15_2 arg14 fz = _ from rfl]
      exact (congrFun (View.read_writes_full _ _ _ _ _) _).trans ofBits_bot⟩) $$ H15
    sl_exec
    ihave HL' := (lane_open _ _ _ _ _ _ _ _) $$ HL
    icases HL' with ⟨%fm, ⟨%hm, H15⟩⟩
    ihave HR' := (entails_of_eq (ring_leave c i XA h)) $$ HR
    icases HR' with ⟨⟨HC0, ⟨%s0', HS0⟩, HT0⟩, ⟨HC1, ⟨%s1', HS1⟩, HT1⟩⟩
    sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    ihave HL := (lane_enter c arg14 (bodyRun.sl.r c i arg1 g1) (bodyRun.sl.v2 c i arg1 g1) (· + ·) (fun κ g w l p => Ideal.exp2 (maskedScore (arg13.view.read (Elt Ideal) (arg13.view.writes (Elt Ideal) arg13.view.junk (bodyRun.sl.H13_1 c arg2 g2))) (keyAt c i XA) (arg4.view.read (Elt Ideal) g4) (bodyRun.sl.v152 c arg2 g2) (bodyRun.sl.r c i arg1 g1).toNat κ g w p - (arg15.view.read (Elt Ideal) (arg15.view.writes (Elt Ideal) arg15.view.junk (bodyRun.sl.H15_1 arg15 fm))) (ix3 κ (blkRow g w) l))) 0 _ ⟨rfl, fun κ g w l => by
      rw [show bodyRun.sl.H14_1_1 = _ from rfl]
      exact (congrFun (View.read_writes_full _ _ _ _ []) _).trans Ideal.ofBits_zero_f32⟩) $$ H14
    sl_exec
    ihave HL' := (lane_open _ _ _ _ _ _ _ _) $$ HL
    icases HL' with ⟨%fs, ⟨%hs', H14⟩⟩
    ihave HR' := (entails_of_eq (ring_leave c i XA h)) $$ HR
    icases HR' with ⟨⟨HC0, ⟨%s0', HS0⟩, HT0⟩, ⟨HC1, ⟨%s1', HS1⟩, HT1⟩⟩
    sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    sl_exec
    ihave HR' := (entails_of_eq (ring_leave c i XA h)) $$ HR
    icases HR' with ⟨⟨HC0, ⟨%s0', HS0⟩, HT0⟩, ⟨HC1, ⟨%s1', HS1⟩, HT1⟩⟩
    sl_step
    iapply Hk
    isplitl [H1]; · iexact H1
    isplitl [H2]; · iexact H2
    isplitl [H4]; · iexact H4
    isplitl [H5]; · iexists _; iexact H5
    isplitl [H6]; · iexists _; iexact H6
    isplitl [H7]
    · iexists _; isplitr; swap; (iexact H7); ipureintro; intro κ g w l
      have hQ : ∀ d : Fin 128, arg13.view.read (Elt Ideal) (arg13.view.writes (Elt Ideal) arg13.view.junk (bodyRun.sl.H13_1 c arg2 g2)) (ix3 κ (blkRow g w) d) = qcodesOf (arg2.view.read (Elt Ideal) g2) (ix4 (0 : Fin 1) (⟨7 * κ.val + g.val, by omega⟩ : Fin 28) w d) := fun d =>
        stored13 c arg2 arg13 arg13.view.junk g2 κ g w d
      have hq0 : bodyRun.sl.v152 c arg2 g2 = qmulOf (arg2.view.readAt (Elt Ideal) (Rect.unit (s := S1x28x32x128) ![0, 0, 0, 0] S1x28x32x128.size inb_S1x28x32x128_S1x28x32x128_0_0_0_0).toLoadRect g2) := rfl
      have hq : bodyRun.sl.v152 c arg2 g2 (ix3 (⟨7 * κ.val + g.val, by omega⟩ : Fin 28) (0 : Fin 1) (0 : Fin 1)) = qscaleOf (arg2.view.read (Elt Ideal) g2) (ix3 (0 : Fin 1) (⟨7 * κ.val + g.val, by omega⟩ : Fin 28) (0 : Fin 128)) := by
        rw [hq0, load_query]
        exact qmul_at _ _ _
      have hk := masked_eq _ _ _ (keyAt c i XA) (arg4.view.read (Elt Ideal) g4) _ (bodyRun.sl.r c i arg1 g1).toNat κ g w hQ hq
      have hs := nat_bot (qcodesOf (arg2.view.read (Elt Ideal) g2)) (keyAt c i XA) (arg4.view.read (Elt Ideal) g4) (qscaleOf (arg2.view.read (Elt Ideal) g2)) (bodyRun.sl.r c i arg1 g1) κ g w
      have hn : 1024 * nC (bodyRun.sl.r c i arg1 g1) ≤ 131072 := by have := nC_le h; omega
      have hv2 := hz.1
      have eM : arg15.view.read (Elt Ideal) (arg15.view.writes (Elt Ideal) arg15.view.junk (bodyRun.sl.H15_1 arg15 fm)) = k0_pay449 (arg15.view.read (Elt Ideal) fm) :=
        (View.read_writes_full arg15.view _ _ _ _).trans (congrArg k0_pay449 (load_whole arg15 fm))
      have hM : ∀ u : Fin 128, arg15.view.read (Elt Ideal) fm (ix3 κ (blkRow g w) u) = _ := fun u => (hm.2 κ g w u).trans (congrArg (laneFold _ _ _ _) (trips_t1 h))
      have hZ : ∀ u : Fin 128, arg14.view.read (Elt Ideal) fs (ix3 κ (blkRow g w) u) = _ := fun u => (hs'.2 κ g w u).trans (congrArg (laneFold _ _ _ _) (trips_t1 h))
      rw [eM] at hZ
      refine (congrFun (View.read_writes_full _ _ _ _ _) _).trans ?_
      have e : bodyRun.sl.r_3 c i arg1 arg14 arg15 g1 fm fs = k0_pay626 (Scalar.subi (bodyRun.sl.r c i arg1 g1) 32#32) (k0_pay625 (k0_pay449 (arg15.view.read (Elt Ideal) fm)) (arg14.view.read (Elt Ideal) fs)) := by
        refine congrArg₂ k0_pay626 hv2 ((load_whole arg15 _).trans ((View.read_writes_full arg15.view _ _ _ _).trans ?_))
        exact congrArg₂ k0_pay625 ((load_whole arg15 _).trans eM) (load_whole arg14 fs)
      rw [e]
      exact row_slow hn hs hk _ κ g w l _ _ hM hZ
    isplitl [H8]; · iexists _; isplitr; swap; (iexact H8); ipureintro; exact stored8 c arg2 arg8 _ _
    isplitl [H9]; · iexists _; isplitr; swap; (iexact H9); ipureintro; exact stored9 c arg2 arg9 _ _
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HC0 HS0 HT0]
    · isplitl [HC0]; · iexact HC0
      isplitl [HS0]; · iexists _; iexact HS0
      iexact HT0
    isplitl [HC1 HS1 HT1]
    · isplitl [HC1]; · iexact HC1
      isplitl [HS1]; · iexists _; iexact HS1
      iexact HT1
    iexists _; iexact HW
  · sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    sl_exec
    ihave HR' := (entails_of_eq (ring_leave c i XA h)) $$ HR
    icases HR' with ⟨⟨HC0, ⟨%s0', HS0⟩, HT0⟩, ⟨HC1, ⟨%s1', HS1⟩, HT1⟩⟩
    sl_step
    iapply Hk
    isplitl [H1]; · iexact H1
    isplitl [H2]; · iexact H2
    isplitl [H4]; · iexact H4
    isplitl [H5]; · iexists _; iexact H5
    isplitl [H6]; · iexists _; iexact H6
    isplitl [H7]
    · iexists _; isplitr; swap; (iexact H7); ipureintro; intro κ g w l
      have hQ : ∀ d : Fin 128, arg13.view.read (Elt Ideal) (arg13.view.writes (Elt Ideal) arg13.view.junk (bodyRun.sl.H13_1 c arg2 g2)) (ix3 κ (blkRow g w) d) = qcodesOf (arg2.view.read (Elt Ideal) g2) (ix4 (0 : Fin 1) (⟨7 * κ.val + g.val, by omega⟩ : Fin 28) w d) := fun d =>
        stored13 c arg2 arg13 arg13.view.junk g2 κ g w d
      have hq0 : bodyRun.sl.v152 c arg2 g2 = qmulOf (arg2.view.readAt (Elt Ideal) (Rect.unit (s := S1x28x32x128) ![0, 0, 0, 0] S1x28x32x128.size inb_S1x28x32x128_S1x28x32x128_0_0_0_0).toLoadRect g2) := rfl
      have hq : bodyRun.sl.v152 c arg2 g2 (ix3 (⟨7 * κ.val + g.val, by omega⟩ : Fin 28) (0 : Fin 1) (0 : Fin 1)) = qscaleOf (arg2.view.read (Elt Ideal) g2) (ix3 (0 : Fin 1) (⟨7 * κ.val + g.val, by omega⟩ : Fin 28) (0 : Fin 128)) := by
        rw [hq0, load_query]
        exact qmul_at _ _ _
      have hk := masked_eq _ _ _ (keyAt c i XA) (arg4.view.read (Elt Ideal) g4) _ (bodyRun.sl.r c i arg1 g1).toNat κ g w hQ hq
      have hs := nat_bot (qcodesOf (arg2.view.read (Elt Ideal) g2)) (keyAt c i XA) (arg4.view.read (Elt Ideal) g4) (qscaleOf (arg2.view.read (Elt Ideal) g2)) (bodyRun.sl.r c i arg1 g1) κ g w
      have hn : 1024 * nC (bodyRun.sl.r c i arg1 g1) ≤ 131072 := by have := nC_le h; omega
      have hv2 := hz.1
      have hZ : ∀ u : Fin 128, arg14.view.read (Elt Ideal) fz (ix3 κ (blkRow g w) u) = _ := fun u => (hz.2 κ g w u).trans (congrArg (laneFold _ _ _ _) (trips_t1 h))
      have hg : ¬ k0_cond7 (Scalar.cmpf CmpFPredicate.ogt (k0_pay611 (arg14.view.read (Elt Ideal) fz)) (FloatOps.ofBits (F := Ideal) FTy.f32 1056964608#32)) = 1#1 := by
        rw [← load_whole arg14 fz]; exact hslow
      refine (congrFun (View.read_writes_full _ _ _ _ _) _).trans ?_
      have e : bodyRun.sl.r_6 c i arg1 arg14 arg15 g1 fz = k0_pay626 (Scalar.subi (bodyRun.sl.r c i arg1 g1) 32#32) (k0_pay614 (k0_pay612 (arg14.view.read (Elt Ideal) fz)) k0_pay613) := by
        refine congrArg₂ k0_pay626 hv2 ((load_whole arg15 _).trans ((View.read_writes_full arg15.view _ _ _ _).trans ?_))
        exact congrArg (fun z => k0_pay614 (k0_pay612 z) k0_pay613) (load_whole arg14 fz)
      rw [e]
      exact row_good hn hs hk _ κ g w l _ hZ hg
    isplitl [H8]; · iexists _; isplitr; swap; (iexact H8); ipureintro; exact stored8 c arg2 arg8 _ _
    isplitl [H9]; · iexists _; isplitr; swap; (iexact H9); ipureintro; exact stored9 c arg2 arg9 _ _
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HC0 HS0 HT0]
    · isplitl [HC0]; · iexact HC0
      isplitl [HS0]; · iexists _; iexact HS0
      iexact HT0
    isplitl [HC1 HS1 HT1]
    · isplitl [HC1]; · iexact HC1
      isplitl [HS1]; · iexists _; iexact HS1
      iexact HT1
    iexists _; iexact HW

end
end Cert.KernelIdeal.Own
-- ==== Proof.LaunchI.lean ====
/-
  The launch: the buffers the region hands the body, split into what the body's run takes, and the whole program's run
  around it: it ends, nothing faults, the arguments are unchanged and every semaphore is at zero.
-/
module

public import proofs.«01_k».proof.Proof.BodyI
public import Idealize.ShloMosaic.Lib.Pipeline.Frame
public import proofs.«01_k».proof.Proof.Gen.KernelIdeal.Launch
public import proofs.«01_k».proof.Defs
public import proofs.«01_k».proof.Proof.Gen.Pre_lengths_fit

@[expose] public section

set_option maxRecDepth 8192
set_option maxHeartbeats 4000000

noncomputable section

namespace Cert.KernelIdeal.Own

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

local notation "𝕄" => MT nD τ sig Unit (Elt Ideal) ℕ (UU nD τ) ℕ

variable (m : (ℓ : Loc nD τ sig) → Buf (Elt Ideal) ℓ) (ρ : Dev nD → PrngReg)

/-! ## What the region finds -/

/-- Each buffer when the region is entered: after the two host transposes. -/
abbrev V (c : Dev nD) (b : Ref sig .tc) : Buf (Elt Ideal) ((c : Thread nD τ).loc b) := StableHlo.after hostOps0 (fun b => m (c, b)) b

theorem hostOps0_fresh : (hostOps0 : List (HloOp τ sig (Elt Ideal))).Forall fun op => op.fresh = ∅ := ⟨rfl, rfl⟩

theorem hmain : Pipeline.HMainP (Ix := Unit) (Name := ℕ) (U := UU nD τ) (Lvl := ℕ) (pcfgs (F := Ideal)) 0 defs₀ Variants.none m main (V m) :=
  Pipeline.hmainP_prefix pcfgs 0 defs₀ Variants.none m main hostOps0 hostOps0_sub hostOps0_fresh main_chain

theorem V_unwritten (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- The table's contents (there is one device). -/
def tbl : pre0.Contents (Elt Ideal) := fun j => V m (0 : Dev nD) (pre0.ref j)
theorem V_pre (c : Dev nD) (j : Fin 1) : V m c (pre0.ref j) = tbl m j := by
  obtain rfl : c = 0 := Subsingleton.elim _ _; rfl
abbrev adm : (pcfg0 (F := Ideal)).Adm := ⟨tbl m, trivial⟩
abbrev cfgM : Cfg sig Λ₀ := cfg0 (adm m)

/-- The table, held at half a share: the pipeline keeps the other half. -/
abbrev tableP (c : Dev nD) : sProp 𝕄 := ((c : Thread nD τ).loc main_arg3) ↦{fullShare.right} (tbl m 0)
theorem PhiT_eq (c : Dev nD) : (Pipeline.ΦT pre0 (tbl m) c : sProp 𝕄) = tableP m c := by
  unfold Pipeline.ΦT Pipeline.prefHeld
  rw [show (Finset.univ : Finset (Fin 1)) = {(0 : Fin 1)} from by decide, bigSep_singleton]
  rfl

abbrev XA (c : Dev nD) : Buf (Elt Ideal) (aM.view.loc (c : Thread nD τ)) := V m c main_arg1

abbrev osem : Fin 2 → SemLoc sig := fun s => .dma (csm s).sem
theorem ownSemFacts : Pipeline.OwnSemFacts spec0 osem := by decide

/-! ## The chunk buffer in its two slots -/

abbrev S2s (s : Fin 2) : Finset S2x1024x4x128.Idx := (Rect.unit (s := S2x1024x4x128) (slotOff s) S1x1024x4x128.size (slotOff_inb s)).set

theorem rslot_set (s : Fin 2) : (rslot s : Memref sig .tc .vmem _ _).view.set = S2s s := (View.set_reshape _ _).trans (View.set_slice_whole _ _)

theorem mem_S2s (s : Fin 2) (y : S2x1024x4x128.Idx) : y ∈ S2s s ↔ (y 0).val = s.val := by
  rw [Rect.mem_set_unit]
  have h1 : (y 1).val < 1024 := (y 1).isLt
  have h2 : (y 2).val < 4 := (y 2).isLt
  have h3 : (y 3).val < 128 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4; omega
    · show 0 ≤ (y 3).val ∧ (y 3).val < 0 + 128; omega
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem slotP_eq (c : Dev nD) (s : Fin 2) (f) : slotP c s f = (((c : Thread nD τ).loc cc0_scratch0) ↦[S2s s]{fullShare} f : sProp 𝕄) :=
  congrArg (fun S => (_ ↦[S]{fullShare} f : sProp 𝕄)) (rslot_set s)
/-- The buffer whole is its two slots, and back. -/
theorem buf_split (c : Dev nD) :
    iprop(∃ f : Buf (Elt Ideal) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt Ideal) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

/-- The kernel's own cells at zero are the two slots' cells. -/
theorem ownSems0_eq (c : Dev nD) : (Pipeline.ownSems0 (Ix := Unit) (Name := ℕ) (U := UU nD τ) (Lvl := ℕ) (Val := Elt Ideal) (τ := τ) osem c : sProp 𝕄)
    = iprop(cellP c 0 ∗ cellP c 1) := by
  unfold Pipeline.ownSems0; rw [bigSep_fin2]

/-- The codes whole are the two slots' read tokens and what is left of the share. -/
abbrev dropP (c : Dev nD) : sProp 𝕄 := aM.view.loc (c : Thread nD τ) ↦[Finset.univ]{Transfers.shareDrop fullShare 2} (XA m c)
theorem codes_split (c : Dev nD) :
    (((c : Thread nD τ).loc main_arg1) ↦{fullShare} V m c main_arg1 : sProp 𝕄)
      ⊢ iprop(dropP m c ∗ tokP c (XA m c) 0 Finset.univ ∗ tokP c (XA m c) 1 Finset.univ) :=
  (Transfers.pointsTo_toks_split (Ix := Unit) (Name := ℕ) (U := UU nD τ) (Lvl := ℕ) fullShare 2).trans
    (entails_of_eq (congrArg (fun R : sProp 𝕄 => iprop(dropP m c ∗ R)) (bigSep_fin2 _)))
theorem codes_join (c : Dev nD) :
    iprop(dropP m c ∗ tokP c (XA m c) 0 Finset.univ ∗ tokP c (XA m c) 1 Finset.univ)
      ⊢ (((c : Thread nD τ).loc main_arg1) ↦{fullShare} V m c main_arg1 : sProp 𝕄) :=
  (entails_of_eq (congrArg (fun R : sProp 𝕄 => iprop(dropP m c ∗ R)) (bigSep_fin2 fun s => tokP c (XA m c) s Finset.univ).symm)).trans
    (Transfers.pointsTo_toks_join (Ix := Unit) (Name := ℕ) (U := UU nD τ) (Lvl := ℕ) fullShare 2)

/-! ## The pipeline's proof data -/

/-- The region invariant, the same before and after every point. -/
def Φ (c : Dev nD) : sProp 𝕄 :=
  iprop((∃ r, prngReg c r) ∗ dropP m c ∗ tableP m c
    ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f)
    ∗ homeP c (XA m c) 0 ∗ homeP c (XA m c) 1)

abbrev H0 : Finset (Ref sig .tc) := {main_arg1}
theorem H0_sub : H0 ⊆ Pipeline.restRefsP sig pre0 spec0 := by decide

theorem hin (c : Dev nD) : iprop(Pipeline.ΦD osem spec0 H0 (V m) c ∗ Pipeline.ΦT pre0 (tbl m) c) ⊢ (Φ m c : sProp 𝕄) := by
  rw [Pipeline.ΦD_eq, scopedRest0_eq, ownSems0_eq, PhiT_eq, bigSep_singleton]
  unfold Φ
  iintro ⟨⟨⟨Hs0, Hs1, Hs2, Hs3, Hs4, Hs5, Hs6⟩, Hr, ⟨Hc0, Hc1⟩, Ha⟩, Ht⟩
  ihave Ha' := (codes_split m c) $$ Ha
  icases Ha' with ⟨Hd, Hk0, Hk1⟩
  ihave Hb := (buf_split c) $$ Hs0
  icases Hb with ⟨Hb0, Hb1⟩
  isplitl [Hr]; · iexact Hr
  isplitl [Hd]; · iexact Hd
  isplitl [Ht]; · iexact Ht
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hc0 Hb0 Hk0]
  · isplitl [Hc0]; · iexact Hc0
    isplitl [Hb0]; · iexact Hb0
    iexact Hk0
  isplitl [Hc1]; · iexact Hc1
  isplitl [Hb1]; · iexact Hb1
  iexact Hk1

theorem hout (c : Dev nD) : (Φ m c : sProp 𝕄) ⊢ Pipeline.ΦD osem spec0 H0 (V m) c := by
  rw [Pipeline.ΦD_eq, scopedRest0_eq, ownSems0_eq, bigSep_singleton]
  unfold Φ
  iintro ⟨Hr, Hd, Ht, Hs1, Hs2, Hs3, Hs4, Hs5, Hs6, ⟨Hc0, Hb0, Hk0⟩, ⟨Hc1, Hb1, Hk1⟩⟩
  isplitl [Hb0 Hb1 Hs1 Hs2 Hs3 Hs4 Hs5 Hs6]
  · isplitl [Hb0 Hb1]
    · iapply (buf_join c)
      isplitl [Hb0]; · iexact Hb0
      iexact Hb1
    isplitl [Hs1]; · iexact Hs1
    isplitl [Hs2]; · iexact Hs2
    isplitl [Hs3]; · iexact Hs3
    isplitl [Hs4]; · iexact Hs4
    isplitl [Hs5]; · iexact Hs5
    iexact Hs6
  isplitl [Hr]; · iexact Hr
  isplitl [Hc0 Hc1]
  · isplitl [Hc0]; · iexact Hc0
    iexact Hc1
  iapply (codes_join m c)
  isplitl [Hd]; · iexact Hd
  isplitl [Hk0]; · iexact Hk0
  iexact Hk1

/-- The query block of the transposed query array at a grid point. -/
def qblk (c : Dev nD) (t : Fin (cfgM m).N) : Vec Ideal S1x28x32x128 .bf16 :=
  (((cfgM m).win 0).blk t).view.read (Elt Ideal) (V m c (Pipeline.arrRef (cfgM m).spec 0))

/-- The key scales' block at a grid point. -/
def ksblk (c : Dev nD) (t : Fin (cfgM m).N) : Vec Ideal S1x4x131072 .f32 :=
  (((cfgM m).win 1).blk t).view.read (Elt Ideal) (V m c (Pipeline.arrRef (cfgM m).spec 1))

/-- The log-sum-exp rows the body leaves, from the blocks it is handed. -/
def rowsAt (c : Dev nD) (t : Fin (cfgM m).N) (X : Vec Ideal S1x4x224x128 .f32) : Prop :=
  ∀ (κ : Fin 4) (g : Fin 7) (w : Fin 32) (l : Fin 128), X (ix4 (0 : Fin 1) κ (blkRow g w) l)
    = lseRow (qcodesOf (qblk m c t)) (keyAt c (grid0.coords t) (XA m c)) (ksblk m c t) (qscaleOf (qblk m c t)) (lenAt c (grid0.coords t) (Memref.whole main_arg3) (tbl m 0)) κ g w

/-- What the body makes of each staging buffer: the query block and the key scales stay, the log-sum-exp rows, the codes and
    the scales are the ones of those blocks; nothing is said of the others. -/
def afterR (c : Dev nD) : (w : Fin (cfgM m).W) → Fin (cfgM m).N → (((cfgM m).win w).block.Idx → Elt Ideal ((cfgM m).win w).elt) → (((cfgM m).win w).block.Idx → Elt Ideal ((cfgM m).win w).elt) → Prop :=
  fun
  | 0 => fun _ Y X => X = Y
  | 1 => fun _ Y X => X = Y
  | 4 => fun t _ X => rowsAt m c t X
  | 5 => fun t _ X => X = qcodesOf (qblk m c t)
  | 6 => fun t _ X => X = qscaleOf (qblk m c t)
  | _ => fun _ _ _ => True

/-- Nothing is said here of what the body leaves in the windows' buffers. -/
def rdat (c : Dev nD) : RDat τ (Elt Ideal) Unit ℕ (UU nD τ) ℕ (cfgM m) c where
  A w := V m c (Pipeline.arrRef (cfgM m).spec w)
  after := afterR m c
  Φ _ := Φ m c
  q _ := fullShare
  owed _ := 0

abbrev st0 (t : Fin (cfgM m).N) : Memref sig .tc .vmem S1x28x32x128 .bf16 := ((cfgM m).win 0).stage ((cfgM m).slots t 0)
abbrev hst0 (t : Fin (cfgM m).N) : (st0 m t).IsWhole := hstage0_0 (((cfgM m).slots t 0).cast nbuf0_0)
abbrev st1 (t : Fin (cfgM m).N) : Memref sig .tc .vmem S1x4x131072 .f32 := ((cfgM m).win 1).stage ((cfgM m).slots t 1)
abbrev hst1 (t : Fin (cfgM m).N) : (st1 m t).IsWhole := hstage0_1 (((cfgM m).slots t 1).cast nbuf0_1)
abbrev st2 (t : Fin (cfgM m).N) : Memref sig .tc .vmem S1x4x131072 .f32 := ((cfgM m).win 2).stage ((cfgM m).slots t 2)
abbrev hst2 (t : Fin (cfgM m).N) : (st2 m t).IsWhole := hstage0_2 (((cfgM m).slots t 2).cast nbuf0_2)
abbrev st3 (t : Fin (cfgM m).N) : Memref sig .tc .vmem S1x4x131072 .f32 := ((cfgM m).win 3).stage ((cfgM m).slots t 3)
abbrev hst3 (t : Fin (cfgM m).N) : (st3 m t).IsWhole := hstage0_3 (((cfgM m).slots t 3).cast nbuf0_3)
abbrev st4 (t : Fin (cfgM m).N) : Memref sig .tc .vmem S1x4x224x128 .f32 := ((cfgM m).win 4).stage ((cfgM m).slots t 4)
abbrev hst4 (t : Fin (cfgM m).N) : (st4 m t).IsWhole := hstage0_4 (((cfgM m).slots t 4).cast nbuf0_4)
abbrev st5 (t : Fin (cfgM m).N) : Memref sig .tc .vmem S1x28x32x128 .fp8e4m3 := ((cfgM m).win 5).stage ((cfgM m).slots t 5)
abbrev hst5 (t : Fin (cfgM m).N) : (st5 m t).IsWhole := hstage0_5 (((cfgM m).slots t 5).cast nbuf0_5)
abbrev st6 (t : Fin (cfgM m).N) : Memref sig .tc .vmem S1x28x128 .f32 := ((cfgM m).win 6).stage ((cfgM m).slots t 6)
abbrev hst6 (t : Fin (cfgM m).N) : (st6 m t).IsWhole := hstage0_6 (((cfgM m).slots t 6).cast nbuf0_6)

set_option maxRecDepth 65536 in
theorem defs_tc : (defs₀ (F := Ideal)) .tc (cfgM m).body
    = fun a => cc0_snapkv (F := Ideal) (grid0.coords a.1) (Memref.whole main_arg3) (Memref.isWhole_whole _) (spec0_0.stage (a.2 0)) (hstage0_0 ((a.2 0).cast nbuf0_0)) aM (Memref.isWhole_whole _) (spec0_1.stage (a.2 1)) (hstage0_1 ((a.2 1).cast nbuf0_1)) (spec0_2.stage (a.2 2)) (hstage0_2 ((a.2 2).cast nbuf0_2)) (spec0_3.stage (a.2 3)) (hstage0_3 ((a.2 3).cast nbuf0_3)) (spec0_4.stage (a.2 4)) (hstage0_4 ((a.2 4).cast nbuf0_4)) (spec0_5.stage (a.2 5)) (hstage0_5 ((a.2 5).cast nbuf0_5)) (spec0_6.stage (a.2 6)) (hstage0_6 ((a.2 6).cast nbuf0_6)) bufM (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 := rfl
theorem prog_eq (t : Fin (cfgM m).N) : (defs₀ (F := Ideal)) .tc (cfgM m).body ((cfgM m).bodyArgs t ((cfgM m).slots t))
    = cc0_snapkv (F := Ideal) (grid0.coords t) (Memref.whole main_arg3) (Memref.isWhole_whole _) (st0 m t) (hst0 m t) aM (Memref.isWhole_whole _) (st1 m t) (hst1 m t) (st2 m t) (hst2 m t) (st3 m t) (hst3 m t) (st4 m t) (hst4 m t) (st5 m t) (hst5 m t) (st6 m t) (hst6 m t) bufM (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 :=
  (congrFun (defs_tc m) _).trans rfl

/-- Every length of the table fits. -/
def LenOK : Prop := ∀ (c : Dev nD) (j : S2.Idx), Fits (m ((c : Thread nD τ).loc main_arg3) j)

theorem lenOK_at (h : LenOK m) (c : Dev nD) (i : grid0.Coords) : Fits (lenAt c i (Memref.whole main_arg3) (tbl m 0)) := by
  obtain rfl : c = 0 := Subsingleton.elim _ _
  have e : tbl m 0 = m (((0 : Dev nD) : Thread nD τ).loc main_arg3) := V_unwritten m 0 main_arg3 (by decide) (by decide)
  rw [e]
  exact h 0 _

theorem whole_pts (c : Dev nD) (b : Ref sig .tc) (q : PosShare TreeShare) (f : Buf (Elt Ideal) ((c : Thread nD τ).loc b)) :
    (((c : Thread nD τ).loc b) ↦[(View.whole b).set]{q} f : sProp 𝕄) = (((c : Thread nD τ).loc b) ↦{q} f) := by
  rw [View.set_whole]

theorem finds0 (c : Dev nD) (t : Fin (cfgM m).N) (Y : ((cfgM m).win 0).block.Idx → Elt Ideal ((cfgM m).win 0).elt) (h : (rdat m c).Finds 0 t Y) : Y = qblk m c t := by
  obtain ⟨d, hd⟩ := RDat.finds_in_eq_fetched (rdat m c) 0 rfl (fun _ _ _ => rfl) (fun _ _ _ h => h) t Y h
  rw [hd]; rfl

theorem finds1 (c : Dev nD) (t : Fin (cfgM m).N) (Y : ((cfgM m).win 1).block.Idx → Elt Ideal ((cfgM m).win 1).elt) (h : (rdat m c).Finds 1 t Y) : Y = ksblk m c t := by
  obtain ⟨d, hd⟩ := RDat.finds_in_eq_fetched (rdat m c) 1 rfl (fun _ _ _ => rfl) (fun _ _ _ h => h) t Y h
  rw [hd]; rfl

set_option backward.isDefEq.respectTransparency.types false in
theorem body_obligation (h : LenOK m) (c : Dev nD) : (rdat m c).BodyObligation (defs₀ (F := Ideal)) Variants.none () Set.univ := fun t Y hY => by
  rw [bigSep_W0, bigSep_W0]
  dsimp only
  rw [show (rdat m c).Φ t.castSucc = Φ m c from rfl, show (rdat m c).Φ t.succ = Φ m c from rfl]
  unfold RDat.owesAt Pipeline.owesWithin
  rw [show (rdat m c).owed t.castSucc = 0 from rfl, show (rdat m c).owed t.succ = 0 from rfl]
  unfold owns Φ
  iintro ⟨⟨Hr, Hd, Ht, ⟨%s1, Hs1⟩, ⟨%s2, Hs2⟩, ⟨%s3, Hs3⟩, ⟨%s4, Hs4⟩, ⟨%s5, Hs5⟩, ⟨%s6, Hs6⟩, HA, HB⟩, ⟨%W, -, HW⟩, ⟨%g0, %hg0, Hw0⟩, ⟨%g1, %hg1, Hw1⟩, ⟨%g2, %hg2, Hw2⟩, ⟨%g3, %hg3, Hw3⟩, ⟨%g4, %hg4, Hw4⟩, ⟨%g5, %hg5, Hw5⟩, ⟨%g6, %hg6, Hw6⟩⟩
  sl_rw [prog_eq m t]
  iapply (bodyRun Variants.none c none (XA m c) (grid0.coords t) (Memref.whole main_arg3) (Memref.isWhole_whole _) (st0 m t) (hst0 m t) (st1 m t) (hst1 m t) (st2 m t) (hst2 m t) (st3 m t) (hst3 m t) (st4 m t) (hst4 m t) (st5 m t) (hst5 m t) (st6 m t) (hst6 m t) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) fullShare.right (tbl m 0) g0 g1 (lenOK_at m h c (grid0.coords t)))
  isplitl [Ht Hs1 Hs2 Hs3 Hs4 Hs5 Hs6 HA HB HW Hw0 Hw1 Hw2 Hw3 Hw4 Hw5 Hw6]
  · unfold held
    isplitl [Ht]; · iapply (entails_of_eq (whole_pts c main_arg3 fullShare.right (tbl m 0)).symm); iexact Ht
    isplitl [Hw0]; · iexact Hw0
    isplitl [Hw1]; · iexact Hw1
    isplitl [Hw2]; · iexists _; iexact Hw2
    isplitl [Hw3]; · iexists _; iexact Hw3
    isplitl [Hw4]; · iexists _; iexact Hw4
    isplitl [Hw5]; · iexists _; iexact Hw5
    isplitl [Hw6]; · iexists _; iexact Hw6
    isplitl [Hs1]; · iexists s1; iapply (entails_of_eq (whole_pts c cc0_scratch1 fullShare s1).symm); iexact Hs1
    isplitl [Hs2]; · iexists s2; iapply (entails_of_eq (whole_pts c cc0_scratch2 fullShare s2).symm); iexact Hs2
    isplitl [Hs3]; · iexists s3; iapply (entails_of_eq (whole_pts c cc0_scratch3 fullShare s3).symm); iexact Hs3
    isplitl [Hs4]; · iexists s4; iapply (entails_of_eq (whole_pts c cc0_scratch4 fullShare s4).symm); iexact Hs4
    isplitl [Hs5]; · iexists s5; iapply (entails_of_eq (whole_pts c cc0_scratch5 fullShare s5).symm); iexact Hs5
    isplitl [Hs6]; · iexists s6; iapply (entails_of_eq (whole_pts c cc0_scratch6 fullShare s6).symm); iexact Hs6
    isplitl [HA]; · iexact HA
    isplitl [HB]; · iexact HB
    iexists W; iexact HW
  · unfold left
    iintro ⟨Ht, Hw0, Hw1, ⟨%o2, Hw2⟩, ⟨%o3, Hw3⟩, ⟨%o4, %ho4, Hw4⟩, ⟨%o5, %ho5, Hw5⟩, ⟨%o6, %ho6, Hw6⟩, ⟨%r1, Hs1⟩, ⟨%r2, Hs2⟩, ⟨%r3, Hs3⟩, ⟨%r4, Hs4⟩, ⟨%r5, Hs5⟩, ⟨%r6, Hs6⟩, HA, HB, ⟨%W', HW⟩⟩
    isplitl [Hr Hd Ht Hs1 Hs2 Hs3 Hs4 Hs5 Hs6 HA HB]
    · isplitl [Hr]; · iexact Hr
      isplitl [Hd]; · iexact Hd
      isplitl [Ht]; · iapply (entails_of_eq (whole_pts c main_arg3 fullShare.right (tbl m 0))); iexact Ht
      isplitl [Hs1]; · iexists r1; iapply (entails_of_eq (whole_pts c cc0_scratch1 fullShare r1)); iexact Hs1
      isplitl [Hs2]; · iexists r2; iapply (entails_of_eq (whole_pts c cc0_scratch2 fullShare r2)); iexact Hs2
      isplitl [Hs3]; · iexists r3; iapply (entails_of_eq (whole_pts c cc0_scratch3 fullShare r3)); iexact Hs3
      isplitl [Hs4]; · iexists r4; iapply (entails_of_eq (whole_pts c cc0_scratch4 fullShare r4)); iexact Hs4
      isplitl [Hs5]; · iexists r5; iapply (entails_of_eq (whole_pts c cc0_scratch5 fullShare r5)); iexact Hs5
      isplitl [Hs6]; · iexists r6; iapply (entails_of_eq (whole_pts c cc0_scratch6 fullShare r6)); iexact Hs6
      isplitl [HA]; · iexact HA
      iexact HB
    isplitl [HW]
    · iexists W'; isplitr; · ipureintro; exact fun _ _ => Or.inl trivial
      iexact HW
    isplitl [Hw0]
    · iexists ((st0 m t).view.read (Elt Ideal) g0); isplitr; · ipureintro; exact hg0
      iexists g0; isplitr; · ipureintro; rfl
      iexact Hw0
    isplitl [Hw1]
    · iexists ((st1 m t).view.read (Elt Ideal) g1); isplitr; · ipureintro; exact hg1
      iexists g1; isplitr; · ipureintro; rfl
      iexact Hw1
    isplitl [Hw2]
    · iexists ((st2 m t).view.read (Elt Ideal) o2); isplitr; · ipureintro; trivial
      iexists o2; isplitr; · ipureintro; rfl
      iexact Hw2
    isplitl [Hw3]
    · iexists ((st3 m t).view.read (Elt Ideal) o3); isplitr; · ipureintro; trivial
      iexists o3; isplitr; · ipureintro; rfl
      iexact Hw3
    isplitl [Hw4]
    · iexists ((st4 m t).view.read (Elt Ideal) o4); isplitr
      · ipureintro
        have e0 : (st0 m t).view.read (Elt Ideal) g0 = qblk m c t := hg0.trans (finds0 m c t _ (hY 0))
        have e1 : (st1 m t).view.read (Elt Ideal) g1 = ksblk m c t := hg1.trans (finds1 m c t _ (hY 1))
        rw [e0, e1] at ho4
        exact ho4
      iexists o4; isplitr; · ipureintro; rfl
      iexact Hw4
    isplitl [Hw5]
    · iexists ((st5 m t).view.read (Elt Ideal) o5); isplitr; · ipureintro; exact ho5.trans (congrArg qcodesOf (hg0.trans (finds0 m c t _ (hY 0))))
      iexists o5; isplitr; · ipureintro; rfl
      iexact Hw5
    iexists ((st6 m t).view.read (Elt Ideal) o6); isplitr; · ipureintro; exact ho6.trans (congrArg qscaleOf (hg0.trans (finds0 m c t _ (hY 0))))
    iexists o6; isplitr; · ipureintro; rfl
    iexact Hw6

/-! ## The run -/

theorem run_main (h : LenOK m) :
    θ_run defs (onTc (τ := τ) (main (F := Ideal))) ⟨m, fun _ => 0, ρ⟩ (fun r => RDat.FramePost (cfgM m) (rdat m) (V m) r ∧ r.2.sem = fun _ => 0) :=
  RDat.θ_run_frameP_dma pcfgs (fun _ => adm m) (0 : Fin 1) launch0 osem defs₀ Variants.none (rdat m) ownSemFacts H0 H0_sub m ρ main
    (body_obligation m h) (fun c w => by unfold RDat.share; split <;> rfl) (fun _ _ => rfl) (V m) (hmain m) (fun _ _ => rfl) (V_pre m) (hin m) (hout m) _ (fun _ hr => hr)

/-- `lengths_fit` all ones is every length fitting. -/
theorem fits_of_pre (m : (ℓ : Loc nD τ sig) → Buf (Elt Ideal) ℓ) (h : Cert.Pre_KernelIdeal m) : LenOK m := by
  intro c j
  have e := congrFun (h c) j
  simp only [Cert.Pre_lengths_fit.fn, andi, cmpi, broadcastInDim, constantI] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, decide_eq_true_eq] at e
  have h0 : (1#32 : BitVec 32).toInt = 1 := by decide
  have h4 : (131072#32 : BitVec 32).toInt = 131072 := by decide
  rw [h0, h4] at e
  have hc : 2 * (m ((c : Thread nD τ).loc main_arg3) j : BitVec 32).toNat < 2 ^ 32 := by
    by_contra hcon
    have := BitVec.toInt_eq_toNat_cond (m ((c : Thread nD τ).loc main_arg3) j : BitVec 32)
    rw [if_neg hcon] at this
    have hlt := (m ((c : Thread nD τ).loc main_arg3) j : BitVec 32).isLt
    omega
  have ht : (m ((c : Thread nD τ).loc main_arg3) j : BitVec 32).toInt = (m ((c : Thread nD τ).loc main_arg3) j : BitVec 32).toNat := by
    rw [BitVec.toInt_eq_toNat_cond, if_pos hc]
  exact ⟨by omega, by omega⟩

/-- From lengths that fit, the run ends with the arguments unchanged and every semaphore at zero. -/
theorem frame_of (m : (ℓ : Loc nD τ sig) → Buf (Elt Ideal) ℓ) (ρ : Dev nD → PrngReg) (h : LenOK m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r hr => ⟨fun c =>
    ⟨((hr.1 c).2 main_arg0 (show main_arg0 ∈ Pipeline.restRefs sig spec0 from by decide)).trans (V_unwritten m c main_arg0 (by decide) (by decide)),
     ((hr.1 c).2 main_arg1 (show main_arg1 ∈ Pipeline.restRefs sig spec0 from by decide)).trans (V_unwritten m c main_arg1 (by decide) (by decide)),
     ((hr.1 c).2 main_arg2 (show main_arg2 ∈ Pipeline.restRefs sig spec0 from by decide)).trans (V_unwritten m c main_arg2 (by decide) (by decide)),
     ((hr.1 c).2 main_arg3 (show main_arg3 ∈ Pipeline.restRefs sig spec0 from by decide)).trans (V_unwritten m c main_arg3 (by decide) (by decide))⟩, hr.2⟩)
    (run_main m ρ h)

/-- `Cert.quiescent_KernelIdeal` (Defs.lean). -/
theorem frame : Cert.quiescent_KernelIdeal := fun m ρ hpre => frame_of m ρ (fits_of_pre m hpre)

end Cert.KernelIdeal.Own

end
-- ==== Proof.OuterK.lean ====
/-
  The loop over the kv heads of one chunk, for each of the four streams and for the unmasked and the masked tiles:
  its trip runs the generated loop over the tiles of a head, and its state is the fold of that loop's.
-/
module

public import proofs.«01_k».proof.Proof.Gen.Kernel.Loops
public import Idealize.ShloMosaic.Lib.Tactic

@[expose] public section

set_option maxRecDepth 8192
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline library's algebra beside the counters the kernel's own transfers ride on. -/
abbrev UU (nD : Nat) (τ : Topo) : Type := UR sig nD τ × Counters
local notation "𝕄" => MT nD τ sig Unit (Elt F) ℕ (UU nD τ) ℕ

section

variable (𝒱 : Variants) (c : Dev nD) (bd : Option 𝒱.V) (i : grid0.Coords)
  (arg1 : Memref sig .tc .smem S2 .i32) (harg1 : arg1.IsWhole)
  (arg2 : Memref sig .tc .vmem S1x28x32x128 .bf16) (harg2 : arg2.IsWhole)
  (arg3 : Memref sig .tc .hbm S2x131072x4x128 .fp8e4m3) (harg3 : arg3.IsWhole)
  (arg4 : Memref sig .tc .vmem S1x4x131072 .f32) (harg4 : arg4.IsWhole)
  (arg5 : Memref sig .tc .vmem S1x4x131072 .f32) (harg5 : arg5.IsWhole)
  (arg6 : Memref sig .tc .vmem S1x4x131072 .f32) (harg6 : arg6.IsWhole)
  (arg7 : Memref sig .tc .vmem S1x4x224x128 .f32) (harg7 : arg7.IsWhole)
  (arg8 : Memref sig .tc .vmem S1x28x32x128 .fp8e4m3) (harg8 : arg8.IsWhole)
  (arg9 : Memref sig .tc .vmem S1x28x128 .f32) (harg9 : arg9.IsWhole)
  (arg10 : Memref sig .tc .vmem S2x1024x4x128 .fp8e4m3) (harg10 : arg10.IsWhole)
  (arg11 : Memref sig .tc .vmem S4x1024x128 .fp8e4m3) (harg11 : arg11.IsWhole)
  (arg12 : Memref sig .tc .vmem S4x8x1024 .f32) (harg12 : arg12.IsWhole)
  (arg13 : Memref sig .tc .vmem S4x224x128 .fp8e4m3) (harg13 : arg13.IsWhole)
  (arg14 : Memref sig .tc .vmem S4x224x128 .f32) (harg14 : arg14.IsWhole)
  (arg15 : Memref sig .tc .vmem S4x224x128 .f32) (harg15 : arg15.IsWhole)
  (arg16 : Memref sig .tc .vmem S4x131328 .f32) (harg16 : arg16.IsWhole)
  (arg17 : DmaSems sig S2) (v1 : Elt F .i32)

include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1

/-- What `arg14` holds before kv head `k` (loop `k0_t2`), from `G` at the loop's entry. -/
def S_t2 (k0_hw1 : k0_chk1 i v1) (v2 : BitVec 32) (v21 : BitVec 32) (v152 : FVec F S28x1x1 .f32) (v159 : FVec F S4x224x128 .f32) (v160 : Vec F S4x224x128 .f32) (X_arg11 : BufTy.Contents (Elt F) arg11.view.ty) (X_arg12 : BufTy.Contents (Elt F) arg12.view.ty) (X_arg13 : BufTy.Contents (Elt F) arg13.view.ty) (G : BufTy.Contents (Elt F) arg14.view.ty) : ℕ → BufTy.Contents (Elt F) arg14.view.ty
  | 0 => G
  | k + 1 => if h : k < k0_t2_loop.trips then
      arg14.view.writes (Elt F) (S_t2 k0_hw1 v2 v21 v152 v159 v160 X_arg11 X_arg12 X_arg13 G k) (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 ⟨k, h⟩ (Scf.iv 0#32 1#32 k) X_arg11 X_arg12 X_arg13 (S_t2 k0_hw1 v2 v21 v152 v159 v160 X_arg11 X_arg12 X_arg13 G k) 0#32 k0_t3_loop.trips).2
    else S_t2 k0_hw1 v2 v21 v152 v159 v160 X_arg11 X_arg12 X_arg13 G k

theorem S_t2_succ (k0_hw1 : k0_chk1 i v1) (v2 : BitVec 32) (v21 : BitVec 32) (v152 : FVec F S28x1x1 .f32) (v159 : FVec F S4x224x128 .f32) (v160 : Vec F S4x224x128 .f32) (X_arg11 : BufTy.Contents (Elt F) arg11.view.ty) (X_arg12 : BufTy.Contents (Elt F) arg12.view.ty) (X_arg13 : BufTy.Contents (Elt F) arg13.view.ty) (G : BufTy.Contents (Elt F) arg14.view.ty) (k : Fin k0_t2_loop.trips) :
    S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G (k.val + 1)
      = arg14.view.writes (Elt F) (S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G k.val) (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 k (Scf.iv 0#32 1#32 k.val) X_arg11 X_arg12 X_arg13 (S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G k.val) 0#32 k0_t3_loop.trips).2 := by
  rw [S_t2.eq_2]; exact dif_pos k.isLt

/-- What `arg14` holds before kv head `k` (loop `k0_t4`), from `G` at the loop's entry. -/
def S_t4 (k0_hw1 : k0_chk1 i v1) (v2 : BitVec 32) (v21 : BitVec 32) (v152 : FVec F S28x1x1 .f32) (v159 : FVec F S4x224x128 .f32) (v160 : Vec F S4x224x128 .f32) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg14.view.ty) : ℕ → BufTy.Contents (Elt F) arg14.view.ty
  | 0 => G
  | k + 1 => if h : k < k0_t4_loop.trips then
      arg14.view.writes (Elt F) (S_t4 k0_hw1 v2 v21 v152 v159 v160 arg18 X_arg11 X_arg12 X_arg13 G k) (st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 ⟨k, h⟩ (Scf.iv 0#32 1#32 k) X_arg11 X_arg12 X_arg13 (S_t4 k0_hw1 v2 v21 v152 v159 v160 arg18 X_arg11 X_arg12 X_arg13 G k) 0#32 k0_t5_loop.trips).2
    else S_t4 k0_hw1 v2 v21 v152 v159 v160 arg18 X_arg11 X_arg12 X_arg13 G k

theorem S_t4_succ (k0_hw1 : k0_chk1 i v1) (v2 : BitVec 32) (v21 : BitVec 32) (v152 : FVec F S28x1x1 .f32) (v159 : FVec F S4x224x128 .f32) (v160 : Vec F S4x224x128 .f32) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg14.view.ty) (k : Fin k0_t4_loop.trips) :
    S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G (k.val + 1)
      = arg14.view.writes (Elt F) (S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G k.val) (st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 k (Scf.iv 0#32 1#32 k.val) X_arg11 X_arg12 X_arg13 (S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G k.val) 0#32 k0_t5_loop.trips).2 := by
  rw [S_t4.eq_2]; exact dif_pos k.isLt

/-- What `arg15` holds before kv head `k` (loop `k0_t12`), from `G` at the loop's entry. -/
def S_t12 (v2 : BitVec 32) (v21 : BitVec 32) (v152 : FVec F S28x1x1 .f32) (v191 : BitVec 1) (k0_hw2 : k0_chk2 i v1 v191) (k0_h7 : k0_cond7 v191 = 1#1) (X_arg11 : BufTy.Contents (Elt F) arg11.view.ty) (X_arg12 : BufTy.Contents (Elt F) arg12.view.ty) (X_arg13 : BufTy.Contents (Elt F) arg13.view.ty) (G : BufTy.Contents (Elt F) arg15.view.ty) : ℕ → BufTy.Contents (Elt F) arg15.view.ty
  | 0 => G
  | k + 1 => if h : k < k0_t12_loop.trips then
      arg15.view.writes (Elt F) (S_t12 v2 v21 v152 v191 k0_hw2 k0_h7 X_arg11 X_arg12 X_arg13 G k) (st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 ⟨k, h⟩ (Scf.iv 0#32 1#32 k) X_arg11 X_arg12 X_arg13 (S_t12 v2 v21 v152 v191 k0_hw2 k0_h7 X_arg11 X_arg12 X_arg13 G k) 0#32 k0_t13_loop.trips).2
    else S_t12 v2 v21 v152 v191 k0_hw2 k0_h7 X_arg11 X_arg12 X_arg13 G k

theorem S_t12_succ (v2 : BitVec 32) (v21 : BitVec 32) (v152 : FVec F S28x1x1 .f32) (v191 : BitVec 1) (k0_hw2 : k0_chk2 i v1 v191) (k0_h7 : k0_cond7 v191 = 1#1) (X_arg11 : BufTy.Contents (Elt F) arg11.view.ty) (X_arg12 : BufTy.Contents (Elt F) arg12.view.ty) (X_arg13 : BufTy.Contents (Elt F) arg13.view.ty) (G : BufTy.Contents (Elt F) arg15.view.ty) (k : Fin k0_t12_loop.trips) :
    S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G (k.val + 1)
      = arg15.view.writes (Elt F) (S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G k.val) (st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 k (Scf.iv 0#32 1#32 k.val) X_arg11 X_arg12 X_arg13 (S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G k.val) 0#32 k0_t13_loop.trips).2 := by
  rw [S_t12.eq_2]; exact dif_pos k.isLt

/-- What `arg15` holds before kv head `k` (loop `k0_t14`), from `G` at the loop's entry. -/
def S_t14 (v2 : BitVec 32) (v21 : BitVec 32) (v152 : FVec F S28x1x1 .f32) (v191 : BitVec 1) (k0_hw2 : k0_chk2 i v1 v191) (k0_h7 : k0_cond7 v191 = 1#1) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg15.view.ty) : ℕ → BufTy.Contents (Elt F) arg15.view.ty
  | 0 => G
  | k + 1 => if h : k < k0_t14_loop.trips then
      arg15.view.writes (Elt F) (S_t14 v2 v21 v152 v191 k0_hw2 k0_h7 arg18 X_arg11 X_arg12 X_arg13 G k) (st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 ⟨k, h⟩ (Scf.iv 0#32 1#32 k) X_arg11 X_arg12 X_arg13 (S_t14 v2 v21 v152 v191 k0_hw2 k0_h7 arg18 X_arg11 X_arg12 X_arg13 G k) 0#32 k0_t15_loop.trips).2
    else S_t14 v2 v21 v152 v191 k0_hw2 k0_h7 arg18 X_arg11 X_arg12 X_arg13 G k

theorem S_t14_succ (v2 : BitVec 32) (v21 : BitVec 32) (v152 : FVec F S28x1x1 .f32) (v191 : BitVec 1) (k0_hw2 : k0_chk2 i v1 v191) (k0_h7 : k0_cond7 v191 = 1#1) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg15.view.ty) (k : Fin k0_t14_loop.trips) :
    S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G (k.val + 1)
      = arg15.view.writes (Elt F) (S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G k.val) (st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 k (Scf.iv 0#32 1#32 k.val) X_arg11 X_arg12 X_arg13 (S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G k.val) 0#32 k0_t15_loop.trips).2 := by
  rw [S_t14.eq_2]; exact dif_pos k.isLt

/-- What `arg14` holds before kv head `k` (loop `k0_t22`), from `G` at the loop's entry. -/
def S_t22 (v2 : BitVec 32) (v21 : BitVec 32) (v152 : FVec F S28x1x1 .f32) (v191 : BitVec 1) (k0_hw2 : k0_chk2 i v1 v191) (v192 : FVec F S4x224x1 .f32) (v193 : FVec F S4x224x1 .f32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) : ℕ → BufTy.Contents (Elt F) arg14.view.ty
  | 0 => G
  | k + 1 => if h : k < k0_t22_loop.trips then
      arg14.view.writes (Elt F) (S_t22 v2 v21 v152 v191 k0_hw2 v192 v193 X_arg11 X_arg12 X_arg13 X_arg15 G k) (st_k0_t23 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 ⟨k, h⟩ (Scf.iv 0#32 1#32 k) X_arg11 X_arg12 X_arg13 X_arg15 (S_t22 v2 v21 v152 v191 k0_hw2 v192 v193 X_arg11 X_arg12 X_arg13 X_arg15 G k) 0#32 k0_t23_loop.trips).2
    else S_t22 v2 v21 v152 v191 k0_hw2 v192 v193 X_arg11 X_arg12 X_arg13 X_arg15 G k

theorem S_t22_succ (v2 : BitVec 32) (v21 : BitVec 32) (v152 : FVec F S28x1x1 .f32) (v191 : BitVec 1) (k0_hw2 : k0_chk2 i v1 v191) (v192 : FVec F S4x224x1 .f32) (v193 : FVec F S4x224x1 .f32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (k : Fin k0_t22_loop.trips) :
    S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G (k.val + 1)
      = arg14.view.writes (Elt F) (S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G k.val) (st_k0_t23 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 k (Scf.iv 0#32 1#32 k.val) X_arg11 X_arg12 X_arg13 X_arg15 (S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G k.val) 0#32 k0_t23_loop.trips).2 := by
  rw [S_t22.eq_2]; exact dif_pos k.isLt

/-- What `arg14` holds before kv head `k` (loop `k0_t24`), from `G` at the loop's entry. -/
def S_t24 (v2 : BitVec 32) (v21 : BitVec 32) (v152 : FVec F S28x1x1 .f32) (v191 : BitVec 1) (k0_hw2 : k0_chk2 i v1 v191) (v192 : FVec F S4x224x1 .f32) (v193 : FVec F S4x224x1 .f32) (arg18 : BitVec 32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) : ℕ → BufTy.Contents (Elt F) arg14.view.ty
  | 0 => G
  | k + 1 => if h : k < k0_t24_loop.trips then
      arg14.view.writes (Elt F) (S_t24 v2 v21 v152 v191 k0_hw2 v192 v193 arg18 X_arg11 X_arg12 X_arg13 X_arg15 G k) (st_k0_t25 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 ⟨k, h⟩ (Scf.iv 0#32 1#32 k) X_arg11 X_arg12 X_arg13 X_arg15 (S_t24 v2 v21 v152 v191 k0_hw2 v192 v193 arg18 X_arg11 X_arg12 X_arg13 X_arg15 G k) 0#32 k0_t25_loop.trips).2
    else S_t24 v2 v21 v152 v191 k0_hw2 v192 v193 arg18 X_arg11 X_arg12 X_arg13 X_arg15 G k

theorem S_t24_succ (v2 : BitVec 32) (v21 : BitVec 32) (v152 : FVec F S28x1x1 .f32) (v191 : BitVec 1) (k0_hw2 : k0_chk2 i v1 v191) (v192 : FVec F S4x224x1 .f32) (v193 : FVec F S4x224x1 .f32) (arg18 : BitVec 32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (k : Fin k0_t24_loop.trips) :
    S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G (k.val + 1)
      = arg14.view.writes (Elt F) (S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G k.val) (st_k0_t25 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 k (Scf.iv 0#32 1#32 k.val) X_arg11 X_arg12 X_arg13 X_arg15 (S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G k.val) 0#32 k0_t25_loop.trips).2 := by
  rw [S_t24.eq_2]; exact dif_pos k.isLt

/-- What `arg6` holds before kv head `k` (loop `k0_t32`), from `G` at the loop's entry. -/
def S_t32 (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (k0_h21 : k0_cond21 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) : ℕ → BufTy.Contents (Elt F) arg6.view.ty
  | 0 => G
  | k + 1 => if h : k < k0_t32_loop.trips then
      arg6.view.writes (Elt F) (S_t32 k0_hw1 v2 v21 v152 v230 v231 k0_t31 k0_h21 X_arg11 X_arg12 X_arg13 X_arg15 G k) (st_k0_t33 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 ⟨k, h⟩ (Scf.iv 0#32 1#32 k) X_arg11 X_arg12 X_arg13 X_arg15 0#32 k0_t33_loop.trips).2
    else S_t32 k0_hw1 v2 v21 v152 v230 v231 k0_t31 k0_h21 X_arg11 X_arg12 X_arg13 X_arg15 G k

theorem S_t32_succ (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (k0_h21 : k0_cond21 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (k : Fin k0_t32_loop.trips) :
    S_t32 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 X_arg11 X_arg12 X_arg13 X_arg15 G (k.val + 1)
      = arg6.view.writes (Elt F) (S_t32 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 X_arg11 X_arg12 X_arg13 X_arg15 G k.val) (st_k0_t33 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 k (Scf.iv 0#32 1#32 k.val) X_arg11 X_arg12 X_arg13 X_arg15 0#32 k0_t33_loop.trips).2 := by
  rw [S_t32.eq_2]; exact dif_pos k.isLt

/-- What `arg6` holds before kv head `k` (loop `k0_t34`), from `G` at the loop's entry. -/
def S_t34 (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (arg18 : BitVec 32) (k0_h22 : k0_cond22 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) : ℕ → BufTy.Contents (Elt F) arg6.view.ty
  | 0 => G
  | k + 1 => if h : k < k0_t34_loop.trips then
      arg6.view.writes (Elt F) (S_t34 k0_hw1 v2 v21 v152 v230 v231 k0_t31 arg18 k0_h22 X_arg11 X_arg12 X_arg13 X_arg15 G k) (st_k0_t35 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 ⟨k, h⟩ (Scf.iv 0#32 1#32 k) X_arg11 X_arg12 X_arg13 X_arg15 0#32 k0_t35_loop.trips).2
    else S_t34 k0_hw1 v2 v21 v152 v230 v231 k0_t31 arg18 k0_h22 X_arg11 X_arg12 X_arg13 X_arg15 G k

theorem S_t34_succ (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (arg18 : BitVec 32) (k0_h22 : k0_cond22 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (k : Fin k0_t34_loop.trips) :
    S_t34 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 X_arg11 X_arg12 X_arg13 X_arg15 G (k.val + 1)
      = arg6.view.writes (Elt F) (S_t34 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 X_arg11 X_arg12 X_arg13 X_arg15 G k.val) (st_k0_t35 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 k (Scf.iv 0#32 1#32 k.val) X_arg11 X_arg12 X_arg13 X_arg15 0#32 k0_t35_loop.trips).2 := by
  rw [S_t34.eq_2]; exact dif_pos k.isLt

end

set_option warn.classDefReducibility false in
/-- The invariant of `k0_t2`: the operands as they were, `arg14` at the fold. -/
@[sl_loop] def loopInv_k0_t2 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v159 : FVec F S4x224x128 .f32) (v160 : Vec F S4x224x128 .f32) (X_arg11 : BufTy.Contents (Elt F) arg11.view.ty) (X_arg12 : BufTy.Contents (Elt F) arg12.view.ty) (X_arg13 : BufTy.Contents (Elt F) arg13.view.ty) (G : BufTy.Contents (Elt F) arg14.view.ty) (init : BitVec 32) :
    LoopInvTy_k0_t2 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg14.view.loc (c : Thread nD τ) ↦[arg14.view.set]{fullShare} f) ∗ ⌜f = S_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 X_arg11 X_arg12 X_arg13 G k⌝))
  step k acc := by
    iintro ⟨H11, H12, H13, ⟨%f, HW, %hf⟩⟩
    subst hf
    rw [S_t2_succ]
    sl_unfold [k0_t2_body]
    sl_exec
    sl_step
    sl_close

set_option warn.classDefReducibility false in
/-- The invariant of `k0_t4`: the operands as they were, `arg14` at the fold. -/
@[sl_loop] def loopInv_k0_t4 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v159 : FVec F S4x224x128 .f32) (v160 : Vec F S4x224x128 .f32) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg14.view.ty) (init : BitVec 32) :
    LoopInvTy_k0_t4 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg14.view.loc (c : Thread nD τ) ↦[arg14.view.set]{fullShare} f) ∗ ⌜f = S_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v159 v160 arg18 X_arg11 X_arg12 X_arg13 G k⌝))
  step k acc := by
    iintro ⟨H11, H12, H13, ⟨%f, HW, %hf⟩⟩
    subst hf
    rw [S_t4_succ]
    sl_unfold [k0_t4_body]
    sl_exec
    sl_step
    sl_close

set_option warn.classDefReducibility false in
/-- The invariant of `k0_t12`: the operands as they were, `arg15` at the fold. -/
@[sl_loop] def loopInv_k0_t12 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (k0_h7 : k0_cond7 v191 = 1#1) (X_arg11 : BufTy.Contents (Elt F) arg11.view.ty) (X_arg12 : BufTy.Contents (Elt F) arg12.view.ty) (X_arg13 : BufTy.Contents (Elt F) arg13.view.ty) (G : BufTy.Contents (Elt F) arg15.view.ty) (init : BitVec 32) :
    LoopInvTy_k0_t12 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg15.view.loc (c : Thread nD τ) ↦[arg15.view.set]{fullShare} f) ∗ ⌜f = S_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 X_arg11 X_arg12 X_arg13 G k⌝))
  step k acc := by
    iintro ⟨H11, H12, H13, ⟨%f, HW, %hf⟩⟩
    subst hf
    rw [S_t12_succ]
    sl_unfold [k0_t12_body]
    sl_exec
    sl_step
    sl_close

set_option warn.classDefReducibility false in
/-- The invariant of `k0_t14`: the operands as they were, `arg15` at the fold. -/
@[sl_loop] def loopInv_k0_t14 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (k0_h7 : k0_cond7 v191 = 1#1) (arg18 : BitVec 32) (X_arg11 : BufTy.Contents (Elt F) arg11.view.ty) (X_arg12 : BufTy.Contents (Elt F) arg12.view.ty) (X_arg13 : BufTy.Contents (Elt F) arg13.view.ty) (G : BufTy.Contents (Elt F) arg15.view.ty) (init : BitVec 32) :
    LoopInvTy_k0_t14 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f, (arg15.view.loc (c : Thread nD τ) ↦[arg15.view.set]{fullShare} f) ∗ ⌜f = S_t14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 k0_h7 arg18 X_arg11 X_arg12 X_arg13 G k⌝))
  step k acc := by
    iintro ⟨H11, H12, H13, ⟨%f, HW, %hf⟩⟩
    subst hf
    rw [S_t14_succ]
    sl_unfold [k0_t14_body]
    sl_exec
    sl_step
    sl_close

set_option warn.classDefReducibility false in
/-- The invariant of `k0_t22`: the operands as they were, `arg14` at the fold. -/
@[sl_loop] def loopInv_k0_t22 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (v192 : FVec F S4x224x1 .f32) (v193 : FVec F S4x224x1 .f32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (init : BitVec 32) :
    LoopInvTy_k0_t22 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg14.view.loc (c : Thread nD τ) ↦[arg14.view.set]{fullShare} f) ∗ ⌜f = S_t22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 X_arg11 X_arg12 X_arg13 X_arg15 G k⌝))
  step k acc := by
    iintro ⟨H11, H12, H13, H15, ⟨%f, HW, %hf⟩⟩
    subst hf
    rw [S_t22_succ]
    sl_unfold [k0_t22_body]
    sl_exec
    sl_step
    sl_close

set_option warn.classDefReducibility false in
/-- The invariant of `k0_t24`: the operands as they were, `arg14` at the fold. -/
@[sl_loop] def loopInv_k0_t24 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (v2 : BitVec 32) (v21 : BitVec 32) (v152 : FVec F S28x1x1 .f32) (v191 : BitVec 1) (k0_hw2 : k0_chk2 i v1 v191) (v192 : FVec F S4x224x1 .f32) (v193 : FVec F S4x224x1 .f32) (arg18 : BitVec 32) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg14.view.ty) (init : BitVec 32) :
    LoopInvTy_k0_t24 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg14.view.loc (c : Thread nD τ) ↦[arg14.view.set]{fullShare} f) ∗ ⌜f = S_t24 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v2 v21 v152 v191 k0_hw2 v192 v193 arg18 X_arg11 X_arg12 X_arg13 X_arg15 G k⌝))
  step k acc := by
    iintro ⟨H11, H12, H13, H15, ⟨%f, HW, %hf⟩⟩
    subst hf
    rw [S_t24_succ]
    sl_unfold [k0_t24_body]
    sl_exec
    sl_step
    sl_close

set_option warn.classDefReducibility false in
/-- The invariant of `k0_t32`: the operands as they were, `arg6` at the fold. -/
@[sl_loop] def loopInv_k0_t32 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (k0_h21 : k0_cond21 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (init : BitVec 32) :
    LoopInvTy_k0_t32 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg6.view.loc (c : Thread nD τ) ↦[arg6.view.set]{fullShare} f) ∗ ⌜f = S_t32 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 k0_h21 X_arg11 X_arg12 X_arg13 X_arg15 G k⌝))
  step k acc := by
    iintro ⟨H11, H12, H13, H15, ⟨%f, HW, %hf⟩⟩
    subst hf
    rw [S_t32_succ]
    sl_unfold [k0_t32_body]
    sl_exec
    sl_step
    sl_close

set_option warn.classDefReducibility false in
/-- The invariant of `k0_t34`: the operands as they were, `arg6` at the fold. -/
@[sl_loop] def loopInv_k0_t34 (𝒱 : Variants) (c : Dev nD) (bd : Option 𝒱.V) (E : Set ℕ) (i : grid0.Coords) (arg1 : Memref sig .tc .smem S2 .i32) (harg1 : arg1.IsWhole) (arg2 : Memref sig .tc .vmem S1x28x32x128 .bf16) (harg2 : arg2.IsWhole) (arg3 : Memref sig .tc .hbm S2x131072x4x128 .fp8e4m3) (harg3 : arg3.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg10 : Memref sig .tc .vmem S2x1024x4x128 .fp8e4m3) (harg10 : arg10.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (arg17 : DmaSems sig S2) (v1 : Elt F .i32) (k0_hw1 : k0_chk1 i v1) (v2 : BitVec 32) (v21 : BitVec 32) (v152 : FVec F S28x1x1 .f32) (v230 : FVec F S4x224x128 .f32) (v231 : Vec F S1x4x224x128 .f32) (k0_t31 : Fin (k0_t31_loop v1).trips) (arg18 : BitVec 32) (k0_h22 : k0_cond22 v1 k0_t31 = 1#1) (X_arg11 : BufTy.Contents (Elt F) arg11.view.ty) (X_arg12 : BufTy.Contents (Elt F) arg12.view.ty) (X_arg13 : BufTy.Contents (Elt F) arg13.view.ty) (X_arg15 : BufTy.Contents (Elt F) arg15.view.ty) (G : BufTy.Contents (Elt F) arg6.view.ty) (init : BitVec 32) :
    LoopInvTy_k0_t34 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 init where
  inv k _ := iprop((arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (∃ f, (arg6.view.loc (c : Thread nD τ) ↦[arg6.view.set]{fullShare} f) ∗ ⌜f = S_t34 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 k0_hw1 v2 v21 v152 v230 v231 k0_t31 arg18 k0_h22 X_arg11 X_arg12 X_arg13 X_arg15 G k⌝))
  step k acc := by
    iintro ⟨H11, H12, H13, H15, ⟨%f, HW, %hf⟩⟩
    subst hf
    rw [S_t34_succ]
    sl_unfold [k0_t34_body]
    sl_exec
    sl_step
    sl_close

end Cert.Kernel.Own
-- ==== Proof.ArithK.lean ====
/- The integer side of the kernel: the length word lies between 1 and 131072, the count of key chunks is the length over
   1024 rounded up, and every slot, offset and condition of the four streams has a closed form in the chunk's number. -/
module

public import proofs.«01_k».proof.Kernel
public import Idealize.ShloMosaic.Lib.Affine
public import Idealize.ShloMosaic.Lib.LoopRemainder

@[expose] public section

set_option maxRecDepth 8192

namespace Cert.Kernel.Own

open Cert.Kernel
open Idealize.ShloMosaic
open Idealize.ShloMosaic.Affine

/-- The length word is at least 1 and at most the size of the cache. -/
def Fits (v : BitVec 32) : Prop := 1 ≤ v.toNat ∧ v.toNat ≤ 131072

/-- The number of chunks of 1024 keys that a length needs. -/
def nC (v : BitVec 32) : Nat := (v.toNat + 1023) / 1024

theorem nC_pos {v : BitVec 32} (h : Fits v) : 0 < nC v := by unfold nC; have := h.1; omega
theorem nC_le {v : BitVec 32} (h : Fits v) : nC v ≤ 128 := by unfold nC; have := h.2; omega

theorem word_of_fits {v : BitVec 32} (h : Fits v) : IsInt v (v.toNat : Int) := by
  have h2 := h.2
  have : v = BitVec.ofNat 32 v.toNat := by simp
  rw [this]
  exact Affine.ofNat _ ⟨by simp, by simpa using by omega⟩

/-- The word the kernel computes for the count of chunks. -/
@[reducible] def nWord (v1 : BitVec 32) : BitVec 32 :=
  let c1024_i32 : BitVec 32 := 1024#32
  let v3 : BitVec 32 := Scalar.addi v1 c1024_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32_5 : BitVec 32 := 1#32
  let v20 : BitVec 32 := Scalar.subi v5 c1_i32_5
  let v21 : BitVec 32 := Scalar.select v19 v20 v5
  v21

theorem nWord_eq {v : BitVec 32} (h : Fits v) : nWord v = BitVec.ofNat 32 (nC v) := by
  have hv := word_of_fits h
  have h1 := h.1
  have h2 := h.2
  have c1024 : IsInt 1024#32 1024 := Affine.ofNat 1024 (by omega)
  have c1 : IsInt 1#32 1 := Affine.ofNat 1 (by omega)
  have c0 : IsInt 0#32 0 := Affine.ofNat 0 (by omega)
  have h3 : IsInt (Scalar.addi v 1024#32) ((v.toNat : Int) + 1024) := Affine.addi hv c1024 (by omega)
  have h4 : IsInt (Scalar.subi (Scalar.addi v 1024#32) 1#32) ((v.toNat : Int) + 1023) := Affine.subi h3 c1 (by omega)
  have h5 := Affine.divsi (e := ((v.toNat : Int) + 1023) / 1024) h4 c1024 (by omega)
  have h10 := Affine.subi (e := 1) (Affine.extui_holds (e := 1) (sgt_holds h4 c0 (by omega)) rfl)
    (Affine.extui_fails (e := 0) (slt_fails h4 c0 (by omega)) rfl) (by omega)
  have h15 := Affine.subi (e := 1) (Affine.extui_holds (e := 1) (sgt_holds c1024 c0 (by omega)) rfl)
    (Affine.extui_fails (e := 0) (slt_fails c1024 c0 (by omega)) rfl) (by omega)
  have h16 := ne_fails h10 h15 rfl
  have h21 := Affine.select_fails (e := ((v.toNat : Int) + 1023) / 1024)
    (andi_fails_left (d := Scalar.cmpi .ne (Scalar.remsi (Scalar.subi (Scalar.addi v 1024#32) 1#32) 1024#32) 0#32) h16 trivial)
    (Affine.subi (e := ((v.toNat : Int) + 1023) / 1024 - 1) h5 c1 (by omega)) h5 rfl
  have h21' : IsInt (nWord v) (((v.toNat : Int) + 1023) / 1024) := h21
  have hn : IsInt (BitVec.ofNat 32 (nC v)) (((v.toNat : Int) + 1023) / 1024) :=
    Affine.ofNat _ (by unfold nC; omega)
  unfold IsInt at h21' hn
  exact BitVec.toInt_inj.mp (h21'.trans hn.symm)

/-- The bounds of a stream's loop, in the count's word. -/
theorem t1_loop_eq (v : BitVec 32) : k0_t1_loop v = ⟨0#32, Scalar.addi 0#32 (Scalar.muli (Scalar.divsi (Scalar.subi (nWord v) 0#32) 1#32) 1#32), 1#32⟩ := rfl

theorem trips_t1 {v : BitVec 32} (h : Fits v) : (k0_t1_loop v).trips = nC v := by
  rw [t1_loop_eq, nWord_eq h]
  have := nC_le h
  generalize nC v = n at this
  revert n; decide +kernel

theorem ok_t1 {v : BitVec 32} (h : Fits v) : (k0_t1_loop v).OK := by
  rw [t1_loop_eq, nWord_eq h]
  have := nC_le h
  generalize nC v = n at this
  revert n; decide +kernel

theorem lt128 {v : BitVec 32} (h : Fits v) (k : Fin (k0_t1_loop v).trips) : k.val < 128 := by
  have := lt_of_lt_of_eq k.isLt (trips_t1 h); have := nC_le h; omega

theorem off3_eq {v : BitVec 32} (h : Fits v) (k : Fin (k0_t1_loop v).trips) : k0_off3 v k = ![(k.val + 1) % 2] := by
  have hk := lt128 h k
  unfold k0_off3
  generalize k.val = m at hk ⊢
  revert m; decide +kernel

theorem off4_eq {v : BitVec 32} (h : Fits v) (k : Fin (k0_t1_loop v).trips) : k0_off4 v k = ![(k.val + 1) % 2, 0, 0, 0] := by
  have hk := lt128 h k
  unfold k0_off4
  generalize k.val = m at hk ⊢
  revert m; decide +kernel

theorem off6_eq {v : BitVec 32} (h : Fits v) (k : Fin (k0_t1_loop v).trips) : k0_off6 v k = ![k.val % 2] := by
  have hk := lt128 h k
  unfold k0_off6
  generalize k.val = m at hk ⊢
  revert m; decide +kernel

theorem off7_eq {v : BitVec 32} (h : Fits v) (k : Fin (k0_t1_loop v).trips) : k0_off7 v k = ![k.val % 2, 0, 0, 0] := by
  have hk := lt128 h k
  unfold k0_off7
  generalize k.val = m at hk ⊢
  revert m; decide +kernel

theorem off9_eq {v : BitVec 32} (h : Fits v) (k : Fin (k0_t1_loop v).trips) : k0_off9 v k = ![0, 0, k.val * 1024] := by
  have hk := lt128 h k
  unfold k0_off9
  generalize k.val = m at hk ⊢
  revert m; decide +kernel

theorem off10_eq {v : BitVec 32} (h : Fits v) (k : Fin (k0_t1_loop v).trips) : k0_off10 v k = ![0, 1, k.val * 1024] := by
  have hk := lt128 h k
  unfold k0_off10
  generalize k.val = m at hk ⊢
  revert m; decide +kernel

theorem off11_eq {v : BitVec 32} (h : Fits v) (k : Fin (k0_t1_loop v).trips) : k0_off11 v k = ![0, 2, k.val * 1024] := by
  have hk := lt128 h k
  unfold k0_off11
  generalize k.val = m at hk ⊢
  revert m; decide +kernel

theorem off12_eq {v : BitVec 32} (h : Fits v) (k : Fin (k0_t1_loop v).trips) : k0_off12 v k = ![0, 3, k.val * 1024] := by
  have hk := lt128 h k
  unfold k0_off12
  generalize k.val = m at hk ⊢
  revert m; decide +kernel

theorem off5_eq {v : BitVec 32} (h : Fits v) (i : grid0.Coords) (k : Fin (k0_t1_loop v).trips) : k0_off5 i v k = ![(i 0).val, (k.val + 1) * 1024, 0, 0] := by
  have hk := lt128 h k
  unfold k0_off5
  generalize k.val = m at hk ⊢
  have hi : (i 0).val < 2 := (i 0).isLt
  generalize (i 0).val = b at hi ⊢
  revert b m; decide +kernel

theorem off8_eq {v : BitVec 32} (h : Fits v) (i : grid0.Coords) (k : Fin (k0_t1_loop v).trips) : k0_off8 i v k = ![(i 0).val, k.val * 1024, 0, 0] := by
  have hk := lt128 h k
  unfold k0_off8
  generalize k.val = m at hk ⊢
  have hi : (i 0).val < 2 := (i 0).isLt
  generalize (i 0).val = b at hi ⊢
  revert b m; decide +kernel

theorem cond1_eq {v : BitVec 32} (h : Fits v) (k : Fin (k0_t1_loop v).trips) : k0_cond1 v k = Scalar.cmpi .ne (Scalar.extui (Scalar.cmpi .slt (Scalar.addi (Scf.iv 0#32 1#32 k.val) 1#32) (BitVec.ofNat 32 (nC v)))) 0#32 := by
  rw [← nWord_eq h]; rfl

theorem cond1_iff {v : BitVec 32} (h : Fits v) (k : Fin (k0_t1_loop v).trips) : k0_cond1 v k = 1#1 ↔ k.val + 1 < nC v := by
  have hk := lt128 h k
  have hn := nC_le h
  rw [cond1_eq h]
  have c1 : IsInt 1#32 1 := Affine.ofNat 1 (by omega)
  have c0 : IsInt 0#32 0 := Affine.ofNat 0 (by omega)
  have hiv : IsInt (Scf.iv 0#32 1#32 k.val) (k.val : Int) := Affine.iv c0 c1 k.val (by omega)
  have ha := Affine.addi (e := (k.val : Int) + 1) hiv c1 (by omega)
  have hN : IsInt (BitVec.ofNat 32 (nC v)) (nC v : Int) := Affine.ofNat _ (by omega)
  constructor
  · intro hh
    by_contra hc
    exact ne_fails (Affine.extui_fails (e := 0) (slt_fails ha hN (by omega)) rfl) c0 rfl hh
  · intro hc
    exact ne_holds (Affine.extui_holds (e := 1) (slt_holds ha hN (by omega)) rfl) c0 (by omega)

/-- A rectangle of whole rows of an array of keys is whole words. -/
theorem words_hbm (off : Fin 4 → Nat) (h2 : off 2 = 0) (hinb : ∀ a, off a + S1x1024x4x128.size a ≤ S2x131072x4x128.size a) :
    (Rect.unit (s := S2x131072x4x128) off S1x1024x4x128.size hinb).WholeWords (EltTy.packing .fp8e4m3) :=
  .inr ⟨by decide, rfl, h2, rfl⟩

theorem words_raw (off : Fin 4 → Nat) (h2 : off 2 = 0) (hinb : ∀ a, off a + S1x1024x4x128.size a ≤ S2x1024x4x128.size a) :
    (Rect.unit (s := S2x1024x4x128) off S1x1024x4x128.size hinb).WholeWords (EltTy.packing .fp8e4m3) :=
  .inr ⟨by decide, rfl, h2, rfl⟩

section InRange
variable {v : BitVec 32} (h : Fits v) (i : grid0.Coords) (k : Fin (k0_t1_loop v).trips)
include h

theorem inb3 (a) : k0_off3 v k a + S1.size a ≤ S2.size a := by
  rw [off3_eq h]; revert a; have := lt128 h k; generalize k.val = m at this ⊢; revert m; decide +kernel
theorem inb4 (a) : k0_off4 v k a + S1x1024x4x128.size a ≤ S2x1024x4x128.size a := by
  rw [off4_eq h]; revert a; have := lt128 h k; generalize k.val = m at this ⊢; revert m; decide +kernel
theorem inb6 (a) : k0_off6 v k a + S1.size a ≤ S2.size a := by
  rw [off6_eq h]; revert a; have := lt128 h k; generalize k.val = m at this ⊢; revert m; decide +kernel
theorem inb7 (a) : k0_off7 v k a + S1x1024x4x128.size a ≤ S2x1024x4x128.size a := by
  rw [off7_eq h]; revert a; have := lt128 h k; generalize k.val = m at this ⊢; revert m; decide +kernel
theorem inb5 (hc : k0_cond1 v k = 1#1) (a) : k0_off5 i v k a + S1x1024x4x128.size a ≤ S2x131072x4x128.size a := by
  have hk : k.val < 127 := by have := (cond1_iff h k).mp hc; have := nC_le h; omega
  rw [off5_eq h]
  have hi : (i 0).val < 2 := (i 0).isLt
  generalize k.val = m at hk ⊢
  generalize (i 0).val = b at hi ⊢
  revert a b m; decide +kernel
theorem inb8 (a) : k0_off8 i v k a + S1x1024x4x128.size a ≤ S2x131072x4x128.size a := by
  have hk := lt128 h k
  rw [off8_eq h]
  have hi : (i 0).val < 2 := (i 0).isLt
  generalize k.val = m at hk ⊢
  generalize (i 0).val = b at hi ⊢
  revert a b m; decide +kernel
theorem words5 (hinb) : (Rect.unit (s := S2x131072x4x128) (k0_off5 i v k) S1x1024x4x128.size hinb).WholeWords (EltTy.packing .fp8e4m3) :=
  words_hbm _ (by rw [off5_eq h]; rfl) _
theorem words8 (hinb) : (Rect.unit (s := S2x131072x4x128) (k0_off8 i v k) S1x1024x4x128.size hinb).WholeWords (EltTy.packing .fp8e4m3) :=
  words_hbm _ (by rw [off8_eq h]; rfl) _
theorem words4 (hinb) : (Rect.unit (s := S2x1024x4x128) (k0_off4 v k) S1x1024x4x128.size hinb).WholeWords (EltTy.packing .fp8e4m3) :=
  words_raw _ (by rw [off4_eq h]; rfl) _
theorem words7 (hinb) : (Rect.unit (s := S2x1024x4x128) (k0_off7 v k) S1x1024x4x128.size hinb).WholeWords (EltTy.packing .fp8e4m3) :=
  words_raw _ (by rw [off7_eq h]; rfl) _
theorem inb9 (a) : k0_off9 v k a + S1x1x1024.size a ≤ S1x4x131072.size a := by
  rw [off9_eq h]; revert a; have := lt128 h k; generalize k.val = m at this ⊢; revert m; decide +kernel
theorem inb10 (a) : k0_off10 v k a + S1x1x1024.size a ≤ S1x4x131072.size a := by
  rw [off10_eq h]; revert a; have := lt128 h k; generalize k.val = m at this ⊢; revert m; decide +kernel
theorem inb11 (a) : k0_off11 v k a + S1x1x1024.size a ≤ S1x4x131072.size a := by
  rw [off11_eq h]; revert a; have := lt128 h k; generalize k.val = m at this ⊢; revert m; decide +kernel
theorem inb12 (a) : k0_off12 v k a + S1x1x1024.size a ≤ S1x4x131072.size a := by
  rw [off12_eq h]; revert a; have := lt128 h k; generalize k.val = m at this ⊢; revert m; decide +kernel
theorem off283_eq (kv : Fin k0_t32_loop.trips) (j : Fin k0_t33_loop.trips) : k0_off283 v k kv j = ![0, kv.val, k.val * 1024 + j.val * 256] := by
  have hk := lt128 h k
  have hkv : kv.val < 4 := kv.isLt
  have hj : j.val < 4 := j.isLt
  unfold k0_off283
  generalize k.val = m at hk ⊢
  generalize kv.val = a at hkv ⊢
  generalize j.val = b at hj ⊢
  revert a b m; decide +kernel
theorem inb283 (kv : Fin k0_t32_loop.trips) (j : Fin k0_t33_loop.trips) (a) : k0_off283 v k kv j a + S1x1x256.size a ≤ S1x4x131072.size a := by
  rw [off283_eq h]
  have hk := lt128 h k
  have hkv : kv.val < 4 := kv.isLt
  have hj : j.val < 4 := j.isLt
  generalize k.val = m at hk ⊢
  generalize kv.val = d at hkv ⊢
  generalize j.val = b at hj ⊢
  revert a
  intro a; fin_cases a
  · show 0 + 1 ≤ 1; omega
  · show d + 1 ≤ 4; omega
  · show m * 1024 + b * 256 + 256 ≤ 131072; omega
theorem off300_eq (kv : Fin k0_t34_loop.trips) (j : Fin k0_t35_loop.trips) : k0_off300 v k kv j = ![0, kv.val, k.val * 1024 + j.val * 256] := by
  have hk := lt128 h k
  have hkv : kv.val < 4 := kv.isLt
  have hj : j.val < 4 := j.isLt
  unfold k0_off300
  generalize k.val = m at hk ⊢
  generalize kv.val = a at hkv ⊢
  generalize j.val = b at hj ⊢
  revert a b m; decide +kernel
theorem inb300 (kv : Fin k0_t34_loop.trips) (j : Fin k0_t35_loop.trips) (a) : k0_off300 v k kv j a + S1x1x256.size a ≤ S1x4x131072.size a := by
  rw [off300_eq h]
  have hk := lt128 h k
  have hkv : kv.val < 4 := kv.isLt
  have hj : j.val < 4 := j.isLt
  generalize k.val = m at hk ⊢
  generalize kv.val = d at hkv ⊢
  generalize j.val = b at hj ⊢
  revert a
  intro a; fin_cases a
  · show 0 + 1 ≤ 1; omega
  · show d + 1 ≤ 4; omega
  · show m * 1024 + b * 256 + 256 ≤ 131072; omega
theorem off347_eq (k : Fin (k0_t42_loop v).trips) : k0_off347 v k = ![0, k.val * 1024] := by
  have hk := lt128 h k
  unfold k0_off347
  generalize k.val = m at hk ⊢
  revert m; decide +kernel
theorem off348_eq (k : Fin (k0_t42_loop v).trips) : k0_off348 v k = ![0, 0, k.val * 1024] := by
  have hk := lt128 h k
  unfold k0_off348
  generalize k.val = m at hk ⊢
  revert m; decide +kernel
theorem inb347 (k : Fin (k0_t42_loop v).trips) (a) : k0_off347 v k a + S4x1280.size a ≤ S4x131328.size a := by
  rw [off347_eq h]; revert a; have := lt128 h k; generalize k.val = m at this ⊢; revert m; decide +kernel
theorem inb348 (k : Fin (k0_t42_loop v).trips) (a) : k0_off348 v k a + S1x4x1024.size a ≤ S1x4x131072.size a := by
  rw [off348_eq h]; revert a; have := lt128 h k; generalize k.val = m at this ⊢; revert m; decide +kernel
end InRange

theorem chk1_0_of {v : BitVec 32} (h : Fits v) (i : grid0.Coords) : k0_chk1_0 i v :=
  ⟨ok_t1 h,
   fun k h1 a => inb3 h k a,
   fun k h1 a => inb4 h k a,
   fun k h1 a => inb5 h i k h1 a,
   fun k h1 hi => words5 h i k hi,
   fun k h1 hi => words4 h k hi,
   fun k  a => inb6 h k a,
   fun k  a => inb7 h k a,
   fun k  a => inb8 h i k a,
   fun k  hi => words8 h i k hi,
   fun k  hi => words7 h k hi,
   fun k  a => inb9 h k a,
   fun k  a => inb10 h k a,
   fun k  a => inb11 h k a,
   fun k  a => inb12 h k a,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   ok_t1 h,
   fun k h20 a => inb3 h k a⟩

theorem chk1_1_of {v : BitVec 32} (h : Fits v) (i : grid0.Coords) : k0_chk1_1 i v :=
  ⟨fun k h20 a => inb4 h k a,
   fun k h20 a => inb5 h i k h20 a,
   fun k h20 hi => words5 h i k hi,
   fun k h20 hi => words4 h k hi,
   fun k  a => inb6 h k a,
   fun k  a => inb7 h k a,
   fun k  a => inb8 h i k a,
   fun k  hi => words8 h i k hi,
   fun k  hi => words7 h k hi,
   fun k  a => inb9 h k a,
   fun k  a => inb10 h k a,
   fun k  a => inb11 h k a,
   fun k  a => inb12 h k a,
   fun k kv j h21 a => inb283 h k kv j a,
   fun k kv j h22 a => inb300 h k kv j a,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

theorem chk1_2_of {v : BitVec 32} (h : Fits v) (i : grid0.Coords) : k0_chk1_2 i v :=
  ⟨ok_t1 h,
   fun k  a => inb347 h k a,
   fun k  a => inb348 h k a,
   Scf.rem_ok _ _,
   fun k => (Scf.rem_no_trip _ _ k).elim,
   fun k => (Scf.rem_no_trip _ _ k).elim⟩

theorem chk2_0_of {v : BitVec 32} (h : Fits v) (i : grid0.Coords) (w : BitVec 1) : k0_chk2_0 i v w :=
  ⟨fun _ => ok_t1 h,
   fun k h7 h8 a => inb3 h k a,
   fun k h7 h8 a => inb4 h k a,
   fun k h7 h8 a => inb5 h i k h8 a,
   fun k h7 h8 hi => words5 h i k hi,
   fun k h7 h8 hi => words4 h k hi,
   fun k h7 a => inb6 h k a,
   fun k h7 a => inb7 h k a,
   fun k h7 a => inb8 h i k a,
   fun k h7 hi => words8 h i k hi,
   fun k h7 hi => words7 h k hi,
   fun k h7 a => inb9 h k a,
   fun k h7 a => inb10 h k a,
   fun k h7 a => inb11 h k a,
   fun k h7 a => inb12 h k a,
   fun _ => Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun _ => ok_t1 h,
   fun k h7 h14 a => inb3 h k a⟩

theorem chk2_1_of {v : BitVec 32} (h : Fits v) (i : grid0.Coords) (w : BitVec 1) : k0_chk2_1 i v w :=
  ⟨fun k h7 h14 a => inb4 h k a,
   fun k h7 h14 a => inb5 h i k h14 a,
   fun k h7 h14 hi => words5 h i k hi,
   fun k h7 h14 hi => words4 h k hi,
   fun k h7 a => inb6 h k a,
   fun k h7 a => inb7 h k a,
   fun k h7 a => inb8 h i k a,
   fun k h7 hi => words8 h i k hi,
   fun k h7 hi => words7 h k hi,
   fun k h7 a => inb9 h k a,
   fun k h7 a => inb10 h k a,
   fun k h7 a => inb11 h k a,
   fun k h7 a => inb12 h k a,
   fun _ => Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

/-- Every stated fact of the first group holds of a length that fits. -/
theorem chk1_of {v : BitVec 32} (h : Fits v) (i : grid0.Coords) : k0_chk1 i v := ⟨chk1_0_of h i, chk1_1_of h i, chk1_2_of h i⟩

/-- Every stated fact of the second group holds of a length that fits. -/
theorem chk2_of {v : BitVec 32} (h : Fits v) (i : grid0.Coords) (w : BitVec 1) : k0_chk2 i v w := ⟨chk2_0_of h i w, chk2_1_of h i w⟩

end Cert.Kernel.Own
-- ==== Proof.RingK.lean ====
/-
  The stream's two-slot ring: the canonical names of its slots, cells and chunks, and what is held of it before
  each chunk — the chunk in flight, the other slot free, the array's read tokens — or, after the last, all at home.
-/
module

public import proofs.«01_k».proof.Proof.OuterK
public import proofs.«01_k».proof.Proof.ArithK
public import Idealize.ShloMosaic.Lib.Ring

@[expose] public section

set_option maxRecDepth 8192

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The keys' codes, the chunk buffer. -/
abbrev aM : Memref sig .tc .hbm S2x131072x4x128 .fp8e4m3 := Memref.whole main_arg1
abbrev bufM : Memref sig .tc .vmem S2x1024x4x128 .fp8e4m3 := Memref.whole cc0_scratch0

abbrev chOff (i : grid0.Coords) (b : Fin 128) : Fin 4 → Nat := ![(i 0).val, b.val * 1024, 0, 0]
theorem chOff_inb (i : grid0.Coords) (b : Fin 128) : ∀ a, chOff i b a + S1x1024x4x128.size a ≤ S2x131072x4x128.size a := by
  have h0 : (i 0).val < 2 := (i 0).isLt
  have := b.isLt; intro a; fin_cases a
  · show (i 0).val + 1 ≤ 2; omega
  · show b.val * 1024 + 1024 ≤ 131072; omega
  · show 0 + 4 ≤ 4; omega
  · show 0 + 128 ≤ 128; omega
abbrev slotOff (s : Fin 2) : Fin 4 → Nat := ![s.val, 0, 0, 0]
theorem slotOff_inb (s : Fin 2) : ∀ a, slotOff s a + S1x1024x4x128.size a ≤ S2x1024x4x128.size a := by
  have := s.isLt; intro a; fin_cases a
  · show s.val + 1 ≤ 2; omega
  · show 0 + 1024 ≤ 1024; omega
  · show 0 + 4 ≤ 4; omega
  · show 0 + 128 ≤ 128; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Chunk `b` of sequence `i`. -/
def chunk (i : grid0.Coords) (b : Fin 128) : Memref sig .tc .hbm S1024x4x128 .fp8e4m3 :=
  (aM.slice (Rect.unit (s := S2x131072x4x128) (chOff i b) S1x1024x4x128.size (chOff_inb i b)) (fun _ => rfl)).squeeze S1024x4x128 squeezes_S1x1024x4x128_S1024x4x128
/-- Slot `s` of the chunk buffer. -/
def rslot (s : Fin 2) : Memref sig .tc .vmem S1024x4x128 .fp8e4m3 :=
  (bufM.slice (Rect.unit (s := S2x1024x4x128) (slotOff s) S1x1024x4x128.size (slotOff_inb s)) (fun _ => rfl)).squeeze S1024x4x128 squeezes_S1x1024x4x128_S1024x4x128
/-- Slot `s`'s semaphore. -/
def csm (s : Fin 2) : DmaSems sig S_ := (cc0_scratch7.slice (Rect.unit (s := S2) (semOff s) S1.size (semOff_inb s))).squeeze S_ squeezes_S1_S_

instance (s : Fin 2) : ClosedOff (slotOff s) := ⟨slotOff s, rfl⟩
instance (i : grid0.Coords) (b : Fin 128) : ClosedOff (chOff i b) := ⟨chOff i b, rfl⟩

theorem csm_congr {off : Fin 1 → Nat} {s : Fin 2} (e : off = semOff s) (hh) :
    (cc0_scratch7.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 4 → Nat} {s : Fin 2} (e : off = slotOff s) (hh hs) :
    (bufM.slice (Rect.unit (s := S2x1024x4x128) off S1x1024x4x128.size hh) hs).squeeze S1024x4x128 squeezes_S1x1024x4x128_S1024x4x128 = rslot s :=
  congrArg (fun M : Memref sig .tc .vmem S1x1024x4x128 .fp8e4m3 => M.squeeze S1024x4x128 squeezes_S1x1024x4x128_S1024x4x128) (Memref.slice_unit_congr _ e _ _ _ _)
theorem chunk_congr {i : grid0.Coords} {off : Fin 4 → Nat} {b : Fin 128} (e : off = chOff i b) (hh hs) :
    (aM.slice (Rect.unit (s := S2x131072x4x128) off S1x1024x4x128.size hh) hs).squeeze S1024x4x128 squeezes_S1x1024x4x128_S1024x4x128 = chunk i b :=
  congrArg (fun M : Memref sig .tc .hbm S1x1024x4x128 .fp8e4m3 => M.squeeze S1024x4x128 squeezes_S1x1024x4x128_S1024x4x128) (Memref.slice_unit_congr _ e _ _ _ _)

theorem sl_val (k : ℕ) : (Ring.sl 2 k).val = k % 2 := by simp [Ring.sl, Fin.ofNat]
theorem bk_val {k : ℕ} (h : k < 128) : (Ring.bk 128 k).val = k := Ring.bk_val h
theorem sl2_add2 (k : ℕ) : Ring.sl 2 (k + 1 + 1) = Ring.sl 2 k := by rw [show k + 1 + 1 = k + 2 from rfl, Ring.sl_add]
theorem sl2_0 : Ring.sl 2 0 = 0 := Fin.ext (by rfl)
theorem sl2_1 : Ring.sl 2 (0 + 1) = 1 := Fin.ext (by rfl)
theorem bk128_0 : Ring.bk 128 0 = 0 := Fin.ext (by rfl)

@[sl_canon] theorem semL0 (hh) : (cc0_scratch7.slice (Rect.unit (s := S2) ![0] S1.size hh)).squeeze S_ squeezes_S1_S_ = csm 0 := csm_congr (by decide) _
@[sl_canon] theorem slotL0 (hh hs) : (bufM.slice (Rect.unit (s := S2x1024x4x128) ![0, 0, 0, 0] S1x1024x4x128.size hh) hs).squeeze S1024x4x128 squeezes_S1x1024x4x128_S1024x4x128 = rslot 0 := rslot_congr (by decide) _ _

theorem off2_eq (i : grid0.Coords) : k0_off2 i = chOff i 0 := by
  have h0 : (i 0).val < 2 := (i 0).isLt
  unfold k0_off2 chOff
  generalize (i 0).val = m at h0 ⊢
  revert m; decide +kernel
@[sl_canon] theorem chunkL2 (i : grid0.Coords) (hh hs) : (aM.slice (Rect.unit (s := S2x131072x4x128) (k0_off2 i) S1x1024x4x128.size hh) hs).squeeze S1024x4x128 squeezes_S1x1024x4x128_S1024x4x128 = chunk i 0 :=
  chunk_congr (off2_eq i) _ _

theorem off87_eq (i : grid0.Coords) : k0_off87 i = chOff i 0 := by
  have h0 : (i 0).val < 2 := (i 0).isLt
  unfold k0_off87 chOff
  generalize (i 0).val = m at h0 ⊢
  revert m; decide +kernel
@[sl_canon] theorem chunkL87 (i : grid0.Coords) (hh hs) : (aM.slice (Rect.unit (s := S2x131072x4x128) (k0_off87 i) S1x1024x4x128.size hh) hs).squeeze S1024x4x128 squeezes_S1x1024x4x128_S1024x4x128 = chunk i 0 :=
  chunk_congr (off87_eq i) _ _

theorem off256_eq (i : grid0.Coords) : k0_off256 i = chOff i 0 := by
  have h0 : (i 0).val < 2 := (i 0).isLt
  unfold k0_off256 chOff
  generalize (i 0).val = m at h0 ⊢
  revert m; decide +kernel
@[sl_canon] theorem chunkL256 (i : grid0.Coords) (hh hs) : (aM.slice (Rect.unit (s := S2x131072x4x128) (k0_off256 i) S1x1024x4x128.size hh) hs).squeeze S1024x4x128 squeezes_S1x1024x4x128_S1024x4x128 = chunk i 0 :=
  chunk_congr (off256_eq i) _ _

/-! ### The slices of the trips of `k0_t1` -/

theorem s1_semN {v : BitVec 32} (h : Fits v) (k : Fin (k0_t1_loop v).trips) : k0_off3 v k = semOff (Ring.sl 2 (k.val + 1)) := by
  rw [show k0_off3 v k = _ from off3_eq h k, semOff, sl_val]
theorem s1_slotN {v : BitVec 32} (h : Fits v) (k : Fin (k0_t1_loop v).trips) : k0_off4 v k = slotOff (Ring.sl 2 (k.val + 1)) := by
  rw [show k0_off4 v k = _ from off4_eq h k, slotOff, sl_val]
theorem s1_chN {v : BitVec 32} (h : Fits v) (k : Fin (k0_t1_loop v).trips) (i : grid0.Coords) (hk : k.val + 1 < 128) : k0_off5 i v k = chOff i (Ring.bk 128 (k.val + 1)) := by
  rw [show k0_off5 i v k = _ from off5_eq h i k, chOff, bk_val hk]
theorem s1_sem {v : BitVec 32} (h : Fits v) (k : Fin (k0_t1_loop v).trips) : k0_off6 v k = semOff (Ring.sl 2 k.val) := by
  rw [show k0_off6 v k = _ from off6_eq h k, semOff, sl_val]
theorem s1_slot {v : BitVec 32} (h : Fits v) (k : Fin (k0_t1_loop v).trips) : k0_off7 v k = slotOff (Ring.sl 2 k.val) := by
  rw [show k0_off7 v k = _ from off7_eq h k, slotOff, sl_val]
theorem s1_ch {v : BitVec 32} (h : Fits v) (k : Fin (k0_t1_loop v).trips) (i : grid0.Coords) : k0_off8 i v k = chOff i (Ring.bk 128 k.val) := by
  rw [show k0_off8 i v k = _ from off8_eq h i k, chOff, bk_val (lt128 h k)]

@[sl_canon] theorem c1_semN {v : BitVec 32} (h : Fits v) (k : Fin (k0_t1_loop v).trips) (hh) : (cc0_scratch7.slice (Rect.unit (s := S2) (k0_off3 v k) S1.size hh)).squeeze S_ squeezes_S1_S_ = csm (Ring.sl 2 (k.val + 1)) := csm_congr (s1_semN h k) _
@[sl_canon] theorem c1_slotN {v : BitVec 32} (h : Fits v) (k : Fin (k0_t1_loop v).trips) (hh hs) : (bufM.slice (Rect.unit (s := S2x1024x4x128) (k0_off4 v k) S1x1024x4x128.size hh) hs).squeeze S1024x4x128 squeezes_S1x1024x4x128_S1024x4x128 = rslot (Ring.sl 2 (k.val + 1)) := rslot_congr (s1_slotN h k) _ _
@[sl_canon] theorem c1_chN {v : BitVec 32} (h : Fits v) (k : Fin (k0_t1_loop v).trips) (i : grid0.Coords) (hk : k.val + 1 < 128) (hh hs) : (aM.slice (Rect.unit (s := S2x131072x4x128) (k0_off5 i v k) S1x1024x4x128.size hh) hs).squeeze S1024x4x128 squeezes_S1x1024x4x128_S1024x4x128 = chunk i (Ring.bk 128 (k.val + 1)) := chunk_congr (s1_chN h k i hk) _ _
@[sl_canon] theorem c1_sem {v : BitVec 32} (h : Fits v) (k : Fin (k0_t1_loop v).trips) (hh) : (cc0_scratch7.slice (Rect.unit (s := S2) (k0_off6 v k) S1.size hh)).squeeze S_ squeezes_S1_S_ = csm (Ring.sl 2 k.val) := csm_congr (s1_sem h k) _
@[sl_canon] theorem c1_slot {v : BitVec 32} (h : Fits v) (k : Fin (k0_t1_loop v).trips) (hh hs) : (bufM.slice (Rect.unit (s := S2x1024x4x128) (k0_off7 v k) S1x1024x4x128.size hh) hs).squeeze S1024x4x128 squeezes_S1x1024x4x128_S1024x4x128 = rslot (Ring.sl 2 k.val) := rslot_congr (s1_slot h k) _ _
@[sl_canon] theorem c1_ch {v : BitVec 32} (h : Fits v) (k : Fin (k0_t1_loop v).trips) (i : grid0.Coords) (hh hs) : (aM.slice (Rect.unit (s := S2x131072x4x128) (k0_off8 i v k) S1x1024x4x128.size hh) hs).squeeze S1024x4x128 squeezes_S1x1024x4x128_S1024x4x128 = chunk i (Ring.bk 128 k.val) := chunk_congr (s1_ch h k i) _ _

/-! ### The slices of the trips of `k0_t11` -/

theorem s11_semN {v : BitVec 32} (h : Fits v) (k : Fin (k0_t11_loop v).trips) : k0_off88 v k = semOff (Ring.sl 2 (k.val + 1)) := by
  rw [show k0_off88 v k = _ from off3_eq h k, semOff, sl_val]
theorem s11_slotN {v : BitVec 32} (h : Fits v) (k : Fin (k0_t11_loop v).trips) : k0_off89 v k = slotOff (Ring.sl 2 (k.val + 1)) := by
  rw [show k0_off89 v k = _ from off4_eq h k, slotOff, sl_val]
theorem s11_chN {v : BitVec 32} (h : Fits v) (k : Fin (k0_t11_loop v).trips) (i : grid0.Coords) (hk : k.val + 1 < 128) : k0_off90 i v k = chOff i (Ring.bk 128 (k.val + 1)) := by
  rw [show k0_off90 i v k = _ from off5_eq h i k, chOff, bk_val hk]
theorem s11_sem {v : BitVec 32} (h : Fits v) (k : Fin (k0_t11_loop v).trips) : k0_off91 v k = semOff (Ring.sl 2 k.val) := by
  rw [show k0_off91 v k = _ from off6_eq h k, semOff, sl_val]
theorem s11_slot {v : BitVec 32} (h : Fits v) (k : Fin (k0_t11_loop v).trips) : k0_off92 v k = slotOff (Ring.sl 2 k.val) := by
  rw [show k0_off92 v k = _ from off7_eq h k, slotOff, sl_val]
theorem s11_ch {v : BitVec 32} (h : Fits v) (k : Fin (k0_t11_loop v).trips) (i : grid0.Coords) : k0_off93 i v k = chOff i (Ring.bk 128 k.val) := by
  rw [show k0_off93 i v k = _ from off8_eq h i k, chOff, bk_val (lt128 h k)]

@[sl_canon] theorem c11_semN {v : BitVec 32} (h : Fits v) (k : Fin (k0_t11_loop v).trips) (hh) : (cc0_scratch7.slice (Rect.unit (s := S2) (k0_off88 v k) S1.size hh)).squeeze S_ squeezes_S1_S_ = csm (Ring.sl 2 (k.val + 1)) := csm_congr (s11_semN h k) _
@[sl_canon] theorem c11_slotN {v : BitVec 32} (h : Fits v) (k : Fin (k0_t11_loop v).trips) (hh hs) : (bufM.slice (Rect.unit (s := S2x1024x4x128) (k0_off89 v k) S1x1024x4x128.size hh) hs).squeeze S1024x4x128 squeezes_S1x1024x4x128_S1024x4x128 = rslot (Ring.sl 2 (k.val + 1)) := rslot_congr (s11_slotN h k) _ _
@[sl_canon] theorem c11_chN {v : BitVec 32} (h : Fits v) (k : Fin (k0_t11_loop v).trips) (i : grid0.Coords) (hk : k.val + 1 < 128) (hh hs) : (aM.slice (Rect.unit (s := S2x131072x4x128) (k0_off90 i v k) S1x1024x4x128.size hh) hs).squeeze S1024x4x128 squeezes_S1x1024x4x128_S1024x4x128 = chunk i (Ring.bk 128 (k.val + 1)) := chunk_congr (s11_chN h k i hk) _ _
@[sl_canon] theorem c11_sem {v : BitVec 32} (h : Fits v) (k : Fin (k0_t11_loop v).trips) (hh) : (cc0_scratch7.slice (Rect.unit (s := S2) (k0_off91 v k) S1.size hh)).squeeze S_ squeezes_S1_S_ = csm (Ring.sl 2 k.val) := csm_congr (s11_sem h k) _
@[sl_canon] theorem c11_slot {v : BitVec 32} (h : Fits v) (k : Fin (k0_t11_loop v).trips) (hh hs) : (bufM.slice (Rect.unit (s := S2x1024x4x128) (k0_off92 v k) S1x1024x4x128.size hh) hs).squeeze S1024x4x128 squeezes_S1x1024x4x128_S1024x4x128 = rslot (Ring.sl 2 k.val) := rslot_congr (s11_slot h k) _ _
@[sl_canon] theorem c11_ch {v : BitVec 32} (h : Fits v) (k : Fin (k0_t11_loop v).trips) (i : grid0.Coords) (hh hs) : (aM.slice (Rect.unit (s := S2x131072x4x128) (k0_off93 i v k) S1x1024x4x128.size hh) hs).squeeze S1024x4x128 squeezes_S1x1024x4x128_S1024x4x128 = chunk i (Ring.bk 128 k.val) := chunk_congr (s11_ch h k i) _ _

/-! ### The slices of the trips of `k0_t21` -/

theorem s21_semN {v : BitVec 32} (h : Fits v) (k : Fin (k0_t21_loop v).trips) : k0_off172 v k = semOff (Ring.sl 2 (k.val + 1)) := by
  rw [show k0_off172 v k = _ from off3_eq h k, semOff, sl_val]
theorem s21_slotN {v : BitVec 32} (h : Fits v) (k : Fin (k0_t21_loop v).trips) : k0_off173 v k = slotOff (Ring.sl 2 (k.val + 1)) := by
  rw [show k0_off173 v k = _ from off4_eq h k, slotOff, sl_val]
theorem s21_chN {v : BitVec 32} (h : Fits v) (k : Fin (k0_t21_loop v).trips) (i : grid0.Coords) (hk : k.val + 1 < 128) : k0_off174 i v k = chOff i (Ring.bk 128 (k.val + 1)) := by
  rw [show k0_off174 i v k = _ from off5_eq h i k, chOff, bk_val hk]
theorem s21_sem {v : BitVec 32} (h : Fits v) (k : Fin (k0_t21_loop v).trips) : k0_off175 v k = semOff (Ring.sl 2 k.val) := by
  rw [show k0_off175 v k = _ from off6_eq h k, semOff, sl_val]
theorem s21_slot {v : BitVec 32} (h : Fits v) (k : Fin (k0_t21_loop v).trips) : k0_off176 v k = slotOff (Ring.sl 2 k.val) := by
  rw [show k0_off176 v k = _ from off7_eq h k, slotOff, sl_val]
theorem s21_ch {v : BitVec 32} (h : Fits v) (k : Fin (k0_t21_loop v).trips) (i : grid0.Coords) : k0_off177 i v k = chOff i (Ring.bk 128 k.val) := by
  rw [show k0_off177 i v k = _ from off8_eq h i k, chOff, bk_val (lt128 h k)]

@[sl_canon] theorem c21_semN {v : BitVec 32} (h : Fits v) (k : Fin (k0_t21_loop v).trips) (hh) : (cc0_scratch7.slice (Rect.unit (s := S2) (k0_off172 v k) S1.size hh)).squeeze S_ squeezes_S1_S_ = csm (Ring.sl 2 (k.val + 1)) := csm_congr (s21_semN h k) _
@[sl_canon] theorem c21_slotN {v : BitVec 32} (h : Fits v) (k : Fin (k0_t21_loop v).trips) (hh hs) : (bufM.slice (Rect.unit (s := S2x1024x4x128) (k0_off173 v k) S1x1024x4x128.size hh) hs).squeeze S1024x4x128 squeezes_S1x1024x4x128_S1024x4x128 = rslot (Ring.sl 2 (k.val + 1)) := rslot_congr (s21_slotN h k) _ _
@[sl_canon] theorem c21_chN {v : BitVec 32} (h : Fits v) (k : Fin (k0_t21_loop v).trips) (i : grid0.Coords) (hk : k.val + 1 < 128) (hh hs) : (aM.slice (Rect.unit (s := S2x131072x4x128) (k0_off174 i v k) S1x1024x4x128.size hh) hs).squeeze S1024x4x128 squeezes_S1x1024x4x128_S1024x4x128 = chunk i (Ring.bk 128 (k.val + 1)) := chunk_congr (s21_chN h k i hk) _ _
@[sl_canon] theorem c21_sem {v : BitVec 32} (h : Fits v) (k : Fin (k0_t21_loop v).trips) (hh) : (cc0_scratch7.slice (Rect.unit (s := S2) (k0_off175 v k) S1.size hh)).squeeze S_ squeezes_S1_S_ = csm (Ring.sl 2 k.val) := csm_congr (s21_sem h k) _
@[sl_canon] theorem c21_slot {v : BitVec 32} (h : Fits v) (k : Fin (k0_t21_loop v).trips) (hh hs) : (bufM.slice (Rect.unit (s := S2x1024x4x128) (k0_off176 v k) S1x1024x4x128.size hh) hs).squeeze S1024x4x128 squeezes_S1x1024x4x128_S1024x4x128 = rslot (Ring.sl 2 k.val) := rslot_congr (s21_slot h k) _ _
@[sl_canon] theorem c21_ch {v : BitVec 32} (h : Fits v) (k : Fin (k0_t21_loop v).trips) (i : grid0.Coords) (hh hs) : (aM.slice (Rect.unit (s := S2x131072x4x128) (k0_off177 i v k) S1x1024x4x128.size hh) hs).squeeze S1024x4x128 squeezes_S1x1024x4x128_S1024x4x128 = chunk i (Ring.bk 128 k.val) := chunk_congr (s21_ch h k i) _ _

/-! ### The slices of the trips of `k0_t31` -/

theorem s31_semN {v : BitVec 32} (h : Fits v) (k : Fin (k0_t31_loop v).trips) : k0_off257 v k = semOff (Ring.sl 2 (k.val + 1)) := by
  rw [show k0_off257 v k = _ from off3_eq h k, semOff, sl_val]
theorem s31_slotN {v : BitVec 32} (h : Fits v) (k : Fin (k0_t31_loop v).trips) : k0_off258 v k = slotOff (Ring.sl 2 (k.val + 1)) := by
  rw [show k0_off258 v k = _ from off4_eq h k, slotOff, sl_val]
theorem s31_chN {v : BitVec 32} (h : Fits v) (k : Fin (k0_t31_loop v).trips) (i : grid0.Coords) (hk : k.val + 1 < 128) : k0_off259 i v k = chOff i (Ring.bk 128 (k.val + 1)) := by
  rw [show k0_off259 i v k = _ from off5_eq h i k, chOff, bk_val hk]
theorem s31_sem {v : BitVec 32} (h : Fits v) (k : Fin (k0_t31_loop v).trips) : k0_off260 v k = semOff (Ring.sl 2 k.val) := by
  rw [show k0_off260 v k = _ from off6_eq h k, semOff, sl_val]
theorem s31_slot {v : BitVec 32} (h : Fits v) (k : Fin (k0_t31_loop v).trips) : k0_off261 v k = slotOff (Ring.sl 2 k.val) := by
  rw [show k0_off261 v k = _ from off7_eq h k, slotOff, sl_val]
theorem s31_ch {v : BitVec 32} (h : Fits v) (k : Fin (k0_t31_loop v).trips) (i : grid0.Coords) : k0_off262 i v k = chOff i (Ring.bk 128 k.val) := by
  rw [show k0_off262 i v k = _ from off8_eq h i k, chOff, bk_val (lt128 h k)]

@[sl_canon] theorem c31_semN {v : BitVec 32} (h : Fits v) (k : Fin (k0_t31_loop v).trips) (hh) : (cc0_scratch7.slice (Rect.unit (s := S2) (k0_off257 v k) S1.size hh)).squeeze S_ squeezes_S1_S_ = csm (Ring.sl 2 (k.val + 1)) := csm_congr (s31_semN h k) _
@[sl_canon] theorem c31_slotN {v : BitVec 32} (h : Fits v) (k : Fin (k0_t31_loop v).trips) (hh hs) : (bufM.slice (Rect.unit (s := S2x1024x4x128) (k0_off258 v k) S1x1024x4x128.size hh) hs).squeeze S1024x4x128 squeezes_S1x1024x4x128_S1024x4x128 = rslot (Ring.sl 2 (k.val + 1)) := rslot_congr (s31_slotN h k) _ _
@[sl_canon] theorem c31_chN {v : BitVec 32} (h : Fits v) (k : Fin (k0_t31_loop v).trips) (i : grid0.Coords) (hk : k.val + 1 < 128) (hh hs) : (aM.slice (Rect.unit (s := S2x131072x4x128) (k0_off259 i v k) S1x1024x4x128.size hh) hs).squeeze S1024x4x128 squeezes_S1x1024x4x128_S1024x4x128 = chunk i (Ring.bk 128 (k.val + 1)) := chunk_congr (s31_chN h k i hk) _ _
@[sl_canon] theorem c31_sem {v : BitVec 32} (h : Fits v) (k : Fin (k0_t31_loop v).trips) (hh) : (cc0_scratch7.slice (Rect.unit (s := S2) (k0_off260 v k) S1.size hh)).squeeze S_ squeezes_S1_S_ = csm (Ring.sl 2 k.val) := csm_congr (s31_sem h k) _
@[sl_canon] theorem c31_slot {v : BitVec 32} (h : Fits v) (k : Fin (k0_t31_loop v).trips) (hh hs) : (bufM.slice (Rect.unit (s := S2x1024x4x128) (k0_off261 v k) S1x1024x4x128.size hh) hs).squeeze S1024x4x128 squeezes_S1x1024x4x128_S1024x4x128 = rslot (Ring.sl 2 k.val) := rslot_congr (s31_slot h k) _ _
@[sl_canon] theorem c31_ch {v : BitVec 32} (h : Fits v) (k : Fin (k0_t31_loop v).trips) (i : grid0.Coords) (hh hs) : (aM.slice (Rect.unit (s := S2x131072x4x128) (k0_off262 i v k) S1x1024x4x128.size hh) hs).squeeze S1024x4x128 squeezes_S1x1024x4x128_S1024x4x128 = chunk i (Ring.bk 128 k.val) := chunk_congr (s31_ch h k i) _ _

/-! ## What is held of the ring -/

section Pieces
variable (c : Dev nD) (i : grid0.Coords) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- The read token of the codes for slot `s`, on a set of elements. -/
abbrev tokP (s : Fin 2) (S : Finset (Idx (aM.view.loc (c : Thread nD τ)))) : sProp 𝕄 :=
  aM.view.loc (c : Thread nD τ) ↦[S]{Transfers.shareTok fullShare 2 s} XA
/-- The words of chunk `b`, as they land. -/
abbrev payload (b : Fin 128) : S1024x4x128.Idx → Elt F .fp8e4m3 := ReadAs.same.apply ((chunk i b).view.read (Elt F) XA)
/-- Slot `s` in flight with chunk `b`, issued over `f`. -/
abbrev flightP (s : Fin 2) (b : Fin 128) (f : Buf (Elt F) ((rslot s).view.loc (c : Thread nD τ))) : sProp 𝕄 :=
  Transfers.Flight countersEmb (c : Thread nD τ) (SemLoc.dma (csm s).sem) () (rslot s).view.dmaCredit
    iprop(slotP c s ((rslot s).view.writes (Elt F) f [⟨Rect.whole S1024x4x128, payload c i XA b⟩]) ∗ tokP c XA s (chunk i b).view.set)
/-- Slot `s` at home: its cell at zero, the slot at anything, its token whole. -/
abbrev homeP (s : Fin 2) : sProp 𝕄 := iprop(cellP c s ∗ (∃ f, slotP c s f) ∗ tokP c XA s Finset.univ)

/-- The ring before chunk `k` of `n`: chunk `k` in flight, the other slot at home; after the last, both at home. -/
@[irreducible] def ringP (n k : ℕ) : sProp 𝕄 :=
  if k < n then iprop((∃ f, flightP c i XA (Ring.sl 2 k) (Ring.bk 128 k) f) ∗ tokP c XA (Ring.sl 2 k) (Finset.univ \ (chunk i (Ring.bk 128 k)).view.set)
    ∗ homeP c XA (Ring.sl 2 (k + 1)))
  else iprop(homeP c XA 0 ∗ homeP c XA 1)

theorem ringP_lt {n k : ℕ} (h : k < n) : ringP c i XA n k = iprop((∃ f, flightP c i XA (Ring.sl 2 k) (Ring.bk 128 k) f) ∗ tokP c XA (Ring.sl 2 k) (Finset.univ \ (chunk i (Ring.bk 128 k)).view.set)
    ∗ homeP c XA (Ring.sl 2 (k + 1))) := by unfold ringP; exact if_pos h
theorem ringP_ge {n k : ℕ} (h : ¬ k < n) : ringP c i XA n k = iprop(homeP c XA 0 ∗ homeP c XA 1) := by unfold ringP; exact if_neg h

/-- Slots `k % 2` and `(k + 1) % 2` are slots 0 and 1. -/
theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · have e0 : Ring.sl 2 T = 0 := Fin.ext (by simp [Ring.sl, Fin.ofNat, h])
    have e1 : Ring.sl 2 (T + 1) = 1 := Fin.ext (by simp [Ring.sl, Fin.ofNat]; omega)
    rw [e0, e1]
  · have e0 : Ring.sl 2 T = 1 := Fin.ext (by simp [Ring.sl, Fin.ofNat, h])
    have e1 : Ring.sl 2 (T + 1) = 0 := Fin.ext (by simp [Ring.sl, Fin.ofNat]; omega)
    rw [e0, e1]; iintro ⟨H1, H0⟩; isplitl [H0] <;> iassumption

theorem entails_of_eq {P Q : sProp 𝕄} (e : P = Q) : P ⊢ Q := e ▸ .rfl

/-- The ring's entry: chunk 0 in flight. -/
theorem ring_enter {n : ℕ} (h : 0 < n) (f) :
    iprop(flightP c i XA 0 0 f ∗ tokP c XA 0 (Finset.univ \ (chunk i 0).view.set) ∗ homeP c XA 1) ⊢ ringP c i XA n 0 := by
  rw [ringP_lt c i XA h, sl2_0, sl2_1, bk128_0]
  iintro ⟨HF, HT, HH⟩
  isplitl [HF]; · iexists f; iexact HF
  isplitl [HT]; · iexact HT
  iexact HH

end Pieces

end Cert.Kernel.Own
-- ==== Proof.StreamK.lean ====
/-
  One chunk of each of the four streams, and the streams' loop invariants: the ring at the chunk, the staged keys and
  their scales at anything, the stream's accumulator at anything.
-/
module

public import proofs.«01_k».proof.Proof.RingK

@[expose] public section

set_option maxRecDepth 8192
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A tile is inside the prefix or it is not: the two conditions the trip tests. -/
theorem inside_or : ∀ b : BitVec 1, (Scalar.cmpi .ne (Scalar.extui b) 0#32 = 1#1 ∧ ¬ Scalar.cmpi .ne (Scalar.extui (Scalar.xori b 1#1)) 0#32 = 1#1)
      ∨ (¬ Scalar.cmpi .ne (Scalar.extui b) 0#32 = 1#1 ∧ Scalar.cmpi .ne (Scalar.extui (Scalar.xori b 1#1)) 0#32 = 1#1) := by
  decide

/-! ## Stream `k0_t1` -/

section
variable (𝒱 : Variants) (c : Dev nD) (bd : Option 𝒱.V) (XA : Buf (Elt F) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt F .i32) (k0_hw1 : k0_chk1 i v1) (v2 : BitVec 32) (v21 : BitVec 32) (v152 : FVec F S28x1x1 .f32) (v159 : FVec F S4x224x128 .f32) (v160 : Vec F S4x224x128 .f32) (X_arg4 : BufTy.Contents (Elt F) arg4.view.ty) (X_arg13 : BufTy.Contents (Elt F) arg13.view.ty)

/-- What stream `k0_t1` holds before chunk `k`. -/
def res_t1 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (∃ f, arg11.view.loc (c : Thread nD τ) ↦[arg11.view.set]{fullShare} f) ∗ (∃ f, arg12.view.loc (c : Thread nD τ) ↦[arg12.view.set]{fullShare} f) ∗ (∃ f, arg14.view.loc (c : Thread nD τ) ↦[arg14.view.set]{fullShare} f))

theorem trip_t1 (k : Fin (k0_t1_loop v1).trips) (acc : BitVec 32) :
    res_t1 c XA i arg4 arg11 arg12 arg13 arg14 v1 X_arg4 X_arg13 k.val
      ⊢ wp frame (wpE (defs₀ (F := F)) 𝒱 (c : Thread nD τ) bd) Set.univ (k0_t1_body (F := F) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v159 v160 k acc)
        (fun _ => res_t1 c XA i arg4 arg11 arg12 arg13 arg14 v1 X_arg4 X_arg13 (k.val + 1)) := by
  unfold res_t1
  iintro ⟨%h, HR, ⟨%W, HW⟩, H4, H13, ⟨%f11, H11⟩, ⟨%f12, H12⟩, ⟨%fw, Hw⟩⟩
  have hkn : k.val < nC v1 := lt_of_lt_of_eq k.isLt (trips_t1 h)
  have hc : k0_cond1 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases inside_or (Scalar.cmpi .sle (Scalar.muli (Scalar.addi (Scf.iv 0#32 1#32 k.val) 1#32) 1024#32) v2) with ⟨hin, hout⟩ | ⟨hin, hout⟩
    · sl_unfold [k0_t1_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; iexact Hw
    · sl_unfold [k0_t1_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; iexact Hw
  · have hc1 : ¬ k0_cond1 v1 k = 1#1 := fun e => hn (hc.mp e)
    irw [ringP_ge c i XA hn]
    rcases inside_or (Scalar.cmpi .sle (Scalar.muli (Scalar.addi (Scf.iv 0#32 1#32 k.val) 1#32) 1024#32) v2) with ⟨hin, hout⟩ | ⟨hin, hout⟩
    · sl_unfold [k0_t1_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; iexact Hw
    · sl_unfold [k0_t1_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; iexact Hw

set_option warn.classDefReducibility false in
/-- The stream's invariant, instanced. -/
@[sl_loop] def loopInv_k0_t1 (init : BitVec 32) : LoopInvTy_k0_t1 (F := F) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v159 v160 init where
  inv k _ := res_t1 c XA i arg4 arg11 arg12 arg13 arg14 v1 X_arg4 X_arg13 k
  step k acc := trip_t1 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 k0_hw1 v2 v21 v152 v159 v160 X_arg4 X_arg13 k acc

end

/-! ## Stream `k0_t11` -/

section
variable (𝒱 : Variants) (c : Dev nD) (bd : Option 𝒱.V) (XA : Buf (Elt F) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt F .i32) (v2 : BitVec 32) (v21 : BitVec 32) (v152 : FVec F S28x1x1 .f32) (v191 : BitVec 1) (k0_hw2 : k0_chk2 i v1 v191) (k0_h7 : k0_cond7 v191 = 1#1) (X_arg4 : BufTy.Contents (Elt F) arg4.view.ty) (X_arg13 : BufTy.Contents (Elt F) arg13.view.ty)

/-- What stream `k0_t11` holds before chunk `k`. -/
def res_t11 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (∃ f, arg11.view.loc (c : Thread nD τ) ↦[arg11.view.set]{fullShare} f) ∗ (∃ f, arg12.view.loc (c : Thread nD τ) ↦[arg12.view.set]{fullShare} f) ∗ (∃ f, arg15.view.loc (c : Thread nD τ) ↦[arg15.view.set]{fullShare} f))

theorem trip_t11 (k : Fin (k0_t11_loop v1).trips) (acc : BitVec 32) :
    res_t11 c XA i arg4 arg11 arg12 arg13 arg15 v1 X_arg4 X_arg13 k.val
      ⊢ wp frame (wpE (defs₀ (F := F)) 𝒱 (c : Thread nD τ) bd) Set.univ (k0_t11_body (F := F) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 k0_h7 k acc)
        (fun _ => res_t11 c XA i arg4 arg11 arg12 arg13 arg15 v1 X_arg4 X_arg13 (k.val + 1)) := by
  unfold res_t11
  iintro ⟨%h, HR, ⟨%W, HW⟩, H4, H13, ⟨%f11, H11⟩, ⟨%f12, H12⟩, ⟨%fw, Hw⟩⟩
  have hkn : k.val < nC v1 := lt_of_lt_of_eq k.isLt (trips_t1 h)
  have hc : k0_cond8 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases inside_or (Scalar.cmpi .sle (Scalar.muli (Scalar.addi (Scf.iv 0#32 1#32 k.val) 1#32) 1024#32) v2) with ⟨hin, hout⟩ | ⟨hin, hout⟩
    · sl_unfold [k0_t11_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; iexact Hw
    · sl_unfold [k0_t11_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H11]; · iexists _; iexact H11
      isplitl [H12]; · iexists _; iexact H12
      iexists _; iexact Hw
  · have hc1 : ¬ k0_cond8 v1 k = 1#1 := fun e => hn (hc.mp e)
    irw [ringP_ge c i XA hn]
    rcases inside_or (Scalar.cmpi .sle (Scalar.muli (Scalar.addi (Scf.iv 0#32 1#32 k.val) 1#32) 1024#32) v2) with ⟨hin, hout⟩ | ⟨hin, hout⟩
    · sl_unfold [k0_t11_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; iexact Hw
    · sl_unfold [k0_t11_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H11]; · iexists _; iexact H11
      isplitl [H12]; · iexists _; iexact H12
      iexists _; iexact Hw

set_option warn.classDefReducibility false in
/-- The stream's invariant, instanced. -/
@[sl_loop] def loopInv_k0_t11 (init : BitVec 32) : LoopInvTy_k0_t11 (F := F) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 k0_h7 init where
  inv k _ := res_t11 c XA i arg4 arg11 arg12 arg13 arg15 v1 X_arg4 X_arg13 k
  step k acc := trip_t11 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 v2 v21 v152 v191 k0_hw2 k0_h7 X_arg4 X_arg13 k acc

end

/-! ## Stream `k0_t21` -/

section
variable (𝒱 : Variants) (c : Dev nD) (bd : Option 𝒱.V) (XA : Buf (Elt F) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt F .i32) (v2 : BitVec 32) (v21 : BitVec 32) (v152 : FVec F S28x1x1 .f32) (v191 : BitVec 1) (k0_hw2 : k0_chk2 i v1 v191) (v192 : FVec F S4x224x1 .f32) (v193 : FVec F S4x224x1 .f32) (k0_h7 : k0_cond7 v191 = 1#1) (X_arg4 : BufTy.Contents (Elt F) arg4.view.ty) (X_arg13 : BufTy.Contents (Elt F) arg13.view.ty) (X_arg15 : BufTy.Contents (Elt F) arg15.view.ty)

/-- What stream `k0_t21` holds before chunk `k`. -/
def res_t21 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (arg15.view.loc (c : Thread nD τ) ↦[arg15.view.set]{fullShare} X_arg15) ∗ (∃ f, arg11.view.loc (c : Thread nD τ) ↦[arg11.view.set]{fullShare} f) ∗ (∃ f, arg12.view.loc (c : Thread nD τ) ↦[arg12.view.set]{fullShare} f) ∗ (∃ f, arg14.view.loc (c : Thread nD τ) ↦[arg14.view.set]{fullShare} f))

theorem trip_t21 (k : Fin (k0_t21_loop v1).trips) (acc : BitVec 32) :
    res_t21 c XA i arg4 arg11 arg12 arg13 arg14 arg15 v1 X_arg4 X_arg13 X_arg15 k.val
      ⊢ wp frame (wpE (defs₀ (F := F)) 𝒱 (c : Thread nD τ) bd) Set.univ (k0_t21_body (F := F) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 v192 v193 k0_h7 k acc)
        (fun _ => res_t21 c XA i arg4 arg11 arg12 arg13 arg14 arg15 v1 X_arg4 X_arg13 X_arg15 (k.val + 1)) := by
  unfold res_t21
  iintro ⟨%h, HR, ⟨%W, HW⟩, H4, H13, H15, ⟨%f11, H11⟩, ⟨%f12, H12⟩, ⟨%fw, Hw⟩⟩
  have hkn : k.val < nC v1 := lt_of_lt_of_eq k.isLt (trips_t1 h)
  have hc : k0_cond14 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases inside_or (Scalar.cmpi .sle (Scalar.muli (Scalar.addi (Scf.iv 0#32 1#32 k.val) 1#32) 1024#32) v2) with ⟨hin, hout⟩ | ⟨hin, hout⟩
    · sl_unfold [k0_t21_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
    · sl_unfold [k0_t21_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
  · have hc1 : ¬ k0_cond14 v1 k = 1#1 := fun e => hn (hc.mp e)
    irw [ringP_ge c i XA hn]
    rcases inside_or (Scalar.cmpi .sle (Scalar.muli (Scalar.addi (Scf.iv 0#32 1#32 k.val) 1#32) 1024#32) v2) with ⟨hin, hout⟩ | ⟨hin, hout⟩
    · sl_unfold [k0_t21_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
    · sl_unfold [k0_t21_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw

set_option warn.classDefReducibility false in
/-- The stream's invariant, instanced. -/
@[sl_loop] def loopInv_k0_t21 (init : BitVec 32) : LoopInvTy_k0_t21 (F := F) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 v2 v21 v152 v191 k0_hw2 v192 v193 k0_h7 init where
  inv k _ := res_t21 c XA i arg4 arg11 arg12 arg13 arg14 arg15 v1 X_arg4 X_arg13 X_arg15 k
  step k acc := trip_t21 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 v2 v21 v152 v191 k0_hw2 v192 v193 k0_h7 X_arg4 X_arg13 X_arg15 k acc

end

/-! ## Stream `k0_t31` -/

section
variable (𝒱 : Variants) (c : Dev nD) (bd : Option 𝒱.V) (XA : Buf (Elt F) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole) (v1 : Elt F .i32) (k0_hw1 : k0_chk1 i v1) (v2 : BitVec 32) (v21 : BitVec 32) (v152 : FVec F S28x1x1 .f32) (v230 : FVec F S4x224x128 .f32) (v231 : Vec F S1x4x224x128 .f32) (X_arg4 : BufTy.Contents (Elt F) arg4.view.ty) (X_arg13 : BufTy.Contents (Elt F) arg13.view.ty) (X_arg15 : BufTy.Contents (Elt F) arg15.view.ty)

/-- What stream `k0_t31` holds before chunk `k`. -/
def res_t31 (k : ℕ) : sProp 𝕄 :=
  iprop(⌜Fits v1⌝ ∗ ringP c i XA (nC v1) k ∗ (∃ W, owes (c : Thread nD τ) 0 W) ∗ (arg4.view.loc (c : Thread nD τ) ↦[arg4.view.set]{fullShare} X_arg4) ∗ (arg13.view.loc (c : Thread nD τ) ↦[arg13.view.set]{fullShare} X_arg13) ∗ (arg15.view.loc (c : Thread nD τ) ↦[arg15.view.set]{fullShare} X_arg15) ∗ (∃ f, arg11.view.loc (c : Thread nD τ) ↦[arg11.view.set]{fullShare} f) ∗ (∃ f, arg12.view.loc (c : Thread nD τ) ↦[arg12.view.set]{fullShare} f) ∗ (∃ f, arg6.view.loc (c : Thread nD τ) ↦[arg6.view.set]{fullShare} f))

theorem trip_t31 (k : Fin (k0_t31_loop v1).trips) (acc : BitVec 32) :
    res_t31 c XA i arg4 arg6 arg11 arg12 arg13 arg15 v1 X_arg4 X_arg13 X_arg15 k.val
      ⊢ wp frame (wpE (defs₀ (F := F)) 𝒱 (c : Thread nD τ) bd) Set.univ (k0_t31_body (F := F) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v230 v231 k acc)
        (fun _ => res_t31 c XA i arg4 arg6 arg11 arg12 arg13 arg15 v1 X_arg4 X_arg13 X_arg15 (k.val + 1)) := by
  unfold res_t31
  iintro ⟨%h, HR, ⟨%W, HW⟩, H4, H13, H15, ⟨%f11, H11⟩, ⟨%f12, H12⟩, ⟨%fw, Hw⟩⟩
  have hkn : k.val < nC v1 := lt_of_lt_of_eq k.isLt (trips_t1 h)
  have hc : k0_cond20 v1 k = 1#1 ↔ k.val + 1 < nC v1 := cond1_iff h k
  ihave HR' := (entails_of_eq (ringP_lt c i XA hkn)) $$ HR
  icases HR' with ⟨⟨%f, HF⟩, HT, HC, ⟨%g, HS⟩, HT'⟩
  by_cases hn : k.val + 1 < nC v1
  · have hc1 := hc.mpr hn
    have hk128 : k.val + 1 < 128 := by have := nC_le h; omega
    irw [ringP_lt c i XA hn, sl2_add2]
    rcases (show (k0_cond21 v1 k = 1#1 ∧ ¬ k0_cond22 v1 k = 1#1) ∨ (¬ k0_cond21 v1 k = 1#1 ∧ k0_cond22 v1 k = 1#1) from inside_or _) with ⟨hin, hout⟩ | ⟨hin, hout⟩
    · sl_unfold [k0_t31_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
    · sl_unfold [k0_t31_body]
      sl_exec
      sl_step
      isplitr; · ipureintro; exact h
      isplitl [HC HT' HF HF_dst HT]
      · isplitl [HC]; · iexists _; iexact HC
        isplitl [HT']; · iexact HT'
        isplitl [HF]; · iexact HF
        isplitl [HF_dst]; · iexists _; iexact HF_dst
        iexact HT
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
  · have hc1 : ¬ k0_cond20 v1 k = 1#1 := fun e => hn (hc.mp e)
    irw [ringP_ge c i XA hn]
    rcases (show (k0_cond21 v1 k = 1#1 ∧ ¬ k0_cond22 v1 k = 1#1) ∨ (¬ k0_cond21 v1 k = 1#1 ∧ k0_cond22 v1 k = 1#1) from inside_or _) with ⟨hin, hout⟩ | ⟨hin, hout⟩
    · sl_unfold [k0_t31_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw
    · sl_unfold [k0_t31_body]
      sl_exec
      sl_step
      isplitr; · ipureintro; exact h
      isplitl [HC HS HT' HF HF_dst HT]
      · iapply (two_of_roles (homeP c XA) k.val)
        isplitl [HF HF_dst HT]
        · isplitl [HF]; · iexact HF
          isplitl [HF_dst]; · iexists _; iexact HF_dst
          iexact HT
        isplitl [HC]; · iexact HC
        isplitl [HS]; · iexists _; iexact HS
        iexact HT'
      isplitl [HW]; · iexists _; iexact HW
      isplitl [H4]; · iexact H4
      isplitl [H13]; · iexact H13
      isplitl [H15]; · iexact H15
      isplitl [H11]; · iexists _; iexact H11
      isplitl [H12]; · iexists _; iexact H12
      iexists _; iexact Hw

set_option warn.classDefReducibility false in
/-- The stream's invariant, instanced. -/
@[sl_loop] def loopInv_k0_t31 (init : BitVec 32) : LoopInvTy_k0_t31 (F := F) Unit ℕ (UR sig nD τ × Counters) ℕ 𝒱 c bd Set.univ i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7 v1 k0_hw1 v2 v21 v152 v230 v231 init where
  inv k _ := res_t31 c XA i arg4 arg6 arg11 arg12 arg13 arg15 v1 X_arg4 X_arg13 X_arg15 k
  step k acc := trip_t31 𝒱 c bd XA i arg1 harg1 arg2 harg2 arg4 harg4 arg5 harg5 arg6 harg6 arg7 harg7 arg8 harg8 arg9 harg9 arg11 harg11 arg12 harg12 arg13 harg13 arg14 harg14 arg15 harg15 arg16 harg16 v1 k0_hw1 v2 v21 v152 v230 v231 X_arg4 X_arg13 X_arg15 k acc

end

end Cert.Kernel.Own
-- ==== Proof.BodyK.lean ====
/-
  The kernel's body at one grid point, on any staging buffers: given a length that fits, it runs to its end with every
  buffer still held and the chunk ring at home.
-/
module

public import proofs.«01_k».proof.Proof.StreamK
public import Idealize.ShloMosaic.Lib.LoopRemainder

@[expose] public section

set_option maxRecDepth 8192
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- After the last chunk the ring is at home. -/
theorem ring_leave (c : Dev nD) (i : grid0.Coords) (XA : Buf (Elt F) (aM.view.loc (c : Thread nD τ))) {v : BitVec 32} (h : Fits v) :
    ringP c i XA (nC v) (k0_t1_loop v).trips = iprop(homeP c XA 0 ∗ homeP c XA 1) := by
  rw [trips_t1 h]; exact ringP_ge c i XA (lt_irrefl _)

section
variable (𝒱 : Variants) (c : Dev nD) (bd : Option 𝒱.V) (XA : Buf (Elt F) (aM.view.loc (c : Thread nD τ))) (i : grid0.Coords) (arg1 : Memref sig .tc .smem S2 .i32) (harg1 : arg1.IsWhole) (arg2 : Memref sig .tc .vmem S1x28x32x128 .bf16) (harg2 : arg2.IsWhole) (arg4 : Memref sig .tc .vmem S1x4x131072 .f32) (harg4 : arg4.IsWhole) (arg5 : Memref sig .tc .vmem S1x4x131072 .f32) (harg5 : arg5.IsWhole) (arg6 : Memref sig .tc .vmem S1x4x131072 .f32) (harg6 : arg6.IsWhole) (arg7 : Memref sig .tc .vmem S1x4x224x128 .f32) (harg7 : arg7.IsWhole) (arg8 : Memref sig .tc .vmem S1x28x32x128 .fp8e4m3) (harg8 : arg8.IsWhole) (arg9 : Memref sig .tc .vmem S1x28x128 .f32) (harg9 : arg9.IsWhole) (arg11 : Memref sig .tc .vmem S4x1024x128 .fp8e4m3) (harg11 : arg11.IsWhole) (arg12 : Memref sig .tc .vmem S4x8x1024 .f32) (harg12 : arg12.IsWhole) (arg13 : Memref sig .tc .vmem S4x224x128 .fp8e4m3) (harg13 : arg13.IsWhole) (arg14 : Memref sig .tc .vmem S4x224x128 .f32) (harg14 : arg14.IsWhole) (arg15 : Memref sig .tc .vmem S4x224x128 .f32) (harg15 : arg15.IsWhole) (arg16 : Memref sig .tc .vmem S4x131328 .f32) (harg16 : arg16.IsWhole)

/-- What the body is handed, and hands back: the table and the two read blocks, every other buffer at anything, the
    ring at home. -/
def held (qT : PosShare TreeShare) (g1 : Buf (Elt F) (arg1.view.loc (c : Thread nD τ))) (g2 : Buf (Elt F) (arg2.view.loc (c : Thread nD τ))) (g4 : Buf (Elt F) (arg4.view.loc (c : Thread nD τ))) : sProp 𝕄 :=
  iprop((arg1.view.loc (c : Thread nD τ) ↦[arg1.view.set]{qT} g1) ∗ (arg2.view.loc (c : Thread nD τ) ↦[arg2.view.set]{fullShare} g2)
    ∗ (arg4.view.loc (c : Thread nD τ) ↦[arg4.view.set]{fullShare} g4)
    ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)
    ∗ homeP c XA 0 ∗ homeP c XA 1 ∗ ∃ W, owes (c : Thread nD τ) 0 W)

/-- The length word the body reads: the table's word of this sequence. -/
abbrev lenAt (g1 : Buf (Elt F) (arg1.view.loc (c : Thread nD τ))) : BitVec 32 :=
  arg1.view.readAt (Elt F) (Rect.unit (s := S2) (k0_off1 i) S1.size (k0_off1_inb i)).toLoadRect g1 (Shape.Idx.first (show 0 < S1.numel from by decide))

theorem bodyRun (qT : PosShare TreeShare) (g1 : Buf (Elt F) (arg1.view.loc (c : Thread nD τ))) (g2 : Buf (Elt F) (arg2.view.loc (c : Thread nD τ))) (g4 : Buf (Elt F) (arg4.view.loc (c : Thread nD τ)))
    (hfit : Fits (lenAt c i arg1 g1)) (Q : PUnit → sProp 𝕄) :
    iprop(held c XA arg1 arg2 arg4 arg5 arg6 arg7 arg8 arg9 arg11 arg12 arg13 arg14 arg15 arg16 qT g1 g2 g4 ∗ (held c XA arg1 arg2 arg4 arg5 arg6 arg7 arg8 arg9 arg11 arg12 arg13 arg14 arg15 arg16 qT g1 g2 g4 -∗ Q ⟨⟩))
      ⊢ wp frame (wpE (defs₀ (F := F)) 𝒱 (c : Thread nD τ) bd) Set.univ (cc0_snapkv (F := F) i arg1 harg1 arg2 harg2 aM (Memref.isWhole_whole _) arg4 harg4 arg5 harg5 arg6 harg6 arg7 harg7 arg8 harg8 arg9 harg9 bufM (Memref.isWhole_whole _) arg11 harg11 arg12 harg12 arg13 harg13 arg14 harg14 arg15 harg15 arg16 harg16 cc0_scratch7) Q := by
  unfold held
  iintro ⟨⟨H1, H2, H4, ⟨%f5, H5⟩, ⟨%f6, H6⟩, ⟨%f7, H7⟩, ⟨%f8, H8⟩, ⟨%f9, H9⟩, ⟨%f11, H11⟩, ⟨%f12, H12⟩, ⟨%f13, H13⟩, ⟨%f14, H14⟩, ⟨%f15, H15⟩, ⟨%f16, H16⟩, ⟨HC0, ⟨%s0, HS0⟩, HT0⟩, ⟨HC1, ⟨%s1, HS1⟩, HT1⟩, ⟨%W, HW⟩⟩, Hk⟩
  sl_exec
  have h : Fits (bodyRun.sl.r c i arg1 g1) := hfit
  have hchk : k0_chk1 i (bodyRun.sl.r c i arg1 g1) := chk1_of h i
  sl_exec
  ihave HR := (ring_enter c i XA (nC_pos h) _) $$ [HC0 HT0 HC1 HS1 HT1]
  · isplitl [HC0]; · iexact HC0
    isplitl [HT0]; · iexact HT0
    isplitl [HC1]; · iexact HC1
    isplitl [HS1]; · iexists _; iexact HS1
    iexact HT1
  sl_exec
  have hchk2 : k0_chk2 i (bodyRun.sl.r c i arg1 g1) (bodyRun.sl.v191 c arg14 fL3) := chk2_of h i _
  ihave HR' := (entails_of_eq (ring_leave c i XA h)) $$ HR
  icases HR' with ⟨⟨HC0, ⟨%s0', HS0⟩, HT0⟩, ⟨HC1, ⟨%s1', HS1⟩, HT1⟩⟩
  by_cases hslow : k0_cond7 (bodyRun.sl.v191 c arg14 fL3) = 1#1
  · sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    sl_exec
    ihave HR' := (entails_of_eq (ring_leave c i XA h)) $$ HR
    icases HR' with ⟨⟨HC0, ⟨%s0', HS0⟩, HT0⟩, ⟨HC1, ⟨%s1', HS1⟩, HT1⟩⟩
    sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    sl_exec
    ihave HR' := (entails_of_eq (ring_leave c i XA h)) $$ HR
    icases HR' with ⟨⟨HC0, ⟨%s0', HS0⟩, HT0⟩, ⟨HC1, ⟨%s1', HS1⟩, HT1⟩⟩
    sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    sl_exec
    ihave HR' := (entails_of_eq (ring_leave c i XA h)) $$ HR
    icases HR' with ⟨⟨HC0, ⟨%s0', HS0⟩, HT0⟩, ⟨HC1, ⟨%s1', HS1⟩, HT1⟩⟩
    sl_step
    iapply Hk
    isplitl [H1]; · iexact H1
    isplitl [H2]; · iexact H2
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HC0 HS0 HT0]
    · isplitl [HC0]; · iexact HC0
      isplitl [HS0]; · iexists _; iexact HS0
      iexact HT0
    isplitl [HC1 HS1 HT1]
    · isplitl [HC1]; · iexact HC1
      isplitl [HS1]; · iexists _; iexact HS1
      iexact HT1
    iexists _; iexact HW
  · sl_exec
    ihave HR := (ring_enter c i XA (nC_pos h) _) $$ [HC0 HT0 HC1 HS1 HT1]
    · isplitl [HC0]; · iexact HC0
      isplitl [HT0]; · iexact HT0
      isplitl [HC1]; · iexact HC1
      isplitl [HS1]; · iexists _; iexact HS1
      iexact HT1
    sl_exec
    ihave HR' := (entails_of_eq (ring_leave c i XA h)) $$ HR
    icases HR' with ⟨⟨HC0, ⟨%s0', HS0⟩, HT0⟩, ⟨HC1, ⟨%s1', HS1⟩, HT1⟩⟩
    sl_step
    iapply Hk
    isplitl [H1]; · iexact H1
    isplitl [H2]; · iexact H2
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HC0 HS0 HT0]
    · isplitl [HC0]; · iexact HC0
      isplitl [HS0]; · iexists _; iexact HS0
      iexact HT0
    isplitl [HC1 HS1 HT1]
    · isplitl [HC1]; · iexact HC1
      isplitl [HS1]; · iexists _; iexact HS1
      iexact HT1
    iexists _; iexact HW

end
end Cert.Kernel.Own
-- ==== Proof.LaunchK.lean ====
/-
  The launch: the buffers the region hands the body, split into what the body's run takes, and the whole program's run
  around it: it ends, nothing faults, the arguments are unchanged and every semaphore is at zero.
-/
module

public import proofs.«01_k».proof.Proof.BodyK
public import Idealize.ShloMosaic.Lib.Pipeline.Frame
public import proofs.«01_k».proof.Proof.Gen.Kernel.Launch
public import proofs.«01_k».proof.Defs
public import proofs.«01_k».proof.Proof.Gen.Pre_lengths_fit

@[expose] public section

set_option maxRecDepth 8192
set_option maxHeartbeats 4000000

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the region finds -/

/-- Each buffer when the region is entered: after the two host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

theorem hmain : Pipeline.HMainP (Ix := Unit) (Name := ℕ) (U := UU nD τ) (Lvl := ℕ) (pcfgs (F := F)) 0 defs₀ Variants.none m main (V m) :=
  Pipeline.hmainP_prefix pcfgs 0 defs₀ Variants.none m main hostOps0 hostOps0_sub hostOps0_fresh main_chain

theorem V_unwritten (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- The table's contents (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Cfg sig Λ₀ := cfg0 (adm m)

/-- The table, held at half a share: the pipeline keeps the other half. -/
abbrev tableP (c : Dev nD) : sProp 𝕄 := ((c : Thread nD τ).loc main_arg3) ↦{fullShare.right} (tbl m 0)
theorem PhiT_eq (c : Dev nD) : (Pipeline.ΦT pre0 (tbl m) c : sProp 𝕄) = tableP m c := by
  unfold Pipeline.ΦT Pipeline.prefHeld
  rw [show (Finset.univ : Finset (Fin 1)) = {(0 : Fin 1)} from by decide, bigSep_singleton]
  rfl

abbrev XA (c : Dev nD) : Buf (Elt F) (aM.view.loc (c : Thread nD τ)) := V m c main_arg1

abbrev osem : Fin 2 → SemLoc sig := fun s => .dma (csm s).sem
theorem ownSemFacts : Pipeline.OwnSemFacts spec0 osem := by decide

/-! ## The chunk buffer in its two slots -/

abbrev S2s (s : Fin 2) : Finset S2x1024x4x128.Idx := (Rect.unit (s := S2x1024x4x128) (slotOff s) S1x1024x4x128.size (slotOff_inb s)).set

theorem rslot_set (s : Fin 2) : (rslot s : Memref sig .tc .vmem _ _).view.set = S2s s := (View.set_reshape _ _).trans (View.set_slice_whole _ _)

theorem mem_S2s (s : Fin 2) (y : S2x1024x4x128.Idx) : y ∈ S2s s ↔ (y 0).val = s.val := by
  rw [Rect.mem_set_unit]
  have h1 : (y 1).val < 1024 := (y 1).isLt
  have h2 : (y 2).val < 4 := (y 2).isLt
  have h3 : (y 3).val < 128 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4; omega
    · show 0 ≤ (y 3).val ∧ (y 3).val < 0 + 128; omega
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem slotP_eq (c : Dev nD) (s : Fin 2) (f) : slotP c s f = (((c : Thread nD τ).loc cc0_scratch0) ↦[S2s s]{fullShare} f : sProp 𝕄) :=
  congrArg (fun S => (_ ↦[S]{fullShare} f : sProp 𝕄)) (rslot_set s)
/-- The buffer whole is its two slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S2s S2s_disjoint S2s_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) S2s S2s_disjoint S2s_cover f0)
  irw [bigSep_fin2]
  isplitl [H0]
  · iexists f0; iapply (entails_of_eq (slotP_eq c 0 f0)); iexact H0
  · iexists f1; iapply (entails_of_eq (slotP_eq c 1 f1)); iexact H1

/-- The kernel's own cells at zero are the two slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_fin2]

/-- The codes whole are the two slots' read tokens and what is left of the share. -/
abbrev dropP (c : Dev nD) : sProp 𝕄 := aM.view.loc (c : Thread nD τ) ↦[Finset.univ]{Transfers.shareDrop fullShare 2} (XA m c)
theorem codes_split (c : Dev nD) :
    (((c : Thread nD τ).loc main_arg1) ↦{fullShare} V m c main_arg1 : sProp 𝕄)
      ⊢ iprop(dropP m c ∗ tokP c (XA m c) 0 Finset.univ ∗ tokP c (XA m c) 1 Finset.univ) :=
  (Transfers.pointsTo_toks_split (Ix := Unit) (Name := ℕ) (U := UU nD τ) (Lvl := ℕ) fullShare 2).trans
    (entails_of_eq (congrArg (fun R : sProp 𝕄 => iprop(dropP m c ∗ R)) (bigSep_fin2 _)))
theorem codes_join (c : Dev nD) :
    iprop(dropP m c ∗ tokP c (XA m c) 0 Finset.univ ∗ tokP c (XA m c) 1 Finset.univ)
      ⊢ (((c : Thread nD τ).loc main_arg1) ↦{fullShare} V m c main_arg1 : sProp 𝕄) :=
  (entails_of_eq (congrArg (fun R : sProp 𝕄 => iprop(dropP m c ∗ R)) (bigSep_fin2 fun s => tokP c (XA m c) s Finset.univ).symm)).trans
    (Transfers.pointsTo_toks_join (Ix := Unit) (Name := ℕ) (U := UU nD τ) (Lvl := ℕ) fullShare 2)

/-! ## The pipeline's proof data -/

/-- The region invariant, the same before and after every point. -/
def Φ (c : Dev nD) : sProp 𝕄 :=
  iprop((∃ r, prngReg c r) ∗ dropP m c ∗ tableP m c
    ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)
    ∗ homeP c (XA m c) 0 ∗ homeP c (XA m c) 1)

abbrev H0 : Finset (Ref sig .tc) := {main_arg1}
theorem H0_sub : H0 ⊆ Pipeline.restRefsP sig pre0 spec0 := by decide

theorem hin (c : Dev nD) : iprop(Pipeline.ΦD osem spec0 H0 (V m) c ∗ Pipeline.ΦT pre0 (tbl m) c) ⊢ (Φ m c : sProp 𝕄) := by
  rw [Pipeline.ΦD_eq, scopedRest0_eq, ownSems0_eq, PhiT_eq, bigSep_singleton]
  unfold Φ
  iintro ⟨⟨⟨Hs0, Hs1, Hs2, Hs3, Hs4, Hs5, Hs6⟩, Hr, ⟨Hc0, Hc1⟩, Ha⟩, Ht⟩
  ihave Ha' := (codes_split m c) $$ Ha
  icases Ha' with ⟨Hd, Hk0, Hk1⟩
  ihave Hb := (buf_split c) $$ Hs0
  icases Hb with ⟨Hb0, Hb1⟩
  isplitl [Hr]; · iexact Hr
  isplitl [Hd]; · iexact Hd
  isplitl [Ht]; · iexact Ht
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hc0 Hb0 Hk0]
  · isplitl [Hc0]; · iexact Hc0
    isplitl [Hb0]; · iexact Hb0
    iexact Hk0
  isplitl [Hc1]; · iexact Hc1
  isplitl [Hb1]; · iexact Hb1
  iexact Hk1

theorem hout (c : Dev nD) : (Φ m c : sProp 𝕄) ⊢ Pipeline.ΦD osem spec0 H0 (V m) c := by
  rw [Pipeline.ΦD_eq, scopedRest0_eq, ownSems0_eq, bigSep_singleton]
  unfold Φ
  iintro ⟨Hr, Hd, Ht, Hs1, Hs2, Hs3, Hs4, Hs5, Hs6, ⟨Hc0, Hb0, Hk0⟩, ⟨Hc1, Hb1, Hk1⟩⟩
  isplitl [Hb0 Hb1 Hs1 Hs2 Hs3 Hs4 Hs5 Hs6]
  · isplitl [Hb0 Hb1]
    · iapply (buf_join c)
      isplitl [Hb0]; · iexact Hb0
      iexact Hb1
    isplitl [Hs1]; · iexact Hs1
    isplitl [Hs2]; · iexact Hs2
    isplitl [Hs3]; · iexact Hs3
    isplitl [Hs4]; · iexact Hs4
    isplitl [Hs5]; · iexact Hs5
    iexact Hs6
  isplitl [Hr]; · iexact Hr
  isplitl [Hc0 Hc1]
  · isplitl [Hc0]; · iexact Hc0
    iexact Hc1
  iapply (codes_join m c)
  isplitl [Hd]; · iexact Hd
  isplitl [Hk0]; · iexact Hk0
  iexact Hk1

/-- Nothing is said here of what the body leaves in the windows' buffers. -/
def rdat (c : Dev nD) : RDat τ (Elt F) Unit ℕ (UU nD τ) ℕ (cfgM m) c where
  A w := V m c (Pipeline.arrRef (cfgM m).spec w)
  after _ _ _ _ := True
  Φ _ := Φ m c
  q _ := fullShare
  owed _ := 0

abbrev st0 (t : Fin (cfgM m).N) : Memref sig .tc .vmem S1x28x32x128 .bf16 := ((cfgM m).win 0).stage ((cfgM m).slots t 0)
abbrev hst0 (t : Fin (cfgM m).N) : (st0 m t).IsWhole := hstage0_0 (((cfgM m).slots t 0).cast nbuf0_0)
abbrev st1 (t : Fin (cfgM m).N) : Memref sig .tc .vmem S1x4x131072 .f32 := ((cfgM m).win 1).stage ((cfgM m).slots t 1)
abbrev hst1 (t : Fin (cfgM m).N) : (st1 m t).IsWhole := hstage0_1 (((cfgM m).slots t 1).cast nbuf0_1)
abbrev st2 (t : Fin (cfgM m).N) : Memref sig .tc .vmem S1x4x131072 .f32 := ((cfgM m).win 2).stage ((cfgM m).slots t 2)
abbrev hst2 (t : Fin (cfgM m).N) : (st2 m t).IsWhole := hstage0_2 (((cfgM m).slots t 2).cast nbuf0_2)
abbrev st3 (t : Fin (cfgM m).N) : Memref sig .tc .vmem S1x4x131072 .f32 := ((cfgM m).win 3).stage ((cfgM m).slots t 3)
abbrev hst3 (t : Fin (cfgM m).N) : (st3 m t).IsWhole := hstage0_3 (((cfgM m).slots t 3).cast nbuf0_3)
abbrev st4 (t : Fin (cfgM m).N) : Memref sig .tc .vmem S1x4x224x128 .f32 := ((cfgM m).win 4).stage ((cfgM m).slots t 4)
abbrev hst4 (t : Fin (cfgM m).N) : (st4 m t).IsWhole := hstage0_4 (((cfgM m).slots t 4).cast nbuf0_4)
abbrev st5 (t : Fin (cfgM m).N) : Memref sig .tc .vmem S1x28x32x128 .fp8e4m3 := ((cfgM m).win 5).stage ((cfgM m).slots t 5)
abbrev hst5 (t : Fin (cfgM m).N) : (st5 m t).IsWhole := hstage0_5 (((cfgM m).slots t 5).cast nbuf0_5)
abbrev st6 (t : Fin (cfgM m).N) : Memref sig .tc .vmem S1x28x128 .f32 := ((cfgM m).win 6).stage ((cfgM m).slots t 6)
abbrev hst6 (t : Fin (cfgM m).N) : (st6 m t).IsWhole := hstage0_6 (((cfgM m).slots t 6).cast nbuf0_6)

set_option maxRecDepth 65536 in
theorem defs_tc : (defs₀ (F := F)) .tc (cfgM m).body
    = fun a => cc0_snapkv (F := F) (grid0.coords a.1) (Memref.whole main_arg3) (Memref.isWhole_whole _) (spec0_0.stage (a.2 0)) (hstage0_0 ((a.2 0).cast nbuf0_0)) aM (Memref.isWhole_whole _) (spec0_1.stage (a.2 1)) (hstage0_1 ((a.2 1).cast nbuf0_1)) (spec0_2.stage (a.2 2)) (hstage0_2 ((a.2 2).cast nbuf0_2)) (spec0_3.stage (a.2 3)) (hstage0_3 ((a.2 3).cast nbuf0_3)) (spec0_4.stage (a.2 4)) (hstage0_4 ((a.2 4).cast nbuf0_4)) (spec0_5.stage (a.2 5)) (hstage0_5 ((a.2 5).cast nbuf0_5)) (spec0_6.stage (a.2 6)) (hstage0_6 ((a.2 6).cast nbuf0_6)) bufM (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 := rfl
theorem prog_eq (t : Fin (cfgM m).N) : (defs₀ (F := F)) .tc (cfgM m).body ((cfgM m).bodyArgs t ((cfgM m).slots t))
    = cc0_snapkv (F := F) (grid0.coords t) (Memref.whole main_arg3) (Memref.isWhole_whole _) (st0 m t) (hst0 m t) aM (Memref.isWhole_whole _) (st1 m t) (hst1 m t) (st2 m t) (hst2 m t) (st3 m t) (hst3 m t) (st4 m t) (hst4 m t) (st5 m t) (hst5 m t) (st6 m t) (hst6 m t) bufM (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 :=
  (congrFun (defs_tc m) _).trans rfl

/-- Every length of the table fits. -/
def LenOK : Prop := ∀ (c : Dev nD) (j : S2.Idx), Fits (m ((c : Thread nD τ).loc main_arg3) j)

theorem lenOK_at (h : LenOK m) (c : Dev nD) (i : grid0.Coords) : Fits (lenAt c i (Memref.whole main_arg3) (tbl m 0)) := by
  obtain rfl : c = 0 := Subsingleton.elim _ _
  have e : tbl m 0 = m (((0 : Dev nD) : Thread nD τ).loc main_arg3) := V_unwritten m 0 main_arg3 (by decide) (by decide)
  rw [e]
  exact h 0 _

theorem whole_pts (c : Dev nD) (b : Ref sig .tc) (q : PosShare TreeShare) (f : Buf (Elt F) ((c : Thread nD τ).loc b)) :
    (((c : Thread nD τ).loc b) ↦[(View.whole b).set]{q} f : sProp 𝕄) = (((c : Thread nD τ).loc b) ↦{q} f) := by
  rw [View.set_whole]

set_option backward.isDefEq.respectTransparency.types false in
theorem body_obligation (h : LenOK m) (c : Dev nD) : (rdat (F := F) m c).BodyObligation (defs₀ (F := F)) Variants.none () Set.univ := fun t Y hY => by
  rw [bigSep_W0, bigSep_W0]
  dsimp only
  rw [show (rdat m c).Φ t.castSucc = Φ m c from rfl, show (rdat m c).Φ t.succ = Φ m c from rfl]
  unfold RDat.owesAt Pipeline.owesWithin
  rw [show (rdat m c).owed t.castSucc = 0 from rfl, show (rdat m c).owed t.succ = 0 from rfl]
  unfold owns Φ
  iintro ⟨⟨Hr, Hd, Ht, ⟨%s1, Hs1⟩, ⟨%s2, Hs2⟩, ⟨%s3, Hs3⟩, ⟨%s4, Hs4⟩, ⟨%s5, Hs5⟩, ⟨%s6, Hs6⟩, HA, HB⟩, ⟨%W, -, HW⟩, ⟨%g0, %hg0, Hw0⟩, ⟨%g1, %hg1, Hw1⟩, ⟨%g2, %hg2, Hw2⟩, ⟨%g3, %hg3, Hw3⟩, ⟨%g4, %hg4, Hw4⟩, ⟨%g5, %hg5, Hw5⟩, ⟨%g6, %hg6, Hw6⟩⟩
  sl_rw [prog_eq m t]
  iapply (bodyRun Variants.none c none (XA m c) (grid0.coords t) (Memref.whole main_arg3) (Memref.isWhole_whole _) (st0 m t) (hst0 m t) (st1 m t) (hst1 m t) (st2 m t) (hst2 m t) (st3 m t) (hst3 m t) (st4 m t) (hst4 m t) (st5 m t) (hst5 m t) (st6 m t) (hst6 m t) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) fullShare.right (tbl m 0) g0 g1 (lenOK_at m h c (grid0.coords t)))
  isplitl [Ht Hs1 Hs2 Hs3 Hs4 Hs5 Hs6 HA HB HW Hw0 Hw1 Hw2 Hw3 Hw4 Hw5 Hw6]
  · unfold held
    isplitl [Ht]; · iapply (entails_of_eq (whole_pts c main_arg3 fullShare.right (tbl m 0)).symm); iexact Ht
    isplitl [Hw0]; · iexact Hw0
    isplitl [Hw1]; · iexact Hw1
    isplitl [Hw2]; · iexists _; iexact Hw2
    isplitl [Hw3]; · iexists _; iexact Hw3
    isplitl [Hw4]; · iexists _; iexact Hw4
    isplitl [Hw5]; · iexists _; iexact Hw5
    isplitl [Hw6]; · iexists _; iexact Hw6
    isplitl [Hs1]; · iexists s1; iapply (entails_of_eq (whole_pts c cc0_scratch1 fullShare s1).symm); iexact Hs1
    isplitl [Hs2]; · iexists s2; iapply (entails_of_eq (whole_pts c cc0_scratch2 fullShare s2).symm); iexact Hs2
    isplitl [Hs3]; · iexists s3; iapply (entails_of_eq (whole_pts c cc0_scratch3 fullShare s3).symm); iexact Hs3
    isplitl [Hs4]; · iexists s4; iapply (entails_of_eq (whole_pts c cc0_scratch4 fullShare s4).symm); iexact Hs4
    isplitl [Hs5]; · iexists s5; iapply (entails_of_eq (whole_pts c cc0_scratch5 fullShare s5).symm); iexact Hs5
    isplitl [Hs6]; · iexists s6; iapply (entails_of_eq (whole_pts c cc0_scratch6 fullShare s6).symm); iexact Hs6
    isplitl [HA]; · iexact HA
    isplitl [HB]; · iexact HB
    iexists W; iexact HW
  · unfold held
    iintro ⟨Ht, Hw0, Hw1, ⟨%o2, Hw2⟩, ⟨%o3, Hw3⟩, ⟨%o4, Hw4⟩, ⟨%o5, Hw5⟩, ⟨%o6, Hw6⟩, ⟨%r1, Hs1⟩, ⟨%r2, Hs2⟩, ⟨%r3, Hs3⟩, ⟨%r4, Hs4⟩, ⟨%r5, Hs5⟩, ⟨%r6, Hs6⟩, HA, HB, ⟨%W', HW⟩⟩
    isplitl [Hr Hd Ht Hs1 Hs2 Hs3 Hs4 Hs5 Hs6 HA HB]
    · isplitl [Hr]; · iexact Hr
      isplitl [Hd]; · iexact Hd
      isplitl [Ht]; · iapply (entails_of_eq (whole_pts c main_arg3 fullShare.right (tbl m 0))); iexact Ht
      isplitl [Hs1]; · iexists r1; iapply (entails_of_eq (whole_pts c cc0_scratch1 fullShare r1)); iexact Hs1
      isplitl [Hs2]; · iexists r2; iapply (entails_of_eq (whole_pts c cc0_scratch2 fullShare r2)); iexact Hs2
      isplitl [Hs3]; · iexists r3; iapply (entails_of_eq (whole_pts c cc0_scratch3 fullShare r3)); iexact Hs3
      isplitl [Hs4]; · iexists r4; iapply (entails_of_eq (whole_pts c cc0_scratch4 fullShare r4)); iexact Hs4
      isplitl [Hs5]; · iexists r5; iapply (entails_of_eq (whole_pts c cc0_scratch5 fullShare r5)); iexact Hs5
      isplitl [Hs6]; · iexists r6; iapply (entails_of_eq (whole_pts c cc0_scratch6 fullShare r6)); iexact Hs6
      isplitl [HA]; · iexact HA
      iexact HB
    isplitl [HW]
    · iexists W'; isplitr; · ipureintro; exact fun _ _ => Or.inl trivial
      iexact HW
    isplitl [Hw0]
    · iexists ((st0 m t).view.read (Elt F) g0); isplitr; · ipureintro; trivial
      iexists g0; isplitr; · ipureintro; rfl
      iexact Hw0
    isplitl [Hw1]
    · iexists ((st1 m t).view.read (Elt F) g1); isplitr; · ipureintro; trivial
      iexists g1; isplitr; · ipureintro; rfl
      iexact Hw1
    isplitl [Hw2]
    · iexists ((st2 m t).view.read (Elt F) o2); isplitr; · ipureintro; trivial
      iexists o2; isplitr; · ipureintro; rfl
      iexact Hw2
    isplitl [Hw3]
    · iexists ((st3 m t).view.read (Elt F) o3); isplitr; · ipureintro; trivial
      iexists o3; isplitr; · ipureintro; rfl
      iexact Hw3
    isplitl [Hw4]
    · iexists ((st4 m t).view.read (Elt F) o4); isplitr; · ipureintro; trivial
      iexists o4; isplitr; · ipureintro; rfl
      iexact Hw4
    isplitl [Hw5]
    · iexists ((st5 m t).view.read (Elt F) o5); isplitr; · ipureintro; trivial
      iexists o5; isplitr; · ipureintro; rfl
      iexact Hw5
    iexists ((st6 m t).view.read (Elt F) o6); isplitr; · ipureintro; trivial
    iexists o6; isplitr; · ipureintro; rfl
    iexact Hw6

/-! ## The run -/

theorem run_main (h : LenOK m) :
    θ_run defs (onTc (τ := τ) (main (F := F))) ⟨m, fun _ => 0, ρ⟩ (fun r => RDat.FramePost (cfgM m) (rdat m) (V m) r ∧ r.2.sem = fun _ => 0) :=
  RDat.θ_run_frameP_dma pcfgs (fun _ => adm m) (0 : Fin 1) launch0 osem defs₀ Variants.none (rdat m) ownSemFacts H0 H0_sub m ρ main
    (body_obligation m h) (fun c w => by unfold RDat.share; split <;> rfl) (fun _ _ => rfl) (V m) (hmain m) (fun _ _ => rfl) (V_pre m) (hin m) (hout m) _ (fun _ hr => hr)

/-- `lengths_fit` all ones is every length fitting. -/
theorem fits_of_pre (m : (ℓ : Loc nD τ sig) → Buf (Elt Bits) ℓ) (h : Cert.Pre_Kernel m) : LenOK (F := Bits) m := by
  intro c j
  have e := congrFun (h c) j
  simp only [Cert.Pre_lengths_fit.fn, andi, cmpi, broadcastInDim, constantI] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, decide_eq_true_eq] at e
  have h0 : (1#32 : BitVec 32).toInt = 1 := by decide
  have h4 : (131072#32 : BitVec 32).toInt = 131072 := by decide
  rw [h0, h4] at e
  have hc : 2 * (m ((c : Thread nD τ).loc main_arg3) j : BitVec 32).toNat < 2 ^ 32 := by
    by_contra hcon
    have := BitVec.toInt_eq_toNat_cond (m ((c : Thread nD τ).loc main_arg3) j : BitVec 32)
    rw [if_neg hcon] at this
    have hlt := (m ((c : Thread nD τ).loc main_arg3) j : BitVec 32).isLt
    omega
  have ht : (m ((c : Thread nD τ).loc main_arg3) j : BitVec 32).toInt = (m ((c : Thread nD τ).loc main_arg3) j : BitVec 32).toNat := by
    rw [BitVec.toInt_eq_toNat_cond, if_pos hc]
  exact ⟨by omega, by omega⟩

/-- `Cert.quiescent_Kernel` (Defs.lean). -/
theorem frame : Cert.quiescent_Kernel := fun m ρ hpre =>
  (θ_run defs _ _).mono (fun r hr => ⟨fun c =>
    ⟨((hr.1 c).2 main_arg0 (show main_arg0 ∈ Pipeline.restRefs sig spec0 from by decide)).trans (V_unwritten m c main_arg0 (by decide) (by decide)),
     ((hr.1 c).2 main_arg1 (show main_arg1 ∈ Pipeline.restRefs sig spec0 from by decide)).trans (V_unwritten m c main_arg1 (by decide) (by decide)),
     ((hr.1 c).2 main_arg2 (show main_arg2 ∈ Pipeline.restRefs sig spec0 from by decide)).trans (V_unwritten m c main_arg2 (by decide) (by decide)),
     ((hr.1 c).2 main_arg3 (show main_arg3 ∈ Pipeline.restRefs sig spec0 from by decide)).trans (V_unwritten m c main_arg3 (by decide) (by decide))⟩, hr.2⟩)
    (run_main (F := Bits) m ρ (fits_of_pre m hpre))

end Cert.Kernel.Own

end
-- ==== Proof.Exponent.lean ====
/- The quantiser's exponent over the reals: the binary search over exponents that the kernel runs on words, and the floor of
   the logarithm to base 2, plus one, that the reference takes, give the same power of 2, and the word the kernel makes of the
   exponent is that power. -/
module

public import Idealize.ShloMosaic.PureOps.Ideal
public import Idealize.ShloMosaic.PureOps.Ideal.Laws
public import Idealize.ShloMosaic.Lib.IdealHost

@[expose] public section

noncomputable section

namespace Cert.Exponent

open Idealize.ShloMosaic

/-! ## Words of powers of 2 -/

theorem word_toNat (w : Nat) (h : w ≤ 255) : (BitVec.ofNat 32 (w * 2 ^ 23)).toNat = w * 2 ^ 23 := by
  rw [BitVec.toNat_ofNat]; apply Nat.mod_eq_of_lt; omega

theorem word_fields (w : Nat) (h : w ≤ 255) :
    ((BitVec.ofNat 32 (w * 2 ^ 23)).extractLsb' 31 1 == 1#1) = false
      ∧ ((BitVec.ofNat 32 (w * 2 ^ 23)).extractLsb' 23 8).toNat = w
      ∧ ((BitVec.ofNat 32 (w * 2 ^ 23)).extractLsb' 0 23).toNat = 0 := by
  refine ⟨?_, ?_, ?_⟩
  · rw [beq_eq_false_iff_ne]
    intro e
    have e' := congrArg BitVec.toNat e
    rw [BitVec.extractLsb'_toNat, word_toNat w h, Nat.shiftRight_eq_div_pow] at e'
    simp at e'; omega
  · rw [BitVec.extractLsb'_toNat, word_toNat w h, Nat.shiftRight_eq_div_pow]; omega
  · rw [BitVec.extractLsb'_toNat, word_toNat w h, Nat.shiftRight_eq_div_pow]; omega

/-- A word that is only an exponent, and a normal one, denotes the power of 2. -/
theorem ofBits_word (w : Nat) (h1 : 1 ≤ w) (h2 : w ≤ 254) :
    Ideal.ofBits .f32 (BitVec.ofNat 32 (w * 2 ^ 23)) = (((2 : ℝ) ^ ((w : ℤ) - 127) : ℝ) : EReal) := by
  obtain ⟨f1, f2, f3⟩ := word_fields w (by omega)
  show Ideal.ieee 8 23 (BitVec.ofNat 32 (w * 2 ^ 23)) = _
  unfold Ideal.ieee
  simp only [show 8 + 23 = 31 from rfl, f1, f2, f3]
  rw [if_neg (by omega), if_neg (by omega)]
  congr 1
  have : (2 : ℝ) ^ ((w : ℤ) - 127) = 2 ^ 23 * (2 : ℝ) ^ ((w : ℤ) - 127 - 23) := by
    rw [show ((w : ℤ) - 127) = 23 + ((w : ℤ) - 127 - 23) from by ring, zpow_add₀ (by norm_num)]
    norm_num
  rw [this]; norm_num

theorem ofBits_word_top : Ideal.ofBits .f32 (BitVec.ofNat 32 (255 * 2 ^ 23)) = ⊤ := by
  obtain ⟨f1, f2, f3⟩ := word_fields 255 (by omega)
  show Ideal.ieee 8 23 (BitVec.ofNat 32 (255 * 2 ^ 23)) = _
  unfold Ideal.ieee
  simp only [show 8 + 23 = 31 from rfl, f1, f2, f3]
  simp

/-- The word of the exponent `k`: `k + 127` in the exponent's place. -/
def powWord (k : BitVec 32) : BitVec 32 := IntOp.shli .vector (IntOp.addi k 127#32) 23#32

theorem powWord_eq (k : BitVec 32) (u : Nat) (hk : k + 127#32 = BitVec.ofNat 32 u) (hu : u ≤ 255) :
    powWord k = BitVec.ofNat 32 (u * 2 ^ 23) := by
  unfold powWord IntOp.shli IntOp.addi
  rw [if_pos (by decide), hk]
  apply BitVec.eq_of_toNat_eq
  rw [word_toNat u hu]
  show (BitVec.ofNat 32 u <<< (23#32).toNat).toNat = _
  rw [BitVec.toNat_shiftLeft, BitVec.toNat_ofNat, Nat.shiftLeft_eq]
  simp
  omega

/-! ## The search -/

/-- One step: the exponent goes up by `s` if the power of 2 it would then be passes the test. -/
def step (p : BitVec 32 → BitVec 1) (s k : BitVec 32) : BitVec 32 :=
  Scalar.select (p (powWord (IntOp.addi k s))) (IntOp.addi k s) k

/-- The eight steps, from -127, and one more. -/
def search (p : BitVec 32 → BitVec 1) : BitVec 32 :=
  IntOp.addi (step p 1#32 (step p 2#32 (step p 4#32 (step p 8#32 (step p 16#32 (step p 32#32 (step p 64#32
    (step p 128#32 4294967169#32)))))))) 1#32

/-- The test is passed exactly by the exponents up to `N` (with 127 added to each). -/
def Tests (p : BitVec 32 → BitVec 1) (N : Nat) : Prop :=
  ∀ w : Nat, 1 ≤ w → w ≤ 255 → p (BitVec.ofNat 32 (w * 2 ^ 23)) = BitVec.ofBool (decide (w ≤ N))

theorem word_add_comm (a b c : BitVec 32) : a + b + c = a + c + b := by
  rw [BitVec.add_assoc, BitVec.add_comm b c, ← BitVec.add_assoc]

/-- Between two steps: `N` lies less than `s` above the exponent (with 127 added). -/
def At (N s : Nat) (k : BitVec 32) : Prop :=
  ∃ u : Nat, k + 127#32 = BitVec.ofNat 32 u ∧ u ≤ N ∧ N < u + s ∧ u + s ≤ 256

theorem step_at {p : BitVec 32 → BitVec 1} {N : Nat} (hp : Tests p N) (s : Nat) (hs : 0 < s) {k : BitVec 32}
    (h : At N (s + s) k) : At N s (step p (BitVec.ofNat 32 s) k) := by
  obtain ⟨u, hk, h1, h2, h3⟩ := h
  have hk' : (k + BitVec.ofNat 32 s) + 127#32 = BitVec.ofNat 32 (u + s) := by
    rw [word_add_comm, hk]; simp [BitVec.ofNat_add]
  unfold step
  rw [show IntOp.addi k (BitVec.ofNat 32 s) = k + BitVec.ofNat 32 s from rfl, powWord_eq _ _ hk' (by omega),
    hp _ (by omega) (by omega)]
  by_cases hc : u + s ≤ N
  · rw [decide_eq_true hc]
    exact ⟨u + s, hk', hc, by omega, by omega⟩
  · rw [decide_eq_false hc]
    exact ⟨u, hk, h1, by omega, by omega⟩

/-- The search ends one above `N`. -/
theorem search_eq {p : BitVec 32 → BitVec 1} {N : Nat} (hp : Tests p N) (hN : N ≤ 255) :
    search p + 127#32 = BitVec.ofNat 32 (N + 1) := by
  have h0 : At N (128 + 128) 4294967169#32 := ⟨0, by decide, by omega, by omega, by omega⟩
  have h1 := step_at hp 128 (by omega) h0
  have h2 := step_at hp 64 (by omega) (show At N (64 + 64) _ from h1)
  have h3 := step_at hp 32 (by omega) (show At N (32 + 32) _ from h2)
  have h4 := step_at hp 16 (by omega) (show At N (16 + 16) _ from h3)
  have h5 := step_at hp 8 (by omega) (show At N (8 + 8) _ from h4)
  have h6 := step_at hp 4 (by omega) (show At N (4 + 4) _ from h5)
  have h7 := step_at hp 2 (by omega) (show At N (2 + 2) _ from h6)
  obtain ⟨u, hk, hu, hu', -⟩ := step_at hp 1 (by omega) (show At N (1 + 1) _ from h7)
  have e : u = N := by omega
  subst e
  unfold search
  rw [show ∀ x : BitVec 32, IntOp.addi x 1#32 = x + 1#32 from fun _ => rfl, word_add_comm, hk]
  simp [BitVec.ofNat_add]

/-! ## The same exponent from the logarithm -/

/-- The test against a real number between two powers of 2. -/
theorem tests_of_real (r : ℝ) (n : ℤ) (h1 : (2 : ℝ) ^ n ≤ r) (h2 : r < (2 : ℝ) ^ (n + 1)) (N : Nat) (hn : n + 127 = N)
    (hN : N ≤ 253) :
    Tests (fun w => Ideal.cmp .oge (r : EReal) (Ideal.ofBits .f32 w)) N := by
  intro w hw1 hw2
  show BitVec.ofBool (decide (Ideal.ofBits .f32 (BitVec.ofNat 32 (w * 2 ^ 23)) ≤ (r : EReal))) = _
  congr 1
  rw [decide_eq_decide]
  by_cases hw : w = 255
  · subst hw
    rw [ofBits_word_top]
    constructor
    · intro h; exact absurd (top_le_iff.mp h) (EReal.coe_ne_top r)
    · intro h; omega
  · rw [ofBits_word w hw1 (by omega), EReal.coe_le_coe_iff]
    constructor
    · intro h
      have h3 := lt_of_le_of_lt h h2
      rw [zpow_lt_zpow_iff_right₀ (by norm_num : (1 : ℝ) < 2)] at h3
      omega
    · intro h
      refine le_trans ?_ h1
      apply zpow_le_zpow_right₀ (by norm_num : (1 : ℝ) ≤ 2)
      omega

/-- The floor of the logarithm to base 2 of such a number. -/
theorem floor_log (r : ℝ) (n : ℤ) (h1 : (2 : ℝ) ^ n ≤ r) (h2 : r < (2 : ℝ) ^ (n + 1)) :
    ⌊Real.log r * (1 / Real.log 2)⌋ = n := by
  have hl : 0 < Real.log 2 := Real.log_pos (by norm_num)
  have hr : 0 < r := lt_of_lt_of_le (zpow_pos (by norm_num) n) h1
  rw [mul_one_div, Int.floor_eq_iff]
  constructor
  · rw [le_div_iff₀ hl, ← Real.log_zpow]
    exact Real.log_le_log (zpow_pos (by norm_num) n) h1
  · rw [div_lt_iff₀ hl]
    have := Real.log_lt_log hr h2
    rw [Real.log_zpow] at this
    push_cast at this
    exact this

/-- The factor 1/448 as the number its pattern denotes: positive, and less than a quarter. -/
theorem recip448 : ∃ c : ℝ, Ideal.ofBits .f32 0x3B124925#32 = (c : EReal) ∧ 0 < c ∧ c < 1 / 4 := by
  refine ⟨_, by simp only [Ideal.ofBits, Ideal.ieee]; rfl, ?_, ?_⟩ <;> simp <;> norm_num

/-- The reference's exponent of the largest magnitude `a`; `L` stands for the logarithm of 2. -/
def realExp (L a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3B124925#32)) L)
      + Ideal.ofBits .f32 0x3F800000#32)

/-- The kernel's exponent of the largest magnitude `a`. -/
def wordExp (a : EReal) : BitVec 32 :=
  Scalar.select (Ideal.cmp .oeq a (Ideal.ofBits .f32 0x00000000#32)) 0#32
    (search fun w => Ideal.cmp .oge (a * Ideal.ofBits .f32 0x3B124925#32) (Ideal.ofBits .f32 w))

/-- The largest magnitude is 0, or the scale it asks for is a normal number and it is finite. -/
def Fit (a : EReal) : Prop :=
  a = 0 ∨ (Ideal.ofBits .f32 0x00800000#32 ≤ a * Ideal.ofBits .f32 0x3B124925#32 ∧ a ≤ Ideal.ofBits .f32 0x7F7F0000#32)

theorem cmp_oeq_zero (a : EReal) :
    Ideal.cmp .oeq a (Ideal.ofBits .f32 0x00000000#32) = BitVec.ofBool (decide (a = 0)) := by
  rw [Ideal.ofBits_zero_f32]; rfl

theorem exponent (a : EReal) (h : Fit a) :
    Ideal.ofBits .f32 (powWord (wordExp a)) = Ideal.exp2 (realExp ((Real.log 2 : ℝ) : EReal) a)
    ∧ Ideal.ofBits .f32 (powWord (IntOp.subi 0#32 (wordExp a)))
        = Ideal.exp2 (Ideal.ofBits .f32 0x00000000#32 - realExp ((Real.log 2 : ℝ) : EReal) a) := by
  unfold wordExp realExp
  rw [cmp_oeq_zero, Ideal.ofBits_zero_f32, Ideal.ofBits_one_f32]
  by_cases ha : a = 0
  · rw [decide_eq_true ha]
    have e0 : Ideal.exp2 (0 : EReal) = 1 := by
      rw [← EReal.coe_zero, Ideal.exp2_coe]; norm_num [Real.rpow_zero]
    have e1 : Ideal.ofBits .f32 (powWord 0#32) = 1 := by
      rw [powWord_eq 0#32 127 (by decide) (by omega), ofBits_word 127 (by omega) (by omega)]; norm_num
    constructor
    · show Ideal.ofBits .f32 (powWord 0#32) = Ideal.exp2 (0 : EReal)
      rw [e0, e1]
    · show Ideal.ofBits .f32 (powWord (IntOp.subi 0#32 0#32)) = Ideal.exp2 ((0 : EReal) - 0)
      rw [sub_zero, e0]
      exact e1
  · rw [decide_eq_false ha]
    obtain ⟨hlo, hhi⟩ := h.resolve_left ha
    obtain ⟨c, hc, c0, c1⟩ := recip448
    have hmin : Ideal.ofBits .f32 0x00800000#32 = (((2 : ℝ) ^ (-126 : ℤ) : ℝ) : EReal) :=
      (ofBits_word 1 (by omega) (by omega)).trans (by norm_num)
    have hmax : ∃ M : ℝ, Ideal.ofBits .f32 0x7F7F0000#32 = (M : EReal) ∧ M ≤ (2 : ℝ) ^ (128 : ℤ) := by
      refine ⟨_, by simp only [Ideal.ofBits, Ideal.ieee]; rfl, ?_⟩
      simp; norm_num
    obtain ⟨M, hM, hM'⟩ := hmax
    rw [hc] at hlo ⊢
    rw [hmin] at hlo
    rw [hM] at hhi
    induction a using EReal.rec with
    | bot => rw [EReal.bot_mul_coe_of_pos c0] at hlo; exact absurd (le_bot_iff.mp hlo) (EReal.coe_ne_bot _)
    | top => exact absurd (top_le_iff.mp hhi) (EReal.coe_ne_top _)
    | coe a =>
      rw [← EReal.coe_mul] at hlo ⊢
      rw [EReal.coe_le_coe_iff] at hlo hhi
      set r : ℝ := a * c with hr
      have hr0 : 0 < r := lt_of_lt_of_le (by positivity) hlo
      have ha0 : 0 < a := by
        rcases lt_or_ge 0 a with h | h
        · exact h
        · exact absurd (mul_nonpos_of_nonpos_of_nonneg h c0.le) (not_le.mpr hr0)
      have hr1 : r < (2 : ℝ) ^ (126 : ℤ) := by
        have h4 : r ≤ (2 : ℝ) ^ (128 : ℤ) * c := mul_le_mul_of_nonneg_right (hhi.trans hM') c0.le
        have h5 : (2 : ℝ) ^ (128 : ℤ) * c < (2 : ℝ) ^ (128 : ℤ) * (1 / 4) :=
          mul_lt_mul_of_pos_left c1 (by positivity)
        have h6 : (2 : ℝ) ^ (128 : ℤ) * (1 / 4) = (2 : ℝ) ^ (126 : ℤ) := by norm_num
        linarith
      obtain ⟨n, hn1, hn2⟩ := exists_mem_Ico_zpow hr0 (by norm_num : (1 : ℝ) < 2)
      have hnlo : -126 ≤ n := by
        have := lt_of_le_of_lt hlo hn2
        rw [zpow_lt_zpow_iff_right₀ (by norm_num : (1 : ℝ) < 2)] at this
        omega
      have hnhi : n < 126 := by
        have := lt_of_le_of_lt hn1 hr1
        rwa [zpow_lt_zpow_iff_right₀ (by norm_num : (1 : ℝ) < 2)] at this
      obtain ⟨N, hN⟩ : ∃ N : Nat, n + 127 = N := ⟨(n + 127).toNat, by omega⟩
      have hs := search_eq (tests_of_real r n hn1 hn2 N hN (by omega)) (by omega)
      set k := search fun w => Ideal.cmp .oge (r : EReal) (Ideal.ofBits .f32 w) with hk
      have hl : 0 < Real.log 2 := Real.log_pos (by norm_num)
      have he : Ideal.liftRound Int.floor (Ideal.div (Ideal.log (r : EReal)) ((Real.log 2 : ℝ) : EReal)) + 1
          = (((n + 1 : ℤ) : ℝ) : EReal) := by
        rw [Ideal.log_coe, if_neg (not_le.mpr hr0), Ideal.div_coe hl.ne', ← EReal.coe_mul, Ideal.liftRound_coe,
          floor_log r n hn1 hn2]
        push_cast
        rfl
      have sel : ∀ {α : Type} (x y : α), Scalar.select (BitVec.ofBool false) x y = y := fun _ _ => rfl
      rw [sel, sel, he]
      constructor
      · rw [powWord_eq k (N + 1) hs (by omega), ofBits_word _ (by omega) (by omega), Ideal.exp2_coe]
        congr 1
        show _ = (2 : ℝ) ^ (((n + 1 : ℤ) : ℝ))
        rw [Real.rpow_intCast]
        congr 1
        push_cast; omega
      · have hs' : IntOp.subi 0#32 k + 127#32 = BitVec.ofNat 32 (253 - N) := by
          have : k = BitVec.ofNat 32 (N + 1) - 127#32 := by
            rw [← hs]; exact (BitVec.add_sub_cancel k 127#32).symm
          rw [this]
          show (0#32 - (BitVec.ofNat 32 (N + 1) - 127#32)) + 127#32 = _
          apply BitVec.eq_of_toNat_eq
          simp
          omega
        rw [powWord_eq _ (253 - N) hs' (by omega), ofBits_word _ (by omega) (by omega), zero_sub, ← EReal.coe_neg,
          Ideal.exp2_coe]
        congr 1
        show _ = (2 : ℝ) ^ (-((n + 1 : ℤ) : ℝ))
        rw [← Int.cast_neg, Real.rpow_intCast]
        congr 1
        omega

end Cert.Exponent
-- ==== Proof.AmaxI.lean ====
/- The largest magnitude of a query head over its positions and its dimensions: the kernel takes it of one row's block in two
   reductions, the reference of the whole array in one, and the precondition of the array before it is transposed. Each is
   at most a number exactly when every magnitude is. -/
module

public import proofs.«01_k».proof.Proof.BodyI
public import proofs.«01_k».proof.Proof.Exponent
public import Idealize.ShloMosaic.Lib.KernelVsHost
public import Idealize.ShloMosaic.Lib.Pipeline.Value
public import Idealize.ShloMosaic.Lib.ValueIdxCore
public import Idealize.ShloMosaic.Lib.ValueIdxCoords

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx

/-- The magnitude of an extended real. -/
abbrev mag (x : EReal) : EReal := max x (-x)

/-- The kernel's. -/
theorem amax_row_le (x : Vec Ideal S1x28x32x128 .bf16) (k : Fin 28) (b : EReal) :
    k0_pay586 x (ix3 k (0 : Fin 1) (0 : Fin 1)) ≤ b
      ↔ ∀ (p : Fin 32) (d : Fin 128), mag (x (ix4 (0 : Fin 1) k p d)) ≤ b := by
  have e1 : k0_pay586 x (ix3 k (0 : Fin 1) (0 : Fin 1)) = multiReduction .maximumf [2] S28x1 (shapeCast S28x1x128 (multiReduction .maximumf [1] S28x128
      (absf (k0_pay585 x)) 0xFF800000#32 reduces_S28x32x128_S28x128 (.inl rfl) rfl) shapeCasts_S28x128_S28x1x128)
      0xFF800000#32 reduces_S28x1x128_S28x1 (.inl rfl) rfl (ix2 k (0 : Fin 1)) := by
    unfold k0_pay586
    refine shapeCast_apply _ _ (ix3 k (0 : Fin 1) (0 : Fin 1)) (ix2 k (0 : Fin 1)) ?_
    rw [Shape.rowMajor_val_two, Shape.rowMajor_val_three]
    show k.val * 1 + 0 = (k.val * 1 + 0) * 1 + 0
    omega
  have e2 : ∀ (d : Fin 128), shapeCast S28x1x128 (multiReduction .maximumf [1] S28x128
      (absf (k0_pay585 x)) 0xFF800000#32 reduces_S28x32x128_S28x128 (.inl rfl) rfl) shapeCasts_S28x128_S28x1x128
        (ix3 k (0 : Fin 1) d) ≤ b ↔ ∀ p : Fin 32, mag (x (ix4 (0 : Fin 1) k p d)) ≤ b := by
    intro d
    rw [shapeCast_apply _ _ (ix3 k (0 : Fin 1) d) (ix2 k d) (by
      rw [Shape.rowMajor_val_two, Shape.rowMajor_val_three]
      show k.val * 128 + d.val = (k.val * 1 + 0) * 128 + d.val
      omega)]
    refine (multiMax_le _ reduces_S28x32x128_S28x128 _ _ _ _).trans ?_
    have e3 : ∀ p : Fin 32, absf (k0_pay585 x) (ix3 k p d) = mag (x (ix4 (0 : Fin 1) k p d)) := by
      intro p
      show mag (shapeCast S28x32x128 x _ (ix3 k p d)) = _
      rw [shapeCast_apply _ _ (ix3 k p d) (ix4 (0 : Fin 1) k p d) (by
        rw [Shape.rowMajor_val_three, Shape.rowMajor_val_four]
        show ((0 * 28 + k.val) * 32 + p.val) * 128 + d.val = (k.val * 32 + p.val) * 128 + d.val
        omega)]
    constructor
    · intro h p
      rw [← e3]
      refine h (ix3 k p d) (funext fun a => Fin.ext ?_)
      match a with
      | ⟨0, _⟩ => exact Shape.Reduces.drop_apply_val_of_eq reduces_S28x32x128_S28x128 _ ⟨0, by decide⟩ (0 : Fin 3)
      | ⟨1, _⟩ => exact Shape.Reduces.drop_apply_val_of_eq reduces_S28x32x128_S28x128 _ ⟨1, by decide⟩ (2 : Fin 3)
    · intro h i hi
      have h0 : (i 0).val = k.val := by
        rw [← Shape.Reduces.drop_apply_val_of_eq reduces_S28x32x128_S28x128 i ⟨0, by decide⟩ (0 : Fin 3), hi]
      have h2 : (i 2).val = d.val := by
        rw [← Shape.Reduces.drop_apply_val_of_eq reduces_S28x32x128_S28x128 i ⟨1, by decide⟩ (2 : Fin 3), hi]
      obtain ⟨p, hp⟩ : ∃ p : Fin 32, (i 1).val = p.val := ⟨i 1, rfl⟩
      have : i = ix3 k p d := by
        funext a; apply Fin.ext
        match a with
        | ⟨0, _⟩ => exact h0
        | ⟨1, _⟩ => exact hp
        | ⟨2, _⟩ => exact h2
      rw [this, e3]; exact h p
  rw [e1]
  refine (multiMax_le _ reduces_S28x1x128_S28x1 _ _ _ _).trans ?_
  constructor
  · intro h p d
    refine (e2 d).mp (h _ (funext fun a => Fin.ext ?_)) p
    match a with
    | ⟨0, _⟩ => exact Shape.Reduces.drop_apply_val_of_eq reduces_S28x1x128_S28x1 _ ⟨0, by decide⟩ (0 : Fin 3)
    | ⟨1, _⟩ => exact Shape.Reduces.drop_apply_val_of_eq reduces_S28x1x128_S28x1 _ ⟨1, by decide⟩ (1 : Fin 3)
  · intro h i hi
    have h0 : (i 0).val = k.val := by
      rw [← Shape.Reduces.drop_apply_val_of_eq reduces_S28x1x128_S28x1 i ⟨0, by decide⟩ (0 : Fin 3), hi]
    obtain ⟨d, hd⟩ : ∃ d : Fin 128, (i 2).val = d.val := ⟨i 2, rfl⟩
    have : i = ix3 k (0 : Fin 1) d := by
      funext a; apply Fin.ext
      match a with
      | ⟨0, _⟩ => exact h0
      | ⟨1, _⟩ => have h1 : (i 1).val < 1 := (i 1).isLt; show (i 1).val = 0; omega
      | ⟨2, _⟩ => exact hd
    rw [this]
    exact (e2 d).mpr fun p => h p _

/-- The reference's. -/
theorem amax_whole_le (X : Vec Ideal S2x28x32x128 .bf16) (hc : S2x28x32x128.ShapeCasts S2x28x32x128)
    (hb : FTy.bits .bf16 < FTy.bits .f32) (hr : S2x28x32x128.Reduces [2, 3] ⟨2, ![2, 28]⟩) (hφ : FKind.Formats .f32)
    (hacc : 0xFF800000#32 = FKind.maximumf.neutral .f32 hφ) (j : (⟨2, ![2, 28]⟩ : Shape).Idx) (b : EReal) :
    multiReduction .maximumf [2, 3] ⟨2, ![2, 28]⟩ (absf (extf (F := Ideal) .f32 (shapeCast S2x28x32x128 X hc) hb)) 0xFF800000#32
        hr hφ hacc j ≤ b
      ↔ ∀ (p : Fin 32) (d : Fin 128), mag (X (ix4 (j 0) (j 1) p d)) ≤ b := by
  rw [multiMax_le]
  have e : ∀ i, absf (extf (F := Ideal) .f32 (shapeCast S2x28x32x128 X hc) hb) i = mag (X i) := by
    intro i
    show mag (shapeCast S2x28x32x128 X hc i) = _
    rw [shapeCast_apply _ _ i i rfl]
  constructor
  · intro h p d
    rw [← e]
    refine h _ (funext fun a => Fin.ext ?_)
    match a with
    | ⟨0, _⟩ => exact Shape.Reduces.drop_apply_val_of_eq hr _ ⟨0, by decide⟩ (0 : Fin 4)
    | ⟨1, _⟩ => exact Shape.Reduces.drop_apply_val_of_eq hr _ ⟨1, by decide⟩ (1 : Fin 4)
  · intro h i hi
    have h0 : (i 0).val = (j 0).val := by
      rw [← Shape.Reduces.drop_apply_val_of_eq hr i ⟨0, by decide⟩ (0 : Fin 4), hi]; rfl
    have h1 : (i 1).val = (j 1).val := by
      rw [← Shape.Reduces.drop_apply_val_of_eq hr i ⟨1, by decide⟩ (1 : Fin 4), hi]; rfl
    have : i = ix4 (j 0) (j 1) (i 2) (i 3) := by
      funext a; apply Fin.ext
      match a with
      | ⟨0, _⟩ => exact h0
      | ⟨1, _⟩ => exact h1
      | ⟨2, _⟩ => rfl
      | ⟨3, _⟩ => rfl
    rw [e, this]; exact h _ _

/-- The precondition's. -/
theorem amax_input_le (q : FVec Ideal S2x32x28x128 .bf16) (hb : FTy.bits .bf16 < FTy.bits .f32) (u : Shape)
    (hr : S2x32x28x128.ReducesTo [1, 3] ⟨2, ![2, 28]⟩) (hu : 0 < u.numel) (j : (⟨2, ![2, 28]⟩ : Shape).Idx) (b : EReal) :
    Host.reduce FloatOps.maximumf (Host.absf (extf (F := Ideal) .f32 q hb)) (constant u .f32 0xFF800000#32) hr hu j ≤ b
      ↔ ∀ (p : Fin 32) (d : Fin 128), mag (q (ix4 (j 0) p (j 1) d)) ≤ b := by
  have hr' : S2x32x28x128.Reduces [1, 3] ⟨2, ![2, 28]⟩ := by decide
  rw [show Host.reduce FloatOps.maximumf (Host.absf (extf (F := Ideal) .f32 q hb)) (constant u .f32 0xFF800000#32) hr hu
      = multiReduction .maximumf [1, 3] ⟨2, ![2, 28]⟩ (Host.absf (extf (F := Ideal) .f32 q hb)) 0xFF800000#32 hr' (.inl rfl) rfl
    from hostReduce_maximumf_eq_multiReduction _ _ hr hu hr' (.inl rfl) rfl]
  refine (multiMax_le _ hr' _ _ _ _).trans ?_
  have e : ∀ i, Host.absf (extf (F := Ideal) .f32 q hb) i = mag (q i) := fun _ => rfl
  constructor
  · intro h p d
    rw [← e]
    refine h _ (funext fun a => Fin.ext ?_)
    match a with
    | ⟨0, _⟩ => exact Shape.Reduces.drop_apply_val_of_eq hr' _ ⟨0, by decide⟩ (0 : Fin 4)
    | ⟨1, _⟩ => exact Shape.Reduces.drop_apply_val_of_eq hr' _ ⟨1, by decide⟩ (2 : Fin 4)
  · intro h i hi
    have h0 : (i 0).val = (j 0).val := by
      rw [← Shape.Reduces.drop_apply_val_of_eq hr' i ⟨0, by decide⟩ (0 : Fin 4), hi]; rfl
    have h1 : (i 2).val = (j 1).val := by
      rw [← Shape.Reduces.drop_apply_val_of_eq hr' i ⟨1, by decide⟩ (2 : Fin 4), hi]; rfl
    have : i = ix4 (j 0) (i 1) (j 1) (i 3) := by
      funext a; apply Fin.ext
      match a with
      | ⟨0, _⟩ => exact h0
      | ⟨1, _⟩ => rfl
      | ⟨2, _⟩ => exact h1
      | ⟨3, _⟩ => rfl
    rw [e, this]; exact h _ _

end Cert.KernelIdeal.Own
-- ==== Proof.QuantI.lean ====
/- The codes and the scales the kernel stores of a query row, over the reals, are the reference's of the whole array at that
   row: the largest magnitudes agree, and the exponents by the search and by the logarithm. -/
module

public import proofs.«01_k».proof.Proof.AmaxI
public import proofs.«01_k».proof.Proof.Gen.ReferenceIdeal.Value

@[expose] public section

set_option maxRecDepth 8192

noncomputable section

namespace Cert.KernelIdeal.Own

open Cert.KernelIdeal Cert.KernelIdeal.Gen
open Idealize.ShloMosaic Idealize.ShloMosaic.TcCoe
open Idealize.ShloMosaic.ValueIdx
open Cert.Exponent

/-- The logarithm of 2. -/
abbrev lnTwo : EReal := ((Real.log 2 : ℝ) : EReal)

/-- The code of the value `v` of a head whose largest magnitude is `a`. -/
def codeVal (a v : EReal) : EReal :=
  min (Ideal.ofBits .f32 0x43E00000#32) (max (Ideal.ofBits .f32 0xC3E00000#32)
    (v * Ideal.exp2 (Ideal.ofBits .f32 0x00000000#32 - realExp lnTwo a)))

/-- The scale of a head whose largest magnitude is `a`. -/
def scaleVal (a : EReal) : EReal := Ideal.exp2 (realExp lnTwo a)

/-! ## The kernel's -/

/-- One step of the search, at every head. -/
def stepV (v : FVec Ideal S28x1x1 .f32) (s : BitVec 32) (k : IVec S28x1x1 32) : IVec S28x1x1 32 :=
  select (cmpf .oge v (bitcastToFloat .f32 (shli (addi (addi k (broadcast S28x1x1 s)) (broadcast S28x1x1 127#32))
    (broadcast S28x1x1 23#32)))) (addi k (broadcast S28x1x1 s)) k

theorem stepV_at (v : FVec Ideal S28x1x1 .f32) (s : BitVec 32) (k : IVec S28x1x1 32) (i : S28x1x1.Idx) :
    stepV v s k i = step (fun w => Ideal.cmp .oge (v i) (Ideal.ofBits .f32 w)) s (k i) := rfl

/-- The first four steps. -/
theorem pay591_eq (v : FVec Ideal S28x1x1 .f32) :
    k0_pay591 v k0_pay589 k0_pay590 127#32
      = stepV v 16#32 (stepV v 32#32 (stepV v 64#32 (stepV v 128#32 k0_pay589))) := rfl

/-- The other four, and one more. -/
theorem pay593_eq (v : FVec Ideal S28x1x1 .f32) (k : IVec S28x1x1 32) :
    k0_pay593 v k (addi k (broadcast S28x1x1 8#32)) 127#32
      = addi (stepV v 1#32 (stepV v 2#32 (stepV v 4#32 (stepV v 8#32 k)))) (broadcast S28x1x1 1#32) := rfl

/-- The search, of the block. -/
def expoOf (x : Vec Ideal S1x28x32x128 .bf16) : IVec S28x1x1 32 :=
  k0_pay593 (k0_pay588 x) (k0_pay591 (k0_pay588 x) k0_pay589 k0_pay590 127#32) (k0_pay592 (k0_pay588 x) k0_pay589 k0_pay590 127#32) 127#32

theorem expoOf_at (x : Vec Ideal S1x28x32x128 .bf16) (i : S28x1x1.Idx) :
    expoOf x i = search fun w => Ideal.cmp .oge (k0_pay586 x i * Ideal.ofBits .f32 0x3B124925#32) (Ideal.ofBits .f32 w) := by
  have h : expoOf x i = IntOp.addi _ 1#32 :=
    congrFun (pay593_eq (k0_pay588 x) (k0_pay591 (k0_pay588 x) k0_pay589 k0_pay590 127#32)) i
  rw [h, pay591_eq]
  simp only [stepV_at]
  rfl

theorem pay594_at (x : Vec Ideal S1x28x32x128 .bf16) (i : S28x1x1.Idx) :
    k0_pay594 (k0_pay587 x) (expoOf x) 0#32 i = wordExp (k0_pay586 x i) := by
  show Scalar.select (Ideal.cmp .oeq (k0_pay586 x i) (Ideal.ofBits .f32 0x00000000#32)) 0#32 (expoOf x i) = _
  rw [expoOf_at]; rfl

theorem qcodes_at (x : Vec Ideal S1x28x32x128 .bf16) (h : Fin 28) (p : Fin 32) (d : Fin 128)
    (hfit : Fit (k0_pay586 x (ix3 h (0 : Fin 1) (0 : Fin 1)))) :
    qcodesOf x (ix4 (0 : Fin 1) h p d)
      = codeVal (k0_pay586 x (ix3 h (0 : Fin 1) (0 : Fin 1))) (x (ix4 (0 : Fin 1) h p d)) := by
  have hrow : (Shape.rowMajor (⟨3, ![28, 32, 128]⟩ : Shape) (ix3 h p d)).val
      = (Shape.rowMajor (⟨4, ![1, 28, 32, 128]⟩ : Shape) (ix4 (0 : Fin 1) h p d)).val := by
    rw [Shape.rowMajor_val_three, Shape.rowMajor_val_four]
    show (h.val * 32 + p.val) * 128 + d.val = ((0 * 28 + h.val) * 32 + p.val) * 128 + d.val
    omega
  have e1 : qcodesOf x (ix4 (0 : Fin 1) h p d) = k0_pay595 (k0_pay585 x) (k0_pay587 x) (expoOf x) 0#32 (ix3 h p d) := by
    unfold qcodesOf k0_pay596
    exact shapeCast_apply _ _ (ix4 (0 : Fin 1) h p d) (ix3 h p d) hrow
  have e2 : k0_pay585 x (ix3 h p d) = x (ix4 (0 : Fin 1) h p d) := by
    show shapeCast S28x32x128 x shapeCasts_S1x28x32x128_S28x32x128 (ix3 h p d) = _
    exact shapeCast_apply _ _ (ix3 h p d) (ix4 (0 : Fin 1) h p d) hrow.symm
  have e3 : ∀ (y : FVec Ideal S28x1x1 .f32), broadcastTo S28x32x128 y broadcasts_S28x1x1_S28x32x128 (ix3 h p d)
      = y (ix3 h (0 : Fin 1) (0 : Fin 1)) := by
    intro y
    refine broadcastTo_apply y _ (ix3 h p d) (ix3 h (0 : Fin 1) (0 : Fin 1)) fun a => ?_
    match a with
    | ⟨0, _⟩ => rfl
    | ⟨1, _⟩ => rfl
    | ⟨2, _⟩ => rfl
  rw [e1]
  unfold k0_pay595 codeVal
  show min (Ideal.ofBits .f32 0x43E00000#32) (max (Ideal.ofBits .f32 0xC3E00000#32)
    (k0_pay585 x (ix3 h p d) * broadcastTo S28x32x128 _ broadcasts_S28x1x1_S28x32x128 (ix3 h p d))) = _
  rw [e2, e3, ← (exponent _ hfit).2, ← pay594_at]
  rfl

theorem qscale_at (x : Vec Ideal S1x28x32x128 .bf16) (h : Fin 28) (l : Fin 128)
    (hfit : Fit (k0_pay586 x (ix3 h (0 : Fin 1) (0 : Fin 1)))) :
    qscaleOf x (ix3 (0 : Fin 1) h l) = scaleVal (k0_pay586 x (ix3 h (0 : Fin 1) (0 : Fin 1))) := by
  unfold scaleVal
  rw [← (exponent _ hfit).1, ← pay594_at]
  unfold qscaleOf k0_pay599
  refine (shapeCast_apply _ _ (ix3 (0 : Fin 1) h l) (ix2 h l) ?_).trans ?_
  · rw [Shape.rowMajor_val_three, Shape.rowMajor_val_two]
    show h.val * 128 + l.val = (0 * 28 + h.val) * 128 + l.val
    omega
  refine (broadcastTo_apply _ _ (ix2 h l) (ix2 h (0 : Fin 1)) fun a => ?_).trans ?_
  · match a with
    | ⟨0, _⟩ => rfl
    | ⟨1, _⟩ => rfl
  refine (shapeCast_apply _ _ (ix2 h (0 : Fin 1)) (ix2 h (0 : Fin 1)) rfl).trans ?_
  refine (shapeCast_apply _ _ (ix2 h (0 : Fin 1)) (ix3 h (0 : Fin 1) (0 : Fin 1)) ?_).trans ?_
  · rw [Shape.rowMajor_val_three, Shape.rowMajor_val_two]
    show (h.val * 1 + 0) * 1 + 0 = h.val * 1 + 0
    omega
  rfl

/-! ## The reference's -/

/-- The reference's largest magnitudes. -/
def amaxOf (X : Vec Ideal S2x28x32x128 .bf16) : FVec Ideal (⟨2, ![2, 28]⟩ : Shape) .f32 :=
  multiReduction .maximumf [2, 3] ⟨2, ![2, 28]⟩ (absf (extf (F := Ideal) .f32 (shapeCast S2x28x32x128 X
    Cert.ReferenceIdeal.Facts₀.shapeCasts_S2x28x32x128_S2x28x32x128) Cert.ReferenceIdeal.Facts₀.bitsLt_bf16_f32)) 0xFF800000#32
    Cert.ReferenceIdeal.Facts₀.reduces_S2x28x32x128_S2x28 (.inl rfl) rfl

theorem named_ln2_ref : Named.named (F := Ideal) Cert.ReferenceIdeal.κ "ln2" (φ := .f32) 0x3F317218#32 = lnTwo :=
  IdealRules.named_const.ideal_named_scalar _ _ _ _ rfl

theorem codes_ref (X : Vec Ideal S2x28x32x128 .bf16) (t : Fin 2) (h : Fin 28) (p : Fin 32) (d : Fin 128) :
    Cert.ReferenceIdeal.Value.E5 X (ix4 t h p d) = codeVal (amaxOf X (ix2 t h)) (X (ix4 t h p d)) := by
  unfold Cert.ReferenceIdeal.Value.E5 codeVal
  rw [named_ln2_ref]
  have i0 : Cert.ReferenceIdeal.Value.ix5_0 (ix4 t h p d) = ix4 t h p d := by
    funext a; match a with | ⟨0, _⟩ => rfl | ⟨1, _⟩ => rfl | ⟨2, _⟩ => rfl | ⟨3, _⟩ => rfl
  have i1 : Cert.ReferenceIdeal.Value.ix5_1 (ix4 t h p d) = ix2 t h := by
    funext a; match a with | ⟨0, _⟩ => rfl | ⟨1, _⟩ => rfl
  have i2 : Cert.ReferenceIdeal.Value.ix5_2 (ix4 t h p d) = ix2 t h := by
    funext a; match a with | ⟨0, _⟩ => rfl | ⟨1, _⟩ => rfl
  rw [i0, i1, i2]
  rfl

theorem scale_ref (X : Vec Ideal S2x28x32x128 .bf16) (t : Fin 2) (h : Fin 28) (l : Fin 128) :
    Cert.ReferenceIdeal.Value.E6 X (ix3 t h l) = scaleVal (amaxOf X (ix2 t h)) := by
  unfold Cert.ReferenceIdeal.Value.E6 scaleVal
  rw [named_ln2_ref]
  have i1 : Cert.ReferenceIdeal.Value.ix6_0 (ix3 t h l) = ix2 t h := by
    funext a; match a with | ⟨0, _⟩ => rfl | ⟨1, _⟩ => rfl
  have i2 : Cert.ReferenceIdeal.Value.ix6_1 (ix3 t h l) = ix2 t h := by
    funext a; match a with | ⟨0, _⟩ => rfl | ⟨1, _⟩ => rfl
  rw [i1, i2]
  rfl

/-! ## The same -/

variable (X : Vec Ideal S2x28x32x128 .bf16) (x : Vec Ideal S1x28x32x128 .bf16) (t : Fin 2)

theorem amax_eq (hx : ∀ (h : Fin 28) (p : Fin 32) (d : Fin 128), x (ix4 (0 : Fin 1) h p d) = X (ix4 t h p d)) (h : Fin 28) :
    k0_pay586 x (ix3 h (0 : Fin 1) (0 : Fin 1)) = amaxOf X (ix2 t h) := by
  apply eq_of_forall_ge_iff
  intro b
  rw [amax_row_le]
  unfold amaxOf
  refine Iff.trans ?_ (amax_whole_le X _ _ _ _ _ _ b).symm
  simp only [hx]

theorem codes_eq (hx : ∀ (h : Fin 28) (p : Fin 32) (d : Fin 128), x (ix4 (0 : Fin 1) h p d) = X (ix4 t h p d)) (h : Fin 28)
    (p : Fin 32) (d : Fin 128) (hfit : Fit (amaxOf X (ix2 t h))) :
    qcodesOf x (ix4 (0 : Fin 1) h p d) = Cert.ReferenceIdeal.Value.E5 X (ix4 t h p d) := by
  rw [codes_ref, ← amax_eq X x t hx h, ← hx]
  exact qcodes_at x h p d (by rw [amax_eq X x t hx h]; exact hfit)

theorem scale_eq (hx : ∀ (h : Fin 28) (p : Fin 32) (d : Fin 128), x (ix4 (0 : Fin 1) h p d) = X (ix4 t h p d)) (h : Fin 28)
    (l : Fin 128) (hfit : Fit (amaxOf X (ix2 t h))) :
    qscaleOf x (ix3 (0 : Fin 1) h l) = Cert.ReferenceIdeal.Value.E6 X (ix3 t h l) := by
  rw [scale_ref, ← amax_eq X x t hx h]
  exact qscale_at x h l (by rw [amax_eq X x t hx h]; exact hfit)

end Cert.KernelIdeal.Own
-- ==== Proof.Fit.lean ====
/- What `inputs_fit` all ones says of the inputs: every length fits, and every head's largest query magnitude is zero or has
   an exponent in range. -/
module

public import proofs.«01_k».proof.Proof.QuantI
public import proofs.«01_k».proof.Proof.LaunchI
public import proofs.«01_k».proof.Proof.Gen.Pre_inputs_fit

@[expose] public section

set_option maxRecDepth 65536

noncomputable section

namespace Cert.KernelIdeal.Own

open Cert.KernelIdeal Cert.KernelIdeal.Gen
open Idealize.ShloMosaic Idealize.ShloMosaic.TcCoe
open Idealize.ShloMosaic.ValueIdx
open Cert.Exponent

theorem ofBool_and (p q : Bool) : IntOp.andi (BitVec.ofBool p) (BitVec.ofBool q) = BitVec.ofBool (p && q) := by
  cases p <;> cases q <;> decide
theorem ofBool_or (p q : Bool) : IntOp.ori (BitVec.ofBool p) (BitVec.ofBool q) = BitVec.ofBool (p || q) := by
  cases p <;> cases q <;> decide
theorem ofBool_one (p : Bool) : (BitVec.ofBool p = 1#1) ↔ p = true := by cases p <;> decide

/-- A length from 1 to 131072 by signed comparisons. -/
theorem fits_of_signed (x : BitVec 32) (h1 : 1 ≤ x.toInt) (h2 : x.toInt ≤ 131072) : Fits x := by
  have hc : 2 * x.toNat < 2 ^ 32 := by
    by_contra hcon
    have := BitVec.toInt_eq_toNat_cond x
    rw [if_neg hcon] at this
    have hlt := x.isLt
    omega
  have ht : x.toInt = x.toNat := by rw [BitVec.toInt_eq_toNat_cond, if_pos hc]
  exact ⟨by omega, by omega⟩

/-- The largest magnitude of each head's queries, of the query argument as it is laid out. -/
def inputMax (q : FVec Ideal S2x32x28x128 .bf16) : FVec Ideal ⟨2, ![2, 28]⟩ .f32 :=
  Host.reduce FloatOps.maximumf (Host.absf (extf (F := Ideal) .f32 q Cert.Pre_inputs_fit.Facts.bitsLt_bf16_f32))
    (constant Cert.Pre_inputs_fit.S_ .f32 0xFF800000#32) Cert.Pre_inputs_fit.Facts.reducesTo_S2x32x28x128_S2x28_d1_3 Cert.Pre_inputs_fit.Facts.h_S_

/-- Whether each length fits, as a bit. -/
def lenBits (l : IVec S2 32) : IVec S2 1 := fun j => IntOp.andi (IntOp.cmpi .sge (l j) 1#32) (IntOp.cmpi .sle (l j) 131072#32)

/-- The bit of a head whose largest magnitude is `a`. -/
def maxBit (a : EReal) : BitVec 1 :=
  IntOp.ori (Ideal.cmp .oeq a (Ideal.ofBits .f32 0x00000000#32))
    (IntOp.andi (Ideal.cmp .oge (a * Ideal.ofBits .f32 0x3B124925#32) (Ideal.ofBits .f32 0x00800000#32))
      (Ideal.cmp .ole a (Ideal.ofBits .f32 0x7F7F0000#32)))

theorem fn_eq (q : FVec Ideal S2x32x28x128 .bf16) (k) (s) (l : IVec S2 32) :
    Cert.Pre_inputs_fit.fn (F := Ideal) q k s l
      = fun j => IntOp.andi (broadcastInDim Cert.Pre_inputs_fit.S2x28 ![0, 1] Cert.Pre_inputs_fit.Facts.bcast_S2x1_S2x28_0_1
          (broadcastInDim Cert.Pre_inputs_fit.S2x1 ![0] Cert.Pre_inputs_fit.Facts.bcast_S2_S2x1_0 (lenBits l)) j) (maxBit (inputMax q j)) := by
  unfold Cert.Pre_inputs_fit.fn Cert.Pre_inputs_fit.fn_part1
  unfold inputMax
  dsimp only
  generalize Host.reduce FloatOps.maximumf (Host.absf (extf (F := Ideal) .f32 q Cert.Pre_inputs_fit.Facts.bitsLt_bf16_f32))
    (constant Cert.Pre_inputs_fit.S_ .f32 0xFF800000#32) Cert.Pre_inputs_fit.Facts.reducesTo_S2x32x28x128_S2x28_d1_3 Cert.Pre_inputs_fit.Facts.h_S_ = A
  funext j
  have h1 : andi (cmpi .sge l (broadcastInDim Cert.Pre_inputs_fit.S2 ![] Cert.Pre_inputs_fit.Facts.bcast_S_S2 (constantI Cert.Pre_inputs_fit.S_ 32 1#32)))
    (cmpi .sle l (broadcastInDim Cert.Pre_inputs_fit.S2 ![] Cert.Pre_inputs_fit.Facts.bcast_S_S2 (constantI Cert.Pre_inputs_fit.S_ 32 131072#32))) = lenBits l := rfl
  rw [h1]
  generalize lenBits l = B
  rfl

theorem fn_at (q : FVec Ideal S2x32x28x128 .bf16) (k) (s) (l : IVec S2 32) (t : Fin 2) (h : Fin 28)
    (e : Cert.Pre_inputs_fit.fn (F := Ideal) q k s l (ix2 t h) = 1#1) : Fits (l (ix1 t)) ∧ Fit (inputMax q (ix2 t h)) := by
  replace e := (congrFun (fn_eq q k s l) (ix2 t h)).symm.trans e
  rw [broadcastInDim_apply _ _ _ (ix2 t h) (ix2 t (0 : Fin 1)) (fun a => by match a with | ⟨0, _⟩ => rfl | ⟨1, _⟩ => rfl),
    broadcastInDim_apply _ _ _ (ix2 t (0 : Fin 1)) (ix1 t) (fun a => by match a with | ⟨0, _⟩ => rfl)] at e
  simp only [lenBits, maxBit, IntOp.cmpi, Ideal.cmp, ofBool_and, ofBool_or, ofBool_one, Bool.and_eq_true, Bool.or_eq_true, decide_eq_true_eq] at e
  obtain ⟨⟨e1, e2⟩, e3⟩ := e
  refine ⟨fits_of_signed _ ?_ ?_, ?_⟩
  · have := BitVec.sle_iff_toInt_le.mp e1; simpa using this
  · have := BitVec.sle_iff_toInt_le.mp e2; simpa using this
  · rcases e3 with e3 | e3
    · exact .inl (e3.trans Ideal.ofBits_zero_f32)
    · exact .inr e3

/-- The query argument's largest magnitudes are those of the transposed one. -/
theorem inputMax_eq (q : FVec Ideal S2x32x28x128 .bf16) (X : Vec Ideal S2x28x32x128 .bf16)
    (hX : ∀ (t : Fin 2) (h : Fin 28) (p : Fin 32) (d : Fin 128), X (ix4 t h p d) = q (ix4 t p h d)) (t : Fin 2) (h : Fin 28) :
    amaxOf X (ix2 t h) = inputMax q (ix2 t h) := by
  refine eq_of_forall_ge_iff fun b => ?_
  unfold amaxOf inputMax
  refine (amax_whole_le X _ _ _ _ _ _ b).trans (Iff.trans ?_ (amax_input_le q _ _ _ _ _ b).symm)
  show (∀ (p : Fin 32) (d : Fin 128), mag (X (ix4 t h p d)) ≤ b) ↔ ∀ (p : Fin 32) (d : Fin 128), mag (q (ix4 t p h d)) ≤ b
  simp only [hX]

variable (m : (ℓ : Loc nD τ sig) → Buf (Elt Ideal) ℓ)

/-- The transposed queries the region finds. -/
abbrev qT (c : Dev nD) : Vec Ideal S2x28x32x128 .bf16 := V m c main_v0

theorem qT_eq (c : Dev nD) :
    qT m c = transpose S2x28x32x128 [0, 2, 1, 3] (m ((c : Thread nD τ).loc main_arg0)) transposes_S2x32x28x128_S2x28x32x128_0_2_1_3 := by
  unfold qT V
  after_region_results

theorem qT_at (c : Dev nD) (t : Fin 2) (h : Fin 28) (p : Fin 32) (d : Fin 128) :
    qT m c (ix4 t h p d) = (m ((c : Thread nD τ).loc main_arg0) : FVec Ideal S2x32x28x128 .bf16) (ix4 t p h d) := by
  rw [qT_eq]
  exact transpose_apply _ _ _ _ _ (fun b => by match b with | ⟨0, _⟩ => rfl | ⟨1, _⟩ => rfl | ⟨2, _⟩ => rfl | ⟨3, _⟩ => rfl)

theorem lenOK_of_inputs (h : Cert.Pre_KernelIdeal_inputs_fit m) : LenOK m := by
  intro c j
  have e := (fn_at _ _ _ _ (j 0) (0 : Fin 28) (congrFun (h c) (ix2 (j 0) (0 : Fin 28)))).1
  rw [eq_ix1 j]
  exact e

theorem fit_of_inputs (h : Cert.Pre_KernelIdeal_inputs_fit m) (c : Dev nD) (t : Fin 2) (hd : Fin 28) :
    Fit (amaxOf (qT m c) (ix2 t hd)) := by
  rw [inputMax_eq _ (qT m c) (qT_at m c)]
  exact (fn_at _ _ _ _ t hd (congrFun (h c) (ix2 t hd))).2

end Cert.KernelIdeal.Own

end
-- ==== Proof.LseRef.lean ====
/- The reference's log-sum-exp over the reals, element by element. -/
module

public import proofs.«01_k».proof.Proof.Row
public import proofs.«01_k».proof.Proof.Gen.ReferenceIdeal.Value
public import Idealize.ShloMosaic.Lib.Pointwise.Contract

@[expose] public section

set_option maxRecDepth 8192

noncomputable section

namespace Cert.ReferenceIdeal.Own

open Cert.ReferenceIdeal Cert.ReferenceIdeal.Gen
open Idealize.ShloMosaic hiding ix1 ix2 ix3 ix4 ix5 eq_ix1 eq_ix2 eq_ix3 eq_ix4 eq_ix5
open Idealize.ShloMosaic.TcCoe
open Idealize.ShloMosaic.ValueIdx
open Cert.KernelIdeal.Own (lseOf topOf topOf_le logCount blkRow posOf multiMax_le natScore lseRow)

/-- The position each row sees up to. -/
def refPos (v50 : Vec Ideal S2 .i32) : IVec S2x1x1x32x1 32 :=
  have v51 : IVec S2x1x1x1x1 32 := shapeCast S2x1x1x1x1 v50 shapeCasts_S2_S2x1x1x1x1
  have v52 : IVec S2x1x1x1x1 32 := broadcast S2x1x1x1x1 32#32
  have v53 : IVec S2x1x1x1x1 32 := subi v51 v52
  have v54 : IVec S1x1x1x32x1 32 := iota .tc S1x1x1x32x1 32 [3] iota_S1x1x1x32x1_d3_w32
  have v55 : IVec S2x1x1x32x1 32 := broadcastTo S2x1x1x32x1 v53 broadcasts_S2x1x1x1x1_S2x1x1x32x1
  have v56 : IVec S2x1x1x32x1 32 := broadcastTo S2x1x1x32x1 v54 broadcasts_S1x1x1x32x1_S2x1x1x32x1
  have v57 : IVec S2x1x1x32x1 32 := addi v55 v56
  v57

/-- The scores before the mask. -/
def refRaw (v28 : FVec Ideal S2x28 .f32) (v34 : FVec Ideal S8x224x128 .fp8e4m3) (v35 : Vec Ideal S2x4x131072x128 .fp8e4m3) (v45 : Vec Ideal S2x4x131072 .f32) : FVec Ideal S2x4x7x32x131072 .f32 :=
  have v36 : FVec Ideal S2x4x131072x128 .fp8e4m3 := shapeCast S2x4x131072x128 v35 shapeCasts_S2x4x131072x128_S2x4x131072x128
  have v37 : FVec Ideal S8x131072x128 .fp8e4m3 := shapeCast S8x131072x128 v36 shapeCasts_S2x4x131072x128_S8x131072x128
  have cst_22 : FVec Ideal S8x224x131072 .f32 := constant S8x224x131072 .f32 0x00000000#32
  have v38 : FVec Ideal S8x224x131072 .f32 := matmul dot_S8x224x128_S8x131072x128_S8x224x131072_2_2_1_1_0_0 none v34 v37 cst_22
  have cst_23 : Ideal .f32 := Named.named κ "scale" 0x3DB504F3#32
  have v39 : FVec Ideal S2x28 .f32 := broadcast S2x28 cst_23
  have v40 : FVec Ideal S2x28 .f32 := mulf v28 v39
  have v41 : FVec Ideal S2x4x7x1x1 .f32 := shapeCast S2x4x7x1x1 v40 shapeCasts_S2x28_S2x4x7x1x1
  have v42 : FVec Ideal S2x4x7x32x131072 .f32 := shapeCast S2x4x7x32x131072 v38 shapeCasts_S8x224x131072_S2x4x7x32x131072
  have v43 : FVec Ideal S2x4x7x32x131072 .f32 := broadcastTo S2x4x7x32x131072 v41 broadcasts_S2x4x7x1x1_S2x4x7x32x131072
  have v44 : FVec Ideal S2x4x7x32x131072 .f32 := mulf v42 v43
  have v46 : FVec Ideal S2x4x131072 .f32 := shapeCast S2x4x131072 v45 shapeCasts_S2x4x131072_S2x4x131072
  have v47 : FVec Ideal S2x4x1x1x131072 .f32 := shapeCast S2x4x1x1x131072 v46 shapeCasts_S2x4x131072_S2x4x1x1x131072
  have v48 : FVec Ideal S2x4x7x32x131072 .f32 := broadcastTo S2x4x7x32x131072 v47 broadcasts_S2x4x1x1x131072_S2x4x7x32x131072
  have v49 : FVec Ideal S2x4x7x32x131072 .f32 := mulf v44 v48
  v49

/-- And under it. -/
def refMasked (v57 : IVec S2x1x1x32x1 32) (v49 : FVec Ideal S2x4x7x32x131072 .f32) : FVec Ideal S2x4x7x32x131072 .f32 :=
  have v58 : IVec S2x4x7x32x131072 32 := iota .tc S2x4x7x32x131072 32 [4] iota_S2x4x7x32x131072_d4_w32
  have v59 : IVec S2x4x7x32x131072 32 := broadcastTo S2x4x7x32x131072 v57 broadcasts_S2x1x1x32x1_S2x4x7x32x131072
  have v60 : IVec S2x4x7x32x131072 1 := cmpi .sle v58 v59
  have cst_28 : Ideal .f32 := Scalar.ofBits .f32 0xFF800000#32
  have v61 : FVec Ideal S2x4x7x32x131072 .f32 := broadcast S2x4x7x32x131072 cst_28
  have v62 : FVec Ideal S2x4x7x32x131072 .f32 := select v60 v49 v61
  v62

/-- The log-sum-exp of each row. -/
def refRows (v62 : FVec Ideal S2x4x7x32x131072 .f32) : FVec Ideal S2x4x7x32x1 .f32 :=
  have v63 : FVec Ideal S2x4x7x32 .f32 := multiReduction .maximumf [4] S2x4x7x32 v62 0xFF800000#32 reduces_S2x4x7x32x131072_S2x4x7x32 (.inl rfl) rfl
  have v64 : FVec Ideal S2x4x7x32x1 .f32 := shapeCast S2x4x7x32x1 v63 shapeCasts_S2x4x7x32_S2x4x7x32x1
  have v65 : FVec Ideal S2x4x7x32x131072 .f32 := broadcastTo S2x4x7x32x131072 v64 broadcasts_S2x4x7x32x1_S2x4x7x32x131072
  have v66 : FVec Ideal S2x4x7x32x131072 .f32 := subf v62 v65
  have v67 : FVec Ideal S2x4x7x32x131072 .f32 := exp v66
  have v68 : FVec Ideal S2x4x7x32 .f32 := multiReduction .add [4] S2x4x7x32 v67 0x00000000#32 reduces_S2x4x7x32x131072_S2x4x7x32 (.inl rfl) rfl
  have v69 : FVec Ideal S2x4x7x32x1 .f32 := shapeCast S2x4x7x32x1 v68 shapeCasts_S2x4x7x32_S2x4x7x32x1
  have v70 : FVec Ideal S2x4x7x32x1 .f32 := log v69
  have v71 : FVec Ideal S2x4x7x32x1 .f32 := addf v64 v70
  v71

/-- Less the logarithm of the row's count. -/
def refOut (v57 : IVec S2x1x1x32x1 32) (v71 : FVec Ideal S2x4x7x32x1 .f32) : FVec Ideal S2x4x224x128 .f32 :=
  have v72 : IVec S2x1x1x32x1 32 := broadcast S2x1x1x32x1 1#32
  have v73 : IVec S2x1x1x32x1 32 := addi v57 v72
  have v74 : FVec Ideal S2x1x1x32x1 .f32 := sitofp .f32 v73
  have v75 : FVec Ideal S2x1x1x32x1 .f32 := log v74
  have v76 : FVec Ideal S2x4x7x32x1 .f32 := broadcastTo S2x4x7x32x1 v75 broadcasts_S2x1x1x32x1_S2x4x7x32x1
  have v77 : FVec Ideal S2x4x7x32x1 .f32 := subf v71 v76
  have v78 : FVec Ideal S2x4x7x32x1 .f32 := shapeCast S2x4x7x32x1 v77 shapeCasts_S2x4x7x32x1_S2x4x7x32x1
  have v79 : FVec Ideal S2x4x7x32x128 .f32 := broadcastTo S2x4x7x32x128 v78 broadcasts_S2x4x7x32x1_S2x4x7x32x128
  have v80 : FVec Ideal S2x4x224x128 .f32 := shapeCast S2x4x224x128 v79 shapeCasts_S2x4x7x32x128_S2x4x224x128
  v80

theorem pay7_eq (v28 : FVec Ideal S2x28 .f32) (v34 : FVec Ideal S8x224x128 .fp8e4m3) (v35 : Vec Ideal S2x4x131072x128 .fp8e4m3) (v45 : Vec Ideal S2x4x131072 .f32) (v50 : Vec Ideal S2 .i32) :
    k0_pay7 v28 v34 v35 v45 v50 = refOut (refPos v50) (refRows (refMasked (refPos v50) (refRaw v28 v34 v35 v45))) := rfl

theorem pos_at (v50 : Vec Ideal S2 .i32) (t : Fin 2) (w : Fin 32) :
    refPos v50 (ix5 t (0 : Fin 1) (0 : Fin 1) w (0 : Fin 1)) = Scalar.addi (Scalar.subi (v50 (ix1 t)) 32#32) (BitVec.ofNat 32 w.val) := by
  unfold refPos
  refine congrArg₂ Scalar.addi ((broadcastTo_apply _ _ _ (ix5 t (0 : Fin 1) (0 : Fin 1) (0 : Fin 1) (0 : Fin 1)) fun a => ?_).trans ?_) ((broadcastTo_apply _ _ _ (ix5 (0 : Fin 1) (0 : Fin 1) (0 : Fin 1) w (0 : Fin 1)) fun a => ?_).trans ?_)
  · match a with | ⟨0, _⟩ => rfl | ⟨1, _⟩ => rfl | ⟨2, _⟩ => rfl | ⟨3, _⟩ => rfl | ⟨4, _⟩ => rfl
  · refine congrArg (fun z => Scalar.subi z 32#32) (shapeCast_apply _ _ _ (ix1 t) ?_)
    rw [Shape.rowMajor_val_one, Shape.rowMajor_val_five]
    show t.val = (((t.val * 1 + 0) * 1 + 0) * 1 + 0) * 1 + 0
    omega
  · match a with | ⟨0, _⟩ => rfl | ⟨1, _⟩ => rfl | ⟨2, _⟩ => rfl | ⟨3, _⟩ => rfl | ⟨4, _⟩ => rfl
  · rw [iota_single_apply]

theorem dot_at (A : FVec Ideal S8x224x128 .fp8e4m3) (B : FVec Ideal S8x131072x128 .fp8e4m3) (a : Fin 8) (r : Fin 224) (p : Fin 131072) :
    matmul dot_S8x224x128_S8x131072x128_S8x224x131072_2_2_1_1_0_0 none A B (constant (F := Ideal) S8x224x131072 .f32 0x00000000#32) (ix3 a r p)
      = ∑ d : Fin 128, A (ix3 a r d) * B (ix3 a p d) := by
  refine (Ideal.matmul_apply₁_of dot_S8x224x128_S8x131072x128_S8x224x131072_2_2_1_1_0_0 (a := 2) rfl (K := 128) rfl A B (constant (F := Ideal) S8x224x131072 .f32 0x00000000#32) (ix3 a r p)
    (fun d => ix3 a r d) (fun d => ix3 a p d) (fun k => funext fun x => Fin.ext ?_) (fun k => funext fun x => Fin.ext ?_)).trans ?_
  · match x with | ⟨0, _⟩ => rfl | ⟨1, _⟩ => rfl | ⟨2, _⟩ => rfl
  · match x with | ⟨0, _⟩ => rfl | ⟨1, _⟩ => rfl | ⟨2, _⟩ => rfl
  · rw [show constant (F := Ideal) S8x224x131072 .f32 0x00000000#32 (ix3 a r p) = 0 from Ideal.ofBits_zero_f32, zero_add]

theorem named_scale : Named.named (F := Ideal) κ "scale" (φ := .f32) 0x3DB504F3#32 = (((Real.sqrt 128)⁻¹ : ℝ) : EReal) :=
  IdealRules.named_const.ideal_named_scalar _ _ _ _ rfl

theorem raw_at (v28 : FVec Ideal S2x28 .f32) (v34 : FVec Ideal S8x224x128 .fp8e4m3) (v35 : Vec Ideal S2x4x131072x128 .fp8e4m3) (v45 : Vec Ideal S2x4x131072 .f32)
    (t : Fin 2) (h : Fin 4) (g : Fin 7) (w : Fin 32) (p : Fin 131072) :
    refRaw v28 v34 v35 v45 (ix5 t h g w p)
      = (∑ d : Fin 128, v34 (ix3 (⟨4 * t.val + h.val, by omega⟩ : Fin 8) (blkRow g w) d) * v35 (ix4 t h p d))
        * (v28 (ix2 t (⟨7 * h.val + g.val, by omega⟩ : Fin 28)) * (((Real.sqrt 128)⁻¹ : ℝ) : EReal)) * v45 (ix3 t h p) := by
  unfold refRaw
  refine congrArg₂ (fun a b : EReal => a * b) (congrArg₂ (fun a b : EReal => a * b) ?_ ?_) ?_
  · refine (shapeCast_apply _ _ (ix5 t h g w p) (ix3 (⟨4 * t.val + h.val, by omega⟩ : Fin 8) (blkRow g w) p) ?_).trans ((dot_at _ _ _ _ _).trans ?_)
    · rw [Shape.rowMajor_val_three, Shape.rowMajor_val_five]
      show ((4 * t.val + h.val) * 224 + (32 * g.val + w.val)) * 131072 + p.val = (((t.val * 4 + h.val) * 7 + g.val) * 32 + w.val) * 131072 + p.val
      omega
    · refine Finset.sum_congr rfl fun d _ => congrArg (fun b : EReal => _ * b) ?_
      refine (shapeCast_apply _ _ _ (ix4 t h p d) ?_).trans ?_
      · rw [Shape.rowMajor_val_three, Shape.rowMajor_val_four]
        show ((t.val * 4 + h.val) * 131072 + p.val) * 128 + d.val = ((4 * t.val + h.val) * 131072 + p.val) * 128 + d.val
        omega
      · rw [shapeCast_self]
  · refine (broadcastTo_apply _ _ _ (ix5 t h g (0 : Fin 1) (0 : Fin 1)) fun a => ?_).trans ((shapeCast_apply _ _ _ (ix2 t (⟨7 * h.val + g.val, by omega⟩ : Fin 28)) ?_).trans ?_)
    · match a with | ⟨0, _⟩ => rfl | ⟨1, _⟩ => rfl | ⟨2, _⟩ => rfl | ⟨3, _⟩ => rfl | ⟨4, _⟩ => rfl
    · rw [Shape.rowMajor_val_two, Shape.rowMajor_val_five]
      show t.val * 28 + (7 * h.val + g.val) = (((t.val * 4 + h.val) * 7 + g.val) * 1 + 0) * 1 + 0
      omega
    · exact congrArg (fun b : EReal => v28 _ * b) named_scale
  · refine (broadcastTo_apply _ _ _ (ix5 t h (0 : Fin 1) (0 : Fin 1) p) fun a => ?_).trans ((shapeCast_apply _ _ _ (ix3 t h p) ?_).trans ?_)
    · match a with | ⟨0, _⟩ => rfl | ⟨1, _⟩ => rfl | ⟨2, _⟩ => rfl | ⟨3, _⟩ => rfl | ⟨4, _⟩ => rfl
    · rw [Shape.rowMajor_val_three, Shape.rowMajor_val_five]
      show (t.val * 4 + h.val) * 131072 + p.val = (((t.val * 4 + h.val) * 1 + 0) * 1 + 0) * 131072 + p.val
      omega
    · rw [shapeCast_self]

theorem sel_at {s : Shape} (a b : IVec s 32) (S : FVec Ideal s .f32) (i : s.Idx) :
    select (cmpi .sle a b) S (broadcast s (Scalar.ofBits (F := Ideal) .f32 0xFF800000#32)) i = if (a i).sle (b i) = true then S i else ⊥ := by
  show (if (Scalar.cmpi .sle (a i) (b i)) = 1#1 then S i else Ideal.ofBits .f32 0xFF800000#32) = _
  rw [Cert.KernelIdeal.Own.ofBits_bot]
  have e : Scalar.cmpi .sle (a i) (b i) = 1#1 ↔ (a i).sle (b i) = true := by
    show BitVec.ofBool ((a i).sle (b i)) = 1#1 ↔ _
    cases (a i).sle (b i) <;> simp
  simp only [e]

theorem mask_word {v : BitVec 32} (h1 : 1 ≤ v.toNat) (h2 : v.toNat ≤ 131072) (p : Fin 131072) (w : Fin 32) :
    (BitVec.ofNat 32 p.val).sle (Scalar.addi (Scalar.subi v 32#32) (BitVec.ofNat 32 w.val)) = true ↔ p.val + 32 ≤ v.toNat + w.val := by
  have hp := p.isLt
  have hw := w.isLt
  generalize p.val = p at *
  generalize w.val = w at *
  show ((BitVec.ofNat 32 p).sle (v - 32#32 + BitVec.ofNat 32 w) = true) ↔ _
  rw [BitVec.sle_iff_toInt_le, BitVec.toInt_eq_toNat_cond, BitVec.toInt_eq_toNat_cond]
  simp only [BitVec.toNat_add, BitVec.toNat_sub, BitVec.toNat_ofNat]
  omega

theorem masked_at (v50 : Vec Ideal S2 .i32) (S : FVec Ideal S2x4x7x32x131072 .f32) (t : Fin 2) (h : Fin 4) (g : Fin 7) (w : Fin 32) (p : Fin 131072)
    (h1 : 1 ≤ (v50 (ix1 t) : BitVec 32).toNat) (h2 : (v50 (ix1 t) : BitVec 32).toNat ≤ 131072) :
    refMasked (refPos v50) S (ix5 t h g w p) = if p.val + 32 ≤ (v50 (ix1 t) : BitVec 32).toNat + w.val then S (ix5 t h g w p) else ⊥ := by
  unfold refMasked
  refine (sel_at _ _ S _).trans ?_
  rw [iota_single_apply, broadcastTo_apply _ _ (ix5 t h g w p) (ix5 t (0 : Fin 1) (0 : Fin 1) w (0 : Fin 1)) (fun a => by
    match a with | ⟨0, _⟩ => rfl | ⟨1, _⟩ => rfl | ⟨2, _⟩ => rfl | ⟨3, _⟩ => rfl | ⟨4, _⟩ => rfl), pos_at]
  have e := mask_word h1 h2 p w
  exact if_congr e rfl rfl

theorem drop_at (t : Fin 2) (h : Fin 4) (g : Fin 7) (w : Fin 32) (p : Fin 131072) : (reduces_S2x4x7x32x131072_S2x4x7x32).drop (ix5 t h g w p) = ix4 t h g w := by
  refine funext fun a => Fin.ext ?_
  match a with
  | ⟨0, _⟩ => exact Shape.Reduces.drop_apply_val_of_eq reduces_S2x4x7x32x131072_S2x4x7x32 _ ⟨0, by decide⟩ (0 : Fin 5)
  | ⟨1, _⟩ => exact Shape.Reduces.drop_apply_val_of_eq reduces_S2x4x7x32x131072_S2x4x7x32 _ ⟨1, by decide⟩ (1 : Fin 5)
  | ⟨2, _⟩ => exact Shape.Reduces.drop_apply_val_of_eq reduces_S2x4x7x32x131072_S2x4x7x32 _ ⟨2, by decide⟩ (2 : Fin 5)
  | ⟨3, _⟩ => exact Shape.Reduces.drop_apply_val_of_eq reduces_S2x4x7x32x131072_S2x4x7x32 _ ⟨3, by decide⟩ (3 : Fin 5)

theorem lift_at (t : Fin 2) (h : Fin 4) (g : Fin 7) (w : Fin 32) (p : Fin 131072) : (reduces_S2x4x7x32x131072_S2x4x7x32).lift (ix4 t h g w) p = ix5 t h g w p := by
  rw [← drop_at t h g w p]
  exact Shape.Reduces.lift_drop reduces_S2x4x7x32x131072_S2x4x7x32 (ix5 t h g w p)

theorem col_at (v : FVec Ideal S2x4x7x32 .f32) (t : Fin 2) (h : Fin 4) (g : Fin 7) (w : Fin 32) :
    shapeCast S2x4x7x32x1 v shapeCasts_S2x4x7x32_S2x4x7x32x1 (ix5 t h g w (0 : Fin 1)) = v (ix4 t h g w) :=
  shapeCast_apply _ _ _ _ (by
    rw [Shape.rowMajor_val_four, Shape.rowMajor_val_five]
    show ((t.val * 4 + h.val) * 7 + g.val) * 32 + w.val = (((t.val * 4 + h.val) * 7 + g.val) * 32 + w.val) * 1 + 0
    omega)

theorem top_at (S : FVec Ideal S2x4x7x32x131072 .f32) (t : Fin 2) (h : Fin 4) (g : Fin 7) (w : Fin 32) (s : ℕ → EReal) (hs : ∀ p : Fin 131072, S (ix5 t h g w p) = s p.val) :
    multiReduction (F := Ideal) .maximumf [4] S2x4x7x32 S 0xFF800000#32 reduces_S2x4x7x32x131072_S2x4x7x32 (.inl rfl) rfl (ix4 t h g w) = topOf s := by
  refine eq_of_forall_ge_iff fun b => ?_
  refine (multiMax_le _ reduces_S2x4x7x32x131072_S2x4x7x32 _ _ _ _).trans ?_
  rw [topOf_le]
  constructor
  · intro H p hp
    rw [← hs ⟨p, hp⟩]
    exact H _ (drop_at t h g w ⟨p, hp⟩)
  · intro H i hi
    obtain ⟨a, b', c, d, e, rfl⟩ : ∃ (a : Fin 2) (b : Fin 4) (c : Fin 7) (d : Fin 32) (e : Fin 131072), i = ix5 a b c d e := ⟨i 0, i 1, i 2, i 3, i 4, eq_ix5 i⟩
    rw [drop_at] at hi
    have h0 : a = t := congrFun hi 0
    have h1 : b' = h := congrFun hi 1
    have h2 : c = g := congrFun hi 2
    have h3 : d = w := congrFun hi 3
    subst h0 h1 h2 h3
    rw [hs e]
    exact H _ e.isLt

/-- The highest score of each row. -/
def refTop (S : FVec Ideal S2x4x7x32x131072 .f32) : FVec Ideal S2x4x7x32x1 .f32 :=
  shapeCast S2x4x7x32x1 (multiReduction (F := Ideal) .maximumf [4] S2x4x7x32 S 0xFF800000#32 reduces_S2x4x7x32x131072_S2x4x7x32 (.inl rfl) rfl) shapeCasts_S2x4x7x32_S2x4x7x32x1

/-- Each score's exponential below it. -/
def refExp (S : FVec Ideal S2x4x7x32x131072 .f32) (top : FVec Ideal S2x4x7x32x1 .f32) : FVec Ideal S2x4x7x32x131072 .f32 :=
  exp (subf S (broadcastTo S2x4x7x32x131072 top broadcasts_S2x4x7x32x1_S2x4x7x32x131072))

/-- And their sum. -/
def refDen (E : FVec Ideal S2x4x7x32x131072 .f32) : FVec Ideal S2x4x7x32x1 .f32 :=
  shapeCast S2x4x7x32x1 (multiReduction (F := Ideal) .add [4] S2x4x7x32 E 0x00000000#32 reduces_S2x4x7x32x131072_S2x4x7x32 (.inl rfl) rfl) shapeCasts_S2x4x7x32_S2x4x7x32x1

theorem rows_eq (S : FVec Ideal S2x4x7x32x131072 .f32) : refRows S = addf (refTop S) (log (refDen (refExp S (refTop S)))) := rfl

theorem exp_at (S : FVec Ideal S2x4x7x32x131072 .f32) (top : FVec Ideal S2x4x7x32x1 .f32) (t : Fin 2) (h : Fin 4) (g : Fin 7) (w : Fin 32) (p : Fin 131072) :
    refExp S top (ix5 t h g w p) = Ideal.exp (S (ix5 t h g w p) - top (ix5 t h g w (0 : Fin 1))) := by
  have e : broadcastTo S2x4x7x32x131072 top broadcasts_S2x4x7x32x1_S2x4x7x32x131072 (ix5 t h g w p) = top (ix5 t h g w (0 : Fin 1)) :=
    broadcastTo_apply _ _ _ _ fun a => by
      match a with | ⟨0, _⟩ => rfl | ⟨1, _⟩ => rfl | ⟨2, _⟩ => rfl | ⟨3, _⟩ => rfl | ⟨4, _⟩ => rfl
  exact congrArg (fun z : EReal => Ideal.exp (S (ix5 t h g w p) - z)) e

theorem den_at (E : FVec Ideal S2x4x7x32x131072 .f32) (t : Fin 2) (h : Fin 4) (g : Fin 7) (w : Fin 32) :
    refDen E (ix5 t h g w (0 : Fin 1)) = ∑ p : Fin 131072, E (ix5 t h g w p) := by
  unfold refDen
  rw [col_at]
  refine (Ideal.multiReduction_add_single _ _ reduces_S2x4x7x32x131072_S2x4x7x32 _ _ (ix4 t h g w)).trans ?_
  exact Finset.sum_congr rfl fun p _ => congrArg E (lift_at t h g w p)

theorem add_log_at {s : Shape} (A B : FVec Ideal s .f32) (i : s.Idx) : addf A (log B) i = A i + Ideal.log (B i) := rfl

theorem rows_at (S : FVec Ideal S2x4x7x32x131072 .f32) (t : Fin 2) (h : Fin 4) (g : Fin 7) (w : Fin 32) (s : ℕ → EReal) (hs : ∀ p : Fin 131072, S (ix5 t h g w p) = s p.val) :
    refRows S (ix5 t h g w (0 : Fin 1)) = lseOf s := by
  have e : refTop S (ix5 t h g w (0 : Fin 1)) = topOf s := (col_at _ t h g w).trans (top_at S t h g w s hs)
  have d : refDen (refExp S (refTop S)) (ix5 t h g w (0 : Fin 1)) = ∑ p ∈ Finset.range 131072, Ideal.exp (s p - topOf s) := by
    rw [den_at, Finset.sum_range]
    refine Finset.sum_congr rfl fun p _ => ?_
    rw [exp_at, e, hs p]
  have f : refRows S (ix5 t h g w (0 : Fin 1)) = refTop S (ix5 t h g w (0 : Fin 1)) + Ideal.log (refDen (refExp S (refTop S)) (ix5 t h g w (0 : Fin 1))) := by
    rw [rows_eq, add_log_at]
  rw [f, e, d, lseOf]

theorem out_at (v50 : Vec Ideal S2 .i32) (R : FVec Ideal S2x4x7x32x1 .f32) (t : Fin 2) (h : Fin 4) (g : Fin 7) (w : Fin 32) (l : Fin 128) :
    refOut (refPos v50) R (ix4 t h (blkRow g w) l) = R (ix5 t h g w (0 : Fin 1)) - logCount (Scalar.subi (v50 (ix1 t)) 32#32) w := by
  unfold refOut
  refine (shapeCast_apply _ _ _ (ix5 t h g w l) ?_).trans ((broadcastTo_apply _ _ _ (ix5 t h g w (0 : Fin 1)) fun a => ?_).trans ?_)
  · rw [Shape.rowMajor_val_four, Shape.rowMajor_val_five]
    show (((t.val * 4 + h.val) * 7 + g.val) * 32 + w.val) * 128 + l.val = ((t.val * 4 + h.val) * 224 + (32 * g.val + w.val)) * 128 + l.val
    omega
  · match a with | ⟨0, _⟩ => rfl | ⟨1, _⟩ => rfl | ⟨2, _⟩ => rfl | ⟨3, _⟩ => rfl | ⟨4, _⟩ => rfl
  · rw [shapeCast_self]
    refine congrArg (fun b : EReal => R (ix5 t h g w (0 : Fin 1)) - b) ((broadcastTo_apply _ _ _ (ix5 t (0 : Fin 1) (0 : Fin 1) w (0 : Fin 1)) fun a => ?_).trans ?_)
    · match a with | ⟨0, _⟩ => rfl | ⟨1, _⟩ => rfl | ⟨2, _⟩ => rfl | ⟨3, _⟩ => rfl | ⟨4, _⟩ => rfl
    · exact congrArg (fun z => Ideal.log (FloatOps.sitofp (F := Ideal) .f32 (Scalar.addi z 1#32))) (pos_at v50 t w)

/-- The reference's result at an index, from its codes and scales. -/
theorem pay7_at (C : FVec Ideal S2x28x32x128 .fp8e4m3) (v28 : FVec Ideal S2x28 .f32) (v35 : Vec Ideal S2x4x131072x128 .fp8e4m3) (v45 : Vec Ideal S2x4x131072 .f32) (v50 : Vec Ideal S2 .i32)
    (t : Fin 2) (h : Fin 4) (g : Fin 7) (w : Fin 32) (l : Fin 128)
    (h1 : 1 ≤ (v50 (ix1 t) : BitVec 32).toNat) (h2 : (v50 (ix1 t) : BitVec 32).toNat ≤ 131072) :
    k0_pay7 v28 (shapeCast S8x224x128 C shapeCasts_S2x28x32x128_S8x224x128) v35 v45 v50 (ix4 t h (blkRow g w) l)
      = lseRow (fun y => C (ix4 t (y 1) (y 2) (y 3))) (fun p h d => v35 (ix4 t h p d)) (fun y => v45 (ix3 t (y 1) (y 2))) (fun y => v28 (ix2 t (y 1))) (v50 (ix1 t)) h g w := by
  rw [pay7_eq, out_at]
  unfold lseRow
  rw [rows_at _ t h g w (natScore (fun y => C (ix4 t (y 1) (y 2) (y 3))) (fun p h d => v35 (ix4 t h p d)) (fun y => v45 (ix3 t (y 1) (y 2))) (fun y => v28 (ix2 t (y 1))) (v50 (ix1 t) : BitVec 32).toNat h g w) fun p => ?_]
  rw [masked_at v50 _ t h g w p h1 h2, raw_at]
  unfold natScore
  have ep : posOf p.val = p := Fin.ext (Nat.mod_eq_of_lt p.isLt)
  rw [ep]
  refine if_congr Iff.rfl (congrArg (fun a : EReal => a * _ * _) (Finset.sum_congr rfl fun d _ => congrArg (fun a : EReal => a * _) ?_)) rfl
  refine shapeCast_apply _ _ _ (ix4 t (⟨7 * h.val + g.val, by omega⟩ : Fin 28) w d) ?_
  rw [Shape.rowMajor_val_three, Shape.rowMajor_val_four]
  show ((t.val * 28 + (7 * h.val + g.val)) * 32 + w.val) * 128 + d.val = ((4 * t.val + h.val) * 224 + (32 * g.val + w.val)) * 128 + d.val
  omega

/-- The whole array, from its operands. -/
def lseRef (X : Vec Ideal S2x28x32x128 .bf16) (KT : Vec Ideal S2x4x131072x128 .fp8e4m3) (KS : Vec Ideal S2x4x131072 .f32) (L : Vec Ideal S2 .i32) : Vec Ideal S2x4x224x128 .f32 :=
  k0_pay7 (k0_pay4 X) (k0_pay6 X) KT KS L

theorem canon_lse (P : Vec Ideal S2x4x224x128 .f32) (y : S2x4x224x128.Idx) : View.canon [⟨r0_5, P⟩] y = P y := by
  refine View.canon_apply_of_pieces (Val := Elt Ideal) P _ ?_ y (cover0_4 _ y)
  intro pc hpc
  rcases List.mem_cons.mp hpc with rfl | hpc
  · intro x
    refine congrArg P (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
    | ⟨3, _⟩ => show (x 3).val = 0 + 1 * (x 3).val; omega
  nomatch hpc

theorem pay3_eq (X : Vec Ideal S2x28x32x128 .bf16) (y : S2x28x32x128.Idx) : k0_pay3 X y = Value.E5 X y := by
  refine Eq.trans (Eq.symm ?_) (Value.canon5_eq X y)
  refine View.canon_apply_of_pieces (Val := Elt Ideal) (k0_pay3 X) _ ?_ y (cover0_5 _ y)
  intro pc hpc
  rcases List.mem_cons.mp hpc with rfl | hpc
  · intro x
    refine congrArg (k0_pay3 X) (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
    | ⟨3, _⟩ => show (x 3).val = 0 + 1 * (x 3).val; omega
  nomatch hpc

theorem pay5_eq (X : Vec Ideal S2x28x32x128 .bf16) (y : S2x28x128.Idx) : k0_pay5 X y = Value.E6 X y := by
  refine Eq.trans (Eq.symm ?_) (Value.canon6_eq X y)
  refine View.canon_apply_of_pieces (Val := Elt Ideal) (k0_pay5 X) _ ?_ y (cover0_6 _ y)
  intro pc hpc
  rcases List.mem_cons.mp hpc with rfl | hpc
  · intro x
    refine congrArg (k0_pay5 X) (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  nomatch hpc

theorem pay4_at (X : Vec Ideal S2x28x32x128 .bf16) (t : Fin 2) (h : Fin 28) (l : Fin 128) : k0_pay4 X (ix2 t h) = Value.E6 X (ix3 t h l) := by
  rw [← pay5_eq]
  unfold k0_pay5
  refine Eq.symm ((broadcastTo_apply _ _ (ix3 t h l) (ix3 t h (0 : Fin 1)) fun a => ?_).trans ?_)
  · match a with | ⟨0, _⟩ => rfl | ⟨1, _⟩ => rfl | ⟨2, _⟩ => rfl
  · rw [shapeCast_self]
    refine shapeCast_apply _ _ _ (ix2 t h) ?_
    rw [Shape.rowMajor_val_two, Shape.rowMajor_val_three]
    show t.val * 28 + h.val = (t.val * 28 + h.val) * 1 + 0
    omega

/-- The whole array at an index. -/
theorem lseRef_at (X : Vec Ideal S2x28x32x128 .bf16) (KT : Vec Ideal S2x4x131072x128 .fp8e4m3) (KS : Vec Ideal S2x4x131072 .f32) (L : Vec Ideal S2 .i32)
    (t : Fin 2) (h : Fin 4) (g : Fin 7) (w : Fin 32) (l : Fin 128)
    (h1 : 1 ≤ (L (ix1 t) : BitVec 32).toNat) (h2 : (L (ix1 t) : BitVec 32).toNat ≤ 131072) :
    lseRef X KT KS L (ix4 t h (blkRow g w) l)
      = lseRow (fun y => Value.E5 X (ix4 t (y 1) (y 2) (y 3))) (fun p h d => KT (ix4 t h p d)) (fun y => KS (ix3 t (y 1) (y 2))) (fun y => Value.E6 X (ix3 t (y 1) (y 2))) (L (ix1 t)) h g w := by
  unfold lseRef k0_pay6
  rw [pay7_at (k0_pay3 X) (k0_pay4 X) KT KS L t h g w l h1 h2,
    show (fun y : (⟨4, ![1, 28, 32, 128]⟩ : Shape).Idx => k0_pay3 X (ix4 t (y 1) (y 2) (y 3))) = fun y => Value.E5 X (ix4 t (y 1) (y 2) (y 3)) from funext fun y => pay3_eq X _,
    show (fun y : (⟨3, ![1, 28, 128]⟩ : Shape).Idx => k0_pay4 X (ix2 t (y 1))) = fun y => Value.E6 X (ix3 t (y 1) (y 2)) from funext fun y => pay4_at X t (y 1) (y 2)]

end Cert.ReferenceIdeal.Own

end
-- ==== Proof.ValueI.lean ====
/- The result arrays of log-sum-exps, codes and scales after the kernel's run over the reals: the reference's of its
   operands, element by element. -/
module

public import proofs.«01_k».proof.Proof.QuantI
public import proofs.«01_k».proof.Proof.LseRef
public import proofs.«01_k».proof.Proof.LaunchI
public import Idealize.ShloMosaic.Lib.Pipeline.ArrRel
public import Idealize.ShloMosaic.Lib.Pipeline.ValueKit.Geometry

@[expose] public section

set_option maxRecDepth 8192

noncomputable section

namespace Cert.KernelIdeal.Own

open Cert.KernelIdeal Cert.KernelIdeal.Gen
open Idealize.ShloMosaic hiding ix1 ix2 ix3 ix4 ix5 eq_ix1 eq_ix2 eq_ix3 eq_ix4 eq_ix5
open Idealize.ShloMosaic.TcCoe
open Idealize.ShloMosaic.ValueIdx
open Idealize.ShloMosaic.Pipeline (RDat Cfg Window)
open Idealize.SL.Sem
open Cert.Exponent

variable (m : (ℓ : Loc nD τ sig) → Buf (Elt Ideal) ℓ)

/-- There is a block for each batch row. -/
theorem N_eq : (cfgM m).N = 2 := (by decide +kernel : grid0.N = 2)

/-- The batch row of a grid point. -/
abbrev row (t : Fin (cfgM m).N) : Fin 2 := t.cast (N_eq m)

/-! ## Where the blocks lie -/

theorem unit_ix4 (y : S1x28x32x128.Idx) : ∃ (h : Fin 28) (p : Fin 32) (d : Fin 128), y = ix4 (0 : Fin 1) h p d :=
  ⟨y 1, y 2, y 3, (eq_ix4 y).trans (congrArg (fun z : Fin 1 => ix4 z (y 1) (y 2) (y 3)) (Subsingleton.elim (α := Fin 1) (y 0) 0))⟩
theorem unit_ix3 (y : S1x28x128.Idx) : ∃ (h : Fin 28) (l : Fin 128), y = ix3 (0 : Fin 1) h l :=
  ⟨y 1, y 2, (eq_ix3 y).trans (congrArg (fun z : Fin 1 => ix3 z (y 1) (y 2)) (Subsingleton.elim (α := Fin 1) (y 0) 0))⟩

/-- Where the block at a point starts, axis by axis. -/
theorem off0 : ∀ t : Fin grid0.N, ∀ a : Fin 4, cc0_transform_0 (grid0.coords t) a = if a.val = 0 then t.val else 0 := by decide +kernel
theorem off5 : ∀ t : Fin grid0.N, ∀ a : Fin 4, cc0_transform_6 (grid0.coords t) a = if a.val = 0 then t.val else 0 := by decide +kernel
theorem off6 : ∀ t : Fin grid0.N, ∀ a : Fin 3, cc0_transform_7 (grid0.coords t) a = if a.val = 0 then t.val else 0 := by decide +kernel

theorem off1 : ∀ t : Fin grid0.N, ∀ a : Fin 3, cc0_transform_2 (grid0.coords t) a = if a.val = 0 then t.val else 0 := by decide +kernel
theorem off4 : ∀ t : Fin grid0.N, ∀ a : Fin 4, cc0_transform_5 (grid0.coords t) a = if a.val = 0 then t.val else 0 := by decide +kernel
theorem offLen : ∀ t : Fin grid0.N, k0_off1 (grid0.coords t) (0 : Fin 1) = t.val := by decide +kernel
theorem coordRow : ∀ t : Fin grid0.N, ((grid0.coords t) 0).val = t.val := by decide +kernel

theorem emb1 (t : Fin (cfgM m).N) (h : Fin 4) (p : Fin 131072) :
    (((cfgM m).win 1).blk t).view.emb (ix3 (0 : Fin 1) h p) = (ix3 (row m t) h p : S2x4x131072.Idx) := by
  funext a
  apply Fin.ext
  refine (Window.rect_emb_val ((cfgM m).win 1) t (ix3 (0 : Fin 1) h p) a).trans ?_
  match a with
  | ⟨0, h0⟩ => exact (congrArg (· * 1 + 0) (off1 t ⟨0, h0⟩)).trans (show t.val * 1 + 0 = t.val by omega)
  | ⟨1, h1⟩ => exact (congrArg (· * 4 + h.val) (off1 t ⟨1, h1⟩)).trans (show 0 * 4 + h.val = h.val by omega)
  | ⟨2, h2⟩ => exact (congrArg (· * 131072 + p.val) (off1 t ⟨2, h2⟩)).trans (show 0 * 131072 + p.val = p.val by omega)

theorem emb4 (t : Fin (cfgM m).N) (h : Fin 4) (r : Fin 224) (l : Fin 128) :
    (((cfgM m).win 4).blk t).view.emb (ix4 (0 : Fin 1) h r l) = (ix4 (row m t) h r l : S2x4x224x128.Idx) := by
  funext a
  apply Fin.ext
  refine (Window.rect_emb_val ((cfgM m).win 4) t (ix4 (0 : Fin 1) h r l) a).trans ?_
  match a with
  | ⟨0, h0⟩ => exact (congrArg (· * 1 + 0) (off4 t ⟨0, h0⟩)).trans (show t.val * 1 + 0 = t.val by omega)
  | ⟨1, h1⟩ => exact (congrArg (· * 4 + h.val) (off4 t ⟨1, h1⟩)).trans (show 0 * 4 + h.val = h.val by omega)
  | ⟨2, h2⟩ => exact (congrArg (· * 224 + r.val) (off4 t ⟨2, h2⟩)).trans (show 0 * 224 + r.val = r.val by omega)
  | ⟨3, h3⟩ => exact (congrArg (· * 128 + l.val) (off4 t ⟨3, h3⟩)).trans (show 0 * 128 + l.val = l.val by omega)

theorem emb0 (t : Fin (cfgM m).N) (h : Fin 28) (p : Fin 32) (d : Fin 128) :
    (((cfgM m).win 0).blk t).view.emb (ix4 (0 : Fin 1) h p d) = (ix4 (row m t) h p d : S2x28x32x128.Idx) := by
  funext a
  apply Fin.ext
  refine (Window.rect_emb_val ((cfgM m).win 0) t (ix4 (0 : Fin 1) h p d) a).trans ?_
  match a with
  | ⟨0, h0⟩ => exact (congrArg (· * 1 + 0) (off0 t ⟨0, h0⟩)).trans (show t.val * 1 + 0 = t.val by omega)
  | ⟨1, h1⟩ => exact (congrArg (· * 28 + h.val) (off0 t ⟨1, h1⟩)).trans (show 0 * 28 + h.val = h.val by omega)
  | ⟨2, h2⟩ => exact (congrArg (· * 32 + p.val) (off0 t ⟨2, h2⟩)).trans (show 0 * 32 + p.val = p.val by omega)
  | ⟨3, h3⟩ => exact (congrArg (· * 128 + d.val) (off0 t ⟨3, h3⟩)).trans (show 0 * 128 + d.val = d.val by omega)

theorem emb5 (t : Fin (cfgM m).N) (h : Fin 28) (p : Fin 32) (d : Fin 128) :
    (((cfgM m).win 5).blk t).view.emb (ix4 (0 : Fin 1) h p d) = (ix4 (row m t) h p d : S2x28x32x128.Idx) := by
  funext a
  apply Fin.ext
  refine (Window.rect_emb_val ((cfgM m).win 5) t (ix4 (0 : Fin 1) h p d) a).trans ?_
  match a with
  | ⟨0, h0⟩ => exact (congrArg (· * 1 + 0) (off5 t ⟨0, h0⟩)).trans (show t.val * 1 + 0 = t.val by omega)
  | ⟨1, h1⟩ => exact (congrArg (· * 28 + h.val) (off5 t ⟨1, h1⟩)).trans (show 0 * 28 + h.val = h.val by omega)
  | ⟨2, h2⟩ => exact (congrArg (· * 32 + p.val) (off5 t ⟨2, h2⟩)).trans (show 0 * 32 + p.val = p.val by omega)
  | ⟨3, h3⟩ => exact (congrArg (· * 128 + d.val) (off5 t ⟨3, h3⟩)).trans (show 0 * 128 + d.val = d.val by omega)

theorem emb6 (t : Fin (cfgM m).N) (h : Fin 28) (l : Fin 128) :
    (((cfgM m).win 6).blk t).view.emb (ix3 (0 : Fin 1) h l) = (ix3 (row m t) h l : S2x28x128.Idx) := by
  funext a
  apply Fin.ext
  refine (Window.rect_emb_val ((cfgM m).win 6) t (ix3 (0 : Fin 1) h l) a).trans ?_
  match a with
  | ⟨0, h0⟩ => exact (congrArg (· * 1 + 0) (off6 t ⟨0, h0⟩)).trans (show t.val * 1 + 0 = t.val by omega)
  | ⟨1, h1⟩ => exact (congrArg (· * 28 + h.val) (off6 t ⟨1, h1⟩)).trans (show 0 * 28 + h.val = h.val by omega)
  | ⟨2, h2⟩ => exact (congrArg (· * 128 + l.val) (off6 t ⟨2, h2⟩)).trans (show 0 * 128 + l.val = l.val by omega)

theorem qblk_at (c : Dev nD) (t : Fin (cfgM m).N) (h : Fin 28) (p : Fin 32) (d : Fin 128) :
    qblk m c t (ix4 (0 : Fin 1) h p d) = (V m c main_v0 : Vec Ideal S2x28x32x128 .bf16) (ix4 (row m t) h p d) := by
  show (V m c main_v0 : Vec Ideal S2x28x32x128 .bf16) ((((cfgM m).win 0).blk t).view.emb (ix4 (0 : Fin 1) h p d)) = _
  rw [emb0]

theorem ksblk_at (c : Dev nD) (t : Fin (cfgM m).N) (h : Fin 4) (p : Fin 131072) :
    ksblk m c t (ix3 (0 : Fin 1) h p) = (V m c main_v1 : Vec Ideal S2x4x131072 .f32) (ix3 (row m t) h p) := by
  show (V m c main_v1 : Vec Ideal S2x4x131072 .f32) ((((cfgM m).win 1).blk t).view.emb (ix3 (0 : Fin 1) h p)) = _
  rw [emb1]

/-- The keys the region finds, by heads. -/
abbrev kT (c : Dev nD) : Vec Ideal Cert.ReferenceIdeal.S2x4x131072x128 .fp8e4m3 :=
  transpose Cert.ReferenceIdeal.S2x4x131072x128 [0, 2, 1, 3] (m ((c : Thread nD τ).loc main_arg1) : Vec Ideal S2x131072x4x128 .fp8e4m3) Cert.ReferenceIdeal.Facts₀.transposes_S2x131072x4x128_S2x4x131072x128_0_2_1_3

theorem key_at (c : Dev nD) (t : Fin (cfgM m).N) (p : Fin 131072) (h : Fin 4) (d : Fin 128) :
    keyAt c (grid0.coords t) (XA m c) p h d = kT m c (ix4 (row m t) h p d) := by
  refine Eq.trans ?_ (Eq.symm (transpose_apply _ _ _ (ix4 (row m t) h p d) (ix4 (row m t) p h d) (fun b => by match b with | ⟨0, _⟩ => rfl | ⟨1, _⟩ => rfl | ⟨2, _⟩ => rfl | ⟨3, _⟩ => rfl)))
  have e : XA m c = m ((c : Thread nD τ).loc main_arg1) := V_unwritten m c main_arg1 (by decide) (by decide)
  show (XA m c : Vec Ideal S2x131072x4x128 .fp8e4m3) (ix4 ((grid0.coords t) 0) p h d) = _
  rw [e]
  have e0 : ((grid0.coords t) 0 : Fin 2) = row m t := Fin.ext (coordRow t)
  exact congrArg (fun z : Fin 2 => (m ((c : Thread nD τ).loc main_arg1) : Vec Ideal S2x131072x4x128 .fp8e4m3) (ix4 z p h d)) e0

theorem len_at (c : Dev nD) (t : Fin (cfgM m).N) :
    lenAt c (grid0.coords t) (Memref.whole main_arg3) (tbl m 0) = (m ((c : Thread nD τ).loc main_arg3) : Vec Ideal S2 .i32) (ix1 (row m t)) := by
  obtain rfl : c = 0 := Subsingleton.elim _ _
  have e : tbl m 0 = m (((0 : Dev nD) : Thread nD τ).loc main_arg3) := V_unwritten m 0 main_arg3 (by decide) (by decide)
  rw [e]
  refine congrArg (m (((0 : Dev nD) : Thread nD τ).loc main_arg3) : Vec Ideal S2 .i32) (funext fun a => Fin.ext ?_)
  match a with
  | ⟨0, _⟩ =>
    show k0_off1 (grid0.coords t) (0 : Fin 1) + 1 * 0 = t.val
    rw [offLen]
    omega

/-- A table of zeros: where the blocks lie does not depend on the table. -/
def adm0 : (pcfg0 (F := Ideal)).Adm := ⟨fun | ⟨0, _⟩ => fun _ => (0#32 : BitVec 32), trivial⟩

theorem covers4 : ((cfgM m).win 4).Covers := (by decide +kernel : ((cfg0 adm0).win 4).Covers)
theorem covers5 : ((cfgM m).win 5).Covers := (by decide +kernel : ((cfg0 adm0).win 5).Covers)
theorem covers6 : ((cfgM m).win 6).Covers := (by decide +kernel : ((cfg0 adm0).win 6).Covers)

/-! ## The arrays after the run -/

theorem leaves4 (c : Dev nD) (t : Fin (cfgM m).N) (X) (h : (rdat m c).Leaves 4 t X) : rowsAt m c t X := by
  obtain ⟨Y, -, hX⟩ := h
  exact hX
theorem leaves5 (c : Dev nD) (t : Fin (cfgM m).N) (X) (h : (rdat m c).Leaves 5 t X) : X = qcodesOf (qblk m c t) := by
  obtain ⟨Y, -, hX⟩ := h
  exact hX
theorem leaves6 (c : Dev nD) (t : Fin (cfgM m).N) (X) (h : (rdat m c).Leaves 6 t X) : X = qscaleOf (qblk m c t) := by
  obtain ⟨Y, -, hX⟩ := h
  exact hX

/-- Every head's largest magnitude fits. -/
def FitsAll (X : Vec Ideal S2x28x32x128 .bf16) : Prop := ∀ (t : Fin 2) (h : Fin 28), Fit (amaxOf X (ix2 t h))

theorem codes_end (c : Dev nD) (hfit : FitsAll (V m c main_v0)) (after)
    (hL : ∀ (w : Fin (cfgM m).W) (u : Fin (cfgM m).N), ((cfgM m).win w).flush u = true → (rdat m c).Leaves w u (after w u)) :
    ((rdat m c).withAfter after).arrAt 5 (cfgM m).N = Cert.ReferenceIdeal.Value.E5 (V m c main_v0) := by
  refine Pipeline.Dat.arrAt_eq_of_covers _ 5 _ (covers5 m) fun t hf y => ?_
  refine Eq.trans (b := after 5 t y) rfl ?_
  rw [leaves5 m c t _ (hL 5 t hf)]
  obtain ⟨h, p, d, rfl⟩ : ∃ (h : Fin 28) (p : Fin 32) (d : Fin 128), y = ix4 (0 : Fin 1) h p d := by
    exact unit_ix4 y
  rw [emb5]
  exact codes_eq (V m c main_v0) (qblk m c t) (row m t) (qblk_at m c t) h p d (hfit _ _)

theorem scales_end (c : Dev nD) (hfit : FitsAll (V m c main_v0)) (after)
    (hL : ∀ (w : Fin (cfgM m).W) (u : Fin (cfgM m).N), ((cfgM m).win w).flush u = true → (rdat m c).Leaves w u (after w u)) :
    ((rdat m c).withAfter after).arrAt 6 (cfgM m).N = Cert.ReferenceIdeal.Value.E6 (V m c main_v0) := by
  refine Pipeline.Dat.arrAt_eq_of_covers _ 6 _ (covers6 m) fun t hf y => ?_
  refine Eq.trans (b := after 6 t y) rfl ?_
  rw [leaves6 m c t _ (hL 6 t hf)]
  obtain ⟨h, l, rfl⟩ : ∃ (h : Fin 28) (l : Fin 128), y = ix3 (0 : Fin 1) h l := by
    exact unit_ix3 y
  rw [emb6]
  exact scale_eq (V m c main_v0) (qblk m c t) (row m t) (qblk_at m c t) h l (hfit _ _)

theorem unit_row (y : S1x4x224x128.Idx) : ∃ (h : Fin 4) (g : Fin 7) (w : Fin 32) (l : Fin 128), y = ix4 (0 : Fin 1) h (blkRow g w) l := by
  have hr : (y 2).val < 224 := (y 2).isLt
  refine ⟨y 1, ⟨(y 2).val / 32, by omega⟩, ⟨(y 2).val % 32, by omega⟩, y 3, (eq_ix4 y).trans ?_⟩
  have e0 : (y 0) = (0 : Fin 1) := Subsingleton.elim (α := Fin 1) (y 0) 0
  have e2 : (y 2 : Fin 224) = blkRow ⟨(y 2).val / 32, by omega⟩ ⟨(y 2).val % 32, by omega⟩ := Fin.ext (show (y 2).val = 32 * ((y 2).val / 32) + (y 2).val % 32 by omega)
  exact congrArg₂ (fun (a : Fin 1) (b : Fin 224) => (ix4 a (y 1) b (y 3) : S1x4x224x128.Idx)) e0 e2

/-- The reference's log-sum-exps, of the kernel's operands. -/
abbrev lseOfRun (c : Dev nD) : Vec Ideal S2x4x224x128 .f32 :=
  Cert.ReferenceIdeal.Own.lseRef (V m c main_v0) (kT m c) (V m c main_v1) (m ((c : Thread nD τ).loc main_arg3))

theorem lse_end (c : Dev nD) (hlen : LenOK m) (hfit : FitsAll (V m c main_v0)) (after)
    (hL : ∀ (w : Fin (cfgM m).W) (u : Fin (cfgM m).N), ((cfgM m).win w).flush u = true → (rdat m c).Leaves w u (after w u)) :
    ((rdat m c).withAfter after).arrAt 4 (cfgM m).N = lseOfRun m c := by
  refine Pipeline.Dat.arrAt_eq_of_covers _ 4 _ (covers4 m) fun t hf y => ?_
  refine Eq.trans (b := after 4 t y) rfl ?_
  obtain ⟨h, g, w, l, rfl⟩ : ∃ (h : Fin 4) (g : Fin 7) (w : Fin 32) (l : Fin 128), y = ix4 (0 : Fin 1) h (blkRow g w) l := by
    exact unit_row y
  rw [emb4]
  have hfits : Fits ((m ((c : Thread nD τ).loc main_arg3) : Vec Ideal S2 .i32) (ix1 (row m t))) := hlen c _
  refine (leaves4 m c t _ (hL 4 t hf) h g w l).trans (Eq.symm ?_)
  refine (Cert.ReferenceIdeal.Own.lseRef_at (V m c main_v0) (kT m c) (V m c main_v1) (m ((c : Thread nD τ).loc main_arg3)) (row m t) h g w l hfits.1 hfits.2).trans (Eq.symm ?_)
  have hQ : qcodesOf (qblk m c t) = fun y => Cert.ReferenceIdeal.Value.E5 (V m c main_v0 : Vec Ideal S2x28x32x128 .bf16) (ix4 (row m t) (y 1) (y 2) (y 3)) := by
    funext y
    obtain ⟨h, p, d, rfl⟩ := unit_ix4 y
    exact codes_eq (V m c main_v0) (qblk m c t) (row m t) (qblk_at m c t) h p d (hfit _ _)
  have hS : qscaleOf (qblk m c t) = fun y => Cert.ReferenceIdeal.Value.E6 (V m c main_v0 : Vec Ideal S2x28x32x128 .bf16) (ix3 (row m t) (y 1) (y 2)) := by
    funext y
    obtain ⟨h, l, rfl⟩ := unit_ix3 y
    exact scale_eq (V m c main_v0) (qblk m c t) (row m t) (qblk_at m c t) h l (hfit _ _)
  have hK : keyAt c (grid0.coords t) (XA m c) = fun p h d => kT m c (ix4 (row m t) h p d) :=
    funext fun p => funext fun h => funext fun d => key_at m c t p h d
  have hX : ksblk m c t = fun y => (V m c main_v1 : Vec Ideal S2x4x131072 .f32) (ix3 (row m t) (y 1) (y 2)) := by
    funext y
    obtain ⟨h, p, rfl⟩ : ∃ (h : Fin 4) (p : Fin 131072), y = ix3 (0 : Fin 1) h p :=
      ⟨y 1, y 2, (eq_ix3 y).trans (congrArg (fun z : Fin 1 => ix3 z (y 1) (y 2)) (Subsingleton.elim (α := Fin 1) (y 0) 0))⟩
    exact ksblk_at m c t h p
  rw [hQ, hS, hK, hX, len_at]

/-- From lengths and queries that fit, the run ends with the reference's log-sum-exps, codes and scales. -/
theorem run_value (ρ : Dev nD → PrngReg) (h : LenOK m) (hfit : ∀ c, FitsAll (V m c main_v0)) :
    θ_run (defs (F := Ideal)) (onTc (τ := τ) (main (F := Ideal))) ⟨m, fun _ => 0, ρ⟩ (fun r => ∀ c : Dev nD,
      r.2.mem ((c.tc : Thread nD τ).loc main_v2_2) = lseOfRun m c
      ∧ r.2.mem ((c.tc : Thread nD τ).loc main_v2_3) = Cert.ReferenceIdeal.Value.E5 (V m c main_v0)
      ∧ r.2.mem ((c.tc : Thread nD τ).loc main_v2_4) = Cert.ReferenceIdeal.Value.E6 (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_main m ρ h)
  obtain ⟨after, hL, hA⟩ := hr.1.exists_exact c
  exact ⟨(hA 4).trans (lse_end m c h (hfit c) after hL), (hA 5).trans (codes_end m c (hfit c) after hL), (hA 6).trans (scales_end m c (hfit c) after hL),
    ((hr.1 c).2 main_arg0 (show main_arg0 ∈ Pipeline.restRefs sig spec0 from by decide)).trans (V_unwritten m c main_arg0 (by decide) (by decide)),
    ((hr.1 c).2 main_arg1 (show main_arg1 ∈ Pipeline.restRefs sig spec0 from by decide)).trans (V_unwritten m c main_arg1 (by decide) (by decide)),
    ((hr.1 c).2 main_arg2 (show main_arg2 ∈ Pipeline.restRefs sig spec0 from by decide)).trans (V_unwritten m c main_arg2 (by decide) (by decide)),
    ((hr.1 c).2 main_arg3 (show main_arg3 ∈ Pipeline.restRefs sig spec0 from by decide)).trans (V_unwritten m c main_arg3 (by decide) (by decide))⟩

end Cert.KernelIdeal.Own

end
-- ==== Proof.Value.lean ====
/- The value claim: from inputs that fit, the kernel's log-sum-exps, codes and scales over the reals are the reference's. -/
module

public import proofs.«01_k».proof.Defs
public import proofs.«01_k».proof.Proof.Fit
public import proofs.«01_k».proof.Proof.ValueI

@[expose] public section

set_option maxRecDepth 8192

noncomputable section

namespace Cert.ReferenceIdeal.Own

open Cert.ReferenceIdeal Cert.ReferenceIdeal.Gen
open Idealize.ShloMosaic Idealize.ShloMosaic.TcCoe
open Idealize.SL.Sem

variable (m : (ℓ : Loc nD τ sig) → Buf (Elt Ideal) ℓ)

/-- The reference's block is its whole array. -/
theorem iblk_eq (c : Dev nD) (t : Fin cfg0.N) : iblk m c 0 t = (V m c main_v0 : Vec Ideal S2x28x32x128 .bf16) := by
  funext y
  refine congrArg (V m c main_v0 : Vec Ideal S2x28x32x128 .bf16) (funext fun a => Fin.ext ?_)
  exact Pipeline.Window.rect_emb_val_of_index_zero (cfg0.win 0) t a ((by decide +kernel : ∀ (t : Fin grid0.N) a, (cfg0.win 0).index t a = 0) t a) y

theorem ld_whole (X : Vec Ideal S2x28x32x128 .bf16) : View.ld X r0_0 = X := by
  funext x
  refine congrArg X (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega

theorem iblk1_eq (c : Dev nD) (t : Fin cfg0.N) : iblk m c 1 t = (V m c main_v1 : Vec Ideal S2x4x131072x128 .fp8e4m3) := by
  funext y
  refine congrArg (V m c main_v1 : Vec Ideal S2x4x131072x128 .fp8e4m3) (funext fun a => Fin.ext ?_)
  exact Pipeline.Window.rect_emb_val_of_index_zero (cfg0.win 1) t a ((by decide +kernel : ∀ (t : Fin grid0.N) a, (cfg0.win 1).index t a = 0) t a) y
theorem iblk2_eq (c : Dev nD) (t : Fin cfg0.N) : iblk m c 2 t = (V m c main_v2 : Vec Ideal S2x4x131072 .f32) := by
  funext y
  refine congrArg (V m c main_v2 : Vec Ideal S2x4x131072 .f32) (funext fun a => Fin.ext ?_)
  exact Pipeline.Window.rect_emb_val_of_index_zero (cfg0.win 2) t a ((by decide +kernel : ∀ (t : Fin grid0.N) a, (cfg0.win 2).index t a = 0) t a) y
theorem iblk3_eq (c : Dev nD) (t : Fin cfg0.N) : iblk m c 3 t = (V m c main_arg3 : Vec Ideal S2 .i32) := by
  funext y
  refine congrArg (V m c main_arg3 : Vec Ideal S2 .i32) (funext fun a => Fin.ext ?_)
  exact Pipeline.Window.rect_emb_val_of_index_zero (cfg0.win 3) t a ((by decide +kernel : ∀ (t : Fin grid0.N) a, (cfg0.win 3).index t a = 0) t a) y

theorem ld_keys (X : Vec Ideal S2x4x131072x128 .fp8e4m3) : View.ld X r0_2 = X := by
  funext x
  refine congrArg X (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega
theorem ld_kscales (X : Vec Ideal S2x4x131072 .f32) : View.ld X r0_3 = X := by
  funext x
  refine congrArg X (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem ld_lengths (X : Vec Ideal S2 .i32) : View.ld X r0_4 = X := by
  funext x
  refine congrArg X (funext fun a => Fin.ext ?_)
  match a with
  | ⟨0, _⟩ => show 0 + 1 * (x 0).val = (x 0).val; omega

theorem emb4 (t : Fin cfg0.N) (y : S2x4x224x128.Idx) : ((cfg0.win 4).blk t).view.emb y = y :=
  funext fun a => Fin.ext (Pipeline.Window.rect_emb_val_of_index_zero (cfg0.win 4) t a
    ((by decide +kernel : ∀ (t : Fin grid0.N) a, (cfg0.win 4).index t a = 0) t a) y)
theorem emb5 (t : Fin cfg0.N) (y : S2x28x32x128.Idx) : ((cfg0.win 5).blk t).view.emb y = y :=
  funext fun a => Fin.ext (Pipeline.Window.rect_emb_val_of_index_zero (cfg0.win 5) t a
    ((by decide +kernel : ∀ (t : Fin grid0.N) a, (cfg0.win 5).index t a = 0) t a) y)
theorem emb6 (t : Fin cfg0.N) (y : S2x28x128.Idx) : ((cfg0.win 6).blk t).view.emb y = y :=
  funext fun a => Fin.ext (Pipeline.Window.rect_emb_val_of_index_zero (cfg0.win 6) t a
    ((by decide +kernel : ∀ (t : Fin grid0.N) a, (cfg0.win 6).index t a = 0) t a) y)

theorem lse_end (c : Dev nD) :
    (dats m 0 c).arrAt 4 cfg0.N = lseRef (V m c main_v0) (V m c main_v1) (V m c main_v2) (V m c main_arg3) := by
  refine Pipeline.Dat.arrAt_eq_of_covers _ 4 _ (by decide +kernel) fun t hf y => ?_
  refine Eq.trans (b := (dats m 0 c).after 4 t y) rfl ?_
  rw [after0_4]
  unfold out0_4
  refine (canon_lse _ _).trans ?_
  rw [ld_whole, ld_keys, ld_kscales, ld_lengths, iblk_eq, iblk1_eq, iblk2_eq, iblk3_eq]
  exact congrArg (lseRef (V m c main_v0) (V m c main_v1) (V m c main_v2) (V m c main_arg3)) (emb4 t y).symm

theorem codes_end (c : Dev nD) : (dats m 0 c).arrAt 5 cfg0.N = Value.E5 (V m c main_v0) := by
  refine Pipeline.Dat.arrAt_eq_of_covers _ 5 _ (by decide +kernel) fun t hf y => ?_
  refine Eq.trans (b := (dats m 0 c).after 5 t y) rfl ?_
  rw [after0_5]
  unfold out0_5
  refine (Value.canon5_eq _ _).trans ?_
  rw [ld_whole, iblk_eq]
  exact congrArg _ (emb5 t y).symm

theorem scales_end (c : Dev nD) : (dats m 0 c).arrAt 6 cfg0.N = Value.E6 (V m c main_v0) := by
  refine Pipeline.Dat.arrAt_eq_of_covers _ 6 _ (by decide +kernel) fun t hf y => ?_
  refine Eq.trans (b := (dats m 0 c).after 6 t y) rfl ?_
  rw [after0_6]
  unfold out0_6
  refine (Value.canon6_eq _ _).trans ?_
  rw [ld_whole, iblk_eq]
  exact congrArg _ (emb6 t y).symm

/-- The transposed queries the reference's kernel finds. -/
theorem queries (c : Dev nD) :
    V m c main_v0 = transpose S2x28x32x128 [0, 2, 1, 3] (m ((c : Thread nD τ).loc main_arg0)) transposes_S2x32x28x128_S2x28x32x128_0_2_1_3 := by
  unfold V
  after_region_results

/-- The transposed keys it finds. -/
theorem keys (c : Dev nD) :
    V m c main_v1 = transpose S2x4x131072x128 [0, 2, 1, 3] (m ((c : Thread nD τ).loc main_arg1)) transposes_S2x131072x4x128_S2x4x131072x128_0_2_1_3 := by
  unfold V
  after_region_results

/-- The transposed key scales it finds. -/
theorem kscales (c : Dev nD) :
    V m c main_v2 = transpose S2x4x131072 [0, 2, 1] (m ((c : Thread nD τ).loc main_arg2)) transposes_S2x131072x4_S2x4x131072_0_2_1 := by
  unfold V
  after_region_results

end Cert.ReferenceIdeal.Own

namespace Cert.KernelIdeal.Own

open Idealize.ShloMosaic Idealize.ShloMosaic.TcCoe
open Idealize.SL.Sem

/-- The frame of the kernel from inputs that fit. -/
theorem frame_inputs : Cert.quiescent_KernelIdeal_pre_inputs_fit := fun m ρ hpre => frame_of m ρ (lenOK_of_inputs m hpre)

/-- The transposed key scales the kernel's region finds. -/
theorem kscales (m : (ℓ : Loc Cert.KernelIdeal.nD Cert.KernelIdeal.τ Cert.KernelIdeal.sig) → Buf (Elt Ideal) ℓ) (c : Dev Cert.KernelIdeal.nD) :
    V m c Cert.KernelIdeal.main_v1 = transpose Cert.KernelIdeal.S2x4x131072 [0, 2, 1] (m ((c : Thread Cert.KernelIdeal.nD Cert.KernelIdeal.τ).loc Cert.KernelIdeal.main_arg2)) Cert.KernelIdeal.Facts₀.transposes_S2x131072x4_S2x4x131072_0_2_1 := by
  unfold V
  after_region_results

/-- `Cert.algebraic_KernelIdeal_ReferenceIdeal_pre_inputs_fit` (Defs.lean). -/
theorem algebraic : Cert.algebraic_KernelIdeal_ReferenceIdeal_pre_inputs_fit := by
  intro m g m' g' hpre hag
  refine ⟨fun c => lseOfRun m c, fun c => Cert.ReferenceIdeal.Value.E5 (qT m c), fun c => Cert.ReferenceIdeal.Value.E6 (qT m c),
    run_value m g (lenOK_of_inputs m hpre) (fun c => fit_of_inputs m hpre c), ?_⟩
  have hq : ∀ c, Cert.ReferenceIdeal.Gen.V m' c Cert.ReferenceIdeal.main_v0 = qT m c := fun c =>
    ((Cert.ReferenceIdeal.Own.queries m' c).trans (by rw [(hag c).1])).trans (qT_eq m c).symm
  have hk : ∀ c, Cert.ReferenceIdeal.Gen.V m' c Cert.ReferenceIdeal.main_v1 = kT m c := fun c =>
    (Cert.ReferenceIdeal.Own.keys m' c).trans (by rw [(hag c).2.1])
  have hs : ∀ c, Cert.ReferenceIdeal.Gen.V m' c Cert.ReferenceIdeal.main_v2 = V m c Cert.KernelIdeal.main_v1 := fun c =>
    ((Cert.ReferenceIdeal.Own.kscales m' c).trans (by rw [(hag c).2.2.1])).trans (kscales m c).symm
  have hl : ∀ c : Dev Cert.KernelIdeal.nD, Cert.ReferenceIdeal.Gen.V m' c Cert.ReferenceIdeal.main_arg3 = m ((c.tc : Thread Cert.KernelIdeal.nD Cert.KernelIdeal.τ).loc Cert.KernelIdeal.main_arg3) := fun c =>
    (Cert.ReferenceIdeal.Gen.V_main_arg3 m' c).trans (hag c).2.2.2
  refine (θ_run Cert.ReferenceIdeal.defs _ _).mono (fun r hr c => ?_) (Cert.ReferenceIdeal.Value.run_blocks (F := Ideal) m' g')
  obtain ⟨h0, h1, h2, h3⟩ := hr c
  refine ⟨h0.trans ((Cert.ReferenceIdeal.Own.lse_end m' c).trans ?_),
    h1.trans ((Cert.ReferenceIdeal.Own.codes_end m' c).trans (congrArg _ (hq c))),
    h2.trans ((Cert.ReferenceIdeal.Own.scales_end m' c).trans (congrArg _ (hq c))), h3⟩
  rw [hq c, hk c, hs c, hl c]

end Cert.KernelIdeal.Own

end
-- ==== Proof.lean ====
/-
  The proof of `Cert.Claim`: both programs run to their end from every length table that fits, with the arguments
  unchanged and every semaphore at zero; so does the reference; the ideal program's named constants are the ones its
  table states; and over the reals the kernel's log-sum-exps, codes and scales are the reference's.
-/
module

public import proofs.«01_k».proof.Defs
public import proofs.«01_k».proof.Proof.LaunchI
public import proofs.«01_k».proof.Proof.Gen.ReferenceIdeal.Value
public import proofs.«01_k».proof.Proof.Gen.Pre_inputs_fit
public import proofs.«01_k».proof.Proof.LaunchK
public import proofs.«01_k».proof.Proof.Value

@[expose] public section

noncomputable section

namespace Cert.Proof

open Idealize.ShloMosaic Idealize.SL.Sem

theorem preserves : Cert.preserves_Kernel_KernelIdeal :=
  ⟨IdealRules.named_const.statement Cert.KernelIdeal.κ "scale_log2e" .f32 0x3E0293EE#32 _ rfl,
   IdealRules.named_const.statement Cert.KernelIdeal.κ "log2e" .f32 0x3FB8AA3B#32 _ rfl,
   IdealRules.named_const.statement Cert.KernelIdeal.κ "ln2" .f32 0x3F317218#32 _ rfl⟩

theorem claim : Cert.Claim :=
  ⟨Cert.Kernel.Gen.facts, Cert.KernelIdeal.Gen.facts, Cert.ReferenceIdeal.Gen.facts, Cert.Pre_lengths_fit.Gen.facts,
   Cert.Pre_inputs_fit.Gen.facts,
   Cert.Kernel.Own.frame, Cert.KernelIdeal.Own.frame, Cert.KernelIdeal.Own.frame_inputs,
   fun m g _ => Cert.ReferenceIdeal.Gen.frame m g, fun m g _ => Cert.ReferenceIdeal.Gen.frame m g,
   preserves, Cert.KernelIdeal.Own.algebraic⟩

end Cert.Proof

end
